-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpIdeal_finite_up [hPre_finite_up : Cert.Pre_finite_up.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_finite_up.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1))) = (fun _ => 1#1)

def Pre_FfnUpRefIdeal (m : (ℓ : Loc Cert.FfnUpRefIdeal.nD Cert.FfnUpRefIdeal.τ Cert.FfnUpRefIdeal.sig) → Buf (Elt Ideal) ℓ) : Prop :=
  True

def Pre_FfnUpRefIdeal_finite_up [hPre_finite_up : Cert.Pre_finite_up.Facts] (m : (ℓ : Loc Cert.FfnUpRefIdeal.nD Cert.FfnUpRefIdeal.τ Cert.FfnUpRefIdeal.sig) → Buf (Elt Ideal) ℓ) : Prop :=
  ∀ c : Dev Cert.FfnUpRefIdeal.nD,
    (Cert.Pre_finite_up.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1))) = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnDownDx (m : (ℓ : Loc Cert.FfnDownDx.nD Cert.FfnDownDx.τ Cert.FfnDownDx.sig) → Buf (Elt Bits) ℓ) : Prop :=
  True

def Pre_FfnDownDxIdeal (m : (ℓ : Loc Cert.FfnDownDxIdeal.nD Cert.FfnDownDxIdeal.τ Cert.FfnDownDxIdeal.sig) → Buf (Elt Ideal) ℓ) : Prop :=
  True

def Pre_FfnDownDxIdeal_finite_down [hPre_finite_down : Cert.Pre_finite_down.Facts] (m : (ℓ : Loc Cert.FfnDownDxIdeal.nD Cert.FfnDownDxIdeal.τ Cert.FfnDownDxIdeal.sig) → Buf (Elt Ideal) ℓ) : Prop :=
  ∀ c : Dev Cert.FfnDownDxIdeal.nD,
    (Cert.Pre_finite_down.fn (F := Ideal) (m ((c.tc : Thread Cert.FfnDownDxIdeal.nD Cert.FfnDownDxIdeal.τ).loc Cert.FfnDownDxIdeal.main_arg0)) (m ((c.tc : Thread Cert.FfnDownDxIdeal.nD Cert.FfnDownDxIdeal.τ).loc Cert.FfnDownDxIdeal.main_arg1)) (m ((c.tc : Thread Cert.FfnDownDxIdeal.nD Cert.FfnDownDxIdeal.τ).loc Cert.FfnDownDxIdeal.main_arg2)) (m ((c.tc : Thread Cert.FfnDownDxIdeal.nD Cert.FfnDownDxIdeal.τ).loc Cert.FfnDownDxIdeal.main_arg3)) (m ((c.tc : Thread Cert.FfnDownDxIdeal.nD Cert.FfnDownDxIdeal.τ).loc Cert.FfnDownDxIdeal.main_arg4))) = (fun _ => 1#1)

def Pre_FfnDownDxRefIdeal (m : (ℓ : Loc Cert.FfnDownDxRefIdeal.nD Cert.FfnDownDxRefIdeal.τ Cert.FfnDownDxRefIdeal.sig) → Buf (Elt Ideal) ℓ) : Prop :=
  True

def Pre_FfnDownDxRefIdeal_finite_down [hPre_finite_down : Cert.Pre_finite_down.Facts] (m : (ℓ : Loc Cert.FfnDownDxRefIdeal.nD Cert.FfnDownDxRefIdeal.τ Cert.FfnDownDxRefIdeal.sig) → Buf (Elt Ideal) ℓ) : Prop :=
  ∀ c : Dev Cert.FfnDownDxRefIdeal.nD,
    (Cert.Pre_finite_down.fn (F := Ideal) (m ((c.tc : Thread Cert.FfnDownDxRefIdeal.nD Cert.FfnDownDxRefIdeal.τ).loc Cert.FfnDownDxRefIdeal.main_arg0)) (m ((c.tc : Thread Cert.FfnDownDxRefIdeal.nD Cert.FfnDownDxRefIdeal.τ).loc Cert.FfnDownDxRefIdeal.main_arg1)) (m ((c.tc : Thread Cert.FfnDownDxRefIdeal.nD Cert.FfnDownDxRefIdeal.τ).loc Cert.FfnDownDxRefIdeal.main_arg2)) (m ((c.tc : Thread Cert.FfnDownDxRefIdeal.nD Cert.FfnDownDxRefIdeal.τ).loc Cert.FfnDownDxRefIdeal.main_arg3)) (m ((c.tc : Thread Cert.FfnDownDxRefIdeal.nD Cert.FfnDownDxRefIdeal.τ).loc Cert.FfnDownDxRefIdeal.main_arg4))) = (fun _ => 1#1)

def Pre_FfnGuDx (m : (ℓ : Loc Cert.FfnGuDx.nD Cert.FfnGuDx.τ Cert.FfnGuDx.sig) → Buf (Elt Bits) ℓ) : Prop :=
  True

def Pre_FfnGuDxIdeal (m : (ℓ : Loc Cert.FfnGuDxIdeal.nD Cert.FfnGuDxIdeal.τ Cert.FfnGuDxIdeal.sig) → Buf (Elt Ideal) ℓ) : Prop :=
  True

def Pre_FfnGuDxRefIdeal (m : (ℓ : Loc Cert.FfnGuDxRefIdeal.nD Cert.FfnGuDxRefIdeal.τ Cert.FfnGuDxRefIdeal.sig) → Buf (Elt Ideal) ℓ) : Prop :=
  True

def Pre_FfnGuDw (m : (ℓ : Loc Cert.FfnGuDw.nD Cert.FfnGuDw.τ Cert.FfnGuDw.sig) → Buf (Elt Bits) ℓ) : Prop :=
  True

def Pre_FfnGuDwIdeal (m : (ℓ : Loc Cert.FfnGuDwIdeal.nD Cert.FfnGuDwIdeal.τ Cert.FfnGuDwIdeal.sig) → Buf (Elt Ideal) ℓ) : Prop :=
  True

def Pre_FfnGuDwRefIdeal (m : (ℓ : Loc Cert.FfnGuDwRefIdeal.nD Cert.FfnGuDwRefIdeal.τ Cert.FfnGuDwRefIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwRefIdeal (m : (ℓ : Loc Cert.FfnDownDwRefIdeal.nD Cert.FfnDownDwRefIdeal.τ Cert.FfnDownDwRefIdeal.sig) → Buf (Elt Ideal) ℓ) : Prop :=
  True

def Pre_GmlpIn (m : (ℓ : Loc Cert.GmlpIn.nD Cert.GmlpIn.τ Cert.GmlpIn.sig) → Buf (Elt Bits) ℓ) : Prop :=
  True

def Pre_GmlpInIdeal (m : (ℓ : Loc Cert.GmlpInIdeal.nD Cert.GmlpInIdeal.τ Cert.GmlpInIdeal.sig) → Buf (Elt Ideal) ℓ) : Prop :=
  True

def Pre_GmlpInRefIdeal (m : (ℓ : Loc Cert.GmlpInRefIdeal.nD Cert.GmlpInRefIdeal.τ Cert.GmlpInRefIdeal.sig) → Buf (Elt Ideal) ℓ) : Prop :=
  True

def Pre_GmlpOut (m : (ℓ : Loc Cert.GmlpOut.nD Cert.GmlpOut.τ Cert.GmlpOut.sig) → Buf (Elt Bits) ℓ) : Prop :=
  True

def Pre_GmlpOutIdeal (m : (ℓ : Loc Cert.GmlpOutIdeal.nD Cert.GmlpOutIdeal.τ Cert.GmlpOutIdeal.sig) → Buf (Elt Ideal) ℓ) : Prop :=
  True

def Pre_GmlpOutRefIdeal (m : (ℓ : Loc Cert.GmlpOutRefIdeal.nD Cert.GmlpOutRefIdeal.τ Cert.GmlpOutRefIdeal.sig) → Buf (Elt Ideal) ℓ) : Prop :=
  True

def Pre_GmlpOutDw (m : (ℓ : Loc Cert.GmlpOutDw.nD Cert.GmlpOutDw.τ Cert.GmlpOutDw.sig) → Buf (Elt Bits) ℓ) : Prop :=
  True

def Pre_GmlpOutDwIdeal (m : (ℓ : Loc Cert.GmlpOutDwIdeal.nD Cert.GmlpOutDwIdeal.τ Cert.GmlpOutDwIdeal.sig) → Buf (Elt Ideal) ℓ) : Prop :=
  True

def Pre_GmlpOutDwRefIdeal (m : (ℓ : Loc Cert.GmlpOutDwRefIdeal.nD Cert.GmlpOutDwRefIdeal.τ Cert.GmlpOutDwRefIdeal.sig) → Buf (Elt Ideal) ℓ) : Prop :=
  True

def Pre_GmlpOutDx (m : (ℓ : Loc Cert.GmlpOutDx.nD Cert.GmlpOutDx.τ Cert.GmlpOutDx.sig) → Buf (Elt Bits) ℓ) : Prop :=
  True

def Pre_GmlpOutDxIdeal (m : (ℓ : Loc Cert.GmlpOutDxIdeal.nD Cert.GmlpOutDxIdeal.τ Cert.GmlpOutDxIdeal.sig) → Buf (Elt Ideal) ℓ) : Prop :=
  True

def Pre_GmlpOutDxRefIdeal (m : (ℓ : Loc Cert.GmlpOutDxRefIdeal.nD Cert.GmlpOutDxRefIdeal.τ Cert.GmlpOutDxRefIdeal.sig) → Buf (Elt Ideal) ℓ) : Prop :=
  True

def Pre_GmlpInDw (m : (ℓ : Loc Cert.GmlpInDw.nD Cert.GmlpInDw.τ Cert.GmlpInDw.sig) → Buf (Elt Bits) ℓ) : Prop :=
  True

def Pre_GmlpInDwIdeal (m : (ℓ : Loc Cert.GmlpInDwIdeal.nD Cert.GmlpInDwIdeal.τ Cert.GmlpInDwIdeal.sig) → Buf (Elt Ideal) ℓ) : Prop :=
  True

def Pre_GmlpInDwRefIdeal (m : (ℓ : Loc Cert.GmlpInDwRefIdeal.nD Cert.GmlpInDwRefIdeal.τ Cert.GmlpInDwRefIdeal.sig) → Buf (Elt Ideal) ℓ) : Prop :=
  True

def Pre_GmlpInDx (m : (ℓ : Loc Cert.GmlpInDx.nD Cert.GmlpInDx.τ Cert.GmlpInDx.sig) → Buf (Elt Bits) ℓ) : Prop :=
  True

def Pre_GmlpInDxIdeal (m : (ℓ : Loc Cert.GmlpInDxIdeal.nD Cert.GmlpInDxIdeal.τ Cert.GmlpInDxIdeal.sig) → Buf (Elt Ideal) ℓ) : Prop :=
  True

def Pre_GmlpInDxRefIdeal (m : (ℓ : Loc Cert.GmlpInDxRefIdeal.nD Cert.GmlpInDxRefIdeal.τ Cert.GmlpInDxRefIdeal.sig) → Buf (Elt Ideal) ℓ) : Prop :=
  True

def Pre_AttnQkv (m : (ℓ : Loc Cert.AttnQkv.nD Cert.AttnQkv.τ Cert.AttnQkv.sig) → Buf (Elt Bits) ℓ) : Prop :=
  True

def Pre_AttnQkvIdeal (m : (ℓ : Loc Cert.AttnQkvIdeal.nD Cert.AttnQkvIdeal.τ Cert.AttnQkvIdeal.sig) → Buf (Elt Ideal) ℓ) : Prop :=
  True

def Pre_AttnQkvRefIdeal (m : (ℓ : Loc Cert.AttnQkvRefIdeal.nD Cert.AttnQkvRefIdeal.τ Cert.AttnQkvRefIdeal.sig) → Buf (Elt Ideal) ℓ) : Prop :=
  True

def Pre_AttnO (m : (ℓ : Loc Cert.AttnO.nD Cert.AttnO.τ Cert.AttnO.sig) → Buf (Elt Bits) ℓ) : Prop :=
  True

def Pre_AttnOIdeal (m : (ℓ : Loc Cert.AttnOIdeal.nD Cert.AttnOIdeal.τ Cert.AttnOIdeal.sig) → Buf (Elt Ideal) ℓ) : Prop :=
  True

def Pre_AttnORefIdeal (m : (ℓ : Loc Cert.AttnORefIdeal.nD Cert.AttnORefIdeal.τ Cert.AttnORefIdeal.sig) → Buf (Elt Ideal) ℓ) : Prop :=
  True

def Pre_AttnODw (m : (ℓ : Loc Cert.AttnODw.nD Cert.AttnODw.τ Cert.AttnODw.sig) → Buf (Elt Bits) ℓ) : Prop :=
  True

def Pre_AttnODwIdeal (m : (ℓ : Loc Cert.AttnODwIdeal.nD Cert.AttnODwIdeal.τ Cert.AttnODwIdeal.sig) → Buf (Elt Ideal) ℓ) : Prop :=
  True

def Pre_AttnODwRefIdeal (m : (ℓ : Loc Cert.AttnODwRefIdeal.nD Cert.AttnODwRefIdeal.τ Cert.AttnODwRefIdeal.sig) → Buf (Elt Ideal) ℓ) : Prop :=
  True

def Pre_AttnODx (m : (ℓ : Loc Cert.AttnODx.nD Cert.AttnODx.τ Cert.AttnODx.sig) → Buf (Elt Bits) ℓ) : Prop :=
  True

def Pre_AttnODxIdeal (m : (ℓ : Loc Cert.AttnODxIdeal.nD Cert.AttnODxIdeal.τ Cert.AttnODxIdeal.sig) → Buf (Elt Ideal) ℓ) : Prop :=
  True

def Pre_AttnODxRefIdeal (m : (ℓ : Loc Cert.AttnODxRefIdeal.nD Cert.AttnODxRefIdeal.τ Cert.AttnODxRefIdeal.sig) → Buf (Elt Ideal) ℓ) : Prop :=
  True

def Pre_AttnQkvDw (m : (ℓ : Loc Cert.AttnQkvDw.nD Cert.AttnQkvDw.τ Cert.AttnQkvDw.sig) → Buf (Elt Bits) ℓ) : Prop :=
  True

def Pre_AttnQkvDwIdeal (m : (ℓ : Loc Cert.AttnQkvDwIdeal.nD Cert.AttnQkvDwIdeal.τ Cert.AttnQkvDwIdeal.sig) → Buf (Elt Ideal) ℓ) : Prop :=
  True

def Pre_AttnQkvDwRefIdeal (m : (ℓ : Loc Cert.AttnQkvDwRefIdeal.nD Cert.AttnQkvDwRefIdeal.τ Cert.AttnQkvDwRefIdeal.sig) → Buf (Elt Ideal) ℓ) : Prop :=
  True

def Pre_AttnQkvDx (m : (ℓ : Loc Cert.AttnQkvDx.nD Cert.AttnQkvDx.τ Cert.AttnQkvDx.sig) → Buf (Elt Bits) ℓ) : Prop :=
  True

def Pre_AttnQkvDxIdeal (m : (ℓ : Loc Cert.AttnQkvDxIdeal.nD Cert.AttnQkvDxIdeal.τ Cert.AttnQkvDxIdeal.sig) → Buf (Elt Ideal) ℓ) : Prop :=
  True

def Pre_AttnQkvDxRefIdeal (m : (ℓ : Loc Cert.AttnQkvDxRefIdeal.nD Cert.AttnQkvDxRefIdeal.τ Cert.AttnQkvDxRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_RmsRes (m : (ℓ : Loc Cert.RmsRes.nD Cert.RmsRes.τ Cert.RmsRes.sig) → Buf (Elt Bits) ℓ) : Prop :=
  True

def Pre_RmsResIdeal (m : (ℓ : Loc Cert.RmsResIdeal.nD Cert.RmsResIdeal.τ Cert.RmsResIdeal.sig) → Buf (Elt Ideal) ℓ) : Prop :=
  True

def Pre_RmsResRefIdeal (m : (ℓ : Loc Cert.RmsResRefIdeal.nD Cert.RmsResRefIdeal.τ Cert.RmsResRefIdeal.sig) → Buf (Elt Ideal) ℓ) : Prop :=
  True

def Pre_RmsResNorm (m : (ℓ : Loc Cert.RmsResNorm.nD Cert.RmsResNorm.τ Cert.RmsResNorm.sig) → Buf (Elt Bits) ℓ) : Prop :=
  True

def Pre_RmsResNormIdeal (m : (ℓ : Loc Cert.RmsResNormIdeal.nD Cert.RmsResNormIdeal.τ Cert.RmsResNormIdeal.sig) → Buf (Elt Ideal) ℓ) : Prop :=
  True

def Pre_RmsResNormRefIdeal (m : (ℓ : Loc Cert.RmsResNormRefIdeal.nD Cert.RmsResNormRefIdeal.τ Cert.RmsResNormRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_RmsChain (m : (ℓ : Loc Cert.RmsChain.nD Cert.RmsChain.τ Cert.RmsChain.sig) → Buf (Elt Bits) ℓ) : Prop :=
  True

def Pre_RmsChainIdeal (m : (ℓ : Loc Cert.RmsChainIdeal.nD Cert.RmsChainIdeal.τ Cert.RmsChainIdeal.sig) → Buf (Elt Ideal) ℓ) : Prop :=
  True

def Pre_RmsChainRefIdeal (m : (ℓ : Loc Cert.RmsChainRefIdeal.nD Cert.RmsChainRefIdeal.τ Cert.RmsChainRefIdeal.sig) → Buf (Elt Ideal) ℓ) : Prop :=
  True

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_LossGrad (m : (ℓ : Loc Cert.LossGrad.nD Cert.LossGrad.τ Cert.LossGrad.sig) → Buf (Elt Bits) ℓ) : Prop :=
  True

def Pre_LossGradIdeal (m : (ℓ : Loc Cert.LossGradIdeal.nD Cert.LossGradIdeal.τ Cert.LossGradIdeal.sig) → Buf (Elt Ideal) ℓ) : Prop :=
  True

def Pre_LossGradRefIdeal (m : (ℓ : Loc Cert.LossGradRefIdeal.nD Cert.LossGradRefIdeal.τ Cert.LossGradRefIdeal.sig) → Buf (Elt Ideal) ℓ) : Prop :=
  True

def Pre_AdamGain (m : (ℓ : Loc Cert.AdamGain.nD Cert.AdamGain.τ Cert.AdamGain.sig) → Buf (Elt Bits) ℓ) : Prop :=
  True

def Pre_AdamGainIdeal (m : (ℓ : Loc Cert.AdamGainIdeal.nD Cert.AdamGainIdeal.τ Cert.AdamGainIdeal.sig) → Buf (Elt Ideal) ℓ) : Prop :=
  True

def Pre_AdamGainRefIdeal (m : (ℓ : Loc Cert.AdamGainRefIdeal.nD Cert.AdamGainRefIdeal.τ Cert.AdamGainRefIdeal.sig) → Buf (Elt Ideal) ℓ) : Prop :=
  True

def Pre_AdamGmlpBias (m : (ℓ : Loc Cert.AdamGmlpBias.nD Cert.AdamGmlpBias.τ Cert.AdamGmlpBias.sig) → Buf (Elt Bits) ℓ) : Prop :=
  True

def Pre_AdamGmlpBiasIdeal (m : (ℓ : Loc Cert.AdamGmlpBiasIdeal.nD Cert.AdamGmlpBiasIdeal.τ Cert.AdamGmlpBiasIdeal.sig) → Buf (Elt Ideal) ℓ) : Prop :=
  True

def Pre_AdamGmlpBiasRefIdeal (m : (ℓ : Loc Cert.AdamGmlpBiasRefIdeal.nD Cert.AdamGmlpBiasRefIdeal.τ Cert.AdamGmlpBiasRefIdeal.sig) → Buf (Elt Ideal) ℓ) : Prop :=
  True

def Pre_AdamGmlpNorm (m : (ℓ : Loc Cert.AdamGmlpNorm.nD Cert.AdamGmlpNorm.τ Cert.AdamGmlpNorm.sig) → Buf (Elt Bits) ℓ) : Prop :=
  True

def Pre_AdamGmlpNormIdeal (m : (ℓ : Loc Cert.AdamGmlpNormIdeal.nD Cert.AdamGmlpNormIdeal.τ Cert.AdamGmlpNormIdeal.sig) → Buf (Elt Ideal) ℓ) : Prop :=
  True

def Pre_AdamGmlpNormRefIdeal (m : (ℓ : Loc Cert.AdamGmlpNormRefIdeal.nD Cert.AdamGmlpNormRefIdeal.τ Cert.AdamGmlpNormRefIdeal.sig) → Buf (Elt Ideal) ℓ) : Prop :=
  True

def Pre_AdamMix (m : (ℓ : Loc Cert.AdamMix.nD Cert.AdamMix.τ Cert.AdamMix.sig) → Buf (Elt Bits) ℓ) : Prop :=
  True

def Pre_AdamMixIdeal (m : (ℓ : Loc Cert.AdamMixIdeal.nD Cert.AdamMixIdeal.τ Cert.AdamMixIdeal.sig) → Buf (Elt Ideal) ℓ) : Prop :=
  True

def Pre_AdamMixRefIdeal (m : (ℓ : Loc Cert.AdamMixRefIdeal.nD Cert.AdamMixRefIdeal.τ Cert.AdamMixRefIdeal.sig) → Buf (Elt Ideal) ℓ) : Prop :=
  True

def Pre_AdamMixBias (m : (ℓ : Loc Cert.AdamMixBias.nD Cert.AdamMixBias.τ Cert.AdamMixBias.sig) → Buf (Elt Bits) ℓ) : Prop :=
  True

def Pre_AdamMixBiasIdeal (m : (ℓ : Loc Cert.AdamMixBiasIdeal.nD Cert.AdamMixBiasIdeal.τ Cert.AdamMixBiasIdeal.sig) → Buf (Elt Ideal) ℓ) : Prop :=
  True

def Pre_AdamMixBiasRefIdeal (m : (ℓ : Loc Cert.AdamMixBiasRefIdeal.nD Cert.AdamMixBiasRefIdeal.τ Cert.AdamMixBiasRefIdeal.sig) → Buf (Elt Ideal) ℓ) : Prop :=
  True

def Pre_AdamAttnBias (m : (ℓ : Loc Cert.AdamAttnBias.nD Cert.AdamAttnBias.τ Cert.AdamAttnBias.sig) → Buf (Elt Bits) ℓ) : Prop :=
  True

def Pre_AdamAttnBiasIdeal (m : (ℓ : Loc Cert.AdamAttnBiasIdeal.nD Cert.AdamAttnBiasIdeal.τ Cert.AdamAttnBiasIdeal.sig) → Buf (Elt Ideal) ℓ) : Prop :=
  True

def Pre_AdamAttnBiasRefIdeal (m : (ℓ : Loc Cert.AdamAttnBiasRefIdeal.nD Cert.AdamAttnBiasRefIdeal.τ Cert.AdamAttnBiasRefIdeal.sig) → Buf (Elt Ideal) ℓ) : Prop :=
  True

def Pre_AdamSinks (m : (ℓ : Loc Cert.AdamSinks.nD Cert.AdamSinks.τ Cert.AdamSinks.sig) → Buf (Elt Bits) ℓ) : Prop :=
  True

def Pre_AdamSinksIdeal (m : (ℓ : Loc Cert.AdamSinksIdeal.nD Cert.AdamSinksIdeal.τ Cert.AdamSinksIdeal.sig) → Buf (Elt Ideal) ℓ) : Prop :=
  True

def Pre_AdamSinksRefIdeal (m : (ℓ : Loc Cert.AdamSinksRefIdeal.nD Cert.AdamSinksRefIdeal.τ Cert.AdamSinksRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpIdeal_pre_finite_up [hFfnUpIdeal : Cert.FfnUpIdeal.Facts] [hPre_finite_up : Cert.Pre_finite_up.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_finite_up m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnUpRefIdeal_pre_finite_up [hFfnUpRefIdeal : Cert.FfnUpRefIdeal.Facts] [hPre_finite_up : Cert.Pre_finite_up.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal_finite_up m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_FfnDownDx [hFfnDownDx : Cert.FfnDownDx.Facts] : Prop :=
  ∀ (m : (ℓ : Loc Cert.FfnDownDx.nD Cert.FfnDownDx.τ Cert.FfnDownDx.sig) → Buf (Elt Bits) ℓ) (g : Dev Cert.FfnDownDx.nD → PrngReg), Pre_FfnDownDx m →
    θ_run (Cert.FfnDownDx.defs (F := Bits)) (onTc (τ := Cert.FfnDownDx.τ) (Cert.FfnDownDx.main (F := Bits))) ⟨m, fun _ => 0, g⟩ (fun r => (∀ c : Dev Cert.FfnDownDx.nD,
      r.2.mem ((c.tc : Thread Cert.FfnDownDx.nD Cert.FfnDownDx.τ).loc Cert.FfnDownDx.main_arg0) = m ((c.tc : Thread Cert.FfnDownDx.nD Cert.FfnDownDx.τ).loc Cert.FfnDownDx.main_arg0)
      ∧ r.2.mem ((c.tc : Thread Cert.FfnDownDx.nD Cert.FfnDownDx.τ).loc Cert.FfnDownDx.main_arg1) = m ((c.tc : Thread Cert.FfnDownDx.nD Cert.FfnDownDx.τ).loc Cert.FfnDownDx.main_arg1)
      ∧ r.2.mem ((c.tc : Thread Cert.FfnDownDx.nD Cert.FfnDownDx.τ).loc Cert.FfnDownDx.main_arg2) = m ((c.tc : Thread Cert.FfnDownDx.nD Cert.FfnDownDx.τ).loc Cert.FfnDownDx.main_arg2)
      ∧ r.2.mem ((c.tc : Thread Cert.FfnDownDx.nD Cert.FfnDownDx.τ).loc Cert.FfnDownDx.main_arg3) = m ((c.tc : Thread Cert.FfnDownDx.nD Cert.FfnDownDx.τ).loc Cert.FfnDownDx.main_arg3)
      ∧ r.2.mem ((c.tc : Thread Cert.FfnDownDx.nD Cert.FfnDownDx.τ).loc Cert.FfnDownDx.main_arg4) = m ((c.tc : Thread Cert.FfnDownDx.nD Cert.FfnDownDx.τ).loc Cert.FfnDownDx.main_arg4))
      ∧ r.2.sem = fun _ => 0)

def quiescent_FfnDownDxIdeal [hFfnDownDxIdeal : Cert.FfnDownDxIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1)
      ∧ r.2.mem ((c.tc : Thread Cert.FfnDownDxIdeal.nD Cert.FfnDownDxIdeal.τ).loc Cert.FfnDownDxIdeal.main_arg2) = m ((c.tc : Thread Cert.FfnDownDxIdeal.nD Cert.FfnDownDxIdeal.τ).loc Cert.FfnDownDxIdeal.main_arg2)
      ∧ r.2.mem ((c.tc : Thread Cert.FfnDownDxIdeal.nD Cert.FfnDownDxIdeal.τ).loc Cert.FfnDownDxIdeal.main_arg3) = m ((c.tc : Thread Cert.FfnDownDxIdeal.nD Cert.FfnDownDxIdeal.τ).loc Cert.FfnDownDxIdeal.main_arg3)
      ∧ r.2.mem ((c.tc : Thread Cert.FfnDownDxIdeal.nD Cert.FfnDownDxIdeal.τ).loc Cert.FfnDownDxIdeal.main_arg4) = m ((c.tc : Thread Cert.FfnDownDxIdeal.nD Cert.FfnDownDxIdeal.τ).loc Cert.FfnDownDxIdeal.main_arg4))
      ∧ r.2.sem = fun _ => 0)

def quiescent_FfnDownDxIdeal_pre_finite_down [hFfnDownDxIdeal : Cert.FfnDownDxIdeal.Facts] [hPre_finite_down : Cert.Pre_finite_down.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal_finite_down m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1)
      ∧ r.2.mem ((c.tc : Thread Cert.FfnDownDxIdeal.nD Cert.FfnDownDxIdeal.τ).loc Cert.FfnDownDxIdeal.main_arg2) = m ((c.tc : Thread Cert.FfnDownDxIdeal.nD Cert.FfnDownDxIdeal.τ).loc Cert.FfnDownDxIdeal.main_arg2)
      ∧ r.2.mem ((c.tc : Thread Cert.FfnDownDxIdeal.nD Cert.FfnDownDxIdeal.τ).loc Cert.FfnDownDxIdeal.main_arg3) = m ((c.tc : Thread Cert.FfnDownDxIdeal.nD Cert.FfnDownDxIdeal.τ).loc Cert.FfnDownDxIdeal.main_arg3)
      ∧ r.2.mem ((c.tc : Thread Cert.FfnDownDxIdeal.nD Cert.FfnDownDxIdeal.τ).loc Cert.FfnDownDxIdeal.main_arg4) = m ((c.tc : Thread Cert.FfnDownDxIdeal.nD Cert.FfnDownDxIdeal.τ).loc Cert.FfnDownDxIdeal.main_arg4))
      ∧ r.2.sem = fun _ => 0)

def quiescent_FfnDownDxRefIdeal [hFfnDownDxRefIdeal : Cert.FfnDownDxRefIdeal.Facts] : Prop :=
  ∀ (m : (ℓ : Loc Cert.FfnDownDxRefIdeal.nD Cert.FfnDownDxRefIdeal.τ Cert.FfnDownDxRefIdeal.sig) → Buf (Elt Ideal) ℓ) (g : Dev Cert.FfnDownDxRefIdeal.nD → PrngReg), Pre_FfnDownDxRefIdeal m →
    θ_run (Cert.FfnDownDxRefIdeal.defs (F := Ideal)) (onTc (τ := Cert.FfnDownDxRefIdeal.τ) (Cert.FfnDownDxRefIdeal.main (F := Ideal))) ⟨m, fun _ => 0, g⟩ (fun r => (∀ c : Dev Cert.FfnDownDxRefIdeal.nD,
      r.2.mem ((c.tc : Thread Cert.FfnDownDxRefIdeal.nD Cert.FfnDownDxRefIdeal.τ).loc Cert.FfnDownDxRefIdeal.main_arg0) = m ((c.tc : Thread Cert.FfnDownDxRefIdeal.nD Cert.FfnDownDxRefIdeal.τ).loc Cert.FfnDownDxRefIdeal.main_arg0)
      ∧ r.2.mem ((c.tc : Thread Cert.FfnDownDxRefIdeal.nD Cert.FfnDownDxRefIdeal.τ).loc Cert.FfnDownDxRefIdeal.main_arg1) = m ((c.tc : Thread Cert.FfnDownDxRefIdeal.nD Cert.FfnDownDxRefIdeal.τ).loc Cert.FfnDownDxRefIdeal.main_arg1)
      ∧ r.2.mem ((c.tc : Thread Cert.FfnDownDxRefIdeal.nD Cert.FfnDownDxRefIdeal.τ).loc Cert.FfnDownDxRefIdeal.main_arg2) = m ((c.tc : Thread Cert.FfnDownDxRefIdeal.nD Cert.FfnDownDxRefIdeal.τ).loc Cert.FfnDownDxRefIdeal.main_arg2)
      ∧ r.2.mem ((c.tc : Thread Cert.FfnDownDxRefIdeal.nD Cert.FfnDownDxRefIdeal.τ).loc Cert.FfnDownDxRefIdeal.main_arg3) = m ((c.tc : Thread Cert.FfnDownDxRefIdeal.nD Cert.FfnDownDxRefIdeal.τ).loc Cert.FfnDownDxRefIdeal.main_arg3)
      ∧ r.2.mem ((c.tc : Thread Cert.FfnDownDxRefIdeal.nD Cert.FfnDownDxRefIdeal.τ).loc Cert.FfnDownDxRefIdeal.main_arg4) = m ((c.tc : Thread Cert.FfnDownDxRefIdeal.nD Cert.FfnDownDxRefIdeal.τ).loc Cert.FfnDownDxRefIdeal.main_arg4))
      ∧ r.2.sem = fun _ => 0)

def quiescent_FfnDownDxRefIdeal_pre_finite_down [hFfnDownDxRefIdeal : Cert.FfnDownDxRefIdeal.Facts] [hPre_finite_down : Cert.Pre_finite_down.Facts] : Prop :=
  ∀ (m : (ℓ : Loc Cert.FfnDownDxRefIdeal.nD Cert.FfnDownDxRefIdeal.τ Cert.FfnDownDxRefIdeal.sig) → Buf (Elt Ideal) ℓ) (g : Dev Cert.FfnDownDxRefIdeal.nD → PrngReg), Pre_FfnDownDxRefIdeal_finite_down m →
    θ_run (Cert.FfnDownDxRefIdeal.defs (F := Ideal)) (onTc (τ := Cert.FfnDownDxRefIdeal.τ) (Cert.FfnDownDxRefIdeal.main (F := Ideal))) ⟨m, fun _ => 0, g⟩ (fun r => (∀ c : Dev Cert.FfnDownDxRefIdeal.nD,
      r.2.mem ((c.tc : Thread Cert.FfnDownDxRefIdeal.nD Cert.FfnDownDxRefIdeal.τ).loc Cert.FfnDownDxRefIdeal.main_arg0) = m ((c.tc : Thread Cert.FfnDownDxRefIdeal.nD Cert.FfnDownDxRefIdeal.τ).loc Cert.FfnDownDxRefIdeal.main_arg0)
      ∧ r.2.mem ((c.tc : Thread Cert.FfnDownDxRefIdeal.nD Cert.FfnDownDxRefIdeal.τ).loc Cert.FfnDownDxRefIdeal.main_arg1) = m ((c.tc : Thread Cert.FfnDownDxRefIdeal.nD Cert.FfnDownDxRefIdeal.τ).loc Cert.FfnDownDxRefIdeal.main_arg1)
      ∧ r.2.mem ((c.tc : Thread Cert.FfnDownDxRefIdeal.nD Cert.FfnDownDxRefIdeal.τ).loc Cert.FfnDownDxRefIdeal.main_arg2) = m ((c.tc : Thread Cert.FfnDownDxRefIdeal.nD Cert.FfnDownDxRefIdeal.τ).loc Cert.FfnDownDxRefIdeal.main_arg2)
      ∧ r.2.mem ((c.tc : Thread Cert.FfnDownDxRefIdeal.nD Cert.FfnDownDxRefIdeal.τ).loc Cert.FfnDownDxRefIdeal.main_arg3) = m ((c.tc : Thread Cert.FfnDownDxRefIdeal.nD Cert.FfnDownDxRefIdeal.τ).loc Cert.FfnDownDxRefIdeal.main_arg3)
      ∧ r.2.mem ((c.tc : Thread Cert.FfnDownDxRefIdeal.nD Cert.FfnDownDxRefIdeal.τ).loc Cert.FfnDownDxRefIdeal.main_arg4) = m ((c.tc : Thread Cert.FfnDownDxRefIdeal.nD Cert.FfnDownDxRefIdeal.τ).loc Cert.FfnDownDxRefIdeal.main_arg4))
      ∧ r.2.sem = fun _ => 0)

def quiescent_FfnGuDx [hFfnGuDx : Cert.FfnGuDx.Facts] : Prop :=
  ∀ (m : (ℓ : Loc Cert.FfnGuDx.nD Cert.FfnGuDx.τ Cert.FfnGuDx.sig) → Buf (Elt Bits) ℓ) (g : Dev Cert.FfnGuDx.nD → PrngReg), Pre_FfnGuDx m →
    θ_run (Cert.FfnGuDx.defs (F := Bits)) (onTc (τ := Cert.FfnGuDx.τ) (Cert.FfnGuDx.main (F := Bits))) ⟨m, fun _ => 0, g⟩ (fun r => (∀ c : Dev Cert.FfnGuDx.nD,
      r.2.mem ((c.tc : Thread Cert.FfnGuDx.nD Cert.FfnGuDx.τ).loc Cert.FfnGuDx.main_arg0) = m ((c.tc : Thread Cert.FfnGuDx.nD Cert.FfnGuDx.τ).loc Cert.FfnGuDx.main_arg0)
      ∧ r.2.mem ((c.tc : Thread Cert.FfnGuDx.nD Cert.FfnGuDx.τ).loc Cert.FfnGuDx.main_arg1) = m ((c.tc : Thread Cert.FfnGuDx.nD Cert.FfnGuDx.τ).loc Cert.FfnGuDx.main_arg1)
      ∧ r.2.mem ((c.tc : Thread Cert.FfnGuDx.nD Cert.FfnGuDx.τ).loc Cert.FfnGuDx.main_arg2) = m ((c.tc : Thread Cert.FfnGuDx.nD Cert.FfnGuDx.τ).loc Cert.FfnGuDx.main_arg2))
      ∧ r.2.sem = fun _ => 0)

def quiescent_FfnGuDxIdeal [hFfnGuDxIdeal : Cert.FfnGuDxIdeal.Facts] : Prop :=
  ∀ (m : (ℓ : Loc Cert.FfnGuDxIdeal.nD Cert.FfnGuDxIdeal.τ Cert.FfnGuDxIdeal.sig) → Buf (Elt Ideal) ℓ) (g : Dev Cert.FfnGuDxIdeal.nD → PrngReg), Pre_FfnGuDxIdeal m →
    θ_run (Cert.FfnGuDxIdeal.defs (F := Ideal)) (onTc (τ := Cert.FfnGuDxIdeal.τ) (Cert.FfnGuDxIdeal.main (F := Ideal))) ⟨m, fun _ => 0, g⟩ (fun r => (∀ c : Dev Cert.FfnGuDxIdeal.nD,
      r.2.mem ((c.tc : Thread Cert.FfnGuDxIdeal.nD Cert.FfnGuDxIdeal.τ).loc Cert.FfnGuDxIdeal.main_arg0) = m ((c.tc : Thread Cert.FfnGuDxIdeal.nD Cert.FfnGuDxIdeal.τ).loc Cert.FfnGuDxIdeal.main_arg0)
      ∧ r.2.mem ((c.tc : Thread Cert.FfnGuDxIdeal.nD Cert.FfnGuDxIdeal.τ).loc Cert.FfnGuDxIdeal.main_arg1) = m ((c.tc : Thread Cert.FfnGuDxIdeal.nD Cert.FfnGuDxIdeal.τ).loc Cert.FfnGuDxIdeal.main_arg1)
      ∧ r.2.mem ((c.tc : Thread Cert.FfnGuDxIdeal.nD Cert.FfnGuDxIdeal.τ).loc Cert.FfnGuDxIdeal.main_arg2) = m ((c.tc : Thread Cert.FfnGuDxIdeal.nD Cert.FfnGuDxIdeal.τ).loc Cert.FfnGuDxIdeal.main_arg2))
      ∧ r.2.sem = fun _ => 0)

def quiescent_FfnGuDxRefIdeal [hFfnGuDxRefIdeal : Cert.FfnGuDxRefIdeal.Facts] : Prop :=
  ∀ (m : (ℓ : Loc Cert.FfnGuDxRefIdeal.nD Cert.FfnGuDxRefIdeal.τ Cert.FfnGuDxRefIdeal.sig) → Buf (Elt Ideal) ℓ) (g : Dev Cert.FfnGuDxRefIdeal.nD → PrngReg), Pre_FfnGuDxRefIdeal m →
    θ_run (Cert.FfnGuDxRefIdeal.defs (F := Ideal)) (onTc (τ := Cert.FfnGuDxRefIdeal.τ) (Cert.FfnGuDxRefIdeal.main (F := Ideal))) ⟨m, fun _ => 0, g⟩ (fun r => (∀ c : Dev Cert.FfnGuDxRefIdeal.nD,
      r.2.mem ((c.tc : Thread Cert.FfnGuDxRefIdeal.nD Cert.FfnGuDxRefIdeal.τ).loc Cert.FfnGuDxRefIdeal.main_arg0) = m ((c.tc : Thread Cert.FfnGuDxRefIdeal.nD Cert.FfnGuDxRefIdeal.τ).loc Cert.FfnGuDxRefIdeal.main_arg0)
      ∧ r.2.mem ((c.tc : Thread Cert.FfnGuDxRefIdeal.nD Cert.FfnGuDxRefIdeal.τ).loc Cert.FfnGuDxRefIdeal.main_arg1) = m ((c.tc : Thread Cert.FfnGuDxRefIdeal.nD Cert.FfnGuDxRefIdeal.τ).loc Cert.FfnGuDxRefIdeal.main_arg1)
      ∧ r.2.mem ((c.tc : Thread Cert.FfnGuDxRefIdeal.nD Cert.FfnGuDxRefIdeal.τ).loc Cert.FfnGuDxRefIdeal.main_arg2) = m ((c.tc : Thread Cert.FfnGuDxRefIdeal.nD Cert.FfnGuDxRefIdeal.τ).loc Cert.FfnGuDxRefIdeal.main_arg2))
      ∧ r.2.sem = fun _ => 0)

def quiescent_FfnGuDw [hFfnGuDw : Cert.FfnGuDw.Facts] : Prop :=
  ∀ (m : (ℓ : Loc Cert.FfnGuDw.nD Cert.FfnGuDw.τ Cert.FfnGuDw.sig) → Buf (Elt Bits) ℓ) (g : Dev Cert.FfnGuDw.nD → PrngReg), Pre_FfnGuDw m →
    θ_run (Cert.FfnGuDw.defs (F := Bits)) (onTc (τ := Cert.FfnGuDw.τ) (Cert.FfnGuDw.main (F := Bits))) ⟨m, fun _ => 0, g⟩ (fun r => (∀ c : Dev Cert.FfnGuDw.nD,
      r.2.mem ((c.tc : Thread Cert.FfnGuDw.nD Cert.FfnGuDw.τ).loc Cert.FfnGuDw.main_arg0) = m ((c.tc : Thread Cert.FfnGuDw.nD Cert.FfnGuDw.τ).loc Cert.FfnGuDw.main_arg0)
      ∧ r.2.mem ((c.tc : Thread Cert.FfnGuDw.nD Cert.FfnGuDw.τ).loc Cert.FfnGuDw.main_arg1) = m ((c.tc : Thread Cert.FfnGuDw.nD Cert.FfnGuDw.τ).loc Cert.FfnGuDw.main_arg1)
      ∧ r.2.mem ((c.tc : Thread Cert.FfnGuDw.nD Cert.FfnGuDw.τ).loc Cert.FfnGuDw.main_arg2) = m ((c.tc : Thread Cert.FfnGuDw.nD Cert.FfnGuDw.τ).loc Cert.FfnGuDw.main_arg2))
      ∧ r.2.sem = fun _ => 0)

def quiescent_FfnGuDwIdeal [hFfnGuDwIdeal : Cert.FfnGuDwIdeal.Facts] : Prop :=
  ∀ (m : (ℓ : Loc Cert.FfnGuDwIdeal.nD Cert.FfnGuDwIdeal.τ Cert.FfnGuDwIdeal.sig) → Buf (Elt Ideal) ℓ) (g : Dev Cert.FfnGuDwIdeal.nD → PrngReg), Pre_FfnGuDwIdeal m →
    θ_run (Cert.FfnGuDwIdeal.defs (F := Ideal)) (onTc (τ := Cert.FfnGuDwIdeal.τ) (Cert.FfnGuDwIdeal.main (F := Ideal))) ⟨m, fun _ => 0, g⟩ (fun r => (∀ c : Dev Cert.FfnGuDwIdeal.nD,
      r.2.mem ((c.tc : Thread Cert.FfnGuDwIdeal.nD Cert.FfnGuDwIdeal.τ).loc Cert.FfnGuDwIdeal.main_arg0) = m ((c.tc : Thread Cert.FfnGuDwIdeal.nD Cert.FfnGuDwIdeal.τ).loc Cert.FfnGuDwIdeal.main_arg0)
      ∧ r.2.mem ((c.tc : Thread Cert.FfnGuDwIdeal.nD Cert.FfnGuDwIdeal.τ).loc Cert.FfnGuDwIdeal.main_arg1) = m ((c.tc : Thread Cert.FfnGuDwIdeal.nD Cert.FfnGuDwIdeal.τ).loc Cert.FfnGuDwIdeal.main_arg1)
      ∧ r.2.mem ((c.tc : Thread Cert.FfnGuDwIdeal.nD Cert.FfnGuDwIdeal.τ).loc Cert.FfnGuDwIdeal.main_arg2) = m ((c.tc : Thread Cert.FfnGuDwIdeal.nD Cert.FfnGuDwIdeal.τ).loc Cert.FfnGuDwIdeal.main_arg2))
      ∧ r.2.sem = fun _ => 0)

def quiescent_FfnGuDwRefIdeal [hFfnGuDwRefIdeal : Cert.FfnGuDwRefIdeal.Facts] : Prop :=
  ∀ (m : (ℓ : Loc Cert.FfnGuDwRefIdeal.nD Cert.FfnGuDwRefIdeal.τ Cert.FfnGuDwRefIdeal.sig) → Buf (Elt Ideal) ℓ) (g : Dev Cert.FfnGuDwRefIdeal.nD → PrngReg), Pre_FfnGuDwRefIdeal m →
    θ_run (Cert.FfnGuDwRefIdeal.defs (F := Ideal)) (onTc (τ := Cert.FfnGuDwRefIdeal.τ) (Cert.FfnGuDwRefIdeal.main (F := Ideal))) ⟨m, fun _ => 0, g⟩ (fun r => (∀ c : Dev Cert.FfnGuDwRefIdeal.nD,
      r.2.mem ((c.tc : Thread Cert.FfnGuDwRefIdeal.nD Cert.FfnGuDwRefIdeal.τ).loc Cert.FfnGuDwRefIdeal.main_arg0) = m ((c.tc : Thread Cert.FfnGuDwRefIdeal.nD Cert.FfnGuDwRefIdeal.τ).loc Cert.FfnGuDwRefIdeal.main_arg0)
      ∧ r.2.mem ((c.tc : Thread Cert.FfnGuDwRefIdeal.nD Cert.FfnGuDwRefIdeal.τ).loc Cert.FfnGuDwRefIdeal.main_arg1) = m ((c.tc : Thread Cert.FfnGuDwRefIdeal.nD Cert.FfnGuDwRefIdeal.τ).loc Cert.FfnGuDwRefIdeal.main_arg1)
      ∧ r.2.mem ((c.tc : Thread Cert.FfnGuDwRefIdeal.nD Cert.FfnGuDwRefIdeal.τ).loc Cert.FfnGuDwRefIdeal.main_arg2) = m ((c.tc : Thread Cert.FfnGuDwRefIdeal.nD Cert.FfnGuDwRefIdeal.τ).loc Cert.FfnGuDwRefIdeal.main_arg2))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwRefIdeal [hFfnDownDwRefIdeal : Cert.FfnDownDwRefIdeal.Facts] : Prop :=
  ∀ (m : (ℓ : Loc Cert.FfnDownDwRefIdeal.nD Cert.FfnDownDwRefIdeal.τ Cert.FfnDownDwRefIdeal.sig) → Buf (Elt Ideal) ℓ) (g : Dev Cert.FfnDownDwRefIdeal.nD → PrngReg), Pre_FfnDownDwRefIdeal m →
    θ_run (Cert.FfnDownDwRefIdeal.defs (F := Ideal)) (onTc (τ := Cert.FfnDownDwRefIdeal.τ) (Cert.FfnDownDwRefIdeal.main (F := Ideal))) ⟨m, fun _ => 0, g⟩ (fun r => (∀ c : Dev Cert.FfnDownDwRefIdeal.nD,
      r.2.mem ((c.tc : Thread Cert.FfnDownDwRefIdeal.nD Cert.FfnDownDwRefIdeal.τ).loc Cert.FfnDownDwRefIdeal.main_arg0) = m ((c.tc : Thread Cert.FfnDownDwRefIdeal.nD Cert.FfnDownDwRefIdeal.τ).loc Cert.FfnDownDwRefIdeal.main_arg0)
      ∧ r.2.mem ((c.tc : Thread Cert.FfnDownDwRefIdeal.nD Cert.FfnDownDwRefIdeal.τ).loc Cert.FfnDownDwRefIdeal.main_arg1) = m ((c.tc : Thread Cert.FfnDownDwRefIdeal.nD Cert.FfnDownDwRefIdeal.τ).loc Cert.FfnDownDwRefIdeal.main_arg1))
      ∧ r.2.sem = fun _ => 0)

def quiescent_GmlpIn [hGmlpIn : Cert.GmlpIn.Facts] : Prop :=
  ∀ (m : (ℓ : Loc Cert.GmlpIn.nD Cert.GmlpIn.τ Cert.GmlpIn.sig) → Buf (Elt Bits) ℓ) (g : Dev Cert.GmlpIn.nD → PrngReg), Pre_GmlpIn m →
    θ_run (Cert.GmlpIn.defs (F := Bits)) (onTc (τ := Cert.GmlpIn.τ) (Cert.GmlpIn.main (F := Bits))) ⟨m, fun _ => 0, g⟩ (fun r => (∀ c : Dev Cert.GmlpIn.nD,
      r.2.mem ((c.tc : Thread Cert.GmlpIn.nD Cert.GmlpIn.τ).loc Cert.GmlpIn.main_arg0) = m ((c.tc : Thread Cert.GmlpIn.nD Cert.GmlpIn.τ).loc Cert.GmlpIn.main_arg0)
      ∧ r.2.mem ((c.tc : Thread Cert.GmlpIn.nD Cert.GmlpIn.τ).loc Cert.GmlpIn.main_arg1) = m ((c.tc : Thread Cert.GmlpIn.nD Cert.GmlpIn.τ).loc Cert.GmlpIn.main_arg1)
      ∧ r.2.mem ((c.tc : Thread Cert.GmlpIn.nD Cert.GmlpIn.τ).loc Cert.GmlpIn.main_arg2) = m ((c.tc : Thread Cert.GmlpIn.nD Cert.GmlpIn.τ).loc Cert.GmlpIn.main_arg2))
      ∧ r.2.sem = fun _ => 0)

def quiescent_GmlpInIdeal [hGmlpInIdeal : Cert.GmlpInIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg), Pre_GmlpInIdeal m →
    θ_run (Cert.GmlpInIdeal.defs (F := Ideal)) (onTc (τ := Cert.GmlpInIdeal.τ) (Cert.GmlpInIdeal.main (F := Ideal))) ⟨m, fun _ => 0, g⟩ (fun r => (∀ c : Dev Cert.GmlpInIdeal.nD,
      r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
      ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1)
      ∧ r.2.mem ((c.tc : Thread Cert.GmlpInIdeal.nD Cert.GmlpInIdeal.τ).loc Cert.GmlpInIdeal.main_arg2) = m ((c.tc : Thread Cert.GmlpInIdeal.nD Cert.GmlpInIdeal.τ).loc Cert.GmlpInIdeal.main_arg2))
      ∧ r.2.sem = fun _ => 0)

def quiescent_GmlpInRefIdeal [hGmlpInRefIdeal : Cert.GmlpInRefIdeal.Facts] : Prop :=
  ∀ (m : (ℓ : Loc Cert.GmlpInRefIdeal.nD Cert.GmlpInRefIdeal.τ Cert.GmlpInRefIdeal.sig) → Buf (Elt Ideal) ℓ) (g : Dev Cert.GmlpInRefIdeal.nD → PrngReg), Pre_GmlpInRefIdeal m →
    θ_run (Cert.GmlpInRefIdeal.defs (F := Ideal)) (onTc (τ := Cert.GmlpInRefIdeal.τ) (Cert.GmlpInRefIdeal.main (F := Ideal))) ⟨m, fun _ => 0, g⟩ (fun r => (∀ c : Dev Cert.GmlpInRefIdeal.nD,
      r.2.mem ((c.tc : Thread Cert.GmlpInRefIdeal.nD Cert.GmlpInRefIdeal.τ).loc Cert.GmlpInRefIdeal.main_arg0) = m ((c.tc : Thread Cert.GmlpInRefIdeal.nD Cert.GmlpInRefIdeal.τ).loc Cert.GmlpInRefIdeal.main_arg0)
      ∧ r.2.mem ((c.tc : Thread Cert.GmlpInRefIdeal.nD Cert.GmlpInRefIdeal.τ).loc Cert.GmlpInRefIdeal.main_arg1) = m ((c.tc : Thread Cert.GmlpInRefIdeal.nD Cert.GmlpInRefIdeal.τ).loc Cert.GmlpInRefIdeal.main_arg1)
      ∧ r.2.mem ((c.tc : Thread Cert.GmlpInRefIdeal.nD Cert.GmlpInRefIdeal.τ).loc Cert.GmlpInRefIdeal.main_arg2) = m ((c.tc : Thread Cert.GmlpInRefIdeal.nD Cert.GmlpInRefIdeal.τ).loc Cert.GmlpInRefIdeal.main_arg2))
      ∧ r.2.sem = fun _ => 0)

def quiescent_GmlpOut [hGmlpOut : Cert.GmlpOut.Facts] : Prop :=
  ∀ (m : (ℓ : Loc Cert.GmlpOut.nD Cert.GmlpOut.τ Cert.GmlpOut.sig) → Buf (Elt Bits) ℓ) (g : Dev Cert.GmlpOut.nD → PrngReg), Pre_GmlpOut m →
    θ_run (Cert.GmlpOut.defs (F := Bits)) (onTc (τ := Cert.GmlpOut.τ) (Cert.GmlpOut.main (F := Bits))) ⟨m, fun _ => 0, g⟩ (fun r => (∀ c : Dev Cert.GmlpOut.nD,
      r.2.mem ((c.tc : Thread Cert.GmlpOut.nD Cert.GmlpOut.τ).loc Cert.GmlpOut.main_arg0) = m ((c.tc : Thread Cert.GmlpOut.nD Cert.GmlpOut.τ).loc Cert.GmlpOut.main_arg0)
      ∧ r.2.mem ((c.tc : Thread Cert.GmlpOut.nD Cert.GmlpOut.τ).loc Cert.GmlpOut.main_arg1) = m ((c.tc : Thread Cert.GmlpOut.nD Cert.GmlpOut.τ).loc Cert.GmlpOut.main_arg1))
      ∧ r.2.sem = fun _ => 0)

def quiescent_GmlpOutIdeal [hGmlpOutIdeal : Cert.GmlpOutIdeal.Facts] : Prop :=
  ∀ (m : (ℓ : Loc Cert.GmlpOutIdeal.nD Cert.GmlpOutIdeal.τ Cert.GmlpOutIdeal.sig) → Buf (Elt Ideal) ℓ) (g : Dev Cert.GmlpOutIdeal.nD → PrngReg), Pre_GmlpOutIdeal m →
    θ_run (Cert.GmlpOutIdeal.defs (F := Ideal)) (onTc (τ := Cert.GmlpOutIdeal.τ) (Cert.GmlpOutIdeal.main (F := Ideal))) ⟨m, fun _ => 0, g⟩ (fun r => (∀ c : Dev Cert.GmlpOutIdeal.nD,
      r.2.mem ((c.tc : Thread Cert.GmlpOutIdeal.nD Cert.GmlpOutIdeal.τ).loc Cert.GmlpOutIdeal.main_arg0) = m ((c.tc : Thread Cert.GmlpOutIdeal.nD Cert.GmlpOutIdeal.τ).loc Cert.GmlpOutIdeal.main_arg0)
      ∧ r.2.mem ((c.tc : Thread Cert.GmlpOutIdeal.nD Cert.GmlpOutIdeal.τ).loc Cert.GmlpOutIdeal.main_arg1) = m ((c.tc : Thread Cert.GmlpOutIdeal.nD Cert.GmlpOutIdeal.τ).loc Cert.GmlpOutIdeal.main_arg1))
      ∧ r.2.sem = fun _ => 0)

def quiescent_GmlpOutRefIdeal [hGmlpOutRefIdeal : Cert.GmlpOutRefIdeal.Facts] : Prop :=
  ∀ (m : (ℓ : Loc Cert.GmlpOutRefIdeal.nD Cert.GmlpOutRefIdeal.τ Cert.GmlpOutRefIdeal.sig) → Buf (Elt Ideal) ℓ) (g : Dev Cert.GmlpOutRefIdeal.nD → PrngReg), Pre_GmlpOutRefIdeal m →
    θ_run (Cert.GmlpOutRefIdeal.defs (F := Ideal)) (onTc (τ := Cert.GmlpOutRefIdeal.τ) (Cert.GmlpOutRefIdeal.main (F := Ideal))) ⟨m, fun _ => 0, g⟩ (fun r => (∀ c : Dev Cert.GmlpOutRefIdeal.nD,
      r.2.mem ((c.tc : Thread Cert.GmlpOutRefIdeal.nD Cert.GmlpOutRefIdeal.τ).loc Cert.GmlpOutRefIdeal.main_arg0) = m ((c.tc : Thread Cert.GmlpOutRefIdeal.nD Cert.GmlpOutRefIdeal.τ).loc Cert.GmlpOutRefIdeal.main_arg0)
      ∧ r.2.mem ((c.tc : Thread Cert.GmlpOutRefIdeal.nD Cert.GmlpOutRefIdeal.τ).loc Cert.GmlpOutRefIdeal.main_arg1) = m ((c.tc : Thread Cert.GmlpOutRefIdeal.nD Cert.GmlpOutRefIdeal.τ).loc Cert.GmlpOutRefIdeal.main_arg1))
      ∧ r.2.sem = fun _ => 0)

def quiescent_GmlpOutDw [hGmlpOutDw : Cert.GmlpOutDw.Facts] : Prop :=
  ∀ (m : (ℓ : Loc Cert.GmlpOutDw.nD Cert.GmlpOutDw.τ Cert.GmlpOutDw.sig) → Buf (Elt Bits) ℓ) (g : Dev Cert.GmlpOutDw.nD → PrngReg), Pre_GmlpOutDw m →
    θ_run (Cert.GmlpOutDw.defs (F := Bits)) (onTc (τ := Cert.GmlpOutDw.τ) (Cert.GmlpOutDw.main (F := Bits))) ⟨m, fun _ => 0, g⟩ (fun r => (∀ c : Dev Cert.GmlpOutDw.nD,
      r.2.mem ((c.tc : Thread Cert.GmlpOutDw.nD Cert.GmlpOutDw.τ).loc Cert.GmlpOutDw.main_arg0) = m ((c.tc : Thread Cert.GmlpOutDw.nD Cert.GmlpOutDw.τ).loc Cert.GmlpOutDw.main_arg0)
      ∧ r.2.mem ((c.tc : Thread Cert.GmlpOutDw.nD Cert.GmlpOutDw.τ).loc Cert.GmlpOutDw.main_arg1) = m ((c.tc : Thread Cert.GmlpOutDw.nD Cert.GmlpOutDw.τ).loc Cert.GmlpOutDw.main_arg1))
      ∧ r.2.sem = fun _ => 0)

def quiescent_GmlpOutDwIdeal [hGmlpOutDwIdeal : Cert.GmlpOutDwIdeal.Facts] : Prop :=
  ∀ (m : (ℓ : Loc Cert.GmlpOutDwIdeal.nD Cert.GmlpOutDwIdeal.τ Cert.GmlpOutDwIdeal.sig) → Buf (Elt Ideal) ℓ) (g : Dev Cert.GmlpOutDwIdeal.nD → PrngReg), Pre_GmlpOutDwIdeal m →
    θ_run (Cert.GmlpOutDwIdeal.defs (F := Ideal)) (onTc (τ := Cert.GmlpOutDwIdeal.τ) (Cert.GmlpOutDwIdeal.main (F := Ideal))) ⟨m, fun _ => 0, g⟩ (fun r => (∀ c : Dev Cert.GmlpOutDwIdeal.nD,
      r.2.mem ((c.tc : Thread Cert.GmlpOutDwIdeal.nD Cert.GmlpOutDwIdeal.τ).loc Cert.GmlpOutDwIdeal.main_arg0) = m ((c.tc : Thread Cert.GmlpOutDwIdeal.nD Cert.GmlpOutDwIdeal.τ).loc Cert.GmlpOutDwIdeal.main_arg0)
      ∧ r.2.mem ((c.tc : Thread Cert.GmlpOutDwIdeal.nD Cert.GmlpOutDwIdeal.τ).loc Cert.GmlpOutDwIdeal.main_arg1) = m ((c.tc : Thread Cert.GmlpOutDwIdeal.nD Cert.GmlpOutDwIdeal.τ).loc Cert.GmlpOutDwIdeal.main_arg1))
      ∧ r.2.sem = fun _ => 0)

def quiescent_GmlpOutDwRefIdeal [hGmlpOutDwRefIdeal : Cert.GmlpOutDwRefIdeal.Facts] : Prop :=
  ∀ (m : (ℓ : Loc Cert.GmlpOutDwRefIdeal.nD Cert.GmlpOutDwRefIdeal.τ Cert.GmlpOutDwRefIdeal.sig) → Buf (Elt Ideal) ℓ) (g : Dev Cert.GmlpOutDwRefIdeal.nD → PrngReg), Pre_GmlpOutDwRefIdeal m →
    θ_run (Cert.GmlpOutDwRefIdeal.defs (F := Ideal)) (onTc (τ := Cert.GmlpOutDwRefIdeal.τ) (Cert.GmlpOutDwRefIdeal.main (F := Ideal))) ⟨m, fun _ => 0, g⟩ (fun r => (∀ c : Dev Cert.GmlpOutDwRefIdeal.nD,
      r.2.mem ((c.tc : Thread Cert.GmlpOutDwRefIdeal.nD Cert.GmlpOutDwRefIdeal.τ).loc Cert.GmlpOutDwRefIdeal.main_arg0) = m ((c.tc : Thread Cert.GmlpOutDwRefIdeal.nD Cert.GmlpOutDwRefIdeal.τ).loc Cert.GmlpOutDwRefIdeal.main_arg0)
      ∧ r.2.mem ((c.tc : Thread Cert.GmlpOutDwRefIdeal.nD Cert.GmlpOutDwRefIdeal.τ).loc Cert.GmlpOutDwRefIdeal.main_arg1) = m ((c.tc : Thread Cert.GmlpOutDwRefIdeal.nD Cert.GmlpOutDwRefIdeal.τ).loc Cert.GmlpOutDwRefIdeal.main_arg1))
      ∧ r.2.sem = fun _ => 0)

def quiescent_GmlpOutDx [hGmlpOutDx : Cert.GmlpOutDx.Facts] : Prop :=
  ∀ (m : (ℓ : Loc Cert.GmlpOutDx.nD Cert.GmlpOutDx.τ Cert.GmlpOutDx.sig) → Buf (Elt Bits) ℓ) (g : Dev Cert.GmlpOutDx.nD → PrngReg), Pre_GmlpOutDx m →
    θ_run (Cert.GmlpOutDx.defs (F := Bits)) (onTc (τ := Cert.GmlpOutDx.τ) (Cert.GmlpOutDx.main (F := Bits))) ⟨m, fun _ => 0, g⟩ (fun r => (∀ c : Dev Cert.GmlpOutDx.nD,
      r.2.mem ((c.tc : Thread Cert.GmlpOutDx.nD Cert.GmlpOutDx.τ).loc Cert.GmlpOutDx.main_arg0) = m ((c.tc : Thread Cert.GmlpOutDx.nD Cert.GmlpOutDx.τ).loc Cert.GmlpOutDx.main_arg0)
      ∧ r.2.mem ((c.tc : Thread Cert.GmlpOutDx.nD Cert.GmlpOutDx.τ).loc Cert.GmlpOutDx.main_arg1) = m ((c.tc : Thread Cert.GmlpOutDx.nD Cert.GmlpOutDx.τ).loc Cert.GmlpOutDx.main_arg1))
      ∧ r.2.sem = fun _ => 0)

def quiescent_GmlpOutDxIdeal [hGmlpOutDxIdeal : Cert.GmlpOutDxIdeal.Facts] : Prop :=
  ∀ (m : (ℓ : Loc Cert.GmlpOutDxIdeal.nD Cert.GmlpOutDxIdeal.τ Cert.GmlpOutDxIdeal.sig) → Buf (Elt Ideal) ℓ) (g : Dev Cert.GmlpOutDxIdeal.nD → PrngReg), Pre_GmlpOutDxIdeal m →
    θ_run (Cert.GmlpOutDxIdeal.defs (F := Ideal)) (onTc (τ := Cert.GmlpOutDxIdeal.τ) (Cert.GmlpOutDxIdeal.main (F := Ideal))) ⟨m, fun _ => 0, g⟩ (fun r => (∀ c : Dev Cert.GmlpOutDxIdeal.nD,
      r.2.mem ((c.tc : Thread Cert.GmlpOutDxIdeal.nD Cert.GmlpOutDxIdeal.τ).loc Cert.GmlpOutDxIdeal.main_arg0) = m ((c.tc : Thread Cert.GmlpOutDxIdeal.nD Cert.GmlpOutDxIdeal.τ).loc Cert.GmlpOutDxIdeal.main_arg0)
      ∧ r.2.mem ((c.tc : Thread Cert.GmlpOutDxIdeal.nD Cert.GmlpOutDxIdeal.τ).loc Cert.GmlpOutDxIdeal.main_arg1) = m ((c.tc : Thread Cert.GmlpOutDxIdeal.nD Cert.GmlpOutDxIdeal.τ).loc Cert.GmlpOutDxIdeal.main_arg1))
      ∧ r.2.sem = fun _ => 0)

def quiescent_GmlpOutDxRefIdeal [hGmlpOutDxRefIdeal : Cert.GmlpOutDxRefIdeal.Facts] : Prop :=
  ∀ (m : (ℓ : Loc Cert.GmlpOutDxRefIdeal.nD Cert.GmlpOutDxRefIdeal.τ Cert.GmlpOutDxRefIdeal.sig) → Buf (Elt Ideal) ℓ) (g : Dev Cert.GmlpOutDxRefIdeal.nD → PrngReg), Pre_GmlpOutDxRefIdeal m →
    θ_run (Cert.GmlpOutDxRefIdeal.defs (F := Ideal)) (onTc (τ := Cert.GmlpOutDxRefIdeal.τ) (Cert.GmlpOutDxRefIdeal.main (F := Ideal))) ⟨m, fun _ => 0, g⟩ (fun r => (∀ c : Dev Cert.GmlpOutDxRefIdeal.nD,
      r.2.mem ((c.tc : Thread Cert.GmlpOutDxRefIdeal.nD Cert.GmlpOutDxRefIdeal.τ).loc Cert.GmlpOutDxRefIdeal.main_arg0) = m ((c.tc : Thread Cert.GmlpOutDxRefIdeal.nD Cert.GmlpOutDxRefIdeal.τ).loc Cert.GmlpOutDxRefIdeal.main_arg0)
      ∧ r.2.mem ((c.tc : Thread Cert.GmlpOutDxRefIdeal.nD Cert.GmlpOutDxRefIdeal.τ).loc Cert.GmlpOutDxRefIdeal.main_arg1) = m ((c.tc : Thread Cert.GmlpOutDxRefIdeal.nD Cert.GmlpOutDxRefIdeal.τ).loc Cert.GmlpOutDxRefIdeal.main_arg1))
      ∧ r.2.sem = fun _ => 0)

def quiescent_GmlpInDw [hGmlpInDw : Cert.GmlpInDw.Facts] : Prop :=
  ∀ (m : (ℓ : Loc Cert.GmlpInDw.nD Cert.GmlpInDw.τ Cert.GmlpInDw.sig) → Buf (Elt Bits) ℓ) (g : Dev Cert.GmlpInDw.nD → PrngReg), Pre_GmlpInDw m →
    θ_run (Cert.GmlpInDw.defs (F := Bits)) (onTc (τ := Cert.GmlpInDw.τ) (Cert.GmlpInDw.main (F := Bits))) ⟨m, fun _ => 0, g⟩ (fun r => (∀ c : Dev Cert.GmlpInDw.nD,
      r.2.mem ((c.tc : Thread Cert.GmlpInDw.nD Cert.GmlpInDw.τ).loc Cert.GmlpInDw.main_arg0) = m ((c.tc : Thread Cert.GmlpInDw.nD Cert.GmlpInDw.τ).loc Cert.GmlpInDw.main_arg0)
      ∧ r.2.mem ((c.tc : Thread Cert.GmlpInDw.nD Cert.GmlpInDw.τ).loc Cert.GmlpInDw.main_arg1) = m ((c.tc : Thread Cert.GmlpInDw.nD Cert.GmlpInDw.τ).loc Cert.GmlpInDw.main_arg1))
      ∧ r.2.sem = fun _ => 0)

def quiescent_GmlpInDwIdeal [hGmlpInDwIdeal : Cert.GmlpInDwIdeal.Facts] : Prop :=
  ∀ (m : (ℓ : Loc Cert.GmlpInDwIdeal.nD Cert.GmlpInDwIdeal.τ Cert.GmlpInDwIdeal.sig) → Buf (Elt Ideal) ℓ) (g : Dev Cert.GmlpInDwIdeal.nD → PrngReg), Pre_GmlpInDwIdeal m →
    θ_run (Cert.GmlpInDwIdeal.defs (F := Ideal)) (onTc (τ := Cert.GmlpInDwIdeal.τ) (Cert.GmlpInDwIdeal.main (F := Ideal))) ⟨m, fun _ => 0, g⟩ (fun r => (∀ c : Dev Cert.GmlpInDwIdeal.nD,
      r.2.mem ((c.tc : Thread Cert.GmlpInDwIdeal.nD Cert.GmlpInDwIdeal.τ).loc Cert.GmlpInDwIdeal.main_arg0) = m ((c.tc : Thread Cert.GmlpInDwIdeal.nD Cert.GmlpInDwIdeal.τ).loc Cert.GmlpInDwIdeal.main_arg0)
      ∧ r.2.mem ((c.tc : Thread Cert.GmlpInDwIdeal.nD Cert.GmlpInDwIdeal.τ).loc Cert.GmlpInDwIdeal.main_arg1) = m ((c.tc : Thread Cert.GmlpInDwIdeal.nD Cert.GmlpInDwIdeal.τ).loc Cert.GmlpInDwIdeal.main_arg1))
      ∧ r.2.sem = fun _ => 0)

def quiescent_GmlpInDwRefIdeal [hGmlpInDwRefIdeal : Cert.GmlpInDwRefIdeal.Facts] : Prop :=
  ∀ (m : (ℓ : Loc Cert.GmlpInDwRefIdeal.nD Cert.GmlpInDwRefIdeal.τ Cert.GmlpInDwRefIdeal.sig) → Buf (Elt Ideal) ℓ) (g : Dev Cert.GmlpInDwRefIdeal.nD → PrngReg), Pre_GmlpInDwRefIdeal m →
    θ_run (Cert.GmlpInDwRefIdeal.defs (F := Ideal)) (onTc (τ := Cert.GmlpInDwRefIdeal.τ) (Cert.GmlpInDwRefIdeal.main (F := Ideal))) ⟨m, fun _ => 0, g⟩ (fun r => (∀ c : Dev Cert.GmlpInDwRefIdeal.nD,
      r.2.mem ((c.tc : Thread Cert.GmlpInDwRefIdeal.nD Cert.GmlpInDwRefIdeal.τ).loc Cert.GmlpInDwRefIdeal.main_arg0) = m ((c.tc : Thread Cert.GmlpInDwRefIdeal.nD Cert.GmlpInDwRefIdeal.τ).loc Cert.GmlpInDwRefIdeal.main_arg0)
      ∧ r.2.mem ((c.tc : Thread Cert.GmlpInDwRefIdeal.nD Cert.GmlpInDwRefIdeal.τ).loc Cert.GmlpInDwRefIdeal.main_arg1) = m ((c.tc : Thread Cert.GmlpInDwRefIdeal.nD Cert.GmlpInDwRefIdeal.τ).loc Cert.GmlpInDwRefIdeal.main_arg1))
      ∧ r.2.sem = fun _ => 0)

def quiescent_GmlpInDx [hGmlpInDx : Cert.GmlpInDx.Facts] : Prop :=
  ∀ (m : (ℓ : Loc Cert.GmlpInDx.nD Cert.GmlpInDx.τ Cert.GmlpInDx.sig) → Buf (Elt Bits) ℓ) (g : Dev Cert.GmlpInDx.nD → PrngReg), Pre_GmlpInDx m →
    θ_run (Cert.GmlpInDx.defs (F := Bits)) (onTc (τ := Cert.GmlpInDx.τ) (Cert.GmlpInDx.main (F := Bits))) ⟨m, fun _ => 0, g⟩ (fun r => (∀ c : Dev Cert.GmlpInDx.nD,
      r.2.mem ((c.tc : Thread Cert.GmlpInDx.nD Cert.GmlpInDx.τ).loc Cert.GmlpInDx.main_arg0) = m ((c.tc : Thread Cert.GmlpInDx.nD Cert.GmlpInDx.τ).loc Cert.GmlpInDx.main_arg0)
      ∧ r.2.mem ((c.tc : Thread Cert.GmlpInDx.nD Cert.GmlpInDx.τ).loc Cert.GmlpInDx.main_arg1) = m ((c.tc : Thread Cert.GmlpInDx.nD Cert.GmlpInDx.τ).loc Cert.GmlpInDx.main_arg1))
      ∧ r.2.sem = fun _ => 0)

def quiescent_GmlpInDxIdeal [hGmlpInDxIdeal : Cert.GmlpInDxIdeal.Facts] : Prop :=
  ∀ (m : (ℓ : Loc Cert.GmlpInDxIdeal.nD Cert.GmlpInDxIdeal.τ Cert.GmlpInDxIdeal.sig) → Buf (Elt Ideal) ℓ) (g : Dev Cert.GmlpInDxIdeal.nD → PrngReg), Pre_GmlpInDxIdeal m →
    θ_run (Cert.GmlpInDxIdeal.defs (F := Ideal)) (onTc (τ := Cert.GmlpInDxIdeal.τ) (Cert.GmlpInDxIdeal.main (F := Ideal))) ⟨m, fun _ => 0, g⟩ (fun r => (∀ c : Dev Cert.GmlpInDxIdeal.nD,
      r.2.mem ((c.tc : Thread Cert.GmlpInDxIdeal.nD Cert.GmlpInDxIdeal.τ).loc Cert.GmlpInDxIdeal.main_arg0) = m ((c.tc : Thread Cert.GmlpInDxIdeal.nD Cert.GmlpInDxIdeal.τ).loc Cert.GmlpInDxIdeal.main_arg0)
      ∧ r.2.mem ((c.tc : Thread Cert.GmlpInDxIdeal.nD Cert.GmlpInDxIdeal.τ).loc Cert.GmlpInDxIdeal.main_arg1) = m ((c.tc : Thread Cert.GmlpInDxIdeal.nD Cert.GmlpInDxIdeal.τ).loc Cert.GmlpInDxIdeal.main_arg1))
      ∧ r.2.sem = fun _ => 0)

def quiescent_GmlpInDxRefIdeal [hGmlpInDxRefIdeal : Cert.GmlpInDxRefIdeal.Facts] : Prop :=
  ∀ (m : (ℓ : Loc Cert.GmlpInDxRefIdeal.nD Cert.GmlpInDxRefIdeal.τ Cert.GmlpInDxRefIdeal.sig) → Buf (Elt Ideal) ℓ) (g : Dev Cert.GmlpInDxRefIdeal.nD → PrngReg), Pre_GmlpInDxRefIdeal m →
    θ_run (Cert.GmlpInDxRefIdeal.defs (F := Ideal)) (onTc (τ := Cert.GmlpInDxRefIdeal.τ) (Cert.GmlpInDxRefIdeal.main (F := Ideal))) ⟨m, fun _ => 0, g⟩ (fun r => (∀ c : Dev Cert.GmlpInDxRefIdeal.nD,
      r.2.mem ((c.tc : Thread Cert.GmlpInDxRefIdeal.nD Cert.GmlpInDxRefIdeal.τ).loc Cert.GmlpInDxRefIdeal.main_arg0) = m ((c.tc : Thread Cert.GmlpInDxRefIdeal.nD Cert.GmlpInDxRefIdeal.τ).loc Cert.GmlpInDxRefIdeal.main_arg0)
      ∧ r.2.mem ((c.tc : Thread Cert.GmlpInDxRefIdeal.nD Cert.GmlpInDxRefIdeal.τ).loc Cert.GmlpInDxRefIdeal.main_arg1) = m ((c.tc : Thread Cert.GmlpInDxRefIdeal.nD Cert.GmlpInDxRefIdeal.τ).loc Cert.GmlpInDxRefIdeal.main_arg1))
      ∧ r.2.sem = fun _ => 0)

def quiescent_AttnQkv [hAttnQkv : Cert.AttnQkv.Facts] : Prop :=
  ∀ (m : (ℓ : Loc Cert.AttnQkv.nD Cert.AttnQkv.τ Cert.AttnQkv.sig) → Buf (Elt Bits) ℓ) (g : Dev Cert.AttnQkv.nD → PrngReg), Pre_AttnQkv m →
    θ_run (Cert.AttnQkv.defs (F := Bits)) (onTc (τ := Cert.AttnQkv.τ) (Cert.AttnQkv.main (F := Bits))) ⟨m, fun _ => 0, g⟩ (fun r => (∀ c : Dev Cert.AttnQkv.nD,
      r.2.mem ((c.tc : Thread Cert.AttnQkv.nD Cert.AttnQkv.τ).loc Cert.AttnQkv.main_arg0) = m ((c.tc : Thread Cert.AttnQkv.nD Cert.AttnQkv.τ).loc Cert.AttnQkv.main_arg0)
      ∧ r.2.mem ((c.tc : Thread Cert.AttnQkv.nD Cert.AttnQkv.τ).loc Cert.AttnQkv.main_arg1) = m ((c.tc : Thread Cert.AttnQkv.nD Cert.AttnQkv.τ).loc Cert.AttnQkv.main_arg1)
      ∧ r.2.mem ((c.tc : Thread Cert.AttnQkv.nD Cert.AttnQkv.τ).loc Cert.AttnQkv.main_arg2) = m ((c.tc : Thread Cert.AttnQkv.nD Cert.AttnQkv.τ).loc Cert.AttnQkv.main_arg2))
      ∧ r.2.sem = fun _ => 0)

def quiescent_AttnQkvIdeal [hAttnQkvIdeal : Cert.AttnQkvIdeal.Facts] : Prop :=
  ∀ (m : (ℓ : Loc Cert.AttnQkvIdeal.nD Cert.AttnQkvIdeal.τ Cert.AttnQkvIdeal.sig) → Buf (Elt Ideal) ℓ) (g : Dev Cert.AttnQkvIdeal.nD → PrngReg), Pre_AttnQkvIdeal m →
    θ_run (Cert.AttnQkvIdeal.defs (F := Ideal)) (onTc (τ := Cert.AttnQkvIdeal.τ) (Cert.AttnQkvIdeal.main (F := Ideal))) ⟨m, fun _ => 0, g⟩ (fun r => (∀ c : Dev Cert.AttnQkvIdeal.nD,
      r.2.mem ((c.tc : Thread Cert.AttnQkvIdeal.nD Cert.AttnQkvIdeal.τ).loc Cert.AttnQkvIdeal.main_arg0) = m ((c.tc : Thread Cert.AttnQkvIdeal.nD Cert.AttnQkvIdeal.τ).loc Cert.AttnQkvIdeal.main_arg0)
      ∧ r.2.mem ((c.tc : Thread Cert.AttnQkvIdeal.nD Cert.AttnQkvIdeal.τ).loc Cert.AttnQkvIdeal.main_arg1) = m ((c.tc : Thread Cert.AttnQkvIdeal.nD Cert.AttnQkvIdeal.τ).loc Cert.AttnQkvIdeal.main_arg1)
      ∧ r.2.mem ((c.tc : Thread Cert.AttnQkvIdeal.nD Cert.AttnQkvIdeal.τ).loc Cert.AttnQkvIdeal.main_arg2) = m ((c.tc : Thread Cert.AttnQkvIdeal.nD Cert.AttnQkvIdeal.τ).loc Cert.AttnQkvIdeal.main_arg2))
      ∧ r.2.sem = fun _ => 0)

def quiescent_AttnQkvRefIdeal [hAttnQkvRefIdeal : Cert.AttnQkvRefIdeal.Facts] : Prop :=
  ∀ (m : (ℓ : Loc Cert.AttnQkvRefIdeal.nD Cert.AttnQkvRefIdeal.τ Cert.AttnQkvRefIdeal.sig) → Buf (Elt Ideal) ℓ) (g : Dev Cert.AttnQkvRefIdeal.nD → PrngReg), Pre_AttnQkvRefIdeal m →
    θ_run (Cert.AttnQkvRefIdeal.defs (F := Ideal)) (onTc (τ := Cert.AttnQkvRefIdeal.τ) (Cert.AttnQkvRefIdeal.main (F := Ideal))) ⟨m, fun _ => 0, g⟩ (fun r => (∀ c : Dev Cert.AttnQkvRefIdeal.nD,
      r.2.mem ((c.tc : Thread Cert.AttnQkvRefIdeal.nD Cert.AttnQkvRefIdeal.τ).loc Cert.AttnQkvRefIdeal.main_arg0) = m ((c.tc : Thread Cert.AttnQkvRefIdeal.nD Cert.AttnQkvRefIdeal.τ).loc Cert.AttnQkvRefIdeal.main_arg0)
      ∧ r.2.mem ((c.tc : Thread Cert.AttnQkvRefIdeal.nD Cert.AttnQkvRefIdeal.τ).loc Cert.AttnQkvRefIdeal.main_arg1) = m ((c.tc : Thread Cert.AttnQkvRefIdeal.nD Cert.AttnQkvRefIdeal.τ).loc Cert.AttnQkvRefIdeal.main_arg1)
      ∧ r.2.mem ((c.tc : Thread Cert.AttnQkvRefIdeal.nD Cert.AttnQkvRefIdeal.τ).loc Cert.AttnQkvRefIdeal.main_arg2) = m ((c.tc : Thread Cert.AttnQkvRefIdeal.nD Cert.AttnQkvRefIdeal.τ).loc Cert.AttnQkvRefIdeal.main_arg2))
      ∧ r.2.sem = fun _ => 0)

def quiescent_AttnO [hAttnO : Cert.AttnO.Facts] : Prop :=
  ∀ (m : (ℓ : Loc Cert.AttnO.nD Cert.AttnO.τ Cert.AttnO.sig) → Buf (Elt Bits) ℓ) (g : Dev Cert.AttnO.nD → PrngReg), Pre_AttnO m →
    θ_run (Cert.AttnO.defs (F := Bits)) (onTc (τ := Cert.AttnO.τ) (Cert.AttnO.main (F := Bits))) ⟨m, fun _ => 0, g⟩ (fun r => (∀ c : Dev Cert.AttnO.nD,
      r.2.mem ((c.tc : Thread Cert.AttnO.nD Cert.AttnO.τ).loc Cert.AttnO.main_arg0) = m ((c.tc : Thread Cert.AttnO.nD Cert.AttnO.τ).loc Cert.AttnO.main_arg0)
      ∧ r.2.mem ((c.tc : Thread Cert.AttnO.nD Cert.AttnO.τ).loc Cert.AttnO.main_arg1) = m ((c.tc : Thread Cert.AttnO.nD Cert.AttnO.τ).loc Cert.AttnO.main_arg1))
      ∧ r.2.sem = fun _ => 0)

def quiescent_AttnOIdeal [hAttnOIdeal : Cert.AttnOIdeal.Facts] : Prop :=
  ∀ (m : (ℓ : Loc Cert.AttnOIdeal.nD Cert.AttnOIdeal.τ Cert.AttnOIdeal.sig) → Buf (Elt Ideal) ℓ) (g : Dev Cert.AttnOIdeal.nD → PrngReg), Pre_AttnOIdeal m →
    θ_run (Cert.AttnOIdeal.defs (F := Ideal)) (onTc (τ := Cert.AttnOIdeal.τ) (Cert.AttnOIdeal.main (F := Ideal))) ⟨m, fun _ => 0, g⟩ (fun r => (∀ c : Dev Cert.AttnOIdeal.nD,
      r.2.mem ((c.tc : Thread Cert.AttnOIdeal.nD Cert.AttnOIdeal.τ).loc Cert.AttnOIdeal.main_arg0) = m ((c.tc : Thread Cert.AttnOIdeal.nD Cert.AttnOIdeal.τ).loc Cert.AttnOIdeal.main_arg0)
      ∧ r.2.mem ((c.tc : Thread Cert.AttnOIdeal.nD Cert.AttnOIdeal.τ).loc Cert.AttnOIdeal.main_arg1) = m ((c.tc : Thread Cert.AttnOIdeal.nD Cert.AttnOIdeal.τ).loc Cert.AttnOIdeal.main_arg1))
      ∧ r.2.sem = fun _ => 0)

def quiescent_AttnORefIdeal [hAttnORefIdeal : Cert.AttnORefIdeal.Facts] : Prop :=
  ∀ (m : (ℓ : Loc Cert.AttnORefIdeal.nD Cert.AttnORefIdeal.τ Cert.AttnORefIdeal.sig) → Buf (Elt Ideal) ℓ) (g : Dev Cert.AttnORefIdeal.nD → PrngReg), Pre_AttnORefIdeal m →
    θ_run (Cert.AttnORefIdeal.defs (F := Ideal)) (onTc (τ := Cert.AttnORefIdeal.τ) (Cert.AttnORefIdeal.main (F := Ideal))) ⟨m, fun _ => 0, g⟩ (fun r => (∀ c : Dev Cert.AttnORefIdeal.nD,
      r.2.mem ((c.tc : Thread Cert.AttnORefIdeal.nD Cert.AttnORefIdeal.τ).loc Cert.AttnORefIdeal.main_arg0) = m ((c.tc : Thread Cert.AttnORefIdeal.nD Cert.AttnORefIdeal.τ).loc Cert.AttnORefIdeal.main_arg0)
      ∧ r.2.mem ((c.tc : Thread Cert.AttnORefIdeal.nD Cert.AttnORefIdeal.τ).loc Cert.AttnORefIdeal.main_arg1) = m ((c.tc : Thread Cert.AttnORefIdeal.nD Cert.AttnORefIdeal.τ).loc Cert.AttnORefIdeal.main_arg1))
      ∧ r.2.sem = fun _ => 0)

def quiescent_AttnODw [hAttnODw : Cert.AttnODw.Facts] : Prop :=
  ∀ (m : (ℓ : Loc Cert.AttnODw.nD Cert.AttnODw.τ Cert.AttnODw.sig) → Buf (Elt Bits) ℓ) (g : Dev Cert.AttnODw.nD → PrngReg), Pre_AttnODw m →
    θ_run (Cert.AttnODw.defs (F := Bits)) (onTc (τ := Cert.AttnODw.τ) (Cert.AttnODw.main (F := Bits))) ⟨m, fun _ => 0, g⟩ (fun r => (∀ c : Dev Cert.AttnODw.nD,
      r.2.mem ((c.tc : Thread Cert.AttnODw.nD Cert.AttnODw.τ).loc Cert.AttnODw.main_arg0) = m ((c.tc : Thread Cert.AttnODw.nD Cert.AttnODw.τ).loc Cert.AttnODw.main_arg0)
      ∧ r.2.mem ((c.tc : Thread Cert.AttnODw.nD Cert.AttnODw.τ).loc Cert.AttnODw.main_arg1) = m ((c.tc : Thread Cert.AttnODw.nD Cert.AttnODw.τ).loc Cert.AttnODw.main_arg1))
      ∧ r.2.sem = fun _ => 0)

def quiescent_AttnODwIdeal [hAttnODwIdeal : Cert.AttnODwIdeal.Facts] : Prop :=
  ∀ (m : (ℓ : Loc Cert.AttnODwIdeal.nD Cert.AttnODwIdeal.τ Cert.AttnODwIdeal.sig) → Buf (Elt Ideal) ℓ) (g : Dev Cert.AttnODwIdeal.nD → PrngReg), Pre_AttnODwIdeal m →
    θ_run (Cert.AttnODwIdeal.defs (F := Ideal)) (onTc (τ := Cert.AttnODwIdeal.τ) (Cert.AttnODwIdeal.main (F := Ideal))) ⟨m, fun _ => 0, g⟩ (fun r => (∀ c : Dev Cert.AttnODwIdeal.nD,
      r.2.mem ((c.tc : Thread Cert.AttnODwIdeal.nD Cert.AttnODwIdeal.τ).loc Cert.AttnODwIdeal.main_arg0) = m ((c.tc : Thread Cert.AttnODwIdeal.nD Cert.AttnODwIdeal.τ).loc Cert.AttnODwIdeal.main_arg0)
      ∧ r.2.mem ((c.tc : Thread Cert.AttnODwIdeal.nD Cert.AttnODwIdeal.τ).loc Cert.AttnODwIdeal.main_arg1) = m ((c.tc : Thread Cert.AttnODwIdeal.nD Cert.AttnODwIdeal.τ).loc Cert.AttnODwIdeal.main_arg1))
      ∧ r.2.sem = fun _ => 0)

def quiescent_AttnODwRefIdeal [hAttnODwRefIdeal : Cert.AttnODwRefIdeal.Facts] : Prop :=
  ∀ (m : (ℓ : Loc Cert.AttnODwRefIdeal.nD Cert.AttnODwRefIdeal.τ Cert.AttnODwRefIdeal.sig) → Buf (Elt Ideal) ℓ) (g : Dev Cert.AttnODwRefIdeal.nD → PrngReg), Pre_AttnODwRefIdeal m →
    θ_run (Cert.AttnODwRefIdeal.defs (F := Ideal)) (onTc (τ := Cert.AttnODwRefIdeal.τ) (Cert.AttnODwRefIdeal.main (F := Ideal))) ⟨m, fun _ => 0, g⟩ (fun r => (∀ c : Dev Cert.AttnODwRefIdeal.nD,
      r.2.mem ((c.tc : Thread Cert.AttnODwRefIdeal.nD Cert.AttnODwRefIdeal.τ).loc Cert.AttnODwRefIdeal.main_arg0) = m ((c.tc : Thread Cert.AttnODwRefIdeal.nD Cert.AttnODwRefIdeal.τ).loc Cert.AttnODwRefIdeal.main_arg0)
      ∧ r.2.mem ((c.tc : Thread Cert.AttnODwRefIdeal.nD Cert.AttnODwRefIdeal.τ).loc Cert.AttnODwRefIdeal.main_arg1) = m ((c.tc : Thread Cert.AttnODwRefIdeal.nD Cert.AttnODwRefIdeal.τ).loc Cert.AttnODwRefIdeal.main_arg1))
      ∧ r.2.sem = fun _ => 0)

def quiescent_AttnODx [hAttnODx : Cert.AttnODx.Facts] : Prop :=
  ∀ (m : (ℓ : Loc Cert.AttnODx.nD Cert.AttnODx.τ Cert.AttnODx.sig) → Buf (Elt Bits) ℓ) (g : Dev Cert.AttnODx.nD → PrngReg), Pre_AttnODx m →
    θ_run (Cert.AttnODx.defs (F := Bits)) (onTc (τ := Cert.AttnODx.τ) (Cert.AttnODx.main (F := Bits))) ⟨m, fun _ => 0, g⟩ (fun r => (∀ c : Dev Cert.AttnODx.nD,
      r.2.mem ((c.tc : Thread Cert.AttnODx.nD Cert.AttnODx.τ).loc Cert.AttnODx.main_arg0) = m ((c.tc : Thread Cert.AttnODx.nD Cert.AttnODx.τ).loc Cert.AttnODx.main_arg0)
      ∧ r.2.mem ((c.tc : Thread Cert.AttnODx.nD Cert.AttnODx.τ).loc Cert.AttnODx.main_arg1) = m ((c.tc : Thread Cert.AttnODx.nD Cert.AttnODx.τ).loc Cert.AttnODx.main_arg1))
      ∧ r.2.sem = fun _ => 0)

def quiescent_AttnODxIdeal [hAttnODxIdeal : Cert.AttnODxIdeal.Facts] : Prop :=
  ∀ (m : (ℓ : Loc Cert.AttnODxIdeal.nD Cert.AttnODxIdeal.τ Cert.AttnODxIdeal.sig) → Buf (Elt Ideal) ℓ) (g : Dev Cert.AttnODxIdeal.nD → PrngReg), Pre_AttnODxIdeal m →
    θ_run (Cert.AttnODxIdeal.defs (F := Ideal)) (onTc (τ := Cert.AttnODxIdeal.τ) (Cert.AttnODxIdeal.main (F := Ideal))) ⟨m, fun _ => 0, g⟩ (fun r => (∀ c : Dev Cert.AttnODxIdeal.nD,
      r.2.mem ((c.tc : Thread Cert.AttnODxIdeal.nD Cert.AttnODxIdeal.τ).loc Cert.AttnODxIdeal.main_arg0) = m ((c.tc : Thread Cert.AttnODxIdeal.nD Cert.AttnODxIdeal.τ).loc Cert.AttnODxIdeal.main_arg0)
      ∧ r.2.mem ((c.tc : Thread Cert.AttnODxIdeal.nD Cert.AttnODxIdeal.τ).loc Cert.AttnODxIdeal.main_arg1) = m ((c.tc : Thread Cert.AttnODxIdeal.nD Cert.AttnODxIdeal.τ).loc Cert.AttnODxIdeal.main_arg1))
      ∧ r.2.sem = fun _ => 0)

def quiescent_AttnODxRefIdeal [hAttnODxRefIdeal : Cert.AttnODxRefIdeal.Facts] : Prop :=
  ∀ (m : (ℓ : Loc Cert.AttnODxRefIdeal.nD Cert.AttnODxRefIdeal.τ Cert.AttnODxRefIdeal.sig) → Buf (Elt Ideal) ℓ) (g : Dev Cert.AttnODxRefIdeal.nD → PrngReg), Pre_AttnODxRefIdeal m →
    θ_run (Cert.AttnODxRefIdeal.defs (F := Ideal)) (onTc (τ := Cert.AttnODxRefIdeal.τ) (Cert.AttnODxRefIdeal.main (F := Ideal))) ⟨m, fun _ => 0, g⟩ (fun r => (∀ c : Dev Cert.AttnODxRefIdeal.nD,
      r.2.mem ((c.tc : Thread Cert.AttnODxRefIdeal.nD Cert.AttnODxRefIdeal.τ).loc Cert.AttnODxRefIdeal.main_arg0) = m ((c.tc : Thread Cert.AttnODxRefIdeal.nD Cert.AttnODxRefIdeal.τ).loc Cert.AttnODxRefIdeal.main_arg0)
      ∧ r.2.mem ((c.tc : Thread Cert.AttnODxRefIdeal.nD Cert.AttnODxRefIdeal.τ).loc Cert.AttnODxRefIdeal.main_arg1) = m ((c.tc : Thread Cert.AttnODxRefIdeal.nD Cert.AttnODxRefIdeal.τ).loc Cert.AttnODxRefIdeal.main_arg1))
      ∧ r.2.sem = fun _ => 0)

def quiescent_AttnQkvDw [hAttnQkvDw : Cert.AttnQkvDw.Facts] : Prop :=
  ∀ (m : (ℓ : Loc Cert.AttnQkvDw.nD Cert.AttnQkvDw.τ Cert.AttnQkvDw.sig) → Buf (Elt Bits) ℓ) (g : Dev Cert.AttnQkvDw.nD → PrngReg), Pre_AttnQkvDw m →
    θ_run (Cert.AttnQkvDw.defs (F := Bits)) (onTc (τ := Cert.AttnQkvDw.τ) (Cert.AttnQkvDw.main (F := Bits))) ⟨m, fun _ => 0, g⟩ (fun r => (∀ c : Dev Cert.AttnQkvDw.nD,
      r.2.mem ((c.tc : Thread Cert.AttnQkvDw.nD Cert.AttnQkvDw.τ).loc Cert.AttnQkvDw.main_arg0) = m ((c.tc : Thread Cert.AttnQkvDw.nD Cert.AttnQkvDw.τ).loc Cert.AttnQkvDw.main_arg0)
      ∧ r.2.mem ((c.tc : Thread Cert.AttnQkvDw.nD Cert.AttnQkvDw.τ).loc Cert.AttnQkvDw.main_arg1) = m ((c.tc : Thread Cert.AttnQkvDw.nD Cert.AttnQkvDw.τ).loc Cert.AttnQkvDw.main_arg1))
      ∧ r.2.sem = fun _ => 0)

def quiescent_AttnQkvDwIdeal [hAttnQkvDwIdeal : Cert.AttnQkvDwIdeal.Facts] : Prop :=
  ∀ (m : (ℓ : Loc Cert.AttnQkvDwIdeal.nD Cert.AttnQkvDwIdeal.τ Cert.AttnQkvDwIdeal.sig) → Buf (Elt Ideal) ℓ) (g : Dev Cert.AttnQkvDwIdeal.nD → PrngReg), Pre_AttnQkvDwIdeal m →
    θ_run (Cert.AttnQkvDwIdeal.defs (F := Ideal)) (onTc (τ := Cert.AttnQkvDwIdeal.τ) (Cert.AttnQkvDwIdeal.main (F := Ideal))) ⟨m, fun _ => 0, g⟩ (fun r => (∀ c : Dev Cert.AttnQkvDwIdeal.nD,
      r.2.mem ((c.tc : Thread Cert.AttnQkvDwIdeal.nD Cert.AttnQkvDwIdeal.τ).loc Cert.AttnQkvDwIdeal.main_arg0) = m ((c.tc : Thread Cert.AttnQkvDwIdeal.nD Cert.AttnQkvDwIdeal.τ).loc Cert.AttnQkvDwIdeal.main_arg0)
      ∧ r.2.mem ((c.tc : Thread Cert.AttnQkvDwIdeal.nD Cert.AttnQkvDwIdeal.τ).loc Cert.AttnQkvDwIdeal.main_arg1) = m ((c.tc : Thread Cert.AttnQkvDwIdeal.nD Cert.AttnQkvDwIdeal.τ).loc Cert.AttnQkvDwIdeal.main_arg1))
      ∧ r.2.sem = fun _ => 0)

def quiescent_AttnQkvDwRefIdeal [hAttnQkvDwRefIdeal : Cert.AttnQkvDwRefIdeal.Facts] : Prop :=
  ∀ (m : (ℓ : Loc Cert.AttnQkvDwRefIdeal.nD Cert.AttnQkvDwRefIdeal.τ Cert.AttnQkvDwRefIdeal.sig) → Buf (Elt Ideal) ℓ) (g : Dev Cert.AttnQkvDwRefIdeal.nD → PrngReg), Pre_AttnQkvDwRefIdeal m →
    θ_run (Cert.AttnQkvDwRefIdeal.defs (F := Ideal)) (onTc (τ := Cert.AttnQkvDwRefIdeal.τ) (Cert.AttnQkvDwRefIdeal.main (F := Ideal))) ⟨m, fun _ => 0, g⟩ (fun r => (∀ c : Dev Cert.AttnQkvDwRefIdeal.nD,
      r.2.mem ((c.tc : Thread Cert.AttnQkvDwRefIdeal.nD Cert.AttnQkvDwRefIdeal.τ).loc Cert.AttnQkvDwRefIdeal.main_arg0) = m ((c.tc : Thread Cert.AttnQkvDwRefIdeal.nD Cert.AttnQkvDwRefIdeal.τ).loc Cert.AttnQkvDwRefIdeal.main_arg0)
      ∧ r.2.mem ((c.tc : Thread Cert.AttnQkvDwRefIdeal.nD Cert.AttnQkvDwRefIdeal.τ).loc Cert.AttnQkvDwRefIdeal.main_arg1) = m ((c.tc : Thread Cert.AttnQkvDwRefIdeal.nD Cert.AttnQkvDwRefIdeal.τ).loc Cert.AttnQkvDwRefIdeal.main_arg1))
      ∧ r.2.sem = fun _ => 0)

def quiescent_AttnQkvDx [hAttnQkvDx : Cert.AttnQkvDx.Facts] : Prop :=
  ∀ (m : (ℓ : Loc Cert.AttnQkvDx.nD Cert.AttnQkvDx.τ Cert.AttnQkvDx.sig) → Buf (Elt Bits) ℓ) (g : Dev Cert.AttnQkvDx.nD → PrngReg), Pre_AttnQkvDx m →
    θ_run (Cert.AttnQkvDx.defs (F := Bits)) (onTc (τ := Cert.AttnQkvDx.τ) (Cert.AttnQkvDx.main (F := Bits))) ⟨m, fun _ => 0, g⟩ (fun r => (∀ c : Dev Cert.AttnQkvDx.nD,
      r.2.mem ((c.tc : Thread Cert.AttnQkvDx.nD Cert.AttnQkvDx.τ).loc Cert.AttnQkvDx.main_arg0) = m ((c.tc : Thread Cert.AttnQkvDx.nD Cert.AttnQkvDx.τ).loc Cert.AttnQkvDx.main_arg0)
      ∧ r.2.mem ((c.tc : Thread Cert.AttnQkvDx.nD Cert.AttnQkvDx.τ).loc Cert.AttnQkvDx.main_arg1) = m ((c.tc : Thread Cert.AttnQkvDx.nD Cert.AttnQkvDx.τ).loc Cert.AttnQkvDx.main_arg1))
      ∧ r.2.sem = fun _ => 0)

def quiescent_AttnQkvDxIdeal [hAttnQkvDxIdeal : Cert.AttnQkvDxIdeal.Facts] : Prop :=
  ∀ (m : (ℓ : Loc Cert.AttnQkvDxIdeal.nD Cert.AttnQkvDxIdeal.τ Cert.AttnQkvDxIdeal.sig) → Buf (Elt Ideal) ℓ) (g : Dev Cert.AttnQkvDxIdeal.nD → PrngReg), Pre_AttnQkvDxIdeal m →
    θ_run (Cert.AttnQkvDxIdeal.defs (F := Ideal)) (onTc (τ := Cert.AttnQkvDxIdeal.τ) (Cert.AttnQkvDxIdeal.main (F := Ideal))) ⟨m, fun _ => 0, g⟩ (fun r => (∀ c : Dev Cert.AttnQkvDxIdeal.nD,
      r.2.mem ((c.tc : Thread Cert.AttnQkvDxIdeal.nD Cert.AttnQkvDxIdeal.τ).loc Cert.AttnQkvDxIdeal.main_arg0) = m ((c.tc : Thread Cert.AttnQkvDxIdeal.nD Cert.AttnQkvDxIdeal.τ).loc Cert.AttnQkvDxIdeal.main_arg0)
      ∧ r.2.mem ((c.tc : Thread Cert.AttnQkvDxIdeal.nD Cert.AttnQkvDxIdeal.τ).loc Cert.AttnQkvDxIdeal.main_arg1) = m ((c.tc : Thread Cert.AttnQkvDxIdeal.nD Cert.AttnQkvDxIdeal.τ).loc Cert.AttnQkvDxIdeal.main_arg1))
      ∧ r.2.sem = fun _ => 0)

def quiescent_AttnQkvDxRefIdeal [hAttnQkvDxRefIdeal : Cert.AttnQkvDxRefIdeal.Facts] : Prop :=
  ∀ (m : (ℓ : Loc Cert.AttnQkvDxRefIdeal.nD Cert.AttnQkvDxRefIdeal.τ Cert.AttnQkvDxRefIdeal.sig) → Buf (Elt Ideal) ℓ) (g : Dev Cert.AttnQkvDxRefIdeal.nD → PrngReg), Pre_AttnQkvDxRefIdeal m →
    θ_run (Cert.AttnQkvDxRefIdeal.defs (F := Ideal)) (onTc (τ := Cert.AttnQkvDxRefIdeal.τ) (Cert.AttnQkvDxRefIdeal.main (F := Ideal))) ⟨m, fun _ => 0, g⟩ (fun r => (∀ c : Dev Cert.AttnQkvDxRefIdeal.nD,
      r.2.mem ((c.tc : Thread Cert.AttnQkvDxRefIdeal.nD Cert.AttnQkvDxRefIdeal.τ).loc Cert.AttnQkvDxRefIdeal.main_arg0) = m ((c.tc : Thread Cert.AttnQkvDxRefIdeal.nD Cert.AttnQkvDxRefIdeal.τ).loc Cert.AttnQkvDxRefIdeal.main_arg0)
      ∧ r.2.mem ((c.tc : Thread Cert.AttnQkvDxRefIdeal.nD Cert.AttnQkvDxRefIdeal.τ).loc Cert.AttnQkvDxRefIdeal.main_arg1) = m ((c.tc : Thread Cert.AttnQkvDxRefIdeal.nD Cert.AttnQkvDxRefIdeal.τ).loc Cert.AttnQkvDxRefIdeal.main_arg1))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_RmsRes [hRmsRes : Cert.RmsRes.Facts] : Prop :=
  ∀ (m : (ℓ : Loc Cert.RmsRes.nD Cert.RmsRes.τ Cert.RmsRes.sig) → Buf (Elt Bits) ℓ) (g : Dev Cert.RmsRes.nD → PrngReg), Pre_RmsRes m →
    θ_run (Cert.RmsRes.defs (F := Bits)) (onTc (τ := Cert.RmsRes.τ) (Cert.RmsRes.main (F := Bits))) ⟨m, fun _ => 0, g⟩ (fun r => (∀ c : Dev Cert.RmsRes.nD,
      r.2.mem ((c.tc : Thread Cert.RmsRes.nD Cert.RmsRes.τ).loc Cert.RmsRes.main_arg0) = m ((c.tc : Thread Cert.RmsRes.nD Cert.RmsRes.τ).loc Cert.RmsRes.main_arg0)
      ∧ r.2.mem ((c.tc : Thread Cert.RmsRes.nD Cert.RmsRes.τ).loc Cert.RmsRes.main_arg1) = m ((c.tc : Thread Cert.RmsRes.nD Cert.RmsRes.τ).loc Cert.RmsRes.main_arg1)
      ∧ r.2.mem ((c.tc : Thread Cert.RmsRes.nD Cert.RmsRes.τ).loc Cert.RmsRes.main_arg2) = m ((c.tc : Thread Cert.RmsRes.nD Cert.RmsRes.τ).loc Cert.RmsRes.main_arg2))
      ∧ r.2.sem = fun _ => 0)

def quiescent_RmsResIdeal [hRmsResIdeal : Cert.RmsResIdeal.Facts] : Prop :=
  ∀ (m : (ℓ : Loc Cert.RmsResIdeal.nD Cert.RmsResIdeal.τ Cert.RmsResIdeal.sig) → Buf (Elt Ideal) ℓ) (g : Dev Cert.RmsResIdeal.nD → PrngReg), Pre_RmsResIdeal m →
    θ_run (Cert.RmsResIdeal.defs (F := Ideal)) (onTc (τ := Cert.RmsResIdeal.τ) (Cert.RmsResIdeal.main (F := Ideal))) ⟨m, fun _ => 0, g⟩ (fun r => (∀ c : Dev Cert.RmsResIdeal.nD,
      r.2.mem ((c.tc : Thread Cert.RmsResIdeal.nD Cert.RmsResIdeal.τ).loc Cert.RmsResIdeal.main_arg0) = m ((c.tc : Thread Cert.RmsResIdeal.nD Cert.RmsResIdeal.τ).loc Cert.RmsResIdeal.main_arg0)
      ∧ r.2.mem ((c.tc : Thread Cert.RmsResIdeal.nD Cert.RmsResIdeal.τ).loc Cert.RmsResIdeal.main_arg1) = m ((c.tc : Thread Cert.RmsResIdeal.nD Cert.RmsResIdeal.τ).loc Cert.RmsResIdeal.main_arg1)
      ∧ r.2.mem ((c.tc : Thread Cert.RmsResIdeal.nD Cert.RmsResIdeal.τ).loc Cert.RmsResIdeal.main_arg2) = m ((c.tc : Thread Cert.RmsResIdeal.nD Cert.RmsResIdeal.τ).loc Cert.RmsResIdeal.main_arg2))
      ∧ r.2.sem = fun _ => 0)

def quiescent_RmsResRefIdeal [hRmsResRefIdeal : Cert.RmsResRefIdeal.Facts] : Prop :=
  ∀ (m : (ℓ : Loc Cert.RmsResRefIdeal.nD Cert.RmsResRefIdeal.τ Cert.RmsResRefIdeal.sig) → Buf (Elt Ideal) ℓ) (g : Dev Cert.RmsResRefIdeal.nD → PrngReg), Pre_RmsResRefIdeal m →
    θ_run (Cert.RmsResRefIdeal.defs (F := Ideal)) (onTc (τ := Cert.RmsResRefIdeal.τ) (Cert.RmsResRefIdeal.main (F := Ideal))) ⟨m, fun _ => 0, g⟩ (fun r => (∀ c : Dev Cert.RmsResRefIdeal.nD,
      r.2.mem ((c.tc : Thread Cert.RmsResRefIdeal.nD Cert.RmsResRefIdeal.τ).loc Cert.RmsResRefIdeal.main_arg0) = m ((c.tc : Thread Cert.RmsResRefIdeal.nD Cert.RmsResRefIdeal.τ).loc Cert.RmsResRefIdeal.main_arg0)
      ∧ r.2.mem ((c.tc : Thread Cert.RmsResRefIdeal.nD Cert.RmsResRefIdeal.τ).loc Cert.RmsResRefIdeal.main_arg1) = m ((c.tc : Thread Cert.RmsResRefIdeal.nD Cert.RmsResRefIdeal.τ).loc Cert.RmsResRefIdeal.main_arg1)
      ∧ r.2.mem ((c.tc : Thread Cert.RmsResRefIdeal.nD Cert.RmsResRefIdeal.τ).loc Cert.RmsResRefIdeal.main_arg2) = m ((c.tc : Thread Cert.RmsResRefIdeal.nD Cert.RmsResRefIdeal.τ).loc Cert.RmsResRefIdeal.main_arg2))
      ∧ r.2.sem = fun _ => 0)

def quiescent_RmsResNorm [hRmsResNorm : Cert.RmsResNorm.Facts] : Prop :=
  ∀ (m : (ℓ : Loc Cert.RmsResNorm.nD Cert.RmsResNorm.τ Cert.RmsResNorm.sig) → Buf (Elt Bits) ℓ) (g : Dev Cert.RmsResNorm.nD → PrngReg), Pre_RmsResNorm m →
    θ_run (Cert.RmsResNorm.defs (F := Bits)) (onTc (τ := Cert.RmsResNorm.τ) (Cert.RmsResNorm.main (F := Bits))) ⟨m, fun _ => 0, g⟩ (fun r => (∀ c : Dev Cert.RmsResNorm.nD,
      r.2.mem ((c.tc : Thread Cert.RmsResNorm.nD Cert.RmsResNorm.τ).loc Cert.RmsResNorm.main_arg0) = m ((c.tc : Thread Cert.RmsResNorm.nD Cert.RmsResNorm.τ).loc Cert.RmsResNorm.main_arg0)
      ∧ r.2.mem ((c.tc : Thread Cert.RmsResNorm.nD Cert.RmsResNorm.τ).loc Cert.RmsResNorm.main_arg1) = m ((c.tc : Thread Cert.RmsResNorm.nD Cert.RmsResNorm.τ).loc Cert.RmsResNorm.main_arg1)
      ∧ r.2.mem ((c.tc : Thread Cert.RmsResNorm.nD Cert.RmsResNorm.τ).loc Cert.RmsResNorm.main_arg2) = m ((c.tc : Thread Cert.RmsResNorm.nD Cert.RmsResNorm.τ).loc Cert.RmsResNorm.main_arg2)
      ∧ r.2.mem ((c.tc : Thread Cert.RmsResNorm.nD Cert.RmsResNorm.τ).loc Cert.RmsResNorm.main_arg3) = m ((c.tc : Thread Cert.RmsResNorm.nD Cert.RmsResNorm.τ).loc Cert.RmsResNorm.main_arg3))
      ∧ r.2.sem = fun _ => 0)

def quiescent_RmsResNormIdeal [hRmsResNormIdeal : Cert.RmsResNormIdeal.Facts] : Prop :=
  ∀ (m : (ℓ : Loc Cert.RmsResNormIdeal.nD Cert.RmsResNormIdeal.τ Cert.RmsResNormIdeal.sig) → Buf (Elt Ideal) ℓ) (g : Dev Cert.RmsResNormIdeal.nD → PrngReg), Pre_RmsResNormIdeal m →
    θ_run (Cert.RmsResNormIdeal.defs (F := Ideal)) (onTc (τ := Cert.RmsResNormIdeal.τ) (Cert.RmsResNormIdeal.main (F := Ideal))) ⟨m, fun _ => 0, g⟩ (fun r => (∀ c : Dev Cert.RmsResNormIdeal.nD,
      r.2.mem ((c.tc : Thread Cert.RmsResNormIdeal.nD Cert.RmsResNormIdeal.τ).loc Cert.RmsResNormIdeal.main_arg0) = m ((c.tc : Thread Cert.RmsResNormIdeal.nD Cert.RmsResNormIdeal.τ).loc Cert.RmsResNormIdeal.main_arg0)
      ∧ r.2.mem ((c.tc : Thread Cert.RmsResNormIdeal.nD Cert.RmsResNormIdeal.τ).loc Cert.RmsResNormIdeal.main_arg1) = m ((c.tc : Thread Cert.RmsResNormIdeal.nD Cert.RmsResNormIdeal.τ).loc Cert.RmsResNormIdeal.main_arg1)
      ∧ r.2.mem ((c.tc : Thread Cert.RmsResNormIdeal.nD Cert.RmsResNormIdeal.τ).loc Cert.RmsResNormIdeal.main_arg2) = m ((c.tc : Thread Cert.RmsResNormIdeal.nD Cert.RmsResNormIdeal.τ).loc Cert.RmsResNormIdeal.main_arg2)
      ∧ r.2.mem ((c.tc : Thread Cert.RmsResNormIdeal.nD Cert.RmsResNormIdeal.τ).loc Cert.RmsResNormIdeal.main_arg3) = m ((c.tc : Thread Cert.RmsResNormIdeal.nD Cert.RmsResNormIdeal.τ).loc Cert.RmsResNormIdeal.main_arg3))
      ∧ r.2.sem = fun _ => 0)

def quiescent_RmsResNormRefIdeal [hRmsResNormRefIdeal : Cert.RmsResNormRefIdeal.Facts] : Prop :=
  ∀ (m : (ℓ : Loc Cert.RmsResNormRefIdeal.nD Cert.RmsResNormRefIdeal.τ Cert.RmsResNormRefIdeal.sig) → Buf (Elt Ideal) ℓ) (g : Dev Cert.RmsResNormRefIdeal.nD → PrngReg), Pre_RmsResNormRefIdeal m →
    θ_run (Cert.RmsResNormRefIdeal.defs (F := Ideal)) (onTc (τ := Cert.RmsResNormRefIdeal.τ) (Cert.RmsResNormRefIdeal.main (F := Ideal))) ⟨m, fun _ => 0, g⟩ (fun r => (∀ c : Dev Cert.RmsResNormRefIdeal.nD,
      r.2.mem ((c.tc : Thread Cert.RmsResNormRefIdeal.nD Cert.RmsResNormRefIdeal.τ).loc Cert.RmsResNormRefIdeal.main_arg0) = m ((c.tc : Thread Cert.RmsResNormRefIdeal.nD Cert.RmsResNormRefIdeal.τ).loc Cert.RmsResNormRefIdeal.main_arg0)
      ∧ r.2.mem ((c.tc : Thread Cert.RmsResNormRefIdeal.nD Cert.RmsResNormRefIdeal.τ).loc Cert.RmsResNormRefIdeal.main_arg1) = m ((c.tc : Thread Cert.RmsResNormRefIdeal.nD Cert.RmsResNormRefIdeal.τ).loc Cert.RmsResNormRefIdeal.main_arg1)
      ∧ r.2.mem ((c.tc : Thread Cert.RmsResNormRefIdeal.nD Cert.RmsResNormRefIdeal.τ).loc Cert.RmsResNormRefIdeal.main_arg2) = m ((c.tc : Thread Cert.RmsResNormRefIdeal.nD Cert.RmsResNormRefIdeal.τ).loc Cert.RmsResNormRefIdeal.main_arg2)
      ∧ r.2.mem ((c.tc : Thread Cert.RmsResNormRefIdeal.nD Cert.RmsResNormRefIdeal.τ).loc Cert.RmsResNormRefIdeal.main_arg3) = m ((c.tc : Thread Cert.RmsResNormRefIdeal.nD Cert.RmsResNormRefIdeal.τ).loc Cert.RmsResNormRefIdeal.main_arg3))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_RmsChain [hRmsChain : Cert.RmsChain.Facts] : Prop :=
  ∀ (m : (ℓ : Loc Cert.RmsChain.nD Cert.RmsChain.τ Cert.RmsChain.sig) → Buf (Elt Bits) ℓ) (g : Dev Cert.RmsChain.nD → PrngReg), Pre_RmsChain m →
    θ_run (Cert.RmsChain.defs (F := Bits)) (onTc (τ := Cert.RmsChain.τ) (Cert.RmsChain.main (F := Bits))) ⟨m, fun _ => 0, g⟩ (fun r => (∀ c : Dev Cert.RmsChain.nD,
      r.2.mem ((c.tc : Thread Cert.RmsChain.nD Cert.RmsChain.τ).loc Cert.RmsChain.main_arg0) = m ((c.tc : Thread Cert.RmsChain.nD Cert.RmsChain.τ).loc Cert.RmsChain.main_arg0)
      ∧ r.2.mem ((c.tc : Thread Cert.RmsChain.nD Cert.RmsChain.τ).loc Cert.RmsChain.main_arg1) = m ((c.tc : Thread Cert.RmsChain.nD Cert.RmsChain.τ).loc Cert.RmsChain.main_arg1)
      ∧ r.2.mem ((c.tc : Thread Cert.RmsChain.nD Cert.RmsChain.τ).loc Cert.RmsChain.main_arg2) = m ((c.tc : Thread Cert.RmsChain.nD Cert.RmsChain.τ).loc Cert.RmsChain.main_arg2)
      ∧ r.2.mem ((c.tc : Thread Cert.RmsChain.nD Cert.RmsChain.τ).loc Cert.RmsChain.main_arg3) = m ((c.tc : Thread Cert.RmsChain.nD Cert.RmsChain.τ).loc Cert.RmsChain.main_arg3)
      ∧ r.2.mem ((c.tc : Thread Cert.RmsChain.nD Cert.RmsChain.τ).loc Cert.RmsChain.main_arg4) = m ((c.tc : Thread Cert.RmsChain.nD Cert.RmsChain.τ).loc Cert.RmsChain.main_arg4)
      ∧ r.2.mem ((c.tc : Thread Cert.RmsChain.nD Cert.RmsChain.τ).loc Cert.RmsChain.main_arg5) = m ((c.tc : Thread Cert.RmsChain.nD Cert.RmsChain.τ).loc Cert.RmsChain.main_arg5))
      ∧ r.2.sem = fun _ => 0)

def quiescent_RmsChainIdeal [hRmsChainIdeal : Cert.RmsChainIdeal.Facts] : Prop :=
  ∀ (m : (ℓ : Loc Cert.RmsChainIdeal.nD Cert.RmsChainIdeal.τ Cert.RmsChainIdeal.sig) → Buf (Elt Ideal) ℓ) (g : Dev Cert.RmsChainIdeal.nD → PrngReg), Pre_RmsChainIdeal m →
    θ_run (Cert.RmsChainIdeal.defs (F := Ideal)) (onTc (τ := Cert.RmsChainIdeal.τ) (Cert.RmsChainIdeal.main (F := Ideal))) ⟨m, fun _ => 0, g⟩ (fun r => (∀ c : Dev Cert.RmsChainIdeal.nD,
      r.2.mem ((c.tc : Thread Cert.RmsChainIdeal.nD Cert.RmsChainIdeal.τ).loc Cert.RmsChainIdeal.main_arg0) = m ((c.tc : Thread Cert.RmsChainIdeal.nD Cert.RmsChainIdeal.τ).loc Cert.RmsChainIdeal.main_arg0)
      ∧ r.2.mem ((c.tc : Thread Cert.RmsChainIdeal.nD Cert.RmsChainIdeal.τ).loc Cert.RmsChainIdeal.main_arg1) = m ((c.tc : Thread Cert.RmsChainIdeal.nD Cert.RmsChainIdeal.τ).loc Cert.RmsChainIdeal.main_arg1)
      ∧ r.2.mem ((c.tc : Thread Cert.RmsChainIdeal.nD Cert.RmsChainIdeal.τ).loc Cert.RmsChainIdeal.main_arg2) = m ((c.tc : Thread Cert.RmsChainIdeal.nD Cert.RmsChainIdeal.τ).loc Cert.RmsChainIdeal.main_arg2)
      ∧ r.2.mem ((c.tc : Thread Cert.RmsChainIdeal.nD Cert.RmsChainIdeal.τ).loc Cert.RmsChainIdeal.main_arg3) = m ((c.tc : Thread Cert.RmsChainIdeal.nD Cert.RmsChainIdeal.τ).loc Cert.RmsChainIdeal.main_arg3)
      ∧ r.2.mem ((c.tc : Thread Cert.RmsChainIdeal.nD Cert.RmsChainIdeal.τ).loc Cert.RmsChainIdeal.main_arg4) = m ((c.tc : Thread Cert.RmsChainIdeal.nD Cert.RmsChainIdeal.τ).loc Cert.RmsChainIdeal.main_arg4)
      ∧ r.2.mem ((c.tc : Thread Cert.RmsChainIdeal.nD Cert.RmsChainIdeal.τ).loc Cert.RmsChainIdeal.main_arg5) = m ((c.tc : Thread Cert.RmsChainIdeal.nD Cert.RmsChainIdeal.τ).loc Cert.RmsChainIdeal.main_arg5))
      ∧ r.2.sem = fun _ => 0)

def quiescent_RmsChainRefIdeal [hRmsChainRefIdeal : Cert.RmsChainRefIdeal.Facts] : Prop :=
  ∀ (m : (ℓ : Loc Cert.RmsChainRefIdeal.nD Cert.RmsChainRefIdeal.τ Cert.RmsChainRefIdeal.sig) → Buf (Elt Ideal) ℓ) (g : Dev Cert.RmsChainRefIdeal.nD → PrngReg), Pre_RmsChainRefIdeal m →
    θ_run (Cert.RmsChainRefIdeal.defs (F := Ideal)) (onTc (τ := Cert.RmsChainRefIdeal.τ) (Cert.RmsChainRefIdeal.main (F := Ideal))) ⟨m, fun _ => 0, g⟩ (fun r => (∀ c : Dev Cert.RmsChainRefIdeal.nD,
      r.2.mem ((c.tc : Thread Cert.RmsChainRefIdeal.nD Cert.RmsChainRefIdeal.τ).loc Cert.RmsChainRefIdeal.main_arg0) = m ((c.tc : Thread Cert.RmsChainRefIdeal.nD Cert.RmsChainRefIdeal.τ).loc Cert.RmsChainRefIdeal.main_arg0)
      ∧ r.2.mem ((c.tc : Thread Cert.RmsChainRefIdeal.nD Cert.RmsChainRefIdeal.τ).loc Cert.RmsChainRefIdeal.main_arg1) = m ((c.tc : Thread Cert.RmsChainRefIdeal.nD Cert.RmsChainRefIdeal.τ).loc Cert.RmsChainRefIdeal.main_arg1)
      ∧ r.2.mem ((c.tc : Thread Cert.RmsChainRefIdeal.nD Cert.RmsChainRefIdeal.τ).loc Cert.RmsChainRefIdeal.main_arg2) = m ((c.tc : Thread Cert.RmsChainRefIdeal.nD Cert.RmsChainRefIdeal.τ).loc Cert.RmsChainRefIdeal.main_arg2)
      ∧ r.2.mem ((c.tc : Thread Cert.RmsChainRefIdeal.nD Cert.RmsChainRefIdeal.τ).loc Cert.RmsChainRefIdeal.main_arg3) = m ((c.tc : Thread Cert.RmsChainRefIdeal.nD Cert.RmsChainRefIdeal.τ).loc Cert.RmsChainRefIdeal.main_arg3)
      ∧ r.2.mem ((c.tc : Thread Cert.RmsChainRefIdeal.nD Cert.RmsChainRefIdeal.τ).loc Cert.RmsChainRefIdeal.main_arg4) = m ((c.tc : Thread Cert.RmsChainRefIdeal.nD Cert.RmsChainRefIdeal.τ).loc Cert.RmsChainRefIdeal.main_arg4)
      ∧ r.2.mem ((c.tc : Thread Cert.RmsChainRefIdeal.nD Cert.RmsChainRefIdeal.τ).loc Cert.RmsChainRefIdeal.main_arg5) = m ((c.tc : Thread Cert.RmsChainRefIdeal.nD Cert.RmsChainRefIdeal.τ).loc Cert.RmsChainRefIdeal.main_arg5))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4)
      ∧ r.2.mem ((c.tc : Thread Cert.SguFwd.nD Cert.SguFwd.τ).loc Cert.SguFwd.main_arg5) = m ((c.tc : Thread Cert.SguFwd.nD Cert.SguFwd.τ).loc Cert.SguFwd.main_arg5))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
      ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4)
      ∧ r.2.mem ((c.tc : Thread Cert.SguFwdRefIdeal.nD Cert.SguFwdRefIdeal.τ).loc Cert.SguFwdRefIdeal.main_arg5) = m ((c.tc : Thread Cert.SguFwdRefIdeal.nD Cert.SguFwdRefIdeal.τ).loc Cert.SguFwdRefIdeal.main_arg5))
      ∧ r.2.sem = fun _ => 0)

def quiescent_LossGrad [hLossGrad : Cert.LossGrad.Facts] : Prop :=
  ∀ (m : (ℓ : Loc Cert.LossGrad.nD Cert.LossGrad.τ Cert.LossGrad.sig) → Buf (Elt Bits) ℓ) (g : Dev Cert.LossGrad.nD → PrngReg), Pre_LossGrad m →
    θ_run (Cert.LossGrad.defs (F := Bits)) (onTc (τ := Cert.LossGrad.τ) (Cert.LossGrad.main (F := Bits))) ⟨m, fun _ => 0, g⟩ (fun r => (∀ c : Dev Cert.LossGrad.nD,
      r.2.mem ((c.tc : Thread Cert.LossGrad.nD Cert.LossGrad.τ).loc Cert.LossGrad.main_arg0) = m ((c.tc : Thread Cert.LossGrad.nD Cert.LossGrad.τ).loc Cert.LossGrad.main_arg0)
      ∧ r.2.mem ((c.tc : Thread Cert.LossGrad.nD Cert.LossGrad.τ).loc Cert.LossGrad.main_arg1) = m ((c.tc : Thread Cert.LossGrad.nD Cert.LossGrad.τ).loc Cert.LossGrad.main_arg1)
      ∧ r.2.mem ((c.tc : Thread Cert.LossGrad.nD Cert.LossGrad.τ).loc Cert.LossGrad.main_arg2) = m ((c.tc : Thread Cert.LossGrad.nD Cert.LossGrad.τ).loc Cert.LossGrad.main_arg2)
      ∧ r.2.mem ((c.tc : Thread Cert.LossGrad.nD Cert.LossGrad.τ).loc Cert.LossGrad.main_arg3) = m ((c.tc : Thread Cert.LossGrad.nD Cert.LossGrad.τ).loc Cert.LossGrad.main_arg3))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2)
      ∧ r.2.mem ((c.tc : Thread Cert.LossGradIdeal.nD Cert.LossGradIdeal.τ).loc Cert.LossGradIdeal.main_arg3) = m ((c.tc : Thread Cert.LossGradIdeal.nD Cert.LossGradIdeal.τ).loc Cert.LossGradIdeal.main_arg3))
      ∧ r.2.sem = fun _ => 0)

def quiescent_LossGradRefIdeal [hLossGradRefIdeal : Cert.LossGradRefIdeal.Facts] : Prop :=
  ∀ (m : (ℓ : Loc Cert.LossGradRefIdeal.nD Cert.LossGradRefIdeal.τ Cert.LossGradRefIdeal.sig) → Buf (Elt Ideal) ℓ) (g : Dev Cert.LossGradRefIdeal.nD → PrngReg), Pre_LossGradRefIdeal m →
    θ_run (Cert.LossGradRefIdeal.defs (F := Ideal)) (onTc (τ := Cert.LossGradRefIdeal.τ) (Cert.LossGradRefIdeal.main (F := Ideal))) ⟨m, fun _ => 0, g⟩ (fun r => (∀ c : Dev Cert.LossGradRefIdeal.nD,
      r.2.mem ((c.tc : Thread Cert.LossGradRefIdeal.nD Cert.LossGradRefIdeal.τ).loc Cert.LossGradRefIdeal.main_arg0) = m ((c.tc : Thread Cert.LossGradRefIdeal.nD Cert.LossGradRefIdeal.τ).loc Cert.LossGradRefIdeal.main_arg0)
      ∧ r.2.mem ((c.tc : Thread Cert.LossGradRefIdeal.nD Cert.LossGradRefIdeal.τ).loc Cert.LossGradRefIdeal.main_arg1) = m ((c.tc : Thread Cert.LossGradRefIdeal.nD Cert.LossGradRefIdeal.τ).loc Cert.LossGradRefIdeal.main_arg1)
      ∧ r.2.mem ((c.tc : Thread Cert.LossGradRefIdeal.nD Cert.LossGradRefIdeal.τ).loc Cert.LossGradRefIdeal.main_arg2) = m ((c.tc : Thread Cert.LossGradRefIdeal.nD Cert.LossGradRefIdeal.τ).loc Cert.LossGradRefIdeal.main_arg2)
      ∧ r.2.mem ((c.tc : Thread Cert.LossGradRefIdeal.nD Cert.LossGradRefIdeal.τ).loc Cert.LossGradRefIdeal.main_arg3) = m ((c.tc : Thread Cert.LossGradRefIdeal.nD Cert.LossGradRefIdeal.τ).loc Cert.LossGradRefIdeal.main_arg3))
      ∧ r.2.sem = fun _ => 0)

def quiescent_AdamGain [hAdamGain : Cert.AdamGain.Facts] : Prop :=
  ∀ (m : (ℓ : Loc Cert.AdamGain.nD Cert.AdamGain.τ Cert.AdamGain.sig) → Buf (Elt Bits) ℓ) (g : Dev Cert.AdamGain.nD → PrngReg), Pre_AdamGain m →
    θ_run (Cert.AdamGain.defs (F := Bits)) (onTc (τ := Cert.AdamGain.τ) (Cert.AdamGain.main (F := Bits))) ⟨m, fun _ => 0, g⟩ (fun r => (∀ c : Dev Cert.AdamGain.nD,
      r.2.mem ((c.tc : Thread Cert.AdamGain.nD Cert.AdamGain.τ).loc Cert.AdamGain.main_arg0) = m ((c.tc : Thread Cert.AdamGain.nD Cert.AdamGain.τ).loc Cert.AdamGain.main_arg0)
      ∧ r.2.mem ((c.tc : Thread Cert.AdamGain.nD Cert.AdamGain.τ).loc Cert.AdamGain.main_arg1) = m ((c.tc : Thread Cert.AdamGain.nD Cert.AdamGain.τ).loc Cert.AdamGain.main_arg1)
      ∧ r.2.mem ((c.tc : Thread Cert.AdamGain.nD Cert.AdamGain.τ).loc Cert.AdamGain.main_arg2) = m ((c.tc : Thread Cert.AdamGain.nD Cert.AdamGain.τ).loc Cert.AdamGain.main_arg2)
      ∧ r.2.mem ((c.tc : Thread Cert.AdamGain.nD Cert.AdamGain.τ).loc Cert.AdamGain.main_arg3) = m ((c.tc : Thread Cert.AdamGain.nD Cert.AdamGain.τ).loc Cert.AdamGain.main_arg3))
      ∧ r.2.sem = fun _ => 0)

def quiescent_AdamGainIdeal [hAdamGainIdeal : Cert.AdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg), Pre_AdamGainIdeal m →
    θ_run (Cert.AdamGainIdeal.defs (F := Ideal)) (onTc (τ := Cert.AdamGainIdeal.τ) (Cert.AdamGainIdeal.main (F := Ideal))) ⟨m, fun _ => 0, g⟩ (fun r => (∀ c : Dev Cert.AdamGainIdeal.nD,
      r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
      ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
      ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
      ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ r.2.sem = fun _ => 0)

def quiescent_AdamGainRefIdeal [hAdamGainRefIdeal : Cert.AdamGainRefIdeal.Facts] : Prop :=
  ∀ (m : (ℓ : Loc Cert.AdamGainRefIdeal.nD Cert.AdamGainRefIdeal.τ Cert.AdamGainRefIdeal.sig) → Buf (Elt Ideal) ℓ) (g : Dev Cert.AdamGainRefIdeal.nD → PrngReg), Pre_AdamGainRefIdeal m →
    θ_run (Cert.AdamGainRefIdeal.defs (F := Ideal)) (onTc (τ := Cert.AdamGainRefIdeal.τ) (Cert.AdamGainRefIdeal.main (F := Ideal))) ⟨m, fun _ => 0, g⟩ (fun r => (∀ c : Dev Cert.AdamGainRefIdeal.nD,
      r.2.mem ((c.tc : Thread Cert.AdamGainRefIdeal.nD Cert.AdamGainRefIdeal.τ).loc Cert.AdamGainRefIdeal.main_arg0) = m ((c.tc : Thread Cert.AdamGainRefIdeal.nD Cert.AdamGainRefIdeal.τ).loc Cert.AdamGainRefIdeal.main_arg0)
      ∧ r.2.mem ((c.tc : Thread Cert.AdamGainRefIdeal.nD Cert.AdamGainRefIdeal.τ).loc Cert.AdamGainRefIdeal.main_arg1) = m ((c.tc : Thread Cert.AdamGainRefIdeal.nD Cert.AdamGainRefIdeal.τ).loc Cert.AdamGainRefIdeal.main_arg1)
      ∧ r.2.mem ((c.tc : Thread Cert.AdamGainRefIdeal.nD Cert.AdamGainRefIdeal.τ).loc Cert.AdamGainRefIdeal.main_arg2) = m ((c.tc : Thread Cert.AdamGainRefIdeal.nD Cert.AdamGainRefIdeal.τ).loc Cert.AdamGainRefIdeal.main_arg2)
      ∧ r.2.mem ((c.tc : Thread Cert.AdamGainRefIdeal.nD Cert.AdamGainRefIdeal.τ).loc Cert.AdamGainRefIdeal.main_arg3) = m ((c.tc : Thread Cert.AdamGainRefIdeal.nD Cert.AdamGainRefIdeal.τ).loc Cert.AdamGainRefIdeal.main_arg3))
      ∧ r.2.sem = fun _ => 0)

def quiescent_AdamGmlpBias [hAdamGmlpBias : Cert.AdamGmlpBias.Facts] : Prop :=
  ∀ (m : (ℓ : Loc Cert.AdamGmlpBias.nD Cert.AdamGmlpBias.τ Cert.AdamGmlpBias.sig) → Buf (Elt Bits) ℓ) (g : Dev Cert.AdamGmlpBias.nD → PrngReg), Pre_AdamGmlpBias m →
    θ_run (Cert.AdamGmlpBias.defs (F := Bits)) (onTc (τ := Cert.AdamGmlpBias.τ) (Cert.AdamGmlpBias.main (F := Bits))) ⟨m, fun _ => 0, g⟩ (fun r => (∀ c : Dev Cert.AdamGmlpBias.nD,
      r.2.mem ((c.tc : Thread Cert.AdamGmlpBias.nD Cert.AdamGmlpBias.τ).loc Cert.AdamGmlpBias.main_arg0) = m ((c.tc : Thread Cert.AdamGmlpBias.nD Cert.AdamGmlpBias.τ).loc Cert.AdamGmlpBias.main_arg0)
      ∧ r.2.mem ((c.tc : Thread Cert.AdamGmlpBias.nD Cert.AdamGmlpBias.τ).loc Cert.AdamGmlpBias.main_arg1) = m ((c.tc : Thread Cert.AdamGmlpBias.nD Cert.AdamGmlpBias.τ).loc Cert.AdamGmlpBias.main_arg1)
      ∧ r.2.mem ((c.tc : Thread Cert.AdamGmlpBias.nD Cert.AdamGmlpBias.τ).loc Cert.AdamGmlpBias.main_arg2) = m ((c.tc : Thread Cert.AdamGmlpBias.nD Cert.AdamGmlpBias.τ).loc Cert.AdamGmlpBias.main_arg2)
      ∧ r.2.mem ((c.tc : Thread Cert.AdamGmlpBias.nD Cert.AdamGmlpBias.τ).loc Cert.AdamGmlpBias.main_arg3) = m ((c.tc : Thread Cert.AdamGmlpBias.nD Cert.AdamGmlpBias.τ).loc Cert.AdamGmlpBias.main_arg3))
      ∧ r.2.sem = fun _ => 0)

def quiescent_AdamGmlpBiasIdeal [hAdamGmlpBiasIdeal : Cert.AdamGmlpBiasIdeal.Facts] : Prop :=
  ∀ (m : (ℓ : Loc Cert.AdamGmlpBiasIdeal.nD Cert.AdamGmlpBiasIdeal.τ Cert.AdamGmlpBiasIdeal.sig) → Buf (Elt Ideal) ℓ) (g : Dev Cert.AdamGmlpBiasIdeal.nD → PrngReg), Pre_AdamGmlpBiasIdeal m →
    θ_run (Cert.AdamGmlpBiasIdeal.defs (F := Ideal)) (onTc (τ := Cert.AdamGmlpBiasIdeal.τ) (Cert.AdamGmlpBiasIdeal.main (F := Ideal))) ⟨m, fun _ => 0, g⟩ (fun r => (∀ c : Dev Cert.AdamGmlpBiasIdeal.nD,
      r.2.mem ((c.tc : Thread Cert.AdamGmlpBiasIdeal.nD Cert.AdamGmlpBiasIdeal.τ).loc Cert.AdamGmlpBiasIdeal.main_arg0) = m ((c.tc : Thread Cert.AdamGmlpBiasIdeal.nD Cert.AdamGmlpBiasIdeal.τ).loc Cert.AdamGmlpBiasIdeal.main_arg0)
      ∧ r.2.mem ((c.tc : Thread Cert.AdamGmlpBiasIdeal.nD Cert.AdamGmlpBiasIdeal.τ).loc Cert.AdamGmlpBiasIdeal.main_arg1) = m ((c.tc : Thread Cert.AdamGmlpBiasIdeal.nD Cert.AdamGmlpBiasIdeal.τ).loc Cert.AdamGmlpBiasIdeal.main_arg1)
      ∧ r.2.mem ((c.tc : Thread Cert.AdamGmlpBiasIdeal.nD Cert.AdamGmlpBiasIdeal.τ).loc Cert.AdamGmlpBiasIdeal.main_arg2) = m ((c.tc : Thread Cert.AdamGmlpBiasIdeal.nD Cert.AdamGmlpBiasIdeal.τ).loc Cert.AdamGmlpBiasIdeal.main_arg2)
      ∧ r.2.mem ((c.tc : Thread Cert.AdamGmlpBiasIdeal.nD Cert.AdamGmlpBiasIdeal.τ).loc Cert.AdamGmlpBiasIdeal.main_arg3) = m ((c.tc : Thread Cert.AdamGmlpBiasIdeal.nD Cert.AdamGmlpBiasIdeal.τ).loc Cert.AdamGmlpBiasIdeal.main_arg3))
      ∧ r.2.sem = fun _ => 0)

def quiescent_AdamGmlpBiasRefIdeal [hAdamGmlpBiasRefIdeal : Cert.AdamGmlpBiasRefIdeal.Facts] : Prop :=
  ∀ (m : (ℓ : Loc Cert.AdamGmlpBiasRefIdeal.nD Cert.AdamGmlpBiasRefIdeal.τ Cert.AdamGmlpBiasRefIdeal.sig) → Buf (Elt Ideal) ℓ) (g : Dev Cert.AdamGmlpBiasRefIdeal.nD → PrngReg), Pre_AdamGmlpBiasRefIdeal m →
    θ_run (Cert.AdamGmlpBiasRefIdeal.defs (F := Ideal)) (onTc (τ := Cert.AdamGmlpBiasRefIdeal.τ) (Cert.AdamGmlpBiasRefIdeal.main (F := Ideal))) ⟨m, fun _ => 0, g⟩ (fun r => (∀ c : Dev Cert.AdamGmlpBiasRefIdeal.nD,
      r.2.mem ((c.tc : Thread Cert.AdamGmlpBiasRefIdeal.nD Cert.AdamGmlpBiasRefIdeal.τ).loc Cert.AdamGmlpBiasRefIdeal.main_arg0) = m ((c.tc : Thread Cert.AdamGmlpBiasRefIdeal.nD Cert.AdamGmlpBiasRefIdeal.τ).loc Cert.AdamGmlpBiasRefIdeal.main_arg0)
      ∧ r.2.mem ((c.tc : Thread Cert.AdamGmlpBiasRefIdeal.nD Cert.AdamGmlpBiasRefIdeal.τ).loc Cert.AdamGmlpBiasRefIdeal.main_arg1) = m ((c.tc : Thread Cert.AdamGmlpBiasRefIdeal.nD Cert.AdamGmlpBiasRefIdeal.τ).loc Cert.AdamGmlpBiasRefIdeal.main_arg1)
      ∧ r.2.mem ((c.tc : Thread Cert.AdamGmlpBiasRefIdeal.nD Cert.AdamGmlpBiasRefIdeal.τ).loc Cert.AdamGmlpBiasRefIdeal.main_arg2) = m ((c.tc : Thread Cert.AdamGmlpBiasRefIdeal.nD Cert.AdamGmlpBiasRefIdeal.τ).loc Cert.AdamGmlpBiasRefIdeal.main_arg2)
      ∧ r.2.mem ((c.tc : Thread Cert.AdamGmlpBiasRefIdeal.nD Cert.AdamGmlpBiasRefIdeal.τ).loc Cert.AdamGmlpBiasRefIdeal.main_arg3) = m ((c.tc : Thread Cert.AdamGmlpBiasRefIdeal.nD Cert.AdamGmlpBiasRefIdeal.τ).loc Cert.AdamGmlpBiasRefIdeal.main_arg3))
      ∧ r.2.sem = fun _ => 0)

def quiescent_AdamGmlpNorm [hAdamGmlpNorm : Cert.AdamGmlpNorm.Facts] : Prop :=
  ∀ (m : (ℓ : Loc Cert.AdamGmlpNorm.nD Cert.AdamGmlpNorm.τ Cert.AdamGmlpNorm.sig) → Buf (Elt Bits) ℓ) (g : Dev Cert.AdamGmlpNorm.nD → PrngReg), Pre_AdamGmlpNorm m →
    θ_run (Cert.AdamGmlpNorm.defs (F := Bits)) (onTc (τ := Cert.AdamGmlpNorm.τ) (Cert.AdamGmlpNorm.main (F := Bits))) ⟨m, fun _ => 0, g⟩ (fun r => (∀ c : Dev Cert.AdamGmlpNorm.nD,
      r.2.mem ((c.tc : Thread Cert.AdamGmlpNorm.nD Cert.AdamGmlpNorm.τ).loc Cert.AdamGmlpNorm.main_arg0) = m ((c.tc : Thread Cert.AdamGmlpNorm.nD Cert.AdamGmlpNorm.τ).loc Cert.AdamGmlpNorm.main_arg0)
      ∧ r.2.mem ((c.tc : Thread Cert.AdamGmlpNorm.nD Cert.AdamGmlpNorm.τ).loc Cert.AdamGmlpNorm.main_arg1) = m ((c.tc : Thread Cert.AdamGmlpNorm.nD Cert.AdamGmlpNorm.τ).loc Cert.AdamGmlpNorm.main_arg1)
      ∧ r.2.mem ((c.tc : Thread Cert.AdamGmlpNorm.nD Cert.AdamGmlpNorm.τ).loc Cert.AdamGmlpNorm.main_arg2) = m ((c.tc : Thread Cert.AdamGmlpNorm.nD Cert.AdamGmlpNorm.τ).loc Cert.AdamGmlpNorm.main_arg2)
      ∧ r.2.mem ((c.tc : Thread Cert.AdamGmlpNorm.nD Cert.AdamGmlpNorm.τ).loc Cert.AdamGmlpNorm.main_arg3) = m ((c.tc : Thread Cert.AdamGmlpNorm.nD Cert.AdamGmlpNorm.τ).loc Cert.AdamGmlpNorm.main_arg3))
      ∧ r.2.sem = fun _ => 0)

def quiescent_AdamGmlpNormIdeal [hAdamGmlpNormIdeal : Cert.AdamGmlpNormIdeal.Facts] : Prop :=
  ∀ (m : (ℓ : Loc Cert.AdamGmlpNormIdeal.nD Cert.AdamGmlpNormIdeal.τ Cert.AdamGmlpNormIdeal.sig) → Buf (Elt Ideal) ℓ) (g : Dev Cert.AdamGmlpNormIdeal.nD → PrngReg), Pre_AdamGmlpNormIdeal m →
    θ_run (Cert.AdamGmlpNormIdeal.defs (F := Ideal)) (onTc (τ := Cert.AdamGmlpNormIdeal.τ) (Cert.AdamGmlpNormIdeal.main (F := Ideal))) ⟨m, fun _ => 0, g⟩ (fun r => (∀ c : Dev Cert.AdamGmlpNormIdeal.nD,
      r.2.mem ((c.tc : Thread Cert.AdamGmlpNormIdeal.nD Cert.AdamGmlpNormIdeal.τ).loc Cert.AdamGmlpNormIdeal.main_arg0) = m ((c.tc : Thread Cert.AdamGmlpNormIdeal.nD Cert.AdamGmlpNormIdeal.τ).loc Cert.AdamGmlpNormIdeal.main_arg0)
      ∧ r.2.mem ((c.tc : Thread Cert.AdamGmlpNormIdeal.nD Cert.AdamGmlpNormIdeal.τ).loc Cert.AdamGmlpNormIdeal.main_arg1) = m ((c.tc : Thread Cert.AdamGmlpNormIdeal.nD Cert.AdamGmlpNormIdeal.τ).loc Cert.AdamGmlpNormIdeal.main_arg1)
      ∧ r.2.mem ((c.tc : Thread Cert.AdamGmlpNormIdeal.nD Cert.AdamGmlpNormIdeal.τ).loc Cert.AdamGmlpNormIdeal.main_arg2) = m ((c.tc : Thread Cert.AdamGmlpNormIdeal.nD Cert.AdamGmlpNormIdeal.τ).loc Cert.AdamGmlpNormIdeal.main_arg2)
      ∧ r.2.mem ((c.tc : Thread Cert.AdamGmlpNormIdeal.nD Cert.AdamGmlpNormIdeal.τ).loc Cert.AdamGmlpNormIdeal.main_arg3) = m ((c.tc : Thread Cert.AdamGmlpNormIdeal.nD Cert.AdamGmlpNormIdeal.τ).loc Cert.AdamGmlpNormIdeal.main_arg3))
      ∧ r.2.sem = fun _ => 0)

def quiescent_AdamGmlpNormRefIdeal [hAdamGmlpNormRefIdeal : Cert.AdamGmlpNormRefIdeal.Facts] : Prop :=
  ∀ (m : (ℓ : Loc Cert.AdamGmlpNormRefIdeal.nD Cert.AdamGmlpNormRefIdeal.τ Cert.AdamGmlpNormRefIdeal.sig) → Buf (Elt Ideal) ℓ) (g : Dev Cert.AdamGmlpNormRefIdeal.nD → PrngReg), Pre_AdamGmlpNormRefIdeal m →
    θ_run (Cert.AdamGmlpNormRefIdeal.defs (F := Ideal)) (onTc (τ := Cert.AdamGmlpNormRefIdeal.τ) (Cert.AdamGmlpNormRefIdeal.main (F := Ideal))) ⟨m, fun _ => 0, g⟩ (fun r => (∀ c : Dev Cert.AdamGmlpNormRefIdeal.nD,
      r.2.mem ((c.tc : Thread Cert.AdamGmlpNormRefIdeal.nD Cert.AdamGmlpNormRefIdeal.τ).loc Cert.AdamGmlpNormRefIdeal.main_arg0) = m ((c.tc : Thread Cert.AdamGmlpNormRefIdeal.nD Cert.AdamGmlpNormRefIdeal.τ).loc Cert.AdamGmlpNormRefIdeal.main_arg0)
      ∧ r.2.mem ((c.tc : Thread Cert.AdamGmlpNormRefIdeal.nD Cert.AdamGmlpNormRefIdeal.τ).loc Cert.AdamGmlpNormRefIdeal.main_arg1) = m ((c.tc : Thread Cert.AdamGmlpNormRefIdeal.nD Cert.AdamGmlpNormRefIdeal.τ).loc Cert.AdamGmlpNormRefIdeal.main_arg1)
      ∧ r.2.mem ((c.tc : Thread Cert.AdamGmlpNormRefIdeal.nD Cert.AdamGmlpNormRefIdeal.τ).loc Cert.AdamGmlpNormRefIdeal.main_arg2) = m ((c.tc : Thread Cert.AdamGmlpNormRefIdeal.nD Cert.AdamGmlpNormRefIdeal.τ).loc Cert.AdamGmlpNormRefIdeal.main_arg2)
      ∧ r.2.mem ((c.tc : Thread Cert.AdamGmlpNormRefIdeal.nD Cert.AdamGmlpNormRefIdeal.τ).loc Cert.AdamGmlpNormRefIdeal.main_arg3) = m ((c.tc : Thread Cert.AdamGmlpNormRefIdeal.nD Cert.AdamGmlpNormRefIdeal.τ).loc Cert.AdamGmlpNormRefIdeal.main_arg3))
      ∧ r.2.sem = fun _ => 0)

def quiescent_AdamMix [hAdamMix : Cert.AdamMix.Facts] : Prop :=
  ∀ (m : (ℓ : Loc Cert.AdamMix.nD Cert.AdamMix.τ Cert.AdamMix.sig) → Buf (Elt Bits) ℓ) (g : Dev Cert.AdamMix.nD → PrngReg), Pre_AdamMix m →
    θ_run (Cert.AdamMix.defs (F := Bits)) (onTc (τ := Cert.AdamMix.τ) (Cert.AdamMix.main (F := Bits))) ⟨m, fun _ => 0, g⟩ (fun r => (∀ c : Dev Cert.AdamMix.nD,
      r.2.mem ((c.tc : Thread Cert.AdamMix.nD Cert.AdamMix.τ).loc Cert.AdamMix.main_arg0) = m ((c.tc : Thread Cert.AdamMix.nD Cert.AdamMix.τ).loc Cert.AdamMix.main_arg0)
      ∧ r.2.mem ((c.tc : Thread Cert.AdamMix.nD Cert.AdamMix.τ).loc Cert.AdamMix.main_arg1) = m ((c.tc : Thread Cert.AdamMix.nD Cert.AdamMix.τ).loc Cert.AdamMix.main_arg1)
      ∧ r.2.mem ((c.tc : Thread Cert.AdamMix.nD Cert.AdamMix.τ).loc Cert.AdamMix.main_arg2) = m ((c.tc : Thread Cert.AdamMix.nD Cert.AdamMix.τ).loc Cert.AdamMix.main_arg2)
      ∧ r.2.mem ((c.tc : Thread Cert.AdamMix.nD Cert.AdamMix.τ).loc Cert.AdamMix.main_arg3) = m ((c.tc : Thread Cert.AdamMix.nD Cert.AdamMix.τ).loc Cert.AdamMix.main_arg3))
      ∧ r.2.sem = fun _ => 0)

def quiescent_AdamMixIdeal [hAdamMixIdeal : Cert.AdamMixIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg), Pre_AdamMixIdeal m →
    θ_run (Cert.AdamMixIdeal.defs (F := Ideal)) (onTc (τ := Cert.AdamMixIdeal.τ) (Cert.AdamMixIdeal.main (F := Ideal))) ⟨m, fun _ => 0, g⟩ (fun r => (∀ c : Dev Cert.AdamMixIdeal.nD,
      r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
      ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
      ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
      ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ r.2.sem = fun _ => 0)

def quiescent_AdamMixRefIdeal [hAdamMixRefIdeal : Cert.AdamMixRefIdeal.Facts] : Prop :=
  ∀ (m : (ℓ : Loc Cert.AdamMixRefIdeal.nD Cert.AdamMixRefIdeal.τ Cert.AdamMixRefIdeal.sig) → Buf (Elt Ideal) ℓ) (g : Dev Cert.AdamMixRefIdeal.nD → PrngReg), Pre_AdamMixRefIdeal m →
    θ_run (Cert.AdamMixRefIdeal.defs (F := Ideal)) (onTc (τ := Cert.AdamMixRefIdeal.τ) (Cert.AdamMixRefIdeal.main (F := Ideal))) ⟨m, fun _ => 0, g⟩ (fun r => (∀ c : Dev Cert.AdamMixRefIdeal.nD,
      r.2.mem ((c.tc : Thread Cert.AdamMixRefIdeal.nD Cert.AdamMixRefIdeal.τ).loc Cert.AdamMixRefIdeal.main_arg0) = m ((c.tc : Thread Cert.AdamMixRefIdeal.nD Cert.AdamMixRefIdeal.τ).loc Cert.AdamMixRefIdeal.main_arg0)
      ∧ r.2.mem ((c.tc : Thread Cert.AdamMixRefIdeal.nD Cert.AdamMixRefIdeal.τ).loc Cert.AdamMixRefIdeal.main_arg1) = m ((c.tc : Thread Cert.AdamMixRefIdeal.nD Cert.AdamMixRefIdeal.τ).loc Cert.AdamMixRefIdeal.main_arg1)
      ∧ r.2.mem ((c.tc : Thread Cert.AdamMixRefIdeal.nD Cert.AdamMixRefIdeal.τ).loc Cert.AdamMixRefIdeal.main_arg2) = m ((c.tc : Thread Cert.AdamMixRefIdeal.nD Cert.AdamMixRefIdeal.τ).loc Cert.AdamMixRefIdeal.main_arg2)
      ∧ r.2.mem ((c.tc : Thread Cert.AdamMixRefIdeal.nD Cert.AdamMixRefIdeal.τ).loc Cert.AdamMixRefIdeal.main_arg3) = m ((c.tc : Thread Cert.AdamMixRefIdeal.nD Cert.AdamMixRefIdeal.τ).loc Cert.AdamMixRefIdeal.main_arg3))
      ∧ r.2.sem = fun _ => 0)

def quiescent_AdamMixBias [hAdamMixBias : Cert.AdamMixBias.Facts] : Prop :=
  ∀ (m : (ℓ : Loc Cert.AdamMixBias.nD Cert.AdamMixBias.τ Cert.AdamMixBias.sig) → Buf (Elt Bits) ℓ) (g : Dev Cert.AdamMixBias.nD → PrngReg), Pre_AdamMixBias m →
    θ_run (Cert.AdamMixBias.defs (F := Bits)) (onTc (τ := Cert.AdamMixBias.τ) (Cert.AdamMixBias.main (F := Bits))) ⟨m, fun _ => 0, g⟩ (fun r => (∀ c : Dev Cert.AdamMixBias.nD,
      r.2.mem ((c.tc : Thread Cert.AdamMixBias.nD Cert.AdamMixBias.τ).loc Cert.AdamMixBias.main_arg0) = m ((c.tc : Thread Cert.AdamMixBias.nD Cert.AdamMixBias.τ).loc Cert.AdamMixBias.main_arg0)
      ∧ r.2.mem ((c.tc : Thread Cert.AdamMixBias.nD Cert.AdamMixBias.τ).loc Cert.AdamMixBias.main_arg1) = m ((c.tc : Thread Cert.AdamMixBias.nD Cert.AdamMixBias.τ).loc Cert.AdamMixBias.main_arg1)
      ∧ r.2.mem ((c.tc : Thread Cert.AdamMixBias.nD Cert.AdamMixBias.τ).loc Cert.AdamMixBias.main_arg2) = m ((c.tc : Thread Cert.AdamMixBias.nD Cert.AdamMixBias.τ).loc Cert.AdamMixBias.main_arg2)
      ∧ r.2.mem ((c.tc : Thread Cert.AdamMixBias.nD Cert.AdamMixBias.τ).loc Cert.AdamMixBias.main_arg3) = m ((c.tc : Thread Cert.AdamMixBias.nD Cert.AdamMixBias.τ).loc Cert.AdamMixBias.main_arg3))
      ∧ r.2.sem = fun _ => 0)

def quiescent_AdamMixBiasIdeal [hAdamMixBiasIdeal : Cert.AdamMixBiasIdeal.Facts] : Prop :=
  ∀ (m : (ℓ : Loc Cert.AdamMixBiasIdeal.nD Cert.AdamMixBiasIdeal.τ Cert.AdamMixBiasIdeal.sig) → Buf (Elt Ideal) ℓ) (g : Dev Cert.AdamMixBiasIdeal.nD → PrngReg), Pre_AdamMixBiasIdeal m →
    θ_run (Cert.AdamMixBiasIdeal.defs (F := Ideal)) (onTc (τ := Cert.AdamMixBiasIdeal.τ) (Cert.AdamMixBiasIdeal.main (F := Ideal))) ⟨m, fun _ => 0, g⟩ (fun r => (∀ c : Dev Cert.AdamMixBiasIdeal.nD,
      r.2.mem ((c.tc : Thread Cert.AdamMixBiasIdeal.nD Cert.AdamMixBiasIdeal.τ).loc Cert.AdamMixBiasIdeal.main_arg0) = m ((c.tc : Thread Cert.AdamMixBiasIdeal.nD Cert.AdamMixBiasIdeal.τ).loc Cert.AdamMixBiasIdeal.main_arg0)
      ∧ r.2.mem ((c.tc : Thread Cert.AdamMixBiasIdeal.nD Cert.AdamMixBiasIdeal.τ).loc Cert.AdamMixBiasIdeal.main_arg1) = m ((c.tc : Thread Cert.AdamMixBiasIdeal.nD Cert.AdamMixBiasIdeal.τ).loc Cert.AdamMixBiasIdeal.main_arg1)
      ∧ r.2.mem ((c.tc : Thread Cert.AdamMixBiasIdeal.nD Cert.AdamMixBiasIdeal.τ).loc Cert.AdamMixBiasIdeal.main_arg2) = m ((c.tc : Thread Cert.AdamMixBiasIdeal.nD Cert.AdamMixBiasIdeal.τ).loc Cert.AdamMixBiasIdeal.main_arg2)
      ∧ r.2.mem ((c.tc : Thread Cert.AdamMixBiasIdeal.nD Cert.AdamMixBiasIdeal.τ).loc Cert.AdamMixBiasIdeal.main_arg3) = m ((c.tc : Thread Cert.AdamMixBiasIdeal.nD Cert.AdamMixBiasIdeal.τ).loc Cert.AdamMixBiasIdeal.main_arg3))
      ∧ r.2.sem = fun _ => 0)

def quiescent_AdamMixBiasRefIdeal [hAdamMixBiasRefIdeal : Cert.AdamMixBiasRefIdeal.Facts] : Prop :=
  ∀ (m : (ℓ : Loc Cert.AdamMixBiasRefIdeal.nD Cert.AdamMixBiasRefIdeal.τ Cert.AdamMixBiasRefIdeal.sig) → Buf (Elt Ideal) ℓ) (g : Dev Cert.AdamMixBiasRefIdeal.nD → PrngReg), Pre_AdamMixBiasRefIdeal m →
    θ_run (Cert.AdamMixBiasRefIdeal.defs (F := Ideal)) (onTc (τ := Cert.AdamMixBiasRefIdeal.τ) (Cert.AdamMixBiasRefIdeal.main (F := Ideal))) ⟨m, fun _ => 0, g⟩ (fun r => (∀ c : Dev Cert.AdamMixBiasRefIdeal.nD,
      r.2.mem ((c.tc : Thread Cert.AdamMixBiasRefIdeal.nD Cert.AdamMixBiasRefIdeal.τ).loc Cert.AdamMixBiasRefIdeal.main_arg0) = m ((c.tc : Thread Cert.AdamMixBiasRefIdeal.nD Cert.AdamMixBiasRefIdeal.τ).loc Cert.AdamMixBiasRefIdeal.main_arg0)
      ∧ r.2.mem ((c.tc : Thread Cert.AdamMixBiasRefIdeal.nD Cert.AdamMixBiasRefIdeal.τ).loc Cert.AdamMixBiasRefIdeal.main_arg1) = m ((c.tc : Thread Cert.AdamMixBiasRefIdeal.nD Cert.AdamMixBiasRefIdeal.τ).loc Cert.AdamMixBiasRefIdeal.main_arg1)
      ∧ r.2.mem ((c.tc : Thread Cert.AdamMixBiasRefIdeal.nD Cert.AdamMixBiasRefIdeal.τ).loc Cert.AdamMixBiasRefIdeal.main_arg2) = m ((c.tc : Thread Cert.AdamMixBiasRefIdeal.nD Cert.AdamMixBiasRefIdeal.τ).loc Cert.AdamMixBiasRefIdeal.main_arg2)
      ∧ r.2.mem ((c.tc : Thread Cert.AdamMixBiasRefIdeal.nD Cert.AdamMixBiasRefIdeal.τ).loc Cert.AdamMixBiasRefIdeal.main_arg3) = m ((c.tc : Thread Cert.AdamMixBiasRefIdeal.nD Cert.AdamMixBiasRefIdeal.τ).loc Cert.AdamMixBiasRefIdeal.main_arg3))
      ∧ r.2.sem = fun _ => 0)

def quiescent_AdamAttnBias [hAdamAttnBias : Cert.AdamAttnBias.Facts] : Prop :=
  ∀ (m : (ℓ : Loc Cert.AdamAttnBias.nD Cert.AdamAttnBias.τ Cert.AdamAttnBias.sig) → Buf (Elt Bits) ℓ) (g : Dev Cert.AdamAttnBias.nD → PrngReg), Pre_AdamAttnBias m →
    θ_run (Cert.AdamAttnBias.defs (F := Bits)) (onTc (τ := Cert.AdamAttnBias.τ) (Cert.AdamAttnBias.main (F := Bits))) ⟨m, fun _ => 0, g⟩ (fun r => (∀ c : Dev Cert.AdamAttnBias.nD,
      r.2.mem ((c.tc : Thread Cert.AdamAttnBias.nD Cert.AdamAttnBias.τ).loc Cert.AdamAttnBias.main_arg0) = m ((c.tc : Thread Cert.AdamAttnBias.nD Cert.AdamAttnBias.τ).loc Cert.AdamAttnBias.main_arg0)
      ∧ r.2.mem ((c.tc : Thread Cert.AdamAttnBias.nD Cert.AdamAttnBias.τ).loc Cert.AdamAttnBias.main_arg1) = m ((c.tc : Thread Cert.AdamAttnBias.nD Cert.AdamAttnBias.τ).loc Cert.AdamAttnBias.main_arg1)
      ∧ r.2.mem ((c.tc : Thread Cert.AdamAttnBias.nD Cert.AdamAttnBias.τ).loc Cert.AdamAttnBias.main_arg2) = m ((c.tc : Thread Cert.AdamAttnBias.nD Cert.AdamAttnBias.τ).loc Cert.AdamAttnBias.main_arg2)
      ∧ r.2.mem ((c.tc : Thread Cert.AdamAttnBias.nD Cert.AdamAttnBias.τ).loc Cert.AdamAttnBias.main_arg3) = m ((c.tc : Thread Cert.AdamAttnBias.nD Cert.AdamAttnBias.τ).loc Cert.AdamAttnBias.main_arg3))
      ∧ r.2.sem = fun _ => 0)

def quiescent_AdamAttnBiasIdeal [hAdamAttnBiasIdeal : Cert.AdamAttnBiasIdeal.Facts] : Prop :=
  ∀ (m : (ℓ : Loc Cert.AdamAttnBiasIdeal.nD Cert.AdamAttnBiasIdeal.τ Cert.AdamAttnBiasIdeal.sig) → Buf (Elt Ideal) ℓ) (g : Dev Cert.AdamAttnBiasIdeal.nD → PrngReg), Pre_AdamAttnBiasIdeal m →
    θ_run (Cert.AdamAttnBiasIdeal.defs (F := Ideal)) (onTc (τ := Cert.AdamAttnBiasIdeal.τ) (Cert.AdamAttnBiasIdeal.main (F := Ideal))) ⟨m, fun _ => 0, g⟩ (fun r => (∀ c : Dev Cert.AdamAttnBiasIdeal.nD,
      r.2.mem ((c.tc : Thread Cert.AdamAttnBiasIdeal.nD Cert.AdamAttnBiasIdeal.τ).loc Cert.AdamAttnBiasIdeal.main_arg0) = m ((c.tc : Thread Cert.AdamAttnBiasIdeal.nD Cert.AdamAttnBiasIdeal.τ).loc Cert.AdamAttnBiasIdeal.main_arg0)
      ∧ r.2.mem ((c.tc : Thread Cert.AdamAttnBiasIdeal.nD Cert.AdamAttnBiasIdeal.τ).loc Cert.AdamAttnBiasIdeal.main_arg1) = m ((c.tc : Thread Cert.AdamAttnBiasIdeal.nD Cert.AdamAttnBiasIdeal.τ).loc Cert.AdamAttnBiasIdeal.main_arg1)
      ∧ r.2.mem ((c.tc : Thread Cert.AdamAttnBiasIdeal.nD Cert.AdamAttnBiasIdeal.τ).loc Cert.AdamAttnBiasIdeal.main_arg2) = m ((c.tc : Thread Cert.AdamAttnBiasIdeal.nD Cert.AdamAttnBiasIdeal.τ).loc Cert.AdamAttnBiasIdeal.main_arg2)
      ∧ r.2.mem ((c.tc : Thread Cert.AdamAttnBiasIdeal.nD Cert.AdamAttnBiasIdeal.τ).loc Cert.AdamAttnBiasIdeal.main_arg3) = m ((c.tc : Thread Cert.AdamAttnBiasIdeal.nD Cert.AdamAttnBiasIdeal.τ).loc Cert.AdamAttnBiasIdeal.main_arg3))
      ∧ r.2.sem = fun _ => 0)

def quiescent_AdamAttnBiasRefIdeal [hAdamAttnBiasRefIdeal : Cert.AdamAttnBiasRefIdeal.Facts] : Prop :=
  ∀ (m : (ℓ : Loc Cert.AdamAttnBiasRefIdeal.nD Cert.AdamAttnBiasRefIdeal.τ Cert.AdamAttnBiasRefIdeal.sig) → Buf (Elt Ideal) ℓ) (g : Dev Cert.AdamAttnBiasRefIdeal.nD → PrngReg), Pre_AdamAttnBiasRefIdeal m →
    θ_run (Cert.AdamAttnBiasRefIdeal.defs (F := Ideal)) (onTc (τ := Cert.AdamAttnBiasRefIdeal.τ) (Cert.AdamAttnBiasRefIdeal.main (F := Ideal))) ⟨m, fun _ => 0, g⟩ (fun r => (∀ c : Dev Cert.AdamAttnBiasRefIdeal.nD,
      r.2.mem ((c.tc : Thread Cert.AdamAttnBiasRefIdeal.nD Cert.AdamAttnBiasRefIdeal.τ).loc Cert.AdamAttnBiasRefIdeal.main_arg0) = m ((c.tc : Thread Cert.AdamAttnBiasRefIdeal.nD Cert.AdamAttnBiasRefIdeal.τ).loc Cert.AdamAttnBiasRefIdeal.main_arg0)
      ∧ r.2.mem ((c.tc : Thread Cert.AdamAttnBiasRefIdeal.nD Cert.AdamAttnBiasRefIdeal.τ).loc Cert.AdamAttnBiasRefIdeal.main_arg1) = m ((c.tc : Thread Cert.AdamAttnBiasRefIdeal.nD Cert.AdamAttnBiasRefIdeal.τ).loc Cert.AdamAttnBiasRefIdeal.main_arg1)
      ∧ r.2.mem ((c.tc : Thread Cert.AdamAttnBiasRefIdeal.nD Cert.AdamAttnBiasRefIdeal.τ).loc Cert.AdamAttnBiasRefIdeal.main_arg2) = m ((c.tc : Thread Cert.AdamAttnBiasRefIdeal.nD Cert.AdamAttnBiasRefIdeal.τ).loc Cert.AdamAttnBiasRefIdeal.main_arg2)
      ∧ r.2.mem ((c.tc : Thread Cert.AdamAttnBiasRefIdeal.nD Cert.AdamAttnBiasRefIdeal.τ).loc Cert.AdamAttnBiasRefIdeal.main_arg3) = m ((c.tc : Thread Cert.AdamAttnBiasRefIdeal.nD Cert.AdamAttnBiasRefIdeal.τ).loc Cert.AdamAttnBiasRefIdeal.main_arg3))
      ∧ r.2.sem = fun _ => 0)

def quiescent_AdamSinks [hAdamSinks : Cert.AdamSinks.Facts] : Prop :=
  ∀ (m : (ℓ : Loc Cert.AdamSinks.nD Cert.AdamSinks.τ Cert.AdamSinks.sig) → Buf (Elt Bits) ℓ) (g : Dev Cert.AdamSinks.nD → PrngReg), Pre_AdamSinks m →
    θ_run (Cert.AdamSinks.defs (F := Bits)) (onTc (τ := Cert.AdamSinks.τ) (Cert.AdamSinks.main (F := Bits))) ⟨m, fun _ => 0, g⟩ (fun r => (∀ c : Dev Cert.AdamSinks.nD,
      r.2.mem ((c.tc : Thread Cert.AdamSinks.nD Cert.AdamSinks.τ).loc Cert.AdamSinks.main_arg0) = m ((c.tc : Thread Cert.AdamSinks.nD Cert.AdamSinks.τ).loc Cert.AdamSinks.main_arg0)
      ∧ r.2.mem ((c.tc : Thread Cert.AdamSinks.nD Cert.AdamSinks.τ).loc Cert.AdamSinks.main_arg1) = m ((c.tc : Thread Cert.AdamSinks.nD Cert.AdamSinks.τ).loc Cert.AdamSinks.main_arg1)
      ∧ r.2.mem ((c.tc : Thread Cert.AdamSinks.nD Cert.AdamSinks.τ).loc Cert.AdamSinks.main_arg2) = m ((c.tc : Thread Cert.AdamSinks.nD Cert.AdamSinks.τ).loc Cert.AdamSinks.main_arg2)
      ∧ r.2.mem ((c.tc : Thread Cert.AdamSinks.nD Cert.AdamSinks.τ).loc Cert.AdamSinks.main_arg3) = m ((c.tc : Thread Cert.AdamSinks.nD Cert.AdamSinks.τ).loc Cert.AdamSinks.main_arg3))
      ∧ r.2.sem = fun _ => 0)

def quiescent_AdamSinksIdeal [hAdamSinksIdeal : Cert.AdamSinksIdeal.Facts] : Prop :=
  ∀ (m : (ℓ : Loc Cert.AdamSinksIdeal.nD Cert.AdamSinksIdeal.τ Cert.AdamSinksIdeal.sig) → Buf (Elt Ideal) ℓ) (g : Dev Cert.AdamSinksIdeal.nD → PrngReg), Pre_AdamSinksIdeal m →
    θ_run (Cert.AdamSinksIdeal.defs (F := Ideal)) (onTc (τ := Cert.AdamSinksIdeal.τ) (Cert.AdamSinksIdeal.main (F := Ideal))) ⟨m, fun _ => 0, g⟩ (fun r => (∀ c : Dev Cert.AdamSinksIdeal.nD,
      r.2.mem ((c.tc : Thread Cert.AdamSinksIdeal.nD Cert.AdamSinksIdeal.τ).loc Cert.AdamSinksIdeal.main_arg0) = m ((c.tc : Thread Cert.AdamSinksIdeal.nD Cert.AdamSinksIdeal.τ).loc Cert.AdamSinksIdeal.main_arg0)
      ∧ r.2.mem ((c.tc : Thread Cert.AdamSinksIdeal.nD Cert.AdamSinksIdeal.τ).loc Cert.AdamSinksIdeal.main_arg1) = m ((c.tc : Thread Cert.AdamSinksIdeal.nD Cert.AdamSinksIdeal.τ).loc Cert.AdamSinksIdeal.main_arg1)
      ∧ r.2.mem ((c.tc : Thread Cert.AdamSinksIdeal.nD Cert.AdamSinksIdeal.τ).loc Cert.AdamSinksIdeal.main_arg2) = m ((c.tc : Thread Cert.AdamSinksIdeal.nD Cert.AdamSinksIdeal.τ).loc Cert.AdamSinksIdeal.main_arg2)
      ∧ r.2.mem ((c.tc : Thread Cert.AdamSinksIdeal.nD Cert.AdamSinksIdeal.τ).loc Cert.AdamSinksIdeal.main_arg3) = m ((c.tc : Thread Cert.AdamSinksIdeal.nD Cert.AdamSinksIdeal.τ).loc Cert.AdamSinksIdeal.main_arg3))
      ∧ r.2.sem = fun _ => 0)

def quiescent_AdamSinksRefIdeal [hAdamSinksRefIdeal : Cert.AdamSinksRefIdeal.Facts] : Prop :=
  ∀ (m : (ℓ : Loc Cert.AdamSinksRefIdeal.nD Cert.AdamSinksRefIdeal.τ Cert.AdamSinksRefIdeal.sig) → Buf (Elt Ideal) ℓ) (g : Dev Cert.AdamSinksRefIdeal.nD → PrngReg), Pre_AdamSinksRefIdeal m →
    θ_run (Cert.AdamSinksRefIdeal.defs (F := Ideal)) (onTc (τ := Cert.AdamSinksRefIdeal.τ) (Cert.AdamSinksRefIdeal.main (F := Ideal))) ⟨m, fun _ => 0, g⟩ (fun r => (∀ c : Dev Cert.AdamSinksRefIdeal.nD,
      r.2.mem ((c.tc : Thread Cert.AdamSinksRefIdeal.nD Cert.AdamSinksRefIdeal.τ).loc Cert.AdamSinksRefIdeal.main_arg0) = m ((c.tc : Thread Cert.AdamSinksRefIdeal.nD Cert.AdamSinksRefIdeal.τ).loc Cert.AdamSinksRefIdeal.main_arg0)
      ∧ r.2.mem ((c.tc : Thread Cert.AdamSinksRefIdeal.nD Cert.AdamSinksRefIdeal.τ).loc Cert.AdamSinksRefIdeal.main_arg1) = m ((c.tc : Thread Cert.AdamSinksRefIdeal.nD Cert.AdamSinksRefIdeal.τ).loc Cert.AdamSinksRefIdeal.main_arg1)
      ∧ r.2.mem ((c.tc : Thread Cert.AdamSinksRefIdeal.nD Cert.AdamSinksRefIdeal.τ).loc Cert.AdamSinksRefIdeal.main_arg2) = m ((c.tc : Thread Cert.AdamSinksRefIdeal.nD Cert.AdamSinksRefIdeal.τ).loc Cert.AdamSinksRefIdeal.main_arg2)
      ∧ r.2.mem ((c.tc : Thread Cert.AdamSinksRefIdeal.nD Cert.AdamSinksRefIdeal.τ).loc Cert.AdamSinksRefIdeal.main_arg3) = m ((c.tc : Thread Cert.AdamSinksRefIdeal.nD Cert.AdamSinksRefIdeal.τ).loc Cert.AdamSinksRefIdeal.main_arg3))
      ∧ r.2.sem = fun _ => 0)

def preserves_Kernel_KernelIdeal : Prop :=
  IdealRules.named_const.Statement Cert.KernelIdeal.κ "sqrt_half" .f32 0x3F3504F3#32 ((Real.sqrt (1 / 2) : ℝ) : EReal)
  ∧ IdealRules.named_const.Statement Cert.KernelIdeal.κ "inv_sqrt_2pi" .f32 0x3ECC422A#32 (((9465531 / 16777216) * (Real.sqrt (1 / 2)) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_v122) = v3 c
          ∧ r.2.mem ((c.tc : Thread Cert.ReferenceIdeal.nD Cert.ReferenceIdeal.τ).loc Cert.ReferenceIdeal.main_v123) = v4 c
          ∧ r.2.mem ((c.tc : Thread Cert.ReferenceIdeal.nD Cert.ReferenceIdeal.τ).loc Cert.ReferenceIdeal.main_v124) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_FfnUp_FfnUpIdeal : Prop :=
  True

def algebraic_FfnUpIdeal_FfnUpRefIdeal_pre_finite_up [hFfnUpIdeal : Cert.FfnUpIdeal.Facts] [hFfnUpRefIdeal : Cert.FfnUpRefIdeal.Facts] [hPre_finite_up : Cert.Pre_finite_up.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal_finite_up m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v1_0)) (v1 : (c : Dev Cert.FfnUpIdeal.nD) → Buf (Elt Ideal) ((c.tc : Thread Cert.FfnUpIdeal.nD Cert.FfnUpIdeal.τ).loc Cert.FfnUpIdeal.main_v1_1)) (v2 : (c : Dev Cert.FfnUpIdeal.nD) → Buf (Elt Ideal) ((c.tc : Thread Cert.FfnUpIdeal.nD Cert.FfnUpIdeal.τ).loc Cert.FfnUpIdeal.main_v1_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v1_0) = v0 c
          ∧ r.2.mem ((c.tc : Thread Cert.FfnUpIdeal.nD Cert.FfnUpIdeal.τ).loc Cert.FfnUpIdeal.main_v1_1) = v1 c
          ∧ r.2.mem ((c.tc : Thread Cert.FfnUpIdeal.nD Cert.FfnUpIdeal.τ).loc Cert.FfnUpIdeal.main_v1_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v11) = v0 c
          ∧ r.2.mem ((c.tc : Thread Cert.FfnUpRefIdeal.nD Cert.FfnUpRefIdeal.τ).loc Cert.FfnUpRefIdeal.main_v12) = v1 c
          ∧ r.2.mem ((c.tc : Thread Cert.FfnUpRefIdeal.nD Cert.FfnUpRefIdeal.τ).loc Cert.FfnUpRefIdeal.main_v13) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_FfnDownDx_FfnDownDxIdeal : Prop :=
  True

def algebraic_FfnDownDxIdeal_FfnDownDxRefIdeal_pre_finite_down [hFfnDownDxIdeal : Cert.FfnDownDxIdeal.Facts] [hFfnDownDxRefIdeal : Cert.FfnDownDxRefIdeal.Facts] [hPre_finite_down : Cert.Pre_finite_down.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg)
    (m' : (ℓ : Loc Cert.FfnDownDxRefIdeal.nD Cert.FfnDownDxRefIdeal.τ Cert.FfnDownDxRefIdeal.sig) → Buf (Elt Ideal) ℓ) (g' : Dev Cert.FfnDownDxRefIdeal.nD → PrngReg), Pre_FfnDownDxIdeal_finite_down m →
    (∀ c : Dev Cert.FfnDownDxIdeal.nD,
      m' ((c.tc : Thread Cert.FfnDownDxRefIdeal.nD Cert.FfnDownDxRefIdeal.τ).loc Cert.FfnDownDxRefIdeal.main_arg0) = m ((c.tc : Thread Cert.FfnDownDxIdeal.nD Cert.FfnDownDxIdeal.τ).loc Cert.FfnDownDxIdeal.main_arg0)
      ∧ m' ((c.tc : Thread Cert.FfnDownDxRefIdeal.nD Cert.FfnDownDxRefIdeal.τ).loc Cert.FfnDownDxRefIdeal.main_arg1) = m ((c.tc : Thread Cert.FfnDownDxIdeal.nD Cert.FfnDownDxIdeal.τ).loc Cert.FfnDownDxIdeal.main_arg1)
      ∧ m' ((c.tc : Thread Cert.FfnDownDxRefIdeal.nD Cert.FfnDownDxRefIdeal.τ).loc Cert.FfnDownDxRefIdeal.main_arg2) = m ((c.tc : Thread Cert.FfnDownDxIdeal.nD Cert.FfnDownDxIdeal.τ).loc Cert.FfnDownDxIdeal.main_arg2)
      ∧ m' ((c.tc : Thread Cert.FfnDownDxRefIdeal.nD Cert.FfnDownDxRefIdeal.τ).loc Cert.FfnDownDxRefIdeal.main_arg3) = m ((c.tc : Thread Cert.FfnDownDxIdeal.nD Cert.FfnDownDxIdeal.τ).loc Cert.FfnDownDxIdeal.main_arg3)
      ∧ m' ((c.tc : Thread Cert.FfnDownDxRefIdeal.nD Cert.FfnDownDxRefIdeal.τ).loc Cert.FfnDownDxRefIdeal.main_arg4) = m ((c.tc : Thread Cert.FfnDownDxIdeal.nD Cert.FfnDownDxIdeal.τ).loc Cert.FfnDownDxIdeal.main_arg4)) →
    ∃ (v0 : (c : Dev Cert.FfnDownDxIdeal.nD) → Buf (Elt Ideal) ((c.tc : Thread Cert.FfnDownDxIdeal.nD Cert.FfnDownDxIdeal.τ).loc Cert.FfnDownDxIdeal.main_v3_0)) (v1 : (c : Dev Cert.FfnDownDxIdeal.nD) → Buf (Elt Ideal) ((c.tc : Thread Cert.FfnDownDxIdeal.nD Cert.FfnDownDxIdeal.τ).loc Cert.FfnDownDxIdeal.main_v3_1)),
      θ_run (Cert.FfnDownDxIdeal.defs (F := Ideal)) (onTc (τ := Cert.FfnDownDxIdeal.τ) (Cert.FfnDownDxIdeal.main (F := Ideal))) ⟨m, fun _ => 0, g⟩ (fun r => ∀ c : Dev Cert.FfnDownDxIdeal.nD,
          r.2.mem ((c.tc : Thread Cert.FfnDownDxIdeal.nD Cert.FfnDownDxIdeal.τ).loc Cert.FfnDownDxIdeal.main_v3_0) = v0 c
          ∧ r.2.mem ((c.tc : Thread Cert.FfnDownDxIdeal.nD Cert.FfnDownDxIdeal.τ).loc Cert.FfnDownDxIdeal.main_v3_1) = v1 c
          ∧ r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
          ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1)
          ∧ r.2.mem ((c.tc : Thread Cert.FfnDownDxIdeal.nD Cert.FfnDownDxIdeal.τ).loc Cert.FfnDownDxIdeal.main_arg2) = m ((c.tc : Thread Cert.FfnDownDxIdeal.nD Cert.FfnDownDxIdeal.τ).loc Cert.FfnDownDxIdeal.main_arg2)
          ∧ r.2.mem ((c.tc : Thread Cert.FfnDownDxIdeal.nD Cert.FfnDownDxIdeal.τ).loc Cert.FfnDownDxIdeal.main_arg3) = m ((c.tc : Thread Cert.FfnDownDxIdeal.nD Cert.FfnDownDxIdeal.τ).loc Cert.FfnDownDxIdeal.main_arg3)
          ∧ r.2.mem ((c.tc : Thread Cert.FfnDownDxIdeal.nD Cert.FfnDownDxIdeal.τ).loc Cert.FfnDownDxIdeal.main_arg4) = m ((c.tc : Thread Cert.FfnDownDxIdeal.nD Cert.FfnDownDxIdeal.τ).loc Cert.FfnDownDxIdeal.main_arg4))
      ∧ θ_run (Cert.FfnDownDxRefIdeal.defs (F := Ideal)) (onTc (τ := Cert.FfnDownDxRefIdeal.τ) (Cert.FfnDownDxRefIdeal.main (F := Ideal))) ⟨m', fun _ => 0, g'⟩ (fun r => ∀ c : Dev Cert.FfnDownDxRefIdeal.nD,
          r.2.mem ((c.tc : Thread Cert.FfnDownDxRefIdeal.nD Cert.FfnDownDxRefIdeal.τ).loc Cert.FfnDownDxRefIdeal.main_v14) = v0 c
          ∧ r.2.mem ((c.tc : Thread Cert.FfnDownDxRefIdeal.nD Cert.FfnDownDxRefIdeal.τ).loc Cert.FfnDownDxRefIdeal.main_v15) = v1 c
          ∧ r.2.mem ((c.tc : Thread Cert.FfnDownDxRefIdeal.nD Cert.FfnDownDxRefIdeal.τ).loc Cert.FfnDownDxRefIdeal.main_arg0) = m' ((c.tc : Thread Cert.FfnDownDxRefIdeal.nD Cert.FfnDownDxRefIdeal.τ).loc Cert.FfnDownDxRefIdeal.main_arg0)
          ∧ r.2.mem ((c.tc : Thread Cert.FfnDownDxRefIdeal.nD Cert.FfnDownDxRefIdeal.τ).loc Cert.FfnDownDxRefIdeal.main_arg1) = m' ((c.tc : Thread Cert.FfnDownDxRefIdeal.nD Cert.FfnDownDxRefIdeal.τ).loc Cert.FfnDownDxRefIdeal.main_arg1)
          ∧ r.2.mem ((c.tc : Thread Cert.FfnDownDxRefIdeal.nD Cert.FfnDownDxRefIdeal.τ).loc Cert.FfnDownDxRefIdeal.main_arg2) = m' ((c.tc : Thread Cert.FfnDownDxRefIdeal.nD Cert.FfnDownDxRefIdeal.τ).loc Cert.FfnDownDxRefIdeal.main_arg2)
          ∧ r.2.mem ((c.tc : Thread Cert.FfnDownDxRefIdeal.nD Cert.FfnDownDxRefIdeal.τ).loc Cert.FfnDownDxRefIdeal.main_arg3) = m' ((c.tc : Thread Cert.FfnDownDxRefIdeal.nD Cert.FfnDownDxRefIdeal.τ).loc Cert.FfnDownDxRefIdeal.main_arg3)
          ∧ r.2.mem ((c.tc : Thread Cert.FfnDownDxRefIdeal.nD Cert.FfnDownDxRefIdeal.τ).loc Cert.FfnDownDxRefIdeal.main_arg4) = m' ((c.tc : Thread Cert.FfnDownDxRefIdeal.nD Cert.FfnDownDxRefIdeal.τ).loc Cert.FfnDownDxRefIdeal.main_arg4))

def preserves_FfnGuDx_FfnGuDxIdeal : Prop :=
  True

def algebraic_FfnGuDxIdeal_FfnGuDxRefIdeal [hFfnGuDxIdeal : Cert.FfnGuDxIdeal.Facts] [hFfnGuDxRefIdeal : Cert.FfnGuDxRefIdeal.Facts] : Prop :=
  ∀ (m : (ℓ : Loc Cert.FfnGuDxIdeal.nD Cert.FfnGuDxIdeal.τ Cert.FfnGuDxIdeal.sig) → Buf (Elt Ideal) ℓ) (g : Dev Cert.FfnGuDxIdeal.nD → PrngReg)
    (m' : (ℓ : Loc Cert.FfnGuDxRefIdeal.nD Cert.FfnGuDxRefIdeal.τ Cert.FfnGuDxRefIdeal.sig) → Buf (Elt Ideal) ℓ) (g' : Dev Cert.FfnGuDxRefIdeal.nD → PrngReg), Pre_FfnGuDxIdeal m →
    (∀ c : Dev Cert.FfnGuDxIdeal.nD,
      m' ((c.tc : Thread Cert.FfnGuDxRefIdeal.nD Cert.FfnGuDxRefIdeal.τ).loc Cert.FfnGuDxRefIdeal.main_arg0) = m ((c.tc : Thread Cert.FfnGuDxIdeal.nD Cert.FfnGuDxIdeal.τ).loc Cert.FfnGuDxIdeal.main_arg0)
      ∧ m' ((c.tc : Thread Cert.FfnGuDxRefIdeal.nD Cert.FfnGuDxRefIdeal.τ).loc Cert.FfnGuDxRefIdeal.main_arg1) = m ((c.tc : Thread Cert.FfnGuDxIdeal.nD Cert.FfnGuDxIdeal.τ).loc Cert.FfnGuDxIdeal.main_arg1)
      ∧ m' ((c.tc : Thread Cert.FfnGuDxRefIdeal.nD Cert.FfnGuDxRefIdeal.τ).loc Cert.FfnGuDxRefIdeal.main_arg2) = m ((c.tc : Thread Cert.FfnGuDxIdeal.nD Cert.FfnGuDxIdeal.τ).loc Cert.FfnGuDxIdeal.main_arg2)) →
    ∃ (v0 : (c : Dev Cert.FfnGuDxIdeal.nD) → Buf (Elt Ideal) ((c.tc : Thread Cert.FfnGuDxIdeal.nD Cert.FfnGuDxIdeal.τ).loc Cert.FfnGuDxIdeal.main_v0)),
      θ_run (Cert.FfnGuDxIdeal.defs (F := Ideal)) (onTc (τ := Cert.FfnGuDxIdeal.τ) (Cert.FfnGuDxIdeal.main (F := Ideal))) ⟨m, fun _ => 0, g⟩ (fun r => ∀ c : Dev Cert.FfnGuDxIdeal.nD,
          r.2.mem ((c.tc : Thread Cert.FfnGuDxIdeal.nD Cert.FfnGuDxIdeal.τ).loc Cert.FfnGuDxIdeal.main_v0) = v0 c
          ∧ r.2.mem ((c.tc : Thread Cert.FfnGuDxIdeal.nD Cert.FfnGuDxIdeal.τ).loc Cert.FfnGuDxIdeal.main_arg0) = m ((c.tc : Thread Cert.FfnGuDxIdeal.nD Cert.FfnGuDxIdeal.τ).loc Cert.FfnGuDxIdeal.main_arg0)
          ∧ r.2.mem ((c.tc : Thread Cert.FfnGuDxIdeal.nD Cert.FfnGuDxIdeal.τ).loc Cert.FfnGuDxIdeal.main_arg1) = m ((c.tc : Thread Cert.FfnGuDxIdeal.nD Cert.FfnGuDxIdeal.τ).loc Cert.FfnGuDxIdeal.main_arg1)
          ∧ r.2.mem ((c.tc : Thread Cert.FfnGuDxIdeal.nD Cert.FfnGuDxIdeal.τ).loc Cert.FfnGuDxIdeal.main_arg2) = m ((c.tc : Thread Cert.FfnGuDxIdeal.nD Cert.FfnGuDxIdeal.τ).loc Cert.FfnGuDxIdeal.main_arg2))
      ∧ θ_run (Cert.FfnGuDxRefIdeal.defs (F := Ideal)) (onTc (τ := Cert.FfnGuDxRefIdeal.τ) (Cert.FfnGuDxRefIdeal.main (F := Ideal))) ⟨m', fun _ => 0, g'⟩ (fun r => ∀ c : Dev Cert.FfnGuDxRefIdeal.nD,
          r.2.mem ((c.tc : Thread Cert.FfnGuDxRefIdeal.nD Cert.FfnGuDxRefIdeal.τ).loc Cert.FfnGuDxRefIdeal.main_v8) = v0 c
          ∧ r.2.mem ((c.tc : Thread Cert.FfnGuDxRefIdeal.nD Cert.FfnGuDxRefIdeal.τ).loc Cert.FfnGuDxRefIdeal.main_arg0) = m' ((c.tc : Thread Cert.FfnGuDxRefIdeal.nD Cert.FfnGuDxRefIdeal.τ).loc Cert.FfnGuDxRefIdeal.main_arg0)
          ∧ r.2.mem ((c.tc : Thread Cert.FfnGuDxRefIdeal.nD Cert.FfnGuDxRefIdeal.τ).loc Cert.FfnGuDxRefIdeal.main_arg1) = m' ((c.tc : Thread Cert.FfnGuDxRefIdeal.nD Cert.FfnGuDxRefIdeal.τ).loc Cert.FfnGuDxRefIdeal.main_arg1)
          ∧ r.2.mem ((c.tc : Thread Cert.FfnGuDxRefIdeal.nD Cert.FfnGuDxRefIdeal.τ).loc Cert.FfnGuDxRefIdeal.main_arg2) = m' ((c.tc : Thread Cert.FfnGuDxRefIdeal.nD Cert.FfnGuDxRefIdeal.τ).loc Cert.FfnGuDxRefIdeal.main_arg2))

def preserves_FfnGuDw_FfnGuDwIdeal : Prop :=
  True

def algebraic_FfnGuDwIdeal_FfnGuDwRefIdeal [hFfnGuDwIdeal : Cert.FfnGuDwIdeal.Facts] [hFfnGuDwRefIdeal : Cert.FfnGuDwRefIdeal.Facts] : Prop :=
  ∀ (m : (ℓ : Loc Cert.FfnGuDwIdeal.nD Cert.FfnGuDwIdeal.τ Cert.FfnGuDwIdeal.sig) → Buf (Elt Ideal) ℓ) (g : Dev Cert.FfnGuDwIdeal.nD → PrngReg)
    (m' : (ℓ : Loc Cert.FfnGuDwRefIdeal.nD Cert.FfnGuDwRefIdeal.τ Cert.FfnGuDwRefIdeal.sig) → Buf (Elt Ideal) ℓ) (g' : Dev Cert.FfnGuDwRefIdeal.nD → PrngReg), Pre_FfnGuDwIdeal m →
    (∀ c : Dev Cert.FfnGuDwIdeal.nD,
      m' ((c.tc : Thread Cert.FfnGuDwRefIdeal.nD Cert.FfnGuDwRefIdeal.τ).loc Cert.FfnGuDwRefIdeal.main_arg0) = m ((c.tc : Thread Cert.FfnGuDwIdeal.nD Cert.FfnGuDwIdeal.τ).loc Cert.FfnGuDwIdeal.main_arg0)
      ∧ m' ((c.tc : Thread Cert.FfnGuDwRefIdeal.nD Cert.FfnGuDwRefIdeal.τ).loc Cert.FfnGuDwRefIdeal.main_arg1) = m ((c.tc : Thread Cert.FfnGuDwIdeal.nD Cert.FfnGuDwIdeal.τ).loc Cert.FfnGuDwIdeal.main_arg1)
      ∧ m' ((c.tc : Thread Cert.FfnGuDwRefIdeal.nD Cert.FfnGuDwRefIdeal.τ).loc Cert.FfnGuDwRefIdeal.main_arg2) = m ((c.tc : Thread Cert.FfnGuDwIdeal.nD Cert.FfnGuDwIdeal.τ).loc Cert.FfnGuDwIdeal.main_arg2)) →
    ∃ (v0 : (c : Dev Cert.FfnGuDwIdeal.nD) → Buf (Elt Ideal) ((c.tc : Thread Cert.FfnGuDwIdeal.nD Cert.FfnGuDwIdeal.τ).loc Cert.FfnGuDwIdeal.main_v0)),
      θ_run (Cert.FfnGuDwIdeal.defs (F := Ideal)) (onTc (τ := Cert.FfnGuDwIdeal.τ) (Cert.FfnGuDwIdeal.main (F := Ideal))) ⟨m, fun _ => 0, g⟩ (fun r => ∀ c : Dev Cert.FfnGuDwIdeal.nD,
          r.2.mem ((c.tc : Thread Cert.FfnGuDwIdeal.nD Cert.FfnGuDwIdeal.τ).loc Cert.FfnGuDwIdeal.main_v0) = v0 c
          ∧ r.2.mem ((c.tc : Thread Cert.FfnGuDwIdeal.nD Cert.FfnGuDwIdeal.τ).loc Cert.FfnGuDwIdeal.main_arg0) = m ((c.tc : Thread Cert.FfnGuDwIdeal.nD Cert.FfnGuDwIdeal.τ).loc Cert.FfnGuDwIdeal.main_arg0)
          ∧ r.2.mem ((c.tc : Thread Cert.FfnGuDwIdeal.nD Cert.FfnGuDwIdeal.τ).loc Cert.FfnGuDwIdeal.main_arg1) = m ((c.tc : Thread Cert.FfnGuDwIdeal.nD Cert.FfnGuDwIdeal.τ).loc Cert.FfnGuDwIdeal.main_arg1)
          ∧ r.2.mem ((c.tc : Thread Cert.FfnGuDwIdeal.nD Cert.FfnGuDwIdeal.τ).loc Cert.FfnGuDwIdeal.main_arg2) = m ((c.tc : Thread Cert.FfnGuDwIdeal.nD Cert.FfnGuDwIdeal.τ).loc Cert.FfnGuDwIdeal.main_arg2))
      ∧ θ_run (Cert.FfnGuDwRefIdeal.defs (F := Ideal)) (onTc (τ := Cert.FfnGuDwRefIdeal.τ) (Cert.FfnGuDwRefIdeal.main (F := Ideal))) ⟨m', fun _ => 0, g'⟩ (fun r => ∀ c : Dev Cert.FfnGuDwRefIdeal.nD,
          r.2.mem ((c.tc : Thread Cert.FfnGuDwRefIdeal.nD Cert.FfnGuDwRefIdeal.τ).loc Cert.FfnGuDwRefIdeal.main_v10) = v0 c
          ∧ r.2.mem ((c.tc : Thread Cert.FfnGuDwRefIdeal.nD Cert.FfnGuDwRefIdeal.τ).loc Cert.FfnGuDwRefIdeal.main_arg0) = m' ((c.tc : Thread Cert.FfnGuDwRefIdeal.nD Cert.FfnGuDwRefIdeal.τ).loc Cert.FfnGuDwRefIdeal.main_arg0)
          ∧ r.2.mem ((c.tc : Thread Cert.FfnGuDwRefIdeal.nD Cert.FfnGuDwRefIdeal.τ).loc Cert.FfnGuDwRefIdeal.main_arg1) = m' ((c.tc : Thread Cert.FfnGuDwRefIdeal.nD Cert.FfnGuDwRefIdeal.τ).loc Cert.FfnGuDwRefIdeal.main_arg1)
          ∧ r.2.mem ((c.tc : Thread Cert.FfnGuDwRefIdeal.nD Cert.FfnGuDwRefIdeal.τ).loc Cert.FfnGuDwRefIdeal.main_arg2) = m' ((c.tc : Thread Cert.FfnGuDwRefIdeal.nD Cert.FfnGuDwRefIdeal.τ).loc Cert.FfnGuDwRefIdeal.main_arg2))

def preserves_FfnDownDw_FfnDownDwIdeal : Prop :=
  True

def algebraic_FfnDownDwIdeal_FfnDownDwRefIdeal [hFfnDownDwIdeal : Cert.FfnDownDwIdeal.Facts] [hFfnDownDwRefIdeal : Cert.FfnDownDwRefIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwRefIdeal.nD Cert.FfnDownDwRefIdeal.τ Cert.FfnDownDwRefIdeal.sig) → Buf (Elt Ideal) ℓ) (g' : Dev Cert.FfnDownDwRefIdeal.nD → PrngReg), Pre_FfnDownDwIdeal m →
    (∀ c : Dev Cert.FfnDownDwIdeal.nD,
      m' ((c.tc : Thread Cert.FfnDownDwRefIdeal.nD Cert.FfnDownDwRefIdeal.τ).loc Cert.FfnDownDwRefIdeal.main_arg0) = m ((c.tc : Thread Cert.FfnDownDwIdeal.nD Cert.FfnDownDwIdeal.τ).loc Cert.FfnDownDwIdeal.main_arg0)
      ∧ m' ((c.tc : Thread Cert.FfnDownDwRefIdeal.nD Cert.FfnDownDwRefIdeal.τ).loc Cert.FfnDownDwRefIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v0)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v0) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwRefIdeal.defs (F := Ideal)) (onTc (τ := Cert.FfnDownDwRefIdeal.τ) (Cert.FfnDownDwRefIdeal.main (F := Ideal))) ⟨m', fun _ => 0, g'⟩ (fun r => ∀ c : Dev Cert.FfnDownDwRefIdeal.nD,
          r.2.mem ((c.tc : Thread Cert.FfnDownDwRefIdeal.nD Cert.FfnDownDwRefIdeal.τ).loc Cert.FfnDownDwRefIdeal.main_v6) = v0 c
          ∧ r.2.mem ((c.tc : Thread Cert.FfnDownDwRefIdeal.nD Cert.FfnDownDwRefIdeal.τ).loc Cert.FfnDownDwRefIdeal.main_arg0) = m' ((c.tc : Thread Cert.FfnDownDwRefIdeal.nD Cert.FfnDownDwRefIdeal.τ).loc Cert.FfnDownDwRefIdeal.main_arg0)
          ∧ r.2.mem ((c.tc : Thread Cert.FfnDownDwRefIdeal.nD Cert.FfnDownDwRefIdeal.τ).loc Cert.FfnDownDwRefIdeal.main_arg1) = m' ((c.tc : Thread Cert.FfnDownDwRefIdeal.nD Cert.FfnDownDwRefIdeal.τ).loc Cert.FfnDownDwRefIdeal.main_arg1))

def preserves_GmlpIn_GmlpInIdeal : Prop :=
  True

def algebraic_GmlpInIdeal_GmlpInRefIdeal [hGmlpInIdeal : Cert.GmlpInIdeal.Facts] [hGmlpInRefIdeal : Cert.GmlpInRefIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg)
    (m' : (ℓ : Loc Cert.GmlpInRefIdeal.nD Cert.GmlpInRefIdeal.τ Cert.GmlpInRefIdeal.sig) → Buf (Elt Ideal) ℓ) (g' : Dev Cert.GmlpInRefIdeal.nD → PrngReg), Pre_GmlpInIdeal m →
    (∀ c : Dev Cert.GmlpInIdeal.nD,
      m' ((c.tc : Thread Cert.GmlpInRefIdeal.nD Cert.GmlpInRefIdeal.τ).loc Cert.GmlpInRefIdeal.main_arg0) = m ((c.tc : Thread Cert.GmlpInIdeal.nD Cert.GmlpInIdeal.τ).loc Cert.GmlpInIdeal.main_arg0)
      ∧ m' ((c.tc : Thread Cert.GmlpInRefIdeal.nD Cert.GmlpInRefIdeal.τ).loc Cert.GmlpInRefIdeal.main_arg1) = m ((c.tc : Thread Cert.GmlpInIdeal.nD Cert.GmlpInIdeal.τ).loc Cert.GmlpInIdeal.main_arg1)
      ∧ m' ((c.tc : Thread Cert.GmlpInRefIdeal.nD Cert.GmlpInRefIdeal.τ).loc Cert.GmlpInRefIdeal.main_arg2) = m ((c.tc : Thread Cert.GmlpInIdeal.nD Cert.GmlpInIdeal.τ).loc Cert.GmlpInIdeal.main_arg2)) →
    ∃ (v0 : (c : Dev Cert.GmlpInIdeal.nD) → Buf (Elt Ideal) ((c.tc : Thread Cert.GmlpInIdeal.nD Cert.GmlpInIdeal.τ).loc Cert.GmlpInIdeal.main_v1)),
      θ_run (Cert.GmlpInIdeal.defs (F := Ideal)) (onTc (τ := Cert.GmlpInIdeal.τ) (Cert.GmlpInIdeal.main (F := Ideal))) ⟨m, fun _ => 0, g⟩ (fun r => ∀ c : Dev Cert.GmlpInIdeal.nD,
          r.2.mem ((c.tc : Thread Cert.GmlpInIdeal.nD Cert.GmlpInIdeal.τ).loc Cert.GmlpInIdeal.main_v1) = v0 c
          ∧ r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
          ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1)
          ∧ r.2.mem ((c.tc : Thread Cert.GmlpInIdeal.nD Cert.GmlpInIdeal.τ).loc Cert.GmlpInIdeal.main_arg2) = m ((c.tc : Thread Cert.GmlpInIdeal.nD Cert.GmlpInIdeal.τ).loc Cert.GmlpInIdeal.main_arg2))
      ∧ θ_run (Cert.GmlpInRefIdeal.defs (F := Ideal)) (onTc (τ := Cert.GmlpInRefIdeal.τ) (Cert.GmlpInRefIdeal.main (F := Ideal))) ⟨m', fun _ => 0, g'⟩ (fun r => ∀ c : Dev Cert.GmlpInRefIdeal.nD,
          r.2.mem ((c.tc : Thread Cert.GmlpInRefIdeal.nD Cert.GmlpInRefIdeal.τ).loc Cert.GmlpInRefIdeal.main_v5) = v0 c
          ∧ r.2.mem ((c.tc : Thread Cert.GmlpInRefIdeal.nD Cert.GmlpInRefIdeal.τ).loc Cert.GmlpInRefIdeal.main_arg0) = m' ((c.tc : Thread Cert.GmlpInRefIdeal.nD Cert.GmlpInRefIdeal.τ).loc Cert.GmlpInRefIdeal.main_arg0)
          ∧ r.2.mem ((c.tc : Thread Cert.GmlpInRefIdeal.nD Cert.GmlpInRefIdeal.τ).loc Cert.GmlpInRefIdeal.main_arg1) = m' ((c.tc : Thread Cert.GmlpInRefIdeal.nD Cert.GmlpInRefIdeal.τ).loc Cert.GmlpInRefIdeal.main_arg1)
          ∧ r.2.mem ((c.tc : Thread Cert.GmlpInRefIdeal.nD Cert.GmlpInRefIdeal.τ).loc Cert.GmlpInRefIdeal.main_arg2) = m' ((c.tc : Thread Cert.GmlpInRefIdeal.nD Cert.GmlpInRefIdeal.τ).loc Cert.GmlpInRefIdeal.main_arg2))

def preserves_GmlpOut_GmlpOutIdeal : Prop :=
  True

def algebraic_GmlpOutIdeal_GmlpOutRefIdeal [hGmlpOutIdeal : Cert.GmlpOutIdeal.Facts] [hGmlpOutRefIdeal : Cert.GmlpOutRefIdeal.Facts] : Prop :=
  ∀ (m : (ℓ : Loc Cert.GmlpOutIdeal.nD Cert.GmlpOutIdeal.τ Cert.GmlpOutIdeal.sig) → Buf (Elt Ideal) ℓ) (g : Dev Cert.GmlpOutIdeal.nD → PrngReg)
    (m' : (ℓ : Loc Cert.GmlpOutRefIdeal.nD Cert.GmlpOutRefIdeal.τ Cert.GmlpOutRefIdeal.sig) → Buf (Elt Ideal) ℓ) (g' : Dev Cert.GmlpOutRefIdeal.nD → PrngReg), Pre_GmlpOutIdeal m →
    (∀ c : Dev Cert.GmlpOutIdeal.nD,
      m' ((c.tc : Thread Cert.GmlpOutRefIdeal.nD Cert.GmlpOutRefIdeal.τ).loc Cert.GmlpOutRefIdeal.main_arg0) = m ((c.tc : Thread Cert.GmlpOutIdeal.nD Cert.GmlpOutIdeal.τ).loc Cert.GmlpOutIdeal.main_arg0)
      ∧ m' ((c.tc : Thread Cert.GmlpOutRefIdeal.nD Cert.GmlpOutRefIdeal.τ).loc Cert.GmlpOutRefIdeal.main_arg1) = m ((c.tc : Thread Cert.GmlpOutIdeal.nD Cert.GmlpOutIdeal.τ).loc Cert.GmlpOutIdeal.main_arg1)) →
    ∃ (v0 : (c : Dev Cert.GmlpOutIdeal.nD) → Buf (Elt Ideal) ((c.tc : Thread Cert.GmlpOutIdeal.nD Cert.GmlpOutIdeal.τ).loc Cert.GmlpOutIdeal.main_v0)),
      θ_run (Cert.GmlpOutIdeal.defs (F := Ideal)) (onTc (τ := Cert.GmlpOutIdeal.τ) (Cert.GmlpOutIdeal.main (F := Ideal))) ⟨m, fun _ => 0, g⟩ (fun r => ∀ c : Dev Cert.GmlpOutIdeal.nD,
          r.2.mem ((c.tc : Thread Cert.GmlpOutIdeal.nD Cert.GmlpOutIdeal.τ).loc Cert.GmlpOutIdeal.main_v0) = v0 c
          ∧ r.2.mem ((c.tc : Thread Cert.GmlpOutIdeal.nD Cert.GmlpOutIdeal.τ).loc Cert.GmlpOutIdeal.main_arg0) = m ((c.tc : Thread Cert.GmlpOutIdeal.nD Cert.GmlpOutIdeal.τ).loc Cert.GmlpOutIdeal.main_arg0)
          ∧ r.2.mem ((c.tc : Thread Cert.GmlpOutIdeal.nD Cert.GmlpOutIdeal.τ).loc Cert.GmlpOutIdeal.main_arg1) = m ((c.tc : Thread Cert.GmlpOutIdeal.nD Cert.GmlpOutIdeal.τ).loc Cert.GmlpOutIdeal.main_arg1))
      ∧ θ_run (Cert.GmlpOutRefIdeal.defs (F := Ideal)) (onTc (τ := Cert.GmlpOutRefIdeal.τ) (Cert.GmlpOutRefIdeal.main (F := Ideal))) ⟨m', fun _ => 0, g'⟩ (fun r => ∀ c : Dev Cert.GmlpOutRefIdeal.nD,
          r.2.mem ((c.tc : Thread Cert.GmlpOutRefIdeal.nD Cert.GmlpOutRefIdeal.τ).loc Cert.GmlpOutRefIdeal.main_v2) = v0 c
          ∧ r.2.mem ((c.tc : Thread Cert.GmlpOutRefIdeal.nD Cert.GmlpOutRefIdeal.τ).loc Cert.GmlpOutRefIdeal.main_arg0) = m' ((c.tc : Thread Cert.GmlpOutRefIdeal.nD Cert.GmlpOutRefIdeal.τ).loc Cert.GmlpOutRefIdeal.main_arg0)
          ∧ r.2.mem ((c.tc : Thread Cert.GmlpOutRefIdeal.nD Cert.GmlpOutRefIdeal.τ).loc Cert.GmlpOutRefIdeal.main_arg1) = m' ((c.tc : Thread Cert.GmlpOutRefIdeal.nD Cert.GmlpOutRefIdeal.τ).loc Cert.GmlpOutRefIdeal.main_arg1))

def preserves_GmlpOutDw_GmlpOutDwIdeal : Prop :=
  True

def algebraic_GmlpOutDwIdeal_GmlpOutDwRefIdeal [hGmlpOutDwIdeal : Cert.GmlpOutDwIdeal.Facts] [hGmlpOutDwRefIdeal : Cert.GmlpOutDwRefIdeal.Facts] : Prop :=
  ∀ (m : (ℓ : Loc Cert.GmlpOutDwIdeal.nD Cert.GmlpOutDwIdeal.τ Cert.GmlpOutDwIdeal.sig) → Buf (Elt Ideal) ℓ) (g : Dev Cert.GmlpOutDwIdeal.nD → PrngReg)
    (m' : (ℓ : Loc Cert.GmlpOutDwRefIdeal.nD Cert.GmlpOutDwRefIdeal.τ Cert.GmlpOutDwRefIdeal.sig) → Buf (Elt Ideal) ℓ) (g' : Dev Cert.GmlpOutDwRefIdeal.nD → PrngReg), Pre_GmlpOutDwIdeal m →
    (∀ c : Dev Cert.GmlpOutDwIdeal.nD,
      m' ((c.tc : Thread Cert.GmlpOutDwRefIdeal.nD Cert.GmlpOutDwRefIdeal.τ).loc Cert.GmlpOutDwRefIdeal.main_arg0) = m ((c.tc : Thread Cert.GmlpOutDwIdeal.nD Cert.GmlpOutDwIdeal.τ).loc Cert.GmlpOutDwIdeal.main_arg0)
      ∧ m' ((c.tc : Thread Cert.GmlpOutDwRefIdeal.nD Cert.GmlpOutDwRefIdeal.τ).loc Cert.GmlpOutDwRefIdeal.main_arg1) = m ((c.tc : Thread Cert.GmlpOutDwIdeal.nD Cert.GmlpOutDwIdeal.τ).loc Cert.GmlpOutDwIdeal.main_arg1)) →
    ∃ (v0 : (c : Dev Cert.GmlpOutDwIdeal.nD) → Buf (Elt Ideal) ((c.tc : Thread Cert.GmlpOutDwIdeal.nD Cert.GmlpOutDwIdeal.τ).loc Cert.GmlpOutDwIdeal.main_v0)),
      θ_run (Cert.GmlpOutDwIdeal.defs (F := Ideal)) (onTc (τ := Cert.GmlpOutDwIdeal.τ) (Cert.GmlpOutDwIdeal.main (F := Ideal))) ⟨m, fun _ => 0, g⟩ (fun r => ∀ c : Dev Cert.GmlpOutDwIdeal.nD,
          r.2.mem ((c.tc : Thread Cert.GmlpOutDwIdeal.nD Cert.GmlpOutDwIdeal.τ).loc Cert.GmlpOutDwIdeal.main_v0) = v0 c
          ∧ r.2.mem ((c.tc : Thread Cert.GmlpOutDwIdeal.nD Cert.GmlpOutDwIdeal.τ).loc Cert.GmlpOutDwIdeal.main_arg0) = m ((c.tc : Thread Cert.GmlpOutDwIdeal.nD Cert.GmlpOutDwIdeal.τ).loc Cert.GmlpOutDwIdeal.main_arg0)
          ∧ r.2.mem ((c.tc : Thread Cert.GmlpOutDwIdeal.nD Cert.GmlpOutDwIdeal.τ).loc Cert.GmlpOutDwIdeal.main_arg1) = m ((c.tc : Thread Cert.GmlpOutDwIdeal.nD Cert.GmlpOutDwIdeal.τ).loc Cert.GmlpOutDwIdeal.main_arg1))
      ∧ θ_run (Cert.GmlpOutDwRefIdeal.defs (F := Ideal)) (onTc (τ := Cert.GmlpOutDwRefIdeal.τ) (Cert.GmlpOutDwRefIdeal.main (F := Ideal))) ⟨m', fun _ => 0, g'⟩ (fun r => ∀ c : Dev Cert.GmlpOutDwRefIdeal.nD,
          r.2.mem ((c.tc : Thread Cert.GmlpOutDwRefIdeal.nD Cert.GmlpOutDwRefIdeal.τ).loc Cert.GmlpOutDwRefIdeal.main_v6) = v0 c
          ∧ r.2.mem ((c.tc : Thread Cert.GmlpOutDwRefIdeal.nD Cert.GmlpOutDwRefIdeal.τ).loc Cert.GmlpOutDwRefIdeal.main_arg0) = m' ((c.tc : Thread Cert.GmlpOutDwRefIdeal.nD Cert.GmlpOutDwRefIdeal.τ).loc Cert.GmlpOutDwRefIdeal.main_arg0)
          ∧ r.2.mem ((c.tc : Thread Cert.GmlpOutDwRefIdeal.nD Cert.GmlpOutDwRefIdeal.τ).loc Cert.GmlpOutDwRefIdeal.main_arg1) = m' ((c.tc : Thread Cert.GmlpOutDwRefIdeal.nD Cert.GmlpOutDwRefIdeal.τ).loc Cert.GmlpOutDwRefIdeal.main_arg1))

def preserves_GmlpOutDx_GmlpOutDxIdeal : Prop :=
  True

def algebraic_GmlpOutDxIdeal_GmlpOutDxRefIdeal [hGmlpOutDxIdeal : Cert.GmlpOutDxIdeal.Facts] [hGmlpOutDxRefIdeal : Cert.GmlpOutDxRefIdeal.Facts] : Prop :=
  ∀ (m : (ℓ : Loc Cert.GmlpOutDxIdeal.nD Cert.GmlpOutDxIdeal.τ Cert.GmlpOutDxIdeal.sig) → Buf (Elt Ideal) ℓ) (g : Dev Cert.GmlpOutDxIdeal.nD → PrngReg)
    (m' : (ℓ : Loc Cert.GmlpOutDxRefIdeal.nD Cert.GmlpOutDxRefIdeal.τ Cert.GmlpOutDxRefIdeal.sig) → Buf (Elt Ideal) ℓ) (g' : Dev Cert.GmlpOutDxRefIdeal.nD → PrngReg), Pre_GmlpOutDxIdeal m →
    (∀ c : Dev Cert.GmlpOutDxIdeal.nD,
      m' ((c.tc : Thread Cert.GmlpOutDxRefIdeal.nD Cert.GmlpOutDxRefIdeal.τ).loc Cert.GmlpOutDxRefIdeal.main_arg0) = m ((c.tc : Thread Cert.GmlpOutDxIdeal.nD Cert.GmlpOutDxIdeal.τ).loc Cert.GmlpOutDxIdeal.main_arg0)
      ∧ m' ((c.tc : Thread Cert.GmlpOutDxRefIdeal.nD Cert.GmlpOutDxRefIdeal.τ).loc Cert.GmlpOutDxRefIdeal.main_arg1) = m ((c.tc : Thread Cert.GmlpOutDxIdeal.nD Cert.GmlpOutDxIdeal.τ).loc Cert.GmlpOutDxIdeal.main_arg1)) →
    ∃ (v0 : (c : Dev Cert.GmlpOutDxIdeal.nD) → Buf (Elt Ideal) ((c.tc : Thread Cert.GmlpOutDxIdeal.nD Cert.GmlpOutDxIdeal.τ).loc Cert.GmlpOutDxIdeal.main_v0)),
      θ_run (Cert.GmlpOutDxIdeal.defs (F := Ideal)) (onTc (τ := Cert.GmlpOutDxIdeal.τ) (Cert.GmlpOutDxIdeal.main (F := Ideal))) ⟨m, fun _ => 0, g⟩ (fun r => ∀ c : Dev Cert.GmlpOutDxIdeal.nD,
          r.2.mem ((c.tc : Thread Cert.GmlpOutDxIdeal.nD Cert.GmlpOutDxIdeal.τ).loc Cert.GmlpOutDxIdeal.main_v0) = v0 c
          ∧ r.2.mem ((c.tc : Thread Cert.GmlpOutDxIdeal.nD Cert.GmlpOutDxIdeal.τ).loc Cert.GmlpOutDxIdeal.main_arg0) = m ((c.tc : Thread Cert.GmlpOutDxIdeal.nD Cert.GmlpOutDxIdeal.τ).loc Cert.GmlpOutDxIdeal.main_arg0)
          ∧ r.2.mem ((c.tc : Thread Cert.GmlpOutDxIdeal.nD Cert.GmlpOutDxIdeal.τ).loc Cert.GmlpOutDxIdeal.main_arg1) = m ((c.tc : Thread Cert.GmlpOutDxIdeal.nD Cert.GmlpOutDxIdeal.τ).loc Cert.GmlpOutDxIdeal.main_arg1))
      ∧ θ_run (Cert.GmlpOutDxRefIdeal.defs (F := Ideal)) (onTc (τ := Cert.GmlpOutDxRefIdeal.τ) (Cert.GmlpOutDxRefIdeal.main (F := Ideal))) ⟨m', fun _ => 0, g'⟩ (fun r => ∀ c : Dev Cert.GmlpOutDxRefIdeal.nD,
          r.2.mem ((c.tc : Thread Cert.GmlpOutDxRefIdeal.nD Cert.GmlpOutDxRefIdeal.τ).loc Cert.GmlpOutDxRefIdeal.main_v5) = v0 c
          ∧ r.2.mem ((c.tc : Thread Cert.GmlpOutDxRefIdeal.nD Cert.GmlpOutDxRefIdeal.τ).loc Cert.GmlpOutDxRefIdeal.main_arg0) = m' ((c.tc : Thread Cert.GmlpOutDxRefIdeal.nD Cert.GmlpOutDxRefIdeal.τ).loc Cert.GmlpOutDxRefIdeal.main_arg0)
          ∧ r.2.mem ((c.tc : Thread Cert.GmlpOutDxRefIdeal.nD Cert.GmlpOutDxRefIdeal.τ).loc Cert.GmlpOutDxRefIdeal.main_arg1) = m' ((c.tc : Thread Cert.GmlpOutDxRefIdeal.nD Cert.GmlpOutDxRefIdeal.τ).loc Cert.GmlpOutDxRefIdeal.main_arg1))

def preserves_GmlpInDw_GmlpInDwIdeal : Prop :=
  True

def algebraic_GmlpInDwIdeal_GmlpInDwRefIdeal [hGmlpInDwIdeal : Cert.GmlpInDwIdeal.Facts] [hGmlpInDwRefIdeal : Cert.GmlpInDwRefIdeal.Facts] : Prop :=
  ∀ (m : (ℓ : Loc Cert.GmlpInDwIdeal.nD Cert.GmlpInDwIdeal.τ Cert.GmlpInDwIdeal.sig) → Buf (Elt Ideal) ℓ) (g : Dev Cert.GmlpInDwIdeal.nD → PrngReg)
    (m' : (ℓ : Loc Cert.GmlpInDwRefIdeal.nD Cert.GmlpInDwRefIdeal.τ Cert.GmlpInDwRefIdeal.sig) → Buf (Elt Ideal) ℓ) (g' : Dev Cert.GmlpInDwRefIdeal.nD → PrngReg), Pre_GmlpInDwIdeal m →
    (∀ c : Dev Cert.GmlpInDwIdeal.nD,
      m' ((c.tc : Thread Cert.GmlpInDwRefIdeal.nD Cert.GmlpInDwRefIdeal.τ).loc Cert.GmlpInDwRefIdeal.main_arg0) = m ((c.tc : Thread Cert.GmlpInDwIdeal.nD Cert.GmlpInDwIdeal.τ).loc Cert.GmlpInDwIdeal.main_arg0)
      ∧ m' ((c.tc : Thread Cert.GmlpInDwRefIdeal.nD Cert.GmlpInDwRefIdeal.τ).loc Cert.GmlpInDwRefIdeal.main_arg1) = m ((c.tc : Thread Cert.GmlpInDwIdeal.nD Cert.GmlpInDwIdeal.τ).loc Cert.GmlpInDwIdeal.main_arg1)) →
    ∃ (v0 : (c : Dev Cert.GmlpInDwIdeal.nD) → Buf (Elt Ideal) ((c.tc : Thread Cert.GmlpInDwIdeal.nD Cert.GmlpInDwIdeal.τ).loc Cert.GmlpInDwIdeal.main_v0)),
      θ_run (Cert.GmlpInDwIdeal.defs (F := Ideal)) (onTc (τ := Cert.GmlpInDwIdeal.τ) (Cert.GmlpInDwIdeal.main (F := Ideal))) ⟨m, fun _ => 0, g⟩ (fun r => ∀ c : Dev Cert.GmlpInDwIdeal.nD,
          r.2.mem ((c.tc : Thread Cert.GmlpInDwIdeal.nD Cert.GmlpInDwIdeal.τ).loc Cert.GmlpInDwIdeal.main_v0) = v0 c
          ∧ r.2.mem ((c.tc : Thread Cert.GmlpInDwIdeal.nD Cert.GmlpInDwIdeal.τ).loc Cert.GmlpInDwIdeal.main_arg0) = m ((c.tc : Thread Cert.GmlpInDwIdeal.nD Cert.GmlpInDwIdeal.τ).loc Cert.GmlpInDwIdeal.main_arg0)
          ∧ r.2.mem ((c.tc : Thread Cert.GmlpInDwIdeal.nD Cert.GmlpInDwIdeal.τ).loc Cert.GmlpInDwIdeal.main_arg1) = m ((c.tc : Thread Cert.GmlpInDwIdeal.nD Cert.GmlpInDwIdeal.τ).loc Cert.GmlpInDwIdeal.main_arg1))
      ∧ θ_run (Cert.GmlpInDwRefIdeal.defs (F := Ideal)) (onTc (τ := Cert.GmlpInDwRefIdeal.τ) (Cert.GmlpInDwRefIdeal.main (F := Ideal))) ⟨m', fun _ => 0, g'⟩ (fun r => ∀ c : Dev Cert.GmlpInDwRefIdeal.nD,
          r.2.mem ((c.tc : Thread Cert.GmlpInDwRefIdeal.nD Cert.GmlpInDwRefIdeal.τ).loc Cert.GmlpInDwRefIdeal.main_v6) = v0 c
          ∧ r.2.mem ((c.tc : Thread Cert.GmlpInDwRefIdeal.nD Cert.GmlpInDwRefIdeal.τ).loc Cert.GmlpInDwRefIdeal.main_arg0) = m' ((c.tc : Thread Cert.GmlpInDwRefIdeal.nD Cert.GmlpInDwRefIdeal.τ).loc Cert.GmlpInDwRefIdeal.main_arg0)
          ∧ r.2.mem ((c.tc : Thread Cert.GmlpInDwRefIdeal.nD Cert.GmlpInDwRefIdeal.τ).loc Cert.GmlpInDwRefIdeal.main_arg1) = m' ((c.tc : Thread Cert.GmlpInDwRefIdeal.nD Cert.GmlpInDwRefIdeal.τ).loc Cert.GmlpInDwRefIdeal.main_arg1))

def preserves_GmlpInDx_GmlpInDxIdeal : Prop :=
  True

def algebraic_GmlpInDxIdeal_GmlpInDxRefIdeal [hGmlpInDxIdeal : Cert.GmlpInDxIdeal.Facts] [hGmlpInDxRefIdeal : Cert.GmlpInDxRefIdeal.Facts] : Prop :=
  ∀ (m : (ℓ : Loc Cert.GmlpInDxIdeal.nD Cert.GmlpInDxIdeal.τ Cert.GmlpInDxIdeal.sig) → Buf (Elt Ideal) ℓ) (g : Dev Cert.GmlpInDxIdeal.nD → PrngReg)
    (m' : (ℓ : Loc Cert.GmlpInDxRefIdeal.nD Cert.GmlpInDxRefIdeal.τ Cert.GmlpInDxRefIdeal.sig) → Buf (Elt Ideal) ℓ) (g' : Dev Cert.GmlpInDxRefIdeal.nD → PrngReg), Pre_GmlpInDxIdeal m →
    (∀ c : Dev Cert.GmlpInDxIdeal.nD,
      m' ((c.tc : Thread Cert.GmlpInDxRefIdeal.nD Cert.GmlpInDxRefIdeal.τ).loc Cert.GmlpInDxRefIdeal.main_arg0) = m ((c.tc : Thread Cert.GmlpInDxIdeal.nD Cert.GmlpInDxIdeal.τ).loc Cert.GmlpInDxIdeal.main_arg0)
      ∧ m' ((c.tc : Thread Cert.GmlpInDxRefIdeal.nD Cert.GmlpInDxRefIdeal.τ).loc Cert.GmlpInDxRefIdeal.main_arg1) = m ((c.tc : Thread Cert.GmlpInDxIdeal.nD Cert.GmlpInDxIdeal.τ).loc Cert.GmlpInDxIdeal.main_arg1)) →
    ∃ (v0 : (c : Dev Cert.GmlpInDxIdeal.nD) → Buf (Elt Ideal) ((c.tc : Thread Cert.GmlpInDxIdeal.nD Cert.GmlpInDxIdeal.τ).loc Cert.GmlpInDxIdeal.main_v0)),
      θ_run (Cert.GmlpInDxIdeal.defs (F := Ideal)) (onTc (τ := Cert.GmlpInDxIdeal.τ) (Cert.GmlpInDxIdeal.main (F := Ideal))) ⟨m, fun _ => 0, g⟩ (fun r => ∀ c : Dev Cert.GmlpInDxIdeal.nD,
          r.2.mem ((c.tc : Thread Cert.GmlpInDxIdeal.nD Cert.GmlpInDxIdeal.τ).loc Cert.GmlpInDxIdeal.main_v0) = v0 c
          ∧ r.2.mem ((c.tc : Thread Cert.GmlpInDxIdeal.nD Cert.GmlpInDxIdeal.τ).loc Cert.GmlpInDxIdeal.main_arg0) = m ((c.tc : Thread Cert.GmlpInDxIdeal.nD Cert.GmlpInDxIdeal.τ).loc Cert.GmlpInDxIdeal.main_arg0)
          ∧ r.2.mem ((c.tc : Thread Cert.GmlpInDxIdeal.nD Cert.GmlpInDxIdeal.τ).loc Cert.GmlpInDxIdeal.main_arg1) = m ((c.tc : Thread Cert.GmlpInDxIdeal.nD Cert.GmlpInDxIdeal.τ).loc Cert.GmlpInDxIdeal.main_arg1))
      ∧ θ_run (Cert.GmlpInDxRefIdeal.defs (F := Ideal)) (onTc (τ := Cert.GmlpInDxRefIdeal.τ) (Cert.GmlpInDxRefIdeal.main (F := Ideal))) ⟨m', fun _ => 0, g'⟩ (fun r => ∀ c : Dev Cert.GmlpInDxRefIdeal.nD,
          r.2.mem ((c.tc : Thread Cert.GmlpInDxRefIdeal.nD Cert.GmlpInDxRefIdeal.τ).loc Cert.GmlpInDxRefIdeal.main_v4) = v0 c
          ∧ r.2.mem ((c.tc : Thread Cert.GmlpInDxRefIdeal.nD Cert.GmlpInDxRefIdeal.τ).loc Cert.GmlpInDxRefIdeal.main_arg0) = m' ((c.tc : Thread Cert.GmlpInDxRefIdeal.nD Cert.GmlpInDxRefIdeal.τ).loc Cert.GmlpInDxRefIdeal.main_arg0)
          ∧ r.2.mem ((c.tc : Thread Cert.GmlpInDxRefIdeal.nD Cert.GmlpInDxRefIdeal.τ).loc Cert.GmlpInDxRefIdeal.main_arg1) = m' ((c.tc : Thread Cert.GmlpInDxRefIdeal.nD Cert.GmlpInDxRefIdeal.τ).loc Cert.GmlpInDxRefIdeal.main_arg1))

def preserves_AttnQkv_AttnQkvIdeal : Prop :=
  True

def algebraic_AttnQkvIdeal_AttnQkvRefIdeal [hAttnQkvIdeal : Cert.AttnQkvIdeal.Facts] [hAttnQkvRefIdeal : Cert.AttnQkvRefIdeal.Facts] : Prop :=
  ∀ (m : (ℓ : Loc Cert.AttnQkvIdeal.nD Cert.AttnQkvIdeal.τ Cert.AttnQkvIdeal.sig) → Buf (Elt Ideal) ℓ) (g : Dev Cert.AttnQkvIdeal.nD → PrngReg)
    (m' : (ℓ : Loc Cert.AttnQkvRefIdeal.nD Cert.AttnQkvRefIdeal.τ Cert.AttnQkvRefIdeal.sig) → Buf (Elt Ideal) ℓ) (g' : Dev Cert.AttnQkvRefIdeal.nD → PrngReg), Pre_AttnQkvIdeal m →
    (∀ c : Dev Cert.AttnQkvIdeal.nD,
      m' ((c.tc : Thread Cert.AttnQkvRefIdeal.nD Cert.AttnQkvRefIdeal.τ).loc Cert.AttnQkvRefIdeal.main_arg0) = m ((c.tc : Thread Cert.AttnQkvIdeal.nD Cert.AttnQkvIdeal.τ).loc Cert.AttnQkvIdeal.main_arg0)
      ∧ m' ((c.tc : Thread Cert.AttnQkvRefIdeal.nD Cert.AttnQkvRefIdeal.τ).loc Cert.AttnQkvRefIdeal.main_arg1) = m ((c.tc : Thread Cert.AttnQkvIdeal.nD Cert.AttnQkvIdeal.τ).loc Cert.AttnQkvIdeal.main_arg1)
      ∧ m' ((c.tc : Thread Cert.AttnQkvRefIdeal.nD Cert.AttnQkvRefIdeal.τ).loc Cert.AttnQkvRefIdeal.main_arg2) = m ((c.tc : Thread Cert.AttnQkvIdeal.nD Cert.AttnQkvIdeal.τ).loc Cert.AttnQkvIdeal.main_arg2)) →
    ∃ (v0 : (c : Dev Cert.AttnQkvIdeal.nD) → Buf (Elt Ideal) ((c.tc : Thread Cert.AttnQkvIdeal.nD Cert.AttnQkvIdeal.τ).loc Cert.AttnQkvIdeal.main_v1)),
      θ_run (Cert.AttnQkvIdeal.defs (F := Ideal)) (onTc (τ := Cert.AttnQkvIdeal.τ) (Cert.AttnQkvIdeal.main (F := Ideal))) ⟨m, fun _ => 0, g⟩ (fun r => ∀ c : Dev Cert.AttnQkvIdeal.nD,
          r.2.mem ((c.tc : Thread Cert.AttnQkvIdeal.nD Cert.AttnQkvIdeal.τ).loc Cert.AttnQkvIdeal.main_v1) = v0 c
          ∧ r.2.mem ((c.tc : Thread Cert.AttnQkvIdeal.nD Cert.AttnQkvIdeal.τ).loc Cert.AttnQkvIdeal.main_arg0) = m ((c.tc : Thread Cert.AttnQkvIdeal.nD Cert.AttnQkvIdeal.τ).loc Cert.AttnQkvIdeal.main_arg0)
          ∧ r.2.mem ((c.tc : Thread Cert.AttnQkvIdeal.nD Cert.AttnQkvIdeal.τ).loc Cert.AttnQkvIdeal.main_arg1) = m ((c.tc : Thread Cert.AttnQkvIdeal.nD Cert.AttnQkvIdeal.τ).loc Cert.AttnQkvIdeal.main_arg1)
          ∧ r.2.mem ((c.tc : Thread Cert.AttnQkvIdeal.nD Cert.AttnQkvIdeal.τ).loc Cert.AttnQkvIdeal.main_arg2) = m ((c.tc : Thread Cert.AttnQkvIdeal.nD Cert.AttnQkvIdeal.τ).loc Cert.AttnQkvIdeal.main_arg2))
      ∧ θ_run (Cert.AttnQkvRefIdeal.defs (F := Ideal)) (onTc (τ := Cert.AttnQkvRefIdeal.τ) (Cert.AttnQkvRefIdeal.main (F := Ideal))) ⟨m', fun _ => 0, g'⟩ (fun r => ∀ c : Dev Cert.AttnQkvRefIdeal.nD,
          r.2.mem ((c.tc : Thread Cert.AttnQkvRefIdeal.nD Cert.AttnQkvRefIdeal.τ).loc Cert.AttnQkvRefIdeal.main_v5) = v0 c
          ∧ r.2.mem ((c.tc : Thread Cert.AttnQkvRefIdeal.nD Cert.AttnQkvRefIdeal.τ).loc Cert.AttnQkvRefIdeal.main_arg0) = m' ((c.tc : Thread Cert.AttnQkvRefIdeal.nD Cert.AttnQkvRefIdeal.τ).loc Cert.AttnQkvRefIdeal.main_arg0)
          ∧ r.2.mem ((c.tc : Thread Cert.AttnQkvRefIdeal.nD Cert.AttnQkvRefIdeal.τ).loc Cert.AttnQkvRefIdeal.main_arg1) = m' ((c.tc : Thread Cert.AttnQkvRefIdeal.nD Cert.AttnQkvRefIdeal.τ).loc Cert.AttnQkvRefIdeal.main_arg1)
          ∧ r.2.mem ((c.tc : Thread Cert.AttnQkvRefIdeal.nD Cert.AttnQkvRefIdeal.τ).loc Cert.AttnQkvRefIdeal.main_arg2) = m' ((c.tc : Thread Cert.AttnQkvRefIdeal.nD Cert.AttnQkvRefIdeal.τ).loc Cert.AttnQkvRefIdeal.main_arg2))

def preserves_AttnO_AttnOIdeal : Prop :=
  True

def algebraic_AttnOIdeal_AttnORefIdeal [hAttnOIdeal : Cert.AttnOIdeal.Facts] [hAttnORefIdeal : Cert.AttnORefIdeal.Facts] : Prop :=
  ∀ (m : (ℓ : Loc Cert.AttnOIdeal.nD Cert.AttnOIdeal.τ Cert.AttnOIdeal.sig) → Buf (Elt Ideal) ℓ) (g : Dev Cert.AttnOIdeal.nD → PrngReg)
    (m' : (ℓ : Loc Cert.AttnORefIdeal.nD Cert.AttnORefIdeal.τ Cert.AttnORefIdeal.sig) → Buf (Elt Ideal) ℓ) (g' : Dev Cert.AttnORefIdeal.nD → PrngReg), Pre_AttnOIdeal m →
    (∀ c : Dev Cert.AttnOIdeal.nD,
      m' ((c.tc : Thread Cert.AttnORefIdeal.nD Cert.AttnORefIdeal.τ).loc Cert.AttnORefIdeal.main_arg0) = m ((c.tc : Thread Cert.AttnOIdeal.nD Cert.AttnOIdeal.τ).loc Cert.AttnOIdeal.main_arg0)
      ∧ m' ((c.tc : Thread Cert.AttnORefIdeal.nD Cert.AttnORefIdeal.τ).loc Cert.AttnORefIdeal.main_arg1) = m ((c.tc : Thread Cert.AttnOIdeal.nD Cert.AttnOIdeal.τ).loc Cert.AttnOIdeal.main_arg1)) →
    ∃ (v0 : (c : Dev Cert.AttnOIdeal.nD) → Buf (Elt Ideal) ((c.tc : Thread Cert.AttnOIdeal.nD Cert.AttnOIdeal.τ).loc Cert.AttnOIdeal.main_v0)),
      θ_run (Cert.AttnOIdeal.defs (F := Ideal)) (onTc (τ := Cert.AttnOIdeal.τ) (Cert.AttnOIdeal.main (F := Ideal))) ⟨m, fun _ => 0, g⟩ (fun r => ∀ c : Dev Cert.AttnOIdeal.nD,
          r.2.mem ((c.tc : Thread Cert.AttnOIdeal.nD Cert.AttnOIdeal.τ).loc Cert.AttnOIdeal.main_v0) = v0 c
          ∧ r.2.mem ((c.tc : Thread Cert.AttnOIdeal.nD Cert.AttnOIdeal.τ).loc Cert.AttnOIdeal.main_arg0) = m ((c.tc : Thread Cert.AttnOIdeal.nD Cert.AttnOIdeal.τ).loc Cert.AttnOIdeal.main_arg0)
          ∧ r.2.mem ((c.tc : Thread Cert.AttnOIdeal.nD Cert.AttnOIdeal.τ).loc Cert.AttnOIdeal.main_arg1) = m ((c.tc : Thread Cert.AttnOIdeal.nD Cert.AttnOIdeal.τ).loc Cert.AttnOIdeal.main_arg1))
      ∧ θ_run (Cert.AttnORefIdeal.defs (F := Ideal)) (onTc (τ := Cert.AttnORefIdeal.τ) (Cert.AttnORefIdeal.main (F := Ideal))) ⟨m', fun _ => 0, g'⟩ (fun r => ∀ c : Dev Cert.AttnORefIdeal.nD,
          r.2.mem ((c.tc : Thread Cert.AttnORefIdeal.nD Cert.AttnORefIdeal.τ).loc Cert.AttnORefIdeal.main_v2) = v0 c
          ∧ r.2.mem ((c.tc : Thread Cert.AttnORefIdeal.nD Cert.AttnORefIdeal.τ).loc Cert.AttnORefIdeal.main_arg0) = m' ((c.tc : Thread Cert.AttnORefIdeal.nD Cert.AttnORefIdeal.τ).loc Cert.AttnORefIdeal.main_arg0)
          ∧ r.2.mem ((c.tc : Thread Cert.AttnORefIdeal.nD Cert.AttnORefIdeal.τ).loc Cert.AttnORefIdeal.main_arg1) = m' ((c.tc : Thread Cert.AttnORefIdeal.nD Cert.AttnORefIdeal.τ).loc Cert.AttnORefIdeal.main_arg1))

def preserves_AttnODw_AttnODwIdeal : Prop :=
  True

def algebraic_AttnODwIdeal_AttnODwRefIdeal [hAttnODwIdeal : Cert.AttnODwIdeal.Facts] [hAttnODwRefIdeal : Cert.AttnODwRefIdeal.Facts] : Prop :=
  ∀ (m : (ℓ : Loc Cert.AttnODwIdeal.nD Cert.AttnODwIdeal.τ Cert.AttnODwIdeal.sig) → Buf (Elt Ideal) ℓ) (g : Dev Cert.AttnODwIdeal.nD → PrngReg)
    (m' : (ℓ : Loc Cert.AttnODwRefIdeal.nD Cert.AttnODwRefIdeal.τ Cert.AttnODwRefIdeal.sig) → Buf (Elt Ideal) ℓ) (g' : Dev Cert.AttnODwRefIdeal.nD → PrngReg), Pre_AttnODwIdeal m →
    (∀ c : Dev Cert.AttnODwIdeal.nD,
      m' ((c.tc : Thread Cert.AttnODwRefIdeal.nD Cert.AttnODwRefIdeal.τ).loc Cert.AttnODwRefIdeal.main_arg0) = m ((c.tc : Thread Cert.AttnODwIdeal.nD Cert.AttnODwIdeal.τ).loc Cert.AttnODwIdeal.main_arg0)
      ∧ m' ((c.tc : Thread Cert.AttnODwRefIdeal.nD Cert.AttnODwRefIdeal.τ).loc Cert.AttnODwRefIdeal.main_arg1) = m ((c.tc : Thread Cert.AttnODwIdeal.nD Cert.AttnODwIdeal.τ).loc Cert.AttnODwIdeal.main_arg1)) →
    ∃ (v0 : (c : Dev Cert.AttnODwIdeal.nD) → Buf (Elt Ideal) ((c.tc : Thread Cert.AttnODwIdeal.nD Cert.AttnODwIdeal.τ).loc Cert.AttnODwIdeal.main_v0)),
      θ_run (Cert.AttnODwIdeal.defs (F := Ideal)) (onTc (τ := Cert.AttnODwIdeal.τ) (Cert.AttnODwIdeal.main (F := Ideal))) ⟨m, fun _ => 0, g⟩ (fun r => ∀ c : Dev Cert.AttnODwIdeal.nD,
          r.2.mem ((c.tc : Thread Cert.AttnODwIdeal.nD Cert.AttnODwIdeal.τ).loc Cert.AttnODwIdeal.main_v0) = v0 c
          ∧ r.2.mem ((c.tc : Thread Cert.AttnODwIdeal.nD Cert.AttnODwIdeal.τ).loc Cert.AttnODwIdeal.main_arg0) = m ((c.tc : Thread Cert.AttnODwIdeal.nD Cert.AttnODwIdeal.τ).loc Cert.AttnODwIdeal.main_arg0)
          ∧ r.2.mem ((c.tc : Thread Cert.AttnODwIdeal.nD Cert.AttnODwIdeal.τ).loc Cert.AttnODwIdeal.main_arg1) = m ((c.tc : Thread Cert.AttnODwIdeal.nD Cert.AttnODwIdeal.τ).loc Cert.AttnODwIdeal.main_arg1))
      ∧ θ_run (Cert.AttnODwRefIdeal.defs (F := Ideal)) (onTc (τ := Cert.AttnODwRefIdeal.τ) (Cert.AttnODwRefIdeal.main (F := Ideal))) ⟨m', fun _ => 0, g'⟩ (fun r => ∀ c : Dev Cert.AttnODwRefIdeal.nD,
          r.2.mem ((c.tc : Thread Cert.AttnODwRefIdeal.nD Cert.AttnODwRefIdeal.τ).loc Cert.AttnODwRefIdeal.main_v6) = v0 c
          ∧ r.2.mem ((c.tc : Thread Cert.AttnODwRefIdeal.nD Cert.AttnODwRefIdeal.τ).loc Cert.AttnODwRefIdeal.main_arg0) = m' ((c.tc : Thread Cert.AttnODwRefIdeal.nD Cert.AttnODwRefIdeal.τ).loc Cert.AttnODwRefIdeal.main_arg0)
          ∧ r.2.mem ((c.tc : Thread Cert.AttnODwRefIdeal.nD Cert.AttnODwRefIdeal.τ).loc Cert.AttnODwRefIdeal.main_arg1) = m' ((c.tc : Thread Cert.AttnODwRefIdeal.nD Cert.AttnODwRefIdeal.τ).loc Cert.AttnODwRefIdeal.main_arg1))

def preserves_AttnODx_AttnODxIdeal : Prop :=
  True

def algebraic_AttnODxIdeal_AttnODxRefIdeal [hAttnODxIdeal : Cert.AttnODxIdeal.Facts] [hAttnODxRefIdeal : Cert.AttnODxRefIdeal.Facts] : Prop :=
  ∀ (m : (ℓ : Loc Cert.AttnODxIdeal.nD Cert.AttnODxIdeal.τ Cert.AttnODxIdeal.sig) → Buf (Elt Ideal) ℓ) (g : Dev Cert.AttnODxIdeal.nD → PrngReg)
    (m' : (ℓ : Loc Cert.AttnODxRefIdeal.nD Cert.AttnODxRefIdeal.τ Cert.AttnODxRefIdeal.sig) → Buf (Elt Ideal) ℓ) (g' : Dev Cert.AttnODxRefIdeal.nD → PrngReg), Pre_AttnODxIdeal m →
    (∀ c : Dev Cert.AttnODxIdeal.nD,
      m' ((c.tc : Thread Cert.AttnODxRefIdeal.nD Cert.AttnODxRefIdeal.τ).loc Cert.AttnODxRefIdeal.main_arg0) = m ((c.tc : Thread Cert.AttnODxIdeal.nD Cert.AttnODxIdeal.τ).loc Cert.AttnODxIdeal.main_arg0)
      ∧ m' ((c.tc : Thread Cert.AttnODxRefIdeal.nD Cert.AttnODxRefIdeal.τ).loc Cert.AttnODxRefIdeal.main_arg1) = m ((c.tc : Thread Cert.AttnODxIdeal.nD Cert.AttnODxIdeal.τ).loc Cert.AttnODxIdeal.main_arg1)) →
    ∃ (v0 : (c : Dev Cert.AttnODxIdeal.nD) → Buf (Elt Ideal) ((c.tc : Thread Cert.AttnODxIdeal.nD Cert.AttnODxIdeal.τ).loc Cert.AttnODxIdeal.main_v0)),
      θ_run (Cert.AttnODxIdeal.defs (F := Ideal)) (onTc (τ := Cert.AttnODxIdeal.τ) (Cert.AttnODxIdeal.main (F := Ideal))) ⟨m, fun _ => 0, g⟩ (fun r => ∀ c : Dev Cert.AttnODxIdeal.nD,
          r.2.mem ((c.tc : Thread Cert.AttnODxIdeal.nD Cert.AttnODxIdeal.τ).loc Cert.AttnODxIdeal.main_v0) = v0 c
          ∧ r.2.mem ((c.tc : Thread Cert.AttnODxIdeal.nD Cert.AttnODxIdeal.τ).loc Cert.AttnODxIdeal.main_arg0) = m ((c.tc : Thread Cert.AttnODxIdeal.nD Cert.AttnODxIdeal.τ).loc Cert.AttnODxIdeal.main_arg0)
          ∧ r.2.mem ((c.tc : Thread Cert.AttnODxIdeal.nD Cert.AttnODxIdeal.τ).loc Cert.AttnODxIdeal.main_arg1) = m ((c.tc : Thread Cert.AttnODxIdeal.nD Cert.AttnODxIdeal.τ).loc Cert.AttnODxIdeal.main_arg1))
      ∧ θ_run (Cert.AttnODxRefIdeal.defs (F := Ideal)) (onTc (τ := Cert.AttnODxRefIdeal.τ) (Cert.AttnODxRefIdeal.main (F := Ideal))) ⟨m', fun _ => 0, g'⟩ (fun r => ∀ c : Dev Cert.AttnODxRefIdeal.nD,
          r.2.mem ((c.tc : Thread Cert.AttnODxRefIdeal.nD Cert.AttnODxRefIdeal.τ).loc Cert.AttnODxRefIdeal.main_v5) = v0 c
          ∧ r.2.mem ((c.tc : Thread Cert.AttnODxRefIdeal.nD Cert.AttnODxRefIdeal.τ).loc Cert.AttnODxRefIdeal.main_arg0) = m' ((c.tc : Thread Cert.AttnODxRefIdeal.nD Cert.AttnODxRefIdeal.τ).loc Cert.AttnODxRefIdeal.main_arg0)
          ∧ r.2.mem ((c.tc : Thread Cert.AttnODxRefIdeal.nD Cert.AttnODxRefIdeal.τ).loc Cert.AttnODxRefIdeal.main_arg1) = m' ((c.tc : Thread Cert.AttnODxRefIdeal.nD Cert.AttnODxRefIdeal.τ).loc Cert.AttnODxRefIdeal.main_arg1))

def preserves_AttnQkvDw_AttnQkvDwIdeal : Prop :=
  True

def algebraic_AttnQkvDwIdeal_AttnQkvDwRefIdeal [hAttnQkvDwIdeal : Cert.AttnQkvDwIdeal.Facts] [hAttnQkvDwRefIdeal : Cert.AttnQkvDwRefIdeal.Facts] : Prop :=
  ∀ (m : (ℓ : Loc Cert.AttnQkvDwIdeal.nD Cert.AttnQkvDwIdeal.τ Cert.AttnQkvDwIdeal.sig) → Buf (Elt Ideal) ℓ) (g : Dev Cert.AttnQkvDwIdeal.nD → PrngReg)
    (m' : (ℓ : Loc Cert.AttnQkvDwRefIdeal.nD Cert.AttnQkvDwRefIdeal.τ Cert.AttnQkvDwRefIdeal.sig) → Buf (Elt Ideal) ℓ) (g' : Dev Cert.AttnQkvDwRefIdeal.nD → PrngReg), Pre_AttnQkvDwIdeal m →
    (∀ c : Dev Cert.AttnQkvDwIdeal.nD,
      m' ((c.tc : Thread Cert.AttnQkvDwRefIdeal.nD Cert.AttnQkvDwRefIdeal.τ).loc Cert.AttnQkvDwRefIdeal.main_arg0) = m ((c.tc : Thread Cert.AttnQkvDwIdeal.nD Cert.AttnQkvDwIdeal.τ).loc Cert.AttnQkvDwIdeal.main_arg0)
      ∧ m' ((c.tc : Thread Cert.AttnQkvDwRefIdeal.nD Cert.AttnQkvDwRefIdeal.τ).loc Cert.AttnQkvDwRefIdeal.main_arg1) = m ((c.tc : Thread Cert.AttnQkvDwIdeal.nD Cert.AttnQkvDwIdeal.τ).loc Cert.AttnQkvDwIdeal.main_arg1)) →
    ∃ (v0 : (c : Dev Cert.AttnQkvDwIdeal.nD) → Buf (Elt Ideal) ((c.tc : Thread Cert.AttnQkvDwIdeal.nD Cert.AttnQkvDwIdeal.τ).loc Cert.AttnQkvDwIdeal.main_v0)),
      θ_run (Cert.AttnQkvDwIdeal.defs (F := Ideal)) (onTc (τ := Cert.AttnQkvDwIdeal.τ) (Cert.AttnQkvDwIdeal.main (F := Ideal))) ⟨m, fun _ => 0, g⟩ (fun r => ∀ c : Dev Cert.AttnQkvDwIdeal.nD,
          r.2.mem ((c.tc : Thread Cert.AttnQkvDwIdeal.nD Cert.AttnQkvDwIdeal.τ).loc Cert.AttnQkvDwIdeal.main_v0) = v0 c
          ∧ r.2.mem ((c.tc : Thread Cert.AttnQkvDwIdeal.nD Cert.AttnQkvDwIdeal.τ).loc Cert.AttnQkvDwIdeal.main_arg0) = m ((c.tc : Thread Cert.AttnQkvDwIdeal.nD Cert.AttnQkvDwIdeal.τ).loc Cert.AttnQkvDwIdeal.main_arg0)
          ∧ r.2.mem ((c.tc : Thread Cert.AttnQkvDwIdeal.nD Cert.AttnQkvDwIdeal.τ).loc Cert.AttnQkvDwIdeal.main_arg1) = m ((c.tc : Thread Cert.AttnQkvDwIdeal.nD Cert.AttnQkvDwIdeal.τ).loc Cert.AttnQkvDwIdeal.main_arg1))
      ∧ θ_run (Cert.AttnQkvDwRefIdeal.defs (F := Ideal)) (onTc (τ := Cert.AttnQkvDwRefIdeal.τ) (Cert.AttnQkvDwRefIdeal.main (F := Ideal))) ⟨m', fun _ => 0, g'⟩ (fun r => ∀ c : Dev Cert.AttnQkvDwRefIdeal.nD,
          r.2.mem ((c.tc : Thread Cert.AttnQkvDwRefIdeal.nD Cert.AttnQkvDwRefIdeal.τ).loc Cert.AttnQkvDwRefIdeal.main_v6) = v0 c
          ∧ r.2.mem ((c.tc : Thread Cert.AttnQkvDwRefIdeal.nD Cert.AttnQkvDwRefIdeal.τ).loc Cert.AttnQkvDwRefIdeal.main_arg0) = m' ((c.tc : Thread Cert.AttnQkvDwRefIdeal.nD Cert.AttnQkvDwRefIdeal.τ).loc Cert.AttnQkvDwRefIdeal.main_arg0)
          ∧ r.2.mem ((c.tc : Thread Cert.AttnQkvDwRefIdeal.nD Cert.AttnQkvDwRefIdeal.τ).loc Cert.AttnQkvDwRefIdeal.main_arg1) = m' ((c.tc : Thread Cert.AttnQkvDwRefIdeal.nD Cert.AttnQkvDwRefIdeal.τ).loc Cert.AttnQkvDwRefIdeal.main_arg1))

def preserves_AttnQkvDx_AttnQkvDxIdeal : Prop :=
  True

def algebraic_AttnQkvDxIdeal_AttnQkvDxRefIdeal [hAttnQkvDxIdeal : Cert.AttnQkvDxIdeal.Facts] [hAttnQkvDxRefIdeal : Cert.AttnQkvDxRefIdeal.Facts] : Prop :=
  ∀ (m : (ℓ : Loc Cert.AttnQkvDxIdeal.nD Cert.AttnQkvDxIdeal.τ Cert.AttnQkvDxIdeal.sig) → Buf (Elt Ideal) ℓ) (g : Dev Cert.AttnQkvDxIdeal.nD → PrngReg)
    (m' : (ℓ : Loc Cert.AttnQkvDxRefIdeal.nD Cert.AttnQkvDxRefIdeal.τ Cert.AttnQkvDxRefIdeal.sig) → Buf (Elt Ideal) ℓ) (g' : Dev Cert.AttnQkvDxRefIdeal.nD → PrngReg), Pre_AttnQkvDxIdeal m →
    (∀ c : Dev Cert.AttnQkvDxIdeal.nD,
      m' ((c.tc : Thread Cert.AttnQkvDxRefIdeal.nD Cert.AttnQkvDxRefIdeal.τ).loc Cert.AttnQkvDxRefIdeal.main_arg0) = m ((c.tc : Thread Cert.AttnQkvDxIdeal.nD Cert.AttnQkvDxIdeal.τ).loc Cert.AttnQkvDxIdeal.main_arg0)
      ∧ m' ((c.tc : Thread Cert.AttnQkvDxRefIdeal.nD Cert.AttnQkvDxRefIdeal.τ).loc Cert.AttnQkvDxRefIdeal.main_arg1) = m ((c.tc : Thread Cert.AttnQkvDxIdeal.nD Cert.AttnQkvDxIdeal.τ).loc Cert.AttnQkvDxIdeal.main_arg1)) →
    ∃ (v0 : (c : Dev Cert.AttnQkvDxIdeal.nD) → Buf (Elt Ideal) ((c.tc : Thread Cert.AttnQkvDxIdeal.nD Cert.AttnQkvDxIdeal.τ).loc Cert.AttnQkvDxIdeal.main_v0)),
      θ_run (Cert.AttnQkvDxIdeal.defs (F := Ideal)) (onTc (τ := Cert.AttnQkvDxIdeal.τ) (Cert.AttnQkvDxIdeal.main (F := Ideal))) ⟨m, fun _ => 0, g⟩ (fun r => ∀ c : Dev Cert.AttnQkvDxIdeal.nD,
          r.2.mem ((c.tc : Thread Cert.AttnQkvDxIdeal.nD Cert.AttnQkvDxIdeal.τ).loc Cert.AttnQkvDxIdeal.main_v0) = v0 c
          ∧ r.2.mem ((c.tc : Thread Cert.AttnQkvDxIdeal.nD Cert.AttnQkvDxIdeal.τ).loc Cert.AttnQkvDxIdeal.main_arg0) = m ((c.tc : Thread Cert.AttnQkvDxIdeal.nD Cert.AttnQkvDxIdeal.τ).loc Cert.AttnQkvDxIdeal.main_arg0)
          ∧ r.2.mem ((c.tc : Thread Cert.AttnQkvDxIdeal.nD Cert.AttnQkvDxIdeal.τ).loc Cert.AttnQkvDxIdeal.main_arg1) = m ((c.tc : Thread Cert.AttnQkvDxIdeal.nD Cert.AttnQkvDxIdeal.τ).loc Cert.AttnQkvDxIdeal.main_arg1))
      ∧ θ_run (Cert.AttnQkvDxRefIdeal.defs (F := Ideal)) (onTc (τ := Cert.AttnQkvDxRefIdeal.τ) (Cert.AttnQkvDxRefIdeal.main (F := Ideal))) ⟨m', fun _ => 0, g'⟩ (fun r => ∀ c : Dev Cert.AttnQkvDxRefIdeal.nD,
          r.2.mem ((c.tc : Thread Cert.AttnQkvDxRefIdeal.nD Cert.AttnQkvDxRefIdeal.τ).loc Cert.AttnQkvDxRefIdeal.main_v4) = v0 c
          ∧ r.2.mem ((c.tc : Thread Cert.AttnQkvDxRefIdeal.nD Cert.AttnQkvDxRefIdeal.τ).loc Cert.AttnQkvDxRefIdeal.main_arg0) = m' ((c.tc : Thread Cert.AttnQkvDxRefIdeal.nD Cert.AttnQkvDxRefIdeal.τ).loc Cert.AttnQkvDxRefIdeal.main_arg0)
          ∧ r.2.mem ((c.tc : Thread Cert.AttnQkvDxRefIdeal.nD Cert.AttnQkvDxRefIdeal.τ).loc Cert.AttnQkvDxRefIdeal.main_arg1) = m' ((c.tc : Thread Cert.AttnQkvDxRefIdeal.nD Cert.AttnQkvDxRefIdeal.τ).loc Cert.AttnQkvDxRefIdeal.main_arg1))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_RmsRes_RmsResIdeal : Prop :=
  True

def algebraic_RmsResIdeal_RmsResRefIdeal [hRmsResIdeal : Cert.RmsResIdeal.Facts] [hRmsResRefIdeal : Cert.RmsResRefIdeal.Facts] : Prop :=
  ∀ (m : (ℓ : Loc Cert.RmsResIdeal.nD Cert.RmsResIdeal.τ Cert.RmsResIdeal.sig) → Buf (Elt Ideal) ℓ) (g : Dev Cert.RmsResIdeal.nD → PrngReg)
    (m' : (ℓ : Loc Cert.RmsResRefIdeal.nD Cert.RmsResRefIdeal.τ Cert.RmsResRefIdeal.sig) → Buf (Elt Ideal) ℓ) (g' : Dev Cert.RmsResRefIdeal.nD → PrngReg), Pre_RmsResIdeal m →
    (∀ c : Dev Cert.RmsResIdeal.nD,
      m' ((c.tc : Thread Cert.RmsResRefIdeal.nD Cert.RmsResRefIdeal.τ).loc Cert.RmsResRefIdeal.main_arg0) = m ((c.tc : Thread Cert.RmsResIdeal.nD Cert.RmsResIdeal.τ).loc Cert.RmsResIdeal.main_arg0)
      ∧ m' ((c.tc : Thread Cert.RmsResRefIdeal.nD Cert.RmsResRefIdeal.τ).loc Cert.RmsResRefIdeal.main_arg1) = m ((c.tc : Thread Cert.RmsResIdeal.nD Cert.RmsResIdeal.τ).loc Cert.RmsResIdeal.main_arg1)
      ∧ m' ((c.tc : Thread Cert.RmsResRefIdeal.nD Cert.RmsResRefIdeal.τ).loc Cert.RmsResRefIdeal.main_arg2) = m ((c.tc : Thread Cert.RmsResIdeal.nD Cert.RmsResIdeal.τ).loc Cert.RmsResIdeal.main_arg2)) →
    ∃ (v0 : (c : Dev Cert.RmsResIdeal.nD) → Buf (Elt Ideal) ((c.tc : Thread Cert.RmsResIdeal.nD Cert.RmsResIdeal.τ).loc Cert.RmsResIdeal.main_v1)),
      θ_run (Cert.RmsResIdeal.defs (F := Ideal)) (onTc (τ := Cert.RmsResIdeal.τ) (Cert.RmsResIdeal.main (F := Ideal))) ⟨m, fun _ => 0, g⟩ (fun r => ∀ c : Dev Cert.RmsResIdeal.nD,
          r.2.mem ((c.tc : Thread Cert.RmsResIdeal.nD Cert.RmsResIdeal.τ).loc Cert.RmsResIdeal.main_v1) = v0 c
          ∧ r.2.mem ((c.tc : Thread Cert.RmsResIdeal.nD Cert.RmsResIdeal.τ).loc Cert.RmsResIdeal.main_arg0) = m ((c.tc : Thread Cert.RmsResIdeal.nD Cert.RmsResIdeal.τ).loc Cert.RmsResIdeal.main_arg0)
          ∧ r.2.mem ((c.tc : Thread Cert.RmsResIdeal.nD Cert.RmsResIdeal.τ).loc Cert.RmsResIdeal.main_arg1) = m ((c.tc : Thread Cert.RmsResIdeal.nD Cert.RmsResIdeal.τ).loc Cert.RmsResIdeal.main_arg1)
          ∧ r.2.mem ((c.tc : Thread Cert.RmsResIdeal.nD Cert.RmsResIdeal.τ).loc Cert.RmsResIdeal.main_arg2) = m ((c.tc : Thread Cert.RmsResIdeal.nD Cert.RmsResIdeal.τ).loc Cert.RmsResIdeal.main_arg2))
      ∧ θ_run (Cert.RmsResRefIdeal.defs (F := Ideal)) (onTc (τ := Cert.RmsResRefIdeal.τ) (Cert.RmsResRefIdeal.main (F := Ideal))) ⟨m', fun _ => 0, g'⟩ (fun r => ∀ c : Dev Cert.RmsResRefIdeal.nD,
          r.2.mem ((c.tc : Thread Cert.RmsResRefIdeal.nD Cert.RmsResRefIdeal.τ).loc Cert.RmsResRefIdeal.main_v13) = v0 c
          ∧ r.2.mem ((c.tc : Thread Cert.RmsResRefIdeal.nD Cert.RmsResRefIdeal.τ).loc Cert.RmsResRefIdeal.main_arg0) = m' ((c.tc : Thread Cert.RmsResRefIdeal.nD Cert.RmsResRefIdeal.τ).loc Cert.RmsResRefIdeal.main_arg0)
          ∧ r.2.mem ((c.tc : Thread Cert.RmsResRefIdeal.nD Cert.RmsResRefIdeal.τ).loc Cert.RmsResRefIdeal.main_arg1) = m' ((c.tc : Thread Cert.RmsResRefIdeal.nD Cert.RmsResRefIdeal.τ).loc Cert.RmsResRefIdeal.main_arg1)
          ∧ r.2.mem ((c.tc : Thread Cert.RmsResRefIdeal.nD Cert.RmsResRefIdeal.τ).loc Cert.RmsResRefIdeal.main_arg2) = m' ((c.tc : Thread Cert.RmsResRefIdeal.nD Cert.RmsResRefIdeal.τ).loc Cert.RmsResRefIdeal.main_arg2))

def preserves_RmsResNorm_RmsResNormIdeal : Prop :=
  True

def algebraic_RmsResNormIdeal_RmsResNormRefIdeal [hRmsResNormIdeal : Cert.RmsResNormIdeal.Facts] [hRmsResNormRefIdeal : Cert.RmsResNormRefIdeal.Facts] : Prop :=
  ∀ (m : (ℓ : Loc Cert.RmsResNormIdeal.nD Cert.RmsResNormIdeal.τ Cert.RmsResNormIdeal.sig) → Buf (Elt Ideal) ℓ) (g : Dev Cert.RmsResNormIdeal.nD → PrngReg)
    (m' : (ℓ : Loc Cert.RmsResNormRefIdeal.nD Cert.RmsResNormRefIdeal.τ Cert.RmsResNormRefIdeal.sig) → Buf (Elt Ideal) ℓ) (g' : Dev Cert.RmsResNormRefIdeal.nD → PrngReg), Pre_RmsResNormIdeal m →
    (∀ c : Dev Cert.RmsResNormIdeal.nD,
      m' ((c.tc : Thread Cert.RmsResNormRefIdeal.nD Cert.RmsResNormRefIdeal.τ).loc Cert.RmsResNormRefIdeal.main_arg0) = m ((c.tc : Thread Cert.RmsResNormIdeal.nD Cert.RmsResNormIdeal.τ).loc Cert.RmsResNormIdeal.main_arg0)
      ∧ m' ((c.tc : Thread Cert.RmsResNormRefIdeal.nD Cert.RmsResNormRefIdeal.τ).loc Cert.RmsResNormRefIdeal.main_arg1) = m ((c.tc : Thread Cert.RmsResNormIdeal.nD Cert.RmsResNormIdeal.τ).loc Cert.RmsResNormIdeal.main_arg1)
      ∧ m' ((c.tc : Thread Cert.RmsResNormRefIdeal.nD Cert.RmsResNormRefIdeal.τ).loc Cert.RmsResNormRefIdeal.main_arg2) = m ((c.tc : Thread Cert.RmsResNormIdeal.nD Cert.RmsResNormIdeal.τ).loc Cert.RmsResNormIdeal.main_arg2)
      ∧ m' ((c.tc : Thread Cert.RmsResNormRefIdeal.nD Cert.RmsResNormRefIdeal.τ).loc Cert.RmsResNormRefIdeal.main_arg3) = m ((c.tc : Thread Cert.RmsResNormIdeal.nD Cert.RmsResNormIdeal.τ).loc Cert.RmsResNormIdeal.main_arg3)) →
    ∃ (v0 : (c : Dev Cert.RmsResNormIdeal.nD) → Buf (Elt Ideal) ((c.tc : Thread Cert.RmsResNormIdeal.nD Cert.RmsResNormIdeal.τ).loc Cert.RmsResNormIdeal.main_v2_0)) (v1 : (c : Dev Cert.RmsResNormIdeal.nD) → Buf (Elt Ideal) ((c.tc : Thread Cert.RmsResNormIdeal.nD Cert.RmsResNormIdeal.τ).loc Cert.RmsResNormIdeal.main_v2_1)),
      θ_run (Cert.RmsResNormIdeal.defs (F := Ideal)) (onTc (τ := Cert.RmsResNormIdeal.τ) (Cert.RmsResNormIdeal.main (F := Ideal))) ⟨m, fun _ => 0, g⟩ (fun r => ∀ c : Dev Cert.RmsResNormIdeal.nD,
          r.2.mem ((c.tc : Thread Cert.RmsResNormIdeal.nD Cert.RmsResNormIdeal.τ).loc Cert.RmsResNormIdeal.main_v2_0) = v0 c
          ∧ r.2.mem ((c.tc : Thread Cert.RmsResNormIdeal.nD Cert.RmsResNormIdeal.τ).loc Cert.RmsResNormIdeal.main_v2_1) = v1 c
          ∧ r.2.mem ((c.tc : Thread Cert.RmsResNormIdeal.nD Cert.RmsResNormIdeal.τ).loc Cert.RmsResNormIdeal.main_arg0) = m ((c.tc : Thread Cert.RmsResNormIdeal.nD Cert.RmsResNormIdeal.τ).loc Cert.RmsResNormIdeal.main_arg0)
          ∧ r.2.mem ((c.tc : Thread Cert.RmsResNormIdeal.nD Cert.RmsResNormIdeal.τ).loc Cert.RmsResNormIdeal.main_arg1) = m ((c.tc : Thread Cert.RmsResNormIdeal.nD Cert.RmsResNormIdeal.τ).loc Cert.RmsResNormIdeal.main_arg1)
          ∧ r.2.mem ((c.tc : Thread Cert.RmsResNormIdeal.nD Cert.RmsResNormIdeal.τ).loc Cert.RmsResNormIdeal.main_arg2) = m ((c.tc : Thread Cert.RmsResNormIdeal.nD Cert.RmsResNormIdeal.τ).loc Cert.RmsResNormIdeal.main_arg2)
          ∧ r.2.mem ((c.tc : Thread Cert.RmsResNormIdeal.nD Cert.RmsResNormIdeal.τ).loc Cert.RmsResNormIdeal.main_arg3) = m ((c.tc : Thread Cert.RmsResNormIdeal.nD Cert.RmsResNormIdeal.τ).loc Cert.RmsResNormIdeal.main_arg3))
      ∧ θ_run (Cert.RmsResNormRefIdeal.defs (F := Ideal)) (onTc (τ := Cert.RmsResNormRefIdeal.τ) (Cert.RmsResNormRefIdeal.main (F := Ideal))) ⟨m', fun _ => 0, g'⟩ (fun r => ∀ c : Dev Cert.RmsResNormRefIdeal.nD,
          r.2.mem ((c.tc : Thread Cert.RmsResNormRefIdeal.nD Cert.RmsResNormRefIdeal.τ).loc Cert.RmsResNormRefIdeal.main_v13) = v0 c
          ∧ r.2.mem ((c.tc : Thread Cert.RmsResNormRefIdeal.nD Cert.RmsResNormRefIdeal.τ).loc Cert.RmsResNormRefIdeal.main_v27) = v1 c
          ∧ r.2.mem ((c.tc : Thread Cert.RmsResNormRefIdeal.nD Cert.RmsResNormRefIdeal.τ).loc Cert.RmsResNormRefIdeal.main_arg0) = m' ((c.tc : Thread Cert.RmsResNormRefIdeal.nD Cert.RmsResNormRefIdeal.τ).loc Cert.RmsResNormRefIdeal.main_arg0)
          ∧ r.2.mem ((c.tc : Thread Cert.RmsResNormRefIdeal.nD Cert.RmsResNormRefIdeal.τ).loc Cert.RmsResNormRefIdeal.main_arg1) = m' ((c.tc : Thread Cert.RmsResNormRefIdeal.nD Cert.RmsResNormRefIdeal.τ).loc Cert.RmsResNormRefIdeal.main_arg1)
          ∧ r.2.mem ((c.tc : Thread Cert.RmsResNormRefIdeal.nD Cert.RmsResNormRefIdeal.τ).loc Cert.RmsResNormRefIdeal.main_arg2) = m' ((c.tc : Thread Cert.RmsResNormRefIdeal.nD Cert.RmsResNormRefIdeal.τ).loc Cert.RmsResNormRefIdeal.main_arg2)
          ∧ r.2.mem ((c.tc : Thread Cert.RmsResNormRefIdeal.nD Cert.RmsResNormRefIdeal.τ).loc Cert.RmsResNormRefIdeal.main_arg3) = m' ((c.tc : Thread Cert.RmsResNormRefIdeal.nD Cert.RmsResNormRefIdeal.τ).loc Cert.RmsResNormRefIdeal.main_arg3))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v36) = v0 c
          ∧ r.2.mem ((c.tc : Thread Cert.RmsBwdRefIdeal.nD Cert.RmsBwdRefIdeal.τ).loc Cert.RmsBwdRefIdeal.main_v37) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_RmsChain_RmsChainIdeal : Prop :=
  True

def algebraic_RmsChainIdeal_RmsChainRefIdeal [hRmsChainIdeal : Cert.RmsChainIdeal.Facts] [hRmsChainRefIdeal : Cert.RmsChainRefIdeal.Facts] : Prop :=
  ∀ (m : (ℓ : Loc Cert.RmsChainIdeal.nD Cert.RmsChainIdeal.τ Cert.RmsChainIdeal.sig) → Buf (Elt Ideal) ℓ) (g : Dev Cert.RmsChainIdeal.nD → PrngReg)
    (m' : (ℓ : Loc Cert.RmsChainRefIdeal.nD Cert.RmsChainRefIdeal.τ Cert.RmsChainRefIdeal.sig) → Buf (Elt Ideal) ℓ) (g' : Dev Cert.RmsChainRefIdeal.nD → PrngReg), Pre_RmsChainIdeal m →
    (∀ c : Dev Cert.RmsChainIdeal.nD,
      m' ((c.tc : Thread Cert.RmsChainRefIdeal.nD Cert.RmsChainRefIdeal.τ).loc Cert.RmsChainRefIdeal.main_arg0) = m ((c.tc : Thread Cert.RmsChainIdeal.nD Cert.RmsChainIdeal.τ).loc Cert.RmsChainIdeal.main_arg0)
      ∧ m' ((c.tc : Thread Cert.RmsChainRefIdeal.nD Cert.RmsChainRefIdeal.τ).loc Cert.RmsChainRefIdeal.main_arg1) = m ((c.tc : Thread Cert.RmsChainIdeal.nD Cert.RmsChainIdeal.τ).loc Cert.RmsChainIdeal.main_arg1)
      ∧ m' ((c.tc : Thread Cert.RmsChainRefIdeal.nD Cert.RmsChainRefIdeal.τ).loc Cert.RmsChainRefIdeal.main_arg2) = m ((c.tc : Thread Cert.RmsChainIdeal.nD Cert.RmsChainIdeal.τ).loc Cert.RmsChainIdeal.main_arg2)
      ∧ m' ((c.tc : Thread Cert.RmsChainRefIdeal.nD Cert.RmsChainRefIdeal.τ).loc Cert.RmsChainRefIdeal.main_arg3) = m ((c.tc : Thread Cert.RmsChainIdeal.nD Cert.RmsChainIdeal.τ).loc Cert.RmsChainIdeal.main_arg3)
      ∧ m' ((c.tc : Thread Cert.RmsChainRefIdeal.nD Cert.RmsChainRefIdeal.τ).loc Cert.RmsChainRefIdeal.main_arg4) = m ((c.tc : Thread Cert.RmsChainIdeal.nD Cert.RmsChainIdeal.τ).loc Cert.RmsChainIdeal.main_arg4)
      ∧ m' ((c.tc : Thread Cert.RmsChainRefIdeal.nD Cert.RmsChainRefIdeal.τ).loc Cert.RmsChainRefIdeal.main_arg5) = m ((c.tc : Thread Cert.RmsChainIdeal.nD Cert.RmsChainIdeal.τ).loc Cert.RmsChainIdeal.main_arg5)) →
    ∃ (v0 : (c : Dev Cert.RmsChainIdeal.nD) → Buf (Elt Ideal) ((c.tc : Thread Cert.RmsChainIdeal.nD Cert.RmsChainIdeal.τ).loc Cert.RmsChainIdeal.main_v16_0)) (v1 : (c : Dev Cert.RmsChainIdeal.nD) → Buf (Elt Ideal) ((c.tc : Thread Cert.RmsChainIdeal.nD Cert.RmsChainIdeal.τ).loc Cert.RmsChainIdeal.main_v16_1)) (v2 : (c : Dev Cert.RmsChainIdeal.nD) → Buf (Elt Ideal) ((c.tc : Thread Cert.RmsChainIdeal.nD Cert.RmsChainIdeal.τ).loc Cert.RmsChainIdeal.main_v16_2)) (v3 : (c : Dev Cert.RmsChainIdeal.nD) → Buf (Elt Ideal) ((c.tc : Thread Cert.RmsChainIdeal.nD Cert.RmsChainIdeal.τ).loc Cert.RmsChainIdeal.main_v16_3)),
      θ_run (Cert.RmsChainIdeal.defs (F := Ideal)) (onTc (τ := Cert.RmsChainIdeal.τ) (Cert.RmsChainIdeal.main (F := Ideal))) ⟨m, fun _ => 0, g⟩ (fun r => ∀ c : Dev Cert.RmsChainIdeal.nD,
          r.2.mem ((c.tc : Thread Cert.RmsChainIdeal.nD Cert.RmsChainIdeal.τ).loc Cert.RmsChainIdeal.main_v16_0) = v0 c
          ∧ r.2.mem ((c.tc : Thread Cert.RmsChainIdeal.nD Cert.RmsChainIdeal.τ).loc Cert.RmsChainIdeal.main_v16_1) = v1 c
          ∧ r.2.mem ((c.tc : Thread Cert.RmsChainIdeal.nD Cert.RmsChainIdeal.τ).loc Cert.RmsChainIdeal.main_v16_2) = v2 c
          ∧ r.2.mem ((c.tc : Thread Cert.RmsChainIdeal.nD Cert.RmsChainIdeal.τ).loc Cert.RmsChainIdeal.main_v16_3) = v3 c
          ∧ r.2.mem ((c.tc : Thread Cert.RmsChainIdeal.nD Cert.RmsChainIdeal.τ).loc Cert.RmsChainIdeal.main_arg0) = m ((c.tc : Thread Cert.RmsChainIdeal.nD Cert.RmsChainIdeal.τ).loc Cert.RmsChainIdeal.main_arg0)
          ∧ r.2.mem ((c.tc : Thread Cert.RmsChainIdeal.nD Cert.RmsChainIdeal.τ).loc Cert.RmsChainIdeal.main_arg1) = m ((c.tc : Thread Cert.RmsChainIdeal.nD Cert.RmsChainIdeal.τ).loc Cert.RmsChainIdeal.main_arg1)
          ∧ r.2.mem ((c.tc : Thread Cert.RmsChainIdeal.nD Cert.RmsChainIdeal.τ).loc Cert.RmsChainIdeal.main_arg2) = m ((c.tc : Thread Cert.RmsChainIdeal.nD Cert.RmsChainIdeal.τ).loc Cert.RmsChainIdeal.main_arg2)
          ∧ r.2.mem ((c.tc : Thread Cert.RmsChainIdeal.nD Cert.RmsChainIdeal.τ).loc Cert.RmsChainIdeal.main_arg3) = m ((c.tc : Thread Cert.RmsChainIdeal.nD Cert.RmsChainIdeal.τ).loc Cert.RmsChainIdeal.main_arg3)
          ∧ r.2.mem ((c.tc : Thread Cert.RmsChainIdeal.nD Cert.RmsChainIdeal.τ).loc Cert.RmsChainIdeal.main_arg4) = m ((c.tc : Thread Cert.RmsChainIdeal.nD Cert.RmsChainIdeal.τ).loc Cert.RmsChainIdeal.main_arg4)
          ∧ r.2.mem ((c.tc : Thread Cert.RmsChainIdeal.nD Cert.RmsChainIdeal.τ).loc Cert.RmsChainIdeal.main_arg5) = m ((c.tc : Thread Cert.RmsChainIdeal.nD Cert.RmsChainIdeal.τ).loc Cert.RmsChainIdeal.main_arg5))
      ∧ θ_run (Cert.RmsChainRefIdeal.defs (F := Ideal)) (onTc (τ := Cert.RmsChainRefIdeal.τ) (Cert.RmsChainRefIdeal.main (F := Ideal))) ⟨m', fun _ => 0, g'⟩ (fun r => ∀ c : Dev Cert.RmsChainRefIdeal.nD,
          r.2.mem ((c.tc : Thread Cert.RmsChainRefIdeal.nD Cert.RmsChainRefIdeal.τ).loc Cert.RmsChainRefIdeal.main_v53) = v0 c
          ∧ r.2.mem ((c.tc : Thread Cert.RmsChainRefIdeal.nD Cert.RmsChainRefIdeal.τ).loc Cert.RmsChainRefIdeal.main_v75) = v1 c
          ∧ r.2.mem ((c.tc : Thread Cert.RmsChainRefIdeal.nD Cert.RmsChainRefIdeal.τ).loc Cert.RmsChainRefIdeal.main_v76) = v2 c
          ∧ r.2.mem ((c.tc : Thread Cert.RmsChainRefIdeal.nD Cert.RmsChainRefIdeal.τ).loc Cert.RmsChainRefIdeal.main_v77) = v3 c
          ∧ r.2.mem ((c.tc : Thread Cert.RmsChainRefIdeal.nD Cert.RmsChainRefIdeal.τ).loc Cert.RmsChainRefIdeal.main_arg0) = m' ((c.tc : Thread Cert.RmsChainRefIdeal.nD Cert.RmsChainRefIdeal.τ).loc Cert.RmsChainRefIdeal.main_arg0)
          ∧ r.2.mem ((c.tc : Thread Cert.RmsChainRefIdeal.nD Cert.RmsChainRefIdeal.τ).loc Cert.RmsChainRefIdeal.main_arg1) = m' ((c.tc : Thread Cert.RmsChainRefIdeal.nD Cert.RmsChainRefIdeal.τ).loc Cert.RmsChainRefIdeal.main_arg1)
          ∧ r.2.mem ((c.tc : Thread Cert.RmsChainRefIdeal.nD Cert.RmsChainRefIdeal.τ).loc Cert.RmsChainRefIdeal.main_arg2) = m' ((c.tc : Thread Cert.RmsChainRefIdeal.nD Cert.RmsChainRefIdeal.τ).loc Cert.RmsChainRefIdeal.main_arg2)
          ∧ r.2.mem ((c.tc : Thread Cert.RmsChainRefIdeal.nD Cert.RmsChainRefIdeal.τ).loc Cert.RmsChainRefIdeal.main_arg3) = m' ((c.tc : Thread Cert.RmsChainRefIdeal.nD Cert.RmsChainRefIdeal.τ).loc Cert.RmsChainRefIdeal.main_arg3)
          ∧ r.2.mem ((c.tc : Thread Cert.RmsChainRefIdeal.nD Cert.RmsChainRefIdeal.τ).loc Cert.RmsChainRefIdeal.main_arg4) = m' ((c.tc : Thread Cert.RmsChainRefIdeal.nD Cert.RmsChainRefIdeal.τ).loc Cert.RmsChainRefIdeal.main_arg4)
          ∧ r.2.mem ((c.tc : Thread Cert.RmsChainRefIdeal.nD Cert.RmsChainRefIdeal.τ).loc Cert.RmsChainRefIdeal.main_arg5) = m' ((c.tc : Thread Cert.RmsChainRefIdeal.nD Cert.RmsChainRefIdeal.τ).loc Cert.RmsChainRefIdeal.main_arg5))

def preserves_SguFwd_SguFwdIdeal : Prop :=
  IdealRules.named_const.Statement Cert.SguFwdIdeal.κ "sqrt_half" .f32 0x3F3504F3#32 ((Real.sqrt (1 / 2) : ℝ) : EReal)

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)
      ∧ m' ((c.tc : Thread Cert.SguFwdRefIdeal.nD Cert.SguFwdRefIdeal.τ).loc Cert.SguFwdRefIdeal.main_arg5) = m ((c.tc : Thread Cert.SguFwdIdeal.nD Cert.SguFwdIdeal.τ).loc Cert.SguFwdIdeal.main_arg5)) →
    ∃ (v0 : (c : Dev Cert.SguFwdIdeal.nD) → Buf (Elt Ideal) ((c.tc : Thread Cert.SguFwdIdeal.nD Cert.SguFwdIdeal.τ).loc Cert.SguFwdIdeal.main_v6)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v6) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
          ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v50) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4)
          ∧ r.2.mem ((c.tc : Thread Cert.SguFwdRefIdeal.nD Cert.SguFwdRefIdeal.τ).loc Cert.SguFwdRefIdeal.main_arg5) = m' ((c.tc : Thread Cert.SguFwdRefIdeal.nD Cert.SguFwdRefIdeal.τ).loc Cert.SguFwdRefIdeal.main_arg5))

def preserves_LossGrad_LossGradIdeal : Prop :=
  True

def algebraic_LossGradIdeal_LossGradRefIdeal [hLossGradIdeal : Cert.LossGradIdeal.Facts] [hLossGradRefIdeal : Cert.LossGradRefIdeal.Facts] : Prop :=
  ∀ (m : (ℓ : Loc Cert.LossGradIdeal.nD Cert.LossGradIdeal.τ Cert.LossGradIdeal.sig) → Buf (Elt Ideal) ℓ) (g : Dev Cert.LossGradIdeal.nD → PrngReg)
    (m' : (ℓ : Loc Cert.LossGradRefIdeal.nD Cert.LossGradRefIdeal.τ Cert.LossGradRefIdeal.sig) → Buf (Elt Ideal) ℓ) (g' : Dev Cert.LossGradRefIdeal.nD → PrngReg), Pre_LossGradIdeal m →
    (∀ c : Dev Cert.LossGradIdeal.nD,
      m' ((c.tc : Thread Cert.LossGradRefIdeal.nD Cert.LossGradRefIdeal.τ).loc Cert.LossGradRefIdeal.main_arg0) = m ((c.tc : Thread Cert.LossGradIdeal.nD Cert.LossGradIdeal.τ).loc Cert.LossGradIdeal.main_arg0)
      ∧ m' ((c.tc : Thread Cert.LossGradRefIdeal.nD Cert.LossGradRefIdeal.τ).loc Cert.LossGradRefIdeal.main_arg1) = m ((c.tc : Thread Cert.LossGradIdeal.nD Cert.LossGradIdeal.τ).loc Cert.LossGradIdeal.main_arg1)
      ∧ m' ((c.tc : Thread Cert.LossGradRefIdeal.nD Cert.LossGradRefIdeal.τ).loc Cert.LossGradRefIdeal.main_arg2) = m ((c.tc : Thread Cert.LossGradIdeal.nD Cert.LossGradIdeal.τ).loc Cert.LossGradIdeal.main_arg2)
      ∧ m' ((c.tc : Thread Cert.LossGradRefIdeal.nD Cert.LossGradRefIdeal.τ).loc Cert.LossGradRefIdeal.main_arg3) = m ((c.tc : Thread Cert.LossGradIdeal.nD Cert.LossGradIdeal.τ).loc Cert.LossGradIdeal.main_arg3)) →
    ∃ (v0 : (c : Dev Cert.LossGradIdeal.nD) → Buf (Elt Ideal) ((c.tc : Thread Cert.LossGradIdeal.nD Cert.LossGradIdeal.τ).loc Cert.LossGradIdeal.main_v15_0)) (v1 : (c : Dev Cert.LossGradIdeal.nD) → Buf (Elt Ideal) ((c.tc : Thread Cert.LossGradIdeal.nD Cert.LossGradIdeal.τ).loc Cert.LossGradIdeal.main_v15_1)) (v2 : (c : Dev Cert.LossGradIdeal.nD) → Buf (Elt Ideal) ((c.tc : Thread Cert.LossGradIdeal.nD Cert.LossGradIdeal.τ).loc Cert.LossGradIdeal.main_v15_2)) (v3 : (c : Dev Cert.LossGradIdeal.nD) → Buf (Elt Ideal) ((c.tc : Thread Cert.LossGradIdeal.nD Cert.LossGradIdeal.τ).loc Cert.LossGradIdeal.main_v15_3)),
      θ_run (Cert.LossGradIdeal.defs (F := Ideal)) (onTc (τ := Cert.LossGradIdeal.τ) (Cert.LossGradIdeal.main (F := Ideal))) ⟨m, fun _ => 0, g⟩ (fun r => ∀ c : Dev Cert.LossGradIdeal.nD,
          r.2.mem ((c.tc : Thread Cert.LossGradIdeal.nD Cert.LossGradIdeal.τ).loc Cert.LossGradIdeal.main_v15_0) = v0 c
          ∧ r.2.mem ((c.tc : Thread Cert.LossGradIdeal.nD Cert.LossGradIdeal.τ).loc Cert.LossGradIdeal.main_v15_1) = v1 c
          ∧ r.2.mem ((c.tc : Thread Cert.LossGradIdeal.nD Cert.LossGradIdeal.τ).loc Cert.LossGradIdeal.main_v15_2) = v2 c
          ∧ r.2.mem ((c.tc : Thread Cert.LossGradIdeal.nD Cert.LossGradIdeal.τ).loc Cert.LossGradIdeal.main_v15_3) = v3 c
          ∧ r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
          ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2)
          ∧ r.2.mem ((c.tc : Thread Cert.LossGradIdeal.nD Cert.LossGradIdeal.τ).loc Cert.LossGradIdeal.main_arg3) = m ((c.tc : Thread Cert.LossGradIdeal.nD Cert.LossGradIdeal.τ).loc Cert.LossGradIdeal.main_arg3))
      ∧ θ_run (Cert.LossGradRefIdeal.defs (F := Ideal)) (onTc (τ := Cert.LossGradRefIdeal.τ) (Cert.LossGradRefIdeal.main (F := Ideal))) ⟨m', fun _ => 0, g'⟩ (fun r => ∀ c : Dev Cert.LossGradRefIdeal.nD,
          r.2.mem ((c.tc : Thread Cert.LossGradRefIdeal.nD Cert.LossGradRefIdeal.τ).loc Cert.LossGradRefIdeal.main_v31) = v0 c
          ∧ r.2.mem ((c.tc : Thread Cert.LossGradRefIdeal.nD Cert.LossGradRefIdeal.τ).loc Cert.LossGradRefIdeal.main_v52) = v1 c
          ∧ r.2.mem ((c.tc : Thread Cert.LossGradRefIdeal.nD Cert.LossGradRefIdeal.τ).loc Cert.LossGradRefIdeal.main_v53) = v2 c
          ∧ r.2.mem ((c.tc : Thread Cert.LossGradRefIdeal.nD Cert.LossGradRefIdeal.τ).loc Cert.LossGradRefIdeal.main_v54) = v3 c
          ∧ r.2.mem ((c.tc : Thread Cert.LossGradRefIdeal.nD Cert.LossGradRefIdeal.τ).loc Cert.LossGradRefIdeal.main_arg0) = m' ((c.tc : Thread Cert.LossGradRefIdeal.nD Cert.LossGradRefIdeal.τ).loc Cert.LossGradRefIdeal.main_arg0)
          ∧ r.2.mem ((c.tc : Thread Cert.LossGradRefIdeal.nD Cert.LossGradRefIdeal.τ).loc Cert.LossGradRefIdeal.main_arg1) = m' ((c.tc : Thread Cert.LossGradRefIdeal.nD Cert.LossGradRefIdeal.τ).loc Cert.LossGradRefIdeal.main_arg1)
          ∧ r.2.mem ((c.tc : Thread Cert.LossGradRefIdeal.nD Cert.LossGradRefIdeal.τ).loc Cert.LossGradRefIdeal.main_arg2) = m' ((c.tc : Thread Cert.LossGradRefIdeal.nD Cert.LossGradRefIdeal.τ).loc Cert.LossGradRefIdeal.main_arg2)
          ∧ r.2.mem ((c.tc : Thread Cert.LossGradRefIdeal.nD Cert.LossGradRefIdeal.τ).loc Cert.LossGradRefIdeal.main_arg3) = m' ((c.tc : Thread Cert.LossGradRefIdeal.nD Cert.LossGradRefIdeal.τ).loc Cert.LossGradRefIdeal.main_arg3))

def preserves_AdamGain_AdamGainIdeal : Prop :=
  True

def algebraic_AdamGainIdeal_AdamGainRefIdeal [hAdamGainIdeal : Cert.AdamGainIdeal.Facts] [hAdamGainRefIdeal : Cert.AdamGainRefIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg)
    (m' : (ℓ : Loc Cert.AdamGainRefIdeal.nD Cert.AdamGainRefIdeal.τ Cert.AdamGainRefIdeal.sig) → Buf (Elt Ideal) ℓ) (g' : Dev Cert.AdamGainRefIdeal.nD → PrngReg), Pre_AdamGainIdeal m →
    (∀ c : Dev Cert.AdamGainIdeal.nD,
      m' ((c.tc : Thread Cert.AdamGainRefIdeal.nD Cert.AdamGainRefIdeal.τ).loc Cert.AdamGainRefIdeal.main_arg0) = m ((c.tc : Thread Cert.AdamGainIdeal.nD Cert.AdamGainIdeal.τ).loc Cert.AdamGainIdeal.main_arg0)
      ∧ m' ((c.tc : Thread Cert.AdamGainRefIdeal.nD Cert.AdamGainRefIdeal.τ).loc Cert.AdamGainRefIdeal.main_arg1) = m ((c.tc : Thread Cert.AdamGainIdeal.nD Cert.AdamGainIdeal.τ).loc Cert.AdamGainIdeal.main_arg1)
      ∧ m' ((c.tc : Thread Cert.AdamGainRefIdeal.nD Cert.AdamGainRefIdeal.τ).loc Cert.AdamGainRefIdeal.main_arg2) = m ((c.tc : Thread Cert.AdamGainIdeal.nD Cert.AdamGainIdeal.τ).loc Cert.AdamGainIdeal.main_arg2)
      ∧ m' ((c.tc : Thread Cert.AdamGainRefIdeal.nD Cert.AdamGainRefIdeal.τ).loc Cert.AdamGainRefIdeal.main_arg3) = m ((c.tc : Thread Cert.AdamGainIdeal.nD Cert.AdamGainIdeal.τ).loc Cert.AdamGainIdeal.main_arg3)) →
    ∃ (v0 : (c : Dev Cert.AdamGainIdeal.nD) → Buf (Elt Ideal) ((c.tc : Thread Cert.AdamGainIdeal.nD Cert.AdamGainIdeal.τ).loc Cert.AdamGainIdeal.main_v0_0)) (v1 : (c : Dev Cert.AdamGainIdeal.nD) → Buf (Elt Ideal) ((c.tc : Thread Cert.AdamGainIdeal.nD Cert.AdamGainIdeal.τ).loc Cert.AdamGainIdeal.main_v0_1)) (v2 : (c : Dev Cert.AdamGainIdeal.nD) → Buf (Elt Ideal) ((c.tc : Thread Cert.AdamGainIdeal.nD Cert.AdamGainIdeal.τ).loc Cert.AdamGainIdeal.main_v0_2)),
      θ_run (Cert.AdamGainIdeal.defs (F := Ideal)) (onTc (τ := Cert.AdamGainIdeal.τ) (Cert.AdamGainIdeal.main (F := Ideal))) ⟨m, fun _ => 0, g⟩ (fun r => ∀ c : Dev Cert.AdamGainIdeal.nD,
          r.2.mem ((c.tc : Thread Cert.AdamGainIdeal.nD Cert.AdamGainIdeal.τ).loc Cert.AdamGainIdeal.main_v0_0) = v0 c
          ∧ r.2.mem ((c.tc : Thread Cert.AdamGainIdeal.nD Cert.AdamGainIdeal.τ).loc Cert.AdamGainIdeal.main_v0_1) = v1 c
          ∧ r.2.mem ((c.tc : Thread Cert.AdamGainIdeal.nD Cert.AdamGainIdeal.τ).loc Cert.AdamGainIdeal.main_v0_2) = v2 c
          ∧ r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
          ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
          ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
          ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ θ_run (Cert.AdamGainRefIdeal.defs (F := Ideal)) (onTc (τ := Cert.AdamGainRefIdeal.τ) (Cert.AdamGainRefIdeal.main (F := Ideal))) ⟨m', fun _ => 0, g'⟩ (fun r => ∀ c : Dev Cert.AdamGainRefIdeal.nD,
          r.2.mem ((c.tc : Thread Cert.AdamGainRefIdeal.nD Cert.AdamGainRefIdeal.τ).loc Cert.AdamGainRefIdeal.main_v23) = v0 c
          ∧ r.2.mem ((c.tc : Thread Cert.AdamGainRefIdeal.nD Cert.AdamGainRefIdeal.τ).loc Cert.AdamGainRefIdeal.main_v4) = v1 c
          ∧ r.2.mem ((c.tc : Thread Cert.AdamGainRefIdeal.nD Cert.AdamGainRefIdeal.τ).loc Cert.AdamGainRefIdeal.main_v10) = v2 c
          ∧ r.2.mem ((c.tc : Thread Cert.AdamGainRefIdeal.nD Cert.AdamGainRefIdeal.τ).loc Cert.AdamGainRefIdeal.main_arg0) = m' ((c.tc : Thread Cert.AdamGainRefIdeal.nD Cert.AdamGainRefIdeal.τ).loc Cert.AdamGainRefIdeal.main_arg0)
          ∧ r.2.mem ((c.tc : Thread Cert.AdamGainRefIdeal.nD Cert.AdamGainRefIdeal.τ).loc Cert.AdamGainRefIdeal.main_arg1) = m' ((c.tc : Thread Cert.AdamGainRefIdeal.nD Cert.AdamGainRefIdeal.τ).loc Cert.AdamGainRefIdeal.main_arg1)
          ∧ r.2.mem ((c.tc : Thread Cert.AdamGainRefIdeal.nD Cert.AdamGainRefIdeal.τ).loc Cert.AdamGainRefIdeal.main_arg2) = m' ((c.tc : Thread Cert.AdamGainRefIdeal.nD Cert.AdamGainRefIdeal.τ).loc Cert.AdamGainRefIdeal.main_arg2)
          ∧ r.2.mem ((c.tc : Thread Cert.AdamGainRefIdeal.nD Cert.AdamGainRefIdeal.τ).loc Cert.AdamGainRefIdeal.main_arg3) = m' ((c.tc : Thread Cert.AdamGainRefIdeal.nD Cert.AdamGainRefIdeal.τ).loc Cert.AdamGainRefIdeal.main_arg3))

def preserves_AdamGmlpBias_AdamGmlpBiasIdeal : Prop :=
  True

def algebraic_AdamGmlpBiasIdeal_AdamGmlpBiasRefIdeal [hAdamGmlpBiasIdeal : Cert.AdamGmlpBiasIdeal.Facts] [hAdamGmlpBiasRefIdeal : Cert.AdamGmlpBiasRefIdeal.Facts] : Prop :=
  ∀ (m : (ℓ : Loc Cert.AdamGmlpBiasIdeal.nD Cert.AdamGmlpBiasIdeal.τ Cert.AdamGmlpBiasIdeal.sig) → Buf (Elt Ideal) ℓ) (g : Dev Cert.AdamGmlpBiasIdeal.nD → PrngReg)
    (m' : (ℓ : Loc Cert.AdamGmlpBiasRefIdeal.nD Cert.AdamGmlpBiasRefIdeal.τ Cert.AdamGmlpBiasRefIdeal.sig) → Buf (Elt Ideal) ℓ) (g' : Dev Cert.AdamGmlpBiasRefIdeal.nD → PrngReg), Pre_AdamGmlpBiasIdeal m →
    (∀ c : Dev Cert.AdamGmlpBiasIdeal.nD,
      m' ((c.tc : Thread Cert.AdamGmlpBiasRefIdeal.nD Cert.AdamGmlpBiasRefIdeal.τ).loc Cert.AdamGmlpBiasRefIdeal.main_arg0) = m ((c.tc : Thread Cert.AdamGmlpBiasIdeal.nD Cert.AdamGmlpBiasIdeal.τ).loc Cert.AdamGmlpBiasIdeal.main_arg0)
      ∧ m' ((c.tc : Thread Cert.AdamGmlpBiasRefIdeal.nD Cert.AdamGmlpBiasRefIdeal.τ).loc Cert.AdamGmlpBiasRefIdeal.main_arg1) = m ((c.tc : Thread Cert.AdamGmlpBiasIdeal.nD Cert.AdamGmlpBiasIdeal.τ).loc Cert.AdamGmlpBiasIdeal.main_arg1)
      ∧ m' ((c.tc : Thread Cert.AdamGmlpBiasRefIdeal.nD Cert.AdamGmlpBiasRefIdeal.τ).loc Cert.AdamGmlpBiasRefIdeal.main_arg2) = m ((c.tc : Thread Cert.AdamGmlpBiasIdeal.nD Cert.AdamGmlpBiasIdeal.τ).loc Cert.AdamGmlpBiasIdeal.main_arg2)
      ∧ m' ((c.tc : Thread Cert.AdamGmlpBiasRefIdeal.nD Cert.AdamGmlpBiasRefIdeal.τ).loc Cert.AdamGmlpBiasRefIdeal.main_arg3) = m ((c.tc : Thread Cert.AdamGmlpBiasIdeal.nD Cert.AdamGmlpBiasIdeal.τ).loc Cert.AdamGmlpBiasIdeal.main_arg3)) →
    ∃ (v0 : (c : Dev Cert.AdamGmlpBiasIdeal.nD) → Buf (Elt Ideal) ((c.tc : Thread Cert.AdamGmlpBiasIdeal.nD Cert.AdamGmlpBiasIdeal.τ).loc Cert.AdamGmlpBiasIdeal.main_v0_0)) (v1 : (c : Dev Cert.AdamGmlpBiasIdeal.nD) → Buf (Elt Ideal) ((c.tc : Thread Cert.AdamGmlpBiasIdeal.nD Cert.AdamGmlpBiasIdeal.τ).loc Cert.AdamGmlpBiasIdeal.main_v0_1)) (v2 : (c : Dev Cert.AdamGmlpBiasIdeal.nD) → Buf (Elt Ideal) ((c.tc : Thread Cert.AdamGmlpBiasIdeal.nD Cert.AdamGmlpBiasIdeal.τ).loc Cert.AdamGmlpBiasIdeal.main_v0_2)),
      θ_run (Cert.AdamGmlpBiasIdeal.defs (F := Ideal)) (onTc (τ := Cert.AdamGmlpBiasIdeal.τ) (Cert.AdamGmlpBiasIdeal.main (F := Ideal))) ⟨m, fun _ => 0, g⟩ (fun r => ∀ c : Dev Cert.AdamGmlpBiasIdeal.nD,
          r.2.mem ((c.tc : Thread Cert.AdamGmlpBiasIdeal.nD Cert.AdamGmlpBiasIdeal.τ).loc Cert.AdamGmlpBiasIdeal.main_v0_0) = v0 c
          ∧ r.2.mem ((c.tc : Thread Cert.AdamGmlpBiasIdeal.nD Cert.AdamGmlpBiasIdeal.τ).loc Cert.AdamGmlpBiasIdeal.main_v0_1) = v1 c
          ∧ r.2.mem ((c.tc : Thread Cert.AdamGmlpBiasIdeal.nD Cert.AdamGmlpBiasIdeal.τ).loc Cert.AdamGmlpBiasIdeal.main_v0_2) = v2 c
          ∧ r.2.mem ((c.tc : Thread Cert.AdamGmlpBiasIdeal.nD Cert.AdamGmlpBiasIdeal.τ).loc Cert.AdamGmlpBiasIdeal.main_arg0) = m ((c.tc : Thread Cert.AdamGmlpBiasIdeal.nD Cert.AdamGmlpBiasIdeal.τ).loc Cert.AdamGmlpBiasIdeal.main_arg0)
          ∧ r.2.mem ((c.tc : Thread Cert.AdamGmlpBiasIdeal.nD Cert.AdamGmlpBiasIdeal.τ).loc Cert.AdamGmlpBiasIdeal.main_arg1) = m ((c.tc : Thread Cert.AdamGmlpBiasIdeal.nD Cert.AdamGmlpBiasIdeal.τ).loc Cert.AdamGmlpBiasIdeal.main_arg1)
          ∧ r.2.mem ((c.tc : Thread Cert.AdamGmlpBiasIdeal.nD Cert.AdamGmlpBiasIdeal.τ).loc Cert.AdamGmlpBiasIdeal.main_arg2) = m ((c.tc : Thread Cert.AdamGmlpBiasIdeal.nD Cert.AdamGmlpBiasIdeal.τ).loc Cert.AdamGmlpBiasIdeal.main_arg2)
          ∧ r.2.mem ((c.tc : Thread Cert.AdamGmlpBiasIdeal.nD Cert.AdamGmlpBiasIdeal.τ).loc Cert.AdamGmlpBiasIdeal.main_arg3) = m ((c.tc : Thread Cert.AdamGmlpBiasIdeal.nD Cert.AdamGmlpBiasIdeal.τ).loc Cert.AdamGmlpBiasIdeal.main_arg3))
      ∧ θ_run (Cert.AdamGmlpBiasRefIdeal.defs (F := Ideal)) (onTc (τ := Cert.AdamGmlpBiasRefIdeal.τ) (Cert.AdamGmlpBiasRefIdeal.main (F := Ideal))) ⟨m', fun _ => 0, g'⟩ (fun r => ∀ c : Dev Cert.AdamGmlpBiasRefIdeal.nD,
          r.2.mem ((c.tc : Thread Cert.AdamGmlpBiasRefIdeal.nD Cert.AdamGmlpBiasRefIdeal.τ).loc Cert.AdamGmlpBiasRefIdeal.main_v23) = v0 c
          ∧ r.2.mem ((c.tc : Thread Cert.AdamGmlpBiasRefIdeal.nD Cert.AdamGmlpBiasRefIdeal.τ).loc Cert.AdamGmlpBiasRefIdeal.main_v4) = v1 c
          ∧ r.2.mem ((c.tc : Thread Cert.AdamGmlpBiasRefIdeal.nD Cert.AdamGmlpBiasRefIdeal.τ).loc Cert.AdamGmlpBiasRefIdeal.main_v10) = v2 c
          ∧ r.2.mem ((c.tc : Thread Cert.AdamGmlpBiasRefIdeal.nD Cert.AdamGmlpBiasRefIdeal.τ).loc Cert.AdamGmlpBiasRefIdeal.main_arg0) = m' ((c.tc : Thread Cert.AdamGmlpBiasRefIdeal.nD Cert.AdamGmlpBiasRefIdeal.τ).loc Cert.AdamGmlpBiasRefIdeal.main_arg0)
          ∧ r.2.mem ((c.tc : Thread Cert.AdamGmlpBiasRefIdeal.nD Cert.AdamGmlpBiasRefIdeal.τ).loc Cert.AdamGmlpBiasRefIdeal.main_arg1) = m' ((c.tc : Thread Cert.AdamGmlpBiasRefIdeal.nD Cert.AdamGmlpBiasRefIdeal.τ).loc Cert.AdamGmlpBiasRefIdeal.main_arg1)
          ∧ r.2.mem ((c.tc : Thread Cert.AdamGmlpBiasRefIdeal.nD Cert.AdamGmlpBiasRefIdeal.τ).loc Cert.AdamGmlpBiasRefIdeal.main_arg2) = m' ((c.tc : Thread Cert.AdamGmlpBiasRefIdeal.nD Cert.AdamGmlpBiasRefIdeal.τ).loc Cert.AdamGmlpBiasRefIdeal.main_arg2)
          ∧ r.2.mem ((c.tc : Thread Cert.AdamGmlpBiasRefIdeal.nD Cert.AdamGmlpBiasRefIdeal.τ).loc Cert.AdamGmlpBiasRefIdeal.main_arg3) = m' ((c.tc : Thread Cert.AdamGmlpBiasRefIdeal.nD Cert.AdamGmlpBiasRefIdeal.τ).loc Cert.AdamGmlpBiasRefIdeal.main_arg3))

def preserves_AdamGmlpNorm_AdamGmlpNormIdeal : Prop :=
  True

def algebraic_AdamGmlpNormIdeal_AdamGmlpNormRefIdeal [hAdamGmlpNormIdeal : Cert.AdamGmlpNormIdeal.Facts] [hAdamGmlpNormRefIdeal : Cert.AdamGmlpNormRefIdeal.Facts] : Prop :=
  ∀ (m : (ℓ : Loc Cert.AdamGmlpNormIdeal.nD Cert.AdamGmlpNormIdeal.τ Cert.AdamGmlpNormIdeal.sig) → Buf (Elt Ideal) ℓ) (g : Dev Cert.AdamGmlpNormIdeal.nD → PrngReg)
    (m' : (ℓ : Loc Cert.AdamGmlpNormRefIdeal.nD Cert.AdamGmlpNormRefIdeal.τ Cert.AdamGmlpNormRefIdeal.sig) → Buf (Elt Ideal) ℓ) (g' : Dev Cert.AdamGmlpNormRefIdeal.nD → PrngReg), Pre_AdamGmlpNormIdeal m →
    (∀ c : Dev Cert.AdamGmlpNormIdeal.nD,
      m' ((c.tc : Thread Cert.AdamGmlpNormRefIdeal.nD Cert.AdamGmlpNormRefIdeal.τ).loc Cert.AdamGmlpNormRefIdeal.main_arg0) = m ((c.tc : Thread Cert.AdamGmlpNormIdeal.nD Cert.AdamGmlpNormIdeal.τ).loc Cert.AdamGmlpNormIdeal.main_arg0)
      ∧ m' ((c.tc : Thread Cert.AdamGmlpNormRefIdeal.nD Cert.AdamGmlpNormRefIdeal.τ).loc Cert.AdamGmlpNormRefIdeal.main_arg1) = m ((c.tc : Thread Cert.AdamGmlpNormIdeal.nD Cert.AdamGmlpNormIdeal.τ).loc Cert.AdamGmlpNormIdeal.main_arg1)
      ∧ m' ((c.tc : Thread Cert.AdamGmlpNormRefIdeal.nD Cert.AdamGmlpNormRefIdeal.τ).loc Cert.AdamGmlpNormRefIdeal.main_arg2) = m ((c.tc : Thread Cert.AdamGmlpNormIdeal.nD Cert.AdamGmlpNormIdeal.τ).loc Cert.AdamGmlpNormIdeal.main_arg2)
      ∧ m' ((c.tc : Thread Cert.AdamGmlpNormRefIdeal.nD Cert.AdamGmlpNormRefIdeal.τ).loc Cert.AdamGmlpNormRefIdeal.main_arg3) = m ((c.tc : Thread Cert.AdamGmlpNormIdeal.nD Cert.AdamGmlpNormIdeal.τ).loc Cert.AdamGmlpNormIdeal.main_arg3)) →
    ∃ (v0 : (c : Dev Cert.AdamGmlpNormIdeal.nD) → Buf (Elt Ideal) ((c.tc : Thread Cert.AdamGmlpNormIdeal.nD Cert.AdamGmlpNormIdeal.τ).loc Cert.AdamGmlpNormIdeal.main_v0_0)) (v1 : (c : Dev Cert.AdamGmlpNormIdeal.nD) → Buf (Elt Ideal) ((c.tc : Thread Cert.AdamGmlpNormIdeal.nD Cert.AdamGmlpNormIdeal.τ).loc Cert.AdamGmlpNormIdeal.main_v0_1)) (v2 : (c : Dev Cert.AdamGmlpNormIdeal.nD) → Buf (Elt Ideal) ((c.tc : Thread Cert.AdamGmlpNormIdeal.nD Cert.AdamGmlpNormIdeal.τ).loc Cert.AdamGmlpNormIdeal.main_v0_2)),
      θ_run (Cert.AdamGmlpNormIdeal.defs (F := Ideal)) (onTc (τ := Cert.AdamGmlpNormIdeal.τ) (Cert.AdamGmlpNormIdeal.main (F := Ideal))) ⟨m, fun _ => 0, g⟩ (fun r => ∀ c : Dev Cert.AdamGmlpNormIdeal.nD,
          r.2.mem ((c.tc : Thread Cert.AdamGmlpNormIdeal.nD Cert.AdamGmlpNormIdeal.τ).loc Cert.AdamGmlpNormIdeal.main_v0_0) = v0 c
          ∧ r.2.mem ((c.tc : Thread Cert.AdamGmlpNormIdeal.nD Cert.AdamGmlpNormIdeal.τ).loc Cert.AdamGmlpNormIdeal.main_v0_1) = v1 c
          ∧ r.2.mem ((c.tc : Thread Cert.AdamGmlpNormIdeal.nD Cert.AdamGmlpNormIdeal.τ).loc Cert.AdamGmlpNormIdeal.main_v0_2) = v2 c
          ∧ r.2.mem ((c.tc : Thread Cert.AdamGmlpNormIdeal.nD Cert.AdamGmlpNormIdeal.τ).loc Cert.AdamGmlpNormIdeal.main_arg0) = m ((c.tc : Thread Cert.AdamGmlpNormIdeal.nD Cert.AdamGmlpNormIdeal.τ).loc Cert.AdamGmlpNormIdeal.main_arg0)
          ∧ r.2.mem ((c.tc : Thread Cert.AdamGmlpNormIdeal.nD Cert.AdamGmlpNormIdeal.τ).loc Cert.AdamGmlpNormIdeal.main_arg1) = m ((c.tc : Thread Cert.AdamGmlpNormIdeal.nD Cert.AdamGmlpNormIdeal.τ).loc Cert.AdamGmlpNormIdeal.main_arg1)
          ∧ r.2.mem ((c.tc : Thread Cert.AdamGmlpNormIdeal.nD Cert.AdamGmlpNormIdeal.τ).loc Cert.AdamGmlpNormIdeal.main_arg2) = m ((c.tc : Thread Cert.AdamGmlpNormIdeal.nD Cert.AdamGmlpNormIdeal.τ).loc Cert.AdamGmlpNormIdeal.main_arg2)
          ∧ r.2.mem ((c.tc : Thread Cert.AdamGmlpNormIdeal.nD Cert.AdamGmlpNormIdeal.τ).loc Cert.AdamGmlpNormIdeal.main_arg3) = m ((c.tc : Thread Cert.AdamGmlpNormIdeal.nD Cert.AdamGmlpNormIdeal.τ).loc Cert.AdamGmlpNormIdeal.main_arg3))
      ∧ θ_run (Cert.AdamGmlpNormRefIdeal.defs (F := Ideal)) (onTc (τ := Cert.AdamGmlpNormRefIdeal.τ) (Cert.AdamGmlpNormRefIdeal.main (F := Ideal))) ⟨m', fun _ => 0, g'⟩ (fun r => ∀ c : Dev Cert.AdamGmlpNormRefIdeal.nD,
          r.2.mem ((c.tc : Thread Cert.AdamGmlpNormRefIdeal.nD Cert.AdamGmlpNormRefIdeal.τ).loc Cert.AdamGmlpNormRefIdeal.main_v23) = v0 c
          ∧ r.2.mem ((c.tc : Thread Cert.AdamGmlpNormRefIdeal.nD Cert.AdamGmlpNormRefIdeal.τ).loc Cert.AdamGmlpNormRefIdeal.main_v4) = v1 c
          ∧ r.2.mem ((c.tc : Thread Cert.AdamGmlpNormRefIdeal.nD Cert.AdamGmlpNormRefIdeal.τ).loc Cert.AdamGmlpNormRefIdeal.main_v10) = v2 c
          ∧ r.2.mem ((c.tc : Thread Cert.AdamGmlpNormRefIdeal.nD Cert.AdamGmlpNormRefIdeal.τ).loc Cert.AdamGmlpNormRefIdeal.main_arg0) = m' ((c.tc : Thread Cert.AdamGmlpNormRefIdeal.nD Cert.AdamGmlpNormRefIdeal.τ).loc Cert.AdamGmlpNormRefIdeal.main_arg0)
          ∧ r.2.mem ((c.tc : Thread Cert.AdamGmlpNormRefIdeal.nD Cert.AdamGmlpNormRefIdeal.τ).loc Cert.AdamGmlpNormRefIdeal.main_arg1) = m' ((c.tc : Thread Cert.AdamGmlpNormRefIdeal.nD Cert.AdamGmlpNormRefIdeal.τ).loc Cert.AdamGmlpNormRefIdeal.main_arg1)
          ∧ r.2.mem ((c.tc : Thread Cert.AdamGmlpNormRefIdeal.nD Cert.AdamGmlpNormRefIdeal.τ).loc Cert.AdamGmlpNormRefIdeal.main_arg2) = m' ((c.tc : Thread Cert.AdamGmlpNormRefIdeal.nD Cert.AdamGmlpNormRefIdeal.τ).loc Cert.AdamGmlpNormRefIdeal.main_arg2)
          ∧ r.2.mem ((c.tc : Thread Cert.AdamGmlpNormRefIdeal.nD Cert.AdamGmlpNormRefIdeal.τ).loc Cert.AdamGmlpNormRefIdeal.main_arg3) = m' ((c.tc : Thread Cert.AdamGmlpNormRefIdeal.nD Cert.AdamGmlpNormRefIdeal.τ).loc Cert.AdamGmlpNormRefIdeal.main_arg3))

def preserves_AdamMix_AdamMixIdeal : Prop :=
  True

def algebraic_AdamMixIdeal_AdamMixRefIdeal [hAdamMixIdeal : Cert.AdamMixIdeal.Facts] [hAdamMixRefIdeal : Cert.AdamMixRefIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg)
    (m' : (ℓ : Loc Cert.AdamMixRefIdeal.nD Cert.AdamMixRefIdeal.τ Cert.AdamMixRefIdeal.sig) → Buf (Elt Ideal) ℓ) (g' : Dev Cert.AdamMixRefIdeal.nD → PrngReg), Pre_AdamMixIdeal m →
    (∀ c : Dev Cert.AdamMixIdeal.nD,
      m' ((c.tc : Thread Cert.AdamMixRefIdeal.nD Cert.AdamMixRefIdeal.τ).loc Cert.AdamMixRefIdeal.main_arg0) = m ((c.tc : Thread Cert.AdamMixIdeal.nD Cert.AdamMixIdeal.τ).loc Cert.AdamMixIdeal.main_arg0)
      ∧ m' ((c.tc : Thread Cert.AdamMixRefIdeal.nD Cert.AdamMixRefIdeal.τ).loc Cert.AdamMixRefIdeal.main_arg1) = m ((c.tc : Thread Cert.AdamMixIdeal.nD Cert.AdamMixIdeal.τ).loc Cert.AdamMixIdeal.main_arg1)
      ∧ m' ((c.tc : Thread Cert.AdamMixRefIdeal.nD Cert.AdamMixRefIdeal.τ).loc Cert.AdamMixRefIdeal.main_arg2) = m ((c.tc : Thread Cert.AdamMixIdeal.nD Cert.AdamMixIdeal.τ).loc Cert.AdamMixIdeal.main_arg2)
      ∧ m' ((c.tc : Thread Cert.AdamMixRefIdeal.nD Cert.AdamMixRefIdeal.τ).loc Cert.AdamMixRefIdeal.main_arg3) = m ((c.tc : Thread Cert.AdamMixIdeal.nD Cert.AdamMixIdeal.τ).loc Cert.AdamMixIdeal.main_arg3)) →
    ∃ (v0 : (c : Dev Cert.AdamMixIdeal.nD) → Buf (Elt Ideal) ((c.tc : Thread Cert.AdamMixIdeal.nD Cert.AdamMixIdeal.τ).loc Cert.AdamMixIdeal.main_v0_0)) (v1 : (c : Dev Cert.AdamMixIdeal.nD) → Buf (Elt Ideal) ((c.tc : Thread Cert.AdamMixIdeal.nD Cert.AdamMixIdeal.τ).loc Cert.AdamMixIdeal.main_v0_1)) (v2 : (c : Dev Cert.AdamMixIdeal.nD) → Buf (Elt Ideal) ((c.tc : Thread Cert.AdamMixIdeal.nD Cert.AdamMixIdeal.τ).loc Cert.AdamMixIdeal.main_v0_2)),
      θ_run (Cert.AdamMixIdeal.defs (F := Ideal)) (onTc (τ := Cert.AdamMixIdeal.τ) (Cert.AdamMixIdeal.main (F := Ideal))) ⟨m, fun _ => 0, g⟩ (fun r => ∀ c : Dev Cert.AdamMixIdeal.nD,
          r.2.mem ((c.tc : Thread Cert.AdamMixIdeal.nD Cert.AdamMixIdeal.τ).loc Cert.AdamMixIdeal.main_v0_0) = v0 c
          ∧ r.2.mem ((c.tc : Thread Cert.AdamMixIdeal.nD Cert.AdamMixIdeal.τ).loc Cert.AdamMixIdeal.main_v0_1) = v1 c
          ∧ r.2.mem ((c.tc : Thread Cert.AdamMixIdeal.nD Cert.AdamMixIdeal.τ).loc Cert.AdamMixIdeal.main_v0_2) = v2 c
          ∧ r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
          ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
          ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
          ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ θ_run (Cert.AdamMixRefIdeal.defs (F := Ideal)) (onTc (τ := Cert.AdamMixRefIdeal.τ) (Cert.AdamMixRefIdeal.main (F := Ideal))) ⟨m', fun _ => 0, g'⟩ (fun r => ∀ c : Dev Cert.AdamMixRefIdeal.nD,
          r.2.mem ((c.tc : Thread Cert.AdamMixRefIdeal.nD Cert.AdamMixRefIdeal.τ).loc Cert.AdamMixRefIdeal.main_v23) = v0 c
          ∧ r.2.mem ((c.tc : Thread Cert.AdamMixRefIdeal.nD Cert.AdamMixRefIdeal.τ).loc Cert.AdamMixRefIdeal.main_v4) = v1 c
          ∧ r.2.mem ((c.tc : Thread Cert.AdamMixRefIdeal.nD Cert.AdamMixRefIdeal.τ).loc Cert.AdamMixRefIdeal.main_v10) = v2 c
          ∧ r.2.mem ((c.tc : Thread Cert.AdamMixRefIdeal.nD Cert.AdamMixRefIdeal.τ).loc Cert.AdamMixRefIdeal.main_arg0) = m' ((c.tc : Thread Cert.AdamMixRefIdeal.nD Cert.AdamMixRefIdeal.τ).loc Cert.AdamMixRefIdeal.main_arg0)
          ∧ r.2.mem ((c.tc : Thread Cert.AdamMixRefIdeal.nD Cert.AdamMixRefIdeal.τ).loc Cert.AdamMixRefIdeal.main_arg1) = m' ((c.tc : Thread Cert.AdamMixRefIdeal.nD Cert.AdamMixRefIdeal.τ).loc Cert.AdamMixRefIdeal.main_arg1)
          ∧ r.2.mem ((c.tc : Thread Cert.AdamMixRefIdeal.nD Cert.AdamMixRefIdeal.τ).loc Cert.AdamMixRefIdeal.main_arg2) = m' ((c.tc : Thread Cert.AdamMixRefIdeal.nD Cert.AdamMixRefIdeal.τ).loc Cert.AdamMixRefIdeal.main_arg2)
          ∧ r.2.mem ((c.tc : Thread Cert.AdamMixRefIdeal.nD Cert.AdamMixRefIdeal.τ).loc Cert.AdamMixRefIdeal.main_arg3) = m' ((c.tc : Thread Cert.AdamMixRefIdeal.nD Cert.AdamMixRefIdeal.τ).loc Cert.AdamMixRefIdeal.main_arg3))

def preserves_AdamMixBias_AdamMixBiasIdeal : Prop :=
  True

def algebraic_AdamMixBiasIdeal_AdamMixBiasRefIdeal [hAdamMixBiasIdeal : Cert.AdamMixBiasIdeal.Facts] [hAdamMixBiasRefIdeal : Cert.AdamMixBiasRefIdeal.Facts] : Prop :=
  ∀ (m : (ℓ : Loc Cert.AdamMixBiasIdeal.nD Cert.AdamMixBiasIdeal.τ Cert.AdamMixBiasIdeal.sig) → Buf (Elt Ideal) ℓ) (g : Dev Cert.AdamMixBiasIdeal.nD → PrngReg)
    (m' : (ℓ : Loc Cert.AdamMixBiasRefIdeal.nD Cert.AdamMixBiasRefIdeal.τ Cert.AdamMixBiasRefIdeal.sig) → Buf (Elt Ideal) ℓ) (g' : Dev Cert.AdamMixBiasRefIdeal.nD → PrngReg), Pre_AdamMixBiasIdeal m →
    (∀ c : Dev Cert.AdamMixBiasIdeal.nD,
      m' ((c.tc : Thread Cert.AdamMixBiasRefIdeal.nD Cert.AdamMixBiasRefIdeal.τ).loc Cert.AdamMixBiasRefIdeal.main_arg0) = m ((c.tc : Thread Cert.AdamMixBiasIdeal.nD Cert.AdamMixBiasIdeal.τ).loc Cert.AdamMixBiasIdeal.main_arg0)
      ∧ m' ((c.tc : Thread Cert.AdamMixBiasRefIdeal.nD Cert.AdamMixBiasRefIdeal.τ).loc Cert.AdamMixBiasRefIdeal.main_arg1) = m ((c.tc : Thread Cert.AdamMixBiasIdeal.nD Cert.AdamMixBiasIdeal.τ).loc Cert.AdamMixBiasIdeal.main_arg1)
      ∧ m' ((c.tc : Thread Cert.AdamMixBiasRefIdeal.nD Cert.AdamMixBiasRefIdeal.τ).loc Cert.AdamMixBiasRefIdeal.main_arg2) = m ((c.tc : Thread Cert.AdamMixBiasIdeal.nD Cert.AdamMixBiasIdeal.τ).loc Cert.AdamMixBiasIdeal.main_arg2)
      ∧ m' ((c.tc : Thread Cert.AdamMixBiasRefIdeal.nD Cert.AdamMixBiasRefIdeal.τ).loc Cert.AdamMixBiasRefIdeal.main_arg3) = m ((c.tc : Thread Cert.AdamMixBiasIdeal.nD Cert.AdamMixBiasIdeal.τ).loc Cert.AdamMixBiasIdeal.main_arg3)) →
    ∃ (v0 : (c : Dev Cert.AdamMixBiasIdeal.nD) → Buf (Elt Ideal) ((c.tc : Thread Cert.AdamMixBiasIdeal.nD Cert.AdamMixBiasIdeal.τ).loc Cert.AdamMixBiasIdeal.main_v0_0)) (v1 : (c : Dev Cert.AdamMixBiasIdeal.nD) → Buf (Elt Ideal) ((c.tc : Thread Cert.AdamMixBiasIdeal.nD Cert.AdamMixBiasIdeal.τ).loc Cert.AdamMixBiasIdeal.main_v0_1)) (v2 : (c : Dev Cert.AdamMixBiasIdeal.nD) → Buf (Elt Ideal) ((c.tc : Thread Cert.AdamMixBiasIdeal.nD Cert.AdamMixBiasIdeal.τ).loc Cert.AdamMixBiasIdeal.main_v0_2)),
      θ_run (Cert.AdamMixBiasIdeal.defs (F := Ideal)) (onTc (τ := Cert.AdamMixBiasIdeal.τ) (Cert.AdamMixBiasIdeal.main (F := Ideal))) ⟨m, fun _ => 0, g⟩ (fun r => ∀ c : Dev Cert.AdamMixBiasIdeal.nD,
          r.2.mem ((c.tc : Thread Cert.AdamMixBiasIdeal.nD Cert.AdamMixBiasIdeal.τ).loc Cert.AdamMixBiasIdeal.main_v0_0) = v0 c
          ∧ r.2.mem ((c.tc : Thread Cert.AdamMixBiasIdeal.nD Cert.AdamMixBiasIdeal.τ).loc Cert.AdamMixBiasIdeal.main_v0_1) = v1 c
          ∧ r.2.mem ((c.tc : Thread Cert.AdamMixBiasIdeal.nD Cert.AdamMixBiasIdeal.τ).loc Cert.AdamMixBiasIdeal.main_v0_2) = v2 c
          ∧ r.2.mem ((c.tc : Thread Cert.AdamMixBiasIdeal.nD Cert.AdamMixBiasIdeal.τ).loc Cert.AdamMixBiasIdeal.main_arg0) = m ((c.tc : Thread Cert.AdamMixBiasIdeal.nD Cert.AdamMixBiasIdeal.τ).loc Cert.AdamMixBiasIdeal.main_arg0)
          ∧ r.2.mem ((c.tc : Thread Cert.AdamMixBiasIdeal.nD Cert.AdamMixBiasIdeal.τ).loc Cert.AdamMixBiasIdeal.main_arg1) = m ((c.tc : Thread Cert.AdamMixBiasIdeal.nD Cert.AdamMixBiasIdeal.τ).loc Cert.AdamMixBiasIdeal.main_arg1)
          ∧ r.2.mem ((c.tc : Thread Cert.AdamMixBiasIdeal.nD Cert.AdamMixBiasIdeal.τ).loc Cert.AdamMixBiasIdeal.main_arg2) = m ((c.tc : Thread Cert.AdamMixBiasIdeal.nD Cert.AdamMixBiasIdeal.τ).loc Cert.AdamMixBiasIdeal.main_arg2)
          ∧ r.2.mem ((c.tc : Thread Cert.AdamMixBiasIdeal.nD Cert.AdamMixBiasIdeal.τ).loc Cert.AdamMixBiasIdeal.main_arg3) = m ((c.tc : Thread Cert.AdamMixBiasIdeal.nD Cert.AdamMixBiasIdeal.τ).loc Cert.AdamMixBiasIdeal.main_arg3))
      ∧ θ_run (Cert.AdamMixBiasRefIdeal.defs (F := Ideal)) (onTc (τ := Cert.AdamMixBiasRefIdeal.τ) (Cert.AdamMixBiasRefIdeal.main (F := Ideal))) ⟨m', fun _ => 0, g'⟩ (fun r => ∀ c : Dev Cert.AdamMixBiasRefIdeal.nD,
          r.2.mem ((c.tc : Thread Cert.AdamMixBiasRefIdeal.nD Cert.AdamMixBiasRefIdeal.τ).loc Cert.AdamMixBiasRefIdeal.main_v23) = v0 c
          ∧ r.2.mem ((c.tc : Thread Cert.AdamMixBiasRefIdeal.nD Cert.AdamMixBiasRefIdeal.τ).loc Cert.AdamMixBiasRefIdeal.main_v4) = v1 c
          ∧ r.2.mem ((c.tc : Thread Cert.AdamMixBiasRefIdeal.nD Cert.AdamMixBiasRefIdeal.τ).loc Cert.AdamMixBiasRefIdeal.main_v10) = v2 c
          ∧ r.2.mem ((c.tc : Thread Cert.AdamMixBiasRefIdeal.nD Cert.AdamMixBiasRefIdeal.τ).loc Cert.AdamMixBiasRefIdeal.main_arg0) = m' ((c.tc : Thread Cert.AdamMixBiasRefIdeal.nD Cert.AdamMixBiasRefIdeal.τ).loc Cert.AdamMixBiasRefIdeal.main_arg0)
          ∧ r.2.mem ((c.tc : Thread Cert.AdamMixBiasRefIdeal.nD Cert.AdamMixBiasRefIdeal.τ).loc Cert.AdamMixBiasRefIdeal.main_arg1) = m' ((c.tc : Thread Cert.AdamMixBiasRefIdeal.nD Cert.AdamMixBiasRefIdeal.τ).loc Cert.AdamMixBiasRefIdeal.main_arg1)
          ∧ r.2.mem ((c.tc : Thread Cert.AdamMixBiasRefIdeal.nD Cert.AdamMixBiasRefIdeal.τ).loc Cert.AdamMixBiasRefIdeal.main_arg2) = m' ((c.tc : Thread Cert.AdamMixBiasRefIdeal.nD Cert.AdamMixBiasRefIdeal.τ).loc Cert.AdamMixBiasRefIdeal.main_arg2)
          ∧ r.2.mem ((c.tc : Thread Cert.AdamMixBiasRefIdeal.nD Cert.AdamMixBiasRefIdeal.τ).loc Cert.AdamMixBiasRefIdeal.main_arg3) = m' ((c.tc : Thread Cert.AdamMixBiasRefIdeal.nD Cert.AdamMixBiasRefIdeal.τ).loc Cert.AdamMixBiasRefIdeal.main_arg3))

def preserves_AdamAttnBias_AdamAttnBiasIdeal : Prop :=
  True

def algebraic_AdamAttnBiasIdeal_AdamAttnBiasRefIdeal [hAdamAttnBiasIdeal : Cert.AdamAttnBiasIdeal.Facts] [hAdamAttnBiasRefIdeal : Cert.AdamAttnBiasRefIdeal.Facts] : Prop :=
  ∀ (m : (ℓ : Loc Cert.AdamAttnBiasIdeal.nD Cert.AdamAttnBiasIdeal.τ Cert.AdamAttnBiasIdeal.sig) → Buf (Elt Ideal) ℓ) (g : Dev Cert.AdamAttnBiasIdeal.nD → PrngReg)
    (m' : (ℓ : Loc Cert.AdamAttnBiasRefIdeal.nD Cert.AdamAttnBiasRefIdeal.τ Cert.AdamAttnBiasRefIdeal.sig) → Buf (Elt Ideal) ℓ) (g' : Dev Cert.AdamAttnBiasRefIdeal.nD → PrngReg), Pre_AdamAttnBiasIdeal m →
    (∀ c : Dev Cert.AdamAttnBiasIdeal.nD,
      m' ((c.tc : Thread Cert.AdamAttnBiasRefIdeal.nD Cert.AdamAttnBiasRefIdeal.τ).loc Cert.AdamAttnBiasRefIdeal.main_arg0) = m ((c.tc : Thread Cert.AdamAttnBiasIdeal.nD Cert.AdamAttnBiasIdeal.τ).loc Cert.AdamAttnBiasIdeal.main_arg0)
      ∧ m' ((c.tc : Thread Cert.AdamAttnBiasRefIdeal.nD Cert.AdamAttnBiasRefIdeal.τ).loc Cert.AdamAttnBiasRefIdeal.main_arg1) = m ((c.tc : Thread Cert.AdamAttnBiasIdeal.nD Cert.AdamAttnBiasIdeal.τ).loc Cert.AdamAttnBiasIdeal.main_arg1)
      ∧ m' ((c.tc : Thread Cert.AdamAttnBiasRefIdeal.nD Cert.AdamAttnBiasRefIdeal.τ).loc Cert.AdamAttnBiasRefIdeal.main_arg2) = m ((c.tc : Thread Cert.AdamAttnBiasIdeal.nD Cert.AdamAttnBiasIdeal.τ).loc Cert.AdamAttnBiasIdeal.main_arg2)
      ∧ m' ((c.tc : Thread Cert.AdamAttnBiasRefIdeal.nD Cert.AdamAttnBiasRefIdeal.τ).loc Cert.AdamAttnBiasRefIdeal.main_arg3) = m ((c.tc : Thread Cert.AdamAttnBiasIdeal.nD Cert.AdamAttnBiasIdeal.τ).loc Cert.AdamAttnBiasIdeal.main_arg3)) →
    ∃ (v0 : (c : Dev Cert.AdamAttnBiasIdeal.nD) → Buf (Elt Ideal) ((c.tc : Thread Cert.AdamAttnBiasIdeal.nD Cert.AdamAttnBiasIdeal.τ).loc Cert.AdamAttnBiasIdeal.main_v0_0)) (v1 : (c : Dev Cert.AdamAttnBiasIdeal.nD) → Buf (Elt Ideal) ((c.tc : Thread Cert.AdamAttnBiasIdeal.nD Cert.AdamAttnBiasIdeal.τ).loc Cert.AdamAttnBiasIdeal.main_v0_1)) (v2 : (c : Dev Cert.AdamAttnBiasIdeal.nD) → Buf (Elt Ideal) ((c.tc : Thread Cert.AdamAttnBiasIdeal.nD Cert.AdamAttnBiasIdeal.τ).loc Cert.AdamAttnBiasIdeal.main_v0_2)),
      θ_run (Cert.AdamAttnBiasIdeal.defs (F := Ideal)) (onTc (τ := Cert.AdamAttnBiasIdeal.τ) (Cert.AdamAttnBiasIdeal.main (F := Ideal))) ⟨m, fun _ => 0, g⟩ (fun r => ∀ c : Dev Cert.AdamAttnBiasIdeal.nD,
          r.2.mem ((c.tc : Thread Cert.AdamAttnBiasIdeal.nD Cert.AdamAttnBiasIdeal.τ).loc Cert.AdamAttnBiasIdeal.main_v0_0) = v0 c
          ∧ r.2.mem ((c.tc : Thread Cert.AdamAttnBiasIdeal.nD Cert.AdamAttnBiasIdeal.τ).loc Cert.AdamAttnBiasIdeal.main_v0_1) = v1 c
          ∧ r.2.mem ((c.tc : Thread Cert.AdamAttnBiasIdeal.nD Cert.AdamAttnBiasIdeal.τ).loc Cert.AdamAttnBiasIdeal.main_v0_2) = v2 c
          ∧ r.2.mem ((c.tc : Thread Cert.AdamAttnBiasIdeal.nD Cert.AdamAttnBiasIdeal.τ).loc Cert.AdamAttnBiasIdeal.main_arg0) = m ((c.tc : Thread Cert.AdamAttnBiasIdeal.nD Cert.AdamAttnBiasIdeal.τ).loc Cert.AdamAttnBiasIdeal.main_arg0)
          ∧ r.2.mem ((c.tc : Thread Cert.AdamAttnBiasIdeal.nD Cert.AdamAttnBiasIdeal.τ).loc Cert.AdamAttnBiasIdeal.main_arg1) = m ((c.tc : Thread Cert.AdamAttnBiasIdeal.nD Cert.AdamAttnBiasIdeal.τ).loc Cert.AdamAttnBiasIdeal.main_arg1)
          ∧ r.2.mem ((c.tc : Thread Cert.AdamAttnBiasIdeal.nD Cert.AdamAttnBiasIdeal.τ).loc Cert.AdamAttnBiasIdeal.main_arg2) = m ((c.tc : Thread Cert.AdamAttnBiasIdeal.nD Cert.AdamAttnBiasIdeal.τ).loc Cert.AdamAttnBiasIdeal.main_arg2)
          ∧ r.2.mem ((c.tc : Thread Cert.AdamAttnBiasIdeal.nD Cert.AdamAttnBiasIdeal.τ).loc Cert.AdamAttnBiasIdeal.main_arg3) = m ((c.tc : Thread Cert.AdamAttnBiasIdeal.nD Cert.AdamAttnBiasIdeal.τ).loc Cert.AdamAttnBiasIdeal.main_arg3))
      ∧ θ_run (Cert.AdamAttnBiasRefIdeal.defs (F := Ideal)) (onTc (τ := Cert.AdamAttnBiasRefIdeal.τ) (Cert.AdamAttnBiasRefIdeal.main (F := Ideal))) ⟨m', fun _ => 0, g'⟩ (fun r => ∀ c : Dev Cert.AdamAttnBiasRefIdeal.nD,
          r.2.mem ((c.tc : Thread Cert.AdamAttnBiasRefIdeal.nD Cert.AdamAttnBiasRefIdeal.τ).loc Cert.AdamAttnBiasRefIdeal.main_v23) = v0 c
          ∧ r.2.mem ((c.tc : Thread Cert.AdamAttnBiasRefIdeal.nD Cert.AdamAttnBiasRefIdeal.τ).loc Cert.AdamAttnBiasRefIdeal.main_v4) = v1 c
          ∧ r.2.mem ((c.tc : Thread Cert.AdamAttnBiasRefIdeal.nD Cert.AdamAttnBiasRefIdeal.τ).loc Cert.AdamAttnBiasRefIdeal.main_v10) = v2 c
          ∧ r.2.mem ((c.tc : Thread Cert.AdamAttnBiasRefIdeal.nD Cert.AdamAttnBiasRefIdeal.τ).loc Cert.AdamAttnBiasRefIdeal.main_arg0) = m' ((c.tc : Thread Cert.AdamAttnBiasRefIdeal.nD Cert.AdamAttnBiasRefIdeal.τ).loc Cert.AdamAttnBiasRefIdeal.main_arg0)
          ∧ r.2.mem ((c.tc : Thread Cert.AdamAttnBiasRefIdeal.nD Cert.AdamAttnBiasRefIdeal.τ).loc Cert.AdamAttnBiasRefIdeal.main_arg1) = m' ((c.tc : Thread Cert.AdamAttnBiasRefIdeal.nD Cert.AdamAttnBiasRefIdeal.τ).loc Cert.AdamAttnBiasRefIdeal.main_arg1)
          ∧ r.2.mem ((c.tc : Thread Cert.AdamAttnBiasRefIdeal.nD Cert.AdamAttnBiasRefIdeal.τ).loc Cert.AdamAttnBiasRefIdeal.main_arg2) = m' ((c.tc : Thread Cert.AdamAttnBiasRefIdeal.nD Cert.AdamAttnBiasRefIdeal.τ).loc Cert.AdamAttnBiasRefIdeal.main_arg2)
          ∧ r.2.mem ((c.tc : Thread Cert.AdamAttnBiasRefIdeal.nD Cert.AdamAttnBiasRefIdeal.τ).loc Cert.AdamAttnBiasRefIdeal.main_arg3) = m' ((c.tc : Thread Cert.AdamAttnBiasRefIdeal.nD Cert.AdamAttnBiasRefIdeal.τ).loc Cert.AdamAttnBiasRefIdeal.main_arg3))

def preserves_AdamSinks_AdamSinksIdeal : Prop :=
  True

def algebraic_AdamSinksIdeal_AdamSinksRefIdeal [hAdamSinksIdeal : Cert.AdamSinksIdeal.Facts] [hAdamSinksRefIdeal : Cert.AdamSinksRefIdeal.Facts] : Prop :=
  ∀ (m : (ℓ : Loc Cert.AdamSinksIdeal.nD Cert.AdamSinksIdeal.τ Cert.AdamSinksIdeal.sig) → Buf (Elt Ideal) ℓ) (g : Dev Cert.AdamSinksIdeal.nD → PrngReg)
    (m' : (ℓ : Loc Cert.AdamSinksRefIdeal.nD Cert.AdamSinksRefIdeal.τ Cert.AdamSinksRefIdeal.sig) → Buf (Elt Ideal) ℓ) (g' : Dev Cert.AdamSinksRefIdeal.nD → PrngReg), Pre_AdamSinksIdeal m →
    (∀ c : Dev Cert.AdamSinksIdeal.nD,
      m' ((c.tc : Thread Cert.AdamSinksRefIdeal.nD Cert.AdamSinksRefIdeal.τ).loc Cert.AdamSinksRefIdeal.main_arg0) = m ((c.tc : Thread Cert.AdamSinksIdeal.nD Cert.AdamSinksIdeal.τ).loc Cert.AdamSinksIdeal.main_arg0)
      ∧ m' ((c.tc : Thread Cert.AdamSinksRefIdeal.nD Cert.AdamSinksRefIdeal.τ).loc Cert.AdamSinksRefIdeal.main_arg1) = m ((c.tc : Thread Cert.AdamSinksIdeal.nD Cert.AdamSinksIdeal.τ).loc Cert.AdamSinksIdeal.main_arg1)
      ∧ m' ((c.tc : Thread Cert.AdamSinksRefIdeal.nD Cert.AdamSinksRefIdeal.τ).loc Cert.AdamSinksRefIdeal.main_arg2) = m ((c.tc : Thread Cert.AdamSinksIdeal.nD Cert.AdamSinksIdeal.τ).loc Cert.AdamSinksIdeal.main_arg2)
      ∧ m' ((c.tc : Thread Cert.AdamSinksRefIdeal.nD Cert.AdamSinksRefIdeal.τ).loc Cert.AdamSinksRefIdeal.main_arg3) = m ((c.tc : Thread Cert.AdamSinksIdeal.nD Cert.AdamSinksIdeal.τ).loc Cert.AdamSinksIdeal.main_arg3)) →
    ∃ (v0 : (c : Dev Cert.AdamSinksIdeal.nD) → Buf (Elt Ideal) ((c.tc : Thread Cert.AdamSinksIdeal.nD Cert.AdamSinksIdeal.τ).loc Cert.AdamSinksIdeal.main_v0_0)) (v1 : (c : Dev Cert.AdamSinksIdeal.nD) → Buf (Elt Ideal) ((c.tc : Thread Cert.AdamSinksIdeal.nD Cert.AdamSinksIdeal.τ).loc Cert.AdamSinksIdeal.main_v0_1)) (v2 : (c : Dev Cert.AdamSinksIdeal.nD) → Buf (Elt Ideal) ((c.tc : Thread Cert.AdamSinksIdeal.nD Cert.AdamSinksIdeal.τ).loc Cert.AdamSinksIdeal.main_v0_2)),
      θ_run (Cert.AdamSinksIdeal.defs (F := Ideal)) (onTc (τ := Cert.AdamSinksIdeal.τ) (Cert.AdamSinksIdeal.main (F := Ideal))) ⟨m, fun _ => 0, g⟩ (fun r => ∀ c : Dev Cert.AdamSinksIdeal.nD,
          r.2.mem ((c.tc : Thread Cert.AdamSinksIdeal.nD Cert.AdamSinksIdeal.τ).loc Cert.AdamSinksIdeal.main_v0_0) = v0 c
          ∧ r.2.mem ((c.tc : Thread Cert.AdamSinksIdeal.nD Cert.AdamSinksIdeal.τ).loc Cert.AdamSinksIdeal.main_v0_1) = v1 c
          ∧ r.2.mem ((c.tc : Thread Cert.AdamSinksIdeal.nD Cert.AdamSinksIdeal.τ).loc Cert.AdamSinksIdeal.main_v0_2) = v2 c
          ∧ r.2.mem ((c.tc : Thread Cert.AdamSinksIdeal.nD Cert.AdamSinksIdeal.τ).loc Cert.AdamSinksIdeal.main_arg0) = m ((c.tc : Thread Cert.AdamSinksIdeal.nD Cert.AdamSinksIdeal.τ).loc Cert.AdamSinksIdeal.main_arg0)
          ∧ r.2.mem ((c.tc : Thread Cert.AdamSinksIdeal.nD Cert.AdamSinksIdeal.τ).loc Cert.AdamSinksIdeal.main_arg1) = m ((c.tc : Thread Cert.AdamSinksIdeal.nD Cert.AdamSinksIdeal.τ).loc Cert.AdamSinksIdeal.main_arg1)
          ∧ r.2.mem ((c.tc : Thread Cert.AdamSinksIdeal.nD Cert.AdamSinksIdeal.τ).loc Cert.AdamSinksIdeal.main_arg2) = m ((c.tc : Thread Cert.AdamSinksIdeal.nD Cert.AdamSinksIdeal.τ).loc Cert.AdamSinksIdeal.main_arg2)
          ∧ r.2.mem ((c.tc : Thread Cert.AdamSinksIdeal.nD Cert.AdamSinksIdeal.τ).loc Cert.AdamSinksIdeal.main_arg3) = m ((c.tc : Thread Cert.AdamSinksIdeal.nD Cert.AdamSinksIdeal.τ).loc Cert.AdamSinksIdeal.main_arg3))
      ∧ θ_run (Cert.AdamSinksRefIdeal.defs (F := Ideal)) (onTc (τ := Cert.AdamSinksRefIdeal.τ) (Cert.AdamSinksRefIdeal.main (F := Ideal))) ⟨m', fun _ => 0, g'⟩ (fun r => ∀ c : Dev Cert.AdamSinksRefIdeal.nD,
          r.2.mem ((c.tc : Thread Cert.AdamSinksRefIdeal.nD Cert.AdamSinksRefIdeal.τ).loc Cert.AdamSinksRefIdeal.main_v23) = v0 c
          ∧ r.2.mem ((c.tc : Thread Cert.AdamSinksRefIdeal.nD Cert.AdamSinksRefIdeal.τ).loc Cert.AdamSinksRefIdeal.main_v4) = v1 c
          ∧ r.2.mem ((c.tc : Thread Cert.AdamSinksRefIdeal.nD Cert.AdamSinksRefIdeal.τ).loc Cert.AdamSinksRefIdeal.main_v10) = v2 c
          ∧ r.2.mem ((c.tc : Thread Cert.AdamSinksRefIdeal.nD Cert.AdamSinksRefIdeal.τ).loc Cert.AdamSinksRefIdeal.main_arg0) = m' ((c.tc : Thread Cert.AdamSinksRefIdeal.nD Cert.AdamSinksRefIdeal.τ).loc Cert.AdamSinksRefIdeal.main_arg0)
          ∧ r.2.mem ((c.tc : Thread Cert.AdamSinksRefIdeal.nD Cert.AdamSinksRefIdeal.τ).loc Cert.AdamSinksRefIdeal.main_arg1) = m' ((c.tc : Thread Cert.AdamSinksRefIdeal.nD Cert.AdamSinksRefIdeal.τ).loc Cert.AdamSinksRefIdeal.main_arg1)
          ∧ r.2.mem ((c.tc : Thread Cert.AdamSinksRefIdeal.nD Cert.AdamSinksRefIdeal.τ).loc Cert.AdamSinksRefIdeal.main_arg2) = m' ((c.tc : Thread Cert.AdamSinksRefIdeal.nD Cert.AdamSinksRefIdeal.τ).loc Cert.AdamSinksRefIdeal.main_arg2)
          ∧ r.2.mem ((c.tc : Thread Cert.AdamSinksRefIdeal.nD Cert.AdamSinksRefIdeal.τ).loc Cert.AdamSinksRefIdeal.main_arg3) = m' ((c.tc : Thread Cert.AdamSinksRefIdeal.nD Cert.AdamSinksRefIdeal.τ).loc Cert.AdamSinksRefIdeal.main_arg3))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hFfnDownDx : Cert.FfnDownDx.Facts) (hFfnDownDxIdeal : Cert.FfnDownDxIdeal.Facts) (hFfnDownDxRefIdeal : Cert.FfnDownDxRefIdeal.Facts) (hFfnGuDx : Cert.FfnGuDx.Facts) (hFfnGuDxIdeal : Cert.FfnGuDxIdeal.Facts) (hFfnGuDxRefIdeal : Cert.FfnGuDxRefIdeal.Facts) (hFfnGuDw : Cert.FfnGuDw.Facts) (hFfnGuDwIdeal : Cert.FfnGuDwIdeal.Facts) (hFfnGuDwRefIdeal : Cert.FfnGuDwRefIdeal.Facts) (hFfnDownDw : Cert.FfnDownDw.Facts) (hFfnDownDwIdeal : Cert.FfnDownDwIdeal.Facts) (hFfnDownDwRefIdeal : Cert.FfnDownDwRefIdeal.Facts) (hGmlpIn : Cert.GmlpIn.Facts) (hGmlpInIdeal : Cert.GmlpInIdeal.Facts) (hGmlpInRefIdeal : Cert.GmlpInRefIdeal.Facts) (hGmlpOut : Cert.GmlpOut.Facts) (hGmlpOutIdeal : Cert.GmlpOutIdeal.Facts) (hGmlpOutRefIdeal : Cert.GmlpOutRefIdeal.Facts) (hGmlpOutDw : Cert.GmlpOutDw.Facts) (hGmlpOutDwIdeal : Cert.GmlpOutDwIdeal.Facts) (hGmlpOutDwRefIdeal : Cert.GmlpOutDwRefIdeal.Facts) (hGmlpOutDx : Cert.GmlpOutDx.Facts) (hGmlpOutDxIdeal : Cert.GmlpOutDxIdeal.Facts) (hGmlpOutDxRefIdeal : Cert.GmlpOutDxRefIdeal.Facts) (hGmlpInDw : Cert.GmlpInDw.Facts) (hGmlpInDwIdeal : Cert.GmlpInDwIdeal.Facts) (hGmlpInDwRefIdeal : Cert.GmlpInDwRefIdeal.Facts) (hGmlpInDx : Cert.GmlpInDx.Facts) (hGmlpInDxIdeal : Cert.GmlpInDxIdeal.Facts) (hGmlpInDxRefIdeal : Cert.GmlpInDxRefIdeal.Facts) (hAttnQkv : Cert.AttnQkv.Facts) (hAttnQkvIdeal : Cert.AttnQkvIdeal.Facts) (hAttnQkvRefIdeal : Cert.AttnQkvRefIdeal.Facts) (hAttnO : Cert.AttnO.Facts) (hAttnOIdeal : Cert.AttnOIdeal.Facts) (hAttnORefIdeal : Cert.AttnORefIdeal.Facts) (hAttnODw : Cert.AttnODw.Facts) (hAttnODwIdeal : Cert.AttnODwIdeal.Facts) (hAttnODwRefIdeal : Cert.AttnODwRefIdeal.Facts) (hAttnODx : Cert.AttnODx.Facts) (hAttnODxIdeal : Cert.AttnODxIdeal.Facts) (hAttnODxRefIdeal : Cert.AttnODxRefIdeal.Facts) (hAttnQkvDw : Cert.AttnQkvDw.Facts) (hAttnQkvDwIdeal : Cert.AttnQkvDwIdeal.Facts) (hAttnQkvDwRefIdeal : Cert.AttnQkvDwRefIdeal.Facts) (hAttnQkvDx : Cert.AttnQkvDx.Facts) (hAttnQkvDxIdeal : Cert.AttnQkvDxIdeal.Facts) (hAttnQkvDxRefIdeal : Cert.AttnQkvDxRefIdeal.Facts) (hRmsFwd : Cert.RmsFwd.Facts) (hRmsFwdIdeal : Cert.RmsFwdIdeal.Facts) (hRmsFwdRefIdeal : Cert.RmsFwdRefIdeal.Facts) (hRmsRes : Cert.RmsRes.Facts) (hRmsResIdeal : Cert.RmsResIdeal.Facts) (hRmsResRefIdeal : Cert.RmsResRefIdeal.Facts) (hRmsResNorm : Cert.RmsResNorm.Facts) (hRmsResNormIdeal : Cert.RmsResNormIdeal.Facts) (hRmsResNormRefIdeal : Cert.RmsResNormRefIdeal.Facts) (hRmsBwd : Cert.RmsBwd.Facts) (hRmsBwdIdeal : Cert.RmsBwdIdeal.Facts) (hRmsBwdRefIdeal : Cert.RmsBwdRefIdeal.Facts) (hRmsChain : Cert.RmsChain.Facts) (hRmsChainIdeal : Cert.RmsChainIdeal.Facts) (hRmsChainRefIdeal : Cert.RmsChainRefIdeal.Facts) (hSguFwd : Cert.SguFwd.Facts) (hSguFwdIdeal : Cert.SguFwdIdeal.Facts) (hSguFwdRefIdeal : Cert.SguFwdRefIdeal.Facts) (hLossGrad : Cert.LossGrad.Facts) (hLossGradIdeal : Cert.LossGradIdeal.Facts) (hLossGradRefIdeal : Cert.LossGradRefIdeal.Facts) (hAdamGain : Cert.AdamGain.Facts) (hAdamGainIdeal : Cert.AdamGainIdeal.Facts) (hAdamGainRefIdeal : Cert.AdamGainRefIdeal.Facts) (hAdamGmlpBias : Cert.AdamGmlpBias.Facts) (hAdamGmlpBiasIdeal : Cert.AdamGmlpBiasIdeal.Facts) (hAdamGmlpBiasRefIdeal : Cert.AdamGmlpBiasRefIdeal.Facts) (hAdamGmlpNorm : Cert.AdamGmlpNorm.Facts) (hAdamGmlpNormIdeal : Cert.AdamGmlpNormIdeal.Facts) (hAdamGmlpNormRefIdeal : Cert.AdamGmlpNormRefIdeal.Facts) (hAdamMix : Cert.AdamMix.Facts) (hAdamMixIdeal : Cert.AdamMixIdeal.Facts) (hAdamMixRefIdeal : Cert.AdamMixRefIdeal.Facts) (hAdamMixBias : Cert.AdamMixBias.Facts) (hAdamMixBiasIdeal : Cert.AdamMixBiasIdeal.Facts) (hAdamMixBiasRefIdeal : Cert.AdamMixBiasRefIdeal.Facts) (hAdamAttnBias : Cert.AdamAttnBias.Facts) (hAdamAttnBiasIdeal : Cert.AdamAttnBiasIdeal.Facts) (hAdamAttnBiasRefIdeal : Cert.AdamAttnBiasRefIdeal.Facts) (hAdamSinks : Cert.AdamSinks.Facts) (hAdamSinksIdeal : Cert.AdamSinksIdeal.Facts) (hAdamSinksRefIdeal : Cert.AdamSinksRefIdeal.Facts) (hPre_finite : Cert.Pre_finite.Facts) (hPre_finite_up : Cert.Pre_finite_up.Facts) (hPre_finite_down : Cert.Pre_finite_down.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnUp (hFfnUp := hFfnUp)
    ∧ quiescent_FfnUpIdeal (hFfnUpIdeal := hFfnUpIdeal)
    ∧ quiescent_FfnUpIdeal_pre_finite_up (hFfnUpIdeal := hFfnUpIdeal) (hPre_finite_up := hPre_finite_up)
    ∧ quiescent_FfnUpRefIdeal (hFfnUpRefIdeal := hFfnUpRefIdeal)
    ∧ quiescent_FfnUpRefIdeal_pre_finite_up (hFfnUpRefIdeal := hFfnUpRefIdeal) (hPre_finite_up := hPre_finite_up)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnDownDx (hFfnDownDx := hFfnDownDx)
    ∧ quiescent_FfnDownDxIdeal (hFfnDownDxIdeal := hFfnDownDxIdeal)
    ∧ quiescent_FfnDownDxIdeal_pre_finite_down (hFfnDownDxIdeal := hFfnDownDxIdeal) (hPre_finite_down := hPre_finite_down)
    ∧ quiescent_FfnDownDxRefIdeal (hFfnDownDxRefIdeal := hFfnDownDxRefIdeal)
    ∧ quiescent_FfnDownDxRefIdeal_pre_finite_down (hFfnDownDxRefIdeal := hFfnDownDxRefIdeal) (hPre_finite_down := hPre_finite_down)
    ∧ quiescent_FfnGuDx (hFfnGuDx := hFfnGuDx)
    ∧ quiescent_FfnGuDxIdeal (hFfnGuDxIdeal := hFfnGuDxIdeal)
    ∧ quiescent_FfnGuDxRefIdeal (hFfnGuDxRefIdeal := hFfnGuDxRefIdeal)
    ∧ quiescent_FfnGuDw (hFfnGuDw := hFfnGuDw)
    ∧ quiescent_FfnGuDwIdeal (hFfnGuDwIdeal := hFfnGuDwIdeal)
    ∧ quiescent_FfnGuDwRefIdeal (hFfnGuDwRefIdeal := hFfnGuDwRefIdeal)
    ∧ quiescent_FfnDownDw (hFfnDownDw := hFfnDownDw)
    ∧ quiescent_FfnDownDwIdeal (hFfnDownDwIdeal := hFfnDownDwIdeal)
    ∧ quiescent_FfnDownDwRefIdeal (hFfnDownDwRefIdeal := hFfnDownDwRefIdeal)
    ∧ quiescent_GmlpIn (hGmlpIn := hGmlpIn)
    ∧ quiescent_GmlpInIdeal (hGmlpInIdeal := hGmlpInIdeal)
    ∧ quiescent_GmlpInRefIdeal (hGmlpInRefIdeal := hGmlpInRefIdeal)
    ∧ quiescent_GmlpOut (hGmlpOut := hGmlpOut)
    ∧ quiescent_GmlpOutIdeal (hGmlpOutIdeal := hGmlpOutIdeal)
    ∧ quiescent_GmlpOutRefIdeal (hGmlpOutRefIdeal := hGmlpOutRefIdeal)
    ∧ quiescent_GmlpOutDw (hGmlpOutDw := hGmlpOutDw)
    ∧ quiescent_GmlpOutDwIdeal (hGmlpOutDwIdeal := hGmlpOutDwIdeal)
    ∧ quiescent_GmlpOutDwRefIdeal (hGmlpOutDwRefIdeal := hGmlpOutDwRefIdeal)
    ∧ quiescent_GmlpOutDx (hGmlpOutDx := hGmlpOutDx)
    ∧ quiescent_GmlpOutDxIdeal (hGmlpOutDxIdeal := hGmlpOutDxIdeal)
    ∧ quiescent_GmlpOutDxRefIdeal (hGmlpOutDxRefIdeal := hGmlpOutDxRefIdeal)
    ∧ quiescent_GmlpInDw (hGmlpInDw := hGmlpInDw)
    ∧ quiescent_GmlpInDwIdeal (hGmlpInDwIdeal := hGmlpInDwIdeal)
    ∧ quiescent_GmlpInDwRefIdeal (hGmlpInDwRefIdeal := hGmlpInDwRefIdeal)
    ∧ quiescent_GmlpInDx (hGmlpInDx := hGmlpInDx)
    ∧ quiescent_GmlpInDxIdeal (hGmlpInDxIdeal := hGmlpInDxIdeal)
    ∧ quiescent_GmlpInDxRefIdeal (hGmlpInDxRefIdeal := hGmlpInDxRefIdeal)
    ∧ quiescent_AttnQkv (hAttnQkv := hAttnQkv)
    ∧ quiescent_AttnQkvIdeal (hAttnQkvIdeal := hAttnQkvIdeal)
    ∧ quiescent_AttnQkvRefIdeal (hAttnQkvRefIdeal := hAttnQkvRefIdeal)
    ∧ quiescent_AttnO (hAttnO := hAttnO)
    ∧ quiescent_AttnOIdeal (hAttnOIdeal := hAttnOIdeal)
    ∧ quiescent_AttnORefIdeal (hAttnORefIdeal := hAttnORefIdeal)
    ∧ quiescent_AttnODw (hAttnODw := hAttnODw)
    ∧ quiescent_AttnODwIdeal (hAttnODwIdeal := hAttnODwIdeal)
    ∧ quiescent_AttnODwRefIdeal (hAttnODwRefIdeal := hAttnODwRefIdeal)
    ∧ quiescent_AttnODx (hAttnODx := hAttnODx)
    ∧ quiescent_AttnODxIdeal (hAttnODxIdeal := hAttnODxIdeal)
    ∧ quiescent_AttnODxRefIdeal (hAttnODxRefIdeal := hAttnODxRefIdeal)
    ∧ quiescent_AttnQkvDw (hAttnQkvDw := hAttnQkvDw)
    ∧ quiescent_AttnQkvDwIdeal (hAttnQkvDwIdeal := hAttnQkvDwIdeal)
    ∧ quiescent_AttnQkvDwRefIdeal (hAttnQkvDwRefIdeal := hAttnQkvDwRefIdeal)
    ∧ quiescent_AttnQkvDx (hAttnQkvDx := hAttnQkvDx)
    ∧ quiescent_AttnQkvDxIdeal (hAttnQkvDxIdeal := hAttnQkvDxIdeal)
    ∧ quiescent_AttnQkvDxRefIdeal (hAttnQkvDxRefIdeal := hAttnQkvDxRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_RmsRes (hRmsRes := hRmsRes)
    ∧ quiescent_RmsResIdeal (hRmsResIdeal := hRmsResIdeal)
    ∧ quiescent_RmsResRefIdeal (hRmsResRefIdeal := hRmsResRefIdeal)
    ∧ quiescent_RmsResNorm (hRmsResNorm := hRmsResNorm)
    ∧ quiescent_RmsResNormIdeal (hRmsResNormIdeal := hRmsResNormIdeal)
    ∧ quiescent_RmsResNormRefIdeal (hRmsResNormRefIdeal := hRmsResNormRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_RmsChain (hRmsChain := hRmsChain)
    ∧ quiescent_RmsChainIdeal (hRmsChainIdeal := hRmsChainIdeal)
    ∧ quiescent_RmsChainRefIdeal (hRmsChainRefIdeal := hRmsChainRefIdeal)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_LossGrad (hLossGrad := hLossGrad)
    ∧ quiescent_LossGradIdeal (hLossGradIdeal := hLossGradIdeal)
    ∧ quiescent_LossGradRefIdeal (hLossGradRefIdeal := hLossGradRefIdeal)
    ∧ quiescent_AdamGain (hAdamGain := hAdamGain)
    ∧ quiescent_AdamGainIdeal (hAdamGainIdeal := hAdamGainIdeal)
    ∧ quiescent_AdamGainRefIdeal (hAdamGainRefIdeal := hAdamGainRefIdeal)
    ∧ quiescent_AdamGmlpBias (hAdamGmlpBias := hAdamGmlpBias)
    ∧ quiescent_AdamGmlpBiasIdeal (hAdamGmlpBiasIdeal := hAdamGmlpBiasIdeal)
    ∧ quiescent_AdamGmlpBiasRefIdeal (hAdamGmlpBiasRefIdeal := hAdamGmlpBiasRefIdeal)
    ∧ quiescent_AdamGmlpNorm (hAdamGmlpNorm := hAdamGmlpNorm)
    ∧ quiescent_AdamGmlpNormIdeal (hAdamGmlpNormIdeal := hAdamGmlpNormIdeal)
    ∧ quiescent_AdamGmlpNormRefIdeal (hAdamGmlpNormRefIdeal := hAdamGmlpNormRefIdeal)
    ∧ quiescent_AdamMix (hAdamMix := hAdamMix)
    ∧ quiescent_AdamMixIdeal (hAdamMixIdeal := hAdamMixIdeal)
    ∧ quiescent_AdamMixRefIdeal (hAdamMixRefIdeal := hAdamMixRefIdeal)
    ∧ quiescent_AdamMixBias (hAdamMixBias := hAdamMixBias)
    ∧ quiescent_AdamMixBiasIdeal (hAdamMixBiasIdeal := hAdamMixBiasIdeal)
    ∧ quiescent_AdamMixBiasRefIdeal (hAdamMixBiasRefIdeal := hAdamMixBiasRefIdeal)
    ∧ quiescent_AdamAttnBias (hAdamAttnBias := hAdamAttnBias)
    ∧ quiescent_AdamAttnBiasIdeal (hAdamAttnBiasIdeal := hAdamAttnBiasIdeal)
    ∧ quiescent_AdamAttnBiasRefIdeal (hAdamAttnBiasRefIdeal := hAdamAttnBiasRefIdeal)
    ∧ quiescent_AdamSinks (hAdamSinks := hAdamSinks)
    ∧ quiescent_AdamSinksIdeal (hAdamSinksIdeal := hAdamSinksIdeal)
    ∧ quiescent_AdamSinksRefIdeal (hAdamSinksRefIdeal := hAdamSinksRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnUp_FfnUpIdeal
    ∧ algebraic_FfnUpIdeal_FfnUpRefIdeal_pre_finite_up (hFfnUpIdeal := hFfnUpIdeal) (hFfnUpRefIdeal := hFfnUpRefIdeal) (hPre_finite_up := hPre_finite_up)
    ∧ preserves_FfnDown_FfnDownIdeal
    ∧ algebraic_FfnDownIdeal_FfnDownRefIdeal (hFfnDownIdeal := hFfnDownIdeal) (hFfnDownRefIdeal := hFfnDownRefIdeal)
    ∧ preserves_FfnDownDx_FfnDownDxIdeal
    ∧ algebraic_FfnDownDxIdeal_FfnDownDxRefIdeal_pre_finite_down (hFfnDownDxIdeal := hFfnDownDxIdeal) (hFfnDownDxRefIdeal := hFfnDownDxRefIdeal) (hPre_finite_down := hPre_finite_down)
    ∧ preserves_FfnGuDx_FfnGuDxIdeal
    ∧ algebraic_FfnGuDxIdeal_FfnGuDxRefIdeal (hFfnGuDxIdeal := hFfnGuDxIdeal) (hFfnGuDxRefIdeal := hFfnGuDxRefIdeal)
    ∧ preserves_FfnGuDw_FfnGuDwIdeal
    ∧ algebraic_FfnGuDwIdeal_FfnGuDwRefIdeal (hFfnGuDwIdeal := hFfnGuDwIdeal) (hFfnGuDwRefIdeal := hFfnGuDwRefIdeal)
    ∧ preserves_FfnDownDw_FfnDownDwIdeal
    ∧ algebraic_FfnDownDwIdeal_FfnDownDwRefIdeal (hFfnDownDwIdeal := hFfnDownDwIdeal) (hFfnDownDwRefIdeal := hFfnDownDwRefIdeal)
    ∧ preserves_GmlpIn_GmlpInIdeal
    ∧ algebraic_GmlpInIdeal_GmlpInRefIdeal (hGmlpInIdeal := hGmlpInIdeal) (hGmlpInRefIdeal := hGmlpInRefIdeal)
    ∧ preserves_GmlpOut_GmlpOutIdeal
    ∧ algebraic_GmlpOutIdeal_GmlpOutRefIdeal (hGmlpOutIdeal := hGmlpOutIdeal) (hGmlpOutRefIdeal := hGmlpOutRefIdeal)
    ∧ preserves_GmlpOutDw_GmlpOutDwIdeal
    ∧ algebraic_GmlpOutDwIdeal_GmlpOutDwRefIdeal (hGmlpOutDwIdeal := hGmlpOutDwIdeal) (hGmlpOutDwRefIdeal := hGmlpOutDwRefIdeal)
    ∧ preserves_GmlpOutDx_GmlpOutDxIdeal
    ∧ algebraic_GmlpOutDxIdeal_GmlpOutDxRefIdeal (hGmlpOutDxIdeal := hGmlpOutDxIdeal) (hGmlpOutDxRefIdeal := hGmlpOutDxRefIdeal)
    ∧ preserves_GmlpInDw_GmlpInDwIdeal
    ∧ algebraic_GmlpInDwIdeal_GmlpInDwRefIdeal (hGmlpInDwIdeal := hGmlpInDwIdeal) (hGmlpInDwRefIdeal := hGmlpInDwRefIdeal)
    ∧ preserves_GmlpInDx_GmlpInDxIdeal
    ∧ algebraic_GmlpInDxIdeal_GmlpInDxRefIdeal (hGmlpInDxIdeal := hGmlpInDxIdeal) (hGmlpInDxRefIdeal := hGmlpInDxRefIdeal)
    ∧ preserves_AttnQkv_AttnQkvIdeal
    ∧ algebraic_AttnQkvIdeal_AttnQkvRefIdeal (hAttnQkvIdeal := hAttnQkvIdeal) (hAttnQkvRefIdeal := hAttnQkvRefIdeal)
    ∧ preserves_AttnO_AttnOIdeal
    ∧ algebraic_AttnOIdeal_AttnORefIdeal (hAttnOIdeal := hAttnOIdeal) (hAttnORefIdeal := hAttnORefIdeal)
    ∧ preserves_AttnODw_AttnODwIdeal
    ∧ algebraic_AttnODwIdeal_AttnODwRefIdeal (hAttnODwIdeal := hAttnODwIdeal) (hAttnODwRefIdeal := hAttnODwRefIdeal)
    ∧ preserves_AttnODx_AttnODxIdeal
    ∧ algebraic_AttnODxIdeal_AttnODxRefIdeal (hAttnODxIdeal := hAttnODxIdeal) (hAttnODxRefIdeal := hAttnODxRefIdeal)
    ∧ preserves_AttnQkvDw_AttnQkvDwIdeal
    ∧ algebraic_AttnQkvDwIdeal_AttnQkvDwRefIdeal (hAttnQkvDwIdeal := hAttnQkvDwIdeal) (hAttnQkvDwRefIdeal := hAttnQkvDwRefIdeal)
    ∧ preserves_AttnQkvDx_AttnQkvDxIdeal
    ∧ algebraic_AttnQkvDxIdeal_AttnQkvDxRefIdeal (hAttnQkvDxIdeal := hAttnQkvDxIdeal) (hAttnQkvDxRefIdeal := hAttnQkvDxRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_RmsRes_RmsResIdeal
    ∧ algebraic_RmsResIdeal_RmsResRefIdeal (hRmsResIdeal := hRmsResIdeal) (hRmsResRefIdeal := hRmsResRefIdeal)
    ∧ preserves_RmsResNorm_RmsResNormIdeal
    ∧ algebraic_RmsResNormIdeal_RmsResNormRefIdeal (hRmsResNormIdeal := hRmsResNormIdeal) (hRmsResNormRefIdeal := hRmsResNormRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_RmsChain_RmsChainIdeal
    ∧ algebraic_RmsChainIdeal_RmsChainRefIdeal (hRmsChainIdeal := hRmsChainIdeal) (hRmsChainRefIdeal := hRmsChainRefIdeal)
    ∧ preserves_SguFwd_SguFwdIdeal
    ∧ algebraic_SguFwdIdeal_SguFwdRefIdeal (hSguFwdIdeal := hSguFwdIdeal) (hSguFwdRefIdeal := hSguFwdRefIdeal)
    ∧ preserves_LossGrad_LossGradIdeal
    ∧ algebraic_LossGradIdeal_LossGradRefIdeal (hLossGradIdeal := hLossGradIdeal) (hLossGradRefIdeal := hLossGradRefIdeal)
    ∧ preserves_AdamGain_AdamGainIdeal
    ∧ algebraic_AdamGainIdeal_AdamGainRefIdeal (hAdamGainIdeal := hAdamGainIdeal) (hAdamGainRefIdeal := hAdamGainRefIdeal)
    ∧ preserves_AdamGmlpBias_AdamGmlpBiasIdeal
    ∧ algebraic_AdamGmlpBiasIdeal_AdamGmlpBiasRefIdeal (hAdamGmlpBiasIdeal := hAdamGmlpBiasIdeal) (hAdamGmlpBiasRefIdeal := hAdamGmlpBiasRefIdeal)
    ∧ preserves_AdamGmlpNorm_AdamGmlpNormIdeal
    ∧ algebraic_AdamGmlpNormIdeal_AdamGmlpNormRefIdeal (hAdamGmlpNormIdeal := hAdamGmlpNormIdeal) (hAdamGmlpNormRefIdeal := hAdamGmlpNormRefIdeal)
    ∧ preserves_AdamMix_AdamMixIdeal
    ∧ algebraic_AdamMixIdeal_AdamMixRefIdeal (hAdamMixIdeal := hAdamMixIdeal) (hAdamMixRefIdeal := hAdamMixRefIdeal)
    ∧ preserves_AdamMixBias_AdamMixBiasIdeal
    ∧ algebraic_AdamMixBiasIdeal_AdamMixBiasRefIdeal (hAdamMixBiasIdeal := hAdamMixBiasIdeal) (hAdamMixBiasRefIdeal := hAdamMixBiasRefIdeal)
    ∧ preserves_AdamAttnBias_AdamAttnBiasIdeal
    ∧ algebraic_AdamAttnBiasIdeal_AdamAttnBiasRefIdeal (hAdamAttnBiasIdeal := hAdamAttnBiasIdeal) (hAdamAttnBiasRefIdeal := hAdamAttnBiasRefIdeal)
    ∧ preserves_AdamSinks_AdamSinksIdeal
    ∧ algebraic_AdamSinksIdeal_AdamSinksRefIdeal (hAdamSinksIdeal := hAdamSinksIdeal) (hAdamSinksRefIdeal := hAdamSinksRefIdeal)
-- ==== Pre_finite.lean ====
abbrev S4096x4096 : Shape := ⟨2, ![4096, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bitsLt_bf16_f32 : FTy.bits .bf16 < FTy.bits .f32
  bcast_S_S4096 : S_.BroadcastsInDim S4096 (![] : Fin 0 → Fin S4096.rank)
  reducesTo_S4096_S_d0 : S4096.ReducesTo [0] S_
  bcast_S_S2048 : S_.BroadcastsInDim S2048 (![] : Fin 0 → Fin S2048.rank)
  reducesTo_S2048_S_d0 : S2048.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg4 : FVec F S8x128x128 .f32) (main_arg5 : FVec F S8x128 .f32) (main_v4 : FVec F S4096x2048 .f32) (main_v14 : IVec S_ 1) (main_v15 : FVec F S2048 .f32) (main_v16 : FVec F S2048 .f32) : IVec S_ 1 :=
  let main_v17 : IVec S2048 1 := cmpf .olt main_v15 main_v16
  let main_c_5 : IVec S_ 1 := constantI S_ 1 1#1
  let main_v18 : IVec S_ 1 := (fun x v => Host.reduce IntOp.andi x v reducesTo_S2048_S_d0 h_S_) main_v17 main_c_5
  let main_v19 : IVec S_ 1 := andi main_v14 main_v18
  let main_v20 : FVec F S8x128x128 .f32 := Host.absf main_arg4
  let main_cst_6 : FVec F S_ .f32 := constant S_ .f32 0x7F800000#32
  let main_v21 : FVec F S8x128x128 .f32 := broadcastInDim S8x128x128 ![] bcast_S_S8x128x128 main_cst_6
  let main_v22 : IVec S8x128x128 1 := cmpf .olt main_v20 main_v21
  let main_c_7 : IVec S_ 1 := constantI S_ 1 1#1
  let main_v23 : IVec S_ 1 := (fun x v => Host.reduce IntOp.andi x v reducesTo_S8x128x128_S_d0_1_2 h_S_) main_v22 main_c_7
  let main_v24 : IVec S_ 1 := andi main_v19 main_v23
  let main_v25 : FVec F S8x128 .f32 := Host.absf main_arg5
  let main_cst_8 : FVec F S_ .f32 := constant S_ .f32 0x7F800000#32
  let main_v26 : FVec F S8x128 .f32 := broadcastInDim S8x128 ![] bcast_S_S8x128 main_cst_8
  let main_v27 : IVec S8x128 1 := cmpf .olt main_v25 main_v26
  let main_c_9 : IVec S_ 1 := constantI S_ 1 1#1
  let main_v28 : IVec S_ 1 := (fun x v => Host.reduce IntOp.andi x v reducesTo_S8x128_S_d0_1 h_S_) main_v27 main_c_9
  let main_v29 : IVec S_ 1 := andi main_v24 main_v28
  let main_v30 : FVec F S4096x2048 .f32 := Host.absf main_v4
  let main_cst_10 : FVec F S_ .f32 := constant S_ .f32 0x7F800000#32
  let main_v31 : FVec F S4096x2048 .f32 := broadcastInDim S4096x2048 ![] bcast_S_S4096x2048 main_cst_10
  let main_v32 : IVec S4096x2048 1 := cmpf .olt main_v30 main_v31
  let main_c_11 : IVec S_ 1 := constantI S_ 1 1#1
  let main_v33 : IVec S_ 1 := (fun x v => Host.reduce IntOp.andi x v reducesTo_S4096x2048_S_d0_1 h_S_) main_v32 main_c_11
  fn_part2 (F := F) main_v29 main_v33

def fn {F : FTy → Type} [FloatOps F] (main_arg0 : FVec F S4096x4096 .f32) (main_arg1 : FVec F S4096 .f32) (main_arg2 : FVec F S2048 .f32) (main_arg3 : FVec F S2048 .f32) (main_arg4 : FVec F S8x128x128 .f32) (main_arg5 : FVec F S8x128 .f32) (main_arg6 : FVec F S4096x2048 .bf16) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .f32 := (extf .f32 · bitsLt_bf16_f32) main_arg6
  let main_v5 : FVec F S4096 .f32 := Host.absf main_arg1
  let main_cst_0 : FVec F S_ .f32 := constant S_ .f32 0x7F800000#32
  let main_v6 : FVec F S4096 .f32 := broadcastInDim S4096 ![] bcast_S_S4096 main_cst_0
  let main_v7 : IVec S4096 1 := cmpf .olt main_v5 main_v6
  let main_c_1 : IVec S_ 1 := constantI S_ 1 1#1
  let main_v8 : IVec S_ 1 := (fun x v => Host.reduce IntOp.andi x v reducesTo_S4096_S_d0 h_S_) main_v7 main_c_1
  let main_v9 : IVec S_ 1 := andi main_v3 main_v8
  let main_v10 : FVec F S2048 .f32 := Host.absf main_arg2
  let main_cst_2 : FVec F S_ .f32 := constant S_ .f32 0x7F800000#32
  let main_v11 : FVec F S2048 .f32 := broadcastInDim S2048 ![] bcast_S_S2048 main_cst_2
  let main_v12 : IVec S2048 1 := cmpf .olt main_v10 main_v11
  let main_c_3 : IVec S_ 1 := constantI S_ 1 1#1
  let main_v13 : IVec S_ 1 := (fun x v => Host.reduce IntOp.andi x v reducesTo_S2048_S_d0 h_S_) main_v12 main_c_3
  let main_v14 : IVec S_ 1 := andi main_v9 main_v13
  let main_v15 : FVec F S2048 .f32 := Host.absf main_arg3
  let main_cst_4 : FVec F S_ .f32 := constant S_ .f32 0x7F800000#32
  let main_v16 : FVec F S2048 .f32 := broadcastInDim S2048 ![] bcast_S_S2048 main_cst_4
  fn_part1 (F := F) main_arg4 main_arg5 main_v4 main_v14 main_v15 main_v16
-- ==== Pre_finite_down.lean ====
abbrev S4096x1024 : Shape := ⟨2, ![4096, 1024]⟩
abbrev S2816x1024 : Shape := ⟨2, ![2816, 1024]⟩
abbrev S1024x5632 : Shape := ⟨2, ![1024, 5632]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S1024x5632 : S_.BroadcastsInDim S1024x5632 (![] : Fin 0 → Fin S1024x5632.rank)
  reducesTo_S1024x5632_S_d0_1 : S1024x5632.ReducesTo [0, 1] S_

variable [Facts]

def fn_part1 {F : FTy → Type} [FloatOps F] (main_v7 : FVec F S1024x5632 .f32) (main_v17 : IVec S_ 1) : IVec S_ 1 :=
  let main_v18 : FVec F S1024x5632 .f32 := Host.absf main_v7
  let main_cst_4 : FVec F S_ .f32 := constant S_ .f32 0x7F800000#32
  let main_v19 : FVec F S1024x5632 .f32 := broadcastInDim S1024x5632 ![] bcast_S_S1024x5632 main_cst_4
  let main_v20 : IVec S1024x5632 1 := cmpf .olt main_v18 main_v19
  let main_c_5 : IVec S_ 1 := constantI S_ 1 1#1
  let main_v21 : IVec S_ 1 := (fun x v => Host.reduce IntOp.andi x v reducesTo_S1024x5632_S_d0_1 h_S_) main_v20 main_c_5
  let main_v22 : IVec S_ 1 := andi main_v17 main_v21
  main_v22

def fn {F : FTy → Type} [FloatOps F] (main_arg0 : FVec F S4096x1024 .bf16) (main_arg1 : FVec F S2816x1024 .bf16) (main_arg2 : FVec F S4096x1024 .bf16) (main_arg3 : FVec F S1024x5632 .bf16) (main_arg4 : FVec F S2816x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2816x1024 .f32 := (extf .f32 · bitsLt_bf16_f32) main_arg1
  let main_v6 : FVec F S4096x1024 .f32 := (extf .f32 · bitsLt_bf16_f32) main_arg2
  let main_v7 : FVec F S1024x5632 .f32 := (extf .f32 · bitsLt_bf16_f32) main_arg3
  let main_v8 : FVec F S2816x1024 .f32 := Host.absf main_v5
  let main_cst_0 : FVec F S_ .f32 := constant S_ .f32 0x7F800000#32
  let main_v9 : FVec F S2816x1024 .f32 := broadcastInDim S2816x1024 ![] bcast_S_S2816x1024 main_cst_0
  let main_v10 : IVec S2816x1024 1 := cmpf .olt main_v8 main_v9
  let main_c_1 : IVec S_ 1 := constantI S_ 1 1#1
  let main_v11 : IVec S_ 1 := (fun x v => Host.reduce IntOp.andi x v reducesTo_S2816x1024_S_d0_1 h_S_) main_v10 main_c_1
  let main_v12 : IVec S_ 1 := andi main_v4 main_v11
  let main_v13 : FVec F S4096x1024 .f32 := Host.absf main_v6
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  let main_c_3 : IVec S_ 1 := constantI S_ 1 1#1
  let main_v16 : IVec S_ 1 := (fun x v => Host.reduce IntOp.andi x v reducesTo_S4096x1024_S_d0_1 h_S_) main_v15 main_c_3
  let main_v17 : IVec S_ 1 := andi main_v12 main_v16
  fn_part1 (F := F) main_v7 main_v17
-- ==== Pre_finite_up.lean ====
abbrev S4096x1024 : Shape := ⟨2, ![4096, 1024]⟩
abbrev S1024x5632 : Shape := ⟨2, ![1024, 5632]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S4096x1024 .bf16) (main_arg1 : FVec F S1024x5632 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1024x5632 .f32 := (extf .f32 · bitsLt_bf16_f32) main_arg1
  let main_v6 : FVec F S1024x5632 .f32 := Host.absf main_v5
  let main_cst_0 : FVec F S_ .f32 := constant S_ .f32 0x7F800000#32
  let main_v7 : FVec F S1024x5632 .f32 := broadcastInDim S1024x5632 ![] bcast_S_S1024x5632 main_cst_0
  let main_v8 : IVec S1024x5632 1 := cmpf .olt main_v6 main_v7
  let main_c_1 : IVec S_ 1 := constantI S_ 1 1#1
  let main_v9 : IVec S_ 1 := (fun x v => Host.reduce IntOp.andi x v reducesTo_S1024x5632_S_d0_1 h_S_) main_v8 main_c_1
  let main_v10 : IVec S_ 1 := andi main_v4 main_v9
  main_v10
-- ==== Kernel.lean ====
abbrev S4096x4096 : Shape := ⟨2, ![4096, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S4096x2048 : Shape := ⟨2, ![4096, 2048]⟩
abbrev S1x4096 : Shape := ⟨2, ![1, 4096]⟩
abbrev S1x2048 : Shape := ⟨2, ![1, 2048]⟩
abbrev S128x8 : Shape := ⟨2, ![128, 8]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 19
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S4096x2048, .bf16⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S1x2048, .f32⟩
  | .hbm, ⟨11, _⟩ => ⟨S1x2048, .f32⟩
  | .hbm, ⟨12, _⟩ => ⟨S128x8, .f32⟩
  | .hbm, ⟨13, _⟩ => ⟨S4096x4096, .bf16⟩
  | .hbm, ⟨14, _⟩ => ⟨S8x128x128, .f32⟩
  | .hbm, ⟨15, _⟩ => ⟨S128x8, .f32⟩
  | .hbm, ⟨16, _⟩ => ⟨S1x2048, .f32⟩
  | .hbm, ⟨17, _⟩ => ⟨S1x2048, .f32⟩
  | .hbm, ⟨18, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x2048, .bf16⟩
  | .local _ .vmem, ⟨3, _⟩ => ⟨S128x2048, .bf16⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S128x8, .f32⟩
  | .local _ .vmem, ⟨8, _⟩ => ⟨S128x4096, .bf16⟩
  | .local _ .vmem, ⟨9, _⟩ => ⟨S128x4096, .bf16⟩
  | .local _ .vmem, ⟨10, _⟩ => ⟨S8x128x128, .f32⟩
  | .local _ .vmem, ⟨11, _⟩ => ⟨S128x8, .f32⟩
  | .local _ .vmem, ⟨12, _⟩ => ⟨S1x2048, .f32⟩
  | .local _ .vmem, ⟨13, _⟩ => ⟨S1x2048, .f32⟩
  | .local _ .vmem, ⟨14, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "inv_sqrt_2pi" => some (((9465531 / 16777216) * (Real.sqrt (1 / 2)) : ℝ) : EReal)
  | "sqrt_half" => some ((Real.sqrt (1 / 2) : ℝ) : EReal)
  | _ => none
-- ==== ReferenceIdeal.lean ====
abbrev S4096x4096 : Shape := ⟨2, ![4096, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S4096x2048 : Shape := ⟨2, ![4096, 2048]⟩
abbrev S1x4096 : Shape := ⟨2, ![1, 4096]⟩
abbrev S_ : Shape := ⟨0, ![]⟩
abbrev S4096x1 : Shape := ⟨2, ![4096, 1]⟩
abbrev S1x2048 : Shape := ⟨2, ![1, 2048]⟩
abbrev S32x128x8x256 : Shape := ⟨4, ![32, 128, 8, 256]⟩
abbrev S128x128 : Shape := ⟨2, ![128, 128]⟩
abbrev S1x128x128 : Shape := ⟨3, ![1, 128, 128]⟩
abbrev S8x32x256x128 : Shape := ⟨4, ![8, 32, 256, 128]⟩
abbrev S128x8 : Shape := ⟨2, ![128, 8]⟩
abbrev S1x128x8x1 : Shape := ⟨4, ![1, 128, 8, 1]⟩

abbrev nBuf : Space → Nat
  | .hbm => 175
  | .vmem => 0
  | .smem => 0
  | _ => 0

abbrev hbmTy0_0 (i : Nat) : BufTy := match i % 128 with
  | 0 => ⟨S4096x4096, .f32⟩
  | 1 => ⟨S4096, .f32⟩
  | 2 => ⟨S2048, .f32⟩
  | 3 => ⟨S2048, .f32⟩
  | 4 => ⟨S8x128x128, .f32⟩
  | 5 => ⟨S8x128, .f32⟩
  | 6 => ⟨S4096x2048, .bf16⟩
  | 7 => ⟨S1x4096, .f32⟩
  | 8 => ⟨S4096x4096, .f32⟩
  | 9 => ⟨S4096x4096, .f32⟩
  | 10 => ⟨S_, .f32⟩
  | 11 => ⟨S4096x4096, .f32⟩
  | 12 => ⟨S4096x4096, .f32⟩
  | 13 => ⟨S4096x4096, .f32⟩
  | 14 => ⟨S_, .f32⟩
  | 15 => ⟨S_, .f32⟩
  | 16 => ⟨S4096x4096, .f32⟩
  | 17 => ⟨S4096x4096, .f32⟩
  | 18 => ⟨S4096x4096, .f32⟩
  | 19 => ⟨S4096x4096, .f32⟩
  | 20 => ⟨S4096x4096, .f32⟩
  | 21 => ⟨S4096x4096, .f32⟩
  | 22 => ⟨S4096x4096, .f32⟩
  | 23 => ⟨S4096x2048, .f32⟩
  | 24 => ⟨S4096x2048, .f32⟩
  | 25 => ⟨S_, .f32⟩
  | 26 => ⟨S4096, .f32⟩
  | 27 => ⟨S4096x1, .f32⟩
  | 28 => ⟨S_, .f32⟩
  | 29 => ⟨S4096x1, .f32⟩
  | 30 => ⟨S4096x1, .f32⟩
  | 31 => ⟨S4096x2048, .f32⟩
  | 32 => ⟨S4096x2048, .f32⟩
  | 33 => ⟨S4096x2048, .f32⟩
  | 34 => ⟨S_, .f32⟩
  | 35 => ⟨S4096x2048, .f32⟩
  | 36 => ⟨S4096x2048, .f32⟩
  | 37 => ⟨S_, .f32⟩
  | 38 => ⟨S4096, .f32⟩
  | 39 => ⟨S4096x1, .f32⟩
  | 40 => ⟨S_, .f32⟩
  | 41 => ⟨S4096x1, .f32⟩
  | 42 => ⟨S4096x1, .f32⟩
  | 43 => ⟨S4096x2048, .f32⟩
  | 44 => ⟨S4096x2048, .f32⟩
  | 45 => ⟨S_, .f32⟩
  | 46 => ⟨S4096x1, .f32⟩
  | 47 => ⟨S4096x1, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x2048, .f32⟩
  | 54 => ⟨S4096x2048, .f32⟩
  | 55 => ⟨S1x2048, .f32⟩
  | 56 => ⟨S4096x2048, .f32⟩
  | 57 => ⟨S4096x2048, .f32⟩
  | 58 => ⟨S1x2048, .f32⟩
  | 59 => ⟨S4096x2048, .f32⟩
  | 60 => ⟨S4096x2048, .f32⟩
  | 61 => ⟨S32x128x8x256, .f32⟩
  | 62 => ⟨S_, .i1⟩
  | 63 => ⟨S128x128, .i1⟩
  | 64 => ⟨S128x128, .i32⟩
  | 65 => ⟨S_, .i32⟩
  | 66 => ⟨S128x128, .i32⟩
  | 67 => ⟨S128x128, .i32⟩
  | 68 => ⟨S128x128, .i32⟩
  | 69 => ⟨S128x128, .i1⟩
  | 70 => ⟨S_, .i1⟩
  | 71 => ⟨S128x128, .i1⟩
  | 72 => ⟨S128x128, .i1⟩
  | 73 => ⟨S1x128x128, .i1⟩
  | 74 => ⟨S_, .f32⟩
  | 75 => ⟨S_, .f32⟩
  | 76 => ⟨S8x128x128, .i1⟩
  | 77 => ⟨S8x128x128, .f32⟩
  | 78 => ⟨S8x128x128, .f32⟩
  | 79 => ⟨S_, .f32⟩
  | 80 => ⟨S8x128x128, .f32⟩
  | 81 => ⟨S8x32x256x128, .f32⟩
  | 82 => ⟨S32x128x8x256, .f32⟩
  | 83 => ⟨S128x8, .f32⟩
  | 84 => ⟨S1x128x8x1, .f32⟩
  | 85 => ⟨S32x128x8x256, .f32⟩
  | 86 => ⟨S32x128x8x256, .f32⟩
  | 87 => ⟨S4096x2048, .f32⟩
  | 88 => ⟨S4096x2048, .f32⟩
  | 89 => ⟨S4096x2048, .f32⟩
  | 90 => ⟨S4096x2048, .f32⟩
  | 91 => ⟨S4096x2048, .f32⟩
  | 92 => ⟨S32x128x8x256, .f32⟩
  | 93 => ⟨S_, .f32⟩
  | 94 => ⟨S128x8, .f32⟩
  | 95 => ⟨S1x128x8x1, .f32⟩
  | 96 => ⟨S_, .f32⟩
  | 97 => ⟨S128x8, .f32⟩
  | 98 => ⟨S8x128, .f32⟩
  | 99 => ⟨S8x32x256x128, .f32⟩
  | 100 => ⟨S8x128x128, .f32⟩
  | 101 => ⟨S8x32x256x128, .f32⟩
  | 102 => ⟨S32x128x8x256, .f32⟩
  | 103 => ⟨S_, .f32⟩
  | 104 => ⟨S8x128x128, .f32⟩
  | 105 => ⟨S8x128x128, .f32⟩
  | 106 => ⟨S4096x2048, .f32⟩
  | 107 => ⟨S_, .f32⟩
  | 108 => ⟨S2048, .f32⟩
  | 109 => ⟨S1x2048, .f32⟩
  | 110 => ⟨S_, .f32⟩
  | 111 => ⟨S2048, .f32⟩
  | 112 => ⟨S4096x2048, .f32⟩
  | 113 => ⟨S_, .f32⟩
  | 114 => ⟨S2048, .f32⟩
  | 115 => ⟨S1x2048, .f32⟩
  | 116 => ⟨S4096x2048, .f32⟩
  | 117 => ⟨S4096x2048, .f32⟩
  | 118 => ⟨S_, .f32⟩
  | 119 => ⟨S2048, .f32⟩
  | 120 => ⟨S4096x2048, .f32⟩
  | 121 => ⟨S_, .f32⟩
  | 122 => ⟨S4096, .f32⟩
  | 123 => ⟨S4096x1, .f32⟩
  | 124 => ⟨S4096x2048, .f32⟩
  | 125 => ⟨S4096x2048, .f32⟩
  | 126 => ⟨S4096x1, .f32⟩
  | 127 => ⟨S4096x2048, .f32⟩
  | _ => ⟨S4096x4096, .f32⟩

abbrev hbmTy0_1 (i : Nat) : BufTy := match i % 128 with
  | 0 => ⟨S_, .f32⟩
  | 1 => ⟨S4096, .f32⟩
  | 2 => ⟨S4096x1, .f32⟩
  | 3 => ⟨S_, .f32⟩
  | 4 => ⟨S4096x1, .f32⟩
  | 5 => ⟨S4096x1, .f32⟩
  | 6 => ⟨S_, .f32⟩
  | 7 => ⟨S4096, .f32⟩
  | 8 => ⟨S4096x2048, .f32⟩
  | 9 => ⟨S4096x2048, .f32⟩
  | 10 => ⟨S4096x2048, .f32⟩
  | 11 => ⟨S_, .f32⟩
  | 12 => ⟨S4096, .f32⟩
  | 13 => ⟨S4096x1, .f32⟩
  | 14 => ⟨S4096x2048, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096, .f32⟩
  | 21 => ⟨S4096x2048, .f32⟩
  | 22 => ⟨S4096x2048, .f32⟩
  | 23 => ⟨S4096x4096, .f32⟩
  | 24 => ⟨S4096x4096, .f32⟩
  | 25 => ⟨S4096x4096, .f32⟩
  | 26 => ⟨S_, .f32⟩
  | 27 => ⟨S4096x4096, .f32⟩
  | 28 => ⟨S4096x4096, .f32⟩
  | 29 => ⟨S4096x4096, .f32⟩
  | 30 => ⟨S4096x4096, .f32⟩
  | 31 => ⟨S4096x4096, .f32⟩
  | 32 => ⟨S4096x4096, .f32⟩
  | 33 => ⟨S_, .f32⟩
  | 34 => ⟨S4096x4096, .f32⟩
  | 35 => ⟨S4096x4096, .f32⟩
  | 36 => ⟨S4096x4096, .f32⟩
  | 37 => ⟨S_, .f32⟩
  | 38 => ⟨S4096, .f32⟩
  | 39 => ⟨S1x4096, .f32⟩
  | 40 => ⟨S_, .f32⟩
  | 41 => ⟨S4096, .f32⟩
  | 42 => ⟨S4096x4096, .bf16⟩
  | 43 => ⟨S128x8, .f32⟩
  | 44 => ⟨S1x2048, .f32⟩
  | 45 => ⟨S1x2048, .f32⟩
  | 46 => ⟨S1x4096, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c : Ref sig .tc := ⟨.hbm, 62, rfl⟩
abbrev main_v46 : Ref sig .tc := ⟨.hbm, 63, rfl⟩
abbrev main_call0_v0 : Ref sig .tc := ⟨.hbm, 64, rfl⟩
abbrev main_call0_c : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_c_0 : Ref sig .tc := ⟨.hbm, 70, rfl⟩
abbrev main_call0_v5 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_call1_v0 : Ref sig .tc := ⟨.hbm, 75, rfl⟩
abbrev main_v49_1 : Ref sig .tc := ⟨.hbm, 76, rfl⟩
abbrev main_call1_v2 : Ref sig .tc := ⟨.hbm, 77, rfl⟩
abbrev main_v49_0 : Ref sig .tc := ⟨.hbm, 78, rfl⟩
abbrev main_call1_cst : Ref sig .tc := ⟨.hbm, 79, rfl⟩
abbrev main_v49_2 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_9 : Ref sig .tc := ⟨.hbm, 93, rfl⟩
abbrev main_v62 : Ref sig .tc := ⟨.hbm, 94, rfl⟩
abbrev main_v63 : Ref sig .tc := ⟨.hbm, 95, rfl⟩
abbrev main_cst_10 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_call2_cst : Ref sig .tc := ⟨.hbm, 103, rfl⟩
abbrev main_call2_v0 : Ref sig .tc := ⟨.hbm, 104, rfl⟩
abbrev main_v70 : Ref sig .tc := ⟨.hbm, 105, rfl⟩
abbrev main_v71 : Ref sig .tc := ⟨.hbm, 106, rfl⟩
abbrev main_cst_11 : Ref sig .tc := ⟨.hbm, 107, rfl⟩
abbrev main_v72 : Ref sig .tc := ⟨.hbm, 108, rfl⟩
abbrev main_v73 : Ref sig .tc := ⟨.hbm, 109, rfl⟩
abbrev main_cst_12 : Ref sig .tc := ⟨.hbm, 110, rfl⟩
abbrev main_v74 : Ref sig .tc := ⟨.hbm, 111, rfl⟩
abbrev main_v75 : Ref sig .tc := ⟨.hbm, 112, rfl⟩
abbrev main_cst_13 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_14 : Ref sig .tc := ⟨.hbm, 118, rfl⟩
abbrev main_v80 : Ref sig .tc := ⟨.hbm, 119, rfl⟩
abbrev main_v81 : Ref sig .tc := ⟨.hbm, 120, rfl⟩
abbrev main_cst_15 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_16 : Ref sig .tc := ⟨.hbm, 128, rfl⟩
abbrev main_v88 : Ref sig .tc := ⟨.hbm, 129, rfl⟩
abbrev main_v89 : Ref sig .tc := ⟨.hbm, 130, rfl⟩
abbrev main_cst_17 : Ref sig .tc := ⟨.hbm, 131, rfl⟩
abbrev main_v90 : Ref sig .tc := ⟨.hbm, 132, rfl⟩
abbrev main_v91 : Ref sig .tc := ⟨.hbm, 133, rfl⟩
abbrev main_cst_18 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_19 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_20 : Ref sig .tc := ⟨.hbm, 144, rfl⟩
abbrev main_v100 : Ref sig .tc := ⟨.hbm, 145, rfl⟩
abbrev main_v101 : Ref sig .tc := ⟨.hbm, 146, rfl⟩
abbrev main_cst_21 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_22 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_23 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_24 : Ref sig .tc := ⟨.hbm, 165, rfl⟩
abbrev main_v117 : Ref sig .tc := ⟨.hbm, 166, rfl⟩
abbrev main_v118 : Ref sig .tc := ⟨.hbm, 167, rfl⟩
abbrev main_cst_25 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩

abbrev nD : Nat := 1
abbrev τ : Topo := Topo.v7x

variable {F : FTy → Type} [FloatOps F]
-- ==== FfnUp.lean ====
abbrev S4096x1024 : Shape := ⟨2, ![4096, 1024]⟩
abbrev S1024x5632 : Shape := ⟨2, ![1024, 5632]⟩
abbrev S1x1024x5632 : Shape := ⟨3, ![1, 1024, 5632]⟩
abbrev S4096x2816 : Shape := ⟨2, ![4096, 2816]⟩
abbrev S256x1024 : Shape := ⟨2, ![256, 1024]⟩
abbrev S1x1024x2816 : Shape := ⟨3, ![1, 1024, 2816]⟩
abbrev S256x2816 : Shape := ⟨2, ![256, 2816]⟩
abbrev S1024x2816 : Shape := ⟨2, ![1024, 2816]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S1x1024x5632, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S256x1024, .bf16⟩
  | .local _ .vmem, ⟨1, _⟩ => ⟨S256x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S_, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .bf16⟩
  | .hbm, ⟨30, _⟩ => ⟨S4096x2816, .bf16⟩
  | .hbm, ⟨31, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v5_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v5_1 : Ref sig .tc := ⟨.hbm, 18, rfl⟩
abbrev main_v5_0 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]
-- ==== FfnDown.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDownDx.lean ====
abbrev S4096x1024 : Shape := ⟨2, ![4096, 1024]⟩
abbrev S2816x1024 : Shape := ⟨2, ![2816, 1024]⟩
abbrev S1024x5632 : Shape := ⟨2, ![1024, 5632]⟩
abbrev S1x1024x5632 : Shape := ⟨3, ![1, 1024, 5632]⟩
abbrev S4096x2816 : Shape := ⟨2, ![4096, 2816]⟩
abbrev S256x1024 : Shape := ⟨2, ![256, 1024]⟩
abbrev S1x1024x2816 : Shape := ⟨3, ![1, 1024, 2816]⟩
abbrev S256x2816 : Shape := ⟨2, ![256, 2816]⟩
abbrev S1024x2816 : Shape := ⟨2, ![1024, 2816]⟩
abbrev S1x2816x1024 : Shape := ⟨3, ![1, 2816, 1024]⟩
abbrev S512x1024 : Shape := ⟨2, ![512, 1024]⟩
abbrev S512x2816 : Shape := ⟨2, ![512, 2816]⟩

abbrev nBuf : Space → Nat
  | .hbm => 12
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .bf16⟩
  | .hbm, ⟨3, _⟩ => ⟨S1024x5632, .bf16⟩
  | .hbm, ⟨4, _⟩ => ⟨S2816x1024, .bf16⟩
  | .hbm, ⟨5, _⟩ => ⟨S1x1024x5632, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .hbm, ⟨9, _⟩ => ⟨S1x2816x1024, .bf16⟩
  | .hbm, ⟨10, _⟩ => ⟨S4096x2816, .bf16⟩
  | .hbm, ⟨11, _⟩ => ⟨S4096x2816, .bf16⟩
  | .local _ .vmem, ⟨0, _⟩ => ⟨S256x1024, .bf16⟩
  | .local _ .vmem, ⟨1, _⟩ => ⟨S256x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S512x1024, .bf16⟩
  | .local _ .vmem, ⟨11, _⟩ => ⟨S512x1024, .bf16⟩
  | .local _ .vmem, ⟨12, _⟩ => ⟨S1x2816x1024, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | .local _ .vmem, ⟨19, _⟩ => ⟨S512x2816, .bf16⟩
  | .local _ .vmem, ⟨20, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1x2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== FfnDownDxRefIdeal.lean ====
abbrev S4096x1024 : Shape := ⟨2, ![4096, 1024]⟩
abbrev S2816x1024 : Shape := ⟨2, ![2816, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .bf16⟩
  | .hbm, ⟨3, _⟩ => ⟨S1024x5632, .bf16⟩
  | .hbm, ⟨4, _⟩ => ⟨S2816x1024, .bf16⟩
  | .hbm, ⟨5, _⟩ => ⟨S4096x1024, .f32⟩
  | .hbm, ⟨6, _⟩ => ⟨S2816x1024, .f32⟩
  | .hbm, ⟨7, _⟩ => ⟨S4096x1024, .f32⟩
  | .hbm, ⟨8, _⟩ => ⟨S1024x5632, .f32⟩
  | .hbm, ⟨9, _⟩ => ⟨S4096x5632, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .bf16⟩
  | .hbm, ⟨35, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v7_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v7_1 : Ref sig .tc := ⟨.hbm, 23, rfl⟩
abbrev main_v7_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩

abbrev nD : Nat := 1
abbrev τ : Topo := Topo.v7x

variable {F : FTy → Type} [FloatOps F]
-- ==== FfnGuDx.lean ====
abbrev S4096x2816 : Shape := ⟨2, ![4096, 2816]⟩
abbrev S1024x5632 : Shape := ⟨2, ![1024, 5632]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .bf16⟩
  | .hbm, ⟨2, _⟩ => ⟨S4096x2816, .bf16⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c1_i32 : BitVec 32 := 1#32
  let v0 : BitVec 1 := Scalar.cmpi .slt arg2 c1_i32
  let v1 : BitVec 32 := Scalar.extui v0
  let c0_i32 : BitVec 32 := 0#32
  let v2 : BitVec 1 := Scalar.cmpi .ne v1 c0_i32
  v2

def k0_cond4 (i : grid0.Coords) : BitVec 1 :=
  let arg2 : BitVec 32 := BitVec.ofNat 32 (i 2).val
  let c1_i32_8 : BitVec 32 := 1#32
  let v15 : BitVec 1 := Scalar.cmpi .eq arg2 c1_i32_8
  let v16 : BitVec 32 := Scalar.extui v15
  let c0_i32_9 : BitVec 32 := 0#32
  let v17 : BitVec 1 := Scalar.cmpi .ne v16 c0_i32_9
  v17

def k0_cond5 (i : grid0.Coords) : BitVec 1 :=
  let arg2 : BitVec 32 := BitVec.ofNat 32 (i 2).val
  let c1_i32 : BitVec 32 := 1#32
  let v0 : BitVec 1 := Scalar.cmpi .slt arg2 c1_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def k0_cond8 (i : grid0.Coords) : BitVec 1 :=
  let arg2 : BitVec 32 := BitVec.ofNat 32 (i 2).val
  let c1_i32_8 : BitVec 32 := 1#32
  let v15 : BitVec 1 := Scalar.cmpi .eq arg2 c1_i32_8
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnGuDxRefIdeal.lean ====
abbrev S4096x2816 : Shape := ⟨2, ![4096, 2816]⟩
abbrev S1024x5632 : Shape := ⟨2, ![1024, 5632]⟩
abbrev S_ : Shape := ⟨0, ![]⟩
abbrev S4096x1024 : Shape := ⟨2, ![4096, 1024]⟩
abbrev S4096x5632 : Shape := ⟨2, ![4096, 5632]⟩

abbrev nBuf : Space → Nat
  | .hbm => 13
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .bf16⟩
  | .hbm, ⟨2, _⟩ => ⟨S4096x2816, .bf16⟩
  | .hbm, ⟨3, _⟩ => ⟨S4096x2816, .f32⟩
  | .hbm, ⟨4, _⟩ => ⟨S1024x5632, .f32⟩
  | .hbm, ⟨5, _⟩ => ⟨S4096x2816, .f32⟩
  | .hbm, ⟨6, _⟩ => ⟨S_, .f32⟩
  | .hbm, ⟨7, _⟩ => ⟨S4096x1024, .f32⟩
  | .hbm, ⟨8, _⟩ => ⟨S4096x5632, .f32⟩
  | .hbm, ⟨9, _⟩ => ⟨S4096x2816, .f32⟩
  | .hbm, ⟨10, _⟩ => ⟨S4096x2816, .f32⟩
  | .hbm, ⟨11, _⟩ => ⟨S4096x5632, .f32⟩
  | .hbm, ⟨12, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FfnGuDw.lean ====
abbrev S4096x1024 : Shape := ⟨2, ![4096, 1024]⟩
abbrev S4096x2816 : Shape := ⟨2, ![4096, 2816]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg1 : BitVec 32 := BitVec.ofNat 32 (i 1).val
  let c2_i32 : BitVec 32 := 2#32
  let v0 : BitVec 1 := Scalar.cmpi .slt arg1 c2_i32
  let v1 : BitVec 32 := Scalar.extui v0
  let c0_i32 : BitVec 32 := 0#32
  let v2 : BitVec 1 := Scalar.cmpi .ne v1 c0_i32
  v2

def k0_cond4 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_8 : BitVec 32 := 0#32
  let v17 : BitVec 1 := Scalar.cmpi .ne v16 c0_i32_8
  v17

def k0_cond5 (i : grid0.Coords) : BitVec 1 :=
  let arg1 : BitVec 32 := BitVec.ofNat 32 (i 1).val
  let c2_i32 : BitVec 32 := 2#32
  let v0 : BitVec 1 := Scalar.cmpi .slt arg1 c2_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def k0_cond8 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg1 c2_i32
  let c1_i32 : BitVec 32 := 1#32
  let v1 : BitVec 32 := Scalar.select v0 arg2 c1_i32
  let c1_i32_0 : BitVec 32 := 1#32
  let v2 : BitVec 32 := Scalar.minsi arg1 c1_i32_0
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .sge arg1 c2_i32
  let c0_i32 : BitVec 32 := 0#32
  let v1 : BitVec 32 := Scalar.select v0 arg2 c0_i32
  let c2_i32_0 : BitVec 32 := 2#32
  let v2 : BitVec 32 := Scalar.subi arg1 c2_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnGuDwRefIdeal.lean ====
abbrev S4096x1024 : Shape := ⟨2, ![4096, 1024]⟩
abbrev S4096x2816 : Shape := ⟨2, ![4096, 2816]⟩
abbrev S_ : Shape := ⟨0, ![]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S1024x5632, .f32⟩
  | .hbm, ⟨8, _⟩ => ⟨S4096x5632, .f32⟩
  | .hbm, ⟨9, _⟩ => ⟨S4096x2816, .f32⟩
  | .hbm, ⟨10, _⟩ => ⟨S4096x2816, .f32⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== FfnDownDw.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDwIdeal.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GmlpIn.lean ====
abbrev S4096x1024 : Shape := ⟨2, ![4096, 1024]⟩
abbrev S1024x4096 : Shape := ⟨2, ![1024, 4096]⟩
abbrev S4096 : Shape := ⟨1, ![4096]⟩
abbrev S1x4096 : Shape := ⟨2, ![1, 4096]⟩
abbrev S4096x4096 : Shape := ⟨2, ![4096, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GmlpInIdeal.lean ====
abbrev S4096x1024 : Shape := ⟨2, ![4096, 1024]⟩
abbrev S1024x4096 : Shape := ⟨2, ![1024, 4096]⟩
abbrev S4096 : Shape := ⟨1, ![4096]⟩
abbrev S1x4096 : Shape := ⟨2, ![1, 4096]⟩
abbrev S4096x4096 : Shape := ⟨2, ![4096, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GmlpInRefIdeal.lean ====
abbrev S4096x1024 : Shape := ⟨2, ![4096, 1024]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S1x4096, .f32⟩
  | .hbm, ⟨7, _⟩ => ⟨S4096x4096, .f32⟩
  | .hbm, ⟨8, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GmlpOut.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmlpOutIdeal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmlpOutRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GmlpOutDw.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmlpOutDwIdeal.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmlpOutDwRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x2048, .f32⟩
  | .hbm, ⟨3, _⟩ => ⟨S4096x1024, .f32⟩
  | .hbm, ⟨4, _⟩ => ⟨S_, .f32⟩
  | .hbm, ⟨5, _⟩ => ⟨S2048x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GmlpOutDx.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmlpOutDxIdeal.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmlpOutDxRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S2048x1024, .f32⟩
  | .hbm, ⟨3, _⟩ => ⟨S4096x1024, .f32⟩
  | .hbm, ⟨4, _⟩ => ⟨S_, .f32⟩
  | .hbm, ⟨5, _⟩ => ⟨S4096x2048, .f32⟩
  | .hbm, ⟨6, _⟩ => ⟨S4096x1024, .f32⟩
  | .hbm, ⟨7, _⟩ => ⟨S4096x2048, .f32⟩
  | .hbm, ⟨8, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GmlpInDw.lean ====
abbrev S4096x1024 : Shape := ⟨2, ![4096, 1024]⟩
abbrev S4096x4096 : Shape := ⟨2, ![4096, 4096]⟩
abbrev S1024x4096 : Shape := ⟨2, ![1024, 4096]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmlpInDwIdeal.lean ====
abbrev S4096x1024 : Shape := ⟨2, ![4096, 1024]⟩
abbrev S4096x4096 : Shape := ⟨2, ![4096, 4096]⟩
abbrev S1024x4096 : Shape := ⟨2, ![1024, 4096]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmlpInDwRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GmlpInDx.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x1024, .f32⟩
  | .local _ .vmem, ⟨4, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmlpInDxIdeal.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x1024, .f32⟩
  | .local _ .vmem, ⟨4, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmlpInDxRefIdeal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S1024x4096, .f32⟩
  | .hbm, ⟨3, _⟩ => ⟨S4096x4096, .f32⟩
  | .hbm, ⟨4, _⟩ => ⟨S_, .f32⟩
  | .hbm, ⟨5, _⟩ => ⟨S4096x1024, .f32⟩
  | .hbm, ⟨6, _⟩ => ⟨S4096x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnQkv.lean ====
abbrev S4096x1024 : Shape := ⟨2, ![4096, 1024]⟩
abbrev S1024x1536 : Shape := ⟨2, ![1024, 1536]⟩
abbrev S1536 : Shape := ⟨1, ![1536]⟩
abbrev S1x1536 : Shape := ⟨2, ![1, 1536]⟩
abbrev S4096x1536 : Shape := ⟨2, ![4096, 1536]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S1536, .f32⟩
  | .hbm, ⟨3, _⟩ => ⟨S1x1536, .f32⟩
  | .hbm, ⟨4, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1x1536, .f32⟩
  | .local _ .vmem, ⟨4, _⟩ => ⟨S1024x1536, .f32⟩
  | .local _ .vmem, ⟨5, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttnQkvIdeal.lean ====
abbrev S4096x1024 : Shape := ⟨2, ![4096, 1024]⟩
abbrev S1024x1536 : Shape := ⟨2, ![1024, 1536]⟩
abbrev S1536 : Shape := ⟨1, ![1536]⟩
abbrev S1x1536 : Shape := ⟨2, ![1, 1536]⟩
abbrev S4096x1536 : Shape := ⟨2, ![4096, 1536]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S1536, .f32⟩
  | .hbm, ⟨3, _⟩ => ⟨S1x1536, .f32⟩
  | .hbm, ⟨4, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1x1536, .f32⟩
  | .local _ .vmem, ⟨4, _⟩ => ⟨S1024x1536, .f32⟩
  | .local _ .vmem, ⟨5, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttnQkvRefIdeal.lean ====
abbrev S4096x1024 : Shape := ⟨2, ![4096, 1024]⟩
abbrev S1024x1536 : Shape := ⟨2, ![1024, 1536]⟩
abbrev S1536 : Shape := ⟨1, ![1536]⟩
abbrev S4096x1536 : Shape := ⟨2, ![4096, 1536]⟩
abbrev S1x1536 : Shape := ⟨2, ![1, 1536]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S1536, .f32⟩
  | .hbm, ⟨3, _⟩ => ⟨S4096x1024, .f32⟩
  | .hbm, ⟨4, _⟩ => ⟨S1024x1536, .f32⟩
  | .hbm, ⟨5, _⟩ => ⟨S4096x1536, .f32⟩
  | .hbm, ⟨6, _⟩ => ⟨S1x1536, .f32⟩
  | .hbm, ⟨7, _⟩ => ⟨S4096x1536, .f32⟩
  | .hbm, ⟨8, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnO.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOIdeal.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnORefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AttnODw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttnODwIdeal.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttnODwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnODx.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnODxIdeal.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnODxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnQkvDw.lean ====
abbrev S4096x1024 : Shape := ⟨2, ![4096, 1024]⟩
abbrev S4096x1536 : Shape := ⟨2, ![4096, 1536]⟩
abbrev S1024x1536 : Shape := ⟨2, ![1024, 1536]⟩
abbrev S2048x1024 : Shape := ⟨2, ![2048, 1024]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttnQkvDwIdeal.lean ====
abbrev S4096x1024 : Shape := ⟨2, ![4096, 1024]⟩
abbrev S4096x1536 : Shape := ⟨2, ![4096, 1536]⟩
abbrev S1024x1536 : Shape := ⟨2, ![1024, 1536]⟩
abbrev S2048x1024 : Shape := ⟨2, ![2048, 1024]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttnQkvDwRefIdeal.lean ====
abbrev S4096x1024 : Shape := ⟨2, ![4096, 1024]⟩
abbrev S4096x1536 : Shape := ⟨2, ![4096, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x1024, .f32⟩
  | .hbm, ⟨3, _⟩ => ⟨S4096x1536, .f32⟩
  | .hbm, ⟨4, _⟩ => ⟨S_, .f32⟩
  | .hbm, ⟨5, _⟩ => ⟨S1024x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnQkvDx.lean ====
abbrev S4096x1536 : Shape := ⟨2, ![4096, 1536]⟩
abbrev S1024x1536 : Shape := ⟨2, ![1024, 1536]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnQkvDxRefIdeal.lean ====
abbrev S4096x1536 : Shape := ⟨2, ![4096, 1536]⟩
abbrev S1024x1536 : Shape := ⟨2, ![1024, 1536]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S1024x1536, .f32⟩
  | .hbm, ⟨3, _⟩ => ⟨S4096x1536, .f32⟩
  | .hbm, ⟨4, _⟩ => ⟨S_, .f32⟩
  | .hbm, ⟨5, _⟩ => ⟨S4096x1024, .f32⟩
  | .hbm, ⟨6, _⟩ => ⟨S4096x1536, .f32⟩
  | .hbm, ⟨7, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== RmsFwd.lean ====
abbrev S4096x1024 : Shape := ⟨2, ![4096, 1024]⟩
abbrev S1024 : Shape := ⟨1, ![1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== RmsRes.lean ====
abbrev S4096x1024 : Shape := ⟨2, ![4096, 1024]⟩
abbrev S1024 : Shape := ⟨1, ![1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1x1024, .f32⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsResRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== RmsResNorm.lean ====
abbrev S4096x1024 : Shape := ⟨2, ![4096, 1024]⟩
abbrev S1024 : Shape := ⟨1, ![1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1x1x1024, .f32⟩
  | .hbm, ⟨5, _⟩ => ⟨S1x1x1024, .f32⟩
  | .hbm, ⟨6, _⟩ => ⟨S4096x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RmsResNormRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== RmsBwd.lean ====
abbrev S4096x1024 : Shape := ⟨2, ![4096, 1024]⟩
abbrev S1024 : Shape := ⟨1, ![1024]⟩
abbrev S1x1x1024 : Shape := ⟨3, ![1, 1, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S1x1x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_15 : BitVec 32 := 0#32
  let v34 : BitVec 1 := Scalar.cmpi .ne v33 c0_i32_15
  v34

def k0_cond2 (i : grid0.Coords) : BitVec 1 :=
  let arg0 : BitVec 32 := BitVec.ofNat 32 (i 0).val
  let c0_i32_16 : BitVec 32 := 0#32
  let v35 : BitVec 1 := Scalar.cmpi .sgt arg0 c0_i32_16
  let v36 : BitVec 32 := Scalar.extui v35
  let c0_i32_17 : BitVec 32 := 0#32
  let v37 : BitVec 1 := Scalar.cmpi .ne v36 c0_i32_17
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== RmsChain.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 29
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x1x1024, .f32⟩
  | .hbm, ⟨24, _⟩ => ⟨S1x1x1024, .f32⟩
  | .hbm, ⟨25, _⟩ => ⟨S4096x1024, .f32⟩
  | .hbm, ⟨26, _⟩ => ⟨S4096x1024, .bf16⟩
  | .hbm, ⟨27, _⟩ => ⟨S1x1024, .f32⟩
  | .hbm, ⟨28, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v63 : BitVec 1 := Scalar.cmpi .eq arg0 c0_i32
  let v64 : BitVec 32 := Scalar.extui v63
  let c0_i32_28 : BitVec 32 := 0#32
  let v65 : BitVec 1 := Scalar.cmpi .ne v64 c0_i32_28
  v65

def k0_cond2 (i : grid0.Coords) : BitVec 1 :=
  let arg0 : BitVec 32 := BitVec.ofNat 32 (i 0).val
  let c0_i32_29 : BitVec 32 := 0#32
  let v66 : BitVec 1 := Scalar.cmpi .sgt arg0 c0_i32_29
  let v67 : BitVec 32 := Scalar.extui v66
  let c0_i32_30 : BitVec 32 := 0#32
  let v68 : BitVec 1 := Scalar.cmpi .ne v67 c0_i32_30
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RmsChainRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .bf16⟩
  | .hbm, ⟨100, _⟩ => ⟨S1x1024, .f32⟩
  | .hbm, ⟨101, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== SguFwd.lean ====
abbrev S4096x4096 : Shape := ⟨2, ![4096, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S1x4096 : Shape := ⟨2, ![1, 4096]⟩
abbrev S1x2048 : Shape := ⟨2, ![1, 2048]⟩
abbrev S128x8 : Shape := ⟨2, ![128, 8]⟩
abbrev S4096x2048 : Shape := ⟨2, ![4096, 2048]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 13
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S1x2048, .f32⟩
  | .hbm, ⟨10, _⟩ => ⟨S1x2048, .f32⟩
  | .hbm, ⟨11, _⟩ => ⟨S128x8, .f32⟩
  | .hbm, ⟨12, _⟩ => ⟨S4096x2048, .bf16⟩
  | .local _ .vmem, ⟨0, _⟩ => ⟨S128x4096, .f32⟩
  | .local _ .vmem, ⟨1, _⟩ => ⟨S128x4096, .f32⟩
  | .local _ .vmem, ⟨2, _⟩ => ⟨S1x2048, .f32⟩
  | .local _ .vmem, ⟨3, _⟩ => ⟨S1x2048, .f32⟩
  | .local _ .vmem, ⟨4, _⟩ => ⟨S8x128x128, .f32⟩
  | .local _ .vmem, ⟨5, _⟩ => ⟨S128x8, .f32⟩
  | .local _ .vmem, ⟨6, _⟩ => ⟨S128x2048, .bf16⟩
  | .local _ .vmem, ⟨7, _⟩ => ⟨S128x2048, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguFwdIdeal.lean ====
variable {F : FTy → Type} [FloatOps F] [Named F]
def κ : String → Option EReal := fun
  | "sqrt_half" => some ((Real.sqrt (1 / 2) : ℝ) : EReal)
  | _ => none
-- ==== SguFwdRefIdeal.lean ====
abbrev S4096x4096 : Shape := ⟨2, ![4096, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S1x4096 : Shape := ⟨2, ![1, 4096]⟩
abbrev S_ : Shape := ⟨0, ![]⟩
abbrev S4096x2048 : Shape := ⟨2, ![4096, 2048]⟩
abbrev S4096x1 : Shape := ⟨2, ![4096, 1]⟩
abbrev S1x2048 : Shape := ⟨2, ![1, 2048]⟩
abbrev S32x128x8x256 : Shape := ⟨4, ![32, 128, 8, 256]⟩
abbrev S128x128 : Shape := ⟨2, ![128, 128]⟩
abbrev S1x128x128 : Shape := ⟨3, ![1, 128, 128]⟩
abbrev S8x32x256x128 : Shape := ⟨4, ![8, 32, 256, 128]⟩
abbrev S128x8 : Shape := ⟨2, ![128, 8]⟩
abbrev S1x128x8x1 : Shape := ⟨4, ![1, 128, 8, 1]⟩

abbrev nBuf : Space → Nat
  | .hbm => 77
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S1x2048, .f32⟩
  | .hbm, ⟨45, _⟩ => ⟨S4096x2048, .f32⟩
  | .hbm, ⟨46, _⟩ => ⟨S4096x2048, .f32⟩
  | .hbm, ⟨47, _⟩ => ⟨S1x2048, .f32⟩
  | .hbm, ⟨48, _⟩ => ⟨S4096x2048, .f32⟩
  | .hbm, ⟨49, _⟩ => ⟨S4096x2048, .f32⟩
  | .hbm, ⟨50, _⟩ => ⟨S32x128x8x256, .f32⟩
  | .hbm, ⟨51, _⟩ => ⟨S_, .i1⟩
  | .hbm, ⟨52, _⟩ => ⟨S128x128, .i1⟩
  | .hbm, ⟨53, _⟩ => ⟨S128x128, .i32⟩
  | .hbm, ⟨54, _⟩ => ⟨S_, .i32⟩
  | .hbm, ⟨55, _⟩ => ⟨S128x128, .i32⟩
  | .hbm, ⟨56, _⟩ => ⟨S128x128, .i32⟩
  | .hbm, ⟨57, _⟩ => ⟨S128x128, .i32⟩
  | .hbm, ⟨58, _⟩ => ⟨S128x128, .i1⟩
  | .hbm, ⟨59, _⟩ => ⟨S_, .i1⟩
  | .hbm, ⟨60, _⟩ => ⟨S128x128, .i1⟩
  | .hbm, ⟨61, _⟩ => ⟨S128x128, .i1⟩
  | .hbm, ⟨62, _⟩ => ⟨S1x128x128, .i1⟩
  | .hbm, ⟨63, _⟩ => ⟨S_, .f32⟩
  | .hbm, ⟨64, _⟩ => ⟨S_, .f32⟩
  | .hbm, ⟨65, _⟩ => ⟨S8x128x128, .i1⟩
  | .hbm, ⟨66, _⟩ => ⟨S8x128x128, .f32⟩
  | .hbm, ⟨67, _⟩ => ⟨S8x128x128, .f32⟩
  | .hbm, ⟨68, _⟩ => ⟨S8x32x256x128, .f32⟩
  | .hbm, ⟨69, _⟩ => ⟨S32x128x8x256, .f32⟩
  | .hbm, ⟨70, _⟩ => ⟨S128x8, .f32⟩
  | .hbm, ⟨71, _⟩ => ⟨S1x128x8x1, .f32⟩
  | .hbm, ⟨72, _⟩ => ⟨S32x128x8x256, .f32⟩
  | .hbm, ⟨73, _⟩ => ⟨S32x128x8x256, .f32⟩
  | .hbm, ⟨74, _⟩ => ⟨S4096x2048, .f32⟩
  | .hbm, ⟨75, _⟩ => ⟨S4096x2048, .f32⟩
  | .hbm, ⟨76, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c : Ref sig .tc := ⟨.hbm, 51, rfl⟩
abbrev main_v38 : Ref sig .tc := ⟨.hbm, 52, rfl⟩
abbrev main_call0_v0 : Ref sig .tc := ⟨.hbm, 53, rfl⟩
abbrev main_call0_c : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_c_0 : Ref sig .tc := ⟨.hbm, 59, rfl⟩
abbrev main_call0_v5 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]
-- ==== LossGrad.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1x1024 : Shape := ⟨3, ![1, 1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 26
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1x1x1024, .f32⟩
  | .hbm, ⟨22, _⟩ => ⟨S4096x1024, .f32⟩
  | .hbm, ⟨23, _⟩ => ⟨S4096x1024, .bf16⟩
  | .hbm, ⟨24, _⟩ => ⟨S1x1, .f32⟩
  | .hbm, ⟨25, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_21 : BitVec 32 := 0#32
  let v46 : BitVec 1 := Scalar.cmpi .ne v45 c0_i32_21
  v46

def k0_cond2 (i : grid0.Coords) : BitVec 1 :=
  let arg0 : BitVec 32 := BitVec.ofNat 32 (i 0).val
  let c0_i32_22 : BitVec 32 := 0#32
  let v47 : BitVec 1 := Scalar.cmpi .sgt arg0 c0_i32_22
  let v48 : BitVec 32 := Scalar.extui v47
  let c0_i32_23 : BitVec 32 := 0#32
  let v49 : BitVec 1 := Scalar.cmpi .ne v48 c0_i32_23
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossGradRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .bf16⟩
  | .hbm, ⟨74, _⟩ => ⟨S1x1, .f32⟩
  | .hbm, ⟨75, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== AdamGain.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamGainIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamGainRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGmlpBias.lean ====
abbrev S2x4096 : Shape := ⟨2, ![2, 4096]⟩

abbrev nBuf : Space → Nat
  | .hbm => 7
  | .vmem => 7
  | .smem => 0
  | _ => 0

abbrev bufTy : (tb : Table) → Fin (tcTables nBuf tb) → BufTy
  | .hbm, ⟨0, _⟩ => ⟨S2x4096, .f32⟩
  | .hbm, ⟨1, _⟩ => ⟨S2x4096, .f32⟩
  | .hbm, ⟨2, _⟩ => ⟨S2x4096, .f32⟩
  | .hbm, ⟨3, _⟩ => ⟨S2x4096, .f32⟩
  | .hbm, ⟨4, _⟩ => ⟨S2x4096, .f32⟩
  | .hbm, ⟨5, _⟩ => ⟨S2x4096, .f32⟩
  | .hbm, ⟨6, _⟩ => ⟨S2x4096, .f32⟩
  | .local _ .vmem, ⟨0, _⟩ => ⟨S2x4096, .f32⟩
  | .local _ .vmem, ⟨1, _⟩ => ⟨S2x4096, .f32⟩
  | .local _ .vmem, ⟨2, _⟩ => ⟨S2x4096, .f32⟩
  | .local _ .vmem, ⟨3, _⟩ => ⟨S2x4096, .f32⟩
  | .local _ .vmem, ⟨4, _⟩ => ⟨S2x4096, .f32⟩
  | .local _ .vmem, ⟨5, _⟩ => ⟨S2x4096, .f32⟩
  | .local _ .vmem, ⟨6, _⟩ => ⟨S2x4096, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamGmlpBiasIdeal.lean ====
abbrev S2x4096 : Shape := ⟨2, ![2, 4096]⟩

abbrev nBuf : Space → Nat
  | .hbm => 7
  | .vmem => 7
  | .smem => 0
  | _ => 0

abbrev bufTy : (tb : Table) → Fin (tcTables nBuf tb) → BufTy
  | .hbm, ⟨0, _⟩ => ⟨S2x4096, .f32⟩
  | .hbm, ⟨1, _⟩ => ⟨S2x4096, .f32⟩
  | .hbm, ⟨2, _⟩ => ⟨S2x4096, .f32⟩
  | .hbm, ⟨3, _⟩ => ⟨S2x4096, .f32⟩
  | .hbm, ⟨4, _⟩ => ⟨S2x4096, .f32⟩
  | .hbm, ⟨5, _⟩ => ⟨S2x4096, .f32⟩
  | .hbm, ⟨6, _⟩ => ⟨S2x4096, .f32⟩
  | .local _ .vmem, ⟨0, _⟩ => ⟨S2x4096, .f32⟩
  | .local _ .vmem, ⟨1, _⟩ => ⟨S2x4096, .f32⟩
  | .local _ .vmem, ⟨2, _⟩ => ⟨S2x4096, .f32⟩
  | .local _ .vmem, ⟨3, _⟩ => ⟨S2x4096, .f32⟩
  | .local _ .vmem, ⟨4, _⟩ => ⟨S2x4096, .f32⟩
  | .local _ .vmem, ⟨5, _⟩ => ⟨S2x4096, .f32⟩
  | .local _ .vmem, ⟨6, _⟩ => ⟨S2x4096, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamGmlpBiasRefIdeal.lean ====
abbrev S2x4096 : Shape := ⟨2, ![2, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S2x4096, .f32⟩
  | .hbm, ⟨2, _⟩ => ⟨S2x4096, .f32⟩
  | .hbm, ⟨3, _⟩ => ⟨S2x4096, .f32⟩
  | .hbm, ⟨4, _⟩ => ⟨S_, .f32⟩
  | .hbm, ⟨5, _⟩ => ⟨S2x4096, .f32⟩
  | .hbm, ⟨6, _⟩ => ⟨S2x4096, .f32⟩
  | .hbm, ⟨7, _⟩ => ⟨S_, .f32⟩
  | .hbm, ⟨8, _⟩ => ⟨S2x4096, .f32⟩
  | .hbm, ⟨9, _⟩ => ⟨S2x4096, .f32⟩
  | .hbm, ⟨10, _⟩ => ⟨S2x4096, .f32⟩
  | .hbm, ⟨11, _⟩ => ⟨S_, .f32⟩
  | .hbm, ⟨12, _⟩ => ⟨S2x4096, .f32⟩
  | .hbm, ⟨13, _⟩ => ⟨S2x4096, .f32⟩
  | .hbm, ⟨14, _⟩ => ⟨S2x4096, .f32⟩
  | .hbm, ⟨15, _⟩ => ⟨S_, .f32⟩
  | .hbm, ⟨16, _⟩ => ⟨S2x4096, .f32⟩
  | .hbm, ⟨17, _⟩ => ⟨S2x4096, .f32⟩
  | .hbm, ⟨18, _⟩ => ⟨S2x4096, .f32⟩
  | .hbm, ⟨19, _⟩ => ⟨S_, .f32⟩
  | .hbm, ⟨20, _⟩ => ⟨S2x4096, .f32⟩
  | .hbm, ⟨21, _⟩ => ⟨S2x4096, .f32⟩
  | .hbm, ⟨22, _⟩ => ⟨S_, .f32⟩
  | .hbm, ⟨23, _⟩ => ⟨S2x4096, .f32⟩
  | .hbm, ⟨24, _⟩ => ⟨S2x4096, .f32⟩
  | .hbm, ⟨25, _⟩ => ⟨S2x4096, .f32⟩
  | .hbm, ⟨26, _⟩ => ⟨S_, .f32⟩
  | .hbm, ⟨27, _⟩ => ⟨S2x4096, .f32⟩
  | .hbm, ⟨28, _⟩ => ⟨S2x4096, .f32⟩
  | .hbm, ⟨29, _⟩ => ⟨S2x4096, .f32⟩
  | .hbm, ⟨30, _⟩ => ⟨S_, .f32⟩
  | .hbm, ⟨31, _⟩ => ⟨S2x4096, .f32⟩
  | .hbm, ⟨32, _⟩ => ⟨S2x4096, .f32⟩
  | .hbm, ⟨33, _⟩ => ⟨S2x4096, .f32⟩
  | .hbm, ⟨34, _⟩ => ⟨S_, .f32⟩
  | .hbm, ⟨35, _⟩ => ⟨S2x4096, .f32⟩
  | .hbm, ⟨36, _⟩ => ⟨S2x4096, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGmlpNorm.lean ====
abbrev S2x2048 : Shape := ⟨2, ![2, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamGmlpNormIdeal.lean ====
abbrev S2x2048 : Shape := ⟨2, ![2, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamGmlpNormRefIdeal.lean ====
abbrev S2x2048 : Shape := ⟨2, ![2, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMix.lean ====
abbrev S2x8x128x128 : Shape := ⟨4, ![2, 8, 128, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x8x128x128, .f32⟩
  | .hbm, ⟨1, _⟩ => ⟨S2x8x128x128, .f32⟩
  | .hbm, ⟨2, _⟩ => ⟨S2x8x128x128, .f32⟩
  | .hbm, ⟨3, _⟩ => ⟨S2x8x128x128, .f32⟩
  | .hbm, ⟨4, _⟩ => ⟨S2x8x128x128, .f32⟩
  | .hbm, ⟨5, _⟩ => ⟨S2x8x128x128, .f32⟩
  | .hbm, ⟨6, _⟩ => ⟨S2x8x128x128, .f32⟩
  | .local _ .vmem, ⟨0, _⟩ => ⟨S2x8x128x128, .f32⟩
  | .local _ .vmem, ⟨1, _⟩ => ⟨S2x8x128x128, .f32⟩
  | .local _ .vmem, ⟨2, _⟩ => ⟨S2x8x128x128, .f32⟩
  | .local _ .vmem, ⟨3, _⟩ => ⟨S2x8x128x128, .f32⟩
  | .local _ .vmem, ⟨4, _⟩ => ⟨S2x8x128x128, .f32⟩
  | .local _ .vmem, ⟨5, _⟩ => ⟨S2x8x128x128, .f32⟩
  | .local _ .vmem, ⟨6, _⟩ => ⟨S2x8x128x128, .f32⟩
  | _, _ => ⟨S2x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x8x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamMixIdeal.lean ====
abbrev S2x8x128x128 : Shape := ⟨4, ![2, 8, 128, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x8x128x128, .f32⟩
  | .hbm, ⟨1, _⟩ => ⟨S2x8x128x128, .f32⟩
  | .hbm, ⟨2, _⟩ => ⟨S2x8x128x128, .f32⟩
  | .hbm, ⟨3, _⟩ => ⟨S2x8x128x128, .f32⟩
  | .hbm, ⟨4, _⟩ => ⟨S2x8x128x128, .f32⟩
  | .hbm, ⟨5, _⟩ => ⟨S2x8x128x128, .f32⟩
  | .hbm, ⟨6, _⟩ => ⟨S2x8x128x128, .f32⟩
  | .local _ .vmem, ⟨0, _⟩ => ⟨S2x8x128x128, .f32⟩
  | .local _ .vmem, ⟨1, _⟩ => ⟨S2x8x128x128, .f32⟩
  | .local _ .vmem, ⟨2, _⟩ => ⟨S2x8x128x128, .f32⟩
  | .local _ .vmem, ⟨3, _⟩ => ⟨S2x8x128x128, .f32⟩
  | .local _ .vmem, ⟨4, _⟩ => ⟨S2x8x128x128, .f32⟩
  | .local _ .vmem, ⟨5, _⟩ => ⟨S2x8x128x128, .f32⟩
  | .local _ .vmem, ⟨6, _⟩ => ⟨S2x8x128x128, .f32⟩
  | _, _ => ⟨S2x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x8x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamMixRefIdeal.lean ====
abbrev S2x8x128x128 : Shape := ⟨4, ![2, 8, 128, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x8x128x128, .f32⟩
  | .hbm, ⟨1, _⟩ => ⟨S2x8x128x128, .f32⟩
  | .hbm, ⟨2, _⟩ => ⟨S2x8x128x128, .f32⟩
  | .hbm, ⟨3, _⟩ => ⟨S2x8x128x128, .f32⟩
  | .hbm, ⟨4, _⟩ => ⟨S_, .f32⟩
  | .hbm, ⟨5, _⟩ => ⟨S2x8x128x128, .f32⟩
  | .hbm, ⟨6, _⟩ => ⟨S2x8x128x128, .f32⟩
  | .hbm, ⟨7, _⟩ => ⟨S_, .f32⟩
  | .hbm, ⟨8, _⟩ => ⟨S2x8x128x128, .f32⟩
  | .hbm, ⟨9, _⟩ => ⟨S2x8x128x128, .f32⟩
  | .hbm, ⟨10, _⟩ => ⟨S2x8x128x128, .f32⟩
  | .hbm, ⟨11, _⟩ => ⟨S_, .f32⟩
  | .hbm, ⟨12, _⟩ => ⟨S2x8x128x128, .f32⟩
  | .hbm, ⟨13, _⟩ => ⟨S2x8x128x128, .f32⟩
  | .hbm, ⟨14, _⟩ => ⟨S2x8x128x128, .f32⟩
  | .hbm, ⟨15, _⟩ => ⟨S_, .f32⟩
  | .hbm, ⟨16, _⟩ => ⟨S2x8x128x128, .f32⟩
  | .hbm, ⟨17, _⟩ => ⟨S2x8x128x128, .f32⟩
  | .hbm, ⟨18, _⟩ => ⟨S2x8x128x128, .f32⟩
  | .hbm, ⟨19, _⟩ => ⟨S_, .f32⟩
  | .hbm, ⟨20, _⟩ => ⟨S2x8x128x128, .f32⟩
  | .hbm, ⟨21, _⟩ => ⟨S2x8x128x128, .f32⟩
  | .hbm, ⟨22, _⟩ => ⟨S_, .f32⟩
  | .hbm, ⟨23, _⟩ => ⟨S2x8x128x128, .f32⟩
  | .hbm, ⟨24, _⟩ => ⟨S2x8x128x128, .f32⟩
  | .hbm, ⟨25, _⟩ => ⟨S2x8x128x128, .f32⟩
  | .hbm, ⟨26, _⟩ => ⟨S_, .f32⟩
  | .hbm, ⟨27, _⟩ => ⟨S2x8x128x128, .f32⟩
  | .hbm, ⟨28, _⟩ => ⟨S2x8x128x128, .f32⟩
  | .hbm, ⟨29, _⟩ => ⟨S2x8x128x128, .f32⟩
  | .hbm, ⟨30, _⟩ => ⟨S_, .f32⟩
  | .hbm, ⟨31, _⟩ => ⟨S2x8x128x128, .f32⟩
  | .hbm, ⟨32, _⟩ => ⟨S2x8x128x128, .f32⟩
  | .hbm, ⟨33, _⟩ => ⟨S2x8x128x128, .f32⟩
  | .hbm, ⟨34, _⟩ => ⟨S_, .f32⟩
  | .hbm, ⟨35, _⟩ => ⟨S2x8x128x128, .f32⟩
  | .hbm, ⟨36, _⟩ => ⟨S2x8x128x128, .f32⟩
  | _, _ => ⟨S2x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMixBias.lean ====
abbrev S2x8x128 : Shape := ⟨3, ![2, 8, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x8x128, .f32⟩
  | .hbm, ⟨1, _⟩ => ⟨S2x8x128, .f32⟩
  | .hbm, ⟨2, _⟩ => ⟨S2x8x128, .f32⟩
  | .hbm, ⟨3, _⟩ => ⟨S2x8x128, .f32⟩
  | .hbm, ⟨4, _⟩ => ⟨S2x8x128, .f32⟩
  | .hbm, ⟨5, _⟩ => ⟨S2x8x128, .f32⟩
  | .hbm, ⟨6, _⟩ => ⟨S2x8x128, .f32⟩
  | .local _ .vmem, ⟨0, _⟩ => ⟨S2x8x128, .f32⟩
  | .local _ .vmem, ⟨1, _⟩ => ⟨S2x8x128, .f32⟩
  | .local _ .vmem, ⟨2, _⟩ => ⟨S2x8x128, .f32⟩
  | .local _ .vmem, ⟨3, _⟩ => ⟨S2x8x128, .f32⟩
  | .local _ .vmem, ⟨4, _⟩ => ⟨S2x8x128, .f32⟩
  | .local _ .vmem, ⟨5, _⟩ => ⟨S2x8x128, .f32⟩
  | .local _ .vmem, ⟨6, _⟩ => ⟨S2x8x128, .f32⟩
  | _, _ => ⟨S2x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamMixBiasIdeal.lean ====
abbrev S2x8x128 : Shape := ⟨3, ![2, 8, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x8x128, .f32⟩
  | .hbm, ⟨1, _⟩ => ⟨S2x8x128, .f32⟩
  | .hbm, ⟨2, _⟩ => ⟨S2x8x128, .f32⟩
  | .hbm, ⟨3, _⟩ => ⟨S2x8x128, .f32⟩
  | .hbm, ⟨4, _⟩ => ⟨S2x8x128, .f32⟩
  | .hbm, ⟨5, _⟩ => ⟨S2x8x128, .f32⟩
  | .hbm, ⟨6, _⟩ => ⟨S2x8x128, .f32⟩
  | .local _ .vmem, ⟨0, _⟩ => ⟨S2x8x128, .f32⟩
  | .local _ .vmem, ⟨1, _⟩ => ⟨S2x8x128, .f32⟩
  | .local _ .vmem, ⟨2, _⟩ => ⟨S2x8x128, .f32⟩
  | .local _ .vmem, ⟨3, _⟩ => ⟨S2x8x128, .f32⟩
  | .local _ .vmem, ⟨4, _⟩ => ⟨S2x8x128, .f32⟩
  | .local _ .vmem, ⟨5, _⟩ => ⟨S2x8x128, .f32⟩
  | .local _ .vmem, ⟨6, _⟩ => ⟨S2x8x128, .f32⟩
  | _, _ => ⟨S2x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamMixBiasRefIdeal.lean ====
abbrev S2x8x128 : Shape := ⟨3, ![2, 8, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x8x128, .f32⟩
  | .hbm, ⟨1, _⟩ => ⟨S2x8x128, .f32⟩
  | .hbm, ⟨2, _⟩ => ⟨S2x8x128, .f32⟩
  | .hbm, ⟨3, _⟩ => ⟨S2x8x128, .f32⟩
  | .hbm, ⟨4, _⟩ => ⟨S_, .f32⟩
  | .hbm, ⟨5, _⟩ => ⟨S2x8x128, .f32⟩
  | .hbm, ⟨6, _⟩ => ⟨S2x8x128, .f32⟩
  | .hbm, ⟨7, _⟩ => ⟨S_, .f32⟩
  | .hbm, ⟨8, _⟩ => ⟨S2x8x128, .f32⟩
  | .hbm, ⟨9, _⟩ => ⟨S2x8x128, .f32⟩
  | .hbm, ⟨10, _⟩ => ⟨S2x8x128, .f32⟩
  | .hbm, ⟨11, _⟩ => ⟨S_, .f32⟩
  | .hbm, ⟨12, _⟩ => ⟨S2x8x128, .f32⟩
  | .hbm, ⟨13, _⟩ => ⟨S2x8x128, .f32⟩
  | .hbm, ⟨14, _⟩ => ⟨S2x8x128, .f32⟩
  | .hbm, ⟨15, _⟩ => ⟨S_, .f32⟩
  | .hbm, ⟨16, _⟩ => ⟨S2x8x128, .f32⟩
  | .hbm, ⟨17, _⟩ => ⟨S2x8x128, .f32⟩
  | .hbm, ⟨18, _⟩ => ⟨S2x8x128, .f32⟩
  | .hbm, ⟨19, _⟩ => ⟨S_, .f32⟩
  | .hbm, ⟨20, _⟩ => ⟨S2x8x128, .f32⟩
  | .hbm, ⟨21, _⟩ => ⟨S2x8x128, .f32⟩
  | .hbm, ⟨22, _⟩ => ⟨S_, .f32⟩
  | .hbm, ⟨23, _⟩ => ⟨S2x8x128, .f32⟩
  | .hbm, ⟨24, _⟩ => ⟨S2x8x128, .f32⟩
  | .hbm, ⟨25, _⟩ => ⟨S2x8x128, .f32⟩
  | .hbm, ⟨26, _⟩ => ⟨S_, .f32⟩
  | .hbm, ⟨27, _⟩ => ⟨S2x8x128, .f32⟩
  | .hbm, ⟨28, _⟩ => ⟨S2x8x128, .f32⟩
  | .hbm, ⟨29, _⟩ => ⟨S2x8x128, .f32⟩
  | .hbm, ⟨30, _⟩ => ⟨S_, .f32⟩
  | .hbm, ⟨31, _⟩ => ⟨S2x8x128, .f32⟩
  | .hbm, ⟨32, _⟩ => ⟨S2x8x128, .f32⟩
  | .hbm, ⟨33, _⟩ => ⟨S2x8x128, .f32⟩
  | .hbm, ⟨34, _⟩ => ⟨S_, .f32⟩
  | .hbm, ⟨35, _⟩ => ⟨S2x8x128, .f32⟩
  | .hbm, ⟨36, _⟩ => ⟨S2x8x128, .f32⟩
  | _, _ => ⟨S2x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAttnBias.lean ====
abbrev S2x384 : Shape := ⟨2, ![2, 384]⟩

abbrev nBuf : Space → Nat
  | .hbm => 7
  | .vmem => 7
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S2x384, .f32⟩
  | .hbm, ⟨5, _⟩ => ⟨S2x384, .f32⟩
  | .hbm, ⟨6, _⟩ => ⟨S2x384, .f32⟩
  | .local _ .vmem, ⟨0, _⟩ => ⟨S2x384, .f32⟩
  | .local _ .vmem, ⟨1, _⟩ => ⟨S2x384, .f32⟩
  | .local _ .vmem, ⟨2, _⟩ => ⟨S2x384, .f32⟩
  | .local _ .vmem, ⟨3, _⟩ => ⟨S2x384, .f32⟩
  | .local _ .vmem, ⟨4, _⟩ => ⟨S2x384, .f32⟩
  | .local _ .vmem, ⟨5, _⟩ => ⟨S2x384, .f32⟩
  | .local _ .vmem, ⟨6, _⟩ => ⟨S2x384, .f32⟩
  | _, _ => ⟨S2x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamAttnBiasIdeal.lean ====
abbrev S2x384 : Shape := ⟨2, ![2, 384]⟩

abbrev nBuf : Space → Nat
  | .hbm => 7
  | .vmem => 7
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S2x384, .f32⟩
  | .hbm, ⟨5, _⟩ => ⟨S2x384, .f32⟩
  | .hbm, ⟨6, _⟩ => ⟨S2x384, .f32⟩
  | .local _ .vmem, ⟨0, _⟩ => ⟨S2x384, .f32⟩
  | .local _ .vmem, ⟨1, _⟩ => ⟨S2x384, .f32⟩
  | .local _ .vmem, ⟨2, _⟩ => ⟨S2x384, .f32⟩
  | .local _ .vmem, ⟨3, _⟩ => ⟨S2x384, .f32⟩
  | .local _ .vmem, ⟨4, _⟩ => ⟨S2x384, .f32⟩
  | .local _ .vmem, ⟨5, _⟩ => ⟨S2x384, .f32⟩
  | .local _ .vmem, ⟨6, _⟩ => ⟨S2x384, .f32⟩
  | _, _ => ⟨S2x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamAttnBiasRefIdeal.lean ====
abbrev S2x384 : Shape := ⟨2, ![2, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S_, .f32⟩
  | .hbm, ⟨5, _⟩ => ⟨S2x384, .f32⟩
  | .hbm, ⟨6, _⟩ => ⟨S2x384, .f32⟩
  | .hbm, ⟨7, _⟩ => ⟨S_, .f32⟩
  | .hbm, ⟨8, _⟩ => ⟨S2x384, .f32⟩
  | .hbm, ⟨9, _⟩ => ⟨S2x384, .f32⟩
  | .hbm, ⟨10, _⟩ => ⟨S2x384, .f32⟩
  | .hbm, ⟨11, _⟩ => ⟨S_, .f32⟩
  | .hbm, ⟨12, _⟩ => ⟨S2x384, .f32⟩
  | .hbm, ⟨13, _⟩ => ⟨S2x384, .f32⟩
  | .hbm, ⟨14, _⟩ => ⟨S2x384, .f32⟩
  | .hbm, ⟨15, _⟩ => ⟨S_, .f32⟩
  | .hbm, ⟨16, _⟩ => ⟨S2x384, .f32⟩
  | .hbm, ⟨17, _⟩ => ⟨S2x384, .f32⟩
  | .hbm, ⟨18, _⟩ => ⟨S2x384, .f32⟩
  | .hbm, ⟨19, _⟩ => ⟨S_, .f32⟩
  | .hbm, ⟨20, _⟩ => ⟨S2x384, .f32⟩
  | .hbm, ⟨21, _⟩ => ⟨S2x384, .f32⟩
  | .hbm, ⟨22, _⟩ => ⟨S_, .f32⟩
  | .hbm, ⟨23, _⟩ => ⟨S2x384, .f32⟩
  | .hbm, ⟨24, _⟩ => ⟨S2x384, .f32⟩
  | .hbm, ⟨25, _⟩ => ⟨S2x384, .f32⟩
  | .hbm, ⟨26, _⟩ => ⟨S_, .f32⟩
  | .hbm, ⟨27, _⟩ => ⟨S2x384, .f32⟩
  | .hbm, ⟨28, _⟩ => ⟨S2x384, .f32⟩
  | .hbm, ⟨29, _⟩ => ⟨S2x384, .f32⟩
  | .hbm, ⟨30, _⟩ => ⟨S_, .f32⟩
  | .hbm, ⟨31, _⟩ => ⟨S2x384, .f32⟩
  | .hbm, ⟨32, _⟩ => ⟨S2x384, .f32⟩
  | .hbm, ⟨33, _⟩ => ⟨S2x384, .f32⟩
  | .hbm, ⟨34, _⟩ => ⟨S_, .f32⟩
  | .hbm, ⟨35, _⟩ => ⟨S2x384, .f32⟩
  | .hbm, ⟨36, _⟩ => ⟨S2x384, .f32⟩
  | _, _ => ⟨S2x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSinks.lean ====
abbrev S2x16 : Shape := ⟨2, ![2, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .local _ .vmem, ⟨0, _⟩ => ⟨S2x16, .f32⟩
  | .local _ .vmem, ⟨1, _⟩ => ⟨S2x16, .f32⟩
  | .local _ .vmem, ⟨2, _⟩ => ⟨S2x16, .f32⟩
  | .local _ .vmem, ⟨3, _⟩ => ⟨S2x16, .f32⟩
  | .local _ .vmem, ⟨4, _⟩ => ⟨S2x16, .f32⟩
  | .local _ .vmem, ⟨5, _⟩ => ⟨S2x16, .f32⟩
  | .local _ .vmem, ⟨6, _⟩ => ⟨S2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSinksRefIdeal.lean ====
abbrev S2x16 : Shape := ⟨2, ![2, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S_, .f32⟩
  | .hbm, ⟨5, _⟩ => ⟨S2x16, .f32⟩
  | .hbm, ⟨6, _⟩ => ⟨S2x16, .f32⟩
  | .hbm, ⟨7, _⟩ => ⟨S_, .f32⟩
  | .hbm, ⟨8, _⟩ => ⟨S2x16, .f32⟩
  | .hbm, ⟨9, _⟩ => ⟨S2x16, .f32⟩
  | .hbm, ⟨10, _⟩ => ⟨S2x16, .f32⟩
  | .hbm, ⟨11, _⟩ => ⟨S_, .f32⟩
  | .hbm, ⟨12, _⟩ => ⟨S2x16, .f32⟩
  | .hbm, ⟨13, _⟩ => ⟨S2x16, .f32⟩
  | .hbm, ⟨14, _⟩ => ⟨S2x16, .f32⟩
  | .hbm, ⟨15, _⟩ => ⟨S_, .f32⟩
  | .hbm, ⟨16, _⟩ => ⟨S2x16, .f32⟩
  | .hbm, ⟨17, _⟩ => ⟨S2x16, .f32⟩
  | .hbm, ⟨18, _⟩ => ⟨S2x16, .f32⟩
  | .hbm, ⟨19, _⟩ => ⟨S_, .f32⟩
  | .hbm, ⟨20, _⟩ => ⟨S2x16, .f32⟩
  | .hbm, ⟨21, _⟩ => ⟨S2x16, .f32⟩
  | .hbm, ⟨22, _⟩ => ⟨S_, .f32⟩
  | .hbm, ⟨23, _⟩ => ⟨S2x16, .f32⟩
  | .hbm, ⟨24, _⟩ => ⟨S2x16, .f32⟩
  | .hbm, ⟨25, _⟩ => ⟨S2x16, .f32⟩
  | .hbm, ⟨26, _⟩ => ⟨S_, .f32⟩
  | .hbm, ⟨27, _⟩ => ⟨S2x16, .f32⟩
  | .hbm, ⟨28, _⟩ => ⟨S2x16, .f32⟩
  | .hbm, ⟨29, _⟩ => ⟨S2x16, .f32⟩
  | .hbm, ⟨30, _⟩ => ⟨S_, .f32⟩
  | .hbm, ⟨31, _⟩ => ⟨S2x16, .f32⟩
  | .hbm, ⟨32, _⟩ => ⟨S2x16, .f32⟩
  | .hbm, ⟨33, _⟩ => ⟨S2x16, .f32⟩
  | .hbm, ⟨34, _⟩ => ⟨S_, .f32⟩
  | .hbm, ⟨35, _⟩ => ⟨S2x16, .f32⟩
  | .hbm, ⟨36, _⟩ => ⟨S2x16, .f32⟩
  | _, _ => ⟨S2x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.RealLift.lean ====
module

public import Idealize.ShloMosaic.Lib.Pointwise
public import Idealize.ShloMosaic.PureOps.Ideal.Laws

/-! Reading the ideal operations on finite arguments: each of them, applied to real numbers, is the real operation. -/

@[expose] public section

noncomputable section

namespace Cert.Lift

open Idealize.ShloMosaic

/-- The error function on the reals. -/
def erfR (r : ℝ) : ℝ := 2 / Real.sqrt Real.pi * ∫ t in (0 : ℝ)..r, Real.exp (-(t ^ 2))

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe (a b : ℝ) (hb : b ≠ 0) : Ideal.div (a : EReal) (b : EReal) = ((a / b : ℝ) : EReal) := by
  have h : ((b : ℝ) : EReal) ≠ 0 := by exact_mod_cast hb
  rw [Ideal.div, if_neg h, ← EReal.coe_inv, ← EReal.coe_mul, div_eq_mul_inv]

theorem erf_coe (a : ℝ) : Ideal.erf (a : EReal) = ((erfR a : ℝ) : EReal) := rfl

theorem erfc_coe (a : ℝ) : Ideal.erfc (a : EReal) = ((1 - erfR a : ℝ) : EReal) := by
  rw [Ideal.erfc, erf_coe, EReal.coe_sub, EReal.coe_one]

theorem exp_coe (a : ℝ) : Ideal.exp (a : EReal) = ((Real.exp a : ℝ) : EReal) := rfl

theorem rsqrt_coe (a : ℝ) (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr ha.le), if_neg ha.ne']

theorem sqrt_coe (a : ℝ) (ha : 0 ≤ a) : Ideal.sqrt (a : EReal) = ((Real.sqrt a : ℝ) : EReal) := by
  show (if a < 0 then (⊥ : EReal) else ((Real.sqrt a : ℝ) : EReal)) = _
  rw [if_neg (not_lt.mpr ha)]

theorem ite_coe (p : Prop) [Decidable p] (a b : ℝ) :
    (if p then (a : EReal) else (b : EReal)) = ((if p then a else b : ℝ) : EReal) := by split <;> rfl

theorem erfR_neg (a : ℝ) : erfR (-a) = -erfR a := by
  have h := Ideal.erf_neg (a : EReal)
  rw [← EReal.coe_neg, erf_coe, erf_coe, ← EReal.coe_neg] at h
  exact_mod_cast h

/-- The rational that the float word of `1e-5` is. -/
def eps : ℝ := 2748779 / 274877906944

theorem eps_pos : 0 < eps := by norm_num [eps]

theorem bits_half : Ideal.ofBits .f32 0x3F000000#32 = ((1 / 2 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul, -EReal.coe_neg]; norm_num

theorem bits_two : Ideal.ofBits .f32 0x40000000#32 = ((2 : ℝ) : EReal) := by
  simp [Ideal.ofBits, Ideal.ieee, -EReal.coe_mul]; norm_num

theorem bits_2048 : Ideal.ofBits .f32 0x45000000#32 = ((2048 : ℝ) : EReal) := by
  simp [Ideal.ofBits, Ideal.ieee, -EReal.coe_mul]; norm_num

theorem bits_eps : Ideal.ofBits .f32 0x3727C5AC#32 = ((eps : ℝ) : EReal) := by
  simp [Ideal.ofBits, Ideal.ieee, -EReal.coe_mul, eps]; norm_num

/-- The rational that jax's float word of `2/√π` is. -/
def slope : ℝ := 9465531 / 8388608

theorem bits_neg_slope : Ideal.ofBits .f32 0xBF906EBB#32 = ((-slope : ℝ) : EReal) := by
  simp [Ideal.ofBits, Ideal.ieee, -EReal.coe_mul, -EReal.coe_neg, slope]; norm_num

end Cert.Lift

end
-- ==== Proof.Spec.lean ====
module

public import proofs.«01_k».proof.Proof.RealLift

/-! The gating unit's backward pass on the real numbers, one chunk of 128 rows: `x` the rows before the gelu, `d` the
    gradient of the gated rows, `g` and `b` the layernorm's scale and shift, `w` and `bs` the mixing matrices and their
    biases. -/

@[expose] public section

noncomputable section

namespace Cert.Spec

open Cert.Lift

/-- The left half of the 4096 columns. -/
def lo (j : Fin 2048) : Fin 4096 := ⟨j.val, by omega⟩

/-- The right half of the 4096 columns. -/
def hi (j : Fin 2048) : Fin 4096 := ⟨2048 + j.val, by omega⟩

/-- The group of a column. -/
def grp (j : Fin 2048) : Fin 8 := ⟨j.val / 256, by omega⟩

/-- Column `c` of group `e`. -/
def col (e : Fin 8) (c : Fin 256) : Fin 2048 := ⟨256 * e.val + c.val, by omega⟩

/-- The normal distribution function. -/
def cdf (a : ℝ) : ℝ := 1 / 2 * (1 + erfR (a * Real.sqrt (1 / 2)))

/-- The gelu. -/
def zed (a : ℝ) : ℝ := a * cdf a

/-- The density's constant, by the word that spells `2/√π`. -/
def kap : ℝ := 9465531 / 16777216 * Real.sqrt (1 / 2)

/-- The gelu's derivative. -/
def dgelu (a : ℝ) : ℝ := cdf a + a * Real.exp (-(1 / 2) * a * a) * kap

variable (x : Fin 128 → Fin 4096 → ℝ) (d : Fin 128 → Fin 2048 → ℝ) (g b : Fin 2048 → ℝ)
  (w : Fin 8 → Fin 128 → Fin 128 → ℝ) (bs : Fin 8 → Fin 128 → ℝ)

/-- The factor that is gated. -/
def uu (r : Fin 128) (j : Fin 2048) : ℝ := zed (x r (lo j))

/-- The factor that is normalised and mixed. -/
def vv (r : Fin 128) (j : Fin 2048) : ℝ := zed (x r (hi j))

/-- It less its mean over the row. -/
def vc (r : Fin 128) (j : Fin 2048) : ℝ := vv x r j - (∑ l : Fin 2048, vv x r l) / 2048

/-- The row's variance and the layernorm's epsilon. -/
def var (r : Fin 128) : ℝ := (∑ l : Fin 2048, vc x r l * vc x r l) / 2048 + eps

/-- One over the row's deviation. -/
def rstd (r : Fin 128) : ℝ := (Real.sqrt (var x r))⁻¹

/-- The normalised row. -/
def vhat (r : Fin 128) (j : Fin 2048) : ℝ := vc x r j * rstd x r

/-- The layernorm. -/
def vn (r : Fin 128) (j : Fin 2048) : ℝ := vhat x r j * g j + b j

/-- The causal part of the mixing matrices. -/
def wm (e : Fin 8) (t s : Fin 128) : ℝ := if s ≤ t then w e t s else 0

/-- The gradient of the gated factor. -/
def du (r : Fin 128) (j : Fin 2048) : ℝ :=
  d r j * ((∑ s : Fin 128, wm w (grp j) r s * vn x g b s j) + bs (grp j) r)

/-- The gradient of the mixed rows. -/
def dsv (r : Fin 128) (j : Fin 2048) : ℝ := d r j * uu x r j

/-- The gradient of the layernorm's rows. -/
def dvn (s : Fin 128) (j : Fin 2048) : ℝ := ∑ t : Fin 128, wm w (grp j) t s * dsv x d t j

/-- The chunk's share of the mixing matrices' gradient. -/
def dw (e : Fin 8) (t s : Fin 128) : ℝ :=
  if s ≤ t then ∑ c : Fin 256, dsv x d t (col e c) * vn x g b s (col e c) else 0

/-- The chunk's share of the mixing biases' gradient. -/
def dbs (t : Fin 128) (e : Fin 8) : ℝ := ∑ c : Fin 256, dsv x d t (col e c)

/-- The chunk's share of the scale's gradient. -/
def dlng (j : Fin 2048) : ℝ := ∑ r : Fin 128, dvn x d w r j * vhat x r j

/-- The chunk's share of the shift's gradient. -/
def dlnb (j : Fin 2048) : ℝ := ∑ r : Fin 128, dvn x d w r j

/-- The gradient of the normalised rows. -/
def dvh (r : Fin 128) (j : Fin 2048) : ℝ := dvn x d w r j * g j

/-- The gradient of the factor that is normalised. -/
def dv (r : Fin 128) (j : Fin 2048) : ℝ :=
  rstd x r * (dvh x d g w r j - (∑ l : Fin 2048, dvh x d g w r l) / 2048
    - vhat x r j * ((∑ l : Fin 2048, dvh x d g w r l * vhat x r l) / 2048))

/-- The gradient of the gelu's result. -/
def dz (r : Fin 128) (k : Fin 4096) : ℝ :=
  if h : k.val < 2048 then du x d g b w bs r ⟨k.val, h⟩ else dv x d g w r ⟨k.val - 2048, by omega⟩

/-- The gradient of the gelu's argument. -/
def dpre (r : Fin 128) (k : Fin 4096) : ℝ := dz x d g b w bs r k * dgelu (x r k)

/-- The chunk's share of the input bias's gradient. -/
def dbin (k : Fin 4096) : ℝ := ∑ r : Fin 128, dpre x d g b w bs r k

theorem var_pos (r : Fin 128) : 0 < var x r := by
  have h : 0 ≤ ∑ l : Fin 2048, vc x r l * vc x r l := Finset.sum_nonneg fun l _ => mul_self_nonneg _
  have := eps_pos
  unfold var
  positivity

end Cert.Spec

end
-- ==== Proof.Pay.lean ====
module

public import proofs.«01_k».proof.Proof.Gen.KernelIdeal.Skeleton
public import proofs.«01_k».proof.Proof.Spec
public import Idealize.ShloMosaic.Lib.Pipeline.ValueKit
public import Idealize.ShloMosaic.Lib.WordCmp

/-! What the kernel's body stores, on finite blocks: the real gradients of one chunk. -/

@[expose] public section

set_option maxRecDepth 16384

noncomputable section

namespace Cert.Pay

open Idealize.ShloMosaic Idealize.ShloMosaic.TcCoe Idealize.SL.Sem
open Cert.KernelIdeal Cert.KernelIdeal.Gen
open Cert.Lift Cert.Spec

variable (x : Fin 128 → Fin 4096 → ℝ) (d : Fin 128 → Fin 2048 → ℝ) (g b : Fin 2048 → ℝ)
  (w : Fin 8 → Fin 128 → Fin 128 → ℝ) (bs : Fin 8 → Fin 128 → ℝ)

theorem sqrt_half : Named.named (F := Ideal) κ "sqrt_half" (φ := .f32) 0x3F3504F3#32 = ((Real.sqrt (1 / 2) : ℝ) : EReal) := rfl

theorem inv_sqrt_2pi : Named.named (F := Ideal) κ "inv_sqrt_2pi" (φ := .f32) 0x3ECC422A#32 = ((kap : ℝ) : EReal) := rfl

section Rows

variable (X : FVec Ideal S128x4096 .f32) (hX : ∀ (r : Fin 128) (k : Fin 4096), X (ix2 r k) = ((x r k : ℝ) : EReal))
include hX

theorem cdf_at (r : Fin 128) (k : Fin 4096) : k0_pay8 (F := Ideal) X (ix2 r k) = ((cdf (x r k) : ℝ) : EReal) := by
  pointwise [k0_pay8, k0_pay6, hX]
  rw [sqrt_half, bits_half, ← EReal.coe_mul, show FloatOps.erf (F := Ideal) (φ := .f32) = Ideal.erf from rfl, erf_coe,
    ← EReal.coe_one, ← EReal.coe_add, ← EReal.coe_mul]
  rfl

theorem z_at (r : Fin 128) (k : Fin 4096) : k0_pay9 (F := Ideal) X (ix2 r k) = ((zed (x r k) : ℝ) : EReal) := by
  pointwise [k0_pay9, k0_pay6, hX, cdf_at x X hX]
  rw [← EReal.coe_mul]; rfl

theorem u_at (r : Fin 128) (j : Fin 2048) : k0_pay10 (F := Ideal) X (ix2 r j) = ((uu x r j : ℝ) : EReal) := by
  pointwise [k0_pay10, z_at x X hX]
  rfl

theorem vc_at (r : Fin 128) (j : Fin 2048) : k0_pay11 (F := Ideal) X (ix2 r j) = ((vc x r j : ℝ) : EReal) := by
  pointwise [k0_pay11, z_at x X hX, bits_2048, coe_sum]
  rw [div_coe _ _ (by norm_num), ← EReal.coe_sub]; rfl

theorem rstd_at (r : Fin 128) : k0_pay12 (F := Ideal) X (ix2 r 0) = ((rstd x r : ℝ) : EReal) := by
  pointwise [k0_pay12, vc_at x X hX, bits_2048, bits_eps]
  simp only [← EReal.coe_mul, coe_sum]
  rw [div_coe _ _ (by norm_num), ← EReal.coe_add]
  exact rsqrt_coe _ (var_pos x r)

theorem vhat_at (r : Fin 128) (j : Fin 2048) : k0_pay13 (F := Ideal) X (ix2 r j) = ((vhat x r j : ℝ) : EReal) := by
  pointwise [k0_pay13, vc_at x X hX, rstd_at x X hX]
  rw [← EReal.coe_mul]; rfl

theorem vn_at (G B : FVec Ideal S1x2048 .f32) (hG : ∀ j : Fin 2048, G (ix2 0 j) = ((g j : ℝ) : EReal))
    (hB : ∀ j : Fin 2048, B (ix2 0 j) = ((b j : ℝ) : EReal)) (r : Fin 128) (j : Fin 2048) :
    k0_pay14 (F := Ideal) X G B (ix2 r j) = ((vn x g b r j : ℝ) : EReal) := by
  pointwise [k0_pay14, k0_pay7, vhat_at x X hX, hG, hB]
  rw [← EReal.coe_mul, ← EReal.coe_add]; rfl

end Rows

theorem mask_at {α : Type} (t s : Fin 128) (p q : α) :
    Scalar.select (IntOp.cmpi CmpIPredicate.sge (BitVec.ofNat 32 t.val) (BitVec.ofNat 32 s.val)) p q = if s ≤ t then p else q := by
  word_cmp
  simp only [decide_eq_true_eq, Fin.le_def]

/-- One group's masked mixing matrix. -/
theorem wm_at (V : FVec Ideal S1x128x128 .f32) (e : Fin 8) (hV : ∀ t s : Fin 128, V (ix3 0 t s) = ((w e t s : ℝ) : EReal)) (t s : Fin 128) :
    k0_pay17 (F := Ideal) V (ix2 t s) = ((wm w e t s : ℝ) : EReal) := by
  pointwise [k0_pay17, k0_pay16, hV]
  rw [mask_at]
  unfold wm
  split <;> rfl

theorem off_col (off : ℕ) (e : Fin 8) (he : off = 256 * e.val) (c : Fin 256) (h : off + c.val < 2048) :
    (⟨off + c.val, h⟩ : Fin 2048) = col e c := Fin.ext (by simp [col, he])

theorem grp_col (e : Fin 8) (c : Fin 256) : grp (col e c) = e := Fin.ext (by simp only [grp, col]; omega)

section Groups

variable (off : ℕ) (e : Fin 8) (he : off = 256 * e.val) (h : S128x2048.Slices ![0, off] S128x256)
include he

/-- One group's columns of a product. -/
theorem dsv_at (D U : FVec Ideal S128x2048 .f32) (hD : ∀ (r : Fin 128) (j : Fin 2048), D (ix2 r j) = ((d r j : ℝ) : EReal))
    (hU : ∀ (r : Fin 128) (j : Fin 2048), U (ix2 r j) = ((uu x r j : ℝ) : EReal)) (r : Fin 128) (c : Fin 256) :
    mulf (extractStridedSlice S128x256 ![0, off] D h) (extractStridedSlice S128x256 ![0, off] U h) (ix2 r c)
      = ((dsv x d r (col e c) : ℝ) : EReal) := by
  pointwise [hD, hU, off_col off e he]
  rw [← EReal.coe_mul]; rfl

theorem du_at (M : FVec Ideal S128x128 .bf16) (N : FVec Ideal S128x2048 .bf16) (C : FVec Ideal S128x1 .f32) (D : FVec Ideal S128x2048 .f32)
    (hM : ∀ t s : Fin 128, M (ix2 t s) = ((wm w e t s : ℝ) : EReal))
    (hN : ∀ (r : Fin 128) (j : Fin 2048), N (ix2 r j) = ((vn x g b r j : ℝ) : EReal))
    (hC : ∀ t : Fin 128, C (ix2 t 0) = ((bs e t : ℝ) : EReal))
    (hD : ∀ (r : Fin 128) (j : Fin 2048), D (ix2 r j) = ((d r j : ℝ) : EReal)) (h1) (h2) (r : Fin 128) (c : Fin 256) :
    mulf (extractStridedSlice S128x256 ![0, off] D h)
      (addf (matmul dot_S128x128_S128x256_S128x256_1_0_0_1_n_n none M (extractStridedSlice S128x256 ![0, off] N h)
          (constant S128x256 .f32 0x00000000#32))
        (broadcastTo S128x256 (shapeCast S128x1 C h1) h2)) (ix2 r c)
      = ((du x d g b w bs r (col e c) : ℝ) : EReal) := by
  pointwise [hD, hM, hN, hC, off_col off e he]
  simp only [← EReal.coe_mul, coe_sum, ← EReal.coe_add]
  simp only [du, grp_col]

theorem dvn_at (M : FVec Ideal S128x128 .bf16) (D U : FVec Ideal S128x2048 .f32)
    (hM : ∀ t s : Fin 128, M (ix2 t s) = ((wm w e t s : ℝ) : EReal))
    (hD : ∀ (r : Fin 128) (j : Fin 2048), D (ix2 r j) = ((d r j : ℝ) : EReal))
    (hU : ∀ (r : Fin 128) (j : Fin 2048), U (ix2 r j) = ((uu x r j : ℝ) : EReal)) (h1) (s : Fin 128) (c : Fin 256) :
    matmul dot_S128x128_S128x256_S128x256_0_0_1_1_n_n none M
        (truncf .bf16 (mulf (extractStridedSlice S128x256 ![0, off] D h) (extractStridedSlice S128x256 ![0, off] U h)) h1)
        (constant S128x256 .f32 0x00000000#32) (ix2 s c)
      = ((dvn x d w s (col e c) : ℝ) : EReal) := by
  pointwise [hD, hM, hU, off_col off e he]
  simp only [← EReal.coe_mul, coe_sum]
  simp only [dvn, grp_col, dsv]

theorem dw_at (P : FVec Ideal S1x128x128 .f32) (N : FVec Ideal S128x2048 .bf16) (D U : FVec Ideal S128x2048 .f32)
    (hN : ∀ (r : Fin 128) (j : Fin 2048), N (ix2 r j) = ((vn x g b r j : ℝ) : EReal))
    (hD : ∀ (r : Fin 128) (j : Fin 2048), D (ix2 r j) = ((d r j : ℝ) : EReal))
    (hU : ∀ (r : Fin 128) (j : Fin 2048), U (ix2 r j) = ((uu x r j : ℝ) : EReal)) (h1) (h2) (h3) (z : Fin 1) (t s : Fin 128) :
    shapeCast S1x128x128 (addf (shapeCast S128x128 P h2)
        (select k0_pay16
          (matmul dot_S128x256_S128x256_S128x128_1_1_0_0_n_n none
            (truncf .bf16 (mulf (extractStridedSlice S128x256 ![0, off] D h) (extractStridedSlice S128x256 ![0, off] U h)) h1)
            (extractStridedSlice S128x256 ![0, off] N h) (constant S128x128 .f32 0x00000000#32))
          (broadcast S128x128 (FloatOps.ofBits .f32 0x00000000#32)))) h3 (ix3 z t s)
      = P (ix3 0 t s) + ((dw x d g b e t s : ℝ) : EReal) := by
  pointwise [k0_pay16, hD, hN, hU, off_col off e he]
  rw [mask_at]
  simp only [← EReal.coe_mul, coe_sum]
  unfold dw
  split <;> rfl

theorem dbs_at (P : FVec Ideal S128x1 .f32) (D U : FVec Ideal S128x2048 .f32)
    (hD : ∀ (r : Fin 128) (j : Fin 2048), D (ix2 r j) = ((d r j : ℝ) : EReal))
    (hU : ∀ (r : Fin 128) (j : Fin 2048), U (ix2 r j) = ((uu x r j : ℝ) : EReal)) (h1) (h2) (h3) (h4) (h5) (t : Fin 128) (z : Fin 1) :
    addf (shapeCast S128x1 P h1) (shapeCast S128x1 (multiReduction .add [1] S128
        (mulf (extractStridedSlice S128x256 ![0, off] D h) (extractStridedSlice S128x256 ![0, off] U h)) 0x00000000#32 h2 h3 h4) h5) (ix2 t z)
      = P (ix2 t 0) + ((dbs x d t e : ℝ) : EReal) := by
  obtain rfl : z = 0 := Subsingleton.elim _ _
  pointwise [hD, hU, off_col off e he]
  simp only [← EReal.coe_mul, coe_sum]
  rfl

end Groups

/-- Eight groups of columns side by side. -/
theorem cat_at (f : Fin 128 → Fin 2048 → ℝ) (v0 v1 v2 v3 v4 v5 v6 v7 : FVec Ideal S128x256 .f32)
    (h0 : ∀ (r : Fin 128) (c : Fin 256), v0 (ix2 r c) = ((f r (col 0 c) : ℝ) : EReal))
    (h1 : ∀ (r : Fin 128) (c : Fin 256), v1 (ix2 r c) = ((f r (col 1 c) : ℝ) : EReal))
    (h2 : ∀ (r : Fin 128) (c : Fin 256), v2 (ix2 r c) = ((f r (col 2 c) : ℝ) : EReal))
    (h3 : ∀ (r : Fin 128) (c : Fin 256), v3 (ix2 r c) = ((f r (col 3 c) : ℝ) : EReal))
    (h4 : ∀ (r : Fin 128) (c : Fin 256), v4 (ix2 r c) = ((f r (col 4 c) : ℝ) : EReal))
    (h5 : ∀ (r : Fin 128) (c : Fin 256), v5 (ix2 r c) = ((f r (col 5 c) : ℝ) : EReal))
    (h6 : ∀ (r : Fin 128) (c : Fin 256), v6 (ix2 r c) = ((f r (col 6 c) : ℝ) : EReal))
    (h7 : ∀ (r : Fin 128) (c : Fin 256), v7 (ix2 r c) = ((f r (col 7 c) : ℝ) : EReal)) (hc) (r : Fin 128) (j : Fin 2048) :
    concatenate S128x2048 1 [⟨S128x256, v0⟩, ⟨S128x256, v1⟩, ⟨S128x256, v2⟩, ⟨S128x256, v3⟩, ⟨S128x256, v4⟩, ⟨S128x256, v5⟩,
      ⟨S128x256, v6⟩, ⟨S128x256, v7⟩] hc (ix2 r j) = ((f r j : ℝ) : EReal) := by
  pointwise [h0, h1, h2, h3, h4, h5, h6, h7]
  split_ifs <;> (congr 2; apply Fin.ext; simp [col]; try omega)

theorem dvn8_at (M0 M1 M2 M3 M4 M5 M6 M7 : FVec Ideal S128x128 .bf16) (D U : FVec Ideal S128x2048 .f32)
    (hM0 : ∀ t s : Fin 128, M0 (ix2 t s) = ((wm w 0 t s : ℝ) : EReal))
    (hM1 : ∀ t s : Fin 128, M1 (ix2 t s) = ((wm w 1 t s : ℝ) : EReal))
    (hM2 : ∀ t s : Fin 128, M2 (ix2 t s) = ((wm w 2 t s : ℝ) : EReal))
    (hM3 : ∀ t s : Fin 128, M3 (ix2 t s) = ((wm w 3 t s : ℝ) : EReal))
    (hM4 : ∀ t s : Fin 128, M4 (ix2 t s) = ((wm w 4 t s : ℝ) : EReal))
    (hM5 : ∀ t s : Fin 128, M5 (ix2 t s) = ((wm w 5 t s : ℝ) : EReal))
    (hM6 : ∀ t s : Fin 128, M6 (ix2 t s) = ((wm w 6 t s : ℝ) : EReal))
    (hM7 : ∀ t s : Fin 128, M7 (ix2 t s) = ((wm w 7 t s : ℝ) : EReal))
    (hD : ∀ (r : Fin 128) (j : Fin 2048), D (ix2 r j) = ((d r j : ℝ) : EReal))
    (hU : ∀ (r : Fin 128) (j : Fin 2048), U (ix2 r j) = ((uu x r j : ℝ) : EReal)) (h1) (k0) (k1) (k2) (k3) (k4) (k5) (k6) (k7) (hc) (r : Fin 128) (j : Fin 2048) :
    concatenate S128x2048 1 [⟨S128x256, matmul dot_S128x128_S128x256_S128x256_0_0_1_1_n_n none M0
        (truncf .bf16 (mulf (extractStridedSlice S128x256 ![0, 0] D k0) (extractStridedSlice S128x256 ![0, 0] U k0)) h1)
        (constant S128x256 .f32 0x00000000#32)⟩,
      ⟨S128x256, matmul dot_S128x128_S128x256_S128x256_0_0_1_1_n_n none M1
        (truncf .bf16 (mulf (extractStridedSlice S128x256 ![0, 256] D k1) (extractStridedSlice S128x256 ![0, 256] U k1)) h1)
        (constant S128x256 .f32 0x00000000#32)⟩,
      ⟨S128x256, matmul dot_S128x128_S128x256_S128x256_0_0_1_1_n_n none M2
        (truncf .bf16 (mulf (extractStridedSlice S128x256 ![0, 512] D k2) (extractStridedSlice S128x256 ![0, 512] U k2)) h1)
        (constant S128x256 .f32 0x00000000#32)⟩,
      ⟨S128x256, matmul dot_S128x128_S128x256_S128x256_0_0_1_1_n_n none M3
        (truncf .bf16 (mulf (extractStridedSlice S128x256 ![0, 768] D k3) (extractStridedSlice S128x256 ![0, 768] U k3)) h1)
        (constant S128x256 .f32 0x00000000#32)⟩,
      ⟨S128x256, matmul dot_S128x128_S128x256_S128x256_0_0_1_1_n_n none M4
        (truncf .bf16 (mulf (extractStridedSlice S128x256 ![0, 1024] D k4) (extractStridedSlice S128x256 ![0, 1024] U k4)) h1)
        (constant S128x256 .f32 0x00000000#32)⟩,
      ⟨S128x256, matmul dot_S128x128_S128x256_S128x256_0_0_1_1_n_n none M5
        (truncf .bf16 (mulf (extractStridedSlice S128x256 ![0, 1280] D k5) (extractStridedSlice S128x256 ![0, 1280] U k5)) h1)
        (constant S128x256 .f32 0x00000000#32)⟩,
      ⟨S128x256, matmul dot_S128x128_S128x256_S128x256_0_0_1_1_n_n none M6
        (truncf .bf16 (mulf (extractStridedSlice S128x256 ![0, 1536] D k6) (extractStridedSlice S128x256 ![0, 1536] U k6)) h1)
        (constant S128x256 .f32 0x00000000#32)⟩,
      ⟨S128x256, matmul dot_S128x128_S128x256_S128x256_0_0_1_1_n_n none M7
        (truncf .bf16 (mulf (extractStridedSlice S128x256 ![0, 1792] D k7) (extractStridedSlice S128x256 ![0, 1792] U k7)) h1)
        (constant S128x256 .f32 0x00000000#32)⟩] hc (ix2 r j)
      = ((dvn x d w r j : ℝ) : EReal) :=
  cat_at (dvn x d w) _ _ _ _ _ _ _ _
    (dvn_at x d w 0 0 rfl _ M0 D U hM0 hD hU _)
    (dvn_at x d w 256 1 rfl _ M1 D U hM1 hD hU _)
    (dvn_at x d w 512 2 rfl _ M2 D U hM2 hD hU _)
    (dvn_at x d w 768 3 rfl _ M3 D U hM3 hD hU _)
    (dvn_at x d w 1024 4 rfl _ M4 D U hM4 hD hU _)
    (dvn_at x d w 1280 5 rfl _ M5 D U hM5 hD hU _)
    (dvn_at x d w 1536 6 rfl _ M6 D U hM6 hD hU _)
    (dvn_at x d w 1792 7 rfl _ M7 D U hM7 hD hU _) hc r j

theorem du8_at (M0 M1 M2 M3 M4 M5 M6 M7 : FVec Ideal S128x128 .bf16) (N : FVec Ideal S128x2048 .bf16) (C0 C1 C2 C3 C4 C5 C6 C7 : FVec Ideal S128x1 .f32) (D : FVec Ideal S128x2048 .f32)
    (hM0 : ∀ t s : Fin 128, M0 (ix2 t s) = ((wm w 0 t s : ℝ) : EReal))
    (hM1 : ∀ t s : Fin 128, M1 (ix2 t s) = ((wm w 1 t s : ℝ) : EReal))
    (hM2 : ∀ t s : Fin 128, M2 (ix2 t s) = ((wm w 2 t s : ℝ) : EReal))
    (hM3 : ∀ t s : Fin 128, M3 (ix2 t s) = ((wm w 3 t s : ℝ) : EReal))
    (hM4 : ∀ t s : Fin 128, M4 (ix2 t s) = ((wm w 4 t s : ℝ) : EReal))
    (hM5 : ∀ t s : Fin 128, M5 (ix2 t s) = ((wm w 5 t s : ℝ) : EReal))
    (hM6 : ∀ t s : Fin 128, M6 (ix2 t s) = ((wm w 6 t s : ℝ) : EReal))
    (hM7 : ∀ t s : Fin 128, M7 (ix2 t s) = ((wm w 7 t s : ℝ) : EReal))
    (hN : ∀ (r : Fin 128) (j : Fin 2048), N (ix2 r j) = ((vn x g b r j : ℝ) : EReal))
    (hC0 : ∀ t : Fin 128, C0 (ix2 t 0) = ((bs 0 t : ℝ) : EReal))
    (hC1 : ∀ t : Fin 128, C1 (ix2 t 0) = ((bs 1 t : ℝ) : EReal))
    (hC2 : ∀ t : Fin 128, C2 (ix2 t 0) = ((bs 2 t : ℝ) : EReal))
    (hC3 : ∀ t : Fin 128, C3 (ix2 t 0) = ((bs 3 t : ℝ) : EReal))
    (hC4 : ∀ t : Fin 128, C4 (ix2 t 0) = ((bs 4 t : ℝ) : EReal))
    (hC5 : ∀ t : Fin 128, C5 (ix2 t 0) = ((bs 5 t : ℝ) : EReal))
    (hC6 : ∀ t : Fin 128, C6 (ix2 t 0) = ((bs 6 t : ℝ) : EReal))
    (hC7 : ∀ t : Fin 128, C7 (ix2 t 0) = ((bs 7 t : ℝ) : EReal))
    (hD : ∀ (r : Fin 128) (j : Fin 2048), D (ix2 r j) = ((d r j : ℝ) : EReal)) (h1) (h2) (k0) (k1) (k2) (k3) (k4) (k5) (k6) (k7) (hc) (r : Fin 128) (j : Fin 2048) :
    concatenate S128x2048 1 [⟨S128x256, mulf (extractStridedSlice S128x256 ![0, 0] D k0) (addf (matmul dot_S128x128_S128x256_S128x256_1_0_0_1_n_n none M0 (extractStridedSlice S128x256 ![0, 0] N k0)
        (constant S128x256 .f32 0x00000000#32)) (broadcastTo S128x256 (shapeCast S128x1 C0 h1) h2))⟩,
      ⟨S128x256, mulf (extractStridedSlice S128x256 ![0, 256] D k1) (addf (matmul dot_S128x128_S128x256_S128x256_1_0_0_1_n_n none M1 (extractStridedSlice S128x256 ![0, 256] N k1)
        (constant S128x256 .f32 0x00000000#32)) (broadcastTo S128x256 (shapeCast S128x1 C1 h1) h2))⟩,
      ⟨S128x256, mulf (extractStridedSlice S128x256 ![0, 512] D k2) (addf (matmul dot_S128x128_S128x256_S128x256_1_0_0_1_n_n none M2 (extractStridedSlice S128x256 ![0, 512] N k2)
        (constant S128x256 .f32 0x00000000#32)) (broadcastTo S128x256 (shapeCast S128x1 C2 h1) h2))⟩,
      ⟨S128x256, mulf (extractStridedSlice S128x256 ![0, 768] D k3) (addf (matmul dot_S128x128_S128x256_S128x256_1_0_0_1_n_n none M3 (extractStridedSlice S128x256 ![0, 768] N k3)
        (constant S128x256 .f32 0x00000000#32)) (broadcastTo S128x256 (shapeCast S128x1 C3 h1) h2))⟩,
      ⟨S128x256, mulf (extractStridedSlice S128x256 ![0, 1024] D k4) (addf (matmul dot_S128x128_S128x256_S128x256_1_0_0_1_n_n none M4 (extractStridedSlice S128x256 ![0, 1024] N k4)
        (constant S128x256 .f32 0x00000000#32)) (broadcastTo S128x256 (shapeCast S128x1 C4 h1) h2))⟩,
      ⟨S128x256, mulf (extractStridedSlice S128x256 ![0, 1280] D k5) (addf (matmul dot_S128x128_S128x256_S128x256_1_0_0_1_n_n none M5 (extractStridedSlice S128x256 ![0, 1280] N k5)
        (constant S128x256 .f32 0x00000000#32)) (broadcastTo S128x256 (shapeCast S128x1 C5 h1) h2))⟩,
      ⟨S128x256, mulf (extractStridedSlice S128x256 ![0, 1536] D k6) (addf (matmul dot_S128x128_S128x256_S128x256_1_0_0_1_n_n none M6 (extractStridedSlice S128x256 ![0, 1536] N k6)
        (constant S128x256 .f32 0x00000000#32)) (broadcastTo S128x256 (shapeCast S128x1 C6 h1) h2))⟩,
      ⟨S128x256, mulf (extractStridedSlice S128x256 ![0, 1792] D k7) (addf (matmul dot_S128x128_S128x256_S128x256_1_0_0_1_n_n none M7 (extractStridedSlice S128x256 ![0, 1792] N k7)
        (constant S128x256 .f32 0x00000000#32)) (broadcastTo S128x256 (shapeCast S128x1 C7 h1) h2))⟩] hc (ix2 r j)
      = ((du x d g b w bs r j : ℝ) : EReal) :=
  cat_at (du x d g b w bs) _ _ _ _ _ _ _ _
    (du_at x d g b w bs 0 0 rfl _ M0 N C0 D hM0 hN hC0 hD _ _)
    (du_at x d g b w bs 256 1 rfl _ M1 N C1 D hM1 hN hC1 hD _ _)
    (du_at x d g b w bs 512 2 rfl _ M2 N C2 D hM2 hN hC2 hD _ _)
    (du_at x d g b w bs 768 3 rfl _ M3 N C3 D hM3 hN hC3 hD _ _)
    (du_at x d g b w bs 1024 4 rfl _ M4 N C4 D hM4 hN hC4 hD _ _)
    (du_at x d g b w bs 1280 5 rfl _ M5 N C5 D hM5 hN hC5 hD _ _)
    (du_at x d g b w bs 1536 6 rfl _ M6 N C6 D hM6 hN hC6 hD _ _)
    (du_at x d g b w bs 1792 7 rfl _ M7 N C7 D hM7 hN hC7 hD _ _) hc r j

section Tail

variable (H : FVec Ideal S128x2048 .f32) (hH : ∀ (r : Fin 128) (j : Fin 2048), H (ix2 r j) = ((vhat x r j : ℝ) : EReal))
  (Q : FVec Ideal S128x2048 .f32) (hQ : ∀ (r : Fin 128) (j : Fin 2048), Q (ix2 r j) = ((dvn x d w r j : ℝ) : EReal))
include hQ

theorem dlnb_at (P : FVec Ideal S1x2048 .f32) (h1) (h2) (h3) (h4) (h5) (z : Fin 1) (j : Fin 2048) :
    addf (shapeCast S1x2048 P h1) (shapeCast S1x2048 (multiReduction .add [0] S2048 Q 0x00000000#32 h2 h3 h4) h5) (ix2 z j)
      = P (ix2 0 j) + ((dlnb x d w j : ℝ) : EReal) := by
  obtain rfl : z = 0 := Subsingleton.elim _ _
  pointwise [hQ]
  simp only [coe_sum]
  rfl

include hH

theorem dlng_at (P : FVec Ideal S1x2048 .f32) (h1) (h2) (h3) (h4) (h5) (z : Fin 1) (j : Fin 2048) :
    addf (shapeCast S1x2048 P h1) (shapeCast S1x2048 (multiReduction .add [0] S2048 (mulf Q H) 0x00000000#32 h2 h3 h4) h5) (ix2 z j)
      = P (ix2 0 j) + ((dlng x d w j : ℝ) : EReal) := by
  obtain rfl : z = 0 := Subsingleton.elim _ _
  pointwise [hQ, hH]
  simp only [← EReal.coe_mul, coe_sum]
  rfl

variable (X : FVec Ideal S128x4096 .f32) (hX : ∀ (r : Fin 128) (k : Fin 4096), X (ix2 r k) = ((x r k : ℝ) : EReal))
  (G : FVec Ideal S1x2048 .f32) (hG : ∀ j : Fin 2048, G (ix2 0 j) = ((g j : ℝ) : EReal))
  (C : FVec Ideal S128x4096 .f32) (hC : ∀ (r : Fin 128) (k : Fin 4096), C (ix2 r k) = ((cdf (x r k) : ℝ) : EReal))
  (T : FVec Ideal S128x1 .f32) (hT : ∀ r : Fin 128, T (ix2 r 0) = ((rstd x r : ℝ) : EReal))
  (E : FVec Ideal S128x2048 .f32) (hE : ∀ (r : Fin 128) (j : Fin 2048), E (ix2 r j) = ((du x d g b w bs r j : ℝ) : EReal))
include hX hG hC hT hE

theorem dpre_at (r : Fin 128) (k : Fin 4096) :
    k0_pay89 (F := Ideal) X G C T H E Q (ix2 r k) = ((dpre x d g b w bs r k : ℝ) : EReal) := by
  pointwise [k0_pay89, hX, hG, hC, hT, hH, hE, hQ]
  simp only [← EReal.coe_mul, coe_sum, bits_2048, bits_neg_half, inv_sqrt_2pi]
  simp only [div_coe _ _ (show (2048 : ℝ) ≠ 0 by norm_num), ← EReal.coe_sub, ← EReal.coe_mul]
  simp only [exp_coe, ← EReal.coe_mul, ← EReal.coe_add]
  unfold dpre dz
  split_ifs <;> (rw [← EReal.coe_mul]; rfl)

theorem dbin_at (P : FVec Ideal S1x4096 .f32) (z : Fin 1) (k : Fin 4096) :
    k0_pay90 (F := Ideal) X G C T H E Q P (ix2 z k) = P (ix2 0 k) + ((dbin x d g b w bs k : ℝ) : EReal) := by
  obtain rfl : z = 0 := Subsingleton.elim _ _
  pointwise [k0_pay90, dpre_at x d g b w bs H hH Q hQ X hX G hG C hC T hT E hE]
  simp only [coe_sum]
  rfl

end Tail

end Cert.Pay

end
-- ==== Proof.Point.lean ====
module

public import proofs.«01_k».proof.Proof.Gen.KernelIdeal.Value
public import proofs.«01_k».proof.Proof.Pay
public import Idealize.ShloMosaic.Lib.Pipeline.ReadBack

/-! What the kernel leaves in each output's block at each grid point, on finite arguments. -/

@[expose] public section

set_option maxRecDepth 16384

noncomputable section

namespace Cert.Point

open Idealize.ShloMosaic Idealize.ShloMosaic.TcCoe Idealize.SL.Sem
open Idealize.ShloMosaic.Pipeline (Dat)
open Cert.KernelIdeal Cert.KernelIdeal.Gen
open Cert.Lift Cert.Spec Cert.Pay

theorem emb_val {s : Shape} (off size : Fin s.rank → Nat) (inb) (j : (Rect.unit (s := s) off size inb).shape.Idx) (a : Fin s.rank) (n : Nat)
    (h : off a + (j a : Nat) = n) : ((Rect.unit (s := s) off size inb).emb j a : Nat) = n :=
  (ValueKit.rect_emb_unit_val off size inb j a).trans h

theorem mem7 (e : Fin 8) (p q : Fin 128) (inb) : (ix3 e p q : S8x128x128.Idx) ∈ (Rect.unit (s := S8x128x128) ![e.val, 0, 0] ![1, 128, 128] inb).set := by
  have h : (Rect.unit (s := S8x128x128) ![e.val, 0, 0] ![1, 128, 128] inb).emb (ix3 (0 : Fin 1) p q) = ix3 e p q :=
    funext fun a => Fin.ext (by rw [ValueKit.rect_emb_unit_val]; fin_cases a <;> simp)
  rw [← h]; exact LoadRect.idx_mem _ _

theorem mem8 (e : Fin 8) (p : Fin 128) (inb) : (ix2 p e : S128x8.Idx) ∈ (Rect.unit (s := S128x8) ![0, e.val] ![128, 1] inb).set := by
  have h : (Rect.unit (s := S128x8) ![0, e.val] ![128, 1] inb).emb (ix2 p (0 : Fin 1)) = ix2 p e :=
    funext fun a => Fin.ext (by rw [ValueKit.rect_emb_unit_val]; fin_cases a <;> simp)
  rw [← h]; exact LoadRect.idx_mem _ _

variable (m : (ℓ : Loc nD τ sig) → Buf (Elt Ideal) ℓ)

/-- The region's input blocks hold finite numbers: chunk `t`'s rows are `x t` and `d t`. -/
structure Fin6 (c : Dev nD) (x : ℕ → Fin 128 → Fin 4096 → ℝ) (d : ℕ → Fin 128 → Fin 2048 → ℝ) (g b : Fin 2048 → ℝ)
    (w : Fin 8 → Fin 128 → Fin 128 → ℝ) (bs : Fin 8 → Fin 128 → ℝ) : Prop where
  hx : ∀ (t : Fin cfg0.N) (r : Fin 128) (k : Fin 4096), (iblk m c 0 t : FVec Ideal S128x4096 .f32) (ix2 r k) = ((x t.val r k : ℝ) : EReal)
  hd : ∀ (t : Fin cfg0.N) (r : Fin 128) (j : Fin 2048), (iblk m c 1 t : FVec Ideal S128x2048 .bf16) (ix2 r j) = ((d t.val r j : ℝ) : EReal)
  hg : ∀ (t : Fin cfg0.N) (j : Fin 2048), (iblk m c 2 t : FVec Ideal S1x2048 .f32) (ix2 0 j) = ((g j : ℝ) : EReal)
  hb : ∀ (t : Fin cfg0.N) (j : Fin 2048), (iblk m c 3 t : FVec Ideal S1x2048 .f32) (ix2 0 j) = ((b j : ℝ) : EReal)
  hw : ∀ (t : Fin cfg0.N) (e : Fin 8) (p q : Fin 128), (iblk m c 4 t : FVec Ideal S8x128x128 .f32) (ix3 e p q) = ((w e p q : ℝ) : EReal)
  hbs : ∀ (t : Fin cfg0.N) (p : Fin 128) (e : Fin 8), (iblk m c 5 t : FVec Ideal S128x8 .f32) (ix2 p e) = ((bs e p : ℝ) : EReal)

variable {m} {c : Dev nD} {x : ℕ → Fin 128 → Fin 4096 → ℝ} {d : ℕ → Fin 128 → Fin 2048 → ℝ} {g b : Fin 2048 → ℝ}
  {w : Fin 8 → Fin 128 → Fin 128 → ℝ} {bs : Fin 8 → Fin 128 → ℝ} (H : Fin6 m c x d g b w bs)
include H

theorem dpreA (t : Fin cfg0.N) (h : t.val % 32 = 0) (r : Fin 128) (k : Fin 4096) :
    ((outsAt0 m c t.val t.isLt).1 : FVec Ideal S128x4096 .bf16) (ix2 r k)
      = ((dpre (x t.val) (d t.val) g b w bs r k : ℝ) : EReal) := by
  rw [outsAt0_A m c t h]
  frame_open
  simp (disch := decide) only [↓ View.readCov_skip, ↓ View.readCov_fill]
  frame_out
  refine dpre_at (x t.val) (d t.val) g b w bs _ (fun r j => vhat_at _ _ (H.hx t) r j) _ (fun r j => ?q) _ (fun r k => ?x) _ (fun k => ?g)
    _ (fun r k => cdf_at _ _ (H.hx t) r k) _ (fun r => rstd_at _ _ (H.hx t) r) _ (fun r j => ?u) r k
  case q =>
    exact dvn8_at (x t.val) (d t.val) w _ _ _ _ _ _ _ _ _ _
      (fun p q => wm_at w _ 0 (fun p q => by simp only [Memref.IsWhole.read_unread]; pointwise; exact H.hw t 0 p q) p q)
      (fun p q => wm_at w _ 1 (fun p q => by simp only [Memref.IsWhole.read_unread]; pointwise; exact H.hw t 1 p q) p q)
      (fun p q => wm_at w _ 2 (fun p q => by simp only [Memref.IsWhole.read_unread]; pointwise; exact H.hw t 2 p q) p q)
      (fun p q => wm_at w _ 3 (fun p q => by simp only [Memref.IsWhole.read_unread]; pointwise; exact H.hw t 3 p q) p q)
      (fun p q => wm_at w _ 4 (fun p q => by simp only [Memref.IsWhole.read_unread]; pointwise; exact H.hw t 4 p q) p q)
      (fun p q => wm_at w _ 5 (fun p q => by simp only [Memref.IsWhole.read_unread]; pointwise; exact H.hw t 5 p q) p q)
      (fun p q => wm_at w _ 6 (fun p q => by simp only [Memref.IsWhole.read_unread]; pointwise; exact H.hw t 6 p q) p q)
      (fun p q => wm_at w _ 7 (fun p q => by simp only [Memref.IsWhole.read_unread]; pointwise; exact H.hw t 7 p q) p q)
      (fun p q => by simp (disch := decide) only [Memref.IsWhole.read_unread, View.ld_unit_lit']; exact H.hd t p q)
      (fun p q => by simp (disch := decide) only [Memref.IsWhole.read_unread, View.ld_unit_lit']; exact u_at _ _ (H.hx t) p q) _ _ _ _ _ _ _ _ _ _ r j
  case x => pointwise [k0_pay6, H.hx t]
  case g => pointwise [k0_pay7, H.hg t]
  case u =>
    exact du8_at (x t.val) (d t.val) g b w bs _ _ _ _ _ _ _ _ _ _ _ _ _ _ _ _ _ _
      (fun p q => wm_at w _ 0 (fun p q => by simp only [Memref.IsWhole.read_unread]; pointwise; exact H.hw t 0 p q) p q)
      (fun p q => wm_at w _ 1 (fun p q => by simp only [Memref.IsWhole.read_unread]; pointwise; exact H.hw t 1 p q) p q)
      (fun p q => wm_at w _ 2 (fun p q => by simp only [Memref.IsWhole.read_unread]; pointwise; exact H.hw t 2 p q) p q)
      (fun p q => wm_at w _ 3 (fun p q => by simp only [Memref.IsWhole.read_unread]; pointwise; exact H.hw t 3 p q) p q)
      (fun p q => wm_at w _ 4 (fun p q => by simp only [Memref.IsWhole.read_unread]; pointwise; exact H.hw t 4 p q) p q)
      (fun p q => wm_at w _ 5 (fun p q => by simp only [Memref.IsWhole.read_unread]; pointwise; exact H.hw t 5 p q) p q)
      (fun p q => wm_at w _ 6 (fun p q => by simp only [Memref.IsWhole.read_unread]; pointwise; exact H.hw t 6 p q) p q)
      (fun p q => wm_at w _ 7 (fun p q => by simp only [Memref.IsWhole.read_unread]; pointwise; exact H.hw t 7 p q) p q)
      (fun p q => by simp (disch := decide) only [Memref.IsWhole.read_unread, View.ld_unit_lit']; exact vn_at _ _ _ _ (H.hx t) _ _ (H.hg t) (H.hb t) p q)
      (fun p => by simp only [Memref.IsWhole.read_unread]; pointwise; exact H.hbs t p 0)
      (fun p => by simp only [Memref.IsWhole.read_unread]; pointwise; exact H.hbs t p 1)
      (fun p => by simp only [Memref.IsWhole.read_unread]; pointwise; exact H.hbs t p 2)
      (fun p => by simp only [Memref.IsWhole.read_unread]; pointwise; exact H.hbs t p 3)
      (fun p => by simp only [Memref.IsWhole.read_unread]; pointwise; exact H.hbs t p 4)
      (fun p => by simp only [Memref.IsWhole.read_unread]; pointwise; exact H.hbs t p 5)
      (fun p => by simp only [Memref.IsWhole.read_unread]; pointwise; exact H.hbs t p 6)
      (fun p => by simp only [Memref.IsWhole.read_unread]; pointwise; exact H.hbs t p 7)
      (fun p q => by simp (disch := decide) only [Memref.IsWhole.read_unread, View.ld_unit_lit']; exact H.hd t p q) _ _ _ _ _ _ _ _ _ _ _ r j

theorem dpreB (t : Fin cfg0.N) (h : ¬t.val % 32 = 0) (r : Fin 128) (k : Fin 4096) :
    ((outsAt0 m c t.val t.isLt).1 : FVec Ideal S128x4096 .bf16) (ix2 r k)
      = ((dpre (x t.val) (d t.val) g b w bs r k : ℝ) : EReal) := by
  rw [outsAt0_B m c t h]
  frame_open
  simp (disch := decide) only [↓ View.readCov_skip, ↓ View.readCov_fill]
  frame_out
  refine dpre_at (x t.val) (d t.val) g b w bs _ (fun r j => vhat_at _ _ (H.hx t) r j) _ (fun r j => ?q) _ (fun r k => ?x) _ (fun k => ?g)
    _ (fun r k => cdf_at _ _ (H.hx t) r k) _ (fun r => rstd_at _ _ (H.hx t) r) _ (fun r j => ?u) r k
  case q =>
    exact dvn8_at (x t.val) (d t.val) w _ _ _ _ _ _ _ _ _ _
      (fun p q => wm_at w _ 0 (fun p q => by simp only [Memref.IsWhole.read_unread]; pointwise; exact H.hw t 0 p q) p q)
      (fun p q => wm_at w _ 1 (fun p q => by simp only [Memref.IsWhole.read_unread]; pointwise; exact H.hw t 1 p q) p q)
      (fun p q => wm_at w _ 2 (fun p q => by simp only [Memref.IsWhole.read_unread]; pointwise; exact H.hw t 2 p q) p q)
      (fun p q => wm_at w _ 3 (fun p q => by simp only [Memref.IsWhole.read_unread]; pointwise; exact H.hw t 3 p q) p q)
      (fun p q => wm_at w _ 4 (fun p q => by simp only [Memref.IsWhole.read_unread]; pointwise; exact H.hw t 4 p q) p q)
      (fun p q => wm_at w _ 5 (fun p q => by simp only [Memref.IsWhole.read_unread]; pointwise; exact H.hw t 5 p q) p q)
      (fun p q => wm_at w _ 6 (fun p q => by simp only [Memref.IsWhole.read_unread]; pointwise; exact H.hw t 6 p q) p q)
      (fun p q => wm_at w _ 7 (fun p q => by simp only [Memref.IsWhole.read_unread]; pointwise; exact H.hw t 7 p q) p q)
      (fun p q => by simp (disch := decide) only [Memref.IsWhole.read_unread, View.ld_unit_lit']; exact H.hd t p q)
      (fun p q => by simp (disch := decide) only [Memref.IsWhole.read_unread, View.ld_unit_lit']; exact u_at _ _ (H.hx t) p q) _ _ _ _ _ _ _ _ _ _ r j
  case x => pointwise [k0_pay6, H.hx t]
  case g => pointwise [k0_pay7, H.hg t]
  case u =>
    exact du8_at (x t.val) (d t.val) g b w bs _ _ _ _ _ _ _ _ _ _ _ _ _ _ _ _ _ _
      (fun p q => wm_at w _ 0 (fun p q => by simp only [Memref.IsWhole.read_unread]; pointwise; exact H.hw t 0 p q) p q)
      (fun p q => wm_at w _ 1 (fun p q => by simp only [Memref.IsWhole.read_unread]; pointwise; exact H.hw t 1 p q) p q)
      (fun p q => wm_at w _ 2 (fun p q => by simp only [Memref.IsWhole.read_unread]; pointwise; exact H.hw t 2 p q) p q)
      (fun p q => wm_at w _ 3 (fun p q => by simp only [Memref.IsWhole.read_unread]; pointwise; exact H.hw t 3 p q) p q)
      (fun p q => wm_at w _ 4 (fun p q => by simp only [Memref.IsWhole.read_unread]; pointwise; exact H.hw t 4 p q) p q)
      (fun p q => wm_at w _ 5 (fun p q => by simp only [Memref.IsWhole.read_unread]; pointwise; exact H.hw t 5 p q) p q)
      (fun p q => wm_at w _ 6 (fun p q => by simp only [Memref.IsWhole.read_unread]; pointwise; exact H.hw t 6 p q) p q)
      (fun p q => wm_at w _ 7 (fun p q => by simp only [Memref.IsWhole.read_unread]; pointwise; exact H.hw t 7 p q) p q)
      (fun p q => by simp (disch := decide) only [Memref.IsWhole.read_unread, View.ld_unit_lit']; exact vn_at _ _ _ _ (H.hx t) _ _ (H.hg t) (H.hb t) p q)
      (fun p => by simp only [Memref.IsWhole.read_unread]; pointwise; exact H.hbs t p 0)
      (fun p => by simp only [Memref.IsWhole.read_unread]; pointwise; exact H.hbs t p 1)
      (fun p => by simp only [Memref.IsWhole.read_unread]; pointwise; exact H.hbs t p 2)
      (fun p => by simp only [Memref.IsWhole.read_unread]; pointwise; exact H.hbs t p 3)
      (fun p => by simp only [Memref.IsWhole.read_unread]; pointwise; exact H.hbs t p 4)
      (fun p => by simp only [Memref.IsWhole.read_unread]; pointwise; exact H.hbs t p 5)
      (fun p => by simp only [Memref.IsWhole.read_unread]; pointwise; exact H.hbs t p 6)
      (fun p => by simp only [Memref.IsWhole.read_unread]; pointwise; exact H.hbs t p 7)
      (fun p q => by simp (disch := decide) only [Memref.IsWhole.read_unread, View.ld_unit_lit']; exact H.hd t p q) _ _ _ _ _ _ _ _ _ _ _ r j

theorem dwA (t : Fin cfg0.N) (h : t.val % 32 = 0) (e : Fin 8) (p q : Fin 128) :
    ((outsAt0 m c t.val t.isLt).2.1 : FVec Ideal S8x128x128 .f32) (ix3 e p q)
      = (0 : EReal) + ((dw (x t.val) (d t.val) g b e p q : ℝ) : EReal) := by
  rw [outsAt0_A m c t h]
  frame_open
  simp (disch := decide) only [↓ View.readCov_skip, ↓ View.readCov_fill]
  frame_out
  refine View.canon_append_of_piecesOf (s := S8x128x128) (e := .f32) (Val := Elt Ideal) (fun i => (0 : EReal) + ((dw (x t.val) (d t.val) g b (i 0) (i 1) (i 2) : ℝ) : EReal) : FVec Ideal S8x128x128 .f32) [_] [_, _, _, _, _, _, _, _]
    ⟨?_, ?_, ?_, ?_, ?_, ?_, ?_, ?_, trivial⟩ _ ?_
  · intro i
    obtain ⟨z, p, q, rfl⟩ : ∃ (z : Fin 1) (p q : Fin 128), i = ix3 z p q := ⟨i 0, i 1, i 2, eq_ix3 i⟩
    refine (dw_at (x t.val) (d t.val) g b 1792 7 rfl _ _ _ _ _ (fun p q => ?_) (fun p q => H.hd t p q) (fun p q => u_at _ _ (H.hx t) p q) _ _ _ z p q).trans ?_
    · exact vn_at _ _ _ _ (H.hx t) _ _ (H.hg t) (H.hb t) p q
    obtain rfl : z = 0 := Subsingleton.elim _ _
    refine congrArg₂ (fun a b : EReal => a + b) ?l (congrArg _ (congr (congrArg₂ (dw (x t.val) (d t.val) g b) (Fin.ext ?a) (Fin.ext ?b)) (Fin.ext ?c)))
    case l => first | rfl | pointwise [k0_pay1]
    case a => exact Eq.symm (emb_val _ _ (by decide) _ _ _ (by simp))
    case b => exact Eq.symm (emb_val _ _ (by decide) _ _ _ (by simp))
    case c => exact Eq.symm (emb_val _ _ (by decide) _ _ _ (by simp))
  · intro i
    obtain ⟨z, p, q, rfl⟩ : ∃ (z : Fin 1) (p q : Fin 128), i = ix3 z p q := ⟨i 0, i 1, i 2, eq_ix3 i⟩
    refine (dw_at (x t.val) (d t.val) g b 1536 6 rfl _ _ _ _ _ (fun p q => ?_) (fun p q => H.hd t p q) (fun p q => u_at _ _ (H.hx t) p q) _ _ _ z p q).trans ?_
    · exact vn_at _ _ _ _ (H.hx t) _ _ (H.hg t) (H.hb t) p q
    obtain rfl : z = 0 := Subsingleton.elim _ _
    refine congrArg₂ (fun a b : EReal => a + b) ?l (congrArg _ (congr (congrArg₂ (dw (x t.val) (d t.val) g b) (Fin.ext ?a) (Fin.ext ?b)) (Fin.ext ?c)))
    case l => first | rfl | pointwise [k0_pay1]
    case a => exact Eq.symm (emb_val _ _ (by decide) _ _ _ (by simp))
    case b => exact Eq.symm (emb_val _ _ (by decide) _ _ _ (by simp))
    case c => exact Eq.symm (emb_val _ _ (by decide) _ _ _ (by simp))
  · intro i
    obtain ⟨z, p, q, rfl⟩ : ∃ (z : Fin 1) (p q : Fin 128), i = ix3 z p q := ⟨i 0, i 1, i 2, eq_ix3 i⟩
    refine (dw_at (x t.val) (d t.val) g b 1280 5 rfl _ _ _ _ _ (fun p q => ?_) (fun p q => H.hd t p q) (fun p q => u_at _ _ (H.hx t) p q) _ _ _ z p q).trans ?_
    · exact vn_at _ _ _ _ (H.hx t) _ _ (H.hg t) (H.hb t) p q
    obtain rfl : z = 0 := Subsingleton.elim _ _
    refine congrArg₂ (fun a b : EReal => a + b) ?l (congrArg _ (congr (congrArg₂ (dw (x t.val) (d t.val) g b) (Fin.ext ?a) (Fin.ext ?b)) (Fin.ext ?c)))
    case l => first | rfl | pointwise [k0_pay1]
    case a => exact Eq.symm (emb_val _ _ (by decide) _ _ _ (by simp))
    case b => exact Eq.symm (emb_val _ _ (by decide) _ _ _ (by simp))
    case c => exact Eq.symm (emb_val _ _ (by decide) _ _ _ (by simp))
  · intro i
    obtain ⟨z, p, q, rfl⟩ : ∃ (z : Fin 1) (p q : Fin 128), i = ix3 z p q := ⟨i 0, i 1, i 2, eq_ix3 i⟩
    refine (dw_at (x t.val) (d t.val) g b 1024 4 rfl _ _ _ _ _ (fun p q => ?_) (fun p q => H.hd t p q) (fun p q => u_at _ _ (H.hx t) p q) _ _ _ z p q).trans ?_
    · exact vn_at _ _ _ _ (H.hx t) _ _ (H.hg t) (H.hb t) p q
    obtain rfl : z = 0 := Subsingleton.elim _ _
    refine congrArg₂ (fun a b : EReal => a + b) ?l (congrArg _ (congr (congrArg₂ (dw (x t.val) (d t.val) g b) (Fin.ext ?a) (Fin.ext ?b)) (Fin.ext ?c)))
    case l => first | rfl | pointwise [k0_pay1]
    case a => exact Eq.symm (emb_val _ _ (by decide) _ _ _ (by simp))
    case b => exact Eq.symm (emb_val _ _ (by decide) _ _ _ (by simp))
    case c => exact Eq.symm (emb_val _ _ (by decide) _ _ _ (by simp))
  · intro i
    obtain ⟨z, p, q, rfl⟩ : ∃ (z : Fin 1) (p q : Fin 128), i = ix3 z p q := ⟨i 0, i 1, i 2, eq_ix3 i⟩
    refine (dw_at (x t.val) (d t.val) g b 768 3 rfl _ _ _ _ _ (fun p q => ?_) (fun p q => H.hd t p q) (fun p q => u_at _ _ (H.hx t) p q) _ _ _ z p q).trans ?_
    · exact vn_at _ _ _ _ (H.hx t) _ _ (H.hg t) (H.hb t) p q
    obtain rfl : z = 0 := Subsingleton.elim _ _
    refine congrArg₂ (fun a b : EReal => a + b) ?l (congrArg _ (congr (congrArg₂ (dw (x t.val) (d t.val) g b) (Fin.ext ?a) (Fin.ext ?b)) (Fin.ext ?c)))
    case l => first | rfl | pointwise [k0_pay1]
    case a => exact Eq.symm (emb_val _ _ (by decide) _ _ _ (by simp))
    case b => exact Eq.symm (emb_val _ _ (by decide) _ _ _ (by simp))
    case c => exact Eq.symm (emb_val _ _ (by decide) _ _ _ (by simp))
  · intro i
    obtain ⟨z, p, q, rfl⟩ : ∃ (z : Fin 1) (p q : Fin 128), i = ix3 z p q := ⟨i 0, i 1, i 2, eq_ix3 i⟩
    refine (dw_at (x t.val) (d t.val) g b 512 2 rfl _ _ _ _ _ (fun p q => ?_) (fun p q => H.hd t p q) (fun p q => u_at _ _ (H.hx t) p q) _ _ _ z p q).trans ?_
    · exact vn_at _ _ _ _ (H.hx t) _ _ (H.hg t) (H.hb t) p q
    obtain rfl : z = 0 := Subsingleton.elim _ _
    refine congrArg₂ (fun a b : EReal => a + b) ?l (congrArg _ (congr (congrArg₂ (dw (x t.val) (d t.val) g b) (Fin.ext ?a) (Fin.ext ?b)) (Fin.ext ?c)))
    case l => first | rfl | pointwise [k0_pay1]
    case a => exact Eq.symm (emb_val _ _ (by decide) _ _ _ (by simp))
    case b => exact Eq.symm (emb_val _ _ (by decide) _ _ _ (by simp))
    case c => exact Eq.symm (emb_val _ _ (by decide) _ _ _ (by simp))
  · intro i
    obtain ⟨z, p, q, rfl⟩ : ∃ (z : Fin 1) (p q : Fin 128), i = ix3 z p q := ⟨i 0, i 1, i 2, eq_ix3 i⟩
    refine (dw_at (x t.val) (d t.val) g b 256 1 rfl _ _ _ _ _ (fun p q => ?_) (fun p q => H.hd t p q) (fun p q => u_at _ _ (H.hx t) p q) _ _ _ z p q).trans ?_
    · exact vn_at _ _ _ _ (H.hx t) _ _ (H.hg t) (H.hb t) p q
    obtain rfl : z = 0 := Subsingleton.elim _ _
    refine congrArg₂ (fun a b : EReal => a + b) ?l (congrArg _ (congr (congrArg₂ (dw (x t.val) (d t.val) g b) (Fin.ext ?a) (Fin.ext ?b)) (Fin.ext ?c)))
    case l => first | rfl | pointwise [k0_pay1]
    case a => exact Eq.symm (emb_val _ _ (by decide) _ _ _ (by simp))
    case b => exact Eq.symm (emb_val _ _ (by decide) _ _ _ (by simp))
    case c => exact Eq.symm (emb_val _ _ (by decide) _ _ _ (by simp))
  · intro i
    obtain ⟨z, p, q, rfl⟩ : ∃ (z : Fin 1) (p q : Fin 128), i = ix3 z p q := ⟨i 0, i 1, i 2, eq_ix3 i⟩
    refine (dw_at (x t.val) (d t.val) g b 0 0 rfl _ _ _ _ _ (fun p q => ?_) (fun p q => H.hd t p q) (fun p q => u_at _ _ (H.hx t) p q) _ _ _ z p q).trans ?_
    · exact vn_at _ _ _ _ (H.hx t) _ _ (H.hg t) (H.hb t) p q
    obtain rfl : z = 0 := Subsingleton.elim _ _
    refine congrArg₂ (fun a b : EReal => a + b) ?l (congrArg _ (congr (congrArg₂ (dw (x t.val) (d t.val) g b) (Fin.ext ?a) (Fin.ext ?b)) (Fin.ext ?c)))
    case l => first | rfl | pointwise [k0_pay1]
    case a => exact Eq.symm (emb_val _ _ (by decide) _ _ _ (by simp))
    case b => exact Eq.symm (emb_val _ _ (by decide) _ _ _ (by simp))
    case c => exact Eq.symm (emb_val _ _ (by decide) _ _ _ (by simp))
  fin_cases e
  · exact ⟨_, List.Mem.tail _ (List.Mem.tail _ (List.Mem.tail _ (List.Mem.tail _ (List.Mem.tail _ (List.Mem.tail _ (List.Mem.tail _ (List.Mem.head _))))))), mem7 0 p q (by decide)⟩
  · exact ⟨_, List.Mem.tail _ (List.Mem.tail _ (List.Mem.tail _ (List.Mem.tail _ (List.Mem.tail _ (List.Mem.tail _ (List.Mem.head _)))))), mem7 1 p q (by decide)⟩
  · exact ⟨_, List.Mem.tail _ (List.Mem.tail _ (List.Mem.tail _ (List.Mem.tail _ (List.Mem.tail _ (List.Mem.head _))))), mem7 2 p q (by decide)⟩
  · exact ⟨_, List.Mem.tail _ (List.Mem.tail _ (List.Mem.tail _ (List.Mem.tail _ (List.Mem.head _)))), mem7 3 p q (by decide)⟩
  · exact ⟨_, List.Mem.tail _ (List.Mem.tail _ (List.Mem.tail _ (List.Mem.head _))), mem7 4 p q (by decide)⟩
  · exact ⟨_, List.Mem.tail _ (List.Mem.tail _ (List.Mem.head _)), mem7 5 p q (by decide)⟩
  · exact ⟨_, List.Mem.tail _ (List.Mem.head _), mem7 6 p q (by decide)⟩
  · exact ⟨_, List.Mem.head _, mem7 7 p q (by decide)⟩

theorem dwB (t : Fin cfg0.N) (h : ¬t.val % 32 = 0) (e : Fin 8) (p q : Fin 128) :
    ((outsAt0 m c t.val t.isLt).2.1 : FVec Ideal S8x128x128 .f32) (ix3 e p q)
      = ((outsAt0 m c (t.val - 1) (Nat.lt_of_le_of_lt (Nat.sub_le _ _) t.isLt)).2.1 : FVec Ideal S8x128x128 .f32) (ix3 e p q)
        + ((dw (x t.val) (d t.val) g b e p q : ℝ) : EReal) := by
  rw [outsAt0_B m c t h]
  frame_open
  simp (disch := decide) only [↓ View.readCov_skip, ↓ View.readCov_fill]
  frame_out
  refine View.canon_append_of_piecesOf (s := S8x128x128) (e := .f32) (Val := Elt Ideal) (fun i => ((outsAt0 m c (t.val - 1) (Nat.lt_of_le_of_lt (Nat.sub_le _ _) t.isLt)).2.1 : FVec Ideal S8x128x128 .f32) i + ((dw (x t.val) (d t.val) g b (i 0) (i 1) (i 2) : ℝ) : EReal) : FVec Ideal S8x128x128 .f32) [] [_, _, _, _, _, _, _, _]
    ⟨?_, ?_, ?_, ?_, ?_, ?_, ?_, ?_, trivial⟩ _ ?_
  · intro i
    obtain ⟨z, p, q, rfl⟩ : ∃ (z : Fin 1) (p q : Fin 128), i = ix3 z p q := ⟨i 0, i 1, i 2, eq_ix3 i⟩
    refine (dw_at (x t.val) (d t.val) g b 1792 7 rfl _ _ _ _ _ (fun p q => ?_) (fun p q => H.hd t p q) (fun p q => u_at _ _ (H.hx t) p q) _ _ _ z p q).trans ?_
    · exact vn_at _ _ _ _ (H.hx t) _ _ (H.hg t) (H.hb t) p q
    obtain rfl : z = 0 := Subsingleton.elim _ _
    refine congrArg₂ (fun a b : EReal => a + b) ?l (congrArg _ (congr (congrArg₂ (dw (x t.val) (d t.val) g b) (Fin.ext ?a) (Fin.ext ?b)) (Fin.ext ?c)))
    case l => first | rfl | pointwise [k0_pay1]
    case a => exact Eq.symm (emb_val _ _ (by decide) _ _ _ (by simp))
    case b => exact Eq.symm (emb_val _ _ (by decide) _ _ _ (by simp))
    case c => exact Eq.symm (emb_val _ _ (by decide) _ _ _ (by simp))
  · intro i
    obtain ⟨z, p, q, rfl⟩ : ∃ (z : Fin 1) (p q : Fin 128), i = ix3 z p q := ⟨i 0, i 1, i 2, eq_ix3 i⟩
    refine (dw_at (x t.val) (d t.val) g b 1536 6 rfl _ _ _ _ _ (fun p q => ?_) (fun p q => H.hd t p q) (fun p q => u_at _ _ (H.hx t) p q) _ _ _ z p q).trans ?_
    · exact vn_at _ _ _ _ (H.hx t) _ _ (H.hg t) (H.hb t) p q
    obtain rfl : z = 0 := Subsingleton.elim _ _
    refine congrArg₂ (fun a b : EReal => a + b) ?l (congrArg _ (congr (congrArg₂ (dw (x t.val) (d t.val) g b) (Fin.ext ?a) (Fin.ext ?b)) (Fin.ext ?c)))
    case l => first | rfl | pointwise [k0_pay1]
    case a => exact Eq.symm (emb_val _ _ (by decide) _ _ _ (by simp))
    case b => exact Eq.symm (emb_val _ _ (by decide) _ _ _ (by simp))
    case c => exact Eq.symm (emb_val _ _ (by decide) _ _ _ (by simp))
  · intro i
    obtain ⟨z, p, q, rfl⟩ : ∃ (z : Fin 1) (p q : Fin 128), i = ix3 z p q := ⟨i 0, i 1, i 2, eq_ix3 i⟩
    refine (dw_at (x t.val) (d t.val) g b 1280 5 rfl _ _ _ _ _ (fun p q => ?_) (fun p q => H.hd t p q) (fun p q => u_at _ _ (H.hx t) p q) _ _ _ z p q).trans ?_
    · exact vn_at _ _ _ _ (H.hx t) _ _ (H.hg t) (H.hb t) p q
    obtain rfl : z = 0 := Subsingleton.elim _ _
    refine congrArg₂ (fun a b : EReal => a + b) ?l (congrArg _ (congr (congrArg₂ (dw (x t.val) (d t.val) g b) (Fin.ext ?a) (Fin.ext ?b)) (Fin.ext ?c)))
    case l => first | rfl | pointwise [k0_pay1]
    case a => exact Eq.symm (emb_val _ _ (by decide) _ _ _ (by simp))
    case b => exact Eq.symm (emb_val _ _ (by decide) _ _ _ (by simp))
    case c => exact Eq.symm (emb_val _ _ (by decide) _ _ _ (by simp))
  · intro i
    obtain ⟨z, p, q, rfl⟩ : ∃ (z : Fin 1) (p q : Fin 128), i = ix3 z p q := ⟨i 0, i 1, i 2, eq_ix3 i⟩
    refine (dw_at (x t.val) (d t.val) g b 1024 4 rfl _ _ _ _ _ (fun p q => ?_) (fun p q => H.hd t p q) (fun p q => u_at _ _ (H.hx t) p q) _ _ _ z p q).trans ?_
    · exact vn_at _ _ _ _ (H.hx t) _ _ (H.hg t) (H.hb t) p q
    obtain rfl : z = 0 := Subsingleton.elim _ _
    refine congrArg₂ (fun a b : EReal => a + b) ?l (congrArg _ (congr (congrArg₂ (dw (x t.val) (d t.val) g b) (Fin.ext ?a) (Fin.ext ?b)) (Fin.ext ?c)))
    case l => first | rfl | pointwise [k0_pay1]
    case a => exact Eq.symm (emb_val _ _ (by decide) _ _ _ (by simp))
    case b => exact Eq.symm (emb_val _ _ (by decide) _ _ _ (by simp))
    case c => exact Eq.symm (emb_val _ _ (by decide) _ _ _ (by simp))
  · intro i
    obtain ⟨z, p, q, rfl⟩ : ∃ (z : Fin 1) (p q : Fin 128), i = ix3 z p q := ⟨i 0, i 1, i 2, eq_ix3 i⟩
    refine (dw_at (x t.val) (d t.val) g b 768 3 rfl _ _ _ _ _ (fun p q => ?_) (fun p q => H.hd t p q) (fun p q => u_at _ _ (H.hx t) p q) _ _ _ z p q).trans ?_
    · exact vn_at _ _ _ _ (H.hx t) _ _ (H.hg t) (H.hb t) p q
    obtain rfl : z = 0 := Subsingleton.elim _ _
    refine congrArg₂ (fun a b : EReal => a + b) ?l (congrArg _ (congr (congrArg₂ (dw (x t.val) (d t.val) g b) (Fin.ext ?a) (Fin.ext ?b)) (Fin.ext ?c)))
    case l => first | rfl | pointwise [k0_pay1]
    case a => exact Eq.symm (emb_val _ _ (by decide) _ _ _ (by simp))
    case b => exact Eq.symm (emb_val _ _ (by decide) _ _ _ (by simp))
    case c => exact Eq.symm (emb_val _ _ (by decide) _ _ _ (by simp))
  · intro i
    obtain ⟨z, p, q, rfl⟩ : ∃ (z : Fin 1) (p q : Fin 128), i = ix3 z p q := ⟨i 0, i 1, i 2, eq_ix3 i⟩
    refine (dw_at (x t.val) (d t.val) g b 512 2 rfl _ _ _ _ _ (fun p q => ?_) (fun p q => H.hd t p q) (fun p q => u_at _ _ (H.hx t) p q) _ _ _ z p q).trans ?_
    · exact vn_at _ _ _ _ (H.hx t) _ _ (H.hg t) (H.hb t) p q
    obtain rfl : z = 0 := Subsingleton.elim _ _
    refine congrArg₂ (fun a b : EReal => a + b) ?l (congrArg _ (congr (congrArg₂ (dw (x t.val) (d t.val) g b) (Fin.ext ?a) (Fin.ext ?b)) (Fin.ext ?c)))
    case l => first | rfl | pointwise [k0_pay1]
    case a => exact Eq.symm (emb_val _ _ (by decide) _ _ _ (by simp))
    case b => exact Eq.symm (emb_val _ _ (by decide) _ _ _ (by simp))
    case c => exact Eq.symm (emb_val _ _ (by decide) _ _ _ (by simp))
  · intro i
    obtain ⟨z, p, q, rfl⟩ : ∃ (z : Fin 1) (p q : Fin 128), i = ix3 z p q := ⟨i 0, i 1, i 2, eq_ix3 i⟩
    refine (dw_at (x t.val) (d t.val) g b 256 1 rfl _ _ _ _ _ (fun p q => ?_) (fun p q => H.hd t p q) (fun p q => u_at _ _ (H.hx t) p q) _ _ _ z p q).trans ?_
    · exact vn_at _ _ _ _ (H.hx t) _ _ (H.hg t) (H.hb t) p q
    obtain rfl : z = 0 := Subsingleton.elim _ _
    refine congrArg₂ (fun a b : EReal => a + b) ?l (congrArg _ (congr (congrArg₂ (dw (x t.val) (d t.val) g b) (Fin.ext ?a) (Fin.ext ?b)) (Fin.ext ?c)))
    case l => first | rfl | pointwise [k0_pay1]
    case a => exact Eq.symm (emb_val _ _ (by decide) _ _ _ (by simp))
    case b => exact Eq.symm (emb_val _ _ (by decide) _ _ _ (by simp))
    case c => exact Eq.symm (emb_val _ _ (by decide) _ _ _ (by simp))
  · intro i
    obtain ⟨z, p, q, rfl⟩ : ∃ (z : Fin 1) (p q : Fin 128), i = ix3 z p q := ⟨i 0, i 1, i 2, eq_ix3 i⟩
    refine (dw_at (x t.val) (d t.val) g b 0 0 rfl _ _ _ _ _ (fun p q => ?_) (fun p q => H.hd t p q) (fun p q => u_at _ _ (H.hx t) p q) _ _ _ z p q).trans ?_
    · exact vn_at _ _ _ _ (H.hx t) _ _ (H.hg t) (H.hb t) p q
    obtain rfl : z = 0 := Subsingleton.elim _ _
    refine congrArg₂ (fun a b : EReal => a + b) ?l (congrArg _ (congr (congrArg₂ (dw (x t.val) (d t.val) g b) (Fin.ext ?a) (Fin.ext ?b)) (Fin.ext ?c)))
    case l => first | rfl | pointwise [k0_pay1]
    case a => exact Eq.symm (emb_val _ _ (by decide) _ _ _ (by simp))
    case b => exact Eq.symm (emb_val _ _ (by decide) _ _ _ (by simp))
    case c => exact Eq.symm (emb_val _ _ (by decide) _ _ _ (by simp))
  fin_cases e
  · exact ⟨_, List.Mem.tail _ (List.Mem.tail _ (List.Mem.tail _ (List.Mem.tail _ (List.Mem.tail _ (List.Mem.tail _ (List.Mem.tail _ (List.Mem.head _))))))), mem7 0 p q (by decide)⟩
  · exact ⟨_, List.Mem.tail _ (List.Mem.tail _ (List.Mem.tail _ (List.Mem.tail _ (List.Mem.tail _ (List.Mem.tail _ (List.Mem.head _)))))), mem7 1 p q (by decide)⟩
  · exact ⟨_, List.Mem.tail _ (List.Mem.tail _ (List.Mem.tail _ (List.Mem.tail _ (List.Mem.tail _ (List.Mem.head _))))), mem7 2 p q (by decide)⟩
  · exact ⟨_, List.Mem.tail _ (List.Mem.tail _ (List.Mem.tail _ (List.Mem.tail _ (List.Mem.head _)))), mem7 3 p q (by decide)⟩
  · exact ⟨_, List.Mem.tail _ (List.Mem.tail _ (List.Mem.tail _ (List.Mem.head _))), mem7 4 p q (by decide)⟩
  · exact ⟨_, List.Mem.tail _ (List.Mem.tail _ (List.Mem.head _)), mem7 5 p q (by decide)⟩
  · exact ⟨_, List.Mem.tail _ (List.Mem.head _), mem7 6 p q (by decide)⟩
  · exact ⟨_, List.Mem.head _, mem7 7 p q (by decide)⟩

theorem dbsA (t : Fin cfg0.N) (h : t.val % 32 = 0) (p : Fin 128) (e : Fin 8) :
    ((outsAt0 m c t.val t.isLt).2.2.1 : FVec Ideal S128x8 .f32) (ix2 p e)
      = (0 : EReal) + ((dbs (x t.val) (d t.val) p e : ℝ) : EReal) := by
  rw [outsAt0_A m c t h]
  frame_open
  simp (disch := decide) only [↓ View.readCov_skip, ↓ View.readCov_fill]
  frame_out
  refine View.canon_append_of_piecesOf (s := S128x8) (e := .f32) (Val := Elt Ideal) (fun i => (0 : EReal) + ((dbs (x t.val) (d t.val) (i 0) (i 1) : ℝ) : EReal) : FVec Ideal S128x8 .f32) [_] [_, _, _, _, _, _, _, _]
    ⟨?_, ?_, ?_, ?_, ?_, ?_, ?_, ?_, trivial⟩ _ ?_
  · intro i
    obtain ⟨p, z, rfl⟩ : ∃ (p : Fin 128) (z : Fin 1), i = ix2 p z := ⟨i 0, i 1, eq_ix2 i⟩
    refine (dbs_at (x t.val) (d t.val) 1792 7 rfl _ _ _ _ (fun p q => H.hd t p q) (fun p q => u_at _ _ (H.hx t) p q) _ _ _ _ _ p z).trans ?_
    obtain rfl : z = 0 := Subsingleton.elim _ _
    refine congrArg₂ (fun a b : EReal => a + b) ?l (congrArg _ (congrArg₂ (dbs (x t.val) (d t.val)) (Fin.ext ?a) (Fin.ext ?b)))
    case l => first | rfl | pointwise [k0_pay2]
    case a => exact Eq.symm (emb_val _ _ (by decide) _ _ _ (by simp))
    case b => exact Eq.symm (emb_val _ _ (by decide) _ _ _ (by simp))
  · intro i
    obtain ⟨p, z, rfl⟩ : ∃ (p : Fin 128) (z : Fin 1), i = ix2 p z := ⟨i 0, i 1, eq_ix2 i⟩
    refine (dbs_at (x t.val) (d t.val) 1536 6 rfl _ _ _ _ (fun p q => H.hd t p q) (fun p q => u_at _ _ (H.hx t) p q) _ _ _ _ _ p z).trans ?_
    obtain rfl : z = 0 := Subsingleton.elim _ _
    refine congrArg₂ (fun a b : EReal => a + b) ?l (congrArg _ (congrArg₂ (dbs (x t.val) (d t.val)) (Fin.ext ?a) (Fin.ext ?b)))
    case l => first | rfl | pointwise [k0_pay2]
    case a => exact Eq.symm (emb_val _ _ (by decide) _ _ _ (by simp))
    case b => exact Eq.symm (emb_val _ _ (by decide) _ _ _ (by simp))
  · intro i
    obtain ⟨p, z, rfl⟩ : ∃ (p : Fin 128) (z : Fin 1), i = ix2 p z := ⟨i 0, i 1, eq_ix2 i⟩
    refine (dbs_at (x t.val) (d t.val) 1280 5 rfl _ _ _ _ (fun p q => H.hd t p q) (fun p q => u_at _ _ (H.hx t) p q) _ _ _ _ _ p z).trans ?_
    obtain rfl : z = 0 := Subsingleton.elim _ _
    refine congrArg₂ (fun a b : EReal => a + b) ?l (congrArg _ (congrArg₂ (dbs (x t.val) (d t.val)) (Fin.ext ?a) (Fin.ext ?b)))
    case l => first | rfl | pointwise [k0_pay2]
    case a => exact Eq.symm (emb_val _ _ (by decide) _ _ _ (by simp))
    case b => exact Eq.symm (emb_val _ _ (by decide) _ _ _ (by simp))
  · intro i
    obtain ⟨p, z, rfl⟩ : ∃ (p : Fin 128) (z : Fin 1), i = ix2 p z := ⟨i 0, i 1, eq_ix2 i⟩
    refine (dbs_at (x t.val) (d t.val) 1024 4 rfl _ _ _ _ (fun p q => H.hd t p q) (fun p q => u_at _ _ (H.hx t) p q) _ _ _ _ _ p z).trans ?_
    obtain rfl : z = 0 := Subsingleton.elim _ _
    refine congrArg₂ (fun a b : EReal => a + b) ?l (congrArg _ (congrArg₂ (dbs (x t.val) (d t.val)) (Fin.ext ?a) (Fin.ext ?b)))
    case l => first | rfl | pointwise [k0_pay2]
    case a => exact Eq.symm (emb_val _ _ (by decide) _ _ _ (by simp))
    case b => exact Eq.symm (emb_val _ _ (by decide) _ _ _ (by simp))
  · intro i
    obtain ⟨p, z, rfl⟩ : ∃ (p : Fin 128) (z : Fin 1), i = ix2 p z := ⟨i 0, i 1, eq_ix2 i⟩
    refine (dbs_at (x t.val) (d t.val) 768 3 rfl _ _ _ _ (fun p q => H.hd t p q) (fun p q => u_at _ _ (H.hx t) p q) _ _ _ _ _ p z).trans ?_
    obtain rfl : z = 0 := Subsingleton.elim _ _
    refine congrArg₂ (fun a b : EReal => a + b) ?l (congrArg _ (congrArg₂ (dbs (x t.val) (d t.val)) (Fin.ext ?a) (Fin.ext ?b)))
    case l => first | rfl | pointwise [k0_pay2]
    case a => exact Eq.symm (emb_val _ _ (by decide) _ _ _ (by simp))
    case b => exact Eq.symm (emb_val _ _ (by decide) _ _ _ (by simp))
  · intro i
    obtain ⟨p, z, rfl⟩ : ∃ (p : Fin 128) (z : Fin 1), i = ix2 p z := ⟨i 0, i 1, eq_ix2 i⟩
    refine (dbs_at (x t.val) (d t.val) 512 2 rfl _ _ _ _ (fun p q => H.hd t p q) (fun p q => u_at _ _ (H.hx t) p q) _ _ _ _ _ p z).trans ?_
    obtain rfl : z = 0 := Subsingleton.elim _ _
    refine congrArg₂ (fun a b : EReal => a + b) ?l (congrArg _ (congrArg₂ (dbs (x t.val) (d t.val)) (Fin.ext ?a) (Fin.ext ?b)))
    case l => first | rfl | pointwise [k0_pay2]
    case a => exact Eq.symm (emb_val _ _ (by decide) _ _ _ (by simp))
    case b => exact Eq.symm (emb_val _ _ (by decide) _ _ _ (by simp))
  · intro i
    obtain ⟨p, z, rfl⟩ : ∃ (p : Fin 128) (z : Fin 1), i = ix2 p z := ⟨i 0, i 1, eq_ix2 i⟩
    refine (dbs_at (x t.val) (d t.val) 256 1 rfl _ _ _ _ (fun p q => H.hd t p q) (fun p q => u_at _ _ (H.hx t) p q) _ _ _ _ _ p z).trans ?_
    obtain rfl : z = 0 := Subsingleton.elim _ _
    refine congrArg₂ (fun a b : EReal => a + b) ?l (congrArg _ (congrArg₂ (dbs (x t.val) (d t.val)) (Fin.ext ?a) (Fin.ext ?b)))
    case l => first | rfl | pointwise [k0_pay2]
    case a => exact Eq.symm (emb_val _ _ (by decide) _ _ _ (by simp))
    case b => exact Eq.symm (emb_val _ _ (by decide) _ _ _ (by simp))
  · intro i
    obtain ⟨p, z, rfl⟩ : ∃ (p : Fin 128) (z : Fin 1), i = ix2 p z := ⟨i 0, i 1, eq_ix2 i⟩
    refine (dbs_at (x t.val) (d t.val) 0 0 rfl _ _ _ _ (fun p q => H.hd t p q) (fun p q => u_at _ _ (H.hx t) p q) _ _ _ _ _ p z).trans ?_
    obtain rfl : z = 0 := Subsingleton.elim _ _
    refine congrArg₂ (fun a b : EReal => a + b) ?l (congrArg _ (congrArg₂ (dbs (x t.val) (d t.val)) (Fin.ext ?a) (Fin.ext ?b)))
    case l => first | rfl | pointwise [k0_pay2]
    case a => exact Eq.symm (emb_val _ _ (by decide) _ _ _ (by simp))
    case b => exact Eq.symm (emb_val _ _ (by decide) _ _ _ (by simp))
  fin_cases e
  · exact ⟨_, List.Mem.tail _ (List.Mem.tail _ (List.Mem.tail _ (List.Mem.tail _ (List.Mem.tail _ (List.Mem.tail _ (List.Mem.tail _ (List.Mem.head _))))))), mem8 0 p (by decide)⟩
  · exact ⟨_, List.Mem.tail _ (List.Mem.tail _ (List.Mem.tail _ (List.Mem.tail _ (List.Mem.tail _ (List.Mem.tail _ (List.Mem.head _)))))), mem8 1 p (by decide)⟩
  · exact ⟨_, List.Mem.tail _ (List.Mem.tail _ (List.Mem.tail _ (List.Mem.tail _ (List.Mem.tail _ (List.Mem.head _))))), mem8 2 p (by decide)⟩
  · exact ⟨_, List.Mem.tail _ (List.Mem.tail _ (List.Mem.tail _ (List.Mem.tail _ (List.Mem.head _)))), mem8 3 p (by decide)⟩
  · exact ⟨_, List.Mem.tail _ (List.Mem.tail _ (List.Mem.tail _ (List.Mem.head _))), mem8 4 p (by decide)⟩
  · exact ⟨_, List.Mem.tail _ (List.Mem.tail _ (List.Mem.head _)), mem8 5 p (by decide)⟩
  · exact ⟨_, List.Mem.tail _ (List.Mem.head _), mem8 6 p (by decide)⟩
  · exact ⟨_, List.Mem.head _, mem8 7 p (by decide)⟩

theorem dbsB (t : Fin cfg0.N) (h : ¬t.val % 32 = 0) (p : Fin 128) (e : Fin 8) :
    ((outsAt0 m c t.val t.isLt).2.2.1 : FVec Ideal S128x8 .f32) (ix2 p e)
      = ((outsAt0 m c (t.val - 1) (Nat.lt_of_le_of_lt (Nat.sub_le _ _) t.isLt)).2.2.1 : FVec Ideal S128x8 .f32) (ix2 p e)
        + ((dbs (x t.val) (d t.val) p e : ℝ) : EReal) := by
  rw [outsAt0_B m c t h]
  frame_open
  simp (disch := decide) only [↓ View.readCov_skip, ↓ View.readCov_fill]
  frame_out
  refine View.canon_append_of_piecesOf (s := S128x8) (e := .f32) (Val := Elt Ideal) (fun i => ((outsAt0 m c (t.val - 1) (Nat.lt_of_le_of_lt (Nat.sub_le _ _) t.isLt)).2.2.1 : FVec Ideal S128x8 .f32) i + ((dbs (x t.val) (d t.val) (i 0) (i 1) : ℝ) : EReal) : FVec Ideal S128x8 .f32) [] [_, _, _, _, _, _, _, _]
    ⟨?_, ?_, ?_, ?_, ?_, ?_, ?_, ?_, trivial⟩ _ ?_
  · intro i
    obtain ⟨p, z, rfl⟩ : ∃ (p : Fin 128) (z : Fin 1), i = ix2 p z := ⟨i 0, i 1, eq_ix2 i⟩
    refine (dbs_at (x t.val) (d t.val) 1792 7 rfl _ _ _ _ (fun p q => H.hd t p q) (fun p q => u_at _ _ (H.hx t) p q) _ _ _ _ _ p z).trans ?_
    obtain rfl : z = 0 := Subsingleton.elim _ _
    refine congrArg₂ (fun a b : EReal => a + b) ?l (congrArg _ (congrArg₂ (dbs (x t.val) (d t.val)) (Fin.ext ?a) (Fin.ext ?b)))
    case l => first | rfl | pointwise [k0_pay2]
    case a => exact Eq.symm (emb_val _ _ (by decide) _ _ _ (by simp))
    case b => exact Eq.symm (emb_val _ _ (by decide) _ _ _ (by simp))
  · intro i
    obtain ⟨p, z, rfl⟩ : ∃ (p : Fin 128) (z : Fin 1), i = ix2 p z := ⟨i 0, i 1, eq_ix2 i⟩
    refine (dbs_at (x t.val) (d t.val) 1536 6 rfl _ _ _ _ (fun p q => H.hd t p q) (fun p q => u_at _ _ (H.hx t) p q) _ _ _ _ _ p z).trans ?_
    obtain rfl : z = 0 := Subsingleton.elim _ _
    refine congrArg₂ (fun a b : EReal => a + b) ?l (congrArg _ (congrArg₂ (dbs (x t.val) (d t.val)) (Fin.ext ?a) (Fin.ext ?b)))
    case l => first | rfl | pointwise [k0_pay2]
    case a => exact Eq.symm (emb_val _ _ (by decide) _ _ _ (by simp))
    case b => exact Eq.symm (emb_val _ _ (by decide) _ _ _ (by simp))
  · intro i
    obtain ⟨p, z, rfl⟩ : ∃ (p : Fin 128) (z : Fin 1), i = ix2 p z := ⟨i 0, i 1, eq_ix2 i⟩
    refine (dbs_at (x t.val) (d t.val) 1280 5 rfl _ _ _ _ (fun p q => H.hd t p q) (fun p q => u_at _ _ (H.hx t) p q) _ _ _ _ _ p z).trans ?_
    obtain rfl : z = 0 := Subsingleton.elim _ _
    refine congrArg₂ (fun a b : EReal => a + b) ?l (congrArg _ (congrArg₂ (dbs (x t.val) (d t.val)) (Fin.ext ?a) (Fin.ext ?b)))
    case l => first | rfl | pointwise [k0_pay2]
    case a => exact Eq.symm (emb_val _ _ (by decide) _ _ _ (by simp))
    case b => exact Eq.symm (emb_val _ _ (by decide) _ _ _ (by simp))
  · intro i
    obtain ⟨p, z, rfl⟩ : ∃ (p : Fin 128) (z : Fin 1), i = ix2 p z := ⟨i 0, i 1, eq_ix2 i⟩
    refine (dbs_at (x t.val) (d t.val) 1024 4 rfl _ _ _ _ (fun p q => H.hd t p q) (fun p q => u_at _ _ (H.hx t) p q) _ _ _ _ _ p z).trans ?_
    obtain rfl : z = 0 := Subsingleton.elim _ _
    refine congrArg₂ (fun a b : EReal => a + b) ?l (congrArg _ (congrArg₂ (dbs (x t.val) (d t.val)) (Fin.ext ?a) (Fin.ext ?b)))
    case l => first | rfl | pointwise [k0_pay2]
    case a => exact Eq.symm (emb_val _ _ (by decide) _ _ _ (by simp))
    case b => exact Eq.symm (emb_val _ _ (by decide) _ _ _ (by simp))
  · intro i
    obtain ⟨p, z, rfl⟩ : ∃ (p : Fin 128) (z : Fin 1), i = ix2 p z := ⟨i 0, i 1, eq_ix2 i⟩
    refine (dbs_at (x t.val) (d t.val) 768 3 rfl _ _ _ _ (fun p q => H.hd t p q) (fun p q => u_at _ _ (H.hx t) p q) _ _ _ _ _ p z).trans ?_
    obtain rfl : z = 0 := Subsingleton.elim _ _
    refine congrArg₂ (fun a b : EReal => a + b) ?l (congrArg _ (congrArg₂ (dbs (x t.val) (d t.val)) (Fin.ext ?a) (Fin.ext ?b)))
    case l => first | rfl | pointwise [k0_pay2]
    case a => exact Eq.symm (emb_val _ _ (by decide) _ _ _ (by simp))
    case b => exact Eq.symm (emb_val _ _ (by decide) _ _ _ (by simp))
  · intro i
    obtain ⟨p, z, rfl⟩ : ∃ (p : Fin 128) (z : Fin 1), i = ix2 p z := ⟨i 0, i 1, eq_ix2 i⟩
    refine (dbs_at (x t.val) (d t.val) 512 2 rfl _ _ _ _ (fun p q => H.hd t p q) (fun p q => u_at _ _ (H.hx t) p q) _ _ _ _ _ p z).trans ?_
    obtain rfl : z = 0 := Subsingleton.elim _ _
    refine congrArg₂ (fun a b : EReal => a + b) ?l (congrArg _ (congrArg₂ (dbs (x t.val) (d t.val)) (Fin.ext ?a) (Fin.ext ?b)))
    case l => first | rfl | pointwise [k0_pay2]
    case a => exact Eq.symm (emb_val _ _ (by decide) _ _ _ (by simp))
    case b => exact Eq.symm (emb_val _ _ (by decide) _ _ _ (by simp))
  · intro i
    obtain ⟨p, z, rfl⟩ : ∃ (p : Fin 128) (z : Fin 1), i = ix2 p z := ⟨i 0, i 1, eq_ix2 i⟩
    refine (dbs_at (x t.val) (d t.val) 256 1 rfl _ _ _ _ (fun p q => H.hd t p q) (fun p q => u_at _ _ (H.hx t) p q) _ _ _ _ _ p z).trans ?_
    obtain rfl : z = 0 := Subsingleton.elim _ _
    refine congrArg₂ (fun a b : EReal => a + b) ?l (congrArg _ (congrArg₂ (dbs (x t.val) (d t.val)) (Fin.ext ?a) (Fin.ext ?b)))
    case l => first | rfl | pointwise [k0_pay2]
    case a => exact Eq.symm (emb_val _ _ (by decide) _ _ _ (by simp))
    case b => exact Eq.symm (emb_val _ _ (by decide) _ _ _ (by simp))
  · intro i
    obtain ⟨p, z, rfl⟩ : ∃ (p : Fin 128) (z : Fin 1), i = ix2 p z := ⟨i 0, i 1, eq_ix2 i⟩
    refine (dbs_at (x t.val) (d t.val) 0 0 rfl _ _ _ _ (fun p q => H.hd t p q) (fun p q => u_at _ _ (H.hx t) p q) _ _ _ _ _ p z).trans ?_
    obtain rfl : z = 0 := Subsingleton.elim _ _
    refine congrArg₂ (fun a b : EReal => a + b) ?l (congrArg _ (congrArg₂ (dbs (x t.val) (d t.val)) (Fin.ext ?a) (Fin.ext ?b)))
    case l => first | rfl | pointwise [k0_pay2]
    case a => exact Eq.symm (emb_val _ _ (by decide) _ _ _ (by simp))
    case b => exact Eq.symm (emb_val _ _ (by decide) _ _ _ (by simp))
  fin_cases e
  · exact ⟨_, List.Mem.tail _ (List.Mem.tail _ (List.Mem.tail _ (List.Mem.tail _ (List.Mem.tail _ (List.Mem.tail _ (List.Mem.tail _ (List.Mem.head _))))))), mem8 0 p (by decide)⟩
  · exact ⟨_, List.Mem.tail _ (List.Mem.tail _ (List.Mem.tail _ (List.Mem.tail _ (List.Mem.tail _ (List.Mem.tail _ (List.Mem.head _)))))), mem8 1 p (by decide)⟩
  · exact ⟨_, List.Mem.tail _ (List.Mem.tail _ (List.Mem.tail _ (List.Mem.tail _ (List.Mem.tail _ (List.Mem.head _))))), mem8 2 p (by decide)⟩
  · exact ⟨_, List.Mem.tail _ (List.Mem.tail _ (List.Mem.tail _ (List.Mem.tail _ (List.Mem.head _)))), mem8 3 p (by decide)⟩
  · exact ⟨_, List.Mem.tail _ (List.Mem.tail _ (List.Mem.tail _ (List.Mem.head _))), mem8 4 p (by decide)⟩
  · exact ⟨_, List.Mem.tail _ (List.Mem.tail _ (List.Mem.head _)), mem8 5 p (by decide)⟩
  · exact ⟨_, List.Mem.tail _ (List.Mem.head _), mem8 6 p (by decide)⟩
  · exact ⟨_, List.Mem.head _, mem8 7 p (by decide)⟩

theorem dlngA (t : Fin cfg0.N) (h : t.val % 32 = 0) (k : Fin 2048) :
    ((outsAt0 m c t.val t.isLt).2.2.2.1 : FVec Ideal S1x2048 .f32) (ix2 0 k)
      = (0 : EReal) + ((dlng (x t.val) (d t.val) w k : ℝ) : EReal) := by
  rw [outsAt0_A m c t h]
  frame_open
  simp (disch := decide) only [↓ View.readCov_skip, ↓ View.readCov_fill]
  frame_out
  refine (dlng_at (x t.val) (d t.val) w _ (fun r j => vhat_at _ _ (H.hx t) r j) _ (fun r j => ?q) _ _ _ _ _ _ 0 k).trans ?_
  case q =>
    exact dvn8_at (x t.val) (d t.val) w _ _ _ _ _ _ _ _ _ _
      (fun p q => wm_at w _ 0 (fun p q => by simp only [Memref.IsWhole.read_unread]; pointwise; exact H.hw t 0 p q) p q)
      (fun p q => wm_at w _ 1 (fun p q => by simp only [Memref.IsWhole.read_unread]; pointwise; exact H.hw t 1 p q) p q)
      (fun p q => wm_at w _ 2 (fun p q => by simp only [Memref.IsWhole.read_unread]; pointwise; exact H.hw t 2 p q) p q)
      (fun p q => wm_at w _ 3 (fun p q => by simp only [Memref.IsWhole.read_unread]; pointwise; exact H.hw t 3 p q) p q)
      (fun p q => wm_at w _ 4 (fun p q => by simp only [Memref.IsWhole.read_unread]; pointwise; exact H.hw t 4 p q) p q)
      (fun p q => wm_at w _ 5 (fun p q => by simp only [Memref.IsWhole.read_unread]; pointwise; exact H.hw t 5 p q) p q)
      (fun p q => wm_at w _ 6 (fun p q => by simp only [Memref.IsWhole.read_unread]; pointwise; exact H.hw t 6 p q) p q)
      (fun p q => wm_at w _ 7 (fun p q => by simp only [Memref.IsWhole.read_unread]; pointwise; exact H.hw t 7 p q) p q)
      (fun p q => by simp (disch := decide) only [Memref.IsWhole.read_unread, View.ld_unit_lit']; exact H.hd t p q)
      (fun p q => by simp (disch := decide) only [Memref.IsWhole.read_unread, View.ld_unit_lit']; exact u_at _ _ (H.hx t) p q) _ _ _ _ _ _ _ _ _ _ r j
  pointwise [k0_pay3]

theorem dlngB (t : Fin cfg0.N) (h : ¬t.val % 32 = 0) (k : Fin 2048) :
    ((outsAt0 m c t.val t.isLt).2.2.2.1 : FVec Ideal S1x2048 .f32) (ix2 0 k)
      = ((outsAt0 m c (t.val - 1) (Nat.lt_of_le_of_lt (Nat.sub_le _ _) t.isLt)).2.2.2.1 : FVec Ideal S1x2048 .f32) (ix2 0 k)
        + ((dlng (x t.val) (d t.val) w k : ℝ) : EReal) := by
  rw [outsAt0_B m c t h]
  frame_open
  simp (disch := decide) only [↓ View.readCov_skip, ↓ View.readCov_fill]
  frame_out
  refine (dlng_at (x t.val) (d t.val) w _ (fun r j => vhat_at _ _ (H.hx t) r j) _ (fun r j => ?q) _ _ _ _ _ _ 0 k).trans ?_
  case q =>
    exact dvn8_at (x t.val) (d t.val) w _ _ _ _ _ _ _ _ _ _
      (fun p q => wm_at w _ 0 (fun p q => by simp only [Memref.IsWhole.read_unread]; pointwise; exact H.hw t 0 p q) p q)
      (fun p q => wm_at w _ 1 (fun p q => by simp only [Memref.IsWhole.read_unread]; pointwise; exact H.hw t 1 p q) p q)
      (fun p q => wm_at w _ 2 (fun p q => by simp only [Memref.IsWhole.read_unread]; pointwise; exact H.hw t 2 p q) p q)
      (fun p q => wm_at w _ 3 (fun p q => by simp only [Memref.IsWhole.read_unread]; pointwise; exact H.hw t 3 p q) p q)
      (fun p q => wm_at w _ 4 (fun p q => by simp only [Memref.IsWhole.read_unread]; pointwise; exact H.hw t 4 p q) p q)
      (fun p q => wm_at w _ 5 (fun p q => by simp only [Memref.IsWhole.read_unread]; pointwise; exact H.hw t 5 p q) p q)
      (fun p q => wm_at w _ 6 (fun p q => by simp only [Memref.IsWhole.read_unread]; pointwise; exact H.hw t 6 p q) p q)
      (fun p q => wm_at w _ 7 (fun p q => by simp only [Memref.IsWhole.read_unread]; pointwise; exact H.hw t 7 p q) p q)
      (fun p q => by simp (disch := decide) only [Memref.IsWhole.read_unread, View.ld_unit_lit']; exact H.hd t p q)
      (fun p q => by simp (disch := decide) only [Memref.IsWhole.read_unread, View.ld_unit_lit']; exact u_at _ _ (H.hx t) p q) _ _ _ _ _ _ _ _ _ _ r j
  rfl

theorem dlnbA (t : Fin cfg0.N) (h : t.val % 32 = 0) (k : Fin 2048) :
    ((outsAt0 m c t.val t.isLt).2.2.2.2.1 : FVec Ideal S1x2048 .f32) (ix2 0 k)
      = (0 : EReal) + ((dlnb (x t.val) (d t.val) w k : ℝ) : EReal) := by
  rw [outsAt0_A m c t h]
  frame_open
  simp (disch := decide) only [↓ View.readCov_skip, ↓ View.readCov_fill]
  frame_out
  refine (dlnb_at (x t.val) (d t.val) w _ (fun r j => ?q) _ _ _ _ _ _ 0 k).trans ?_
  case q =>
    exact dvn8_at (x t.val) (d t.val) w _ _ _ _ _ _ _ _ _ _
      (fun p q => wm_at w _ 0 (fun p q => by simp only [Memref.IsWhole.read_unread]; pointwise; exact H.hw t 0 p q) p q)
      (fun p q => wm_at w _ 1 (fun p q => by simp only [Memref.IsWhole.read_unread]; pointwise; exact H.hw t 1 p q) p q)
      (fun p q => wm_at w _ 2 (fun p q => by simp only [Memref.IsWhole.read_unread]; pointwise; exact H.hw t 2 p q) p q)
      (fun p q => wm_at w _ 3 (fun p q => by simp only [Memref.IsWhole.read_unread]; pointwise; exact H.hw t 3 p q) p q)
      (fun p q => wm_at w _ 4 (fun p q => by simp only [Memref.IsWhole.read_unread]; pointwise; exact H.hw t 4 p q) p q)
      (fun p q => wm_at w _ 5 (fun p q => by simp only [Memref.IsWhole.read_unread]; pointwise; exact H.hw t 5 p q) p q)
      (fun p q => wm_at w _ 6 (fun p q => by simp only [Memref.IsWhole.read_unread]; pointwise; exact H.hw t 6 p q) p q)
      (fun p q => wm_at w _ 7 (fun p q => by simp only [Memref.IsWhole.read_unread]; pointwise; exact H.hw t 7 p q) p q)
      (fun p q => by simp (disch := decide) only [Memref.IsWhole.read_unread, View.ld_unit_lit']; exact H.hd t p q)
      (fun p q => by simp (disch := decide) only [Memref.IsWhole.read_unread, View.ld_unit_lit']; exact u_at _ _ (H.hx t) p q) _ _ _ _ _ _ _ _ _ _ r j
  pointwise [k0_pay4]

theorem dlnbB (t : Fin cfg0.N) (h : ¬t.val % 32 = 0) (k : Fin 2048) :
    ((outsAt0 m c t.val t.isLt).2.2.2.2.1 : FVec Ideal S1x2048 .f32) (ix2 0 k)
      = ((outsAt0 m c (t.val - 1) (Nat.lt_of_le_of_lt (Nat.sub_le _ _) t.isLt)).2.2.2.2.1 : FVec Ideal S1x2048 .f32) (ix2 0 k)
        + ((dlnb (x t.val) (d t.val) w k : ℝ) : EReal) := by
  rw [outsAt0_B m c t h]
  frame_open
  simp (disch := decide) only [↓ View.readCov_skip, ↓ View.readCov_fill]
  frame_out
  refine (dlnb_at (x t.val) (d t.val) w _ (fun r j => ?q) _ _ _ _ _ _ 0 k).trans ?_
  case q =>
    exact dvn8_at (x t.val) (d t.val) w _ _ _ _ _ _ _ _ _ _
      (fun p q => wm_at w _ 0 (fun p q => by simp only [Memref.IsWhole.read_unread]; pointwise; exact H.hw t 0 p q) p q)
      (fun p q => wm_at w _ 1 (fun p q => by simp only [Memref.IsWhole.read_unread]; pointwise; exact H.hw t 1 p q) p q)
      (fun p q => wm_at w _ 2 (fun p q => by simp only [Memref.IsWhole.read_unread]; pointwise; exact H.hw t 2 p q) p q)
      (fun p q => wm_at w _ 3 (fun p q => by simp only [Memref.IsWhole.read_unread]; pointwise; exact H.hw t 3 p q) p q)
      (fun p q => wm_at w _ 4 (fun p q => by simp only [Memref.IsWhole.read_unread]; pointwise; exact H.hw t 4 p q) p q)
      (fun p q => wm_at w _ 5 (fun p q => by simp only [Memref.IsWhole.read_unread]; pointwise; exact H.hw t 5 p q) p q)
      (fun p q => wm_at w _ 6 (fun p q => by simp only [Memref.IsWhole.read_unread]; pointwise; exact H.hw t 6 p q) p q)
      (fun p q => wm_at w _ 7 (fun p q => by simp only [Memref.IsWhole.read_unread]; pointwise; exact H.hw t 7 p q) p q)
      (fun p q => by simp (disch := decide) only [Memref.IsWhole.read_unread, View.ld_unit_lit']; exact H.hd t p q)
      (fun p q => by simp (disch := decide) only [Memref.IsWhole.read_unread, View.ld_unit_lit']; exact u_at _ _ (H.hx t) p q) _ _ _ _ _ _ _ _ _ _ r j
  rfl

theorem dbinA (t : Fin cfg0.N) (h : t.val % 32 = 0) (k : Fin 4096) :
    ((outsAt0 m c t.val t.isLt).2.2.2.2.2 : FVec Ideal S1x4096 .f32) (ix2 0 k)
      = (0 : EReal) + ((dbin (x t.val) (d t.val) g b w bs k : ℝ) : EReal) := by
  rw [outsAt0_A m c t h]
  frame_open
  simp (disch := decide) only [↓ View.readCov_skip, ↓ View.readCov_fill]
  frame_out
  refine (dbin_at (x t.val) (d t.val) g b w bs _ (fun r j => vhat_at _ _ (H.hx t) r j) _ (fun r j => ?q) _ (fun r k => ?x) _ (fun k => ?g)
    _ (fun r k => cdf_at _ _ (H.hx t) r k) _ (fun r => rstd_at _ _ (H.hx t) r) _ (fun r j => ?u) _ 0 k).trans ?_
  case q =>
    exact dvn8_at (x t.val) (d t.val) w _ _ _ _ _ _ _ _ _ _
      (fun p q => wm_at w _ 0 (fun p q => by simp only [Memref.IsWhole.read_unread]; pointwise; exact H.hw t 0 p q) p q)
      (fun p q => wm_at w _ 1 (fun p q => by simp only [Memref.IsWhole.read_unread]; pointwise; exact H.hw t 1 p q) p q)
      (fun p q => wm_at w _ 2 (fun p q => by simp only [Memref.IsWhole.read_unread]; pointwise; exact H.hw t 2 p q) p q)
      (fun p q => wm_at w _ 3 (fun p q => by simp only [Memref.IsWhole.read_unread]; pointwise; exact H.hw t 3 p q) p q)
      (fun p q => wm_at w _ 4 (fun p q => by simp only [Memref.IsWhole.read_unread]; pointwise; exact H.hw t 4 p q) p q)
      (fun p q => wm_at w _ 5 (fun p q => by simp only [Memref.IsWhole.read_unread]; pointwise; exact H.hw t 5 p q) p q)
      (fun p q => wm_at w _ 6 (fun p q => by simp only [Memref.IsWhole.read_unread]; pointwise; exact H.hw t 6 p q) p q)
      (fun p q => wm_at w _ 7 (fun p q => by simp only [Memref.IsWhole.read_unread]; pointwise; exact H.hw t 7 p q) p q)
      (fun p q => by simp (disch := decide) only [Memref.IsWhole.read_unread, View.ld_unit_lit']; exact H.hd t p q)
      (fun p q => by simp (disch := decide) only [Memref.IsWhole.read_unread, View.ld_unit_lit']; exact u_at _ _ (H.hx t) p q) _ _ _ _ _ _ _ _ _ _ r j
  case x => pointwise [k0_pay6, H.hx t]
  case g => pointwise [k0_pay7, H.hg t]
  case u =>
    exact du8_at (x t.val) (d t.val) g b w bs _ _ _ _ _ _ _ _ _ _ _ _ _ _ _ _ _ _
      (fun p q => wm_at w _ 0 (fun p q => by simp only [Memref.IsWhole.read_unread]; pointwise; exact H.hw t 0 p q) p q)
      (fun p q => wm_at w _ 1 (fun p q => by simp only [Memref.IsWhole.read_unread]; pointwise; exact H.hw t 1 p q) p q)
      (fun p q => wm_at w _ 2 (fun p q => by simp only [Memref.IsWhole.read_unread]; pointwise; exact H.hw t 2 p q) p q)
      (fun p q => wm_at w _ 3 (fun p q => by simp only [Memref.IsWhole.read_unread]; pointwise; exact H.hw t 3 p q) p q)
      (fun p q => wm_at w _ 4 (fun p q => by simp only [Memref.IsWhole.read_unread]; pointwise; exact H.hw t 4 p q) p q)
      (fun p q => wm_at w _ 5 (fun p q => by simp only [Memref.IsWhole.read_unread]; pointwise; exact H.hw t 5 p q) p q)
      (fun p q => wm_at w _ 6 (fun p q => by simp only [Memref.IsWhole.read_unread]; pointwise; exact H.hw t 6 p q) p q)
      (fun p q => wm_at w _ 7 (fun p q => by simp only [Memref.IsWhole.read_unread]; pointwise; exact H.hw t 7 p q) p q)
      (fun p q => by simp (disch := decide) only [Memref.IsWhole.read_unread, View.ld_unit_lit']; exact vn_at _ _ _ _ (H.hx t) _ _ (H.hg t) (H.hb t) p q)
      (fun p => by simp only [Memref.IsWhole.read_unread]; pointwise; exact H.hbs t p 0)
      (fun p => by simp only [Memref.IsWhole.read_unread]; pointwise; exact H.hbs t p 1)
      (fun p => by simp only [Memref.IsWhole.read_unread]; pointwise; exact H.hbs t p 2)
      (fun p => by simp only [Memref.IsWhole.read_unread]; pointwise; exact H.hbs t p 3)
      (fun p => by simp only [Memref.IsWhole.read_unread]; pointwise; exact H.hbs t p 4)
      (fun p => by simp only [Memref.IsWhole.read_unread]; pointwise; exact H.hbs t p 5)
      (fun p => by simp only [Memref.IsWhole.read_unread]; pointwise; exact H.hbs t p 6)
      (fun p => by simp only [Memref.IsWhole.read_unread]; pointwise; exact H.hbs t p 7)
      (fun p q => by simp (disch := decide) only [Memref.IsWhole.read_unread, View.ld_unit_lit']; exact H.hd t p q) _ _ _ _ _ _ _ _ _ _ _ r j
  pointwise [k0_pay5]

theorem dbinB (t : Fin cfg0.N) (h : ¬t.val % 32 = 0) (k : Fin 4096) :
    ((outsAt0 m c t.val t.isLt).2.2.2.2.2 : FVec Ideal S1x4096 .f32) (ix2 0 k)
      = ((outsAt0 m c (t.val - 1) (Nat.lt_of_le_of_lt (Nat.sub_le _ _) t.isLt)).2.2.2.2.2 : FVec Ideal S1x4096 .f32) (ix2 0 k)
        + ((dbin (x t.val) (d t.val) g b w bs k : ℝ) : EReal) := by
  rw [outsAt0_B m c t h]
  frame_open
  simp (disch := decide) only [↓ View.readCov_skip, ↓ View.readCov_fill]
  frame_out
  refine (dbin_at (x t.val) (d t.val) g b w bs _ (fun r j => vhat_at _ _ (H.hx t) r j) _ (fun r j => ?q) _ (fun r k => ?x) _ (fun k => ?g)
    _ (fun r k => cdf_at _ _ (H.hx t) r k) _ (fun r => rstd_at _ _ (H.hx t) r) _ (fun r j => ?u) _ 0 k).trans ?_
  case q =>
    exact dvn8_at (x t.val) (d t.val) w _ _ _ _ _ _ _ _ _ _
      (fun p q => wm_at w _ 0 (fun p q => by simp only [Memref.IsWhole.read_unread]; pointwise; exact H.hw t 0 p q) p q)
      (fun p q => wm_at w _ 1 (fun p q => by simp only [Memref.IsWhole.read_unread]; pointwise; exact H.hw t 1 p q) p q)
      (fun p q => wm_at w _ 2 (fun p q => by simp only [Memref.IsWhole.read_unread]; pointwise; exact H.hw t 2 p q) p q)
      (fun p q => wm_at w _ 3 (fun p q => by simp only [Memref.IsWhole.read_unread]; pointwise; exact H.hw t 3 p q) p q)
      (fun p q => wm_at w _ 4 (fun p q => by simp only [Memref.IsWhole.read_unread]; pointwise; exact H.hw t 4 p q) p q)
      (fun p q => wm_at w _ 5 (fun p q => by simp only [Memref.IsWhole.read_unread]; pointwise; exact H.hw t 5 p q) p q)
      (fun p q => wm_at w _ 6 (fun p q => by simp only [Memref.IsWhole.read_unread]; pointwise; exact H.hw t 6 p q) p q)
      (fun p q => wm_at w _ 7 (fun p q => by simp only [Memref.IsWhole.read_unread]; pointwise; exact H.hw t 7 p q) p q)
      (fun p q => by simp (disch := decide) only [Memref.IsWhole.read_unread, View.ld_unit_lit']; exact H.hd t p q)
      (fun p q => by simp (disch := decide) only [Memref.IsWhole.read_unread, View.ld_unit_lit']; exact u_at _ _ (H.hx t) p q) _ _ _ _ _ _ _ _ _ _ r j
  case x => pointwise [k0_pay6, H.hx t]
  case g => pointwise [k0_pay7, H.hg t]
  case u =>
    exact du8_at (x t.val) (d t.val) g b w bs _ _ _ _ _ _ _ _ _ _ _ _ _ _ _ _ _ _
      (fun p q => wm_at w _ 0 (fun p q => by simp only [Memref.IsWhole.read_unread]; pointwise; exact H.hw t 0 p q) p q)
      (fun p q => wm_at w _ 1 (fun p q => by simp only [Memref.IsWhole.read_unread]; pointwise; exact H.hw t 1 p q) p q)
      (fun p q => wm_at w _ 2 (fun p q => by simp only [Memref.IsWhole.read_unread]; pointwise; exact H.hw t 2 p q) p q)
      (fun p q => wm_at w _ 3 (fun p q => by simp only [Memref.IsWhole.read_unread]; pointwise; exact H.hw t 3 p q) p q)
      (fun p q => wm_at w _ 4 (fun p q => by simp only [Memref.IsWhole.read_unread]; pointwise; exact H.hw t 4 p q) p q)
      (fun p q => wm_at w _ 5 (fun p q => by simp only [Memref.IsWhole.read_unread]; pointwise; exact H.hw t 5 p q) p q)
      (fun p q => wm_at w _ 6 (fun p q => by simp only [Memref.IsWhole.read_unread]; pointwise; exact H.hw t 6 p q) p q)
      (fun p q => wm_at w _ 7 (fun p q => by simp only [Memref.IsWhole.read_unread]; pointwise; exact H.hw t 7 p q) p q)
      (fun p q => by simp (disch := decide) only [Memref.IsWhole.read_unread, View.ld_unit_lit']; exact vn_at _ _ _ _ (H.hx t) _ _ (H.hg t) (H.hb t) p q)
      (fun p => by simp only [Memref.IsWhole.read_unread]; pointwise; exact H.hbs t p 0)
      (fun p => by simp only [Memref.IsWhole.read_unread]; pointwise; exact H.hbs t p 1)
      (fun p => by simp only [Memref.IsWhole.read_unread]; pointwise; exact H.hbs t p 2)
      (fun p => by simp only [Memref.IsWhole.read_unread]; pointwise; exact H.hbs t p 3)
      (fun p => by simp only [Memref.IsWhole.read_unread]; pointwise; exact H.hbs t p 4)
      (fun p => by simp only [Memref.IsWhole.read_unread]; pointwise; exact H.hbs t p 5)
      (fun p => by simp only [Memref.IsWhole.read_unread]; pointwise; exact H.hbs t p 6)
      (fun p => by simp only [Memref.IsWhole.read_unread]; pointwise; exact H.hbs t p 7)
      (fun p q => by simp (disch := decide) only [Memref.IsWhole.read_unread, View.ld_unit_lit']; exact H.hd t p q) _ _ _ _ _ _ _ _ _ _ _ r j
  rfl

end Cert.Point

end
-- ==== Proof.Final.lean ====
module

public import proofs.«01_k».proof.Proof.Point
public import proofs.«01_k».proof.Proof.Gen.KernelIdeal.Value

/-! What the kernel's six result arrays hold after the run when the region's input blocks are finite: the gradient before the
    gelu row by row, each other result the sum of its chunks' shares. -/

@[expose] public section

set_option maxRecDepth 16384

noncomputable section

namespace Cert.Final

open Cert.KernelIdeal Cert.KernelIdeal.Gen Idealize.ShloMosaic Idealize.ShloMosaic.TcCoe
open Idealize.ShloMosaic.Pipeline (Dat)
open Cert.Lift Cert.Spec Cert.Point

variable {m : (ℓ : Loc nD τ sig) → Buf (Elt Ideal) ℓ} {c : Dev nD} {x : ℕ → Fin 128 → Fin 4096 → ℝ}
  {d : ℕ → Fin 128 → Fin 2048 → ℝ} {g b : Fin 2048 → ℝ}
  {w : Fin 8 → Fin 128 → Fin 128 → ℝ} {bs : Fin 8 → Fin 128 → ℝ} (H : Fin6 m c x d g b w bs)

/-- A block that starts at zero and takes each point's real share holds their sum at the last point. -/
theorem sum_at {ι : Type} (f : (n : ℕ) → n < cfg0.N → ι → EReal) (term : ℕ → ι → ℝ)
    (h0 : ∀ t : Fin cfg0.N, t.val % 32 = 0 → ∀ i, f t.val t.isLt i = 0 + ((term t.val i : ℝ) : EReal))
    (hs : ∀ t : Fin cfg0.N, ¬t.val % 32 = 0 → ∀ i,
      f t.val t.isLt i = f (t.val - 1) (Nat.lt_of_le_of_lt (Nat.sub_le _ _) t.isLt) i + ((term t.val i : ℝ) : EReal))
    (t : Fin cfg0.N) (ht : t.val % 32 = 31) (i : ι) :
    f t.val t.isLt i = ((∑ n : Fin 32, term n.val i : ℝ) : EReal) := by
  have hN : t.val < 32 := lt_of_lt_of_eq t.isLt N_0
  rw [Pipeline.eq_sum_fin_of_reset_step_apply_of_flush f 32 (fun _ => (0 : EReal)) (fun p i => ((term p.val i : ℝ) : EReal)) h0 hs
    t ht i, zero_add, ← coe_sum]
  refine Finset.sum_congr rfl fun s _ => ?_
  have e : 32 * (t.val / 32) + s.val = s.val := by omega
  exact congrArg (fun n => ((term n i : ℝ) : EReal)) e

theorem at_chunk (f : ℕ → Fin 128 → Fin 4096 → ℝ) (a n : ℕ) (r : Fin 128) (k k' : Fin 4096) (ha : a = n * 128 + r.val) (hk : k'.val = k.val) :
    f n r k = f (a / 128) ⟨a % 128, Nat.mod_lt _ (by decide)⟩ k' := by
  have h1 : a / 128 = n := by omega
  have h2 : (⟨a % 128, Nat.mod_lt _ (by decide)⟩ : Fin 128) = r := Fin.ext (by show a % 128 = r.val; omega)
  rw [h1, h2, Fin.ext hk]

theorem idx6 : ∀ t : Fin cfg0.N, win0_6.index t = ![t.val, 0] := (by decide +kernel : ∀ t : Fin grid0.N, win0_6.index t = ![t.val, 0])

/-- An index of an array of one row. -/
theorem row_zero {n : ℕ} (i : (⟨2, ![1, n]⟩ : Shape).Idx) : i = ix2 0 (i 1) := by
  rw [eq_ix2 i]; exact congrArg (fun z : Fin 1 => ix2 z (i 1)) (Subsingleton.elim _ _)

include H

theorem dpre_point (t : Fin cfg0.N) (r : Fin 128) (k : Fin 4096) :
    ((outsAt0 m c t.val t.isLt).1 : FVec Ideal S128x4096 .bf16) (ix2 r k)
      = ((dpre (x t.val) (d t.val) g b w bs r k : ℝ) : EReal) := by
  by_cases h : t.val % 32 = 0
  · exact dpreA H t h r k
  · exact dpreB H t h r k

/-- The gradient before the gelu. -/
theorem final6 : (dats m 0 c).arrAt 6 (cfgs 0).N = fun i : S4096x4096.Idx =>
    ((dpre (x ((i 0).val / 128)) (d ((i 0).val / 128)) g b w bs ⟨(i 0).val % 128, Nat.mod_lt _ (by decide)⟩ (i 1) : ℝ) : EReal) := by
  refine (dats m 0 c).arrAt_eq_of_covers 6 _ (by decide +kernel) fun t hf y => ?_
  blk_simp
  rw [after0_6]
  obtain ⟨r, k, rfl⟩ : ∃ (r : Fin 128) (k : Fin 4096), y = ix2 r k := ⟨y 0, y 1, eq_ix2 y⟩
  refine (dpre_point H t r k).trans (congrArg (fun a : ℝ => (a : EReal))
    (at_chunk (fun n r k => dpre (x n) (d n) g b w bs r k) _ t.val r k _ ?_ ?_))
  · rw [show win0_6.index t 0 = t.val from congrFun (idx6 t) 0]; rfl
  · blk_simp [idx6 t]

theorem dw_last (t : Fin cfg0.N) (ht : t.val % 32 = 31) (i : S8x128x128.Idx) :
    ((outsAt0 m c t.val t.isLt).2.1 : FVec Ideal S8x128x128 .f32) i = ((∑ n : Fin 32, dw (x n.val) (d n.val) g b (i 0) (i 1) (i 2) : ℝ) : EReal) :=
  sum_at (fun n h => ((outsAt0 m c n h).2.1 : FVec Ideal S8x128x128 .f32)) (fun n i => dw (x n) (d n) g b (i 0) (i 1) (i 2))
    (fun t h i => by rw [eq_ix3 i]; exact dwA H t h (i 0) (i 1) (i 2))
    (fun t h i => by rw [eq_ix3 i]; exact dwB H t h (i 0) (i 1) (i 2)) t ht i

omit H in
theorem idx7 : ∀ t : Fin cfg0.N, win0_7.index t = ![0, 0, 0] :=
  (by decide +kernel : ∀ t : Fin grid0.N, win0_7.index t = ![0, 0, 0])

/-- The gradient of the mixing matrices. -/
theorem final7 : (dats m 0 c).arrAt 7 (cfgs 0).N = fun i : S8x128x128.Idx => ((∑ n : Fin 32, dw (x n.val) (d n.val) g b (i 0) (i 1) (i 2) : ℝ) : EReal) := by
  refine (dats m 0 c).arrAt_eq_of_covers 7 _ (by decide +kernel) fun t hf y => ?_
  blk_simp
  rw [after0_7]
  refine (dw_last H t ((flush0_7 t).mp hf) y).trans
    (congrArg (fun i : S8x128x128.Idx => ((∑ n : Fin 32, dw (x n.val) (d n.val) g b (i 0) (i 1) (i 2) : ℝ) : EReal)) ?_)
  blk_ext [idx7 t]

theorem dbs_last (t : Fin cfg0.N) (ht : t.val % 32 = 31) (i : S128x8.Idx) :
    ((outsAt0 m c t.val t.isLt).2.2.1 : FVec Ideal S128x8 .f32) i = ((∑ n : Fin 32, dbs (x n.val) (d n.val) (i 0) (i 1) : ℝ) : EReal) :=
  sum_at (fun n h => ((outsAt0 m c n h).2.2.1 : FVec Ideal S128x8 .f32)) (fun n i => dbs (x n) (d n) (i 0) (i 1))
    (fun t h i => by rw [eq_ix2 i]; exact dbsA H t h (i 0) (i 1))
    (fun t h i => by rw [eq_ix2 i]; exact dbsB H t h (i 0) (i 1)) t ht i

omit H in
theorem idx8 : ∀ t : Fin cfg0.N, win0_8.index t = ![0, 0] :=
  (by decide +kernel : ∀ t : Fin grid0.N, win0_8.index t = ![0, 0])

/-- The gradient of the mixing biases. -/
theorem final8 : (dats m 0 c).arrAt 8 (cfgs 0).N = fun i : S128x8.Idx => ((∑ n : Fin 32, dbs (x n.val) (d n.val) (i 0) (i 1) : ℝ) : EReal) := by
  refine (dats m 0 c).arrAt_eq_of_covers 8 _ (by decide +kernel) fun t hf y => ?_
  blk_simp
  rw [after0_8]
  refine (dbs_last H t ((flush0_8 t).mp hf) y).trans
    (congrArg (fun i : S128x8.Idx => ((∑ n : Fin 32, dbs (x n.val) (d n.val) (i 0) (i 1) : ℝ) : EReal)) ?_)
  blk_ext [idx8 t]

theorem dlng_last (t : Fin cfg0.N) (ht : t.val % 32 = 31) (i : S1x2048.Idx) :
    ((outsAt0 m c t.val t.isLt).2.2.2.1 : FVec Ideal S1x2048 .f32) i = ((∑ n : Fin 32, dlng (x n.val) (d n.val) w (i 1) : ℝ) : EReal) :=
  sum_at (fun n h => ((outsAt0 m c n h).2.2.2.1 : FVec Ideal S1x2048 .f32)) (fun n i => dlng (x n) (d n) w (i 1))
    (fun t h i => by rw [row_zero i]; exact dlngA H t h (i 1))
    (fun t h i => by rw [row_zero i]; exact dlngB H t h (i 1)) t ht i

omit H in
theorem idx9 : ∀ t : Fin cfg0.N, win0_9.index t = ![0, 0] :=
  (by decide +kernel : ∀ t : Fin grid0.N, win0_9.index t = ![0, 0])

/-- The gradient of the layernorm's scale. -/
theorem final9 : (dats m 0 c).arrAt 9 (cfgs 0).N = fun i : S1x2048.Idx => ((∑ n : Fin 32, dlng (x n.val) (d n.val) w (i 1) : ℝ) : EReal) := by
  refine (dats m 0 c).arrAt_eq_of_covers 9 _ (by decide +kernel) fun t hf y => ?_
  blk_simp
  rw [after0_9]
  refine (dlng_last H t ((flush0_9 t).mp hf) y).trans
    (congrArg (fun i : S1x2048.Idx => ((∑ n : Fin 32, dlng (x n.val) (d n.val) w (i 1) : ℝ) : EReal)) ?_)
  blk_ext [idx9 t]

theorem dlnb_last (t : Fin cfg0.N) (ht : t.val % 32 = 31) (i : S1x2048.Idx) :
    ((outsAt0 m c t.val t.isLt).2.2.2.2.1 : FVec Ideal S1x2048 .f32) i = ((∑ n : Fin 32, dlnb (x n.val) (d n.val) w (i 1) : ℝ) : EReal) :=
  sum_at (fun n h => ((outsAt0 m c n h).2.2.2.2.1 : FVec Ideal S1x2048 .f32)) (fun n i => dlnb (x n) (d n) w (i 1))
    (fun t h i => by rw [row_zero i]; exact dlnbA H t h (i 1))
    (fun t h i => by rw [row_zero i]; exact dlnbB H t h (i 1)) t ht i

omit H in
theorem idx10 : ∀ t : Fin cfg0.N, win0_10.index t = ![0, 0] :=
  (by decide +kernel : ∀ t : Fin grid0.N, win0_10.index t = ![0, 0])

/-- The gradient of the layernorm's shift. -/
theorem final10 : (dats m 0 c).arrAt 10 (cfgs 0).N = fun i : S1x2048.Idx => ((∑ n : Fin 32, dlnb (x n.val) (d n.val) w (i 1) : ℝ) : EReal) := by
  refine (dats m 0 c).arrAt_eq_of_covers 10 _ (by decide +kernel) fun t hf y => ?_
  blk_simp
  rw [after0_10]
  refine (dlnb_last H t ((flush0_10 t).mp hf) y).trans
    (congrArg (fun i : S1x2048.Idx => ((∑ n : Fin 32, dlnb (x n.val) (d n.val) w (i 1) : ℝ) : EReal)) ?_)
  blk_ext [idx10 t]

theorem dbin_last (t : Fin cfg0.N) (ht : t.val % 32 = 31) (i : S1x4096.Idx) :
    ((outsAt0 m c t.val t.isLt).2.2.2.2.2 : FVec Ideal S1x4096 .f32) i = ((∑ n : Fin 32, dbin (x n.val) (d n.val) g b w bs (i 1) : ℝ) : EReal) :=
  sum_at (fun n h => ((outsAt0 m c n h).2.2.2.2.2 : FVec Ideal S1x4096 .f32)) (fun n i => dbin (x n) (d n) g b w bs (i 1))
    (fun t h i => by rw [row_zero i]; exact dbinA H t h (i 1))
    (fun t h i => by rw [row_zero i]; exact dbinB H t h (i 1)) t ht i

omit H in
theorem idx11 : ∀ t : Fin cfg0.N, win0_11.index t = ![0, 0] :=
  (by decide +kernel : ∀ t : Fin grid0.N, win0_11.index t = ![0, 0])

/-- The gradient of the input's bias. -/
theorem final11 : (dats m 0 c).arrAt 11 (cfgs 0).N = fun i : S1x4096.Idx => ((∑ n : Fin 32, dbin (x n.val) (d n.val) g b w bs (i 1) : ℝ) : EReal) := by
  refine (dats m 0 c).arrAt_eq_of_covers 11 _ (by decide +kernel) fun t hf y => ?_
  blk_simp
  rw [after0_11]
  refine (dbin_last H t ((flush0_11 t).mp hf) y).trans
    (congrArg (fun i : S1x4096.Idx => ((∑ n : Fin 32, dbin (x n.val) (d n.val) g b w bs (i 1) : ℝ) : EReal)) ?_)
  blk_ext [idx11 t]

end Cert.Final

end
-- ==== Proof.SpecAlg.lean ====
module

public import proofs.«01_k».proof.Proof.Spec

/-! The gating unit's real numbers as differentiating the forward lines spells them: each spelling equals the one of
    `Spec`. -/

@[expose] public section

noncomputable section

namespace Cert.Spec

open Cert.Lift

theorem half_sq : Real.sqrt (1 / 2) * Real.sqrt (1 / 2) = 1 / 2 := Real.mul_self_sqrt (by norm_num)

/-- The gelu by the complementary error function. -/
theorem zed_erfc (p : ℝ) : 1 / 2 * p * (1 - erfR (-p * Real.sqrt (1 / 2))) = zed p := by
  rw [neg_mul, erfR_neg, zed, cdf]; ring

/-- The gelu's gradient by the complementary error function's. -/
theorem dgelu_erfc (p z : ℝ) :
    -(-Cert.Lift.slope * (1 / 2 * p * z) * Real.exp (-(-p * Real.sqrt (1 / 2) * (-p * Real.sqrt (1 / 2)))) * Real.sqrt (1 / 2))
      + 1 / 2 * (z * (1 - erfR (-p * Real.sqrt (1 / 2)))) = z * dgelu p := by
  have h : -(-p * Real.sqrt (1 / 2) * (-p * Real.sqrt (1 / 2))) = -(1 / 2) * p * p := by
    linear_combination (-(p * p)) * half_sq
  rw [h, neg_mul p, erfR_neg]; unfold dgelu cdf kap Cert.Lift.slope; ring

variable (x : Fin 128 → Fin 4096 → ℝ) (d : Fin 128 → Fin 2048 → ℝ) (g : Fin 2048 → ℝ)
  (w : Fin 8 → Fin 128 → Fin 128 → ℝ)

theorem sum_vc (r : Fin 128) : ∑ l : Fin 2048, vc x r l = 0 := by
  simp only [vc, Finset.sum_sub_distrib, Finset.sum_const, Finset.card_univ, Fintype.card_fin, nsmul_eq_mul]
  push_cast; ring

theorem rstd_sq (r : Fin 128) : rstd x r * rstd x r = (var x r)⁻¹ := by
  rw [rstd, ← mul_inv, Real.mul_self_sqrt (var_pos x r).le]

/-- The gradient of the row's variance, by the derivative of the reciprocal root. -/
def gvar (r : Fin 128) : ℝ := (∑ l : Fin 2048, vc x r l * dvh x d g w r l) * (-(1 / 2) * (rstd x r / var x r)) / 2048

/-- The layernorm's gradient with the mean and the variance differentiated one after the other. -/
theorem dv_steps (r : Fin 128) (j : Fin 2048) :
    dvh x d g w r j * rstd x r + gvar x d g w r * (2 * vc x r j)
      + ((∑ l : Fin 2048, -(dvh x d g w r l * rstd x r)) + ∑ l : Fin 2048, -(gvar x d g w r * (2 * vc x r l))) / 2048
      = dv x d g w r j := by
  have h1 : ∑ l : Fin 2048, -(gvar x d g w r * (2 * vc x r l)) = 0 := by
    have : ∀ l, -(gvar x d g w r * (2 * vc x r l)) = -(2 * gvar x d g w r) * vc x r l := fun l => by ring
    simp only [this]
    rw [← Finset.mul_sum, sum_vc, mul_zero]
  have h2 : ∑ l : Fin 2048, -(dvh x d g w r l * rstd x r) = -(rstd x r * ∑ l : Fin 2048, dvh x d g w r l) := by
    rw [Finset.mul_sum, ← Finset.sum_neg_distrib]
    exact Finset.sum_congr rfl fun l _ => by ring
  have h3 : ∑ l : Fin 2048, dvh x d g w r l * vhat x r l = rstd x r * ∑ l : Fin 2048, vc x r l * dvh x d g w r l := by
    rw [Finset.mul_sum]
    exact Finset.sum_congr rfl fun l _ => by rw [vhat]; ring
  have h4 : rstd x r / var x r = rstd x r * (rstd x r * rstd x r) := by rw [rstd_sq, div_eq_mul_inv]
  rw [h1, h2, dv, h3, gvar, h4, vhat]; ring

end Cert.Spec

end
-- ==== Proof.Ref.lean ====
module

public import proofs.«01_k».proof.Proof.SpecAlg
public import proofs.«01_k».proof.Proof.Gen.ReferenceIdeal.Read

/-! What the reference's operations hold when its arguments are finite, up to the gradient of the layernorm: row `R` of the
    whole array is row `R % 128` of chunk `R / 128`. -/

@[expose] public section

noncomputable section

namespace Cert.Ref

open Cert.ReferenceIdeal Cert.ReferenceIdeal.Gen Cert.ReferenceIdeal.Read
open Idealize.ShloMosaic
open Cert.Lift Cert.Spec

section Ops

variable {a b : EReal} {p q : ℝ}

theorem mulC (ha : a = p) (hb : b = q) : FloatOps.mulf (F := Ideal) (φ := .f32) a b = ((p * q : ℝ) : EReal) := by
  rw [ha, hb]; exact (EReal.coe_mul _ _).symm

theorem addC (ha : a = p) (hb : b = q) : FloatOps.addf (F := Ideal) (φ := .f32) a b = ((p + q : ℝ) : EReal) := by
  rw [ha, hb]; exact (EReal.coe_add _ _).symm

theorem subC (ha : a = p) (hb : b = q) : FloatOps.subf (F := Ideal) (φ := .f32) a b = ((p - q : ℝ) : EReal) := by
  rw [ha, hb]; exact (EReal.coe_sub _ _).symm

theorem divC (hq : q ≠ 0) (ha : a = p) (hb : b = q) :
    FloatOps.hostDivf (F := Ideal) (φ := .f32) a b = ((p / q : ℝ) : EReal) := by
  rw [ha, hb]; exact div_coe p q hq

theorem negC (ha : a = p) : FloatOps.hostNegf (F := Ideal) (φ := .f32) a = ((-p : ℝ) : EReal) := by
  rw [ha]; exact (EReal.coe_neg _).symm

theorem sumC {n : ℕ} {z : EReal} {f : Fin n → EReal} {h : Fin n → ℝ} (hz : z = 0) (hf : ∀ k, f k = h k) :
    z + ∑ k : Fin n, f k = ((∑ k : Fin n, h k : ℝ) : EReal) := by
  rw [hz, zero_add, ← coe_sum]; exact Finset.sum_congr rfl fun k _ => hf k

theorem dotC {n : ℕ} {f f' : Fin n → EReal} {h h' : Fin n → ℝ} (hf : ∀ k, f k = h k) (hf' : ∀ k, f' k = h' k) :
    ∑ k : Fin n, f k * f' k = ((∑ k : Fin n, h k * h' k : ℝ) : EReal) := by
  rw [← coe_sum]; exact Finset.sum_congr rfl fun k _ => by rw [hf, hf', EReal.coe_mul]

theorem zeroC : FloatOps.ofBits (F := Ideal) .f32 0x00000000#32 = (0 : EReal) := Ideal.ofBits_zero .f32

theorem selC (c : BitVec 1) (P : Prop) [Decidable P] (hc : (c = 1#1) ↔ P) (ha : a = p) (hb : b = q) :
    Scalar.select c a b = ((if P then p else q : ℝ) : EReal) := by
  rw [ha, hb]
  by_cases h : P
  · rw [if_pos h, hc.mpr h]; rfl
  · have this : c = 0#1 := (by decide : ∀ c : BitVec 1, ¬c = 1#1 → c = 0#1) c (mt hc.mp h)
    rw [if_neg h, this]; rfl

end Ops

/-- The chunk of a row. -/
abbrev ch (R : Fin 4096) : ℕ := R.val / 128

/-- The row within its chunk. -/
abbrev rr (R : Fin 4096) : Fin 128 := ⟨R.val % 128, Nat.mod_lt _ (by decide)⟩

variable (x0 : FVec Ideal S4096x4096 .f32) (x1 : FVec Ideal S4096 .f32) (x2 x3 : FVec Ideal S2048 .f32)
  (x4 : FVec Ideal S8x128x128 .f32) (x5 : FVec Ideal S8x128 .f32) (x6 : FVec Ideal S4096x2048 .bf16)

/-- The reference's arguments are finite: `x` the first two's sum, chunk by chunk, and the others by name. -/
structure Arg (x : ℕ → Fin 128 → Fin 4096 → ℝ) (d : ℕ → Fin 128 → Fin 2048 → ℝ) (g b : Fin 2048 → ℝ)
    (w : Fin 8 → Fin 128 → Fin 128 → ℝ) (bs : Fin 8 → Fin 128 → ℝ) : Prop where
  hx : ∀ (R k : Fin 4096), (x0 (ix2 R k) + x1 (ix1 k) : EReal) = ((x (ch R) (rr R) k : ℝ) : EReal)
  hd : ∀ (R : Fin 4096) (j : Fin 2048), (x6 (ix2 R j) : EReal) = ((d (ch R) (rr R) j : ℝ) : EReal)
  hg : ∀ j : Fin 2048, (x2 (ix1 j) : EReal) = ((g j : ℝ) : EReal)
  hb : ∀ j : Fin 2048, (x3 (ix1 j) : EReal) = ((b j : ℝ) : EReal)
  hw : ∀ (e : Fin 8) (p q : Fin 128), (x4 (ix3 e p q) : EReal) = ((w e p q : ℝ) : EReal)
  hbs : ∀ (e : Fin 8) (p : Fin 128), (x5 (ix2 e p) : EReal) = ((bs e p : ℝ) : EReal)

variable {x0 x1 x2 x3 x4 x5 x6} {x : ℕ → Fin 128 → Fin 4096 → ℝ} {d : ℕ → Fin 128 → Fin 2048 → ℝ} {g b : Fin 2048 → ℝ}
  {w : Fin 8 → Fin 128 → Fin 128 → ℝ} {bs : Fin 8 → Fin 128 → ℝ}
  (H : Arg x0 x1 x2 x3 x4 x5 x6 x d g b w bs)
include H

theorem v2 (i : S4096x4096.Idx) : val_main_v2 (F := Ideal) x0 x1 i = ((x (ch (i 0)) (rr (i 0)) (i 1) : ℝ) : EReal) := by
  rw [val_main_v2_apply, val_main_v1_apply, val_main_v0_apply]
  have h0 : i = ix2 (i 0) (i 1) := eq_ix2 i
  have h1 : idx_main_v0 (idx_main_v1 i) = ix1 (i 1) := eq_ix1 _
  rw [h1]
  refine Eq.trans ?_ (H.hx (i 0) (i 1))
  exact congrArg (fun y => (x0 y : EReal) + x1 (ix1 (i 1))) h0

omit H in
theorem v3 (i : S4096x4096.Idx) : val_main_v3 (F := Ideal) i = ((1 / 2 : ℝ) : EReal) :=
  (val_main_v3_apply i).trans bits_half

theorem v4 (i : S4096x4096.Idx) :
    val_main_v4 (F := Ideal) x0 x1 i = ((1 / 2 * x (ch (i 0)) (rr (i 0)) (i 1) : ℝ) : EReal) :=
  (val_main_v4_apply _ _ i).trans (mulC (v3 i) (v2 H i))

omit H in
theorem v6 (i : S_.Idx) : val_main_v6 (F := Ideal) i = ((Real.sqrt (1 / 2) : ℝ) : EReal) := by
  rw [val_main_v6_apply, val_main_cst_0_apply]
  refine Eq.trans (congrArg Ideal.sqrt bits_half) (sqrt_coe _ (by norm_num))

theorem v8 (i : S4096x4096.Idx) : val_main_v8 (F := Ideal) x0 x1 i
    = ((-x (ch (i 0)) (rr (i 0)) (i 1) * Real.sqrt (1 / 2) : ℝ) : EReal) :=
  (val_main_v8_apply _ _ i).trans (mulC ((val_main_v5_apply _ _ i).trans (negC (v2 H i))) ((val_main_v7_apply i).trans (v6 _)))

theorem v9 (i : S4096x4096.Idx) : val_main_v9 (F := Ideal) x0 x1 i
    = ((1 - erfR (-x (ch (i 0)) (rr (i 0)) (i 1) * Real.sqrt (1 / 2)) : ℝ) : EReal) :=
  (val_main_v9_apply _ _ i).trans ((congrArg Ideal.erfc (v8 H i)).trans (erfc_coe _))

theorem v12 (i : S4096x4096.Idx) : val_main_v12 (F := Ideal) x0 x1 i
    = ((Real.exp (-(-x (ch (i 0)) (rr (i 0)) (i 1) * Real.sqrt (1 / 2) * (-x (ch (i 0)) (rr (i 0)) (i 1) * Real.sqrt (1 / 2)))) : ℝ) : EReal) :=
  (val_main_v12_apply _ _ i).trans ((congrArg Ideal.exp ((val_main_v11_apply _ _ i).trans
    (negC ((val_main_v10_apply _ _ i).trans (mulC (v8 H i) (v8 H i)))))).trans (exp_coe _))

theorem v13 (i : S4096x4096.Idx) : val_main_v13 (F := Ideal) x0 x1 i = ((zed (x (ch (i 0)) (rr (i 0)) (i 1)) : ℝ) : EReal) := by
  rw [← zed_erfc]
  exact (val_main_v13_apply _ _ i).trans (mulC (v4 H i) (v9 H i))

theorem v14 (i : S4096x2048.Idx) : val_main_v14 (F := Ideal) x0 x1 i = ((uu (x (ch (i 0))) (rr (i 0)) (i 1) : ℝ) : EReal) := by
  rw [val_main_v14_apply, v13 H]
  refine congrArg (fun a : ℝ => (a : EReal)) (congrArg zed ?_)
  exact congrArg₂ (fun (R k : Fin 4096) => x (ch R) (rr R) k) (Fin.ext (by simp)) (Fin.ext (by simp [lo]))

theorem v15 (i : S4096x2048.Idx) : val_main_v15 (F := Ideal) x0 x1 i = ((vv (x (ch (i 0))) (rr (i 0)) (i 1) : ℝ) : EReal) := by
  rw [val_main_v15_apply, v13 H]
  refine congrArg (fun a : ℝ => (a : EReal)) (congrArg zed ?_)
  exact congrArg₂ (fun (R k : Fin 4096) => x (ch R) (rr R) k) (Fin.ext (by simp)) (Fin.ext (by simp [hi]))

theorem v19 (i : S4096x1.Idx) :
    val_main_v19 (F := Ideal) x0 x1 i = (((∑ l : Fin 2048, vv (x (ch (i 0))) (rr (i 0)) l) / 2048 : ℝ) : EReal) :=
  (val_main_v19_apply _ _ i).trans (divC (by norm_num)
    ((val_main_v17_apply _ _ i).trans ((val_main_v16_apply _ _ _).trans (sumC zeroC fun k => v15 H _)))
    ((val_main_v18_apply i).trans bits_2048))

theorem v21 (i : S4096x2048.Idx) : val_main_v21 (F := Ideal) x0 x1 i = ((vc (x (ch (i 0))) (rr (i 0)) (i 1) : ℝ) : EReal) :=
  (val_main_v21_apply _ _ i).trans (subC (v15 H i) ((val_main_v20_apply _ _ i).trans (v19 H _)))

theorem v24 (i : S4096x2048.Idx) : val_main_v24 (F := Ideal) x0 x1 i = ((2 * vc (x (ch (i 0))) (rr (i 0)) (i 1) : ℝ) : EReal) :=
  (val_main_v24_apply _ _ i).trans (mulC ((val_main_v23_apply i).trans bits_two) (v21 H i))

theorem v30 (i : S4096x2048.Idx) : val_main_v30 (F := Ideal) x0 x1 i = ((vc (x (ch (i 0))) (rr (i 0)) (i 1) : ℝ) : EReal) :=
  (val_main_v30_apply _ _ i).trans (subC (v15 H i) ((val_main_v29_apply _ _ i).trans (v19 H _)))

theorem v32 (i : S4096x1.Idx) : val_main_v32 (F := Ideal) x0 x1 i = ((var (x (ch (i 0))) (rr (i 0)) : ℝ) : EReal) :=
  (val_main_v32_apply _ _ i).trans (addC ((val_main_v28_apply _ _ i).trans (divC (by norm_num)
    ((val_main_v26_apply _ _ i).trans ((val_main_v25_apply _ _ _).trans (sumC zeroC fun k =>
      (val_main_v22_apply _ _ _).trans (mulC (v21 H _) (v21 H _)))))
    ((val_main_v27_apply i).trans bits_2048))) ((val_main_v31_apply i).trans bits_eps))

theorem v33 (i : S4096x1.Idx) : val_main_v33 (F := Ideal) x0 x1 i = ((rstd (x (ch (i 0))) (rr (i 0)) : ℝ) : EReal) :=
  (val_main_v33_apply _ _ i).trans ((congrArg Ideal.rsqrt (v32 H i)).trans (rsqrt_coe _ (var_pos _ _)))

theorem v36 (i : S4096x1.Idx) : val_main_v36 (F := Ideal) x0 x1 i
    = ((-(1 / 2) * (rstd (x (ch (i 0))) (rr (i 0)) / var (x (ch (i 0))) (rr (i 0))) : ℝ) : EReal) :=
  (val_main_v36_apply _ _ i).trans (mulC ((val_main_v35_apply i).trans bits_neg_half)
    ((val_main_v34_apply _ _ i).trans (divC (var_pos _ _).ne' (v33 H i) (v32 H i))))

theorem v38 (i : S4096x2048.Idx) : val_main_v38 (F := Ideal) x0 x1 i = ((vhat (x (ch (i 0))) (rr (i 0)) (i 1) : ℝ) : EReal) :=
  (val_main_v38_apply _ _ i).trans (mulC (v30 H i) ((val_main_v37_apply _ _ i).trans (v33 H _)))

theorem v39 (i : S1x2048.Idx) : val_main_v39 (F := Ideal) x2 i = ((g (i 1) : ℝ) : EReal) :=
  (val_main_v39_apply _ i).trans ((congrArg x2 (eq_ix1 _)).trans (H.hg _))

theorem v42 (i : S1x2048.Idx) : val_main_v42 (F := Ideal) x3 i = ((b (i 1) : ℝ) : EReal) :=
  (val_main_v42_apply _ i).trans ((congrArg x3 (eq_ix1 _)).trans (H.hb _))

theorem v44 (i : S4096x2048.Idx) : val_main_v44 (F := Ideal) x0 x1 x2 x3 i
    = ((vn (x (ch (i 0))) g b (rr (i 0)) (i 1) : ℝ) : EReal) :=
  (val_main_v44_apply _ _ _ _ i).trans (addC ((val_main_v41_apply _ _ _ i).trans
    (mulC (v38 H i) ((val_main_v40_apply _ i).trans (v39 H _)))) ((val_main_v43_apply _ i).trans (v42 H _)))

end Cert.Ref

end
-- ==== Proof.Ref2.lean ====
module

public import proofs.«01_k».proof.Proof.Ref
public import proofs.«01_k».proof.Proof.Pay

/-! What the reference's operations hold when its arguments are finite, from the mixing to the mixing matrices' gradient: the
    chunks and the groups of columns are axes here. -/

@[expose] public section

noncomputable section

namespace Cert.Ref

open Cert.ReferenceIdeal Cert.ReferenceIdeal.Gen Cert.ReferenceIdeal.Read
open Idealize.ShloMosaic
open Cert.Lift Cert.Spec

section Chunks

variable (f : ℕ → Fin 128 → Fin 2048 → ℝ)

/-- Row `128 n + r` is row `r` of chunk `n`. -/
theorem chunk_at (R : Fin 4096) (k j : Fin 2048) (n : ℕ) (r : Fin 128) (hR : R.val = 128 * n + r.val) (hk : k.val = j.val) :
    f (ch R) (rr R) k = f n r j := by
  have h1 : ch R = n := by simp only [ch]; omega
  have h2 : rr R = r := Fin.ext (by simp only [rr]; omega)
  rw [h1, h2, Fin.ext hk]

theorem to_chunk (i : S32x128x8x256.Idx) :
    f (ch (idx_main_v45 i 0)) (rr (idx_main_v45 i 0)) (idx_main_v45 i 1) = f (i 0).val (i 1) (col (i 2) (i 3)) := by
  have h0 : (i 0).val < 32 := (i 0).isLt
  have h1 : (i 1).val < 128 := (i 1).isLt
  have h2 : (i 2).val < 8 := (i 2).isLt
  have h3 : (i 3).val < 256 := (i 3).isLt
  refine chunk_at f _ _ _ _ _ ?_ ?_
  · show ((((i 0).val * 128 + (i 1).val) * 8 + (i 2).val) * 256 + (i 3).val) / 2048 = 128 * (i 0).val + (i 1).val
    omega
  · show ((((i 0).val * 128 + (i 1).val) * 8 + (i 2).val) * 256 + (i 3).val) % 2048 = 256 * (i 2).val + (i 3).val
    omega

theorem of_chunk (i : S4096x2048.Idx) :
    f (idx_main_v56 i 0).val (idx_main_v56 i 1) (col (idx_main_v56 i 2) (idx_main_v56 i 3)) = f (ch (i 0)) (rr (i 0)) (i 1) := by
  have h0 : (i 0).val < 4096 := (i 0).isLt
  have h1 : (i 1).val < 2048 := (i 1).isLt
  symm
  refine chunk_at f _ _ _ _ _ ?_ ?_
  · show (i 0).val = 128 * (((i 0).val * 2048 + (i 1).val) / 262144) + ((i 0).val * 2048 + (i 1).val) / 2048 % 128
    omega
  · show (i 1).val = 256 * (((i 0).val * 2048 + (i 1).val) / 256 % 8) + ((i 0).val * 2048 + (i 1).val) % 256
    omega

/-- A sum over the rows is a sum over the chunks. -/
theorem sum_rows (h : ℕ → Fin 128 → ℝ) : ∑ R : Fin 4096, h (ch R) (rr R) = ∑ n : Fin 32, ∑ r : Fin 128, h n.val r := by
  rw [← Fintype.sum_prod_type', ← (finProdFinEquiv (m := 32) (n := 128)).sum_comp]
  refine Finset.sum_congr rfl fun p _ => ?_
  have h1 := p.2.isLt
  have h2 : ch (finProdFinEquiv p) = p.1.val := by simp only [ch, finProdFinEquiv_apply_val]; omega
  have h3 : rr (finProdFinEquiv p) = p.2 := Fin.ext (by simp only [rr, finProdFinEquiv_apply_val]; omega)
  rw [h2, h3]

end Chunks

/-- The host's sum over the first and the last of four axes. -/
theorem sum_outer {a d : ℕ} (h : (⟨4, ![a, 128, 8, d]⟩ : Shape).ReducesTo [0, 3] S128x8)
    (x : (⟨4, ![a, 128, 8, d]⟩ : Shape).Idx → EReal) (z : EReal) (j : S128x8.Idx) :
    Ideal.hostReduceAdd h x z j = z + ∑ n : Fin a, ∑ c : Fin d, x (ix4 n (j 0) (j 1) c) := by
  unfold Ideal.hostReduceAdd
  congr 1
  rw [← Fintype.sum_prod_type']
  symm
  refine Finset.sum_bij (fun (p : Fin a × Fin d) _ => ix4 p.1 (j 0) (j 1) p.2) ?_ ?_ ?_ ?_
  · intro p _
    simp only [Finset.mem_filter, Finset.mem_univ, true_and]
    exact funext fun b => match b with
      | ⟨0, _⟩ => Fin.ext rfl
      | ⟨1, _⟩ => Fin.ext rfl
  · intro p _ q _ e
    exact Prod.ext (congrFun e 0) (congrFun e 3)
  · intro i hi
    simp only [Finset.mem_filter, Finset.mem_univ, true_and] at hi
    refine ⟨(i 0, i 3), Finset.mem_univ _, ?_⟩
    subst hi
    exact (eq_ix4 i).symm
  · intro p _
    rfl

/-- The mixed rows. -/
def mixed (x : Fin 128 → Fin 4096 → ℝ) (g b : Fin 2048 → ℝ) (w : Fin 8 → Fin 128 → Fin 128 → ℝ) (bs : Fin 8 → Fin 128 → ℝ)
    (r : Fin 128) (j : Fin 2048) : ℝ :=
  (∑ s : Fin 128, wm w (grp j) r s * vn x g b s j) + bs (grp j) r

variable {x0 : FVec Ideal S4096x4096 .f32} {x1 : FVec Ideal S4096 .f32} {x2 x3 : FVec Ideal S2048 .f32}
  {x4 : FVec Ideal S8x128x128 .f32} {x5 : FVec Ideal S8x128 .f32} {x6 : FVec Ideal S4096x2048 .bf16}
  {x : ℕ → Fin 128 → Fin 4096 → ℝ} {d : ℕ → Fin 128 → Fin 2048 → ℝ} {g b : Fin 2048 → ℝ}
  {w : Fin 8 → Fin 128 → Fin 128 → ℝ} {bs : Fin 8 → Fin 128 → ℝ}
  (H : Arg x0 x1 x2 x3 x4 x5 x6 x d g b w bs)

theorem v47 (i : S128x128.Idx) : val_main_v47 (F := Ideal) i = if i 1 ≤ i 0 then 1#1 else 0#1 := by
  rw [val_main_v47_apply, val_main_v46_apply, val_main_c_apply, val_main_call0_v5_apply, val_main_call0_c_0_apply,
    val_main_call0_v4_apply, val_main_call0_v2_apply, val_main_call0_v0_apply, val_main_call0_v1_apply,
    val_main_call0_c_apply, val_main_call0_v3_apply]
  have h : ∀ a : BitVec 32, IntOp.addi a 0#32 = a := fun a => BitVec.add_zero a
  rw [h]
  exact Cert.Pay.mask_at (i 0) (i 1) _ _

theorem v49_1 (i : S8x128x128.Idx) : val_main_v49_1 (F := Ideal) i = 1#1 ↔ i 2 ≤ i 1 := by
  rw [val_main_v49_1_apply, val_main_v48_apply, v47]
  show (if i 2 ≤ i 1 then 1#1 else 0#1 : BitVec 1) = 1#1 ↔ _
  split <;> simp [*]

include H

theorem v45 (i : S32x128x8x256.Idx) : val_main_v45 (F := Ideal) x0 x1 x2 x3 i = ((vn (x (i 0).val) g b (i 1) (col (i 2) (i 3)) : ℝ) : EReal) :=
  (val_main_v45_apply _ _ _ _ i).trans ((v44 H _).trans (congrArg _ (to_chunk (fun n r j => vn (x n) g b r j) i)))

theorem v49_0 (i : S8x128x128.Idx) : val_main_v49_0 (F := Ideal) x4 i = ((wm w (i 0) (i 1) (i 2) : ℝ) : EReal) :=
  (val_main_v49_0_apply _ i).trans (selC _ _ (v49_1 i) ((congrArg x4 (eq_ix3 i)).trans (H.hw _ _ _))
    ((val_main_call1_v2_apply i).trans zeroC))

theorem v50 (i : S8x32x256x128.Idx) : val_main_v50 (F := Ideal) x0 x1 x2 x3 x4 i
    = ((∑ s : Fin 128, vn (x (i 1).val) g b s (col (i 0) (i 2)) * wm w (i 0) (i 3) s : ℝ) : EReal) :=
  (val_main_v50_apply _ _ _ _ _ i).trans (dotC (fun k => v45 H _) (fun k => v49_0 H _))

theorem v54 (i : S32x128x8x256.Idx) : val_main_v54 (F := Ideal) x5 i = ((bs (i 2) (i 1) : ℝ) : EReal) :=
  (val_main_v54_apply _ i).trans ((val_main_v53_apply _ _).trans ((val_main_v52_apply _ _).trans ((congrArg x5 (eq_ix2 _)).trans (H.hbs _ _))))

theorem v55 (i : S32x128x8x256.Idx) : val_main_v55 (F := Ideal) x0 x1 x2 x3 x4 x5 i
    = ((mixed (x (i 0).val) g b w bs (i 1) (col (i 2) (i 3)) : ℝ) : EReal) := by
  refine (val_main_v55_apply _ _ _ _ _ _ i).trans ((addC ((val_main_v51_apply _ _ _ _ _ i).trans (v50 H _)) (v54 H i)).trans ?_)
  have hc := Cert.Pay.grp_col (i 2) (i 3)
  unfold mixed
  rw [hc]
  refine congrArg (fun a : ℝ => ((a + bs (i 2) (i 1) : ℝ) : EReal)) (Finset.sum_congr rfl fun s _ => mul_comm _ _)

theorem v56 (i : S4096x2048.Idx) : val_main_v56 (F := Ideal) x0 x1 x2 x3 x4 x5 i = ((mixed (x (ch (i 0))) g b w bs (rr (i 0)) (i 1) : ℝ) : EReal) :=
  (val_main_v56_apply _ _ _ _ _ _ i).trans ((v55 H _).trans (congrArg _ (of_chunk (fun n r j => mixed (x n) g b w bs r j) i)))

theorem v58 (i : S4096x2048.Idx) : val_main_v58 (F := Ideal) x6 i = ((d (ch (i 0)) (rr (i 0)) (i 1) : ℝ) : EReal) :=
  (val_main_v58_apply _ i).trans ((congrArg x6 (eq_ix2 i)).trans (H.hd _ _))

theorem v59 (i : S4096x2048.Idx) : val_main_v59 (F := Ideal) x0 x1 x6 i = ((dsv (x (ch (i 0))) (d (ch (i 0))) (rr (i 0)) (i 1) : ℝ) : EReal) :=
  (val_main_v59_apply _ _ _ i).trans ((mulC (v14 H i) (v58 H i)).trans (congrArg _ (mul_comm _ _)))

theorem v60 (i : S4096x2048.Idx) : val_main_v60 (F := Ideal) x0 x1 x2 x3 x4 x5 x6 i
    = ((du (x (ch (i 0))) (d (ch (i 0))) g b w bs (rr (i 0)) (i 1) : ℝ) : EReal) :=
  (val_main_v60_apply _ _ _ _ _ _ _ i).trans (mulC (v58 H i) (v56 H i))

theorem v61 (i : S32x128x8x256.Idx) : val_main_v61 (F := Ideal) x0 x1 x6 i
    = ((dsv (x (i 0).val) (d (i 0).val) (i 1) (col (i 2) (i 3)) : ℝ) : EReal) :=
  (val_main_v61_apply _ _ _ i).trans ((v59 H _).trans (congrArg _ (to_chunk (fun n r j => dsv (x n) (d n) r j) i)))

theorem v62 (i : S128x8.Idx) : val_main_v62 (F := Ideal) x0 x1 x6 i
    = ((∑ n : Fin 32, dbs (x n.val) (d n.val) (i 0) (i 1) : ℝ) : EReal) := by
  refine (sum_outer reducesTo_S32x128x8x256_S128x8_d0_3 _ _ i).trans ?_
  rw [← coe_sum]
  refine (congrArg (· + _) zeroC).trans ((zero_add _).trans (Finset.sum_congr rfl fun n _ => ?_))
  refine Eq.trans ?_ (coe_sum _ fun c : Fin 256 => dsv (x n.val) (d n.val) (i 0) (col (i 1) c))
  exact Finset.sum_congr rfl fun c _ => v61 H _

theorem v63 (i : S1x128x8x1.Idx) : val_main_v63 (F := Ideal) x0 x1 x6 i
    = ((∑ n : Fin 32, dbs (x n.val) (d n.val) (i 1) (i 2) : ℝ) : EReal) := by
  refine (val_main_v63_apply _ _ _ i).trans ((v62 H _).trans ?_)
  have h0 : (i 0).val < 1 := (i 0).isLt
  have h2 : (i 2).val < 8 := (i 2).isLt
  have h3 : (i 3).val < 1 := (i 3).isLt
  have e0 : idx_main_v63 i 0 = i 1 := Fin.ext (by
    show ((((i 0).val * 128 + (i 1).val) * 8 + (i 2).val) * 1 + (i 3).val) / 8 = (i 1).val; omega)
  have e1 : idx_main_v63 i 1 = i 2 := Fin.ext (by
    show ((((i 0).val * 128 + (i 1).val) * 8 + (i 2).val) * 1 + (i 3).val) % 8 = (i 2).val; omega)
  rw [e0, e1]

theorem v64 (i : S128x8.Idx) : val_main_v64 (F := Ideal) x0 x1 x6 i
    = ((∑ n : Fin 32, dbs (x n.val) (d n.val) (i 0) (i 1) : ℝ) : EReal) := by
  refine (sum_outer reducesTo_S1x128x8x1_S128x8_d0_3 _ _ i).trans ?_
  refine (congrArg (· + _) zeroC).trans ((zero_add _).trans ?_)
  rw [Fin.sum_univ_one, Fin.sum_univ_one]
  exact v63 H _

/-- The mixing biases' gradient. -/
theorem v121 (i : S128x8.Idx) : val_main_v121 (F := Ideal) x0 x1 x6 i
    = ((∑ n : Fin 32, dbs (x n.val) (d n.val) (i 0) (i 1) : ℝ) : EReal) :=
  (val_main_v121_apply _ _ _ i).trans ((val_main_v65_apply _ _ _ _).trans (v64 H _))

theorem v66 (i : S8x32x256x128.Idx) : val_main_v66 (F := Ideal) x0 x1 x6 i
    = ((dsv (x (i 1).val) (d (i 1).val) (i 3) (col (i 0) (i 2)) : ℝ) : EReal) :=
  (val_main_v66_apply _ _ _ i).trans (v61 H _)

theorem v67 (i : S8x128x128.Idx) : val_main_v67 (F := Ideal) x0 x1 x2 x3 x6 i
    = ((∑ n : Fin 32, ∑ c : Fin 256, dsv (x n.val) (d n.val) (i 1) (col (i 0) c) * vn (x n.val) g b (i 2) (col (i 0) c) : ℝ) : EReal) := by
  have h6 : ∀ (e : Fin 8) (n : Fin 32) (c : Fin 256) (t : Fin 128), val_main_v66 (F := Ideal) x0 x1 x6 (ix4 e n c t)
    = ((dsv (x n.val) (d n.val) t (col e c) : ℝ) : EReal) := fun e n c t => v66 H _
  have h5 : ∀ (n : Fin 32) (s : Fin 128) (e : Fin 8) (c : Fin 256), val_main_v45 (F := Ideal) x0 x1 x2 x3 (ix4 n s e c)
    = ((vn (x n.val) g b s (col e c) : ℝ) : EReal) := fun n s e c => v45 H _
  obtain ⟨e, t, s, rfl⟩ : ∃ e t s, i = ix3 e t s := ⟨i 0, i 1, i 2, eq_ix3 i⟩
  unfold val_main_v67
  generalize val_main_v66 (F := Ideal) x0 x1 x6 = y6 at h6
  generalize val_main_v45 (F := Ideal) x0 x1 x2 x3 = y5 at h5
  pointwise [h6, h5]
  simp only [← EReal.coe_mul, coe_sum]

/-- The mixing matrices' gradient. -/
theorem v70 (i : S8x128x128.Idx) : val_main_v70 (F := Ideal) x0 x1 x2 x3 x6 i
    = ((∑ n : Fin 32, dw (x n.val) (d n.val) g b (i 0) (i 1) (i 2) : ℝ) : EReal) := by
  refine (val_main_v70_apply _ _ _ _ _ i).trans ((selC _ _ (v49_1 i) (v67 H i) ((val_main_call2_v0_apply i).trans zeroC)).trans (congrArg _ ?_))
  by_cases h : i 2 ≤ i 1
  · rw [if_pos h]
    exact Finset.sum_congr rfl fun n _ => (if_pos h).symm
  · rw [if_neg h]
    exact (Finset.sum_eq_zero fun n _ => if_neg h).symm

theorem v68 (i : S8x32x256x128.Idx) : val_main_v68 (F := Ideal) x0 x1 x4 x6 i
    = ((dvn (x (i 1).val) (d (i 1).val) w (i 3) (col (i 0) (i 2)) : ℝ) : EReal) := by
  refine (val_main_v68_apply _ _ _ _ i).trans ((dotC (fun k => v66 H _) (fun k => v49_0 H _)).trans ?_)
  have hc := Cert.Pay.grp_col (i 0) (i 2)
  unfold dvn
  rw [hc]
  exact congrArg (fun a : ℝ => (a : EReal)) (Finset.sum_congr rfl fun s _ => mul_comm _ _)

theorem v71 (i : S4096x2048.Idx) : val_main_v71 (F := Ideal) x0 x1 x4 x6 i
    = ((dvn (x (ch (i 0))) (d (ch (i 0))) w (rr (i 0)) (i 1) : ℝ) : EReal) :=
  (val_main_v71_apply _ _ _ _ i).trans ((val_main_v69_apply _ _ _ _ _).trans ((v68 H _).trans (congrArg _ (of_chunk (fun n r j => dvn (x n) (d n) w r j) i))))

end Cert.Ref

end
-- ==== Proof.Ref3.lean ====
module

public import proofs.«01_k».proof.Proof.Ref2

/-! What the reference's operations hold when its arguments are finite, from the layernorm's gradient to the results. -/

@[expose] public section

noncomputable section

namespace Cert.Ref

open Cert.ReferenceIdeal Cert.ReferenceIdeal.Gen Cert.ReferenceIdeal.Read
open Idealize.ShloMosaic
open Cert.Lift Cert.Spec

variable {x0 : FVec Ideal S4096x4096 .f32} {x1 : FVec Ideal S4096 .f32} {x2 x3 : FVec Ideal S2048 .f32}
  {x4 : FVec Ideal S8x128x128 .f32} {x5 : FVec Ideal S8x128 .f32} {x6 : FVec Ideal S4096x2048 .bf16}
  {x : ℕ → Fin 128 → Fin 4096 → ℝ} {d : ℕ → Fin 128 → Fin 2048 → ℝ} {g b : Fin 2048 → ℝ}
  {w : Fin 8 → Fin 128 → Fin 128 → ℝ} {bs : Fin 8 → Fin 128 → ℝ}
  (H : Arg x0 x1 x2 x3 x4 x5 x6 x d g b w bs)

/-- A sum over one index and an initial zero. -/
theorem one_at {z p : EReal} {f : Fin 1 → EReal} (hz : z = 0) (hf : ∀ k, f k = p) : z + ∑ k : Fin 1, f k = p := by
  rw [hz, zero_add, Fin.sum_univ_one, hf]

include H

theorem v72 (i : S2048.Idx) : val_main_v72 (F := Ideal) x0 x1 x4 x6 i = ((∑ n : Fin 32, dlnb (x n.val) (d n.val) w (i 0) : ℝ) : EReal) :=
  (val_main_v72_apply _ _ _ _ i).trans ((sumC zeroC fun k => v71 H _).trans
    (congrArg _ (sum_rows fun n r => dvn (x n) (d n) w r (i 0))))

/-- The layernorm shift's gradient. -/
theorem v123 (i : S1x2048.Idx) : val_main_v123 (F := Ideal) x0 x1 x4 x6 i = ((∑ n : Fin 32, dlnb (x n.val) (d n.val) w (i 1) : ℝ) : EReal) := by
  refine (val_main_v123_apply _ _ _ _ i).trans ((val_main_v74_apply _ _ _ _ _).trans (one_at zeroC fun k => (val_main_v73_apply _ _ _ _ _).trans ((v72 H _).trans ?_)))
  have e : idx_main_v73 (idx_main_v74 (idx_main_v123 i) k) 0 = i 1 := Fin.ext (by
    show k.val * 2048 + (i 1).val = (i 1).val; omega)
  rw [e]

theorem v75 (i : S4096x2048.Idx) : val_main_v75 (F := Ideal) x0 x1 x4 x6 i
    = ((dvn (x (ch (i 0))) (d (ch (i 0))) w (rr (i 0)) (i 1) * vhat (x (ch (i 0))) (rr (i 0)) (i 1) : ℝ) : EReal) :=
  (val_main_v75_apply _ _ _ _ i).trans ((mulC (v38 H i) (v71 H i)).trans (congrArg _ (mul_comm _ _)))

theorem v76 (i : S2048.Idx) : val_main_v76 (F := Ideal) x0 x1 x4 x6 i = ((∑ n : Fin 32, dlng (x n.val) (d n.val) w (i 0) : ℝ) : EReal) :=
  (val_main_v76_apply _ _ _ _ i).trans ((sumC zeroC fun k => v75 H _).trans
    (congrArg _ (sum_rows fun n r => dvn (x n) (d n) w r (i 0) * vhat (x n) r (i 0))))

/-- The layernorm scale's gradient. -/
theorem v122 (i : S1x2048.Idx) : val_main_v122 (F := Ideal) x0 x1 x4 x6 i = ((∑ n : Fin 32, dlng (x n.val) (d n.val) w (i 1) : ℝ) : EReal) := by
  refine (val_main_v122_apply _ _ _ _ i).trans ((val_main_v80_apply _ _ _ _ _).trans (one_at zeroC fun k => (val_main_v77_apply _ _ _ _ _).trans ((v76 H _).trans ?_)))
  have e : idx_main_v77 (idx_main_v80 (idx_main_v122 i) k) 0 = i 1 := Fin.ext (by
    show k.val * 2048 + (i 1).val = (i 1).val; omega)
  rw [e]

theorem v79 (i : S4096x2048.Idx) : val_main_v79 (F := Ideal) x0 x1 x2 x4 x6 i
    = ((dvh (x (ch (i 0))) (d (ch (i 0))) g w (rr (i 0)) (i 1) : ℝ) : EReal) :=
  (val_main_v79_apply _ _ _ _ _ i).trans (mulC (v71 H i) ((val_main_v78_apply _ i).trans (v39 H _)))

theorem v85 (i : S4096x2048.Idx) : val_main_v85 (F := Ideal) x0 x1 x2 x4 x6 i
    = ((dvh (x (ch (i 0))) (d (ch (i 0))) g w (rr (i 0)) (i 1) * rstd (x (ch (i 0))) (rr (i 0)) : ℝ) : EReal) :=
  (val_main_v85_apply _ _ _ _ _ i).trans (mulC (v79 H i) ((val_main_v84_apply _ _ i).trans (v33 H _)))

omit H in
/-- The row a column of one entry is at. -/
theorem row_at (f : Fin 4096 → ℝ) (i : S4096x1.Idx) (R : Fin 4096) (h : R.val = (i 0).val * 1 + (i 1).val) :
    ((f R : ℝ) : EReal) = ((f (i 0) : ℝ) : EReal) := by
  have h1 : (i 1).val < 1 := (i 1).isLt
  rw [show R = i 0 from Fin.ext (by omega)]

theorem v83 (i : S4096x1.Idx) : val_main_v83 (F := Ideal) x0 x1 x2 x4 x6 i = ((∑ l : Fin 2048, vc (x (ch (i 0))) (rr (i 0)) l
    * dvh (x (ch (i 0))) (d (ch (i 0))) g w (rr (i 0)) l : ℝ) : EReal) :=
  (val_main_v83_apply _ _ _ _ _ i).trans ((val_main_v82_apply _ _ _ _ _ _).trans ((sumC zeroC fun k => (val_main_v81_apply _ _ _ _ _ _).trans (mulC (v30 H _) (v79 H _))).trans
    (row_at (fun R => ∑ l : Fin 2048, vc (x (ch R)) (rr R) l * dvh (x (ch R)) (d (ch R)) g w (rr R) l) i _ rfl)))

theorem v91 (i : S4096x1.Idx) : val_main_v91 (F := Ideal) x0 x1 x2 x4 x6 i = ((gvar (x (ch (i 0))) (d (ch (i 0))) g w (rr (i 0)) : ℝ) : EReal) :=
  (val_main_v91_apply _ _ _ _ _ i).trans (divC (by norm_num) ((val_main_v86_apply _ _ _ _ _ i).trans (mulC (v83 H i) (v36 H i)))
    ((val_main_v90_apply i).trans bits_2048))

theorem v94 (i : S4096x2048.Idx) : val_main_v94 (F := Ideal) x0 x1 x2 x4 x6 i
    = ((gvar (x (ch (i 0))) (d (ch (i 0))) g w (rr (i 0)) * (2 * vc (x (ch (i 0))) (rr (i 0)) (i 1)) : ℝ) : EReal) :=
  (val_main_v94_apply _ _ _ _ _ i).trans (mulC ((val_main_v93_apply _ _ _ _ _ i).trans ((val_main_v92_apply _ _ _ _ _ _).trans (one_at zeroC fun k => v91 H _))) (v24 H i))

theorem v89 (i : S4096x1.Idx) : val_main_v89 (F := Ideal) x0 x1 x2 x4 x6 i = ((∑ l : Fin 2048,
    -(dvh (x (ch (i 0))) (d (ch (i 0))) g w (rr (i 0)) l * rstd (x (ch (i 0))) (rr (i 0))) : ℝ) : EReal) :=
  (val_main_v89_apply _ _ _ _ _ i).trans ((val_main_v88_apply _ _ _ _ _ _).trans ((sumC zeroC fun k => (val_main_v87_apply _ _ _ _ _ _).trans (negC (v85 H _))).trans
    (row_at (fun R => ∑ l : Fin 2048, -(dvh (x (ch R)) (d (ch R)) g w (rr R) l * rstd (x (ch R)) (rr R))) i _ rfl)))

theorem v97 (i : S4096x1.Idx) : val_main_v97 (F := Ideal) x0 x1 x2 x4 x6 i = ((∑ l : Fin 2048,
    -(gvar (x (ch (i 0))) (d (ch (i 0))) g w (rr (i 0)) * (2 * vc (x (ch (i 0))) (rr (i 0)) l)) : ℝ) : EReal) :=
  (val_main_v97_apply _ _ _ _ _ i).trans ((val_main_v96_apply _ _ _ _ _ _).trans ((sumC zeroC fun k => (val_main_v95_apply _ _ _ _ _ _).trans (negC (v94 H _))).trans
    (row_at (fun R => ∑ l : Fin 2048, -(gvar (x (ch R)) (d (ch R)) g w (rr R) * (2 * vc (x (ch R)) (rr R) l))) i _ rfl)))

theorem v104 (i : S4096x2048.Idx) : val_main_v104 (F := Ideal) x0 x1 x2 x4 x6 i
    = ((dv (x (ch (i 0))) (d (ch (i 0))) g w (rr (i 0)) (i 1) : ℝ) : EReal) := by
  refine Eq.trans ?_ (congrArg (fun a : ℝ => (a : EReal)) (dv_steps (x (ch (i 0))) (d (ch (i 0))) g w (rr (i 0)) (i 1)))
  exact (val_main_v104_apply _ _ _ _ _ i).trans (addC ((val_main_v98_apply _ _ _ _ _ i).trans (addC (v85 H i) (v94 H i)))
    ((val_main_v103_apply _ _ _ _ _ i).trans ((val_main_v102_apply _ _ _ _ _ _).trans (one_at zeroC fun k => (val_main_v101_apply _ _ _ _ _ _).trans
      (divC (by norm_num) ((val_main_v99_apply _ _ _ _ _ _).trans (addC (v89 H _) (v97 H _))) ((val_main_v100_apply _).trans bits_2048))))))

/-- The gradient of the gelu's result: the two halves side by side. -/
theorem v105 (i : S4096x4096.Idx) : val_main_v105 (F := Ideal) x0 x1 x2 x3 x4 x5 x6 i
    = ((dz (x (ch (i 0))) (d (ch (i 0))) g b w bs (rr (i 0)) (i 1) : ℝ) : EReal) := by
  have h0 : ∀ (R : Fin 4096) (j : Fin 2048), val_main_v60 (F := Ideal) x0 x1 x2 x3 x4 x5 x6 (ix2 R j)
    = ((du (x (ch R)) (d (ch R)) g b w bs (rr R) j : ℝ) : EReal) := fun R j => v60 H _
  have h1 : ∀ (R : Fin 4096) (j : Fin 2048), val_main_v104 (F := Ideal) x0 x1 x2 x4 x6 (ix2 R j)
    = ((dv (x (ch R)) (d (ch R)) g w (rr R) j : ℝ) : EReal) := fun R j => v104 H _
  obtain ⟨R, k, rfl⟩ : ∃ R k, i = ix2 R k := ⟨i 0, i 1, eq_ix2 i⟩
  unfold val_main_v105
  generalize val_main_v60 (F := Ideal) x0 x1 x2 x3 x4 x5 x6 = y0 at h0
  generalize val_main_v104 (F := Ideal) x0 x1 x2 x4 x6 = y1 at h1
  pointwise [h0, h1]
  by_cases h : k.val < 2048
  · rw [dif_pos h]
    exact congrArg (fun a : ℝ => (a : EReal)) (by simp only [dz, h, ↓reduceDIte])
  · rw [dif_neg h]
    exact congrArg (fun a : ℝ => (a : EReal)) (by simp only [dz, h, ↓reduceDIte])

/-- The gradient before the gelu. -/
theorem v116 (i : S4096x4096.Idx) : val_main_v116 (F := Ideal) x0 x1 x2 x3 x4 x5 x6 i
    = ((dpre (x (ch (i 0))) (d (ch (i 0))) g b w bs (rr (i 0)) (i 1) : ℝ) : EReal) := by
  refine Eq.trans ?_ (congrArg (fun a : ℝ => (a : EReal)) (dgelu_erfc (x (ch (i 0)) (rr (i 0)) (i 1)) _))
  exact (val_main_v116_apply _ _ _ _ _ _ _ i).trans (addC
    ((val_main_v113_apply _ _ _ _ _ _ _ i).trans (negC ((val_main_v112_apply _ _ _ _ _ _ _ i).trans (mulC ((val_main_v110_apply _ _ _ _ _ _ _ i).trans (mulC ((val_main_v109_apply _ _ _ _ _ _ _ i).trans (mulC ((val_main_v108_apply i).trans bits_neg_slope)
      ((val_main_v106_apply _ _ _ _ _ _ _ i).trans (mulC (v4 H i) (v105 H i))))) (v12 H i))) ((val_main_v111_apply i).trans (v6 _))))))
    ((val_main_v115_apply _ _ _ _ _ _ _ i).trans (mulC ((val_main_v114_apply i).trans bits_half) ((val_main_v107_apply _ _ _ _ _ _ _ i).trans (mulC (v105 H i) (v9 H i))))))

theorem v120 (i : S4096x4096.Idx) : val_main_v120 (F := Ideal) x0 x1 x2 x3 x4 x5 x6 i
    = ((dpre (x (ch (i 0))) (d (ch (i 0))) g b w bs (rr (i 0)) (i 1) : ℝ) : EReal) :=
  (val_main_v120_apply _ _ _ _ _ _ _ i).trans (v116 H i)

theorem v117 (i : S4096.Idx) : val_main_v117 (F := Ideal) x0 x1 x2 x3 x4 x5 x6 i = ((∑ n : Fin 32, dbin (x n.val) (d n.val) g b w bs (i 0) : ℝ) : EReal) :=
  (val_main_v117_apply _ _ _ _ _ _ _ i).trans ((sumC zeroC fun k => v116 H _).trans
    (congrArg _ (sum_rows fun n r => dpre (x n) (d n) g b w bs r (i 0))))

/-- The input bias's gradient. -/
theorem v124 (i : S1x4096.Idx) : val_main_v124 (F := Ideal) x0 x1 x2 x3 x4 x5 x6 i = ((∑ n : Fin 32, dbin (x n.val) (d n.val) g b w bs (i 1) : ℝ) : EReal) := by
  refine (val_main_v124_apply _ _ _ _ _ _ _ i).trans ((val_main_v119_apply _ _ _ _ _ _ _ _).trans (one_at zeroC fun k => (val_main_v118_apply _ _ _ _ _ _ _ _).trans ((v117 H _).trans ?_)))
  have e : idx_main_v118 (idx_main_v119 (idx_main_v124 i) k) 0 = i 1 := Fin.ext (by
    show k.val * 4096 + (i 1).val = (i 1).val; omega)
  rw [e]

end Cert.Ref

end
-- ==== Proof.Pre.lean ====
module

public import proofs.«01_k».proof.Proof.Gen.Pre_finite
public import proofs.«01_k».proof.Proof.RealLift
public import Idealize.ShloMosaic.Lib.ReduceAll
public import Idealize.ShloMosaic.Lib.Pointwise.Select

/-! What the precondition says of the seven arguments: each entry is a real number. -/

@[expose] public section

noncomputable section

namespace Cert.Pre

open Idealize.ShloMosaic Cert.Pre_finite

attribute [local instance] Cert.Pre_finite.Gen.facts

instance : Subsingleton S_.Idx := ⟨fun a b => funext fun k => k.elim0⟩

/-- A number below infinity in absolute value is its real part. -/
theorem real_of_abs (a : EReal) (h : max a (-a) < ⊤) : a = ((a.toReal : ℝ) : EReal) := by
  refine (EReal.coe_toReal ?_ ?_).symm
  · rintro rfl; simp at h
  · rintro rfl; simp at h

/-- The test of one argument, passed, makes its entries real. -/
theorem real_of_all {s : Shape} {axes : List (Fin s.rank)} (X : FVec Ideal s .f32) (hb : S_.BroadcastsInDim s (![] : Fin 0 → Fin s.rank))
    (hr : s.ReducesTo axes S_) (hu : 0 < S_.numel) (j : S_.Idx)
    (e : Host.reduce IntOp.andi (cmpf .olt (Host.absf X) (broadcastInDim s ![] hb (constant S_ .f32 0x7F800000#32)))
      (constantI S_ 1 1#1) hr hu j = 1#1) (i : s.Idx) : (X i : EReal) = (((X i : EReal).toReal : ℝ) : EReal) := by
  have h := Host.reduce_andi_all _ _ _ _ j e i
  have htop : Ideal.ofBits .f32 0x7F800000#32 = ⊤ := by simp [Ideal.ofBits, Ideal.ieee]
  refine real_of_abs _ (lt_of_lt_of_eq ((Ideal.cmp_olt_eq_one _ _).1 ?_) htop)
  exact h

theorem split (c d : IVec S_ 1) (j : S_.Idx) (h : andi c d j = 1#1) : c j = 1#1 ∧ d j = 1#1 := IntOp.andi_eq_one.1 h

/-- Under the precondition every entry of every argument is its real part. -/
theorem reals (a0 : FVec Ideal S4096x4096 .f32) (a1 : FVec Ideal S4096 .f32) (a2 a3 : FVec Ideal S2048 .f32)
    (a4 : FVec Ideal S8x128x128 .f32) (a5 : FVec Ideal S8x128 .f32) (a6 : FVec Ideal S4096x2048 .bf16)
    (h : Cert.Pre_finite.fn (F := Ideal) a0 a1 a2 a3 a4 a5 a6 = fun _ => 1#1) :
    (∀ i, (a0 i : EReal) = (((a0 i : EReal).toReal : ℝ) : EReal)) ∧ (∀ i, (a1 i : EReal) = (((a1 i : EReal).toReal : ℝ) : EReal))
      ∧ (∀ i, (a2 i : EReal) = (((a2 i : EReal).toReal : ℝ) : EReal)) ∧ (∀ i, (a3 i : EReal) = (((a3 i : EReal).toReal : ℝ) : EReal))
      ∧ (∀ i, (a4 i : EReal) = (((a4 i : EReal).toReal : ℝ) : EReal)) ∧ (∀ i, (a5 i : EReal) = (((a5 i : EReal).toReal : ℝ) : EReal))
      ∧ (∀ i, (a6 i : EReal) = (((a6 i : EReal).toReal : ℝ) : EReal)) := by
  have j : S_.Idx := fun k => k.elim0
  have h := congrFun h j
  unfold Cert.Pre_finite.fn fn_part1 fn_part2 at h
  obtain ⟨h, h6⟩ := split _ _ j h
  obtain ⟨h, h5⟩ := split _ _ j h
  obtain ⟨h, h4⟩ := split _ _ j h
  obtain ⟨h, h3⟩ := split _ _ j h
  obtain ⟨h, h2⟩ := split _ _ j h
  obtain ⟨h0, h1⟩ := split _ _ j h
  exact ⟨real_of_all a0 _ _ _ j h0, real_of_all a1 _ _ _ j h1, real_of_all a2 _ _ _ j h2, real_of_all a3 _ _ _ j h3,
    real_of_all a4 _ _ _ j h4, real_of_all a5 _ _ _ j h5, real_of_all (extf .f32 a6 _) _ _ _ j h6⟩

end Cert.Pre

end
-- ==== Proof.Entry.lean ====
module

public import proofs.«01_k».proof.Proof.Final
public import proofs.«01_k».proof.Proof.Ref3
public import proofs.«01_k».proof.Proof.Pre
public import Idealize.ShloMosaic.Lib.Claim

/-! Finite arguments seen from both programs: the real arrays they hold, chunk by chunk, are what the reference reads and
    what the kernel's input blocks hold. -/

@[expose] public section

set_option maxRecDepth 16384

noncomputable section

namespace Cert.Entry

open Idealize.ShloMosaic Idealize.ShloMosaic.TcCoe
open Cert.KernelIdeal Cert.KernelIdeal.Gen

/-- Row `r` of chunk `n`. -/
abbrev row (n : ℕ) (r : Fin 128) : Fin 4096 := ⟨(128 * n + r.val) % 4096, Nat.mod_lt _ (by decide)⟩

section Arrays

variable (a0 : FVec Ideal S4096x4096 .f32) (a1 : FVec Ideal S4096 .f32) (a2 a3 : FVec Ideal S2048 .f32)
  (a4 : FVec Ideal S8x128x128 .f32) (a5 : FVec Ideal S8x128 .f32) (a6 : FVec Ideal S4096x2048 .bf16)

/-- The sum of the first two arguments. -/
def xs (n : ℕ) (r : Fin 128) (k : Fin 4096) : ℝ := (a0 (ix2 (row n r) k) : EReal).toReal + (a1 (ix1 k) : EReal).toReal

/-- The gradient that comes in. -/
def ds (n : ℕ) (r : Fin 128) (j : Fin 2048) : ℝ := (a6 (ix2 (row n r) j) : EReal).toReal

/-- The layernorm's scale or its shift. -/
def gs (j : Fin 2048) : ℝ := (a2 (ix1 j) : EReal).toReal

/-- The mixing weights. -/
def ws (e : Fin 8) (p q : Fin 128) : ℝ := (a4 (ix3 e p q) : EReal).toReal

/-- The mixing shifts. -/
def bss (e : Fin 8) (p : Fin 128) : ℝ := (a5 (ix2 e p) : EReal).toReal

/-- The row of a chunk's row. -/
theorem row_eq (R : Fin 4096) : row (Cert.Ref.ch R) (Cert.Ref.rr R) = R := Fin.ext (by
  show (128 * (R.val / 128) + R.val % 128) % 4096 = R.val
  have := R.isLt; omega)

attribute [local instance] Cert.Pre_finite.Gen.facts in
theorem arg (h : Cert.Pre_finite.fn (F := Ideal) a0 a1 a2 a3 a4 a5 a6 = fun _ => 1#1) :
    Cert.Ref.Arg a0 a1 a2 a3 a4 a5 a6 (xs a0 a1) (ds a6) (gs a2) (gs a3) (ws a4) (bss a5) := by
  obtain ⟨h0, h1, h2, h3, h4, h5, h6⟩ := Cert.Pre.reals a0 a1 a2 a3 a4 a5 a6 h
  refine ⟨fun R k => ?_, fun R j => ?_, fun j => h2 _, fun j => h3 _, fun e p q => h4 _, fun e p => h5 _⟩
  · unfold xs; rw [row_eq, EReal.coe_add, ← h0, ← h1]
  · unfold ds; rw [row_eq, ← h6]

end Arrays

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0, 0] := (by decide +kernel : ∀ t : Fin grid0.N, win0_4.index t = ![0, 0, 0])
theorem idx5 : ∀ t : Fin cfg0.N, win0_5.index t = ![0, 0] := (by decide +kernel : ∀ t : Fin grid0.N, win0_5.index t = ![0, 0])

theorem row_val (t : Fin cfg0.N) (r : Fin 128) : (128 * t.val + r.val) % 4096 = t.val * 128 + r.val := by
  have h : t.val < 32 := lt_of_lt_of_eq t.isLt N_0
  have := r.isLt; omega

variable (m : (ℓ : Loc nD τ sig) → Buf (Elt Ideal) ℓ) (c : Dev nD)

theorem blk0 (t : Fin cfg0.N) (r : Fin 128) (k : Fin 4096) : (iblk m c 0 t : FVec Ideal S128x4096 .f32) (ix2 r k)
    = FloatOps.addf (F := Ideal) (φ := .f32) (m ((c.tc : Thread nD τ).loc main_arg0) (ix2 (row t.val r) k)) (m ((c.tc : Thread nD τ).loc main_arg1) (ix1 k)) := by
  blk_simp [iblk]
  entry_read
  pointwise
  exact congrArg₂ (fun a b : EReal => a + b) (by blk_ext [idx0 t, row_val t r]) (by blk_ext [idx0 t])

theorem blk1 (t : Fin cfg0.N) (r : Fin 128) (k : Fin 2048) : (iblk m c 1 t : FVec Ideal S128x2048 .bf16) (ix2 r k)
    = m ((c.tc : Thread nD τ).loc main_arg6) (ix2 (row t.val r) k) := by
  blk_ext [iblk, V, idx1 t, row_val t r]

theorem blk2 (t : Fin cfg0.N) (k : Fin 2048) : (iblk m c 2 t : FVec Ideal S1x2048 .f32) (ix2 0 k)
    = m ((c.tc : Thread nD τ).loc main_arg2) (ix1 k) := by
  blk_simp [iblk]
  entry_read
  pointwise
  blk_ext [idx2 t]

theorem blk3 (t : Fin cfg0.N) (k : Fin 2048) : (iblk m c 3 t : FVec Ideal S1x2048 .f32) (ix2 0 k)
    = m ((c.tc : Thread nD τ).loc main_arg3) (ix1 k) := by
  blk_simp [iblk]
  entry_read
  pointwise
  blk_ext [idx3 t]

theorem blk4 (t : Fin cfg0.N) (e : Fin 8) (p q : Fin 128) : (iblk m c 4 t : FVec Ideal S8x128x128 .f32) (ix3 e p q)
    = m ((c.tc : Thread nD τ).loc main_arg4) (ix3 e p q) := by
  blk_ext [iblk, V, idx4 t]

theorem blk5 (t : Fin cfg0.N) (p : Fin 128) (e : Fin 8) : (iblk m c 5 t : FVec Ideal S128x8 .f32) (ix2 p e)
    = m ((c.tc : Thread nD τ).loc main_arg5) (ix2 e p) := by
  blk_simp [iblk]
  entry_read
  pointwise
  blk_ext [idx5 t]

attribute [local instance] Cert.Pre_finite.Gen.facts in
/-- Under the precondition the region's input blocks hold the arguments' real entries. -/
theorem fin6 (h : Cert.Pre_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) :
    Cert.Point.Fin6 m c (xs (m ((c.tc : Thread nD τ).loc main_arg0)) (m ((c.tc : Thread nD τ).loc main_arg1)))
      (ds (m ((c.tc : Thread nD τ).loc main_arg6))) (gs (m ((c.tc : Thread nD τ).loc main_arg2)))
      (gs (m ((c.tc : Thread nD τ).loc main_arg3))) (ws (m ((c.tc : Thread nD τ).loc main_arg4)))
      (bss (m ((c.tc : Thread nD τ).loc main_arg5))) := by
  obtain ⟨h0, h1, h2, h3, h4, h5, h6⟩ := Cert.Pre.reals _ _ _ _ _ _ _ h
  refine ⟨fun t r k => (blk0 m c t r k).trans ?_, fun t r j => (blk1 m c t r j).trans (h6 _), fun t j => (blk2 m c t j).trans (h2 _),
    fun t j => (blk3 m c t j).trans (h3 _), fun t e p q => (blk4 m c t e p q).trans (h4 _), fun t p e => (blk5 m c t p e).trans (h5 _)⟩
  exact Cert.Ref.addC (h0 _) (h1 _)

end Cert.Entry

end
-- ==== Proof.Result.lean ====
module

public import proofs.«01_k».proof.Proof.Entry
public import proofs.«01_k».proof.Defs

/-! The six results, reference against kernel, from two memories that agree on finite arguments. -/

@[expose] public section

set_option maxRecDepth 16384

noncomputable section

namespace Cert.Result

open Idealize.ShloMosaic Idealize.ShloMosaic.TcCoe
open Cert.Entry

attribute [local instance] Cert.Pre_finite.Gen.facts Cert.KernelIdeal.Gen.facts Cert.ReferenceIdeal.Gen.facts

variable (m : (ℓ : Loc Cert.KernelIdeal.nD Cert.KernelIdeal.τ Cert.KernelIdeal.sig) → Buf (Elt Ideal) ℓ)

/-- The reference's stages read the kernel's arguments as finite arrays. -/
theorem arg_of_pre (h : Cert.Pre_KernelIdeal_finite m) (c : Dev Cert.KernelIdeal.nD) :
    Cert.Ref.Arg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (xs (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (ds (m ((c.tc : Thread Cert.KernelIdeal.nD Cert.KernelIdeal.τ).loc Cert.KernelIdeal.main_arg6))) (gs (m ((c.tc : Thread Cert.KernelIdeal.nD Cert.KernelIdeal.τ).loc Cert.KernelIdeal.main_arg2))) (gs (m ((c.tc : Thread Cert.KernelIdeal.nD Cert.KernelIdeal.τ).loc Cert.KernelIdeal.main_arg3))) (ws (m ((c.tc : Thread Cert.KernelIdeal.nD Cert.KernelIdeal.τ).loc Cert.KernelIdeal.main_arg4))) (bss (m ((c.tc : Thread Cert.KernelIdeal.nD Cert.KernelIdeal.τ).loc Cert.KernelIdeal.main_arg5))) :=
  arg _ _ _ _ _ _ _ (h c)

theorem stage120 (h : Cert.Pre_KernelIdeal_finite m) (c : Dev Cert.KernelIdeal.nD) :
    Cert.ReferenceIdeal.Read.val_main_v120 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      = (Cert.KernelIdeal.Gen.dats m 0 c).arrAt 6 (Cert.KernelIdeal.cfgs 0).N :=
  funext fun i => (Cert.Ref.v120 (arg_of_pre m h c) i).trans (congrFun (Cert.Final.final6 (fin6 m c (h c))) i).symm

theorem stage70 (h : Cert.Pre_KernelIdeal_finite m) (c : Dev Cert.KernelIdeal.nD) :
    Cert.ReferenceIdeal.Read.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6))
      = (Cert.KernelIdeal.Gen.dats m 0 c).arrAt 7 (Cert.KernelIdeal.cfgs 0).N :=
  funext fun i => (Cert.Ref.v70 (arg_of_pre m h c) i).trans (congrFun (Cert.Final.final7 (fin6 m c (h c))) i).symm

theorem stage121 (h : Cert.Pre_KernelIdeal_finite m) (c : Dev Cert.KernelIdeal.nD) :
    Cert.ReferenceIdeal.Read.val_main_v121 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6))
      = (Cert.KernelIdeal.Gen.dats m 0 c).arrAt 8 (Cert.KernelIdeal.cfgs 0).N :=
  funext fun i => (Cert.Ref.v121 (arg_of_pre m h c) i).trans (congrFun (Cert.Final.final8 (fin6 m c (h c))) i).symm

theorem stage122 (h : Cert.Pre_KernelIdeal_finite m) (c : Dev Cert.KernelIdeal.nD) :
    Cert.ReferenceIdeal.Read.val_main_v122 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg6))
      = (Cert.KernelIdeal.Gen.dats m 0 c).arrAt 9 (Cert.KernelIdeal.cfgs 0).N :=
  funext fun i => (Cert.Ref.v122 (arg_of_pre m h c) i).trans (congrFun (Cert.Final.final9 (fin6 m c (h c))) i).symm

theorem stage123 (h : Cert.Pre_KernelIdeal_finite m) (c : Dev Cert.KernelIdeal.nD) :
    Cert.ReferenceIdeal.Read.val_main_v123 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg6))
      = (Cert.KernelIdeal.Gen.dats m 0 c).arrAt 10 (Cert.KernelIdeal.cfgs 0).N :=
  funext fun i => (Cert.Ref.v123 (arg_of_pre m h c) i).trans (congrFun (Cert.Final.final10 (fin6 m c (h c))) i).symm

theorem stage124 (h : Cert.Pre_KernelIdeal_finite m) (c : Dev Cert.KernelIdeal.nD) :
    Cert.ReferenceIdeal.Read.val_main_v124 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      = (Cert.KernelIdeal.Gen.dats m 0 c).arrAt 11 (Cert.KernelIdeal.cfgs 0).N :=
  funext fun i => (Cert.Ref.v124 (arg_of_pre m h c) i).trans (congrFun (Cert.Final.final11 (fin6 m c (h c))) i).symm

end Cert.Result

end
-- ==== Proof.Prod.lean ====
module

public import Idealize.ShloMosaic.Lib.Pointwise
public import Idealize.ShloMosaic.PureOps.Ideal.Laws

/-! The product of two matrices of extended reals, and the ways in which a kernel's sums over blocks make it up. -/

@[expose] public section

noncomputable section

namespace Cert.Prod

open Idealize.ShloMosaic

/-- A matrix of `P` rows and `Q` columns. -/
abbrev Mat (P Q : ℕ) := (⟨2, ![P, Q]⟩ : Shape).Idx → EReal

variable {P R Q : ℕ}

/-- The matrix product. -/
def prod (a : Mat P R) (b : Mat R Q) : Mat P Q := fun i => ∑ k : Fin R, a (ix2 (i 0) k) * b (ix2 k (i 1))

/-- A row of `Q` numbers. -/
abbrev Row (Q : ℕ) := (⟨1, ![Q]⟩ : Shape).Idx → EReal

/-- The matrix with a row added to each of its rows. -/
def shift (a : Mat P Q) (s : Row Q) : Mat P Q := fun i => a i + s (ix1 (i 1))

/-- The transposed matrix. -/
def tr (a : Mat P Q) : Mat Q P := fun i => a (ix2 (i 1) (i 0))

/-- Two matrices side by side. -/
def beside {n : ℕ} (a b : Mat P n) : Mat P (n + n) := fun i =>
  if h : (i 1).val < n then a (ix2 (i 0) ⟨(i 1).val, h⟩) else b (ix2 (i 0) ⟨(i 1).val - n, by have := (i 1).isLt; simp at this; omega⟩)

/-- Place `k` of the first half of an axis. -/
abbrev lo {n : ℕ} (k : Fin n) : Fin (n + n) := ⟨k.val, by omega⟩

/-- Place `k` of the second half of an axis. -/
abbrev hi {n : ℕ} (k : Fin n) : Fin (n + n) := ⟨n + k.val, by omega⟩

/-- A product is a sum whose terms are the product's. -/
theorem prod_whole {a : Mat P R} {b : Mat R Q} {i : (⟨2, ![P, Q]⟩ : Shape).Idx} {f g : Fin R → EReal}
    (hf : ∀ k, f k = a (ix2 (i 0) k)) (hg : ∀ k, g k = b (ix2 k (i 1))) : ∑ k, f k * g k = prod a b i :=
  Finset.sum_congr rfl fun k _ => by rw [hf, hg]

/-- The same with the factors swapped. -/
theorem prod_swapped {a : Mat P R} {b : Mat R Q} {i : (⟨2, ![P, Q]⟩ : Shape).Idx} {f g : Fin R → EReal}
    (hf : ∀ k, f k = a (ix2 (i 0) k)) (hg : ∀ k, g k = b (ix2 k (i 1))) : ∑ k, g k * f k = prod a b i :=
  (Finset.sum_congr rfl fun _ _ => mul_comm _ _).trans (prod_whole hf hg)

/-- An entry of a product is an entry of the product of two blocks, if the blocks' entries are the matrices'. -/
theorem prod_block {P' Q' : ℕ} {a : Mat P R} {b : Mat R Q} {x : Mat P' R} {z : Mat R Q'} {y : (⟨2, ![P', Q']⟩ : Shape).Idx}
    {i : (⟨2, ![P, Q]⟩ : Shape).Idx} (hx : ∀ k, x (ix2 (y 0) k) = a (ix2 (i 0) k)) (hz : ∀ k, z (ix2 k (y 1)) = b (ix2 k (i 1))) :
    prod x z y = prod a b i :=
  prod_whole hx hz

/-- An entry of a product is the sum of two products of blocks, one over each half of the shared axis. -/
theorem prod_halves {n P' Q' : ℕ} {a : Mat P (n + n)} {b : Mat (n + n) Q} {x x' : Mat P' n} {z z' : Mat n Q'}
    {y : (⟨2, ![P', Q']⟩ : Shape).Idx} {i : (⟨2, ![P, Q]⟩ : Shape).Idx}
    (hx : ∀ k, x (ix2 (y 0) k) = a (ix2 (i 0) (lo k))) (hz : ∀ k, z (ix2 k (y 1)) = b (ix2 (lo k) (i 1)))
    (hx' : ∀ k, x' (ix2 (y 0) k) = a (ix2 (i 0) (hi k))) (hz' : ∀ k, z' (ix2 k (y 1)) = b (ix2 (hi k) (i 1))) :
    prod x z y + prod x' z' y = prod a b i := by
  unfold prod
  rw [Fin.sum_univ_add]
  exact congr (congrArg _ (Finset.sum_congr rfl fun k _ => by rw [hx, hz]; rfl)) (Finset.sum_congr rfl fun k _ => by rw [hx', hz']; rfl)

/-- The same with the left factor transposed. -/
theorem prod_halves_tr {n P' Q' : ℕ} {a : Mat (n + n) P} {b : Mat (n + n) Q} {x x' : Mat n P'} {z z' : Mat n Q'}
    {y : (⟨2, ![P', Q']⟩ : Shape).Idx} {i : (⟨2, ![P, Q]⟩ : Shape).Idx}
    (hx : ∀ k, x (ix2 k (y 0)) = a (ix2 (lo k) (i 0))) (hz : ∀ k, z (ix2 k (y 1)) = b (ix2 (lo k) (i 1)))
    (hx' : ∀ k, x' (ix2 k (y 0)) = a (ix2 (hi k) (i 0))) (hz' : ∀ k, z' (ix2 k (y 1)) = b (ix2 (hi k) (i 1))) :
    prod (tr x) z y + prod (tr x') z' y = prod (tr a) b i :=
  prod_halves (a := tr a) (x := tr x) (x' := tr x') hx hz hx' hz'

/-- The same with the right factor transposed. -/
theorem prod_block_tr {P' Q' : ℕ} {a : Mat P R} {b : Mat Q R} {x : Mat P' R} {z : Mat Q' R} {y : (⟨2, ![P', Q']⟩ : Shape).Idx}
    {i : (⟨2, ![P, Q]⟩ : Shape).Idx} (hx : ∀ k, x (ix2 (y 0) k) = a (ix2 (i 0) k)) (hz : ∀ k, z (ix2 (y 1) k) = b (ix2 (i 1) k)) :
    prod x (tr z) y = prod a (tr b) i :=
  prod_block (b := tr b) (z := tr z) hx hz

theorem beside_left {n : ℕ} (a b : Mat P n) {r : Fin P} {q : Fin (n + n)} {v : ℕ} (hv : v < n) (h : q.val = v) :
    beside a b (ix2 r q) = a (ix2 r ⟨v, hv⟩) := by
  subst h
  exact dif_pos hv

theorem beside_right {n : ℕ} (a b : Mat P n) {r : Fin P} {q : Fin (n + n)} {v : ℕ} (hv : v < n) (h : q.val = n + v) :
    beside a b (ix2 r q) = b (ix2 r ⟨v, hv⟩) := by
  have hq : ¬ q.val < n := by omega
  refine (dif_neg hq).trans ?_
  exact congrArg b (congrArg (ix2 r) (Fin.ext (by show q.val - n = v; omega)))

/-- Two matrices side by side, times a transposed one: one product over each of the two. -/
theorem prod_beside {n P' Q' : ℕ} {a b : Mat P n} {w : Mat Q (n + n)} {x x' : Mat P' n} {z z' : Mat Q' n}
    {y : (⟨2, ![P', Q']⟩ : Shape).Idx} {i : (⟨2, ![P, Q]⟩ : Shape).Idx}
    (hx : ∀ k, x (ix2 (y 0) k) = a (ix2 (i 0) k)) (hz : ∀ k, z (ix2 (y 1) k) = w (ix2 (i 1) (lo k)))
    (hx' : ∀ k, x' (ix2 (y 0) k) = b (ix2 (i 0) k)) (hz' : ∀ k, z' (ix2 (y 1) k) = w (ix2 (i 1) (hi k))) :
    prod x (tr z) y + prod x' (tr z') y = prod (beside a b) (tr w) i := by
  refine prod_halves (z := tr z) (z' := tr z') (fun k => ?_) hz (fun k => ?_) hz'
  · exact (hx k).trans (beside_left a b k.isLt rfl).symm
  · exact (hx' k).trans (beside_right a b k.isLt rfl).symm

end Cert.Prod
-- ==== Proof.Act.lean ====
module

public import proofs.«01_k».proof.Proof.Prod
public import proofs.«01_k».proof.Proof.RealLift

/-! The gated activation of the feed-forward block and its derivative in the gate. -/

@[expose] public section

noncomputable section

namespace Cert.Prod

open Idealize.ShloMosaic

variable {P R Q : ℕ}

/-- An extended real that is a real number. -/
def Finite (x : EReal) : Prop := ∃ r : ℝ, x = (r : EReal)

/-- The gate times its logistic: what the second operand is multiplied by. -/
def silu (g : EReal) : EReal := g * Ideal.logistic g

/-- The derivative of `silu g * u` in the gate. -/
def slope (g u : EReal) : EReal := u * (Ideal.logistic g + silu g * (1 - Ideal.logistic g))

theorem logistic_fin {g : EReal} (h : Finite g) : Finite (Ideal.logistic g) := by
  obtain ⟨r, rfl⟩ := h
  have hp : 1 + Real.exp (-r) ≠ 0 := by positivity
  refine ⟨1 / (1 + Real.exp (-r)), ?_⟩
  rw [Ideal.logistic, ← EReal.coe_neg, Lift.exp_coe, ← EReal.coe_one, ← EReal.coe_add, Lift.div_coe _ _ hp]

/-- A product of matrices of real numbers has real entries. -/
theorem prod_fin {a : Mat P R} {b : Mat R Q} (ha : ∀ i, Finite (a i)) (hb : ∀ i, Finite (b i)) (i : (⟨2, ![P, Q]⟩ : Shape).Idx) :
    Finite (prod a b i) := by
  choose f hf using ha
  choose g hg using hb
  refine ⟨∑ k : Fin R, f (ix2 (i 0) k) * g (ix2 k (i 1)), ?_⟩
  rw [← Lift.coe_sum]
  exact Finset.sum_congr rfl fun k _ => by rw [hf, hg, EReal.coe_mul]

/-- The derivative as the chain rule spells it, on real numbers. -/
theorem slope_chain {d g u : EReal} (hd : Finite d) (hg : Finite g) (hu : Finite u) :
    d * u * Ideal.logistic g + g * (d * u) * (Ideal.logistic g * (1 - Ideal.logistic g)) = d * slope g u := by
  obtain ⟨s, hs⟩ := logistic_fin hg
  obtain ⟨d, rfl⟩ := hd
  obtain ⟨u, rfl⟩ := hu
  unfold slope silu
  rw [hs]
  obtain ⟨g, rfl⟩ := hg
  simp only [← EReal.coe_one, ← EReal.coe_mul, ← EReal.coe_add, ← EReal.coe_sub]
  exact congrArg _ (by ring)

/-- The same against a gradient of one. -/
theorem slope_one {g u : EReal} (hg : Finite g) (hu : Finite u) :
    u * Ideal.logistic g + g * u * (Ideal.logistic g * (1 - Ideal.logistic g)) = slope g u := by
  have h := slope_chain (d := 1) ⟨1, rfl⟩ hg hu
  rwa [one_mul, one_mul] at h

/-- The first half of the columns. -/
def left {n : ℕ} (w : Mat P (n + n)) : Mat P n := fun i => w (ix2 (i 0) (lo (i 1)))

/-- The second half of the columns. -/
def right {n : ℕ} (w : Mat P (n + n)) : Mat P n := fun i => w (ix2 (i 0) (hi (i 1)))

end Cert.Prod

end
-- ==== Proof.ActUp.lean ====
module

public import proofs.«01_k».proof.Proof.Act
public import proofs.«01_k».proof.Proof.Gen.FfnUpIdeal.Value
public import proofs.«01_k».proof.Proof.Gen.FfnUpRefIdeal.Read
public import Idealize.ShloMosaic.Lib.Claim
public import Idealize.ShloMosaic.Lib.Pipeline.ReadBack
public import Idealize.ShloMosaic.Lib.Pipeline.ValueKit

/-! The first layer of the feed-forward block: the gated activation, the gate's activation and the derivative in the gate. -/

@[expose] public section

set_option maxRecDepth 16384

noncomputable section

open Idealize.ShloMosaic Idealize.ShloMosaic.TcCoe Idealize.SL.Sem

/-! ## The three results -/

namespace Cert.Prod.FfnUp

open Cert.FfnUpIdeal Cert.FfnUpIdeal.Gen

variable (m : (ℓ : Loc nD τ sig) → Buf (Elt Ideal) ℓ) (c : Dev nD)

theorem idx : ∀ t : Fin cfg0.N, win0_0.index t = ![t.val, 0] ∧ win0_1.index t = ![0, 0, 0] ∧ win0_2.index t = ![0, 0, 1]
    ∧ win0_3.index t = ![t.val, 0] ∧ win0_4.index t = ![t.val, 0] ∧ win0_5.index t = ![t.val, 0] :=
  (by decide +kernel : ∀ t : Fin grid0.N, _)

abbrev a : Mat 4096 1024 := (m ((c.tc : Thread nD τ).loc main_arg0))
abbrev w : Mat 1024 (2816 + 2816) := (m ((c.tc : Thread nD τ).loc main_arg1))
abbrev x (t : Fin cfg0.N) : Mat 256 1024 := iblk m c 0 t
abbrev z (t : Fin cfg0.N) : Mat 1024 2816 := fun i => iblk m c 1 t (ix3 (0 : Fin 1) (i 0) (i 1))
abbrev z' (t : Fin cfg0.N) : Mat 1024 2816 := fun i => iblk m c 2 t (ix3 (0 : Fin 1) (i 0) (i 1))

/-- An entry of the gate at a place of a block. -/
theorem gate (t : Fin cfg0.N) (y : S256x2816.Idx) (i : S4096x2816.Idx) (h0 : (i 0).val = t.val * 256 + (y 0).val)
    (h1 : (i 1).val = (y 1).val) : prod (x m c t) (z m c t) y = prod (a m c) (left (w m c)) i := by
  obtain ⟨i0, i1, _⟩ := idx t
  refine prod_block (fun k => ?_) (fun k => ?_)
  · blk_ext [iblk, V, i0, h0]
  · show iblk m c 1 t (ix3 (0 : Fin 1) k (y 1)) = (m ((c.tc : Thread nD τ).loc main_arg1)) (ix2 k (lo (i 1)))
    blk_simp [iblk]; entry_read; pointwise; blk_ext [i1, h1]

/-- An entry of what is gated. -/
theorem gated (t : Fin cfg0.N) (y : S256x2816.Idx) (i : S4096x2816.Idx) (h0 : (i 0).val = t.val * 256 + (y 0).val)
    (h1 : (i 1).val = (y 1).val) : prod (x m c t) (z' m c t) y = prod (a m c) (right (w m c)) i := by
  obtain ⟨i0, _, i2, _⟩ := idx t
  refine prod_block (fun k => ?_) (fun k => ?_)
  · blk_ext [iblk, V, i0, h0]
  · show iblk m c 2 t (ix3 (0 : Fin 1) k (y 1)) = (m ((c.tc : Thread nD τ).loc main_arg1)) (ix2 k (hi (i 1)))
    blk_simp [iblk]; entry_read; pointwise; blk_ext [i2, h1]

theorem final3 : (dats m 0 c).arrAt 3 (cfgs 0).N = fun i => slope (prod (a m c) (left (w m c)) i) (prod (a m c) (right (w m c)) i) := by
  refine (dats m 0 c).arrAt_eq_of_covers 3 _ (by decide +kernel) fun t hf y => ?_
  obtain ⟨_, _, _, i3, i4, i5⟩ := idx t
  have e0 : ((win0_3.blk t).view.emb y 0).val = t.val * 256 + (y 0).val := by blk_simp [i3]
  have e1 : ((win0_3.blk t).view.emb y 1).val = (y 1).val := by blk_simp [i3]
  blk_simp
  rw [after0_3]
  unfold out0_3
  frame_out
  pointwise [k0_pay5, k0_pay4, k0_pay3, k0_pay2, k0_pay1]
  exact congrArg₂ slope (gate m c t y _ e0 e1) (gated m c t y _ e0 e1)

theorem final4 : (dats m 0 c).arrAt 4 (cfgs 0).N = fun i => silu (prod (a m c) (left (w m c)) i) := by
  refine (dats m 0 c).arrAt_eq_of_covers 4 _ (by decide +kernel) fun t hf y => ?_
  obtain ⟨_, _, _, i3, i4, i5⟩ := idx t
  have e0 : ((win0_4.blk t).view.emb y 0).val = t.val * 256 + (y 0).val := by blk_simp [i4]
  have e1 : ((win0_4.blk t).view.emb y 1).val = (y 1).val := by blk_simp [i4]
  blk_simp
  rw [after0_4]
  unfold out0_4
  frame_out
  pointwise [k0_pay6, k0_pay4, k0_pay3, k0_pay1]
  exact congrArg silu (gate m c t y _ e0 e1)

theorem final5 : (dats m 0 c).arrAt 5 (cfgs 0).N = fun i => silu (prod (a m c) (left (w m c)) i) * prod (a m c) (right (w m c)) i := by
  refine (dats m 0 c).arrAt_eq_of_covers 5 _ (by decide +kernel) fun t hf y => ?_
  obtain ⟨_, _, _, i3, i4, i5⟩ := idx t
  have e0 : ((win0_5.blk t).view.emb y 0).val = t.val * 256 + (y 0).val := by blk_simp [i5]
  have e1 : ((win0_5.blk t).view.emb y 1).val = (y 1).val := by blk_simp [i5]
  blk_simp
  rw [after0_5]
  unfold out0_5
  frame_out
  pointwise [k0_pay7, k0_pay4, k0_pay3, k0_pay2, k0_pay1]
  exact congrArg₂ (fun g u => silu g * u) (gate m c t y _ e0 e1) (gated m c t y _ e0 e1)

open Cert.FfnUpRefIdeal.Read in
theorem ref11 (a : Mat 4096 1024) (w : Mat 1024 5632) (ha : ∀ i, Finite (a i)) (hw : ∀ i, Finite (w i)) :
    val_main_v11 (F := Ideal) a w = fun i => slope (prod a (left (n := 2816) w) i) (prod a (right (n := 2816) w) i) := by
  funext i
  pointwise [val_main_v11, val_main_v10, val_main_call1_v2, val_main_call1_v1, val_main_call1_v0, val_main_v9, val_main_v8, val_main_v7, val_main_v6, val_main_cst,
    val_main_v5_0, val_main_v5_1, val_main_call0_v7, val_main_call0_v6, val_main_call0_cst_1, val_main_v5_2, val_main_call0_v4,
    val_main_call0_cst_0, val_main_call0_v3, val_main_call0_v2, val_main_call0_cst, val_main_call0_v1, val_main_call0_v0,
    val_main_v4, val_main_v3, val_main_v2, val_main_v1, val_main_v0]
  exact slope_one (prod_fin (b := left (n := 2816) w) ha (fun _ => hw _) i) (prod_fin (b := right (n := 2816) w) ha (fun _ => hw _) i)

open Cert.FfnUpRefIdeal.Read in
theorem ref12 (a : Mat 4096 1024) (w : Mat 1024 5632) :
    val_main_v12 (F := Ideal) a w = fun i => silu (prod a (left (n := 2816) w) i) := by
  funext i
  pointwise [val_main_v12, val_main_call1_v2, val_main_call1_v1, val_main_call1_v0, val_main_v9, val_main_v8, val_main_v7, val_main_v6, val_main_cst,
    val_main_v5_0, val_main_v5_1, val_main_call0_v7, val_main_call0_v6, val_main_call0_cst_1, val_main_v5_2, val_main_call0_v4,
    val_main_call0_cst_0, val_main_call0_v3, val_main_call0_v2, val_main_call0_cst, val_main_call0_v1, val_main_call0_v0,
    val_main_v4, val_main_v3, val_main_v2, val_main_v1, val_main_v0]
  exact rfl

open Cert.FfnUpRefIdeal.Read in
theorem ref13 (a : Mat 4096 1024) (w : Mat 1024 5632) :
    val_main_v13 (F := Ideal) a w = fun i => silu (prod a (left (n := 2816) w) i) * prod a (right (n := 2816) w) i := by
  funext i
  pointwise [val_main_v13, val_main_call1_v2, val_main_call1_v1, val_main_call1_v0, val_main_v9, val_main_v8, val_main_v7, val_main_v6, val_main_cst,
    val_main_v5_0, val_main_v5_1, val_main_call0_v7, val_main_call0_v6, val_main_call0_cst_1, val_main_v5_2, val_main_call0_v4,
    val_main_call0_cst_0, val_main_call0_v3, val_main_call0_v2, val_main_call0_cst, val_main_call0_v1, val_main_call0_v0,
    val_main_v4, val_main_v3, val_main_v2, val_main_v1, val_main_v0]
  exact rfl

end Cert.Prod.FfnUp

end
-- ==== Proof.ActDown.lean ====
module

public import proofs.«01_k».proof.Proof.Act
public import proofs.«01_k».proof.Proof.Gen.FfnDownDxIdeal.Frame
public import proofs.«01_k».proof.Proof.Gen.FfnDownDxRefIdeal.Read
public import Idealize.ShloMosaic.Lib.Claim
public import Idealize.ShloMosaic.Lib.Pipeline.ReadBack
public import Idealize.ShloMosaic.Lib.Pipeline.ValueKit

/-! The gradient through the second layer of the feed-forward block and the gated activation, after the forward call whose two
saved arrays it reads: what each of the two calls leaves, from whatever arrays it finds. -/

@[expose] public section

set_option maxRecDepth 16384

noncomputable section

open Idealize.ShloMosaic Idealize.ShloMosaic.TcCoe Idealize.SL.Sem

namespace Cert.Prod.FfnDownDx

open Cert.FfnDownDxIdeal Cert.FfnDownDxIdeal.Gen

variable (V : (c : Dev nD) → (b : Ref sig .tc) → Buf (Elt Ideal) ((c : Thread nD τ).loc b)) (c : Dev nD)

/-! ## The forward call -/

theorem idx0 : ∀ t : Fin cfg0.N, win0_0.index t = ![t.val, 0] ∧ win0_1.index t = ![0, 0, 0] ∧ win0_2.index t = ![0, 0, 1]
    ∧ win0_3.index t = ![t.val, 0] ∧ win0_4.index t = ![t.val, 0] ∧ win0_5.index t = ![t.val, 0] :=
  (by decide +kernel : ∀ t : Fin grid0.N, _)

/-- The forward call's rows, and its weights without their layer axis. -/
abbrev a : Mat 4096 1024 := V c main_arg2
abbrev wgu : Mat 1024 (2816 + 2816) := fun i => (V c main_v0) (ix3 (0 : Fin 1) (i 0) (i 1))
abbrev x0 (t : Fin cfg0.N) : Mat 256 1024 := iblk0 V c 0 t
abbrev z0 (t : Fin cfg0.N) : Mat 1024 2816 := fun i => iblk0 V c 1 t (ix3 (0 : Fin 1) (i 0) (i 1))
abbrev z1 (t : Fin cfg0.N) : Mat 1024 2816 := fun i => iblk0 V c 2 t (ix3 (0 : Fin 1) (i 0) (i 1))

/-- An entry of the gate at a place of a block. -/
theorem gate (t : Fin cfg0.N) (y : S256x2816.Idx) (i : S4096x2816.Idx) (h0 : (i 0).val = t.val * 256 + (y 0).val)
    (h1 : (i 1).val = (y 1).val) : prod (x0 V c t) (z0 V c t) y = prod (a V c) (left (wgu V c)) i := by
  obtain ⟨i0, i1, _⟩ := idx0 t
  refine prod_block (fun k => ?_) (fun k => ?_)
  · blk_ext [iblk0, i0, h0]
  · show iblk0 V c 1 t (ix3 (0 : Fin 1) k (y 1)) = (V c main_v0) (ix3 (0 : Fin 1) k (lo (n := 2816) (i 1)))
    blk_ext [iblk0, i1, h1]

/-- An entry of what is gated. -/
theorem gated (t : Fin cfg0.N) (y : S256x2816.Idx) (i : S4096x2816.Idx) (h0 : (i 0).val = t.val * 256 + (y 0).val)
    (h1 : (i 1).val = (y 1).val) : prod (x0 V c t) (z1 V c t) y = prod (a V c) (right (wgu V c)) i := by
  obtain ⟨i0, _, i2, _⟩ := idx0 t
  refine prod_block (fun k => ?_) (fun k => ?_)
  · blk_ext [iblk0, i0, h0]
  · show iblk0 V c 2 t (ix3 (0 : Fin 1) k (y 1)) = (V c main_v0) (ix3 (0 : Fin 1) k (hi (n := 2816) (i 1)))
    blk_ext [iblk0, i2, h1]

/-- The first saved array: the derivative in the gate. -/
theorem saved3 : (dat0 V c).arrAt 3 cfg0.N = fun i => slope (prod (a V c) (left (wgu V c)) i) (prod (a V c) (right (wgu V c)) i) := by
  refine (dat0 V c).arrAt_eq_of_covers 3 _ (by decide +kernel) fun t hf y => ?_
  obtain ⟨_, _, _, i3, i4, i5⟩ := idx0 t
  have e0 : ((win0_3.blk t).view.emb y 0).val = t.val * 256 + (y 0).val := by blk_simp [i3]
  have e1 : ((win0_3.blk t).view.emb y 1).val = (y 1).val := by blk_simp [i3]
  blk_simp
  rw [after0_3]
  unfold out0_3
  frame_out
  pointwise [k0_pay5, k0_pay4, k0_pay3, k0_pay2, k0_pay1]
  exact congrArg₂ slope (gate V c t y _ e0 e1) (gated V c t y _ e0 e1)

/-- The second saved array: the gate's activation. -/
theorem saved4 : (dat0 V c).arrAt 4 cfg0.N = fun i => silu (prod (a V c) (left (wgu V c)) i) := by
  refine (dat0 V c).arrAt_eq_of_covers 4 _ (by decide +kernel) fun t hf y => ?_
  obtain ⟨_, _, _, i3, i4, i5⟩ := idx0 t
  have e0 : ((win0_4.blk t).view.emb y 0).val = t.val * 256 + (y 0).val := by blk_simp [i4]
  have e1 : ((win0_4.blk t).view.emb y 1).val = (y 1).val := by blk_simp [i4]
  blk_simp
  rw [after0_4]
  unfold out0_4
  frame_out
  pointwise [k0_pay6, k0_pay4, k0_pay3, k0_pay1]
  exact congrArg silu (gate V c t y _ e0 e1)

/-! ## The backward call -/

theorem idx1 : ∀ t : Fin cfg1.N, win1_0.index t = ![t.val, 0] ∧ win1_1.index t = ![0, 0, 0] ∧ win1_2.index t = ![t.val, 0]
    ∧ win1_3.index t = ![t.val, 0] ∧ win1_4.index t = ![t.val, 0] ∧ win1_5.index t = ![t.val, 0] :=
  (by decide +kernel : ∀ t : Fin grid1.N, _)

/-- The incoming gradient, and the second layer's weights without their layer axis. -/
abbrev d : Mat 4096 1024 := V c main_arg0
abbrev w : Mat 2816 1024 := fun i => (V c main_v2) (ix3 (0 : Fin 1) (i 0) (i 1))
abbrev x (t : Fin cfg1.N) : Mat 512 1024 := iblk1 V c 0 t
abbrev z (t : Fin cfg1.N) : Mat 2816 1024 := fun i => iblk1 V c 1 t (ix3 (0 : Fin 1) (i 0) (i 1))

/-- An entry of the product at a place of a block. -/
theorem back (t : Fin cfg1.N) (y : S512x2816.Idx) (i : S4096x2816.Idx) (h0 : (i 0).val = t.val * 512 + (y 0).val)
    (h1 : (i 1).val = (y 1).val) :
    prod (x V c t) (tr (z V c t)) y = prod (d V c) (tr (w V c)) i := by
  obtain ⟨i0, i1, _⟩ := idx1 t
  refine prod_block_tr (fun k => ?_) (fun k => ?_)
  · blk_ext [iblk1, i0, h0]
  · show iblk1 V c 1 t (ix3 (0 : Fin 1) (y 1) k) = (V c main_v2) (ix3 (0 : Fin 1) (i 1) k)
    blk_ext [iblk1, i1, h1]

theorem final4 : (dat1 V c).arrAt 4 cfg1.N = fun i => prod (d V c) (tr (w V c)) i * (V c main_v1_0 : Mat 4096 2816) i := by
  refine (dat1 V c).arrAt_eq_of_covers 4 _ (by decide +kernel) fun t hf y => ?_
  obtain ⟨_, _, i2, _, i4, i5⟩ := idx1 t
  have e0 : ((win1_4.blk t).view.emb y 0).val = t.val * 512 + (y 0).val := by blk_simp [i4]
  have e1 : ((win1_4.blk t).view.emb y 1).val = (y 1).val := by blk_simp [i4]
  blk_simp
  rw [after1_4]
  unfold outsAt1
  frame_open
  frame_out
  pointwise [k1_pay2, k1_pay1]
  refine congrArg₂ (· * ·) (back V c t y _ e0 e1) ?_
  blk_ext [iblk1, i2, i4]

theorem final5 : (dat1 V c).arrAt 5 cfg1.N = fun i => prod (d V c) (tr (w V c)) i * (V c main_v1_1 : Mat 4096 2816) i := by
  refine (dat1 V c).arrAt_eq_of_covers 5 _ (by decide +kernel) fun t hf y => ?_
  obtain ⟨_, _, _, i3, i4, i5⟩ := idx1 t
  have e0 : ((win1_5.blk t).view.emb y 0).val = t.val * 512 + (y 0).val := by blk_simp [i5]
  have e1 : ((win1_5.blk t).view.emb y 1).val = (y 1).val := by blk_simp [i5]
  blk_simp
  rw [after1_5]
  unfold outsAt1
  frame_open
  frame_out
  pointwise [k1_pay3, k1_pay1]
  refine congrArg₂ (· * ·) (back V c t y _ e0 e1) ?_
  blk_ext [iblk1, i3, i5]

/-! ## The reference -/

open Cert.FfnDownDxRefIdeal.Read in
theorem ref14 (d : Mat 4096 1024) (w : Mat 2816 1024) (a : Mat 4096 1024) (v : Mat 1024 5632) (hd : ∀ i, Finite (d i))
    (hw : ∀ i, Finite (w i)) (ha : ∀ i, Finite (a i)) (hv : ∀ i, Finite (v i)) :
    val_main_v14 (F := Ideal) d w a v
      = fun i => prod d (tr w) i * slope (prod a (left (n := 2816) v) i) (prod a (right (n := 2816) v) i) := by
  funext i
  pointwise [val_main_v15, val_main_v14, val_main_call1_v2, val_main_call1_v1, val_main_call1_v0, val_main_v13, val_main_v12, val_main_v11,
    val_main_v10, val_main_v9, val_main_v8, val_main_v7_0, val_main_v7_1, val_main_v7_2, val_main_call0_v7, val_main_call0_v6,
    val_main_call0_cst_1, val_main_call0_v4, val_main_call0_cst_0, val_main_call0_v3, val_main_call0_v2, val_main_call0_cst,
    val_main_call0_v1, val_main_call0_v0, val_main_v6, val_main_v5, val_main_v4, val_main_v3, val_main_v2, val_main_v1, val_main_v0]
  exact slope_chain (prod_fin (b := tr w) hd (fun _ => hw _) i) (prod_fin (b := left (n := 2816) v) ha (fun _ => hv _) i)
    (prod_fin (b := right (n := 2816) v) ha (fun _ => hv _) i)

open Cert.FfnDownDxRefIdeal.Read in
theorem ref15 (d : Mat 4096 1024) (w : Mat 2816 1024) (a : Mat 4096 1024) (v : Mat 1024 5632) :
    val_main_v15 (F := Ideal) d w a v = fun i => prod d (tr w) i * silu (prod a (left (n := 2816) v) i) := by
  funext i
  pointwise [val_main_v15, val_main_v14, val_main_call1_v2, val_main_call1_v1, val_main_call1_v0, val_main_v13, val_main_v12, val_main_v11,
    val_main_v10, val_main_v9, val_main_v8, val_main_v7_0, val_main_v7_1, val_main_v7_2, val_main_call0_v7, val_main_call0_v6,
    val_main_call0_cst_1, val_main_call0_v4, val_main_call0_cst_0, val_main_call0_v3, val_main_call0_v2, val_main_call0_cst,
    val_main_call0_v1, val_main_call0_v0, val_main_v6, val_main_v5, val_main_v4, val_main_v3, val_main_v2, val_main_v1, val_main_v0]
  exact mul_comm _ _

end Cert.Prod.FfnDownDx

end
-- ==== Proof.ActRun.lean ====
module

public import proofs.«01_k».proof.Proof.ActDown

/-! The program of two calls, from the launch to its results: the backward call reads what the forward call wrote. -/

@[expose] public section

set_option maxRecDepth 16384

noncomputable section

open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

namespace Cert.Prod.FfnDownDx

open Cert.FfnDownDxIdeal Cert.FfnDownDxIdeal.Gen

local notation "𝕄" => MT nD τ sig Unit (Elt Ideal) ℕ (UR sig nD τ) ℕ

variable (m : (ℓ : Loc nD τ sig) → Buf (Elt Ideal) ℓ) (ρ : Dev nD → PrngReg)

/-! ## What each call finds -/

variable (c : Dev nD)

theorem entry_a : a (V1 m ρ) c = m ((c.tc : Thread nD τ).loc main_arg2) := W1_args m ρ c main_arg2 (by decide)

theorem entry_wgu : wgu (V1 m ρ) c = m ((c.tc : Thread nD τ).loc main_arg3) := by
  funext i
  show (StableHlo.after hostOps0 (W0 m ρ c) (Proc.devRef .tc main_v0)) (ix3 (0 : Fin 1) (i 0) (i 1)) = _
  entry_read
  pointwise

theorem entry_d : d (V3 m ρ) c = m ((c.tc : Thread nD τ).loc main_arg0) := W3_args m ρ c main_arg0 (by decide)

theorem entry_w : w (V3 m ρ) c = m ((c.tc : Thread nD τ).loc main_arg1) := by
  have e : W2 m ρ c (Proc.devRef .tc main_arg1) = m ((c.tc : Thread nD τ).loc main_arg1) := W2_args m ρ c main_arg1 (by decide)
  funext i
  rw [← e]
  show (StableHlo.after hostOps1 (W2 m ρ c) (Proc.devRef .tc main_v2)) (ix3 (0 : Fin 1) (i 0) (i 1)) = _
  entry_read
  pointwise

theorem entry_gate : (V3 m ρ) c main_v1_0 = (dat0 (V1 m ρ) c).arrAt 3 cfg0.N :=
  (W3_of m ρ c main_v1_0 (by decide)).trans (W2_arr m ρ c 3)

theorem entry_gated : (V3 m ρ) c main_v1_1 = (dat0 (V1 m ρ) c).arrAt 4 cfg0.N :=
  (W3_of m ρ c main_v1_1 (by decide)).trans (W2_arr m ρ c 4)

/-! ## The two results -/

/-- The incoming gradient brought back to one entry of the activation. -/
abbrev incoming : Mat 4096 2816 :=
  prod (m ((c.tc : Thread nD τ).loc main_arg0) : Mat 4096 1024) (tr (m ((c.tc : Thread nD τ).loc main_arg1) : Mat 2816 1024))

/-- The gate, and what is gated. -/
abbrev gateAll : Mat 4096 2816 :=
  prod (m ((c.tc : Thread nD τ).loc main_arg2) : Mat 4096 1024) (left (n := 2816) (m ((c.tc : Thread nD τ).loc main_arg3)))
abbrev gatedAll : Mat 4096 2816 :=
  prod (m ((c.tc : Thread nD τ).loc main_arg2) : Mat 4096 1024) (right (n := 2816) (m ((c.tc : Thread nD τ).loc main_arg3)))

theorem result0 : W4 m ρ c (Proc.devRef .tc main_v3_0) = fun i => incoming m c i * slope (gateAll m c i) (gatedAll m c i) := by
  refine (W4_arr m ρ c 4).trans ?_
  rw [final4, entry_gate, saved3, entry_a, entry_wgu, entry_d, entry_w]

theorem result1 : W4 m ρ c (Proc.devRef .tc main_v3_1) = fun i => incoming m c i * silu (gateAll m c i) := by
  refine (W4_arr m ρ c 5).trans ?_
  rw [final5, entry_gated, saved4, entry_a, entry_wgu, entry_d, entry_w]

/-! ## The run -/

/-- The launch hands each core its arrays as they are in memory, its random register, and no debt. -/
theorem begin_state : iprop((bigSep Finset.univ fun c : Dev nD =>
      iprop(unscopedBufs c (fun b => m ((c : Thread nD τ).loc b)) ∗ unscopedSems0 c ∗ owes (c : Thread nD τ) ((0 : Dev nD → CellTallies nD τ sig Unit) c) ∅
        ∗ Pipeline.launchCred 0 c ∗ prngReg c (ρ c) ∗ (emp : sProp 𝕄))) ∗ levAts L lv)
    ⊢ |={Set.univ}=> bigSep Finset.univ fun c : Dev nD =>
      iprop(StableHlo.held (c : Thread nD τ) (Pipeline.ucRefs τ sig) (W0 m ρ c) ∗ R c) := by
  refine Pipeline.initEach L lv fun k => ?_
  have e := Pipeline.unscopedBufs_held (Ix := Unit) (Name := ℕ) (U := UR sig nD τ) (Lvl := ℕ) k (W0 m ρ k)
  iintro ⟨⟨Hb, -, Hd, -, Hr, -⟩, -⟩
  imodintro
  isplitl [Hb]
  · iapply (show unscopedBufs k (fun b => m ((k : Thread nD τ).loc b)) ⊢ _ from (by rw [← e]))
    iexact Hb
  isplitl [Hr]
  · iexists _; iexact Hr
  · iexists ∅; iexact Hd

/-- What is held of the arrays at the end is what the final memory has. -/
theorem end_state (k : Dev nD) (s : Phys nD τ sig (Elt Ideal)) : iprop(Tₙ m ρ k ∗ SI s)
    ⊢ |={Set.univ}=> iprop(⌜∀ b ∈ Pipeline.ucRefs τ sig, s.mem.mem ((k : Thread nD τ).1, b) = W4 m ρ k b⌝ ∗ (SI s : sProp 𝕄)) := by
  iintro ⟨⟨Hb, -⟩, HS⟩
  unfold StableHlo.held
  imodintro
  iapply (pointsTo_read_all (Pipeline.ucRefs τ sig) (fun b => ((k : Thread nD τ).1, b)) (W4 m ρ k) s)
  isplitl [Hb]
  · iexact Hb
  · iexact HS

set_option backward.isDefEq.respectTransparency.types false in
/-- Every array ends as the last of the four stretches of the program leaves it. -/
theorem run_arrays : θ_run defs (onTc (τ := τ) (main (F := Ideal))) ⟨m, fun _ => 0, ρ⟩ fun r =>
    ∀ c : Dev nD, ∀ b ∈ Pipeline.ucRefs τ sig, r.2.mem ((c : Thread nD τ).1, b) = W4 m ρ c b :=
  Pipeline.θ_run_regions_kit (pcfgs (F := Ideal)) adm (pdats m ρ) () cellOf_inj emb₁ defs₀ 𝒱₀ L lv m ρ main (segs m ρ)
    (hmain := fun k Q => by rw [main_run m ρ k])
    (hnd := by
      rw [segs, Pipeline.Seg.pipes_host, Pipeline.Seg.pipes_region, Pipeline.Seg.pipes_host, Pipeline.Seg.pipes_region,
        Pipeline.Seg.pipes_nil]
      decide)
    (O₀ := 0) (hL := fun _ _ => rfl) (G := fun _ => iprop(emp))
    (u₀ := initOf (Pipeline.cells cfgs cellOf_inj) (Pipeline.launchToks cfgs cellOf_inj))
    (hu₀ := by
      have none : (BI.emp : sProp 𝕄) ⊢ bigSep Finset.univ (fun _ : Dev nD => (BI.emp : sProp 𝕄)) := by rw [BI.bigSep_emp_const]
      have tokens : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      iintro H
      imodintro
      isplitl [H]
      · iapply tokens
        iexact H
      · iapply none
        iempintro)
    (T₀ := fun k => iprop(StableHlo.held (k : Thread nD τ) (Pipeline.ucRefs τ sig) (W0 m ρ k) ∗ R k)) (Tₙ := Tₙ m ρ)
    (hch := ⟨fun _ => .rfl, fun _ => .rfl, fun _ => .rfl, fun _ => .rfl, fun _ => .rfl⟩)
    (hinit := begin_state m ρ)
    (QY := fun k s => ∀ b ∈ Pipeline.ucRefs τ sig, s.mem ((k : Thread nD τ).1, b) = W4 m ρ k b)
    (hfin := end_state m ρ)
    (hQ := fun _ h => h)

/-- The program's two results, and its arguments unchanged. -/
theorem run : θ_run defs (onTc (τ := τ) (main (F := Ideal))) ⟨m, fun _ => 0, ρ⟩ fun r => ∀ c : Dev nD,
    r.2.mem ((c : Thread nD τ).loc main_v3_0) = (fun i => incoming m c i * slope (gateAll m c i) (gatedAll m c i))
    ∧ r.2.mem ((c : Thread nD τ).loc main_v3_1) = (fun i => incoming m c i * silu (gateAll m c i))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h k =>
    have at_end (b : Ref sig .tc) (hb : ¬ (Proc.devRef .tc b : DevRef τ sig).isScoped) :
        r.2.mem ((k : Thread nD τ).loc b) = W4 m ρ k (Proc.devRef .tc b) := h k _ (mem_uc b hb)
    have kept (b : Ref sig .tc) (hb : ¬ (Proc.devRef .tc b : DevRef τ sig).isScoped) (ha : b ∈ argRefs) :
        r.2.mem ((k : Thread nD τ).loc b) = m ((k : Thread nD τ).loc b) :=
      (at_end b hb).trans (W4_args m ρ k b ha)
    ⟨(at_end main_v3_0 (by decide)).trans (result0 m ρ k), (at_end main_v3_1 (by decide)).trans (result1 m ρ k),
      kept main_arg0 (by decide) (by decide), kept main_arg1 (by decide) (by decide), kept main_arg2 (by decide) (by decide),
      kept main_arg3 (by decide) (by decide), kept main_arg4 (by decide) (by decide)⟩)
    (run_arrays m ρ)

end Cert.Prod.FfnDownDx

end
-- ==== Proof.ProductsAct.lean ====
module

public import proofs.«01_k».proof.Defs
public import proofs.«01_k».proof.Proof.ActUp
public import proofs.«01_k».proof.Proof.ActRun
public import proofs.«01_k».proof.Proof.Pre
public import proofs.«01_k».proof.Proof.Gen.Pre_finite_up
public import proofs.«01_k».proof.Proof.Gen.Pre_finite_down
public import proofs.«01_k».proof.Proof.Gen.FfnUpRefIdeal.Run
public import proofs.«01_k».proof.Proof.Gen.FfnDownDxRefIdeal.Run
public import Idealize.ShloMosaic.Lib.Claim

/-! The two calls of the feed-forward block that compute with the gated activation: on finite arguments each result is the reference's. -/

@[expose] public section

set_option maxRecDepth 16384

noncomputable section

namespace Cert.Prod

open Idealize.ShloMosaic Idealize.SL.Sem

attribute [local instance] Cert.FfnUpIdeal.Gen.facts Cert.FfnUpRefIdeal.Gen.facts Cert.FfnDownDxIdeal.Gen.facts
  Cert.FfnDownDxRefIdeal.Gen.facts Cert.Pre_finite_up.Gen.facts Cert.Pre_finite_down.Gen.facts

/-- What the precondition of the first call says. -/
theorem FfnUp.reals (a0 : FVec Ideal Cert.Pre_finite_up.S4096x1024 .bf16) (a1 : FVec Ideal Cert.Pre_finite_up.S1024x5632 .bf16)
    (h : Cert.Pre_finite_up.fn (F := Ideal) a0 a1 = fun _ => 1#1) : (∀ i, Finite (a0 i)) ∧ ∀ i, Finite (a1 i) := by
  have j : Cert.Pre_finite_up.S_.Idx := fun k => k.elim0
  have h := congrFun h j
  unfold Cert.Pre_finite_up.fn at h
  obtain ⟨h0, h1⟩ := Pre.split _ _ j h
  exact ⟨fun i => ⟨_, Pre.real_of_all (extf .f32 a0 _) _ _ _ j h0 i⟩, fun i => ⟨_, Pre.real_of_all (extf .f32 a1 _) _ _ _ j h1 i⟩⟩

/-- What the precondition of the second call says. -/
theorem FfnDownDx.reals (a0 : FVec Ideal Cert.Pre_finite_down.S4096x1024 .bf16) (a1 : FVec Ideal Cert.Pre_finite_down.S2816x1024 .bf16)
    (a2 : FVec Ideal Cert.Pre_finite_down.S4096x1024 .bf16) (a3 : FVec Ideal Cert.Pre_finite_down.S1024x5632 .bf16)
    (a4 : FVec Ideal Cert.Pre_finite_down.S2816x1024 .bf16)
    (h : Cert.Pre_finite_down.fn (F := Ideal) a0 a1 a2 a3 a4 = fun _ => 1#1) :
    (∀ i, Finite (a0 i)) ∧ (∀ i, Finite (a1 i)) ∧ (∀ i, Finite (a2 i)) ∧ ∀ i, Finite (a3 i) := by
  have j : Cert.Pre_finite_down.S_.Idx := fun k => k.elim0
  have h := congrFun h j
  unfold Cert.Pre_finite_down.fn Cert.Pre_finite_down.fn_part1 at h
  obtain ⟨h, h3⟩ := Pre.split _ _ j h
  obtain ⟨h, h2⟩ := Pre.split _ _ j h
  obtain ⟨h0, h1⟩ := Pre.split _ _ j h
  exact ⟨fun i => ⟨_, Pre.real_of_all (extf .f32 a0 _) _ _ _ j h0 i⟩, fun i => ⟨_, Pre.real_of_all (extf .f32 a1 _) _ _ _ j h1 i⟩,
    fun i => ⟨_, Pre.real_of_all (extf .f32 a2 _) _ _ _ j h2 i⟩, fun i => ⟨_, Pre.real_of_all (extf .f32 a3 _) _ _ _ j h3 i⟩⟩

theorem FfnUp.algebraic : Cert.algebraic_FfnUpIdeal_FfnUpRefIdeal_pre_finite_up := by
  pair_intro
  · run_from Cert.FfnUpIdeal.Value.run_blocks m g
  · run_from Cert.FfnUpRefIdeal.Value.run m' g'
    · obtain ⟨ha, hw⟩ := FfnUp.reals _ _ (hpre c)
      exact (FfnUp.ref11 _ _ ha hw).trans (FfnUp.final3 m c).symm
    · exact (FfnUp.ref12 _ _).trans (FfnUp.final4 m c).symm
    · exact (FfnUp.ref13 _ _).trans (FfnUp.final5 m c).symm

theorem FfnUp.quiet : Cert.quiescent_FfnUpRefIdeal := fun m g _ =>
  (θ_run Cert.FfnUpRefIdeal.defs _ _).mono
    (fun r h => ⟨fun c => (h c).2.2.2, sem_eq_zero_of_no_sems (sig := Cert.FfnUpRefIdeal.sig) (by decide) r.2⟩)
    (Cert.FfnUpRefIdeal.Value.run m g)

theorem FfnDownDx.algebraic : Cert.algebraic_FfnDownDxIdeal_FfnDownDxRefIdeal_pre_finite_down := by
  pair_intro
  · run_from FfnDownDx.run m g
  · run_from Cert.FfnDownDxRefIdeal.Value.run m' g'
    · obtain ⟨hd, hw, ha, hv⟩ := FfnDownDx.reals _ _ _ _ _ (hpre c)
      exact FfnDownDx.ref14 _ _ _ _ hd hw ha hv
    · exact FfnDownDx.ref15 _ _ _ _

theorem FfnDownDx.quiet : Cert.quiescent_FfnDownDxRefIdeal := fun m g _ =>
  (θ_run Cert.FfnDownDxRefIdeal.defs _ _).mono
    (fun r h => ⟨fun c => (h c).2.2, sem_eq_zero_of_no_sems (sig := Cert.FfnDownDxRefIdeal.sig) (by decide) r.2⟩)
    (Cert.FfnDownDxRefIdeal.Value.run m g)

end Cert.Prod

end
-- ==== Proof.ProdForward.lean ====
module

public import proofs.«01_k».proof.Proof.Prod
public import proofs.«01_k».proof.Proof.Gen.FfnDownIdeal.Value
public import proofs.«01_k».proof.Proof.Gen.FfnDownRefIdeal.Read
public import proofs.«01_k».proof.Proof.Gen.GmlpOutIdeal.Value
public import proofs.«01_k».proof.Proof.Gen.GmlpOutRefIdeal.Read
public import proofs.«01_k».proof.Proof.Gen.AttnOIdeal.Value
public import proofs.«01_k».proof.Proof.Gen.AttnORefIdeal.Read
public import Idealize.ShloMosaic.Lib.Claim
public import Idealize.ShloMosaic.Lib.Pipeline.ReadBack
public import Idealize.ShloMosaic.Lib.Pipeline.ValueKit

/-! The projections of the forward pass that have no bias: what the kernel leaves in the result array, and the reference, are one product. -/

@[expose] public section

set_option maxRecDepth 16384

noncomputable section

open Idealize.ShloMosaic Idealize.ShloMosaic.TcCoe Idealize.SL.Sem

/-! ## Out of the feed-forward block -/

namespace Cert.Prod.FfnDown

open Cert.FfnDownIdeal Cert.FfnDownIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem final : (dats m 0 c).arrAt 2 (cfgs 0).N = prod (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := idx t
  blk_simp
  rw [after0_2]
  unfold out0_2
  frame_out
  pointwise [k0_pay1]
  refine prod_block (x := iblk m c 0 t) (z := iblk m c 1 t) (y := y) (fun k => ?_) (fun k => ?_)
  · blk_ext [iblk, V, i0, i2]
  · blk_ext [iblk, V, i1, i2]

open Cert.FfnDownRefIdeal.Read in
theorem ref (a : Mat 4096 2816) (b : Mat 2816 1024) : val_main_v2 (F := Ideal) a b = prod a b := by
  funext i
  pointwise [val_main_v2, val_main_v1, val_main_v0]
  rfl

end Cert.Prod.FfnDown

/-! ## Out of the gating unit -/

namespace Cert.Prod.GmlpOut

open Cert.GmlpOutIdeal Cert.GmlpOutIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem final : (dats m 0 c).arrAt 2 (cfgs 0).N = prod (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := idx t
  blk_simp
  rw [after0_2]
  unfold out0_2
  frame_out
  pointwise [k0_pay1]
  refine prod_block (x := iblk m c 0 t) (z := iblk m c 1 t) (y := y) (fun k => ?_) (fun k => ?_)
  · blk_ext [iblk, V, i0, i2]
  · blk_ext [iblk, V, i1, i2]

open Cert.GmlpOutRefIdeal.Read in
theorem ref (a : Mat 4096 2048) (b : Mat 2048 1024) : val_main_v2 (F := Ideal) a b = prod a b := by
  funext i
  pointwise [val_main_v2, val_main_v1, val_main_v0]
  rfl

end Cert.Prod.GmlpOut

/-! ## Out of the attention -/

namespace Cert.Prod.AttnO

open Cert.AttnOIdeal Cert.AttnOIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem final : (dats m 0 c).arrAt 2 (cfgs 0).N = prod (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := idx t
  blk_simp
  rw [after0_2]
  unfold out0_2
  frame_out
  pointwise [k0_pay1]
  refine prod_block (x := iblk m c 0 t) (z := iblk m c 1 t) (y := y) (fun k => ?_) (fun k => ?_)
  · blk_ext [iblk, V, i0, i2]
  · blk_ext [iblk, V, i1, i2]

open Cert.AttnORefIdeal.Read in
theorem ref (a : Mat 4096 1024) (b : Mat 1024 1024) : val_main_v2 (F := Ideal) a b = prod a b := by
  funext i
  pointwise [val_main_v2, val_main_v1, val_main_v0]
  rfl

end Cert.Prod.AttnO

end
-- ==== Proof.ProdPair.lean ====
module

public import proofs.«01_k».proof.Proof.Prod
public import proofs.«01_k».proof.Proof.Gen.FfnGuDxIdeal.Value
public import proofs.«01_k».proof.Proof.Gen.FfnGuDxRefIdeal.Read
public import proofs.«01_k».proof.Proof.Gen.FfnGuDwIdeal.Value
public import proofs.«01_k».proof.Proof.Gen.FfnGuDwRefIdeal.Read
public import Idealize.ShloMosaic.Lib.Claim
public import Idealize.ShloMosaic.Lib.Pipeline.ReadBack
public import Idealize.ShloMosaic.Lib.Pipeline.ValueKit

/-! The gradients at the first layer of the feed-forward block, whose weights are two matrices side by side. -/

@[expose] public section

set_option maxRecDepth 16384

noncomputable section

open Idealize.ShloMosaic Idealize.ShloMosaic.TcCoe Idealize.SL.Sem

/-! ## The rows -/

namespace Cert.Prod.FfnGuDx

open Cert.FfnGuDxIdeal Cert.FfnGuDxIdeal.Gen

variable (m : (ℓ : Loc nD τ sig) → Buf (Elt Ideal) ℓ) (c : Dev nD)

theorem idx : ∀ t : Fin cfg0.N, win0_0.index t = ![t.val / 2, 0] ∧ win0_1.index t = ![0, t.val % 2] ∧ win0_2.index t = ![t.val / 2, 0] ∧ win0_3.index t = ![t.val / 2, 0] :=
  (by decide +kernel : ∀ t : Fin grid0.N, _)

abbrev x (t : Fin cfg0.N) : Mat 1024 2816 := iblk m c 0 t
abbrev w (t : Fin cfg0.N) : Mat 1024 2816 := iblk m c 1 t
abbrev x' (t : Fin cfg0.N) : Mat 1024 2816 := iblk m c 2 t

theorem first (t : Fin cfg0.N) (h : t.val % 2 = 0) (y : S1024x1024.Idx) :
    ((outsAt0 m c t.val t.isLt).2 : FVec Ideal S1024x1024 .f32) y = prod (x m c t) (tr (w m c t)) y := by
  rw [outsAt0_A m c t h h (by omega) (by omega) (by omega)]
  frame_open
  frame_out
  pointwise [k0_pay2, k0_pay1]
  rfl

theorem last (t t' : Fin cfg0.N) (h : t.val % 2 = 1) (ht : t'.val = t.val - 1) (y : S1024x1024.Idx) :
    ((outsAt0 m c t.val t.isLt).1 : FVec Ideal S1024x1024 .f32) y = prod (x m c t') (tr (w m c t')) y + prod (x' m c t) (tr (w m c t)) y := by
  rw [outsAt0_B m c t (by omega) h (by omega) h h, ← first m c t' (by omega) y]
  simp only [← ht]
  frame_open
  frame_out
  pointwise [k0_pay6, k0_pay5, k0_pay4]
  exact congrArg₂ (· + ·) (congrFun (read_unread_whole (Val := Elt Ideal) cc0_scratch0 (Memref.isWhole_whole _) (outsAt0 m c t'.val t'.isLt).2) y) rfl

theorem final : (dats m 0 c).arrAt 3 (cfgs 0).N = prod (beside (n := 2816) (m ((c.tc : Thread nD τ).loc main_arg0)) (m ((c.tc : Thread nD τ).loc main_arg2))) (tr (P := 1024) (Q := 5632) (m ((c.tc : Thread nD τ).loc main_arg1))) := by
  refine (dats m 0 c).arrAt_eq_of_covers 3 _ (by decide +kernel) fun t hf y => ?_
  have h : t.val % 2 = 1 := (flush0_3 t).mp hf
  have hp : t.val - 1 < cfg0.N := Nat.lt_of_le_of_lt (Nat.sub_le _ _) t.isLt
  obtain ⟨i0, i1, i2, i3⟩ := idx t
  obtain ⟨j0, j1, j2, j3⟩ := idx ⟨t.val - 1, hp⟩
  blk_simp
  rw [after0_3]
  refine (last m c t ⟨t.val - 1, hp⟩ h rfl y).trans (prod_beside (n := 2816) (fun k => ?_) (fun k => ?_) (fun k => ?_) (fun k => ?_))
  · blk_ext [iblk, V, i3, j0]
  · blk_ext [iblk, V, i3, j1]
  · blk_ext [iblk, V, i2, i3]
  · blk_ext [iblk, V, i1, i3]

open Cert.FfnGuDxRefIdeal.Read in
theorem ref (a b : Mat 4096 2816) (w : Mat 1024 5632) : val_main_v8 (F := Ideal) a w b = prod (beside (n := 2816) a b) (tr w) := by
  funext i
  pointwise [val_main_v8, val_main_v7, val_main_v2, val_main_v1, val_main_v0]
  exact prod_beside (x := a) (x' := b) (z := fun j : (⟨2, ![1024, 2816]⟩ : Shape).Idx => w (ix2 (j 0) (lo (j 1))))
    (z' := fun j : (⟨2, ![1024, 2816]⟩ : Shape).Idx => w (ix2 (j 0) (hi (j 1))))
    (fun _ => rfl) (fun _ => rfl) (fun _ => rfl) (fun _ => rfl)

end Cert.Prod.FfnGuDx

/-! ## The weights -/

namespace Cert.Prod.FfnGuDw

open Cert.FfnGuDwIdeal Cert.FfnGuDwIdeal.Gen

variable (m : (ℓ : Loc nD τ sig) → Buf (Elt Ideal) ℓ) (c : Dev nD)

theorem idx : ∀ t : Fin cfg0.N, win0_0.index t = ![t.val % 2, 0] ∧ win0_3.index t = ![0, t.val / 2] :=
  (by decide +kernel : ∀ t : Fin grid0.N, _)

theorem idxG : ∀ t : Fin cfg0.N, t.val < 4 → win0_1.index t = ![t.val % 2, t.val / 2] :=
  (by decide +kernel : ∀ t : Fin grid0.N, t.val < 4 → _)

theorem idxU : ∀ t : Fin cfg0.N, 4 ≤ t.val → win0_2.index t = ![t.val % 2, t.val / 2 - 2] :=
  (by decide +kernel : ∀ t : Fin grid0.N, 4 ≤ t.val → _)

abbrev x (t : Fin cfg0.N) : Mat 2048 1024 := iblk m c 0 t
abbrev g (t : Fin cfg0.N) : Mat 2048 1408 := iblk m c 1 t
abbrev u (t : Fin cfg0.N) : Mat 2048 1408 := iblk m c 2 t

theorem firstG (t : Fin cfg0.N) (h4 : t.val < 4) (h : t.val % 2 = 0) (y : S1024x1408.Idx) :
    ((outsAt0 m c t.val t.isLt).2 : FVec Ideal S1024x1408 .f32) y = prod (tr (x m c t)) (g m c t) y := by
  rw [outsAt0_A m c t h4 h (by omega) (by omega) (by omega)]
  frame_open
  frame_out
  pointwise [k0_pay2, k0_pay1]
  rfl

theorem firstU (t : Fin cfg0.N) (h4 : 4 ≤ t.val) (h : t.val % 2 = 0) (y : S1024x1408.Idx) :
    ((outsAt0 m c t.val t.isLt).2 : FVec Ideal S1024x1408 .f32) y = prod (tr (x m c t)) (u m c t) y := by
  rw [outsAt0_C m c t (by omega) h4 h (by omega) (by omega)]
  frame_open
  frame_out
  pointwise [k0_pay6, k0_pay5]
  rfl

theorem lastG (t t' : Fin cfg0.N) (h4 : t.val < 4) (h : t.val % 2 = 1) (ht : t'.val = t.val - 1) (y : S1024x1408.Idx) :
    ((outsAt0 m c t.val t.isLt).1 : FVec Ideal S1024x1408 .bf16) y = prod (tr (x m c t')) (g m c t') y + prod (tr (x m c t)) (g m c t) y := by
  rw [outsAt0_B m c t h4 (by omega) h h (by omega), ← firstG m c t' (by omega) (by omega) y]
  simp only [← ht]
  frame_open
  frame_out
  pointwise [k0_pay4, k0_pay3, k0_pay2, k0_pay1]
  exact congrArg₂ (· + ·) (congrFun (read_unread_whole (Val := Elt Ideal) cc0_scratch0 (Memref.isWhole_whole _) (outsAt0 m c t'.val t'.isLt).2) y) rfl

theorem lastU (t t' : Fin cfg0.N) (h4 : 4 ≤ t.val) (h : t.val % 2 = 1) (ht : t'.val = t.val - 1) (y : S1024x1408.Idx) :
    ((outsAt0 m c t.val t.isLt).1 : FVec Ideal S1024x1408 .bf16) y = prod (tr (x m c t')) (u m c t') y + prod (tr (x m c t)) (u m c t) y := by
  rw [outsAt0_D m c t (by omega) h4 (by omega) h h, ← firstU m c t' (by omega) (by omega) y]
  simp only [← ht]
  frame_open
  frame_out
  pointwise [k0_pay8, k0_pay7, k0_pay6, k0_pay5]
  exact congrArg₂ (· + ·) (congrFun (read_unread_whole (Val := Elt Ideal) cc0_scratch0 (Memref.isWhole_whole _) (outsAt0 m c t'.val t'.isLt).2) y) rfl

theorem final : (dats m 0 c).arrAt 3 (cfgs 0).N = prod (tr (P := 4096) (Q := 1024) (m ((c.tc : Thread nD τ).loc main_arg0))) (beside (n := 2816) (m ((c.tc : Thread nD τ).loc main_arg1)) (m ((c.tc : Thread nD τ).loc main_arg2))) := by
  refine (dats m 0 c).arrAt_eq_of_covers 3 _ (by decide +kernel) fun t hf y => ?_
  have h : t.val % 2 = 1 := (flush0_3 t).mp hf
  have h8 : t.val < 8 := Nat.lt_of_lt_of_eq t.isLt N_0
  have hp : t.val - 1 < cfg0.N := Nat.lt_of_le_of_lt (Nat.sub_le _ _) t.isLt
  obtain ⟨i0, i3⟩ := idx t
  obtain ⟨j0, j3⟩ := idx ⟨t.val - 1, hp⟩
  have hy : (y 1).val < 1408 := (y 1).isLt
  blk_simp
  rw [after0_3]
  have e : ((win0_3.blk t).view.emb y 1).val = t.val / 2 * 1408 + (y 1).val := by blk_simp [i3]
  by_cases h4 : t.val < 4
  · have i1 := idxG t h4
    have j1 := idxG ⟨t.val - 1, hp⟩ (by show t.val - 1 < 4; omega)
    refine (lastG m c t ⟨t.val - 1, hp⟩ h4 h rfl y).trans (prod_halves_tr (n := 2048) (fun k => ?_) (fun k => ?_) (fun k => ?_) (fun k => ?_))
    · blk_ext [iblk, V, i3, j0]
    · refine Eq.trans ?_ (beside_left (n := 2816) (v := t.val / 2 * 1408 + (y 1).val) _ _ (by omega) e).symm
      blk_ext [iblk, V, i3, j1]
    · blk_ext [iblk, V, i0, i3]
    · refine Eq.trans ?_ (beside_left (n := 2816) (v := t.val / 2 * 1408 + (y 1).val) _ _ (by omega) e).symm
      blk_ext [iblk, V, i1, i3]
  · have i2 := idxU t (by omega)
    have j2 := idxU ⟨t.val - 1, hp⟩ (by show 4 ≤ t.val - 1; omega)
    refine (lastU m c t ⟨t.val - 1, hp⟩ (by omega) h rfl y).trans (prod_halves_tr (n := 2048) (fun k => ?_) (fun k => ?_) (fun k => ?_) (fun k => ?_))
    · blk_ext [iblk, V, i3, j0]
    · refine Eq.trans ?_ (beside_right (n := 2816) (v := (t.val / 2 - 2) * 1408 + (y 1).val) _ _ (by omega) (e.trans (by omega))).symm
      blk_ext [iblk, V, i3, j2]
    · blk_ext [iblk, V, i0, i3]
    · refine Eq.trans ?_ (beside_right (n := 2816) (v := (t.val / 2 - 2) * 1408 + (y 1).val) _ _ (by omega) (e.trans (by omega))).symm
      blk_ext [iblk, V, i2, i3]

open Cert.FfnGuDwRefIdeal.Read in
theorem ref (a : Mat 4096 1024) (g u : Mat 4096 2816) : val_main_v10 (F := Ideal) a g u = prod (tr a) (beside (n := 2816) g u) := by
  funext i
  pointwise [val_main_v10, val_main_v9, val_main_v8, val_main_v7, val_main_v2, val_main_v1, val_main_v0]
  exact prod_swapped (a := tr a) (b := beside (n := 2816) g u) (fun _ => rfl) (fun _ => rfl)

end Cert.Prod.FfnGuDw

end
-- ==== Proof.ProdWeights.lean ====
module

public import proofs.«01_k».proof.Proof.Prod
public import proofs.«01_k».proof.Proof.Gen.FfnDownDwIdeal.Value
public import proofs.«01_k».proof.Proof.Gen.FfnDownDwRefIdeal.Read
public import proofs.«01_k».proof.Proof.Gen.GmlpOutDwIdeal.Value
public import proofs.«01_k».proof.Proof.Gen.GmlpOutDwRefIdeal.Read
public import proofs.«01_k».proof.Proof.Gen.GmlpInDwIdeal.Value
public import proofs.«01_k».proof.Proof.Gen.GmlpInDwRefIdeal.Read
public import proofs.«01_k».proof.Proof.Gen.AttnODwIdeal.Value
public import proofs.«01_k».proof.Proof.Gen.AttnODwRefIdeal.Read
public import proofs.«01_k».proof.Proof.Gen.AttnQkvDwIdeal.Value
public import proofs.«01_k».proof.Proof.Gen.AttnQkvDwRefIdeal.Read
public import Idealize.ShloMosaic.Lib.Claim
public import Idealize.ShloMosaic.Lib.Pipeline.ReadBack
public import Idealize.ShloMosaic.Lib.Pipeline.ValueKit

/-! The gradients of the projections' weights: the rows, transposed, times the gradient of the result, the rows in two halves. -/

@[expose] public section

set_option maxRecDepth 16384

noncomputable section

open Idealize.ShloMosaic Idealize.ShloMosaic.TcCoe Idealize.SL.Sem

/-! ## Out of the feed-forward block -/

namespace Cert.Prod.FfnDownDw

open Cert.FfnDownDwIdeal Cert.FfnDownDwIdeal.Gen

variable (m : (ℓ : Loc nD τ sig) → Buf (Elt Ideal) ℓ) (c : Dev nD)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

abbrev x (t : Fin cfg0.N) : Mat 2048 1408 := iblk m c 0 t
abbrev z (t : Fin cfg0.N) : Mat 2048 1024 := iblk m c 1 t

theorem first (t : Fin cfg0.N) (h : t.val % 2 = 0) (y : S1408x1024.Idx) :
    ((outsAt0 m c t.val t.isLt).2 : FVec Ideal S1408x1024 .f32) y = prod (tr (x m c t)) (z m c t) y := by
  rw [outsAt0_A m c t h (by omega) (by omega)]
  frame_open
  frame_out
  pointwise [k0_pay2, k0_pay1]
  rfl

theorem last (t t' : Fin cfg0.N) (h : t.val % 2 = 1) (ht : t'.val = t.val - 1) (y : S1408x1024.Idx) :
    ((outsAt0 m c t.val t.isLt).1 : FVec Ideal S1408x1024 .bf16) y = prod (tr (x m c t')) (z m c t') y + prod (tr (x m c t)) (z m c t) y := by
  rw [outsAt0_B m c t (by omega) h h, ← first m c t' (by omega) y]
  simp only [← ht]
  frame_open
  frame_out
  pointwise [k0_pay4, k0_pay3, k0_pay2, k0_pay1]
  exact congrArg₂ (· + ·) (congrFun (read_unread_whole (Val := Elt Ideal) cc0_scratch0 (Memref.isWhole_whole _) (outsAt0 m c t'.val t'.isLt).2) y) rfl

theorem final : (dats m 0 c).arrAt 2 (cfgs 0).N = prod (tr (P := 4096) (Q := 2816) (m ((c.tc : Thread nD τ).loc main_arg0))) (m ((c.tc : Thread nD τ).loc main_arg1)) := by
  refine (dats m 0 c).arrAt_eq_of_covers 2 _ (by decide +kernel) fun t hf y => ?_
  have h : t.val % 2 = 1 := (flush0_2 t).mp hf
  have hp : t.val - 1 < cfg0.N := Nat.lt_of_le_of_lt (Nat.sub_le _ _) t.isLt
  obtain ⟨i0, i1, i2⟩ := idx t
  obtain ⟨j0, j1, j2⟩ := idx ⟨t.val - 1, hp⟩
  blk_simp
  rw [after0_2]
  refine (last m c t ⟨t.val - 1, hp⟩ h rfl y).trans (prod_halves_tr (n := 2048) (fun k => ?_) (fun k => ?_) (fun k => ?_) (fun k => ?_))
  · blk_ext [iblk, V, i0, i2, j0]
  · blk_ext [iblk, V, i1, i2, j1]
  · blk_ext [iblk, V, i0, i2]
  · blk_ext [iblk, V, i1, i2]

open Cert.FfnDownDwRefIdeal.Read in
theorem ref (a : Mat 4096 2816) (b : Mat 4096 1024) : val_main_v6 (F := Ideal) a b = prod (tr a) b := by
  funext i
  pointwise [val_main_v6, val_main_v5, val_main_v4, val_main_v1, val_main_v0]
  exact prod_swapped (a := tr a) (fun _ => rfl) (fun _ => rfl)

end Cert.Prod.FfnDownDw

/-! ## Out of the gating unit -/

namespace Cert.Prod.GmlpOutDw

open Cert.GmlpOutDwIdeal Cert.GmlpOutDwIdeal.Gen

variable (m : (ℓ : Loc nD τ sig) → Buf (Elt Ideal) ℓ) (c : Dev nD)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

abbrev x (t : Fin cfg0.N) : Mat 2048 1024 := iblk m c 0 t
abbrev z (t : Fin cfg0.N) : Mat 2048 1024 := iblk m c 1 t

theorem first (t : Fin cfg0.N) (h : t.val % 2 = 0) (y : S1024x1024.Idx) :
    ((outsAt0 m c t.val t.isLt).2 : FVec Ideal S1024x1024 .f32) y = prod (tr (x m c t)) (z m c t) y := by
  rw [outsAt0_A m c t h (by omega) (by omega)]
  frame_open
  frame_out
  pointwise [k0_pay2, k0_pay1]
  rfl

theorem last (t t' : Fin cfg0.N) (h : t.val % 2 = 1) (ht : t'.val = t.val - 1) (y : S1024x1024.Idx) :
    ((outsAt0 m c t.val t.isLt).1 : FVec Ideal S1024x1024 .bf16) y = prod (tr (x m c t')) (z m c t') y + prod (tr (x m c t)) (z m c t) y := by
  rw [outsAt0_B m c t (by omega) h h, ← first m c t' (by omega) y]
  simp only [← ht]
  frame_open
  frame_out
  pointwise [k0_pay4, k0_pay3, k0_pay2, k0_pay1]
  exact congrArg₂ (· + ·) (congrFun (read_unread_whole (Val := Elt Ideal) cc0_scratch0 (Memref.isWhole_whole _) (outsAt0 m c t'.val t'.isLt).2) y) rfl

theorem final : (dats m 0 c).arrAt 2 (cfgs 0).N = prod (tr (P := 4096) (Q := 2048) (m ((c.tc : Thread nD τ).loc main_arg0))) (m ((c.tc : Thread nD τ).loc main_arg1)) := by
  refine (dats m 0 c).arrAt_eq_of_covers 2 _ (by decide +kernel) fun t hf y => ?_
  have h : t.val % 2 = 1 := (flush0_2 t).mp hf
  have hp : t.val - 1 < cfg0.N := Nat.lt_of_le_of_lt (Nat.sub_le _ _) t.isLt
  obtain ⟨i0, i1, i2⟩ := idx t
  obtain ⟨j0, j1, j2⟩ := idx ⟨t.val - 1, hp⟩
  blk_simp
  rw [after0_2]
  refine (last m c t ⟨t.val - 1, hp⟩ h rfl y).trans (prod_halves_tr (n := 2048) (fun k => ?_) (fun k => ?_) (fun k => ?_) (fun k => ?_))
  · blk_ext [iblk, V, i0, i2, j0]
  · blk_ext [iblk, V, i1, i2, j1]
  · blk_ext [iblk, V, i0, i2]
  · blk_ext [iblk, V, i1, i2]

open Cert.GmlpOutDwRefIdeal.Read in
theorem ref (a : Mat 4096 2048) (b : Mat 4096 1024) : val_main_v6 (F := Ideal) a b = prod (tr a) b := by
  funext i
  pointwise [val_main_v6, val_main_v5, val_main_v4, val_main_v1, val_main_v0]
  exact prod_swapped (a := tr a) (fun _ => rfl) (fun _ => rfl)

end Cert.Prod.GmlpOutDw

/-! ## Into the gating unit -/

namespace Cert.Prod.GmlpInDw

open Cert.GmlpInDwIdeal Cert.GmlpInDwIdeal.Gen

variable (m : (ℓ : Loc nD τ sig) → Buf (Elt Ideal) ℓ) (c : Dev nD)

theorem idx : ∀ t : Fin cfg0.N, win0_0.index t = ![t.val % 2, 0] ∧ win0_1.index t = ![t.val % 2, t.val / 2] ∧ win0_2.index t = ![0, t.val / 2] :=
  (by decide +kernel : ∀ t : Fin grid0.N, _)

abbrev x (t : Fin cfg0.N) : Mat 2048 1024 := iblk m c 0 t
abbrev z (t : Fin cfg0.N) : Mat 2048 2048 := iblk m c 1 t

theorem first (t : Fin cfg0.N) (h : t.val % 2 = 0) (y : S1024x2048.Idx) :
    ((outsAt0 m c t.val t.isLt).2 : FVec Ideal S1024x2048 .f32) y = prod (tr (x m c t)) (z m c t) y := by
  rw [outsAt0_A m c t h (by omega) (by omega)]
  frame_open
  frame_out
  pointwise [k0_pay2, k0_pay1]
  rfl

theorem last (t t' : Fin cfg0.N) (h : t.val % 2 = 1) (ht : t'.val = t.val - 1) (y : S1024x2048.Idx) :
    ((outsAt0 m c t.val t.isLt).1 : FVec Ideal S1024x2048 .bf16) y = prod (tr (x m c t')) (z m c t') y + prod (tr (x m c t)) (z m c t) y := by
  rw [outsAt0_B m c t (by omega) h h, ← first m c t' (by omega) y]
  simp only [← ht]
  frame_open
  frame_out
  pointwise [k0_pay4, k0_pay3, k0_pay2, k0_pay1]
  exact congrArg₂ (· + ·) (congrFun (read_unread_whole (Val := Elt Ideal) cc0_scratch0 (Memref.isWhole_whole _) (outsAt0 m c t'.val t'.isLt).2) y) rfl

theorem final : (dats m 0 c).arrAt 2 (cfgs 0).N = prod (tr (P := 4096) (Q := 1024) (m ((c.tc : Thread nD τ).loc main_arg0))) (m ((c.tc : Thread nD τ).loc main_arg1)) := by
  refine (dats m 0 c).arrAt_eq_of_covers 2 _ (by decide +kernel) fun t hf y => ?_
  have h : t.val % 2 = 1 := (flush0_2 t).mp hf
  have hp : t.val - 1 < cfg0.N := Nat.lt_of_le_of_lt (Nat.sub_le _ _) t.isLt
  obtain ⟨i0, i1, i2⟩ := idx t
  obtain ⟨j0, j1, j2⟩ := idx ⟨t.val - 1, hp⟩
  blk_simp
  rw [after0_2]
  refine (last m c t ⟨t.val - 1, hp⟩ h rfl y).trans (prod_halves_tr (n := 2048) (fun k => ?_) (fun k => ?_) (fun k => ?_) (fun k => ?_))
  · blk_ext [iblk, V, i0, i2, j0]
  · blk_ext [iblk, V, i1, i2, j1]
  · blk_ext [iblk, V, i0, i2]
  · blk_ext [iblk, V, i1, i2]

open Cert.GmlpInDwRefIdeal.Read in
theorem ref (a : Mat 4096 1024) (b : Mat 4096 4096) : val_main_v6 (F := Ideal) a b = prod (tr a) b := by
  funext i
  pointwise [val_main_v6, val_main_v5, val_main_v4, val_main_v1, val_main_v0]
  exact prod_swapped (a := tr a) (fun _ => rfl) (fun _ => rfl)

end Cert.Prod.GmlpInDw

/-! ## Out of the attention -/

namespace Cert.Prod.AttnODw

open Cert.AttnODwIdeal Cert.AttnODwIdeal.Gen

variable (m : (ℓ : Loc nD τ sig) → Buf (Elt Ideal) ℓ) (c : Dev nD)

theorem idx : ∀ t : Fin cfg0.N, win0_0.index t = ![t.val % 2, 0] ∧ win0_1.index t = ![t.val % 2, 0] ∧ win0_2.index t = ![0, 0] :=
  (by decide +kernel : ∀ t : Fin grid0.N, _)

abbrev x (t : Fin cfg0.N) : Mat 2048 1024 := iblk m c 0 t
abbrev z (t : Fin cfg0.N) : Mat 2048 1024 := iblk m c 1 t

theorem first (t : Fin cfg0.N) (h : t.val % 2 = 0) (y : S1024x1024.Idx) :
    ((outsAt0 m c t.val t.isLt).2 : FVec Ideal S1024x1024 .f32) y = prod (tr (x m c t)) (z m c t) y := by
  rw [outsAt0_A m c t h (by omega) (by omega)]
  frame_open
  frame_out
  pointwise [k0_pay2, k0_pay1]
  rfl

theorem last (t t' : Fin cfg0.N) (h : t.val % 2 = 1) (ht : t'.val = t.val - 1) (y : S1024x1024.Idx) :
    ((outsAt0 m c t.val t.isLt).1 : FVec Ideal S1024x1024 .bf16) y = prod (tr (x m c t')) (z m c t') y + prod (tr (x m c t)) (z m c t) y := by
  rw [outsAt0_B m c t (by omega) h h, ← first m c t' (by omega) y]
  simp only [← ht]
  frame_open
  frame_out
  pointwise [k0_pay4, k0_pay3, k0_pay2, k0_pay1]
  exact congrArg₂ (· + ·) (congrFun (read_unread_whole (Val := Elt Ideal) cc0_scratch0 (Memref.isWhole_whole _) (outsAt0 m c t'.val t'.isLt).2) y) rfl

theorem final : (dats m 0 c).arrAt 2 (cfgs 0).N = prod (tr (P := 4096) (Q := 1024) (m ((c.tc : Thread nD τ).loc main_arg0))) (m ((c.tc : Thread nD τ).loc main_arg1)) := by
  refine (dats m 0 c).arrAt_eq_of_covers 2 _ (by decide +kernel) fun t hf y => ?_
  have h : t.val % 2 = 1 := (flush0_2 t).mp hf
  have hp : t.val - 1 < cfg0.N := Nat.lt_of_le_of_lt (Nat.sub_le _ _) t.isLt
  obtain ⟨i0, i1, i2⟩ := idx t
  obtain ⟨j0, j1, j2⟩ := idx ⟨t.val - 1, hp⟩
  blk_simp
  rw [after0_2]
  refine (last m c t ⟨t.val - 1, hp⟩ h rfl y).trans (prod_halves_tr (n := 2048) (fun k => ?_) (fun k => ?_) (fun k => ?_) (fun k => ?_))
  · blk_ext [iblk, V, i0, i2, j0]
  · blk_ext [iblk, V, i1, i2, j1]
  · blk_ext [iblk, V, i0, i2]
  · blk_ext [iblk, V, i1, i2]

open Cert.AttnODwRefIdeal.Read in
theorem ref (a : Mat 4096 1024) (b : Mat 4096 1024) : val_main_v6 (F := Ideal) a b = prod (tr a) b := by
  funext i
  pointwise [val_main_v6, val_main_v5, val_main_v4, val_main_v1, val_main_v0]
  exact prod_swapped (a := tr a) (fun _ => rfl) (fun _ => rfl)

end Cert.Prod.AttnODw

/-! ## Into the attention -/

namespace Cert.Prod.AttnQkvDw

open Cert.AttnQkvDwIdeal Cert.AttnQkvDwIdeal.Gen

variable (m : (ℓ : Loc nD τ sig) → Buf (Elt Ideal) ℓ) (c : Dev nD)

theorem idx : ∀ t : Fin cfg0.N, win0_0.index t = ![t.val % 2, 0] ∧ win0_1.index t = ![t.val % 2, 0] ∧ win0_2.index t = ![0, 0] :=
  (by decide +kernel : ∀ t : Fin grid0.N, _)

abbrev x (t : Fin cfg0.N) : Mat 2048 1024 := iblk m c 0 t
abbrev z (t : Fin cfg0.N) : Mat 2048 1536 := iblk m c 1 t

theorem first (t : Fin cfg0.N) (h : t.val % 2 = 0) (y : S1024x1536.Idx) :
    ((outsAt0 m c t.val t.isLt).2 : FVec Ideal S1024x1536 .f32) y = prod (tr (x m c t)) (z m c t) y := by
  rw [outsAt0_A m c t h (by omega) (by omega)]
  frame_open
  frame_out
  pointwise [k0_pay2, k0_pay1]
  rfl

theorem last (t t' : Fin cfg0.N) (h : t.val % 2 = 1) (ht : t'.val = t.val - 1) (y : S1024x1536.Idx) :
    ((outsAt0 m c t.val t.isLt).1 : FVec Ideal S1024x1536 .bf16) y = prod (tr (x m c t')) (z m c t') y + prod (tr (x m c t)) (z m c t) y := by
  rw [outsAt0_B m c t (by omega) h h, ← first m c t' (by omega) y]
  simp only [← ht]
  frame_open
  frame_out
  pointwise [k0_pay4, k0_pay3, k0_pay2, k0_pay1]
  exact congrArg₂ (· + ·) (congrFun (read_unread_whole (Val := Elt Ideal) cc0_scratch0 (Memref.isWhole_whole _) (outsAt0 m c t'.val t'.isLt).2) y) rfl

theorem final : (dats m 0 c).arrAt 2 (cfgs 0).N = prod (tr (P := 4096) (Q := 1024) (m ((c.tc : Thread nD τ).loc main_arg0))) (m ((c.tc : Thread nD τ).loc main_arg1)) := by
  refine (dats m 0 c).arrAt_eq_of_covers 2 _ (by decide +kernel) fun t hf y => ?_
  have h : t.val % 2 = 1 := (flush0_2 t).mp hf
  have hp : t.val - 1 < cfg0.N := Nat.lt_of_le_of_lt (Nat.sub_le _ _) t.isLt
  obtain ⟨i0, i1, i2⟩ := idx t
  obtain ⟨j0, j1, j2⟩ := idx ⟨t.val - 1, hp⟩
  blk_simp
  rw [after0_2]
  refine (last m c t ⟨t.val - 1, hp⟩ h rfl y).trans (prod_halves_tr (n := 2048) (fun k => ?_) (fun k => ?_) (fun k => ?_) (fun k => ?_))
  · blk_ext [iblk, V, i0, i2, j0]
  · blk_ext [iblk, V, i1, i2, j1]
  · blk_ext [iblk, V, i0, i2]
  · blk_ext [iblk, V, i1, i2]

open Cert.AttnQkvDwRefIdeal.Read in
theorem ref (a : Mat 4096 1024) (b : Mat 4096 1536) : val_main_v6 (F := Ideal) a b = prod (tr a) b := by
  funext i
  pointwise [val_main_v6, val_main_v5, val_main_v4, val_main_v1, val_main_v0]
  exact prod_swapped (a := tr a) (fun _ => rfl) (fun _ => rfl)

end Cert.Prod.AttnQkvDw

end
-- ==== Proof.ProductsFfn.lean ====
module

public import proofs.«01_k».proof.Defs
public import proofs.«01_k».proof.Proof.ProdForward
public import proofs.«01_k».proof.Proof.ProdPair
public import proofs.«01_k».proof.Proof.ProdWeights
public import proofs.«01_k».proof.Proof.Gen.FfnDownRefIdeal.Run
public import proofs.«01_k».proof.Proof.Gen.FfnGuDxRefIdeal.Run
public import proofs.«01_k».proof.Proof.Gen.FfnGuDwRefIdeal.Run
public import proofs.«01_k».proof.Proof.Gen.FfnDownDwRefIdeal.Run
public import Idealize.ShloMosaic.Lib.Claim

/-! The feed-forward block's matrix products: each call's result is the reference's, and each reference ends with its arguments unchanged. -/

@[expose] public section

set_option maxRecDepth 16384

noncomputable section

namespace Cert.Prod

open Idealize.ShloMosaic Idealize.SL.Sem

attribute [local instance] Cert.FfnDownIdeal.Gen.facts Cert.FfnDownRefIdeal.Gen.facts Cert.FfnGuDxIdeal.Gen.facts Cert.FfnGuDxRefIdeal.Gen.facts Cert.FfnGuDwIdeal.Gen.facts Cert.FfnGuDwRefIdeal.Gen.facts Cert.FfnDownDwIdeal.Gen.facts Cert.FfnDownDwRefIdeal.Gen.facts

theorem FfnDown.algebraic : Cert.algebraic_FfnDownIdeal_FfnDownRefIdeal := by
  pair_intro
  · run_from Cert.FfnDownIdeal.Value.run_blocks m g
  · run_from Cert.FfnDownRefIdeal.Value.run m' g'
    exact (FfnDown.ref _ _).trans (FfnDown.final m c).symm

theorem FfnDown.quiet : Cert.quiescent_FfnDownRefIdeal := fun m g _ =>
  (θ_run Cert.FfnDownRefIdeal.defs _ _).mono
    (fun r h => ⟨fun c => (h c).2, sem_eq_zero_of_no_sems (sig := Cert.FfnDownRefIdeal.sig) (by decide) r.2⟩)
    (Cert.FfnDownRefIdeal.Value.run m g)

theorem FfnGuDx.algebraic : Cert.algebraic_FfnGuDxIdeal_FfnGuDxRefIdeal := by
  pair_intro
  · run_from Cert.FfnGuDxIdeal.Value.run_blocks m g
  · run_from Cert.FfnGuDxRefIdeal.Value.run m' g'
    refine (FfnGuDx.ref _ _ _).trans ?_
    rw [(hagree c).2.2]
    exact (FfnGuDx.final m c).symm

theorem FfnGuDx.quiet : Cert.quiescent_FfnGuDxRefIdeal := fun m g _ =>
  (θ_run Cert.FfnGuDxRefIdeal.defs _ _).mono
    (fun r h => ⟨fun c => (h c).2, sem_eq_zero_of_no_sems (sig := Cert.FfnGuDxRefIdeal.sig) (by decide) r.2⟩)
    (Cert.FfnGuDxRefIdeal.Value.run m g)

theorem FfnGuDw.algebraic : Cert.algebraic_FfnGuDwIdeal_FfnGuDwRefIdeal := by
  pair_intro
  · run_from Cert.FfnGuDwIdeal.Value.run_blocks m g
  · run_from Cert.FfnGuDwRefIdeal.Value.run m' g'
    refine (FfnGuDw.ref _ _ _).trans ?_
    rw [(hagree c).2.1, (hagree c).2.2]
    exact (FfnGuDw.final m c).symm

theorem FfnGuDw.quiet : Cert.quiescent_FfnGuDwRefIdeal := fun m g _ =>
  (θ_run Cert.FfnGuDwRefIdeal.defs _ _).mono
    (fun r h => ⟨fun c => (h c).2, sem_eq_zero_of_no_sems (sig := Cert.FfnGuDwRefIdeal.sig) (by decide) r.2⟩)
    (Cert.FfnGuDwRefIdeal.Value.run m g)

theorem FfnDownDw.algebraic : Cert.algebraic_FfnDownDwIdeal_FfnDownDwRefIdeal := by
  pair_intro
  · run_from Cert.FfnDownDwIdeal.Value.run_blocks m g
  · run_from Cert.FfnDownDwRefIdeal.Value.run m' g'
    exact (FfnDownDw.ref _ _).trans (FfnDownDw.final m c).symm

theorem FfnDownDw.quiet : Cert.quiescent_FfnDownDwRefIdeal := fun m g _ =>
  (θ_run Cert.FfnDownDwRefIdeal.defs _ _).mono
    (fun r h => ⟨fun c => (h c).2, sem_eq_zero_of_no_sems (sig := Cert.FfnDownDwRefIdeal.sig) (by decide) r.2⟩)
    (Cert.FfnDownDwRefIdeal.Value.run m g)

end Cert.Prod

end
-- ==== Proof.ProdBias.lean ====
module

public import proofs.«01_k».proof.Proof.Prod
public import proofs.«01_k».proof.Proof.Gen.GmlpInIdeal.Value
public import proofs.«01_k».proof.Proof.Gen.GmlpInRefIdeal.Read
public import proofs.«01_k».proof.Proof.Gen.AttnQkvIdeal.Value
public import proofs.«01_k».proof.Proof.Gen.AttnQkvRefIdeal.Read
public import Idealize.ShloMosaic.Lib.Claim
public import Idealize.ShloMosaic.Lib.Pipeline.ReadBack
public import Idealize.ShloMosaic.Lib.Pipeline.ValueKit

/-! The projections of the forward pass with a bias. -/

@[expose] public section

set_option maxRecDepth 16384

noncomputable section

open Idealize.ShloMosaic Idealize.ShloMosaic.TcCoe Idealize.SL.Sem

/-! ## Into the gating unit -/

namespace Cert.Prod.GmlpIn

open Cert.GmlpInIdeal Cert.GmlpInIdeal.Gen

variable (m : (ℓ : Loc nD τ sig) → Buf (Elt Ideal) ℓ) (c : Dev nD)

theorem idx : ∀ t : Fin cfg0.N, win0_0.index t = ![t.val / 4, 0] ∧ win0_1.index t = ![0, t.val % 4] ∧ win0_2.index t = ![0, t.val % 4] ∧ win0_3.index t = ![t.val / 4, t.val % 4] :=
  (by decide +kernel : ∀ t : Fin grid0.N, _)

theorem final : (dats m 0 c).arrAt 3 (cfgs 0).N = shift (prod (m ((c.tc : Thread nD τ).loc main_arg0)) (m ((c.tc : Thread nD τ).loc main_arg1))) (m ((c.tc : Thread nD τ).loc main_arg2)) := by
  refine (dats m 0 c).arrAt_eq_of_covers 3 _ (by decide +kernel) fun t hf y => ?_
  obtain ⟨i0, i1, i2, i3⟩ := idx t
  blk_simp
  rw [after0_3]
  unfold out0_3
  frame_out
  pointwise [k0_pay1]
  refine congrArg₂ (· + ·) (prod_block (x := iblk m c 0 t) (z := iblk m c 1 t) (y := y) (fun k => ?_) (fun k => ?_)) ?_
  · blk_ext [iblk, V, i0, i3]
  · blk_ext [iblk, V, i1, i3]
  · blk_simp [iblk]; entry_read; pointwise; blk_ext [i2, i3]

open Cert.GmlpInRefIdeal.Read in
theorem ref (a : Mat 4096 1024) (b : Mat 1024 4096) (s : Row 4096) : val_main_v5 (F := Ideal) a b s = shift (prod a b) s := by
  funext i
  pointwise [val_main_v5, val_main_v4, val_main_v3, val_main_v2, val_main_v1, val_main_v0]
  rfl

end Cert.Prod.GmlpIn

/-! ## Into the attention -/

namespace Cert.Prod.AttnQkv

open Cert.AttnQkvIdeal Cert.AttnQkvIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem final : (dats m 0 c).arrAt 3 (cfgs 0).N = shift (prod (m ((c.tc : Thread nD τ).loc main_arg0)) (m ((c.tc : Thread nD τ).loc main_arg1))) (m ((c.tc : Thread nD τ).loc main_arg2)) := by
  refine (dats m 0 c).arrAt_eq_of_covers 3 _ (by decide +kernel) fun t hf y => ?_
  obtain ⟨i0, i1, i2, i3⟩ := idx t
  blk_simp
  rw [after0_3]
  unfold out0_3
  frame_out
  pointwise [k0_pay1]
  refine congrArg₂ (· + ·) (prod_block (x := iblk m c 0 t) (z := iblk m c 1 t) (y := y) (fun k => ?_) (fun k => ?_)) ?_
  · blk_ext [iblk, V, i0, i3]
  · blk_ext [iblk, V, i1, i3]
  · blk_simp [iblk]; entry_read; pointwise; blk_ext [i2, i3]

open Cert.AttnQkvRefIdeal.Read in
theorem ref (a : Mat 4096 1024) (b : Mat 1024 1536) (s : Row 1536) : val_main_v5 (F := Ideal) a b s = shift (prod a b) s := by
  funext i
  pointwise [val_main_v5, val_main_v4, val_main_v3, val_main_v2, val_main_v1, val_main_v0]
  rfl

end Cert.Prod.AttnQkv

end
-- ==== Proof.ProdRows.lean ====
module

public import proofs.«01_k».proof.Proof.Prod
public import proofs.«01_k».proof.Proof.Gen.GmlpOutDxIdeal.Value
public import proofs.«01_k».proof.Proof.Gen.GmlpOutDxRefIdeal.Read
public import proofs.«01_k».proof.Proof.Gen.GmlpInDxIdeal.Value
public import proofs.«01_k».proof.Proof.Gen.GmlpInDxRefIdeal.Read
public import proofs.«01_k».proof.Proof.Gen.AttnODxIdeal.Value
public import proofs.«01_k».proof.Proof.Gen.AttnODxRefIdeal.Read
public import proofs.«01_k».proof.Proof.Gen.AttnQkvDxIdeal.Value
public import proofs.«01_k».proof.Proof.Gen.AttnQkvDxRefIdeal.Read
public import Idealize.ShloMosaic.Lib.Claim
public import Idealize.ShloMosaic.Lib.Pipeline.ReadBack
public import Idealize.ShloMosaic.Lib.Pipeline.ValueKit

/-! The gradients of the projections' rows: the gradient of the result times the weights, transposed. -/

@[expose] public section

set_option maxRecDepth 16384

noncomputable section

open Idealize.ShloMosaic Idealize.ShloMosaic.TcCoe Idealize.SL.Sem

/-! ## Out of the gating unit -/

namespace Cert.Prod.GmlpOutDx

open Cert.GmlpOutDxIdeal Cert.GmlpOutDxIdeal.Gen

variable (m : (ℓ : Loc nD τ sig) → Buf (Elt Ideal) ℓ) (c : Dev nD)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem final : (dats m 0 c).arrAt 2 (cfgs 0).N = prod (m ((c.tc : Thread nD τ).loc main_arg0)) (tr (m ((c.tc : Thread nD τ).loc main_arg1))) := by
  refine (dats m 0 c).arrAt_eq_of_covers 2 _ (by decide +kernel) fun t hf y => ?_
  obtain ⟨i0, i1, i2⟩ := idx t
  blk_simp
  rw [after0_2]
  unfold out0_2
  frame_out
  pointwise [k0_pay1]
  refine prod_block_tr (x := iblk m c 0 t) (z := iblk m c 1 t) (y := y) (fun k => ?_) (fun k => ?_)
  · blk_ext [iblk, V, i0, i2]
  · blk_ext [iblk, V, i1, i2]

open Cert.GmlpOutDxRefIdeal.Read in
theorem ref (a : Mat 4096 1024) (b : Mat 2048 1024) : val_main_v5 (F := Ideal) a b = prod a (tr b) := by
  funext i
  pointwise [val_main_v5, val_main_v4, val_main_v1, val_main_v0]
  rfl

end Cert.Prod.GmlpOutDx

/-! ## Into the gating unit -/

namespace Cert.Prod.GmlpInDx

open Cert.GmlpInDxIdeal Cert.GmlpInDxIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem final : (dats m 0 c).arrAt 2 (cfgs 0).N = prod (m ((c.tc : Thread nD τ).loc main_arg0)) (tr (m ((c.tc : Thread nD τ).loc main_arg1))) := by
  refine (dats m 0 c).arrAt_eq_of_covers 2 _ (by decide +kernel) fun t hf y => ?_
  obtain ⟨i0, i1, i2⟩ := idx t
  blk_simp
  rw [after0_2]
  unfold out0_2
  frame_out
  pointwise [k0_pay1]
  refine prod_block_tr (x := iblk m c 0 t) (z := iblk m c 1 t) (y := y) (fun k => ?_) (fun k => ?_)
  · blk_ext [iblk, V, i0, i2]
  · blk_ext [iblk, V, i1, i2]

open Cert.GmlpInDxRefIdeal.Read in
theorem ref (a : Mat 4096 4096) (b : Mat 1024 4096) : val_main_v4 (F := Ideal) a b = prod a (tr b) := by
  funext i
  pointwise [val_main_v4, val_main_v1, val_main_v0]
  rfl

end Cert.Prod.GmlpInDx

/-! ## Out of the attention -/

namespace Cert.Prod.AttnODx

open Cert.AttnODxIdeal Cert.AttnODxIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem final : (dats m 0 c).arrAt 2 (cfgs 0).N = prod (m ((c.tc : Thread nD τ).loc main_arg0)) (tr (m ((c.tc : Thread nD τ).loc main_arg1))) := by
  refine (dats m 0 c).arrAt_eq_of_covers 2 _ (by decide +kernel) fun t hf y => ?_
  obtain ⟨i0, i1, i2⟩ := idx t
  blk_simp
  rw [after0_2]
  unfold out0_2
  frame_out
  pointwise [k0_pay1]
  refine prod_block_tr (x := iblk m c 0 t) (z := iblk m c 1 t) (y := y) (fun k => ?_) (fun k => ?_)
  · blk_ext [iblk, V, i0, i2]
  · blk_ext [iblk, V, i1, i2]

open Cert.AttnODxRefIdeal.Read in
theorem ref (a : Mat 4096 1024) (b : Mat 1024 1024) : val_main_v5 (F := Ideal) a b = prod a (tr b) := by
  funext i
  pointwise [val_main_v5, val_main_v4, val_main_v1, val_main_v0]
  rfl

end Cert.Prod.AttnODx

/-! ## Into the attention -/

namespace Cert.Prod.AttnQkvDx

open Cert.AttnQkvDxIdeal Cert.AttnQkvDxIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem final : (dats m 0 c).arrAt 2 (cfgs 0).N = prod (m ((c.tc : Thread nD τ).loc main_arg0)) (tr (m ((c.tc : Thread nD τ).loc main_arg1))) := by
  refine (dats m 0 c).arrAt_eq_of_covers 2 _ (by decide +kernel) fun t hf y => ?_
  obtain ⟨i0, i1, i2⟩ := idx t
  blk_simp
  rw [after0_2]
  unfold out0_2
  frame_out
  pointwise [k0_pay1]
  refine prod_block_tr (x := iblk m c 0 t) (z := iblk m c 1 t) (y := y) (fun k => ?_) (fun k => ?_)
  · blk_ext [iblk, V, i0, i2]
  · blk_ext [iblk, V, i1, i2]

open Cert.AttnQkvDxRefIdeal.Read in
theorem ref (a : Mat 4096 1536) (b : Mat 1024 1536) : val_main_v4 (F := Ideal) a b = prod a (tr b) := by
  funext i
  pointwise [val_main_v4, val_main_v1, val_main_v0]
  rfl

end Cert.Prod.AttnQkvDx

end
-- ==== Proof.ProductsGmlp.lean ====
module

public import proofs.«01_k».proof.Defs
public import proofs.«01_k».proof.Proof.ProdBias
public import proofs.«01_k».proof.Proof.ProdForward
public import proofs.«01_k».proof.Proof.ProdRows
public import proofs.«01_k».proof.Proof.ProdWeights
public import proofs.«01_k».proof.Proof.Gen.GmlpInRefIdeal.Run
public import proofs.«01_k».proof.Proof.Gen.GmlpOutRefIdeal.Run
public import proofs.«01_k».proof.Proof.Gen.GmlpOutDwRefIdeal.Run
public import proofs.«01_k».proof.Proof.Gen.GmlpOutDxRefIdeal.Run
public import proofs.«01_k».proof.Proof.Gen.GmlpInDwRefIdeal.Run
public import proofs.«01_k».proof.Proof.Gen.GmlpInDxRefIdeal.Run
public import Idealize.ShloMosaic.Lib.Claim

/-! The gating unit's matrix products: each call's result is the reference's, and each reference ends with its arguments unchanged. -/

@[expose] public section

set_option maxRecDepth 16384

noncomputable section

namespace Cert.Prod

open Idealize.ShloMosaic Idealize.SL.Sem

attribute [local instance] Cert.GmlpInIdeal.Gen.facts Cert.GmlpInRefIdeal.Gen.facts Cert.GmlpOutIdeal.Gen.facts Cert.GmlpOutRefIdeal.Gen.facts Cert.GmlpOutDwIdeal.Gen.facts Cert.GmlpOutDwRefIdeal.Gen.facts Cert.GmlpOutDxIdeal.Gen.facts Cert.GmlpOutDxRefIdeal.Gen.facts Cert.GmlpInDwIdeal.Gen.facts Cert.GmlpInDwRefIdeal.Gen.facts Cert.GmlpInDxIdeal.Gen.facts Cert.GmlpInDxRefIdeal.Gen.facts

theorem GmlpIn.algebraic : Cert.algebraic_GmlpInIdeal_GmlpInRefIdeal := by
  pair_intro
  · run_from Cert.GmlpInIdeal.Value.run_blocks m g
  · run_from Cert.GmlpInRefIdeal.Value.run m' g'
    exact (GmlpIn.ref _ _ _).trans (GmlpIn.final m c).symm

theorem GmlpIn.quiet : Cert.quiescent_GmlpInRefIdeal := fun m g _ =>
  (θ_run Cert.GmlpInRefIdeal.defs _ _).mono
    (fun r h => ⟨fun c => (h c).2, sem_eq_zero_of_no_sems (sig := Cert.GmlpInRefIdeal.sig) (by decide) r.2⟩)
    (Cert.GmlpInRefIdeal.Value.run m g)

theorem GmlpOut.algebraic : Cert.algebraic_GmlpOutIdeal_GmlpOutRefIdeal := by
  pair_intro
  · run_from Cert.GmlpOutIdeal.Value.run_blocks m g
  · run_from Cert.GmlpOutRefIdeal.Value.run m' g'
    exact (GmlpOut.ref _ _).trans (GmlpOut.final m c).symm

theorem GmlpOut.quiet : Cert.quiescent_GmlpOutRefIdeal := fun m g _ =>
  (θ_run Cert.GmlpOutRefIdeal.defs _ _).mono
    (fun r h => ⟨fun c => (h c).2, sem_eq_zero_of_no_sems (sig := Cert.GmlpOutRefIdeal.sig) (by decide) r.2⟩)
    (Cert.GmlpOutRefIdeal.Value.run m g)

theorem GmlpOutDw.algebraic : Cert.algebraic_GmlpOutDwIdeal_GmlpOutDwRefIdeal := by
  pair_intro
  · run_from Cert.GmlpOutDwIdeal.Value.run_blocks m g
  · run_from Cert.GmlpOutDwRefIdeal.Value.run m' g'
    exact (GmlpOutDw.ref _ _).trans (GmlpOutDw.final m c).symm

theorem GmlpOutDw.quiet : Cert.quiescent_GmlpOutDwRefIdeal := fun m g _ =>
  (θ_run Cert.GmlpOutDwRefIdeal.defs _ _).mono
    (fun r h => ⟨fun c => (h c).2, sem_eq_zero_of_no_sems (sig := Cert.GmlpOutDwRefIdeal.sig) (by decide) r.2⟩)
    (Cert.GmlpOutDwRefIdeal.Value.run m g)

theorem GmlpOutDx.algebraic : Cert.algebraic_GmlpOutDxIdeal_GmlpOutDxRefIdeal := by
  pair_intro
  · run_from Cert.GmlpOutDxIdeal.Value.run_blocks m g
  · run_from Cert.GmlpOutDxRefIdeal.Value.run m' g'
    exact (GmlpOutDx.ref _ _).trans (GmlpOutDx.final m c).symm

theorem GmlpOutDx.quiet : Cert.quiescent_GmlpOutDxRefIdeal := fun m g _ =>
  (θ_run Cert.GmlpOutDxRefIdeal.defs _ _).mono
    (fun r h => ⟨fun c => (h c).2, sem_eq_zero_of_no_sems (sig := Cert.GmlpOutDxRefIdeal.sig) (by decide) r.2⟩)
    (Cert.GmlpOutDxRefIdeal.Value.run m g)

theorem GmlpInDw.algebraic : Cert.algebraic_GmlpInDwIdeal_GmlpInDwRefIdeal := by
  pair_intro
  · run_from Cert.GmlpInDwIdeal.Value.run_blocks m g
  · run_from Cert.GmlpInDwRefIdeal.Value.run m' g'
    exact (GmlpInDw.ref _ _).trans (GmlpInDw.final m c).symm

theorem GmlpInDw.quiet : Cert.quiescent_GmlpInDwRefIdeal := fun m g _ =>
  (θ_run Cert.GmlpInDwRefIdeal.defs _ _).mono
    (fun r h => ⟨fun c => (h c).2, sem_eq_zero_of_no_sems (sig := Cert.GmlpInDwRefIdeal.sig) (by decide) r.2⟩)
    (Cert.GmlpInDwRefIdeal.Value.run m g)

theorem GmlpInDx.algebraic : Cert.algebraic_GmlpInDxIdeal_GmlpInDxRefIdeal := by
  pair_intro
  · run_from Cert.GmlpInDxIdeal.Value.run_blocks m g
  · run_from Cert.GmlpInDxRefIdeal.Value.run m' g'
    exact (GmlpInDx.ref _ _).trans (GmlpInDx.final m c).symm

theorem GmlpInDx.quiet : Cert.quiescent_GmlpInDxRefIdeal := fun m g _ =>
  (θ_run Cert.GmlpInDxRefIdeal.defs _ _).mono
    (fun r h => ⟨fun c => (h c).2, sem_eq_zero_of_no_sems (sig := Cert.GmlpInDxRefIdeal.sig) (by decide) r.2⟩)
    (Cert.GmlpInDxRefIdeal.Value.run m g)

end Cert.Prod

end
-- ==== Proof.ProductsAttn.lean ====
module

public import proofs.«01_k».proof.Defs
public import proofs.«01_k».proof.Proof.ProdBias
public import proofs.«01_k».proof.Proof.ProdForward
public import proofs.«01_k».proof.Proof.ProdRows
public import proofs.«01_k».proof.Proof.ProdWeights
public import proofs.«01_k».proof.Proof.Gen.AttnQkvRefIdeal.Run
public import proofs.«01_k».proof.Proof.Gen.AttnORefIdeal.Run
public import proofs.«01_k».proof.Proof.Gen.AttnODwRefIdeal.Run
public import proofs.«01_k».proof.Proof.Gen.AttnODxRefIdeal.Run
public import proofs.«01_k».proof.Proof.Gen.AttnQkvDwRefIdeal.Run
public import proofs.«01_k».proof.Proof.Gen.AttnQkvDxRefIdeal.Run
public import Idealize.ShloMosaic.Lib.Claim

/-! The attention's matrix products: each call's result is the reference's, and each reference ends with its arguments unchanged. -/

@[expose] public section

set_option maxRecDepth 16384

noncomputable section

namespace Cert.Prod

open Idealize.ShloMosaic Idealize.SL.Sem

attribute [local instance] Cert.AttnQkvIdeal.Gen.facts Cert.AttnQkvRefIdeal.Gen.facts Cert.AttnOIdeal.Gen.facts Cert.AttnORefIdeal.Gen.facts Cert.AttnODwIdeal.Gen.facts Cert.AttnODwRefIdeal.Gen.facts Cert.AttnODxIdeal.Gen.facts Cert.AttnODxRefIdeal.Gen.facts Cert.AttnQkvDwIdeal.Gen.facts Cert.AttnQkvDwRefIdeal.Gen.facts Cert.AttnQkvDxIdeal.Gen.facts Cert.AttnQkvDxRefIdeal.Gen.facts

theorem AttnQkv.algebraic : Cert.algebraic_AttnQkvIdeal_AttnQkvRefIdeal := by
  pair_intro
  · run_from Cert.AttnQkvIdeal.Value.run_blocks m g
  · run_from Cert.AttnQkvRefIdeal.Value.run m' g'
    exact (AttnQkv.ref _ _ _).trans (AttnQkv.final m c).symm

theorem AttnQkv.quiet : Cert.quiescent_AttnQkvRefIdeal := fun m g _ =>
  (θ_run Cert.AttnQkvRefIdeal.defs _ _).mono
    (fun r h => ⟨fun c => (h c).2, sem_eq_zero_of_no_sems (sig := Cert.AttnQkvRefIdeal.sig) (by decide) r.2⟩)
    (Cert.AttnQkvRefIdeal.Value.run m g)

theorem AttnO.algebraic : Cert.algebraic_AttnOIdeal_AttnORefIdeal := by
  pair_intro
  · run_from Cert.AttnOIdeal.Value.run_blocks m g
  · run_from Cert.AttnORefIdeal.Value.run m' g'
    exact (AttnO.ref _ _).trans (AttnO.final m c).symm

theorem AttnO.quiet : Cert.quiescent_AttnORefIdeal := fun m g _ =>
  (θ_run Cert.AttnORefIdeal.defs _ _).mono
    (fun r h => ⟨fun c => (h c).2, sem_eq_zero_of_no_sems (sig := Cert.AttnORefIdeal.sig) (by decide) r.2⟩)
    (Cert.AttnORefIdeal.Value.run m g)

theorem AttnODw.algebraic : Cert.algebraic_AttnODwIdeal_AttnODwRefIdeal := by
  pair_intro
  · run_from Cert.AttnODwIdeal.Value.run_blocks m g
  · run_from Cert.AttnODwRefIdeal.Value.run m' g'
    exact (AttnODw.ref _ _).trans (AttnODw.final m c).symm

theorem AttnODw.quiet : Cert.quiescent_AttnODwRefIdeal := fun m g _ =>
  (θ_run Cert.AttnODwRefIdeal.defs _ _).mono
    (fun r h => ⟨fun c => (h c).2, sem_eq_zero_of_no_sems (sig := Cert.AttnODwRefIdeal.sig) (by decide) r.2⟩)
    (Cert.AttnODwRefIdeal.Value.run m g)

theorem AttnODx.algebraic : Cert.algebraic_AttnODxIdeal_AttnODxRefIdeal := by
  pair_intro
  · run_from Cert.AttnODxIdeal.Value.run_blocks m g
  · run_from Cert.AttnODxRefIdeal.Value.run m' g'
    exact (AttnODx.ref _ _).trans (AttnODx.final m c).symm

theorem AttnODx.quiet : Cert.quiescent_AttnODxRefIdeal := fun m g _ =>
  (θ_run Cert.AttnODxRefIdeal.defs _ _).mono
    (fun r h => ⟨fun c => (h c).2, sem_eq_zero_of_no_sems (sig := Cert.AttnODxRefIdeal.sig) (by decide) r.2⟩)
    (Cert.AttnODxRefIdeal.Value.run m g)

theorem AttnQkvDw.algebraic : Cert.algebraic_AttnQkvDwIdeal_AttnQkvDwRefIdeal := by
  pair_intro
  · run_from Cert.AttnQkvDwIdeal.Value.run_blocks m g
  · run_from Cert.AttnQkvDwRefIdeal.Value.run m' g'
    exact (AttnQkvDw.ref _ _).trans (AttnQkvDw.final m c).symm

theorem AttnQkvDw.quiet : Cert.quiescent_AttnQkvDwRefIdeal := fun m g _ =>
  (θ_run Cert.AttnQkvDwRefIdeal.defs _ _).mono
    (fun r h => ⟨fun c => (h c).2, sem_eq_zero_of_no_sems (sig := Cert.AttnQkvDwRefIdeal.sig) (by decide) r.2⟩)
    (Cert.AttnQkvDwRefIdeal.Value.run m g)

theorem AttnQkvDx.algebraic : Cert.algebraic_AttnQkvDxIdeal_AttnQkvDxRefIdeal := by
  pair_intro
  · run_from Cert.AttnQkvDxIdeal.Value.run_blocks m g
  · run_from Cert.AttnQkvDxRefIdeal.Value.run m' g'
    exact (AttnQkvDx.ref _ _).trans (AttnQkvDx.final m c).symm

theorem AttnQkvDx.quiet : Cert.quiescent_AttnQkvDxRefIdeal := fun m g _ =>
  (θ_run Cert.AttnQkvDxRefIdeal.defs _ _).mono
    (fun r h => ⟨fun c => (h c).2, sem_eq_zero_of_no_sems (sig := Cert.AttnQkvDxRefIdeal.sig) (by decide) r.2⟩)
    (Cert.AttnQkvDxRefIdeal.Value.run m g)

end Cert.Prod

end
-- ==== Proof.Norm.lean ====
module

public import proofs.«01_k».proof.Proof.Prod
public import proofs.«01_k».proof.Proof.RealLift

/-! The norm of a row by its root mean square: the formula, on extended reals. -/

@[expose] public section

noncomputable section

namespace Cert.Norm

open Idealize.ShloMosaic Cert.Prod

variable {P P' : ℕ}

/-- One over the root mean square of a row of 1024 entries, a small number added to the mean. -/
def inv (x : Mat P 1024) (r : Fin P) : EReal :=
  Ideal.rsqrt (Ideal.div (∑ k : Fin 1024, x (ix2 r k) * x (ix2 r k)) (Ideal.ofBits .f32 0x44800000#32) + Ideal.ofBits .f32 0x358637BD#32)

/-- The rows over their root mean squares, each column with its gain. -/
def norm (x : Mat P 1024) (g : Row 1024) : Mat P 1024 := fun i => x i * inv x (i 0) * g (ix1 (i 1))

/-- The same added to a residual. -/
def res (h y : Mat P 1024) (g : Row 1024) : Mat P 1024 := fun i => h i + norm y g i

/-- A row of a block has the root mean square of the row it is. -/
theorem inv_block {x : Mat P' 1024} {X : Mat P 1024} {r : Fin P'} {R : Fin P} (h : ∀ k, x (ix2 r k) = X (ix2 R k)) : inv x r = inv X R := by
  unfold inv
  rw [Finset.sum_congr rfl fun k _ => by rw [h]]

end Cert.Norm

end
-- ==== Proof.NormForward.lean ====
module

public import proofs.«01_k».proof.Proof.Norm
public import proofs.«01_k».proof.Proof.Gen.RmsFwdIdeal.Value
public import proofs.«01_k».proof.Proof.Gen.RmsFwdRefIdeal.Read
public import proofs.«01_k».proof.Proof.Gen.RmsResIdeal.Value
public import proofs.«01_k».proof.Proof.Gen.RmsResRefIdeal.Read
public import proofs.«01_k».proof.Proof.Gen.RmsResNormIdeal.Value
public import proofs.«01_k».proof.Proof.Gen.RmsResNormRefIdeal.Read
public import Idealize.ShloMosaic.Lib.Claim
public import Idealize.ShloMosaic.Lib.Pipeline.ReadBack
public import Idealize.ShloMosaic.Lib.Pipeline.ValueKit

/-! The norms of the forward pass: alone, added to the residual, and added with the next norm after it. -/

@[expose] public section

set_option maxRecDepth 16384

noncomputable section

open Idealize.ShloMosaic Idealize.ShloMosaic.TcCoe Idealize.SL.Sem

/-! ## A norm -/

namespace Cert.Norm.RmsFwd

open Cert.RmsFwdIdeal Cert.RmsFwdIdeal.Gen Cert.Prod

variable (m : (ℓ : Loc nD τ sig) → Buf (Elt Ideal) ℓ) (c : Dev nD)

theorem idx : ∀ t : Fin cfg0.N, win0_0.index t = ![t.val, 0] ∧ win0_1.index t = ![0, 0, 0] ∧ win0_2.index t = ![t.val, 0] :=
  (by decide +kernel : ∀ t : Fin grid0.N, _)

theorem final : (dats m 0 c).arrAt 2 (cfgs 0).N = norm (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := idx t
  blk_simp
  rw [after0_2]
  unfold out0_2
  frame_out
  pointwise [k0_pay1]
  refine congrArg₂ (· * ·) (congrArg₂ (· * ·) ?_ (inv_block (x := iblk m c 0 t) (r := y 0) fun k => ?_)) ?_
  · blk_ext [iblk, V, i0, i2]
  · blk_ext [iblk, V, i0, i2]
  · blk_simp [iblk]; entry_read; pointwise; blk_ext [i1, i2]

open Cert.RmsFwdRefIdeal.Read in
theorem ref (x : Mat 4096 1024) (g : Row 1024) : val_main_v13 (F := Ideal) x g = norm x g := by
  funext i
  pointwise [val_main_v13, val_main_v12, val_main_v11, val_main_v10, val_main_v9, val_main_v8, val_main_v7, val_main_v6, val_main_v5,
    val_main_cst_1, val_main_v4, val_main_v3, val_main_cst_0, val_main_v2, val_main_v1, val_main_cst, val_main_v0]
  rfl

end Cert.Norm.RmsFwd

/-! ## A norm added to the residual -/

namespace Cert.Norm.RmsRes

open Cert.RmsResIdeal Cert.RmsResIdeal.Gen Cert.Prod

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0, 0]
    ∧ win0_3.index t = ![t.val, 0] :=
  (by decide +kernel : ∀ t : Fin grid0.N, _)

theorem final : (dats m 0 c).arrAt 3 (cfgs 0).N
    = res (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨i0, i1, i2, i3⟩ := idx t
  blk_simp
  rw [after0_3]
  unfold out0_3
  frame_out
  pointwise [k0_pay1]
  refine congrArg₂ (· + ·) ?_
    (congrArg₂ (· * ·) (congrArg₂ (· * ·) ?_ (inv_block (x := iblk m c 1 t) (r := y 0) fun k => ?_)) ?_)
  · blk_ext [iblk, V, i0, i3]
  · blk_ext [iblk, V, i1, i3]
  · blk_ext [iblk, V, i1, i3]
  · blk_simp [iblk]; entry_read; pointwise; blk_ext [i2, i3]

open Cert.RmsResRefIdeal.Read in
theorem ref (h y : Mat 4096 1024) (g : Row 1024) : val_main_v13 (F := Ideal) h y g = res h y g := by
  funext i
  pointwise [val_main_v13, val_main_v12, val_main_v11, val_main_v10, val_main_v9, val_main_v8, val_main_v7, val_main_v6, val_main_v5,
    val_main_cst_1, val_main_v4, val_main_v3, val_main_cst_0, val_main_v2, val_main_v1, val_main_cst, val_main_v0]
  rfl

end Cert.Norm.RmsRes

/-! ## A norm added to the residual, and the next norm of the sum -/

namespace Cert.Norm.RmsResNorm

open Cert.RmsResNormIdeal Cert.RmsResNormIdeal.Gen Cert.Prod

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0, 0]
    ∧ win0_3.index t = ![0, 0, 0] ∧ win0_4.index t = ![t.val, 0] ∧ win0_5.index t = ![t.val, 0] :=
  (by decide +kernel : ∀ t : Fin grid0.N, _)

/-- The sum's entry at a point is the one of the whole array. -/
theorem sum_block (t : Fin cfg0.N) (r : Fin 512) (k : Fin 1024) (R : Fin 4096) (hR : R.val = t.val * 512 + r.val) :
    k0_pay1 (F := Ideal) (iblk m c 1 t) (iblk m c 0 t) (iblk m c 2 t) (ix2 r k)
      = res (m ((c.tc : Thread nD τ).loc main_arg0)) (m ((c.tc : Thread nD τ).loc main_arg1)) (m ((c.tc : Thread nD τ).loc main_arg2)) (ix2 R k) := by
  obtain ⟨i0, i1, i2, i3, i4, i5⟩ := idx t
  pointwise [k0_pay1]
  refine congrArg₂ (· + ·) ?_
    (congrArg₂ (· * ·) (congrArg₂ (· * ·) ?_ (inv_block (x := iblk m c 1 t) (r := r) fun k => ?_)) ?_)
  · blk_ext [iblk, V, i0, hR]
  · blk_ext [iblk, V, i1, hR]
  · blk_ext [iblk, V, i1, hR]
  · blk_simp [iblk]; entry_read; pointwise; blk_ext [i2]

theorem final4 : (dats m 0 c).arrAt 4 (cfgs 0).N
    = res (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  obtain ⟨i0, i1, i2, i3, i4, i5⟩ := idx t
  have e0 : ((win0_4.blk t).view.emb y 0).val = t.val * 512 + (y 0).val := by blk_simp [i4]
  obtain ⟨r, k, rfl⟩ : ∃ (r : Fin 512) (k : Fin 1024), y = ix2 r k := ⟨y 0, y 1, eq_ix2 y⟩
  blk_simp
  rw [after0_4]
  unfold out0_4
  frame_out
  refine (sum_block m c t r k _ e0).trans (congrArg (res _ _ _) ?_)
  blk_ext [i4]

theorem final5 : (dats m 0 c).arrAt 5 (cfgs 0).N
    = norm (res (m ((c.tc : Thread nD τ).loc main_arg0)) (m ((c.tc : Thread nD τ).loc main_arg1)) (m ((c.tc : Thread nD τ).loc main_arg2)))
        (m ((c.tc : Thread nD τ).loc main_arg3)) := by
  refine (dats m 0 c).arrAt_eq_of_covers 5 _ (by decide +kernel) fun t hf y => ?_
  obtain ⟨i0, i1, i2, i3, i4, i5⟩ := idx t
  have e0 : ((win0_5.blk t).view.emb y 0).val = t.val * 512 + (y 0).val := by blk_simp [i5]
  obtain ⟨r, k, rfl⟩ : ∃ (r : Fin 512) (k : Fin 1024), y = ix2 r k := ⟨y 0, y 1, eq_ix2 y⟩
  blk_simp
  rw [after0_5]
  unfold out0_5
  frame_out
  pointwise [k0_pay2]
  refine congrArg₂ (· * ·) (congrArg₂ (· * ·) ?_ (inv_block (x := k0_pay1 (F := Ideal) (iblk m c 1 t) (iblk m c 0 t) (iblk m c 2 t)) (r := r)
    fun k => sum_block m c t r k _ e0)) ?_
  · refine (sum_block m c t r k _ e0).trans (congrArg (res _ _ _) ?_)
    blk_ext [i5]
  · blk_simp [iblk]; entry_read; pointwise; blk_ext [i3, i5]

open Cert.RmsResNormRefIdeal.Read in
theorem ref13 (h y : Mat 4096 1024) (g : Row 1024) : val_main_v13 (F := Ideal) h y g = res h y g := by
  funext i
  pointwise [val_main_v13, val_main_v12, val_main_v11, val_main_v10, val_main_v9, val_main_v8, val_main_v7, val_main_v6, val_main_v5,
    val_main_cst_1, val_main_v4, val_main_v3, val_main_cst_0, val_main_v2, val_main_v1, val_main_cst, val_main_v0]
  rfl

open Cert.RmsResNormRefIdeal.Read in
theorem ref27 (h y : Mat 4096 1024) (g g' : Row 1024) : val_main_v27 (F := Ideal) h y g g' = norm (res h y g) g' := by
  funext i
  pointwise [val_main_v27, val_main_v26, val_main_v25, val_main_v24, val_main_v23, val_main_v22, val_main_v21, val_main_v20, val_main_v19,
    val_main_cst_4, val_main_v18, val_main_v17, val_main_cst_3, val_main_v16, val_main_v15, val_main_cst_2, val_main_v14]
  rw [ref13]
  rfl

end Cert.Norm.RmsResNorm

end
-- ==== Proof.NormReal.lean ====
module

public import proofs.«01_k».proof.Proof.Norm
public import proofs.«01_k».proof.Proof.RealLift
public import Idealize.ShloMosaic.Lib.Pipeline.ValueKit

/-! The gradient of a row's norm: the form the kernel computes, and the form the chain rule gives term by term. -/

@[expose] public section

noncomputable section

namespace Cert.Norm

open Idealize.ShloMosaic Cert.Prod Cert.Lift

variable {P P' : ℕ}

/-! ## The two forms -/

/-- The gradient of the norm's rows, as the kernel computes it: the mean of the incoming gradient along the row is taken off. -/
def back (x d : Mat P 1024) (g : Row 1024) : Mat P 1024 := fun i =>
  inv x (i 0) * (d i * g (ix1 (i 1)) - x i * inv x (i 0)
    * Ideal.div (∑ k : Fin 1024, d (ix2 (i 0) k) * g (ix1 k) * (x (ix2 (i 0) k) * inv x (i 0))) (Ideal.ofBits .f32 0x44800000#32))

/-- A row's share in the gradient of a column's gain. -/
def share (x d : Mat P 1024) (j : Fin 1024) (r : Fin P) : EReal := d (ix2 r j) * (x (ix2 r j) * inv x r)

/-- The gradient of the gain, as a row. -/
def grad (x d : Mat P 1024) : Row 1024 := fun j => ∑ r : Fin P, share x d (j 0) r

/-- The mean of a row's squares with the small number added. -/
def mean (x : Mat P 1024) (r : Fin P) : EReal :=
  Ideal.div (∑ k : Fin 1024, x (ix2 r k) * x (ix2 r k)) (Ideal.ofBits .f32 0x44800000#32) + Ideal.ofBits .f32 0x358637BD#32

/-- What the chain rule gives a row through its mean of squares. -/
def slope (x d : Mat P 1024) (g : Row 1024) (r : Fin P) : EReal :=
  Ideal.div ((∑ k : Fin 1024, x (ix2 r k) * (d (ix2 r k) * g (ix1 k)))
    * (Ideal.ofBits .f32 0xBF000000#32 * Ideal.div (inv x r) (mean x r))) (Ideal.ofBits .f32 0x44800000#32)

/-! ## The mean -/

/-- The rational that the float word of `1e-6` is. -/
def eps : ℝ := 8796093 / 8796093022208

theorem bits_eps : Ideal.ofBits .f32 0x358637BD#32 = ((eps : ℝ) : EReal) := by
  simp [Ideal.ofBits, Ideal.ieee, -EReal.coe_mul, eps]; norm_num

theorem bits_1024 : Ideal.ofBits .f32 0x44800000#32 = ((1024 : ℝ) : EReal) := by
  simp [Ideal.ofBits, Ideal.ieee, -EReal.coe_mul]; norm_num

theorem square_nonneg (a : EReal) : 0 ≤ a * a := by
  induction a using EReal.rec with
  | bot => simp
  | top => simp
  | coe a => exact_mod_cast mul_self_nonneg a

/-- A row's mean is infinite or a positive real number. -/
theorem mean_cases (x : Mat P 1024) (r : Fin P) : mean x r = ⊤ ∨ ∃ m : ℝ, 0 < m ∧ mean x r = (m : EReal) := by
  unfold mean
  rw [bits_1024, bits_eps]
  have h : 0 ≤ ∑ k : Fin 1024, x (ix2 r k) * x (ix2 r k) := Finset.sum_nonneg fun k _ => square_nonneg _
  generalize ∑ k : Fin 1024, x (ix2 r k) * x (ix2 r k) = s at h
  induction s using EReal.rec with
  | bot => exact absurd h (by simp)
  | top =>
    left
    rw [Ideal.div, if_neg (by norm_num), ← EReal.coe_inv, EReal.top_mul_coe_of_pos (by norm_num), EReal.top_add_coe]
  | coe s =>
    have hs : 0 ≤ s := by exact_mod_cast h
    exact Or.inr ⟨s / 1024 + eps, by unfold eps; positivity, by rw [div_coe _ _ (by norm_num), ← EReal.coe_add]⟩

theorem cube (m : ℝ) (h : 0 < m) : (Real.sqrt m)⁻¹ / m = (Real.sqrt m)⁻¹ * (Real.sqrt m)⁻¹ * (Real.sqrt m)⁻¹ := by
  have h1 := Real.mul_self_sqrt h.le
  have h0 : Real.sqrt m ≠ 0 := (Real.sqrt_pos.mpr h).ne'
  conv_lhs => rw [← h1]
  field_simp
  rw [Real.sqrt_sq (Real.sqrt_nonneg _)]

/-! ## The two forms are equal -/

/-- A real number that is not negative goes into a sum of extended reals. -/
theorem sum_mul_coe {ι : Type*} (s : Finset ι) (f : ι → EReal) (R : ℝ) (hR : 0 ≤ R) : ∑ i ∈ s, f i * (R : EReal) = (∑ i ∈ s, f i) * (R : EReal) := by
  classical
  induction s using Finset.induction_on with
  | empty => simp
  | insert a s ha ih =>
    rw [Finset.sum_insert ha, Finset.sum_insert ha, ih,
      EReal.right_distrib_of_nonneg_of_ne_top (by exact_mod_cast hR) (EReal.coe_ne_top R)]

theorem div_real (a : EReal) (b : ℝ) (hb : b ≠ 0) : Ideal.div a (b : EReal) = a * ((b⁻¹ : ℝ) : EReal) := by
  rw [Ideal.div, if_neg (by exact_mod_cast hb), ← EReal.coe_inv]

theorem twice (t : EReal) : t + t = ((2 : ℝ) : EReal) * t := by
  have h : ((2 : ℝ) : EReal) = 1 + 1 := by rw [← EReal.coe_one, ← EReal.coe_add]; norm_num only
  rw [h, EReal.right_distrib_of_nonneg zero_le_one zero_le_one, one_mul]

/-- A term of the chain rule, which comes twice, is what the kernel takes off. -/
theorem twice_eq (x s : EReal) (R q : ℝ) :
    x * (s * ((-(1 / 2) * (R * R * R) : ℝ) : EReal) * (q : EReal)) + s * ((-(1 / 2) * (R * R * R) : ℝ) : EReal) * (q : EReal) * x
      = (R : EReal) * -(x * R * (s * R * q)) := by
  have h : ((2 : ℝ) : EReal) * ((-(1 / 2) * (R * R * R) : ℝ) : EReal) * (q : EReal) = -((R : EReal) * R * R * q) := by
    simp only [← EReal.coe_mul, ← EReal.coe_neg]
    exact congrArg (fun a : ℝ => (a : EReal)) (by ring)
  calc _ = ((2 : ℝ) : EReal) * ((-(1 / 2) * (R * R * R) : ℝ) : EReal) * (q : EReal) * (x * s) := by
        rw [mul_comm _ x, twice]; ac_rfl
    _ = _ := by
        rw [h, EReal.neg_mul, mul_comm _ (-_), EReal.neg_mul]
        refine congrArg Neg.neg ?_
        ac_rfl

/-- The chain rule's terms are the kernel's gradient. -/
theorem chain_alone (x d : Mat P 1024) (g : Row 1024) (i : (⟨2, ![P, 1024]⟩ : Shape).Idx) :
    d i * g (ix1 (i 1)) * inv x (i 0) + x i * slope x d g (i 0) + slope x d g (i 0) * x i = back x d g i := by
  unfold back slope
  rw [show inv x (i 0) = Ideal.rsqrt (mean x (i 0)) from rfl, bits_1024, bits_neg_half]
  rcases mean_cases x (i 0) with h | ⟨m, hm, h⟩
  · have h0 : Ideal.rsqrt ⊤ = 0 := rfl
    rw [h, h0]
    simp [Ideal.div]
  · have hR : (0 : ℝ) ≤ (Real.sqrt m)⁻¹ := inv_nonneg.mpr (Real.sqrt_nonneg m)
    rw [h, rsqrt_coe m hm, div_coe _ _ hm.ne', cube m hm, ← EReal.coe_mul]
    generalize (Real.sqrt m)⁻¹ = R at hR
    have hs : ∑ k : Fin 1024, d (ix2 (i 0) k) * g (ix1 k) * (x (ix2 (i 0) k) * (R : EReal))
        = (∑ k : Fin 1024, x (ix2 (i 0) k) * (d (ix2 (i 0) k) * g (ix1 k))) * (R : EReal) := by
      rw [← sum_mul_coe _ _ _ hR]
      exact Finset.sum_congr rfl fun k _ => by ac_rfl
    rw [hs, div_real _ _ (by norm_num), div_real _ _ (by norm_num), add_assoc, twice_eq, sub_eq_add_neg,
      EReal.left_distrib_of_nonneg_of_ne_top (by exact_mod_cast hR) (EReal.coe_ne_top R), mul_comm (R : EReal) (d i * g _)]

/-- The same added to another gradient. -/
theorem chain_eq (x d : Mat P 1024) (g : Row 1024) (e : EReal) (i : (⟨2, ![P, 1024]⟩ : Shape).Idx) :
    e + d i * g (ix1 (i 1)) * inv x (i 0) + x i * slope x d g (i 0) + slope x d g (i 0) * x i = back x d g i + e := by
  rw [← chain_alone x d g i, add_comm _ e, add_assoc, add_assoc, add_assoc]

/-! ## Blocks of rows -/

/-- A row of a block has the gradient of the row it is. -/
theorem back_block {x d : Mat P' 1024} {X D : Mat P 1024} {z g : Row 1024} {y : (⟨2, ![P', 1024]⟩ : Shape).Idx} {i : (⟨2, ![P, 1024]⟩ : Shape).Idx}
    (hx : ∀ k, x (ix2 (y 0) k) = X (ix2 (i 0) k)) (hd : ∀ k, d (ix2 (y 0) k) = D (ix2 (i 0) k)) (hz : ∀ k, z (ix1 k) = g (ix1 k)) (hk : y 1 = i 1) :
    back x d z y = back X D g i := by
  obtain ⟨r, k, rfl⟩ : ∃ (r : Fin P') (k : Fin 1024), y = ix2 r k := ⟨y 0, y 1, eq_ix2 y⟩
  obtain ⟨R, K, rfl⟩ : ∃ (r : Fin P) (k : Fin 1024), i = ix2 r k := ⟨i 0, i 1, eq_ix2 i⟩
  obtain rfl : k = K := hk
  have hx : ∀ k, x (ix2 r k) = X (ix2 R k) := hx
  have hd : ∀ k, d (ix2 r k) = D (ix2 R k) := hd
  show inv x r * (d (ix2 r k) * z (ix1 k) - x (ix2 r k) * inv x r * Ideal.div (∑ k : Fin 1024, d (ix2 r k) * z (ix1 k) * (x (ix2 r k) * inv x r)) _)
    = inv X R * (D (ix2 R k) * g (ix1 k) - X (ix2 R k) * inv X R * Ideal.div (∑ k : Fin 1024, D (ix2 R k) * g (ix1 k) * (X (ix2 R k) * inv X R)) _)
  rw [inv_block hx]
  simp only [hx, hd, hz]

theorem share_block {x d : Mat P' 1024} {X D : Mat P 1024} {r : Fin P'} {R : Fin P} {j J : Fin 1024}
    (hx : ∀ k, x (ix2 r k) = X (ix2 R k)) (hd : ∀ k, d (ix2 r k) = D (ix2 R k)) (hj : j = J) : share x d j r = share X D J R := by
  unfold share
  rw [inv_block hx, hx, hd, hj]

/-- A sum over 4096 rows is one over 8 blocks of 512. -/
theorem sum_rows (f : Fin 4096 → EReal) (g : Fin 8 → Fin 512 → EReal) (h : ∀ n r R, R.val = n.val * 512 + r.val → g n r = f R) :
    ∑ n, ∑ r, g n r = ∑ R, f R := by
  rw [← Fintype.sum_prod_type']
  refine Fintype.sum_equiv (finProdFinEquiv (m := 8) (n := 512)) _ _ fun p => h p.1 p.2 _ ?_
  show p.2.val + 512 * p.1.val = _
  omega

/-- What eight points add up, each the sum over its block of 512 rows, is the sum over all rows. -/
theorem sum_points {N : ℕ} (hN : N = 8) {ι : Type} (f : (n : ℕ) → n < N → ι → EReal) (part : Fin N → ι → EReal)
    (h0 : ∀ t : Fin N, t.val % 8 = 0 → ∀ i, f t.val t.isLt i = part t i)
    (hs : ∀ t : Fin N, ¬t.val % 8 = 0 → ∀ i, f t.val t.isLt i = f (t.val - 1) (Nat.lt_of_le_of_lt (Nat.sub_le _ _) t.isLt) i + part t i)
    (t : Fin N) (ht : t.val % 8 = 7) (i : ι) (F : Fin 4096 → EReal) (G : Fin N → Fin 512 → EReal) (hG : ∀ n, part n i = ∑ r, G n r)
    (hF : ∀ n r R, R.val = n.val * 512 + r.val → G n r = F R) : f t.val t.isLt i = ∑ R, F R := by
  subst hN
  rw [Pipeline.eq_sum_fin_of_reset_step_apply_of_flush f 8 (fun _ => (0 : EReal)) part (fun t h i => by rw [h0 t h i, zero_add]) hs t ht i, zero_add,
    ← sum_rows F G hF]
  refine Finset.sum_congr rfl fun s _ => ?_
  rw [← hG]
  exact congrArg (fun n => part n i) (Fin.ext (by show 8 * (t.val / 8) + s.val = s.val; omega))

end Cert.Norm

end
-- ==== Proof.NormBack.lean ====
module

public import proofs.«01_k».proof.Proof.NormReal
public import proofs.«01_k».proof.Proof.Gen.RmsBwdIdeal.Value
public import proofs.«01_k».proof.Proof.Gen.RmsBwdRefIdeal.Read
public import Idealize.ShloMosaic.Lib.Claim
public import Idealize.ShloMosaic.Lib.Pipeline.ReadBack
public import Idealize.ShloMosaic.Lib.Pipeline.ValueKit

/-! A norm's backward pass: the gradient of the rows block by block, and the gain's as the sum of the blocks' shares. -/

@[expose] public section

set_option maxRecDepth 16384

noncomputable section

open Idealize.ShloMosaic Idealize.ShloMosaic.TcCoe Idealize.SL.Sem

namespace Cert.Norm.RmsBwd

open Cert.RmsBwdIdeal Cert.RmsBwdIdeal.Gen Cert.Prod

variable (m : (ℓ : Loc nD τ sig) → Buf (Elt Ideal) ℓ) (c : Dev nD)

theorem idx : ∀ t : Fin cfg0.N, win0_0.index t = ![t.val, 0] ∧ win0_1.index t = ![0, 0, 0] ∧ win0_2.index t = ![t.val, 0]
    ∧ win0_3.index t = ![t.val, 0] ∧ win0_4.index t = ![t.val, 0] ∧ win0_5.index t = ![0, 0] :=
  (by decide +kernel : ∀ t : Fin grid0.N, _)

/-- The first result's block is the same term at every point. -/
theorem first (t : Fin cfg0.N) : (outsAt0 m c t.val t.isLt).1 = k0_pay4 (F := Ideal) (iblk m c 0 t) (iblk m c 2 t) (iblk m c 1 t) (iblk m c 3 t) := by
  have hN : t.val < 8 := lt_of_lt_of_eq t.isLt N_0
  by_cases h : t.val % 8 = 0
  · rw [outsAt0_A m c t h (by omega)]
    unfold out0_A_4
    frame_open
    simp (disch := decide) only [↓ View.readCov_skip, ↓ View.readCov_fill]
    frame_out
  · rw [outsAt0_B m c t h (by omega)]
    unfold out0_B_4
    frame_open
    simp (disch := decide) only [↓ View.readCov_skip, ↓ View.readCov_fill]
    frame_out

theorem final4 : (dats m 0 c).arrAt 4 (cfgs 0).N = fun i => back (m ((c.tc : Thread nD τ).loc main_arg0)) (m ((c.tc : Thread nD τ).loc main_arg2))
    (m ((c.tc : Thread nD τ).loc main_arg1)) i + (m ((c.tc : Thread nD τ).loc main_arg3) : Mat 4096 1024) i := by
  refine (dats m 0 c).arrAt_eq_of_covers 4 _ (by decide +kernel) fun t hf y => ?_
  obtain ⟨i0, i1, i2, i3, i4, i5⟩ := idx t
  blk_simp
  rw [after0_4, first m c t]
  pointwise [k0_pay4, k0_pay3, k0_pay2]
  refine congrArg₂ (· + ·) (back_block (x := iblk m c 0 t) (d := iblk m c 2 t) (z := fun j => iblk m c 1 t (ix3 0 0 (j 0))) (y := y)
    (fun k => ?_) (fun k => ?_) (fun k => ?_) ?_) ?_
  · blk_ext [iblk, V, i0, i4]
  · blk_ext [iblk, V, i2, i4]
  · blk_simp [iblk]; entry_read; pointwise; blk_ext [i1]
  · exact Fin.ext (by blk_simp [i4])
  · blk_ext [iblk, V, i3, i4]

theorem shareA (t : Fin cfg0.N) (h : t.val % 8 = 0) (i : S1x1024.Idx) :
    ((outsAt0 m c t.val t.isLt).2 : FVec Ideal S1x1024 .f32) i = k0_pay5 (F := Ideal) (iblk m c 0 t) (iblk m c 2 t) i := by
  have hN : t.val < 8 := lt_of_lt_of_eq t.isLt N_0
  rw [outsAt0_A m c t h (by omega)]
  unfold out0_A_5
  frame_open
  simp (disch := decide) only [↓ View.readCov_skip, ↓ View.readCov_fill]
  frame_out

theorem shareB (t : Fin cfg0.N) (h : ¬t.val % 8 = 0) (i : S1x1024.Idx) :
    ((outsAt0 m c t.val t.isLt).2 : FVec Ideal S1x1024 .f32) i
      = (outsAt0 m c (t.val - 1) (Nat.lt_of_le_of_lt (Nat.sub_le _ _) t.isLt)).2 i + k0_pay5 (F := Ideal) (iblk m c 0 t) (iblk m c 2 t) i := by
  have hN : t.val < 8 := lt_of_lt_of_eq t.isLt N_0
  rw [outsAt0_B m c t h (by omega)]
  unfold out0_B_5
  frame_open
  simp (disch := decide) only [↓ View.readCov_skip, ↓ View.readCov_fill]
  frame_out
  pointwise [k0_pay1]

theorem final5 : (dats m 0 c).arrAt 5 (cfgs 0).N = fun i : S1x1024.Idx =>
    grad (m ((c.tc : Thread nD τ).loc main_arg0)) (m ((c.tc : Thread nD τ).loc main_arg2)) (ix1 (i 1)) := by
  refine (dats m 0 c).arrAt_eq_of_covers 5 _ (by decide +kernel) fun t hf y => ?_
  blk_simp
  rw [after0_5]
  refine sum_points N_0 (fun n h => ((outsAt0 m c n h).2 : FVec Ideal S1x1024 .f32)) (fun t => k0_pay5 (F := Ideal) (iblk m c 0 t) (iblk m c 2 t))
    (shareA m c) (shareB m c) t ((flush0_5 t).mp hf) y _ (fun n => share (iblk m c 0 n) (iblk m c 2 n) (y 1)) (fun n => ?_) fun n r R hR => ?_
  · pointwise [k0_pay5, k0_pay3, k0_pay2]
    rfl
  · obtain ⟨i0, -, i2, -⟩ := idx n
    obtain ⟨-, -, -, -, -, i5⟩ := idx t
    refine share_block (fun k => ?_) (fun k => ?_) ?_
    · blk_ext [iblk, V, i0, hR]
    · blk_ext [iblk, V, i2, hR]
    · exact Fin.ext (by blk_simp [i5])

open Cert.RmsBwdRefIdeal.Read in
theorem ref36 (x : Mat 4096 1024) (g : Row 1024) (d e : Mat 4096 1024) :
    val_main_v36 (F := Ideal) x g d e = fun i => back x d g i + e i := by
  funext i
  rw [← chain_eq x d g (e i) i]
  pointwise [val_main_v36, val_main_v35, val_main_v34, val_main_v33, val_main_v32, val_main_v31, val_main_v30, val_main_v29, val_main_v28,
    val_main_v27, val_main_v26, val_main_v25, val_main_v24, val_main_v23, val_main_v22, val_main_v20, val_main_v19,
    val_main_v13, val_main_v10, val_main_v9, val_main_v8,
    val_main_v7, val_main_v6, val_main_v5, val_main_v4, val_main_v3, val_main_v2, val_main_v1, val_main_v0, val_main_cst, val_main_cst_0,
    val_main_cst_1, val_main_cst_2, val_main_cst_5, val_main_cst_6, val_main_cst_7]
  simp only [Fin.sum_univ_one]
  rfl

open Cert.RmsBwdRefIdeal.Read in
theorem ref37 (x d : Mat 4096 1024) : val_main_v37 (F := Ideal) x d = fun i => grad x d (ix1 (i 1)) := by
  funext i
  pointwise [val_main_v37, val_main_v21, val_main_v18, val_main_v17, val_main_v16, val_main_v12, val_main_v11,
    val_main_v7, val_main_v6, val_main_v5, val_main_v4, val_main_v3, val_main_v2, val_main_v1, val_main_v0, val_main_cst, val_main_cst_0,
    val_main_cst_1, val_main_cst_3, val_main_cst_4]
  simp only [Fin.sum_univ_one]
  exact Finset.sum_congr rfl fun r _ => mul_comm _ _

end Cert.Norm.RmsBwd

end
-- ==== Proof.NormChain.lean ====
module

public import proofs.«01_k».proof.Proof.NormReal
public import proofs.«01_k».proof.Proof.Gen.RmsChainIdeal.Value
public import proofs.«01_k».proof.Proof.Gen.RmsChainRefIdeal.Read
public import Idealize.ShloMosaic.Lib.Claim
public import Idealize.ShloMosaic.Lib.Pipeline.ReadBack
public import Idealize.ShloMosaic.Lib.Pipeline.ValueKit

/-! The backward pass of two norms with the residual between them: the gradients of the rows before either norm block by block, and
    the two gains' as sums of the blocks' shares. -/

@[expose] public section

set_option maxRecDepth 16384

noncomputable section

open Idealize.ShloMosaic Idealize.ShloMosaic.TcCoe Idealize.SL.Sem

namespace Cert.Norm.RmsChain

open Cert.RmsChainIdeal Cert.RmsChainIdeal.Gen Cert.Prod

/-- The gradient of the residual before the second norm. -/
def dsum (h y : Mat 4096 1024) (g g' : Row 1024) (d e : Mat 4096 1024) : Mat 4096 1024 := fun i => back (res h y g) d g' i + e i

section Kernel

variable (m : (ℓ : Loc nD τ sig) → Buf (Elt Ideal) ℓ) (c : Dev nD)

theorem idx : ∀ t : Fin cfg0.N, win0_0.index t = ![t.val, 0] ∧ win0_1.index t = ![0, 0, 0] ∧ win0_2.index t = ![t.val, 0]
    ∧ win0_3.index t = ![t.val, 0] ∧ win0_4.index t = ![t.val, 0] ∧ win0_5.index t = ![0, 0, 0] :=
  (by decide +kernel : ∀ t : Fin grid0.N, _)

theorem idx' : ∀ t : Fin cfg0.N, win0_6.index t = ![t.val, 0] ∧ win0_7.index t = ![t.val, 0] ∧ win0_8.index t = ![0, 0] ∧ win0_9.index t = ![0, 0] :=
  (by decide +kernel : ∀ t : Fin grid0.N, _)

/-- The first result's block at a point. -/
abbrev rows (t : Fin cfg0.N) : Mat 512 1024 := k0_pay11 (F := Ideal) (iblk m c 0 t) (iblk m c 1 t) (iblk m c 2 t) (iblk m c 3 t)

/-- The first two results' blocks are the same terms at every point. -/
theorem first (t : Fin cfg0.N) : (outsAt0 m c t.val t.isLt).1 = rows m c t := by
  have hN : t.val < 8 := lt_of_lt_of_eq t.isLt N_0
  by_cases h : t.val % 8 = 0
  · rw [outsAt0_A m c t h (by omega)]
    unfold out0_A_6
    frame_open
    simp (disch := decide) only [↓ View.readCov_skip, ↓ View.readCov_fill]
    frame_out
  · rw [outsAt0_B m c t h (by omega)]
    unfold out0_B_6
    frame_open
    simp (disch := decide) only [↓ View.readCov_skip, ↓ View.readCov_fill]
    frame_out

theorem second (t : Fin cfg0.N) : (outsAt0 m c t.val t.isLt).2.1 = k0_pay4 (F := Ideal) (rows m c t) (iblk m c 4 t) (k0_pay12 (iblk m c 5 t)) := by
  have hN : t.val < 8 := lt_of_lt_of_eq t.isLt N_0
  by_cases h : t.val % 8 = 0
  · rw [outsAt0_A m c t h (by omega)]
    unfold out0_A_7
    frame_open
    simp (disch := decide) only [↓ View.readCov_skip, ↓ View.readCov_fill]
    frame_out
  · rw [outsAt0_B m c t h (by omega)]
    unfold out0_B_7
    frame_open
    simp (disch := decide) only [↓ View.readCov_skip, ↓ View.readCov_fill]
    frame_out

theorem nextA (t : Fin cfg0.N) (h : t.val % 8 = 0) (i : S1x1024.Idx) :
    ((outsAt0 m c t.val t.isLt).2.2.1 : FVec Ideal S1x1024 .f32) i = k0_pay10 (F := Ideal) (iblk m c 0 t) (iblk m c 2 t) i := by
  have hN : t.val < 8 := lt_of_lt_of_eq t.isLt N_0
  rw [outsAt0_A m c t h (by omega)]
  unfold out0_A_8
  frame_open
  simp (disch := decide) only [↓ View.readCov_skip, ↓ View.readCov_fill]
  frame_out

theorem nextB (t : Fin cfg0.N) (h : ¬t.val % 8 = 0) (i : S1x1024.Idx) :
    ((outsAt0 m c t.val t.isLt).2.2.1 : FVec Ideal S1x1024 .f32) i
      = (outsAt0 m c (t.val - 1) (Nat.lt_of_le_of_lt (Nat.sub_le _ _) t.isLt)).2.2.1 i + k0_pay10 (F := Ideal) (iblk m c 0 t) (iblk m c 2 t) i := by
  have hN : t.val < 8 := lt_of_lt_of_eq t.isLt N_0
  rw [outsAt0_B m c t h (by omega)]
  unfold out0_B_8
  frame_open
  simp (disch := decide) only [↓ View.readCov_skip, ↓ View.readCov_fill]
  frame_out
  pointwise [k0_pay5]

theorem resA (t : Fin cfg0.N) (h : t.val % 8 = 0) (i : S1x1024.Idx) :
    ((outsAt0 m c t.val t.isLt).2.2.2 : FVec Ideal S1x1024 .f32) i = k0_pay3 (F := Ideal) (rows m c t) (iblk m c 4 t) i := by
  have hN : t.val < 8 := lt_of_lt_of_eq t.isLt N_0
  rw [outsAt0_A m c t h (by omega)]
  unfold out0_A_9
  frame_open
  simp (disch := decide) only [↓ View.readCov_skip, ↓ View.readCov_fill]
  frame_out

theorem resB (t : Fin cfg0.N) (h : ¬t.val % 8 = 0) (i : S1x1024.Idx) :
    ((outsAt0 m c t.val t.isLt).2.2.2 : FVec Ideal S1x1024 .f32) i
      = (outsAt0 m c (t.val - 1) (Nat.lt_of_le_of_lt (Nat.sub_le _ _) t.isLt)).2.2.2 i + k0_pay3 (F := Ideal) (rows m c t) (iblk m c 4 t) i := by
  have hN : t.val < 8 := lt_of_lt_of_eq t.isLt N_0
  rw [outsAt0_B m c t h (by omega)]
  unfold out0_B_9
  frame_open
  simp (disch := decide) only [↓ View.readCov_skip, ↓ View.readCov_fill]
  frame_out
  pointwise [k0_pay6]

/-- The sum the host adds up before the call, at a block's row. -/
theorem sum_block (t : Fin cfg0.N) (r : Fin 512) (R : Fin 4096) (hR : R.val = t.val * 512 + r.val) (k : Fin 1024) :
    iblk m c 0 t (ix2 r k)
      = res (m ((c.tc : Thread nD τ).loc main_arg0)) (m ((c.tc : Thread nD τ).loc main_arg1)) (m ((c.tc : Thread nD τ).loc main_arg2)) (ix2 R k) := by
  obtain ⟨i0, i1, i2, i3, i4, i5⟩ := idx t
  blk_simp [iblk]
  entry_read
  pointwise
  have e : ((View.whole main_v13).slice (win0_0.rect t)).emb (ix2 r k) = ix2 R k := by blk_ext [i0, hR]
  rw [e]
  rfl

/-- The first result's block is the whole gradient's. -/
theorem rows_block (t : Fin cfg0.N) (r : Fin 512) (R : Fin 4096) (hR : R.val = t.val * 512 + r.val) (k : Fin 1024) :
    rows m c t (ix2 r k) = dsum (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (ix2 R k) := by
  obtain ⟨i0, i1, i2, i3, i4, i5⟩ := idx t
  unfold rows
  pointwise [k0_pay11, k0_pay9, k0_pay8, k0_pay7]
  refine congrArg₂ (· + ·) (back_block (x := iblk m c 0 t) (d := iblk m c 2 t) (z := fun j => iblk m c 1 t (ix3 0 0 (j 0))) (y := ix2 r k)
    (fun k => sum_block m c t r R hR k) (fun k => ?_) (fun k => ?_) rfl) ?_
  · blk_ext [iblk, V, i2, hR]
  · blk_simp [iblk]; entry_read; pointwise; blk_ext [i1]
  · blk_ext [iblk, V, i3, hR]

theorem final6 : (dats m 0 c).arrAt 6 (cfgs 0).N
    = dsum (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  obtain ⟨i6, i7, i8, i9⟩ := idx' t
  have e0 : ((win0_6.blk t).view.emb y 0).val = t.val * 512 + (y 0).val := by blk_simp [i6]
  obtain ⟨r, k, rfl⟩ : ∃ (r : Fin 512) (k : Fin 1024), y = ix2 r k := ⟨y 0, y 1, eq_ix2 y⟩
  blk_simp
  rw [after0_6, first m c t]
  refine (rows_block m c t r _ e0 k).trans (congrArg (dsum _ _ _ _ _ _) ?_)
  blk_ext [i6]

theorem final7 : (dats m 0 c).arrAt 7 (cfgs 0).N
    = back (m ((c.tc : Thread nD τ).loc main_arg1)) (dsum (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5))) (m ((c.tc : Thread nD τ).loc main_arg2)) := by
  refine (dats m 0 c).arrAt_eq_of_covers 7 _ (by decide +kernel) fun t hf y => ?_
  obtain ⟨i0, i1, i2, i3, i4, i5⟩ := idx t
  obtain ⟨i6, i7, i8, i9⟩ := idx' t
  have e0 : ((win0_7.blk t).view.emb y 0).val = t.val * 512 + (y 0).val := by blk_simp [i7]
  blk_simp
  rw [after0_7, second m c t]
  pointwise [k0_pay4, k0_pay2, k0_pay1, k0_pay12]
  refine back_block (x := iblk m c 4 t) (d := rows m c t) (z := fun j => iblk m c 5 t (ix3 0 0 (j 0))) (y := y)
    (fun k => ?_) (fun k => rows_block m c t _ _ e0 k) (fun k => ?_) ?_
  · blk_ext [iblk, V, i4, i7]
  · blk_simp [iblk]; entry_read; pointwise; blk_ext [i5]
  · exact Fin.ext (by blk_simp [i7])

theorem final8 : (dats m 0 c).arrAt 8 (cfgs 0).N = fun i : S1x1024.Idx =>
    grad (res (m ((c.tc : Thread nD τ).loc main_arg0)) (m ((c.tc : Thread nD τ).loc main_arg1)) (m ((c.tc : Thread nD τ).loc main_arg2)))
      (m ((c.tc : Thread nD τ).loc main_arg4)) (ix1 (i 1)) := by
  refine (dats m 0 c).arrAt_eq_of_covers 8 _ (by decide +kernel) fun t hf y => ?_
  blk_simp
  rw [after0_8]
  refine sum_points N_0 (fun n h => ((outsAt0 m c n h).2.2.1 : FVec Ideal S1x1024 .f32)) (fun t => k0_pay10 (F := Ideal) (iblk m c 0 t) (iblk m c 2 t))
    (nextA m c) (nextB m c) t ((flush0_8 t).mp hf) y _ (fun n => share (iblk m c 0 n) (iblk m c 2 n) (y 1)) (fun n => ?_) fun n r R hR => ?_
  · pointwise [k0_pay10, k0_pay9, k0_pay8, k0_pay7]
    rfl
  · obtain ⟨i0, -, i2, -⟩ := idx n
    obtain ⟨-, -, i8, -⟩ := idx' t
    refine share_block (sum_block m c n r R hR) (fun k => ?_) ?_
    · blk_ext [iblk, V, i2, hR]
    · exact Fin.ext (by blk_simp [i8])

theorem final9 : (dats m 0 c).arrAt 9 (cfgs 0).N = fun i : S1x1024.Idx =>
    grad (m ((c.tc : Thread nD τ).loc main_arg1)) (dsum (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5))) (ix1 (i 1)) := by
  refine (dats m 0 c).arrAt_eq_of_covers 9 _ (by decide +kernel) fun t hf y => ?_
  blk_simp
  rw [after0_9]
  refine sum_points N_0 (fun n h => ((outsAt0 m c n h).2.2.2 : FVec Ideal S1x1024 .f32)) (fun t => k0_pay3 (F := Ideal) (rows m c t) (iblk m c 4 t))
    (resA m c) (resB m c) t ((flush0_9 t).mp hf) y _ (fun n => share (iblk m c 4 n) (rows m c n) (y 1)) (fun n => ?_) fun n r R hR => ?_
  · pointwise [k0_pay3, k0_pay2, k0_pay1]
    rfl
  · obtain ⟨-, -, -, -, i4, -⟩ := idx n
    obtain ⟨-, -, -, i9⟩ := idx' t
    refine share_block (fun k => ?_) (rows_block m c n r R hR) ?_
    · blk_ext [iblk, V, i4, hR]
    · exact Fin.ext (by blk_simp [i9])

end Kernel

section Reference

open Cert.RmsChainRefIdeal.Read

variable {h y : Mat 4096 1024} {g g' : Row 1024} {d e : Mat 4096 1024}

/-- The sum between the norms. -/
theorem ref16 : val_main_v16 (F := Ideal) h y g = res h y g := by
  funext i
  pointwise [val_main_v16, val_main_v15, val_main_v14, val_main_v13, val_main_v12, val_main_v11,
    val_main_v7, val_main_v6, val_main_v5, val_main_v4, val_main_v3, val_main_v2, val_main_v1, val_main_v0, val_main_cst, val_main_cst_0,
    val_main_cst_1]
  rfl

theorem ref53 : val_main_v53 (F := Ideal) h y g g' d e = dsum h y g g' d e := by
  funext i
  refine Eq.trans ?_ (chain_eq (res h y g) d g' (e i) i)
  pointwise [val_main_v53, val_main_v52, val_main_v51, val_main_v50, val_main_v49, val_main_v48, val_main_v47, val_main_v46, val_main_v45,
    val_main_v44, val_main_v43, val_main_v42, val_main_v41, val_main_v40, val_main_v39, val_main_v37, val_main_v36, val_main_v30, val_main_v27,
    val_main_v26, val_main_v25, val_main_v24, val_main_v23, val_main_v22, val_main_v21, val_main_v20, val_main_v19, val_main_v18, val_main_v17,
    val_main_cst_3, val_main_cst_4, val_main_cst_5, val_main_cst_6, val_main_cst_9, val_main_cst_10, val_main_cst_11]
  simp only [Fin.sum_univ_one]
  rw [ref16]
  rfl

theorem ref75 : val_main_v75 (F := Ideal) h y g g' d e = back y (dsum h y g g' d e) g := by
  funext i
  refine Eq.trans ?_ (chain_alone y (dsum h y g g' d e) g i)
  pointwise [val_main_v75, val_main_v74, val_main_v73, val_main_v72, val_main_v71, val_main_v70, val_main_v69, val_main_v68, val_main_v67,
    val_main_v66, val_main_v65, val_main_v64, val_main_v63, val_main_v62, val_main_v61, val_main_v59, val_main_v58, val_main_v54, val_main_v13,
    val_main_v10, val_main_v9, val_main_v8, val_main_v7, val_main_v6, val_main_v5, val_main_v4, val_main_v3, val_main_v2, val_main_v1, val_main_v0,
    val_main_cst, val_main_cst_0, val_main_cst_1, val_main_cst_2, val_main_cst_14, val_main_cst_15, val_main_cst_16]
  simp only [Fin.sum_univ_one]
  rw [ref53]
  rfl

theorem ref76 : val_main_v76 (F := Ideal) h y g d = fun i => grad (res h y g) d (ix1 (i 1)) := by
  funext i
  pointwise [val_main_v76, val_main_v38, val_main_v35, val_main_v34, val_main_v33, val_main_v29, val_main_v28, val_main_v24, val_main_v23,
    val_main_v22, val_main_v21, val_main_v20, val_main_v19, val_main_v18, val_main_v17, val_main_cst_3, val_main_cst_4, val_main_cst_5,
    val_main_cst_7, val_main_cst_8]
  simp only [Fin.sum_univ_one]
  rw [ref16]
  exact Finset.sum_congr rfl fun r _ => mul_comm _ _

theorem ref77 : val_main_v77 (F := Ideal) h y g g' d e = fun i => grad y (dsum h y g g' d e) (ix1 (i 1)) := by
  funext i
  pointwise [val_main_v77, val_main_v60, val_main_v57, val_main_v56, val_main_v55, val_main_v54, val_main_v12, val_main_v11,
    val_main_v7, val_main_v6, val_main_v5, val_main_v4, val_main_v3, val_main_v2, val_main_v1, val_main_v0, val_main_cst, val_main_cst_0,
    val_main_cst_1, val_main_cst_12, val_main_cst_13]
  simp only [Fin.sum_univ_one]
  rw [ref53]
  exact Finset.sum_congr rfl fun r _ => mul_comm _ _

end Reference

end Cert.Norm.RmsChain

end
-- ==== Proof.NormClaims.lean ====
module

public import proofs.«01_k».proof.Defs
public import proofs.«01_k».proof.Proof.NormForward
public import proofs.«01_k».proof.Proof.NormBack
public import proofs.«01_k».proof.Proof.NormChain
public import proofs.«01_k».proof.Proof.Gen.RmsFwdRefIdeal.Run
public import proofs.«01_k».proof.Proof.Gen.RmsResRefIdeal.Run
public import proofs.«01_k».proof.Proof.Gen.RmsResNormRefIdeal.Run
public import proofs.«01_k».proof.Proof.Gen.RmsBwdRefIdeal.Run
public import proofs.«01_k».proof.Proof.Gen.RmsChainRefIdeal.Run
public import Idealize.ShloMosaic.Lib.Claim

/-! The norms' calls, forward and backward: each result is the reference's on every argument. -/

@[expose] public section

set_option maxRecDepth 16384

noncomputable section

namespace Cert.Norm

open Idealize.ShloMosaic Idealize.SL.Sem Cert.Prod

attribute [local instance] Cert.RmsFwdIdeal.Gen.facts Cert.RmsFwdRefIdeal.Gen.facts Cert.RmsResIdeal.Gen.facts Cert.RmsResRefIdeal.Gen.facts
  Cert.RmsResNormIdeal.Gen.facts Cert.RmsResNormRefIdeal.Gen.facts Cert.RmsBwdIdeal.Gen.facts Cert.RmsBwdRefIdeal.Gen.facts
  Cert.RmsChainIdeal.Gen.facts Cert.RmsChainRefIdeal.Gen.facts

/-! ## Forward -/

theorem RmsFwd.algebraic : Cert.algebraic_RmsFwdIdeal_RmsFwdRefIdeal := by
  pair_intro
  · run_from Cert.RmsFwdIdeal.Value.run_blocks m g
  · run_from Cert.RmsFwdRefIdeal.Value.run m' g'
    exact (RmsFwd.ref _ _).trans (RmsFwd.final m c).symm

theorem RmsFwd.quiet : Cert.quiescent_RmsFwdRefIdeal := fun m g _ =>
  (θ_run Cert.RmsFwdRefIdeal.defs _ _).mono
    (fun r h => ⟨fun c => (h c).2, sem_eq_zero_of_no_sems (sig := Cert.RmsFwdRefIdeal.sig) (by decide) r.2⟩)
    (Cert.RmsFwdRefIdeal.Value.run m g)

theorem RmsRes.algebraic : Cert.algebraic_RmsResIdeal_RmsResRefIdeal := by
  pair_intro
  · run_from Cert.RmsResIdeal.Value.run_blocks m g
  · run_from Cert.RmsResRefIdeal.Value.run m' g'
    exact (RmsRes.ref _ _ _).trans (RmsRes.final m c).symm

theorem RmsRes.quiet : Cert.quiescent_RmsResRefIdeal := fun m g _ =>
  (θ_run Cert.RmsResRefIdeal.defs _ _).mono
    (fun r h => ⟨fun c => (h c).2, sem_eq_zero_of_no_sems (sig := Cert.RmsResRefIdeal.sig) (by decide) r.2⟩)
    (Cert.RmsResRefIdeal.Value.run m g)

theorem RmsResNorm.algebraic : Cert.algebraic_RmsResNormIdeal_RmsResNormRefIdeal := by
  pair_intro
  · run_from Cert.RmsResNormIdeal.Value.run_blocks m g
  · run_from Cert.RmsResNormRefIdeal.Value.run m' g'
    · exact (RmsResNorm.ref13 _ _ _).trans (RmsResNorm.final4 m c).symm
    · exact (RmsResNorm.ref27 _ _ _ _).trans (RmsResNorm.final5 m c).symm

theorem RmsResNorm.quiet : Cert.quiescent_RmsResNormRefIdeal := fun m g _ =>
  (θ_run Cert.RmsResNormRefIdeal.defs _ _).mono
    (fun r h => ⟨fun c => (h c).2.2, sem_eq_zero_of_no_sems (sig := Cert.RmsResNormRefIdeal.sig) (by decide) r.2⟩)
    (Cert.RmsResNormRefIdeal.Value.run m g)

/-! ## Backward -/

theorem RmsBwd.algebraic : Cert.algebraic_RmsBwdIdeal_RmsBwdRefIdeal := by
  pair_intro
  · run_from Cert.RmsBwdIdeal.Value.run_blocks m g
  · run_from Cert.RmsBwdRefIdeal.Value.run m' g'
    · exact (RmsBwd.ref36 _ _ _ _).trans (RmsBwd.final4 m c).symm
    · exact (RmsBwd.ref37 _ _).trans (RmsBwd.final5 m c).symm

theorem RmsBwd.quiet : Cert.quiescent_RmsBwdRefIdeal := fun m g _ =>
  (θ_run Cert.RmsBwdRefIdeal.defs _ _).mono
    (fun r h => ⟨fun c => (h c).2.2, sem_eq_zero_of_no_sems (sig := Cert.RmsBwdRefIdeal.sig) (by decide) r.2⟩)
    (Cert.RmsBwdRefIdeal.Value.run m g)

theorem RmsChain.algebraic : Cert.algebraic_RmsChainIdeal_RmsChainRefIdeal := by
  pair_intro
  · run_from Cert.RmsChainIdeal.Value.run_blocks m g
  · run_from Cert.RmsChainRefIdeal.Value.run m' g'
    · rw [Cert.RmsChainRefIdeal.Read.val_main_v53_eq]
      simp only [hagree c]
      exact RmsChain.ref53.trans (RmsChain.final6 m c).symm
    · rw [Cert.RmsChainRefIdeal.Read.val_main_v75_eq]
      simp only [hagree c]
      exact RmsChain.ref75.trans (RmsChain.final7 m c).symm
    · exact RmsChain.ref76.trans (RmsChain.final8 m c).symm
    · rw [Cert.RmsChainRefIdeal.Read.val_main_v77_eq]
      simp only [hagree c]
      exact RmsChain.ref77.trans (RmsChain.final9 m c).symm

theorem RmsChain.quiet : Cert.quiescent_RmsChainRefIdeal := fun m g _ =>
  (θ_run Cert.RmsChainRefIdeal.defs _ _).mono
    (fun r h => ⟨fun c => (h c).2.2.2.2, sem_eq_zero_of_no_sems (sig := Cert.RmsChainRefIdeal.sig) (by decide) r.2⟩)
    (Cert.RmsChainRefIdeal.Value.run m g)

end Cert.Norm

end
-- ==== Proof.SguForward.lean ====
module

public import proofs.«01_k».proof.Proof.Prod
public import proofs.«01_k».proof.Proof.Ref2
public import proofs.«01_k».proof.Proof.Gen.SguFwdIdeal.Value
public import proofs.«01_k».proof.Proof.Gen.SguFwdRefIdeal.Read
public import Idealize.ShloMosaic.Lib.Claim
public import Idealize.ShloMosaic.Lib.Pipeline.ReadBack
public import Idealize.ShloMosaic.Lib.Pipeline.ValueKit

/-! The gating unit's forward call: one half of the activated columns, times the other half normed by row and mixed along the
    rows of its chunk. The formula on extended reals, and what the kernel leaves. -/

@[expose] public section

set_option maxRecDepth 16384

noncomputable section

open Idealize.ShloMosaic Idealize.ShloMosaic.TcCoe Idealize.SL.Sem

namespace Cert.Sgu

open Cert.Spec (col grp)

/-- The activation. -/
def act (x : EReal) : EReal :=
  x * (Ideal.ofBits .f32 0x3F000000#32 * (1 + Ideal.erf (x * ((Real.sqrt (1 / 2) : ℝ) : EReal))))

/-- The activation as the reference writes it, with the complement of the error function. -/
theorem act_erfc (x : EReal) : Ideal.ofBits .f32 0x3F000000#32 * x * Ideal.erfc (-x * Ideal.sqrt (Ideal.ofBits .f32 0x3F000000#32)) = act x := by
  have h : Ideal.sqrt (Ideal.ofBits .f32 0x3F000000#32) = ((Real.sqrt (1 / 2) : ℝ) : EReal) :=
    (congrArg Ideal.sqrt Cert.Lift.bits_half).trans (Cert.Lift.sqrt_coe _ (by norm_num))
  rw [h, Ideal.erfc, EReal.neg_mul, Ideal.erf_neg, sub_eq_add_neg, neg_neg, act, mul_comm _ x, mul_assoc]

/-- A row's first half: the gates. -/
def gate (f : Fin 4096 → EReal) (j : Fin 2048) : EReal := act (f ⟨j.val, by omega⟩)

/-- A row's second half. -/
def lin (f : Fin 4096 → EReal) (j : Fin 2048) : EReal := act (f ⟨2048 + j.val, by omega⟩)

/-- The second half less its mean. -/
def dev (f : Fin 4096 → EReal) (j : Fin 2048) : EReal :=
  lin f j - Ideal.div (∑ k : Fin 2048, lin f k) (Ideal.ofBits .f32 0x45000000#32)

/-- The second half, normed. -/
def ln (f : Fin 4096 → EReal) (g b : Fin 2048 → EReal) (j : Fin 2048) : EReal :=
  dev f j * Ideal.rsqrt (Ideal.div (∑ k : Fin 2048, dev f k * dev f k) (Ideal.ofBits .f32 0x45000000#32) + Ideal.ofBits .f32 0x3727C5AC#32)
    * g j + b j

/-- A mixing weight, zero above the diagonal. -/
def low (w : Fin 8 → Fin 128 → Fin 128 → EReal) (e : Fin 8) (t s : Fin 128) : EReal := if s ≤ t then w e t s else 0

/-- A chunk of 128 rows. -/
def out (X : Fin 128 → Fin 4096 → EReal) (g b : Fin 2048 → EReal) (w : Fin 8 → Fin 128 → Fin 128 → EReal) (bs : Fin 8 → Fin 128 → EReal)
    (r : Fin 128) (j : Fin 2048) : EReal :=
  gate (X r) j * ((∑ s : Fin 128, low w (grp j) r s * ln (X s) g b j) + bs (grp j) r)

/-- Row `r` of the chunk of row `R`. -/
def row (R : Fin 4096) (r : Fin 128) : Fin 4096 := ⟨128 * (R.val / 128) + r.val, by omega⟩

/-- All chunks. -/
def full (x0 : Prod.Mat 4096 4096) (x1 : Prod.Row 4096) (x2 x3 : Prod.Row 2048) (x4 : (⟨3, ![8, 128, 128]⟩ : Shape).Idx → EReal)
    (x5 : Prod.Mat 8 128) : Prod.Mat 4096 2048 := fun i =>
  out (fun r k => x0 (ix2 (row (i 0) r) k) + x1 (ix1 k)) (fun j => x2 (ix1 j)) (fun j => x3 (ix1 j)) (fun e p q => x4 (ix3 e p q))
    (fun e p => x5 (ix2 e p)) (Cert.Ref.rr (i 0)) (i 1)

/-- A chunk's rows from what it reads. -/
theorem out_congr {X X' : Fin 128 → Fin 4096 → EReal} {g g' b b' : Fin 2048 → EReal} {w w' : Fin 8 → Fin 128 → Fin 128 → EReal}
    {bs bs' : Fin 8 → Fin 128 → EReal} {r r' : Fin 128} {j j' : Fin 2048} (hX : ∀ r k, X r k = X' r k) (hg : ∀ k, g k = g' k)
    (hb : ∀ k, b k = b' k) (hw : ∀ e p q, w e p q = w' e p q) (hbs : ∀ e p, bs e p = bs' e p) (hr : r.val = r'.val) (hj : j.val = j'.val) :
    out X g b w bs r j = out X' g' b' w' bs' r' j' := by
  obtain rfl : X = X' := funext fun r => funext fun k => hX r k
  obtain rfl : g = g' := funext hg
  obtain rfl : b = b' := funext hb
  obtain rfl : w = w' := funext fun e => funext fun p => funext fun q => hw e p q
  obtain rfl : bs = bs' := funext fun e => funext fun p => hbs e p
  obtain rfl : r = r' := Fin.ext hr
  obtain rfl : j = j' := Fin.ext hj
  rfl

end Cert.Sgu

namespace Cert.Sgu.SguFwd

open Cert.SguFwdIdeal Cert.SguFwdIdeal.Gen
open Cert.Spec (col grp)

section Body

variable (X : FVec Ideal S128x4096 .f32) (G B : FVec Ideal S1x2048 .f32)

theorem sqrt_half : Named.named (F := Ideal) κ "sqrt_half" (φ := .f32) 0x3F3504F3#32 = ((Real.sqrt (1 / 2) : ℝ) : EReal) := rfl

theorem act_at (r : Fin 128) (k : Fin 4096) : k0_pay2 (F := Ideal) X (ix2 r k) = act (X (ix2 r k)) := by
  pointwise [k0_pay2]
  rfl

theorem gate_at (r : Fin 128) (j : Fin 2048) : k0_pay3 (F := Ideal) X (ix2 r j) = gate (fun k => X (ix2 r k)) j := by
  pointwise [k0_pay3, act_at]
  first | rfl | exact congrArg (fun k => act (X (ix2 r k))) (Fin.ext (by simp))

theorem ln_at (r : Fin 128) (j : Fin 2048) :
    k0_pay4 (F := Ideal) X G B (ix2 r j) = ln (fun k => X (ix2 r k)) (fun k => G (ix2 0 k)) (fun k => B (ix2 0 k)) j := by
  pointwise [k0_pay4, act_at]
  rfl

/-- A grid point's rows, from its blocks. -/
def whole (x0 : FVec Ideal S128x4096 .f32) (x1 x2 : FVec Ideal S1x2048 .f32) (x3 : FVec Ideal S8x128x128 .f32) (x4 : FVec Ideal S128x8 .f32) :
    FVec Ideal S128x2048 .bf16 := fun y =>
  out (fun r k => x0 (ix2 r k)) (fun k => x1 (ix2 0 k)) (fun k => x2 (ix2 0 k)) (fun e p q => x3 (ix3 e p q)) (fun e p => x4 (ix2 p e)) (y 0) (y 1)

/-- One group of columns. -/
theorem grp_at (off : ℕ) (e : Fin 8) (he : off = 256 * e.val) (h : S128x2048.Slices ![0, off] S128x256) (U : FVec Ideal S128x2048 .f32)
    (N : FVec Ideal S128x2048 .bf16) (W : FVec Ideal S1x128x128 .f32) (C : FVec Ideal S128x1 .f32) (h1) (h2) (h3) (h4) (h5)
    (r : Fin 128) (c : Fin 256) :
    truncf .bf16 (mulf (extractStridedSlice S128x256 ![0, off] U h)
      (addf (matmul dot_S128x128_S128x256_S128x256_1_0_0_1_n_n none
          (truncf .bf16 (select k0_pay5 (shapeCast S128x128 W h1) (broadcast S128x128 (Scalar.ofBits (F := Ideal) .f32 0x00000000#32))) h2)
          (extractStridedSlice S128x256 ![0, off] N h) (constant S128x256 .f32 0x00000000#32))
        (broadcastTo S128x256 (shapeCast S128x1 C h3) h4))) h5 (ix2 r c)
      = (U (ix2 r (col e c)) * ((∑ s : Fin 128, (if s ≤ r then W (ix3 0 r s) else 0) * N (ix2 s (col e c))) + C (ix2 r 0)) : EReal) := by
  pointwise [k0_pay5, Cert.Pay.off_col off e he]
  simp only [Cert.Pay.mask_at, ite_mul, zero_mul]

/-- The same at the columns where it is stored. -/
theorem piece (x0 : FVec Ideal S128x4096 .f32) (x1 x2 : FVec Ideal S1x2048 .f32) (x3 : FVec Ideal S8x128x128 .f32) (x4 : FVec Ideal S128x8 .f32)
    (off : ℕ) (e : Fin 8) (he : off = 256 * e.val) (h : S128x2048.Slices ![0, off] S128x256) (X : FVec Ideal S128x4096 .f32)
    (G B : FVec Ideal S1x2048 .f32) (W : FVec Ideal S1x128x128 .f32) (C : FVec Ideal S128x1 .f32) (inb) (hX : X = x0) (hG : G = x1) (hB : B = x2)
    (hW : ∀ p q : Fin 128, W (ix3 0 p q) = x3 (ix3 e p q)) (hC : ∀ p : Fin 128, C (ix2 p 0) = x4 (ix2 p e)) (h1) (h2) (h3) (h4) (h5)
    (x : S128x256.Idx) :
    truncf .bf16 (mulf (extractStridedSlice S128x256 ![0, off] (k0_pay3 X) h)
      (addf (matmul dot_S128x128_S128x256_S128x256_1_0_0_1_n_n none
          (truncf .bf16 (select k0_pay5 (shapeCast S128x128 W h1) (broadcast S128x128 (Scalar.ofBits (F := Ideal) .f32 0x00000000#32))) h2)
          (extractStridedSlice S128x256 ![0, off] (k0_pay4 X G B) h) (constant S128x256 .f32 0x00000000#32))
        (broadcastTo S128x256 (shapeCast S128x1 C h3) h4))) h5 x
      = whole x0 x1 x2 x3 x4 ((Rect.unit (s := S128x2048) ![0, off] S128x256.size inb).emb x) := by
  obtain ⟨r, c, rfl⟩ : ∃ (r : Fin 128) (c : Fin 256), x = ix2 r c := ⟨x 0, x 1, eq_ix2 x⟩
  have hy : (Rect.unit (s := S128x2048) ![0, off] S128x256.size inb).emb (ix2 r c) = ix2 r (col e c) :=
    funext fun a => Fin.ext (by rw [ValueKit.rect_emb_unit_val]; fin_cases a <;> simp [col, he])
  subst hX hG hB
  rw [hy, grp_at off e he h, gate_at]
  simp only [ln_at, hW, hC]
  unfold whole out low
  show _ = gate _ (col e c) * ((∑ s : Fin 128, (if s ≤ r then x3 (ix3 (grp (col e c)) r s) else 0) * _) + x4 (ix2 r (grp (col e c))))
  rw [Cert.Pay.grp_col]
  rfl

set_option maxHeartbeats 1600000 in
/-- What a grid point leaves. -/
theorem out_at (x0 : FVec Ideal S128x4096 .f32) (x1 x2 : FVec Ideal S1x2048 .f32) (x3 : FVec Ideal S8x128x128 .f32)
    (x4 : FVec Ideal S128x8 .f32) : out0_5 (F := Ideal) x0 x1 x2 x3 x4 = whole x0 x1 x2 x3 x4 := by
  funext y
  unfold_out out0_5
  refine View.canon_apply_of_pieces (S := S128x2048) (e := .bf16) (Val := Elt Ideal) (whole x0 x1 x2 x3 x4) _ ?_ y (cover0_5 _ _ _ _ _ _ _ _ y)
  simp only [List.forall_mem_cons]
  refine ⟨fun x => ?_, fun x => ?_, fun x => ?_, fun x => ?_, fun x => ?_, fun x => ?_, fun x => ?_, fun x => ?_, fun _ h => absurd h List.not_mem_nil⟩
  · refine piece x0 x1 x2 x3 x4 1792 7 rfl _ _ _ _ _ _ _ ?_ ?_ ?_ (fun p q => ?_) (fun p => ?_) _ _ _ _ _ x
    · simp (disch := decide) only [View.ld_unit_lit']
    · simp (disch := decide) only [View.ld_unit_lit']
    · simp (disch := decide) only [View.ld_unit_lit']
    · pointwise
    · pointwise
  · refine piece x0 x1 x2 x3 x4 1536 6 rfl _ _ _ _ _ _ _ ?_ ?_ ?_ (fun p q => ?_) (fun p => ?_) _ _ _ _ _ x
    · simp (disch := decide) only [View.ld_unit_lit']
    · simp (disch := decide) only [View.ld_unit_lit']
    · simp (disch := decide) only [View.ld_unit_lit']
    · pointwise
    · pointwise
  · refine piece x0 x1 x2 x3 x4 1280 5 rfl _ _ _ _ _ _ _ ?_ ?_ ?_ (fun p q => ?_) (fun p => ?_) _ _ _ _ _ x
    · simp (disch := decide) only [View.ld_unit_lit']
    · simp (disch := decide) only [View.ld_unit_lit']
    · simp (disch := decide) only [View.ld_unit_lit']
    · pointwise
    · pointwise
  · refine piece x0 x1 x2 x3 x4 1024 4 rfl _ _ _ _ _ _ _ ?_ ?_ ?_ (fun p q => ?_) (fun p => ?_) _ _ _ _ _ x
    · simp (disch := decide) only [View.ld_unit_lit']
    · simp (disch := decide) only [View.ld_unit_lit']
    · simp (disch := decide) only [View.ld_unit_lit']
    · pointwise
    · pointwise
  · refine piece x0 x1 x2 x3 x4 768 3 rfl _ _ _ _ _ _ _ ?_ ?_ ?_ (fun p q => ?_) (fun p => ?_) _ _ _ _ _ x
    · simp (disch := decide) only [View.ld_unit_lit']
    · simp (disch := decide) only [View.ld_unit_lit']
    · simp (disch := decide) only [View.ld_unit_lit']
    · pointwise
    · pointwise
  · refine piece x0 x1 x2 x3 x4 512 2 rfl _ _ _ _ _ _ _ ?_ ?_ ?_ (fun p q => ?_) (fun p => ?_) _ _ _ _ _ x
    · simp (disch := decide) only [View.ld_unit_lit']
    · simp (disch := decide) only [View.ld_unit_lit']
    · simp (disch := decide) only [View.ld_unit_lit']
    · pointwise
    · pointwise
  · refine piece x0 x1 x2 x3 x4 256 1 rfl _ _ _ _ _ _ _ ?_ ?_ ?_ (fun p q => ?_) (fun p => ?_) _ _ _ _ _ x
    · simp (disch := decide) only [View.ld_unit_lit']
    · simp (disch := decide) only [View.ld_unit_lit']
    · simp (disch := decide) only [View.ld_unit_lit']
    · pointwise
    · pointwise
  · refine piece x0 x1 x2 x3 x4 0 0 rfl _ _ _ _ _ _ _ ?_ ?_ ?_ (fun p q => ?_) (fun p => ?_) _ _ _ _ _ x
    · simp (disch := decide) only [View.ld_unit_lit']
    · simp (disch := decide) only [View.ld_unit_lit']
    · simp (disch := decide) only [View.ld_unit_lit']
    · pointwise
    · pointwise

end Body

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![t.val, 0] :=
  (by decide +kernel : ∀ t : Fin grid0.N, _)

theorem final : (dats m 0 c).arrAt 5 (cfgs 0).N
    = full (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (dats m 0 c).arrAt_eq_of_covers 5 _ (by decide +kernel) fun t hf y => ?_
  obtain ⟨i0, i1, i2, i3, i4, i5⟩ := idx t
  have ht : t.val < 32 := lt_of_lt_of_eq t.isLt N_0
  obtain ⟨a, j, rfl⟩ : ∃ (a : Fin 128) (j : Fin 2048), y = ix2 a j := ⟨y 0, y 1, eq_ix2 y⟩
  blk_simp
  rw [after0_5, out_at]
  unfold whole full
  refine out_congr (fun r k => ?_) (fun k => ?_) (fun k => ?_) (fun e p q => ?_) (fun e p => ?_) ?_ ?_
  · blk_simp [iblk]; entry_read; pointwise
    refine congrArg₂ (fun a b : EReal => a + b) ?_ ?_
    · blk_ext [i0, i5, row]
    · blk_ext [i0]
  · blk_simp [iblk]; entry_read; pointwise; blk_ext [i1]
  · blk_simp [iblk]; entry_read; pointwise; blk_ext [i2]
  · blk_ext [iblk, V, i3]
  · blk_simp [iblk]; entry_read; pointwise; blk_ext [i4]
  · show a.val = ((win0_5.blk t).view.emb (ix2 a j) 0).val % 128
    blk_simp
    simp only [i5]
    show a.val = (t.val * 128 + a.val) % 128
    omega
  · blk_simp
    simp [i5]

section Reference

open Cert.SguFwdRefIdeal.Read

variable (x0 : Prod.Mat 4096 4096) (x1 : Prod.Row 4096) (x2 x3 : Prod.Row 2048) (x4 : (⟨3, ![8, 128, 128]⟩ : Shape).Idx → EReal)
  (x5 : Prod.Mat 8 128)

theorem ref10 (R k : Fin 4096) : val_main_v10 (F := Ideal) x0 x1 (ix2 R k) = act (x0 (ix2 R k) + x1 (ix1 k)) := by
  rw [← act_erfc]
  pointwise [val_main_v10, val_main_v9, val_main_v8, val_main_v7, val_main_v6, val_main_cst_0, val_main_v5, val_main_v4, val_main_v3,
    val_main_cst, val_main_v2, val_main_v1, val_main_v0]

theorem ref11 (R : Fin 4096) (j : Fin 2048) :
    val_main_v11 (F := Ideal) x0 x1 (ix2 R j) = gate (fun k => x0 (ix2 R k) + x1 (ix1 k)) j := by
  pointwise [val_main_v11, ref10]
  first | rfl | exact congrArg (fun k => act (x0 (ix2 R k) + x1 (ix1 k))) (Fin.ext (by simp))

theorem ref12 (R : Fin 4096) (j : Fin 2048) :
    val_main_v12 (F := Ideal) x0 x1 (ix2 R j) = lin (fun k => x0 (ix2 R k) + x1 (ix1 k)) j := by
  pointwise [val_main_v12, ref10]
  rfl

theorem ref36 (R : Fin 4096) (j : Fin 2048) : val_main_v36 (F := Ideal) x0 x1 x2 x3 (ix2 R j)
    = ln (fun k => x0 (ix2 R k) + x1 (ix1 k)) (fun k => x2 (ix1 k)) (fun k => x3 (ix1 k)) j := by
  pointwise [val_main_v36, val_main_v35, val_main_v34, val_main_v33, val_main_v32, val_main_v31, val_main_v30, val_main_v29, val_main_v28,
    val_main_v27, val_main_v26, val_main_cst_5, val_main_v25, val_main_v24, val_main_v23, val_main_v22, val_main_cst_4, val_main_v21,
    val_main_v20, val_main_cst_3, val_main_v19, val_main_v18, val_main_v17, val_main_v16, val_main_v15, val_main_cst_2, val_main_v14,
    val_main_v13, val_main_cst_1, ref12]
  rfl

theorem ref39 (i : (⟨2, ![128, 128]⟩ : Shape).Idx) : val_main_v39 (F := Ideal) i = if i 1 ≤ i 0 then 1#1 else 0#1 := by
  rw [val_main_v39_apply, val_main_v38_apply, val_main_c_apply, val_main_call0_v5_apply, val_main_call0_c_0_apply,
    val_main_call0_v4_apply, val_main_call0_v2_apply, val_main_call0_v0_apply, val_main_call0_v1_apply,
    val_main_call0_c_apply, val_main_call0_v3_apply]
  have h : ∀ a : BitVec 32, IntOp.addi a 0#32 = a := fun a => BitVec.add_zero a
  rw [h]
  exact Cert.Pay.mask_at (i 0) (i 1) _ _

theorem ref41 (e : Fin 8) (t s : Fin 128) : val_main_v41 (F := Ideal) x4 (ix3 e t s) = low (fun e p q => x4 (ix3 e p q)) e t s := by
  rw [val_main_v41_apply, val_main_call1_v1_apply, val_main_v40_apply, ref39, val_main_call1_v2_apply, val_main_call1_v0_apply,
    val_main_cst_6_apply]
  show Scalar.select (if s ≤ t then 1#1 else 0#1 : BitVec 1) (x4 (ix3 e t s)) (Ideal.ofBits .f32 0x00000000#32) = _
  rw [Ideal.ofBits_zero]
  unfold low
  split <;> rfl

theorem ref : val_main_v50 (F := Ideal) x0 x1 x2 x3 x4 x5 = full x0 x1 x2 x3 x4 x5 := by
  funext i
  obtain ⟨R, j, rfl⟩ : ∃ (R : Fin 4096) (j : Fin 2048), i = ix2 R j := ⟨i 0, i 1, eq_ix2 i⟩
  rw [val_main_v50_apply, val_main_v49_apply, ref11, val_main_v48_apply, val_main_v47_apply, val_main_v43_apply, val_main_v42_apply,
    val_main_v46_apply, val_main_v45_apply, val_main_v44_apply]
  have hR := R.isLt
  have hj := j.isLt
  have hg : (R.val * 2048 + j.val) / 256 % 8 = j.val / 256 := by omega
  have hr : (R.val * 2048 + j.val) / 2048 % 128 = R.val % 128 := by omega
  show gate (fun k => x0 (ix2 R k) + x1 (ix1 k)) j * (_ + _) = gate (fun k => x0 (ix2 (row R (Cert.Ref.rr R)) k) + x1 (ix1 k)) j * (_ + _)
  have hrow : row R (Cert.Ref.rr R) = R := Fin.ext (by show 128 * (R.val / 128) + R.val % 128 = R.val; omega)
  rw [hrow]
  refine congrArg₂ (fun a b : EReal => gate (fun k => x0 (ix2 R k) + x1 (ix1 k)) j * (a + b)) (Finset.sum_congr rfl fun s _ => ?_)
    (congrArg x5 (funext fun a => Fin.ext ?_))
  · have hs := s.isLt
    rw [mul_comm, val_main_v37_apply]
    refine congrArg₂ (fun a b : EReal => a * b) (Eq.trans (congrArg (val_main_v41 (F := Ideal) x4) (funext fun a => Fin.ext ?_)) (ref41 x4 (grp j) (Cert.Ref.rr R) s))
      (Eq.trans (congrArg (val_main_v36 (F := Ideal) x0 x1 x2 x3) (funext fun a => Fin.ext ?_)) (ref36 x0 x1 x2 x3 (row R s) j))
    · match a with
      | ⟨0, _⟩ => exact hg
      | ⟨1, _⟩ => exact hr
      | ⟨2, _⟩ => rfl
    · match a with
      | ⟨0, _⟩ =>
        show ((((R.val * 2048 + j.val) / 262144 * 128 + s.val) * 8 + (R.val * 2048 + j.val) / 256 % 8) * 256 + (R.val * 2048 + j.val) % 256) / 2048
          = 128 * (R.val / 128) + s.val
        omega
      | ⟨1, _⟩ =>
        show ((((R.val * 2048 + j.val) / 262144 * 128 + s.val) * 8 + (R.val * 2048 + j.val) / 256 % 8) * 256 + (R.val * 2048 + j.val) % 256) % 2048
          = j.val
        omega
  · match a with
    | ⟨0, _⟩ => exact hg
    | ⟨1, _⟩ => exact hr

end Reference

end Cert.Sgu.SguFwd

end
-- ==== Proof.SguClaims.lean ====
module

public import proofs.«01_k».proof.Defs
public import proofs.«01_k».proof.Proof.SguForward
public import proofs.«01_k».proof.Proof.Gen.SguFwdRefIdeal.Run
public import Idealize.ShloMosaic.Lib.Claim

/-! The gating unit's forward call: its result is the reference's on every argument. -/

@[expose] public section

set_option maxRecDepth 16384

noncomputable section

namespace Cert.Sgu

open Idealize.ShloMosaic Idealize.SL.Sem

attribute [local instance] Cert.SguFwdIdeal.Gen.facts Cert.SguFwdRefIdeal.Gen.facts

theorem SguFwd.algebraic : Cert.algebraic_SguFwdIdeal_SguFwdRefIdeal := by
  pair_intro
  · run_from Cert.SguFwdIdeal.Value.run_blocks m g
  · run_from Cert.SguFwdRefIdeal.Value.run m' g'
    rw [Cert.SguFwdRefIdeal.Read.val_main_v50_eq]
    simp only [hagree c]
    exact (SguFwd.ref _ _ _ _ _ _).trans (SguFwd.final m c).symm

theorem SguFwd.quiet : Cert.quiescent_SguFwdRefIdeal := fun m g _ =>
  (θ_run Cert.SguFwdRefIdeal.defs _ _).mono
    (fun r h => ⟨fun c => (h c).2, sem_eq_zero_of_no_sems (sig := Cert.SguFwdRefIdeal.sig) (by decide) r.2⟩)
    (Cert.SguFwdRefIdeal.Value.run m g)

/-- The constant named is the number its word rounds. -/
theorem SguFwd.named : Cert.preserves_SguFwd_SguFwdIdeal :=
  IdealRules.named_const.statement Cert.SguFwdIdeal.κ "sqrt_half" .f32 0x3F3504F3#32 ((Real.sqrt (1 / 2) : ℝ) : EReal) rfl

end Cert.Sgu

end
-- ==== Proof.Loss.lean ====
module

public import proofs.«01_k».proof.Proof.NormReal
public import proofs.«01_k».proof.Proof.Gen.LossGradIdeal.Value
public import proofs.«01_k».proof.Proof.Gen.LossGradRefIdeal.Read
public import Idealize.ShloMosaic.Lib.Claim
public import Idealize.ShloMosaic.Lib.Pipeline.ReadBack
public import Idealize.ShloMosaic.Lib.Pipeline.ValueKit

/-! The loss and its gradient through the last norm: the gradients of the rows block by block, the loss and the gain's gradient as sums of
    the blocks' shares. -/

@[expose] public section

set_option maxRecDepth 16384

noncomputable section

open Idealize.ShloMosaic Idealize.ShloMosaic.TcCoe Idealize.SL.Sem

namespace Cert.Norm.LossGrad

open Cert.LossGradIdeal Cert.LossGradIdeal.Gen Cert.Prod

/-! ## The formulas -/

/-- What the last layer's rows miss their targets by. -/
def err (h y : Mat 4096 1024) (g : Row 1024) (t : Mat 4096 1024) : Mat 4096 1024 := fun i => res h y g i - t i

/-- The gradient of those rows: a 1024th of the error. -/
def slant {P : ℕ} (e : Mat P 1024) : Mat P 1024 := fun i => e i * Ideal.ofBits .f32 0x3A800000#32

/-- A row's part of the loss: half the mean of the squares. -/
def part {P : ℕ} (e : Mat P 1024) (r : Fin P) : EReal := (∑ k : Fin 1024, e (ix2 r k) * e (ix2 r k)) * Ideal.ofBits .f32 0x3A000000#32

theorem bits_mean : Ideal.ofBits .f32 0x3A800000#32 = ((1 / 1024 : ℝ) : EReal) := by
  simp [Ideal.ofBits, Ideal.ieee, -EReal.coe_mul]; norm_num

theorem bits_half_mean : Ideal.ofBits .f32 0x3A000000#32 = ((1 / 2048 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_one : Ideal.ofBits .f32 0x3F800000#32 = ((1 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

/-- The chain rule's factors through the half, the mean and the square. -/
theorem slant_eq (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  rw [bits_half, bits_one, bits_1024, bits_two, bits_mean, ← EReal.coe_mul, Cert.Lift.div_coe _ _ (by norm_num), ← mul_assoc, ← EReal.coe_mul, mul_comm]
  exact congrArg (fun a : ℝ => e * (a : EReal)) (by norm_num)

/-- Half the sum of the rows' means is the sum of the rows' parts. -/
theorem part_eq {P : ℕ} (e : Mat P 1024) : Ideal.ofBits .f32 0x3F000000#32
      * ∑ r : Fin P, Ideal.div (∑ k : Fin 1024, e (ix2 r k) * e (ix2 r k)) (Ideal.ofBits .f32 0x44800000#32) = ∑ r : Fin P, part e r := by
  unfold part
  rw [bits_half, bits_1024, bits_half_mean, mul_comm, ← sum_mul_coe _ _ _ (by norm_num)]
  refine Finset.sum_congr rfl fun r _ => ?_
  rw [div_real _ _ (by norm_num), mul_assoc, ← EReal.coe_mul]
  exact congrArg (fun a : ℝ => _ * (a : EReal)) (by norm_num)

theorem part_block {P P' : ℕ} {e : Mat P' 1024} {E : Mat P 1024} {r : Fin P'} {R : Fin P} (h : ∀ k, e (ix2 r k) = E (ix2 R k)) :
    part e r = part E R := by
  unfold part
  simp only [h]

section Kernel

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0, 0] := (by decide +kernel : ∀ t : Fin grid0.N, _)

theorem idx' : ∀ t : Fin cfg0.N, win0_4.index t = ![t.val, 0] ∧ win0_5.index t = ![t.val, 0] ∧ win0_6.index t = ![0, 0]
    ∧ win0_7.index t = ![0, 0] := (by decide +kernel : ∀ t : Fin grid0.N, _)

/-- The block's error at a point, and the gradient of its rows. -/
abbrev miss (t : Fin cfg0.N) : Mat 512 1024 := k0_pay5 (F := Ideal) (iblk m c 0 t) (iblk m c 1 t)
abbrev rows (t : Fin cfg0.N) : Mat 512 1024 := k0_pay6 (F := Ideal) (iblk m c 0 t) (iblk m c 1 t)

/-- The first two results' blocks are the same terms at every point. -/
theorem first (t : Fin cfg0.N) : (outsAt0 m c t.val t.isLt).1 = rows m c t := by
  have hN : t.val < 8 := lt_of_lt_of_eq t.isLt N_0
  by_cases h : t.val % 8 = 0
  · rw [outsAt0_A m c t h (by omega)]
    unfold out0_A_4
    frame_open
    simp (disch := decide) only [↓ View.readCov_skip, ↓ View.readCov_fill]
    frame_out
  · rw [outsAt0_B m c t h (by omega)]
    unfold out0_B_4
    frame_open
    simp (disch := decide) only [↓ View.readCov_skip, ↓ View.readCov_fill]
    frame_out

theorem second (t : Fin cfg0.N) : (outsAt0 m c t.val t.isLt).2.1
    = k0_pay1 (F := Ideal) (k0_pay10 (iblk m c 0 t) (iblk m c 1 t) (iblk m c 2 t) (iblk m c 3 t)) (k0_pay11 (iblk m c 2 t)) := by
  have hN : t.val < 8 := lt_of_lt_of_eq t.isLt N_0
  by_cases h : t.val % 8 = 0
  · rw [outsAt0_A m c t h (by omega)]
    unfold out0_A_5
    frame_open
    simp (disch := decide) only [↓ View.readCov_skip, ↓ View.readCov_fill]
    frame_out
  · rw [outsAt0_B m c t h (by omega)]
    unfold out0_B_5
    frame_open
    simp (disch := decide) only [↓ View.readCov_skip, ↓ View.readCov_fill]
    frame_out

theorem lossA (t : Fin cfg0.N) (h : t.val % 8 = 0) (i : S1x1.Idx) :
    ((outsAt0 m c t.val t.isLt).2.2.1 : FVec Ideal S1x1 .f32) i = k0_pay7 (F := Ideal) (iblk m c 0 t) (iblk m c 1 t) i := by
  have hN : t.val < 8 := lt_of_lt_of_eq t.isLt N_0
  rw [outsAt0_A m c t h (by omega)]
  unfold out0_A_6
  frame_open
  simp (disch := decide) only [↓ View.readCov_skip, ↓ View.readCov_fill]
  frame_out

theorem lossB (t : Fin cfg0.N) (h : ¬t.val % 8 = 0) (i : S1x1.Idx) :
    ((outsAt0 m c t.val t.isLt).2.2.1 : FVec Ideal S1x1 .f32) i
      = (outsAt0 m c (t.val - 1) (Nat.lt_of_le_of_lt (Nat.sub_le _ _) t.isLt)).2.2.1 i + k0_pay7 (F := Ideal) (iblk m c 0 t) (iblk m c 1 t) i := by
  have hN : t.val < 8 := lt_of_lt_of_eq t.isLt N_0
  rw [outsAt0_B m c t h (by omega)]
  unfold out0_B_6
  frame_open
  simp (disch := decide) only [↓ View.readCov_skip, ↓ View.readCov_fill]
  frame_out
  pointwise [k0_pay3]

theorem gainA (t : Fin cfg0.N) (h : t.val % 8 = 0) (i : S1x1024.Idx) :
    ((outsAt0 m c t.val t.isLt).2.2.2 : FVec Ideal S1x1024 .f32) i = k0_pay2 (F := Ideal) (rows m c t) (k0_pay9 (iblk m c 2 t)) i := by
  have hN : t.val < 8 := lt_of_lt_of_eq t.isLt N_0
  rw [outsAt0_A m c t h (by omega)]
  unfold out0_A_7
  frame_open
  simp (disch := decide) only [↓ View.readCov_skip, ↓ View.readCov_fill]
  frame_out

theorem gainB (t : Fin cfg0.N) (h : ¬t.val % 8 = 0) (i : S1x1024.Idx) :
    ((outsAt0 m c t.val t.isLt).2.2.2 : FVec Ideal S1x1024 .f32) i
      = (outsAt0 m c (t.val - 1) (Nat.lt_of_le_of_lt (Nat.sub_le _ _) t.isLt)).2.2.2 i
        + k0_pay2 (F := Ideal) (rows m c t) (k0_pay9 (iblk m c 2 t)) i := by
  have hN : t.val < 8 := lt_of_lt_of_eq t.isLt N_0
  rw [outsAt0_B m c t h (by omega)]
  unfold out0_B_7
  frame_open
  simp (disch := decide) only [↓ View.readCov_skip, ↓ View.readCov_fill]
  frame_out
  pointwise [k0_pay4]

/-- The four arguments, as the formulas take them. -/
abbrev aim : Mat 4096 1024 := err (m ((c.tc : Thread nD τ).loc main_arg0)) (m ((c.tc : Thread nD τ).loc main_arg1))
  (m ((c.tc : Thread nD τ).loc main_arg2)) (m ((c.tc : Thread nD τ).loc main_arg3))

/-- The error of a block's row is the whole error's: the host adds up the residual and the norm before the call. -/
theorem miss_block (t : Fin cfg0.N) (r : Fin 512) (R : Fin 4096) (hR : R.val = t.val * 512 + r.val) (k : Fin 1024) :
    miss m c t (ix2 r k) = aim m c (ix2 R k) := by
  obtain ⟨i0, i1, i2, i3⟩ := idx t
  unfold miss
  pointwise [k0_pay5]
  refine congrArg₂ (· - ·) ?_ ?_
  · blk_simp [iblk]
    entry_read
    pointwise
    have e : ((View.whole main_v13).slice (win0_0.rect t)).emb (ix2 r k) = ix2 R k := by blk_ext [i0, hR]
    rw [e]
    rfl
  · blk_ext [iblk, V, i1, hR]

theorem rows_block (t : Fin cfg0.N) (r : Fin 512) (R : Fin 4096) (hR : R.val = t.val * 512 + r.val) (k : Fin 1024) :
    rows m c t (ix2 r k) = slant (aim m c) (ix2 R k) := by
  unfold rows
  pointwise [k0_pay6]
  exact congrArg (· * _) (miss_block m c t r R hR k)

theorem final4 : (dats m 0 c).arrAt 4 (cfgs 0).N = slant (aim m c) := by
  refine (dats m 0 c).arrAt_eq_of_covers 4 _ (by decide +kernel) fun t hf y => ?_
  obtain ⟨i4, i5, i6, i7⟩ := idx' t
  have e0 : ((win0_4.blk t).view.emb y 0).val = t.val * 512 + (y 0).val := by blk_simp [i4]
  obtain ⟨r, k, rfl⟩ : ∃ (r : Fin 512) (k : Fin 1024), y = ix2 r k := ⟨y 0, y 1, eq_ix2 y⟩
  blk_simp
  rw [after0_4, first m c t]
  refine (rows_block m c t r _ e0 k).trans (congrArg (slant (aim m c)) ?_)
  blk_ext [i4]

theorem final5 : (dats m 0 c).arrAt 5 (cfgs 0).N
    = back (m ((c.tc : Thread nD τ).loc main_arg1)) (slant (aim m c)) (m ((c.tc : Thread nD τ).loc main_arg2)) := by
  refine (dats m 0 c).arrAt_eq_of_covers 5 _ (by decide +kernel) fun t hf y => ?_
  obtain ⟨i0, i1, i2, i3⟩ := idx t
  obtain ⟨i4, i5, i6, i7⟩ := idx' t
  have e0 : ((win0_5.blk t).view.emb y 0).val = t.val * 512 + (y 0).val := by blk_simp [i5]
  blk_simp
  rw [after0_5, second m c t]
  pointwise [k0_pay1, k0_pay10, k0_pay11, k0_pay9, k0_pay8]
  refine back_block (x := iblk m c 2 t) (d := rows m c t) (z := fun j => iblk m c 3 t (ix3 0 0 (j 0))) (y := y)
    (fun k => ?_) (fun k => rows_block m c t _ _ e0 k) (fun k => ?_) ?_
  · blk_ext [iblk, V, i2, i5]
  · blk_simp [iblk]; entry_read; pointwise; blk_ext [i3]
  · exact Fin.ext (by blk_simp [i5])

theorem final6 : (dats m 0 c).arrAt 6 (cfgs 0).N = fun _ : S1x1.Idx => ∑ R : Fin 4096, part (aim m c) R := by
  refine (dats m 0 c).arrAt_eq_of_covers 6 _ (by decide +kernel) fun t hf y => ?_
  blk_simp
  rw [after0_6]
  refine sum_points N_0 (fun n h => ((outsAt0 m c n h).2.2.1 : FVec Ideal S1x1 .f32)) (fun t => k0_pay7 (F := Ideal) (iblk m c 0 t) (iblk m c 1 t))
    (lossA m c) (lossB m c) t ((flush0_6 t).mp hf) y _ (fun n => part (miss m c n)) (fun n => ?_) fun n r R hR => ?_
  · unfold part
    rw [bits_half_mean, sum_mul_coe _ _ _ (by norm_num), ← bits_half_mean]
    pointwise [k0_pay7]
  · exact part_block (miss_block m c n r R hR)

theorem final7 : (dats m 0 c).arrAt 7 (cfgs 0).N = fun i : S1x1024.Idx =>
    grad (m ((c.tc : Thread nD τ).loc main_arg1)) (slant (aim m c)) (ix1 (i 1)) := by
  refine (dats m 0 c).arrAt_eq_of_covers 7 _ (by decide +kernel) fun t hf y => ?_
  blk_simp
  rw [after0_7]
  refine sum_points N_0 (fun n h => ((outsAt0 m c n h).2.2.2 : FVec Ideal S1x1024 .f32))
    (fun t => k0_pay2 (F := Ideal) (rows m c t) (k0_pay9 (iblk m c 2 t)))
    (gainA m c) (gainB m c) t ((flush0_7 t).mp hf) y _ (fun n => share (iblk m c 2 n) (rows m c n) (y 1)) (fun n => ?_) fun n r R hR => ?_
  · pointwise [k0_pay2, k0_pay9, k0_pay8]
    rfl
  · obtain ⟨-, -, i2, -⟩ := idx n
    obtain ⟨-, -, -, i7⟩ := idx' t
    refine share_block (fun k => ?_) (rows_block m c n r R hR) ?_
    · blk_ext [iblk, V, i2, hR]
    · exact Fin.ext (by blk_simp [i7])

end Kernel

section Reference

open Cert.LossGradRefIdeal.Read

variable {h y : Mat 4096 1024} {g : Row 1024} {t : Mat 4096 1024}

theorem ref17 : val_main_v17 (F := Ideal) h y g t = err h y g t := by
  funext i
  pointwise [val_main_v17, val_main_v16, val_main_v15, val_main_v14, val_main_v13, val_main_v12, val_main_v11,
    val_main_v7, val_main_v6, val_main_v5, val_main_v4, val_main_v3, val_main_v2, val_main_v1, val_main_v0, val_main_cst, val_main_cst_0,
    val_main_cst_1]
  rfl

theorem ref31 : val_main_v31 (F := Ideal) h y g t = slant (err h y g t) := by
  funext i
  refine Eq.trans ?_ (slant_eq _)
  pointwise [val_main_v31, val_main_v30, val_main_v29, val_main_v28, val_main_v27, val_main_v26, val_main_v20, val_main_v19,
    val_main_cst_3, val_main_cst_8, val_main_cst_9, val_main_cst_10]
  rw [ref17]

theorem ref52 : val_main_v52 (F := Ideal) h y g t = back y (slant (err h y g t)) g := by
  funext i
  refine Eq.trans ?_ (chain_alone y (slant (err h y g t)) g i)
  pointwise [val_main_v52, val_main_v51, val_main_v50, val_main_v49, val_main_v48, val_main_v47, val_main_v46, val_main_v45, val_main_v44,
    val_main_v43, val_main_v42, val_main_v41, val_main_v40, val_main_v39, val_main_v38, val_main_v36, val_main_v35, val_main_v13,
    val_main_v10, val_main_v9, val_main_v8, val_main_v7, val_main_v6, val_main_v5, val_main_v4, val_main_v3, val_main_v2, val_main_v1, val_main_v0,
    val_main_cst, val_main_cst_0, val_main_cst_1, val_main_cst_2, val_main_cst_13, val_main_cst_14, val_main_cst_15]
  simp only [Fin.sum_univ_one]
  rw [ref31]
  rfl

theorem ref53 : val_main_v53 (F := Ideal) h y g t = fun _ => ∑ R : Fin 4096, part (err h y g t) R := by
  funext i
  rw [← part_eq]
  pointwise [val_main_v53, val_main_v25, val_main_v24, val_main_v23, val_main_v22, val_main_v21, val_main_v18, val_main_cst_4, val_main_cst_5,
    val_main_cst_6, val_main_cst_7]
  rw [ref17]

theorem ref54 : val_main_v54 (F := Ideal) h y g t = fun i => grad y (slant (err h y g t)) (ix1 (i 1)) := by
  funext i
  pointwise [val_main_v54, val_main_v37, val_main_v34, val_main_v33, val_main_v32, val_main_v12, val_main_v11,
    val_main_v7, val_main_v6, val_main_v5, val_main_v4, val_main_v3, val_main_v2, val_main_v1, val_main_v0, val_main_cst, val_main_cst_0,
    val_main_cst_1, val_main_cst_11, val_main_cst_12]
  simp only [Fin.sum_univ_one]
  rw [ref31]
  exact Finset.sum_congr rfl fun r _ => mul_comm _ _

end Reference

end Cert.Norm.LossGrad

end
-- ==== Proof.LossClaims.lean ====
module

public import proofs.«01_k».proof.Defs
public import proofs.«01_k».proof.Proof.Loss
public import proofs.«01_k».proof.Proof.Gen.LossGradRefIdeal.Run
public import Idealize.ShloMosaic.Lib.Claim

/-! The loss head's call: the loss and the three gradients are the reference's on every argument. -/

@[expose] public section

set_option maxRecDepth 16384

noncomputable section

namespace Cert.Norm

open Idealize.ShloMosaic Idealize.SL.Sem Cert.Prod

attribute [local instance] Cert.LossGradIdeal.Gen.facts Cert.LossGradRefIdeal.Gen.facts

theorem LossGrad.algebraic : Cert.algebraic_LossGradIdeal_LossGradRefIdeal := by
  pair_intro
  · run_from Cert.LossGradIdeal.Value.run_blocks m g
  · run_from Cert.LossGradRefIdeal.Value.run m' g'
    · exact LossGrad.ref31.trans (LossGrad.final4 m c).symm
    · rw [Cert.LossGradRefIdeal.Read.val_main_v52_eq]
      simp only [hagree c]
      exact LossGrad.ref52.trans (LossGrad.final5 m c).symm
    · exact LossGrad.ref53.trans (LossGrad.final6 m c).symm
    · exact LossGrad.ref54.trans (LossGrad.final7 m c).symm

theorem LossGrad.quiet : Cert.quiescent_LossGradRefIdeal := fun m g _ =>
  (θ_run Cert.LossGradRefIdeal.defs _ _).mono
    (fun r h => ⟨fun c => (h c).2.2.2.2, sem_eq_zero_of_no_sems (sig := Cert.LossGradRefIdeal.sig) (by decide) r.2⟩)
    (Cert.LossGradRefIdeal.Value.run m g)

end Cert.Norm

end
-- ==== Proof.Adam.lean ====
module

public import proofs.«01_k».proof.Defs
public import proofs.«01_k».proof.Proof.Gen.AdamGainIdeal.Value
public import proofs.«01_k».proof.Proof.Gen.AdamGainRefIdeal.Run
public import proofs.«01_k».proof.Proof.Gen.AdamGainRefIdeal.Read
public import proofs.«01_k».proof.Proof.Gen.AdamGmlpBiasIdeal.Value
public import proofs.«01_k».proof.Proof.Gen.AdamGmlpBiasRefIdeal.Run
public import proofs.«01_k».proof.Proof.Gen.AdamGmlpBiasRefIdeal.Read
public import proofs.«01_k».proof.Proof.Gen.AdamGmlpNormIdeal.Value
public import proofs.«01_k».proof.Proof.Gen.AdamGmlpNormRefIdeal.Run
public import proofs.«01_k».proof.Proof.Gen.AdamGmlpNormRefIdeal.Read
public import proofs.«01_k».proof.Proof.Gen.AdamMixIdeal.Value
public import proofs.«01_k».proof.Proof.Gen.AdamMixRefIdeal.Run
public import proofs.«01_k».proof.Proof.Gen.AdamMixRefIdeal.Read
public import proofs.«01_k».proof.Proof.Gen.AdamMixBiasIdeal.Value
public import proofs.«01_k».proof.Proof.Gen.AdamMixBiasRefIdeal.Run
public import proofs.«01_k».proof.Proof.Gen.AdamMixBiasRefIdeal.Read
public import proofs.«01_k».proof.Proof.Gen.AdamAttnBiasIdeal.Value
public import proofs.«01_k».proof.Proof.Gen.AdamAttnBiasRefIdeal.Run
public import proofs.«01_k».proof.Proof.Gen.AdamAttnBiasRefIdeal.Read
public import proofs.«01_k».proof.Proof.Gen.AdamSinksIdeal.Value
public import proofs.«01_k».proof.Proof.Gen.AdamSinksRefIdeal.Run
public import proofs.«01_k».proof.Proof.Gen.AdamSinksRefIdeal.Read
public import Idealize.ShloMosaic.Lib.Claim
public import Idealize.ShloMosaic.Lib.Pipeline.ReadBack
public import Idealize.ShloMosaic.Lib.Pipeline.ValueKit

/-! The optimiser's step on the weights that are not products: each result is the reference's on every argument. The two sides are the same
    operations entry by entry, the kernel's on its one block, the host's on whole arrays. -/

@[expose] public section

set_option maxRecDepth 16384

noncomputable section

namespace Cert.Adam

open Idealize.ShloMosaic Idealize.SL.Sem

attribute [local instance] Cert.AdamGainIdeal.Gen.facts Cert.AdamGainRefIdeal.Gen.facts
  Cert.AdamGmlpBiasIdeal.Gen.facts Cert.AdamGmlpBiasRefIdeal.Gen.facts
  Cert.AdamGmlpNormIdeal.Gen.facts Cert.AdamGmlpNormRefIdeal.Gen.facts
  Cert.AdamMixIdeal.Gen.facts Cert.AdamMixRefIdeal.Gen.facts
  Cert.AdamMixBiasIdeal.Gen.facts Cert.AdamMixBiasRefIdeal.Gen.facts
  Cert.AdamAttnBiasIdeal.Gen.facts Cert.AdamAttnBiasRefIdeal.Gen.facts
  Cert.AdamSinksIdeal.Gen.facts Cert.AdamSinksRefIdeal.Gen.facts

theorem AdamGain.algebraic : Cert.algebraic_AdamGainIdeal_AdamGainRefIdeal := by
  pair_intro
  · run_from Cert.AdamGainIdeal.Value.run m g
  · run_from Cert.AdamGainRefIdeal.Value.run m' g'
    all_goals rfl

theorem AdamGain.quiet : Cert.quiescent_AdamGainRefIdeal := fun m g _ =>
  (θ_run Cert.AdamGainRefIdeal.defs _ _).mono
    (fun r h => ⟨fun c => (h c).2.2.2, sem_eq_zero_of_no_sems (sig := Cert.AdamGainRefIdeal.sig) (by decide) r.2⟩)
    (Cert.AdamGainRefIdeal.Value.run m g)

theorem AdamGmlpBias.algebraic : Cert.algebraic_AdamGmlpBiasIdeal_AdamGmlpBiasRefIdeal := by
  pair_intro
  · run_from Cert.AdamGmlpBiasIdeal.Value.run m g
  · run_from Cert.AdamGmlpBiasRefIdeal.Value.run m' g'
    all_goals rfl

theorem AdamGmlpBias.quiet : Cert.quiescent_AdamGmlpBiasRefIdeal := fun m g _ =>
  (θ_run Cert.AdamGmlpBiasRefIdeal.defs _ _).mono
    (fun r h => ⟨fun c => (h c).2.2.2, sem_eq_zero_of_no_sems (sig := Cert.AdamGmlpBiasRefIdeal.sig) (by decide) r.2⟩)
    (Cert.AdamGmlpBiasRefIdeal.Value.run m g)

theorem AdamGmlpNorm.algebraic : Cert.algebraic_AdamGmlpNormIdeal_AdamGmlpNormRefIdeal := by
  pair_intro
  · run_from Cert.AdamGmlpNormIdeal.Value.run m g
  · run_from Cert.AdamGmlpNormRefIdeal.Value.run m' g'
    all_goals rfl

theorem AdamGmlpNorm.quiet : Cert.quiescent_AdamGmlpNormRefIdeal := fun m g _ =>
  (θ_run Cert.AdamGmlpNormRefIdeal.defs _ _).mono
    (fun r h => ⟨fun c => (h c).2.2.2, sem_eq_zero_of_no_sems (sig := Cert.AdamGmlpNormRefIdeal.sig) (by decide) r.2⟩)
    (Cert.AdamGmlpNormRefIdeal.Value.run m g)

theorem AdamMix.algebraic : Cert.algebraic_AdamMixIdeal_AdamMixRefIdeal := by
  pair_intro
  · run_from Cert.AdamMixIdeal.Value.run m g
  · run_from Cert.AdamMixRefIdeal.Value.run m' g'
    all_goals rfl

theorem AdamMix.quiet : Cert.quiescent_AdamMixRefIdeal := fun m g _ =>
  (θ_run Cert.AdamMixRefIdeal.defs _ _).mono
    (fun r h => ⟨fun c => (h c).2.2.2, sem_eq_zero_of_no_sems (sig := Cert.AdamMixRefIdeal.sig) (by decide) r.2⟩)
    (Cert.AdamMixRefIdeal.Value.run m g)

theorem AdamMixBias.algebraic : Cert.algebraic_AdamMixBiasIdeal_AdamMixBiasRefIdeal := by
  pair_intro
  · run_from Cert.AdamMixBiasIdeal.Value.run m g
  · run_from Cert.AdamMixBiasRefIdeal.Value.run m' g'
    all_goals rfl

theorem AdamMixBias.quiet : Cert.quiescent_AdamMixBiasRefIdeal := fun m g _ =>
  (θ_run Cert.AdamMixBiasRefIdeal.defs _ _).mono
    (fun r h => ⟨fun c => (h c).2.2.2, sem_eq_zero_of_no_sems (sig := Cert.AdamMixBiasRefIdeal.sig) (by decide) r.2⟩)
    (Cert.AdamMixBiasRefIdeal.Value.run m g)

theorem AdamAttnBias.algebraic : Cert.algebraic_AdamAttnBiasIdeal_AdamAttnBiasRefIdeal := by
  pair_intro
  · run_from Cert.AdamAttnBiasIdeal.Value.run m g
  · run_from Cert.AdamAttnBiasRefIdeal.Value.run m' g'
    all_goals rfl

theorem AdamAttnBias.quiet : Cert.quiescent_AdamAttnBiasRefIdeal := fun m g _ =>
  (θ_run Cert.AdamAttnBiasRefIdeal.defs _ _).mono
    (fun r h => ⟨fun c => (h c).2.2.2, sem_eq_zero_of_no_sems (sig := Cert.AdamAttnBiasRefIdeal.sig) (by decide) r.2⟩)
    (Cert.AdamAttnBiasRefIdeal.Value.run m g)

theorem AdamSinks.algebraic : Cert.algebraic_AdamSinksIdeal_AdamSinksRefIdeal := by
  pair_intro
  · run_from Cert.AdamSinksIdeal.Value.run m g
  · run_from Cert.AdamSinksRefIdeal.Value.run m' g'
    all_goals rfl

theorem AdamSinks.quiet : Cert.quiescent_AdamSinksRefIdeal := fun m g _ =>
  (θ_run Cert.AdamSinksRefIdeal.defs _ _).mono
    (fun r h => ⟨fun c => (h c).2.2.2, sem_eq_zero_of_no_sems (sig := Cert.AdamSinksRefIdeal.sig) (by decide) r.2⟩)
    (Cert.AdamSinksRefIdeal.Value.run m g)

end Cert.Adam

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.FfnUp.Frame
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Gen.FfnDown.Frame
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Gen.FfnDownDx.Frame
public import proofs.«01_k».proof.Proof.Gen.FfnDownDxIdeal.Frame
public import proofs.«01_k».proof.Proof.Gen.FfnDownDxRefIdeal.Run
public import proofs.«01_k».proof.Proof.Gen.FfnDownDxRefIdeal.Read
public import proofs.«01_k».proof.Proof.Gen.FfnGuDx.Frame
public import proofs.«01_k».proof.Proof.Gen.FfnGuDxIdeal.Value
public import proofs.«01_k».proof.Proof.Gen.FfnGuDxRefIdeal.Run
public import proofs.«01_k».proof.Proof.Gen.FfnGuDxRefIdeal.Read
public import proofs.«01_k».proof.Proof.Gen.FfnGuDw.Frame
public import proofs.«01_k».proof.Proof.Gen.FfnGuDwIdeal.Value
public import proofs.«01_k».proof.Proof.Gen.FfnGuDwRefIdeal.Run
public import proofs.«01_k».proof.Proof.Gen.FfnGuDwRefIdeal.Read
public import proofs.«01_k».proof.Proof.Gen.FfnDownDw.Frame
public import proofs.«01_k».proof.Proof.Gen.FfnDownDwIdeal.Value
public import proofs.«01_k».proof.Proof.Gen.FfnDownDwRefIdeal.Run
public import proofs.«01_k».proof.Proof.Gen.FfnDownDwRefIdeal.Read
public import proofs.«01_k».proof.Proof.Gen.GmlpIn.Frame
public import proofs.«01_k».proof.Proof.Gen.GmlpInIdeal.Value
public import proofs.«01_k».proof.Proof.Gen.GmlpInRefIdeal.Run
public import proofs.«01_k».proof.Proof.Gen.GmlpInRefIdeal.Read
public import proofs.«01_k».proof.Proof.Gen.GmlpOut.Frame
public import proofs.«01_k».proof.Proof.Gen.GmlpOutIdeal.Value
public import proofs.«01_k».proof.Proof.Gen.GmlpOutRefIdeal.Run
public import proofs.«01_k».proof.Proof.Gen.GmlpOutRefIdeal.Read
public import proofs.«01_k».proof.Proof.Gen.GmlpOutDw.Frame
public import proofs.«01_k».proof.Proof.Gen.GmlpOutDwIdeal.Value
public import proofs.«01_k».proof.Proof.Gen.GmlpOutDwRefIdeal.Run
public import proofs.«01_k».proof.Proof.Gen.GmlpOutDwRefIdeal.Read
public import proofs.«01_k».proof.Proof.Gen.GmlpOutDx.Frame
public import proofs.«01_k».proof.Proof.Gen.GmlpOutDxIdeal.Value
public import proofs.«01_k».proof.Proof.Gen.GmlpOutDxRefIdeal.Run
public import proofs.«01_k».proof.Proof.Gen.GmlpOutDxRefIdeal.Read
public import proofs.«01_k».proof.Proof.Gen.GmlpInDw.Frame
public import proofs.«01_k».proof.Proof.Gen.GmlpInDwIdeal.Value
public import proofs.«01_k».proof.Proof.Gen.GmlpInDwRefIdeal.Run
public import proofs.«01_k».proof.Proof.Gen.GmlpInDwRefIdeal.Read
public import proofs.«01_k».proof.Proof.Gen.GmlpInDx.Frame
public import proofs.«01_k».proof.Proof.Gen.GmlpInDxIdeal.Value
public import proofs.«01_k».proof.Proof.Gen.GmlpInDxRefIdeal.Run
public import proofs.«01_k».proof.Proof.Gen.GmlpInDxRefIdeal.Read
public import proofs.«01_k».proof.Proof.Gen.AttnQkv.Frame
public import proofs.«01_k».proof.Proof.Gen.AttnQkvIdeal.Value
public import proofs.«01_k».proof.Proof.Gen.AttnQkvRefIdeal.Run
public import proofs.«01_k».proof.Proof.Gen.AttnQkvRefIdeal.Read
public import proofs.«01_k».proof.Proof.Gen.AttnO.Frame
public import proofs.«01_k».proof.Proof.Gen.AttnOIdeal.Value
public import proofs.«01_k».proof.Proof.Gen.AttnORefIdeal.Run
public import proofs.«01_k».proof.Proof.Gen.AttnORefIdeal.Read
public import proofs.«01_k».proof.Proof.Gen.AttnODw.Frame
public import proofs.«01_k».proof.Proof.Gen.AttnODwIdeal.Value
public import proofs.«01_k».proof.Proof.Gen.AttnODwRefIdeal.Run
public import proofs.«01_k».proof.Proof.Gen.AttnODwRefIdeal.Read
public import proofs.«01_k».proof.Proof.Gen.AttnODx.Frame
public import proofs.«01_k».proof.Proof.Gen.AttnODxIdeal.Value
public import proofs.«01_k».proof.Proof.Gen.AttnODxRefIdeal.Run
public import proofs.«01_k».proof.Proof.Gen.AttnODxRefIdeal.Read
public import proofs.«01_k».proof.Proof.Gen.AttnQkvDw.Frame
public import proofs.«01_k».proof.Proof.Gen.AttnQkvDwIdeal.Value
public import proofs.«01_k».proof.Proof.Gen.AttnQkvDwRefIdeal.Run
public import proofs.«01_k».proof.Proof.Gen.AttnQkvDwRefIdeal.Read
public import proofs.«01_k».proof.Proof.Gen.AttnQkvDx.Frame
public import proofs.«01_k».proof.Proof.Gen.AttnQkvDxIdeal.Value
public import proofs.«01_k».proof.Proof.Gen.AttnQkvDxRefIdeal.Run
public import proofs.«01_k».proof.Proof.Gen.AttnQkvDxRefIdeal.Read
public import proofs.«01_k».proof.Proof.Gen.RmsFwd.Frame
public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Proof.Gen.RmsRes.Frame
public import proofs.«01_k».proof.Proof.Gen.RmsResIdeal.Value
public import proofs.«01_k».proof.Proof.Gen.RmsResRefIdeal.Run
public import proofs.«01_k».proof.Proof.Gen.RmsResRefIdeal.Read
public import proofs.«01_k».proof.Proof.Gen.RmsResNorm.Frame
public import proofs.«01_k».proof.Proof.Gen.RmsResNormIdeal.Value
public import proofs.«01_k».proof.Proof.Gen.RmsResNormRefIdeal.Run
public import proofs.«01_k».proof.Proof.Gen.RmsResNormRefIdeal.Read
public import proofs.«01_k».proof.Proof.Gen.RmsBwd.Frame
public import proofs.«01_k».proof.Proof.Gen.RmsBwdIdeal.Value
public import proofs.«01_k».proof.Proof.Gen.RmsBwdRefIdeal.Run
public import proofs.«01_k».proof.Proof.Gen.RmsBwdRefIdeal.Read
public import proofs.«01_k».proof.Proof.Gen.RmsChain.Frame
public import proofs.«01_k».proof.Proof.Gen.RmsChainIdeal.Value
public import proofs.«01_k».proof.Proof.Gen.RmsChainRefIdeal.Run
public import proofs.«01_k».proof.Proof.Gen.RmsChainRefIdeal.Read
public import proofs.«01_k».proof.Proof.Gen.SguFwd.Frame
public import proofs.«01_k».proof.Proof.Gen.SguFwdIdeal.Value
public import proofs.«01_k».proof.Proof.Gen.SguFwdRefIdeal.Run
public import proofs.«01_k».proof.Proof.Gen.SguFwdRefIdeal.Read
public import proofs.«01_k».proof.Proof.Gen.AdamGmlpBias.Frame
public import proofs.«01_k».proof.Proof.Gen.AdamGmlpBiasIdeal.Value
public import proofs.«01_k».proof.Proof.Gen.AdamGmlpBiasRefIdeal.Run
public import proofs.«01_k».proof.Proof.Gen.AdamGmlpBiasRefIdeal.Read
public import proofs.«01_k».proof.Proof.Gen.AdamGmlpNorm.Frame
public import proofs.«01_k».proof.Proof.Gen.AdamGmlpNormIdeal.Value
public import proofs.«01_k».proof.Proof.Gen.AdamGmlpNormRefIdeal.Run
public import proofs.«01_k».proof.Proof.Gen.AdamGmlpNormRefIdeal.Read
public import proofs.«01_k».proof.Proof.Gen.AdamMixBias.Frame
public import proofs.«01_k».proof.Proof.Gen.AdamMixBiasIdeal.Value
public import proofs.«01_k».proof.Proof.Gen.AdamMixBiasRefIdeal.Run
public import proofs.«01_k».proof.Proof.Gen.AdamMixBiasRefIdeal.Read
public import proofs.«01_k».proof.Proof.Gen.AdamAttnBias.Frame
public import proofs.«01_k».proof.Proof.Gen.AdamAttnBiasIdeal.Value
public import proofs.«01_k».proof.Proof.Gen.AdamAttnBiasRefIdeal.Run
public import proofs.«01_k».proof.Proof.Gen.AdamAttnBiasRefIdeal.Read
public import proofs.«01_k».proof.Proof.Gen.AdamSinks.Frame
public import proofs.«01_k».proof.Proof.Gen.AdamSinksIdeal.Value
public import proofs.«01_k».proof.Proof.Gen.AdamSinksRefIdeal.Run
public import proofs.«01_k».proof.Proof.Gen.AdamSinksRefIdeal.Read
public import proofs.«01_k».proof.Proof.Gen.LossGrad.Frame
public import proofs.«01_k».proof.Proof.Gen.LossGradIdeal.Value
public import proofs.«01_k».proof.Proof.Gen.LossGradRefIdeal.Run
public import proofs.«01_k».proof.Proof.Gen.LossGradRefIdeal.Read
public import proofs.«01_k».proof.Proof.Gen.AdamGain.Frame
public import proofs.«01_k».proof.Proof.Gen.AdamGainIdeal.Value
public import proofs.«01_k».proof.Proof.Gen.AdamGainRefIdeal.Run
public import proofs.«01_k».proof.Proof.Gen.AdamGainRefIdeal.Read
public import proofs.«01_k».proof.Proof.Gen.AdamMix.Frame
public import proofs.«01_k».proof.Proof.Gen.AdamMixIdeal.Value
public import proofs.«01_k».proof.Proof.Gen.AdamMixRefIdeal.Run
public import proofs.«01_k».proof.Proof.Gen.AdamMixRefIdeal.Read
public import proofs.«01_k».proof.Proof.Gen.Pre_finite_up
public import proofs.«01_k».proof.Proof.Gen.Pre_finite_down
public import proofs.«01_k».proof.Proof.Result
public import proofs.«01_k».proof.Proof.ProductsAct
public import proofs.«01_k».proof.Proof.ProductsFfn
public import proofs.«01_k».proof.Proof.ProductsGmlp
public import proofs.«01_k».proof.Proof.ProductsAttn
public import proofs.«01_k».proof.Proof.NormClaims
public import proofs.«01_k».proof.Proof.SguClaims
public import proofs.«01_k».proof.Proof.LossClaims
public import proofs.«01_k».proof.Proof.Adam
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Pre_finite.Gen.facts

/-- The two constants named are the numbers their words round. -/
theorem named : Cert.preserves_Kernel_KernelIdeal :=
  ⟨IdealRules.named_const.statement Cert.KernelIdeal.κ "sqrt_half" .f32 0x3F3504F3#32 ((Real.sqrt (1 / 2) : ℝ) : EReal) rfl,
    IdealRules.named_const.statement Cert.KernelIdeal.κ "inv_sqrt_2pi" .f32 0x3ECC422A#32
      (((9465531 / 16777216) * (Real.sqrt (1 / 2)) : ℝ) : EReal) rfl⟩

set_option maxHeartbeats 1600000 in
/-- On finite arguments the call's six results are the reference's. -/
theorem algebraic : Cert.algebraic_KernelIdeal_ReferenceIdeal_pre_finite := by
  pair_intro
  · run_from Cert.KernelIdeal.Value.run_blocks m g
  · have a0 := fun c => (hagree c).1
    have a1 := fun c => (hagree c).2.1
    have a2 := fun c => (hagree c).2.2.1
    have a3 := fun c => (hagree c).2.2.2.1
    have a4 := fun c => (hagree c).2.2.2.2.1
    have a5 := fun c => (hagree c).2.2.2.2.2.1
    have a6 := fun c => (hagree c).2.2.2.2.2.2
    run_from Cert.ReferenceIdeal.Value.run m' g'
    · exact (Cert.ReferenceIdeal.Read.val_main_v120_eq m' c).trans (by rw [a0 c, a1 c, a2 c, a3 c, a4 c, a5 c, a6 c]; exact Cert.Result.stage120 m hpre c)
    · exact (Cert.ReferenceIdeal.Read.val_main_v70_eq m' c).trans (by rw [a0 c, a1 c, a2 c, a3 c, a6 c]; exact Cert.Result.stage70 m hpre c)
    · exact Cert.Result.stage121 m hpre c
    · exact (Cert.ReferenceIdeal.Read.val_main_v122_eq m' c).trans (by rw [a0 c, a1 c, a4 c, a6 c]; exact Cert.Result.stage122 m hpre c)
    · exact Cert.Result.stage123 m hpre c
    · exact (Cert.ReferenceIdeal.Read.val_main_v124_eq m' c).trans (by rw [a0 c, a1 c, a2 c, a3 c, a4 c, a5 c, a6 c]; exact Cert.Result.stage124 m hpre c)

/-- The reference ends with its arguments unchanged; it has no semaphore. -/
theorem quiet : Cert.quiescent_ReferenceIdeal := fun m g _ =>
  (θ_run Cert.ReferenceIdeal.defs _ _).mono
    (fun r h => ⟨fun c => (h c).2.2.2.2.2.2, sem_eq_zero_of_no_sems (sig := Cert.ReferenceIdeal.sig) (by decide) r.2⟩)
    (Cert.ReferenceIdeal.Value.run m g)

theorem claim : Cert.Claim :=
  ⟨Cert.Kernel.Gen.facts, Cert.KernelIdeal.Gen.facts, Cert.ReferenceIdeal.Gen.facts, Cert.FfnUp.Gen.facts, Cert.FfnUpIdeal.Gen.facts,
  Cert.FfnUpRefIdeal.Gen.facts, Cert.FfnDown.Gen.facts, Cert.FfnDownIdeal.Gen.facts, Cert.FfnDownRefIdeal.Gen.facts, Cert.FfnDownDx.Gen.facts,
  Cert.FfnDownDxIdeal.Gen.facts, Cert.FfnDownDxRefIdeal.Gen.facts, Cert.FfnGuDx.Gen.facts, Cert.FfnGuDxIdeal.Gen.facts, Cert.FfnGuDxRefIdeal.Gen.facts,
  Cert.FfnGuDw.Gen.facts, Cert.FfnGuDwIdeal.Gen.facts, Cert.FfnGuDwRefIdeal.Gen.facts, Cert.FfnDownDw.Gen.facts, Cert.FfnDownDwIdeal.Gen.facts,
  Cert.FfnDownDwRefIdeal.Gen.facts, Cert.GmlpIn.Gen.facts, Cert.GmlpInIdeal.Gen.facts, Cert.GmlpInRefIdeal.Gen.facts, Cert.GmlpOut.Gen.facts,
  Cert.GmlpOutIdeal.Gen.facts, Cert.GmlpOutRefIdeal.Gen.facts, Cert.GmlpOutDw.Gen.facts, Cert.GmlpOutDwIdeal.Gen.facts,
  Cert.GmlpOutDwRefIdeal.Gen.facts, Cert.GmlpOutDx.Gen.facts, Cert.GmlpOutDxIdeal.Gen.facts, Cert.GmlpOutDxRefIdeal.Gen.facts, Cert.GmlpInDw.Gen.facts,
  Cert.GmlpInDwIdeal.Gen.facts, Cert.GmlpInDwRefIdeal.Gen.facts, Cert.GmlpInDx.Gen.facts, Cert.GmlpInDxIdeal.Gen.facts,
  Cert.GmlpInDxRefIdeal.Gen.facts, Cert.AttnQkv.Gen.facts, Cert.AttnQkvIdeal.Gen.facts, Cert.AttnQkvRefIdeal.Gen.facts, Cert.AttnO.Gen.facts,
  Cert.AttnOIdeal.Gen.facts, Cert.AttnORefIdeal.Gen.facts, Cert.AttnODw.Gen.facts, Cert.AttnODwIdeal.Gen.facts, Cert.AttnODwRefIdeal.Gen.facts,
  Cert.AttnODx.Gen.facts, Cert.AttnODxIdeal.Gen.facts, Cert.AttnODxRefIdeal.Gen.facts, Cert.AttnQkvDw.Gen.facts, Cert.AttnQkvDwIdeal.Gen.facts,
  Cert.AttnQkvDwRefIdeal.Gen.facts, Cert.AttnQkvDx.Gen.facts, Cert.AttnQkvDxIdeal.Gen.facts, Cert.AttnQkvDxRefIdeal.Gen.facts,
  Cert.RmsFwd.Gen.facts, Cert.RmsFwdIdeal.Gen.facts, Cert.RmsFwdRefIdeal.Gen.facts, Cert.RmsRes.Gen.facts, Cert.RmsResIdeal.Gen.facts,
  Cert.RmsResRefIdeal.Gen.facts, Cert.RmsResNorm.Gen.facts, Cert.RmsResNormIdeal.Gen.facts, Cert.RmsResNormRefIdeal.Gen.facts, Cert.RmsBwd.Gen.facts,
  Cert.RmsBwdIdeal.Gen.facts, Cert.RmsBwdRefIdeal.Gen.facts, Cert.RmsChain.Gen.facts, Cert.RmsChainIdeal.Gen.facts, Cert.RmsChainRefIdeal.Gen.facts,
  Cert.SguFwd.Gen.facts, Cert.SguFwdIdeal.Gen.facts, Cert.SguFwdRefIdeal.Gen.facts,
  Cert.LossGrad.Gen.facts, Cert.LossGradIdeal.Gen.facts, Cert.LossGradRefIdeal.Gen.facts,
  Cert.AdamGain.Gen.facts, Cert.AdamGainIdeal.Gen.facts, Cert.AdamGainRefIdeal.Gen.facts,
  Cert.AdamGmlpBias.Gen.facts, Cert.AdamGmlpBiasIdeal.Gen.facts, Cert.AdamGmlpBiasRefIdeal.Gen.facts,
  Cert.AdamGmlpNorm.Gen.facts, Cert.AdamGmlpNormIdeal.Gen.facts, Cert.AdamGmlpNormRefIdeal.Gen.facts,
  Cert.AdamMix.Gen.facts, Cert.AdamMixIdeal.Gen.facts, Cert.AdamMixRefIdeal.Gen.facts,
  Cert.AdamMixBias.Gen.facts, Cert.AdamMixBiasIdeal.Gen.facts, Cert.AdamMixBiasRefIdeal.Gen.facts,
  Cert.AdamAttnBias.Gen.facts, Cert.AdamAttnBiasIdeal.Gen.facts, Cert.AdamAttnBiasRefIdeal.Gen.facts,
  Cert.AdamSinks.Gen.facts, Cert.AdamSinksIdeal.Gen.facts, Cert.AdamSinksRefIdeal.Gen.facts,
  Cert.Pre_finite.Gen.facts, Cert.Pre_finite_up.Gen.facts, Cert.Pre_finite_down.Gen.facts, fun m ρ _ => Cert.Kernel.Gen.frame m ρ,
  fun m ρ _ => Cert.KernelIdeal.Gen.frame m ρ, fun m ρ _ => Cert.KernelIdeal.Gen.frame m ρ, quiet, fun m g _ => quiet m g trivial,
  fun m ρ _ => Cert.FfnUp.Gen.frame m ρ, fun m ρ _ => Cert.FfnUpIdeal.Gen.frame m ρ, fun m ρ _ => Cert.FfnUpIdeal.Gen.frame m ρ, Cert.Prod.FfnUp.quiet,
  fun m g _ => Cert.Prod.FfnUp.quiet m g trivial, fun m ρ _ => Cert.FfnDown.Gen.frame m ρ, fun m ρ _ => Cert.FfnDownIdeal.Gen.frame m ρ,
  Cert.Prod.FfnDown.quiet, fun m ρ _ => Cert.FfnDownDx.Gen.frame m ρ, fun m ρ _ => Cert.FfnDownDxIdeal.Gen.frame m ρ,
  fun m ρ _ => Cert.FfnDownDxIdeal.Gen.frame m ρ, Cert.Prod.FfnDownDx.quiet, fun m g _ => Cert.Prod.FfnDownDx.quiet m g trivial,
  fun m ρ _ => Cert.FfnGuDx.Gen.frame m ρ, fun m ρ _ => Cert.FfnGuDxIdeal.Gen.frame m ρ, Cert.Prod.FfnGuDx.quiet,
  fun m ρ _ => Cert.FfnGuDw.Gen.frame m ρ, fun m ρ _ => Cert.FfnGuDwIdeal.Gen.frame m ρ, Cert.Prod.FfnGuDw.quiet,
  fun m ρ _ => Cert.FfnDownDw.Gen.frame m ρ, fun m ρ _ => Cert.FfnDownDwIdeal.Gen.frame m ρ, Cert.Prod.FfnDownDw.quiet,
  fun m ρ _ => Cert.GmlpIn.Gen.frame m ρ, fun m ρ _ => Cert.GmlpInIdeal.Gen.frame m ρ, Cert.Prod.GmlpIn.quiet, fun m ρ _ => Cert.GmlpOut.Gen.frame m ρ,
  fun m ρ _ => Cert.GmlpOutIdeal.Gen.frame m ρ, Cert.Prod.GmlpOut.quiet, fun m ρ _ => Cert.GmlpOutDw.Gen.frame m ρ,
  fun m ρ _ => Cert.GmlpOutDwIdeal.Gen.frame m ρ, Cert.Prod.GmlpOutDw.quiet, fun m ρ _ => Cert.GmlpOutDx.Gen.frame m ρ,
  fun m ρ _ => Cert.GmlpOutDxIdeal.Gen.frame m ρ, Cert.Prod.GmlpOutDx.quiet, fun m ρ _ => Cert.GmlpInDw.Gen.frame m ρ,
  fun m ρ _ => Cert.GmlpInDwIdeal.Gen.frame m ρ, Cert.Prod.GmlpInDw.quiet, fun m ρ _ => Cert.GmlpInDx.Gen.frame m ρ,
  fun m ρ _ => Cert.GmlpInDxIdeal.Gen.frame m ρ, Cert.Prod.GmlpInDx.quiet, fun m ρ _ => Cert.AttnQkv.Gen.frame m ρ,
  fun m ρ _ => Cert.AttnQkvIdeal.Gen.frame m ρ, Cert.Prod.AttnQkv.quiet, fun m ρ _ => Cert.AttnO.Gen.frame m ρ,
  fun m ρ _ => Cert.AttnOIdeal.Gen.frame m ρ, Cert.Prod.AttnO.quiet, fun m ρ _ => Cert.AttnODw.Gen.frame m ρ,
  fun m ρ _ => Cert.AttnODwIdeal.Gen.frame m ρ, Cert.Prod.AttnODw.quiet, fun m ρ _ => Cert.AttnODx.Gen.frame m ρ,
  fun m ρ _ => Cert.AttnODxIdeal.Gen.frame m ρ, Cert.Prod.AttnODx.quiet, fun m ρ _ => Cert.AttnQkvDw.Gen.frame m ρ,
  fun m ρ _ => Cert.AttnQkvDwIdeal.Gen.frame m ρ, Cert.Prod.AttnQkvDw.quiet, fun m ρ _ => Cert.AttnQkvDx.Gen.frame m ρ,
  fun m ρ _ => Cert.AttnQkvDxIdeal.Gen.frame m ρ, Cert.Prod.AttnQkvDx.quiet,
  fun m ρ _ => Cert.RmsFwd.Gen.frame m ρ, fun m ρ _ => Cert.RmsFwdIdeal.Gen.frame m ρ, Cert.Norm.RmsFwd.quiet,
  fun m ρ _ => Cert.RmsRes.Gen.frame m ρ, fun m ρ _ => Cert.RmsResIdeal.Gen.frame m ρ, Cert.Norm.RmsRes.quiet,
  fun m ρ _ => Cert.RmsResNorm.Gen.frame m ρ, fun m ρ _ => Cert.RmsResNormIdeal.Gen.frame m ρ, Cert.Norm.RmsResNorm.quiet,
  fun m ρ _ => Cert.RmsBwd.Gen.frame m ρ, fun m ρ _ => Cert.RmsBwdIdeal.Gen.frame m ρ, Cert.Norm.RmsBwd.quiet,
  fun m ρ _ => Cert.RmsChain.Gen.frame m ρ, fun m ρ _ => Cert.RmsChainIdeal.Gen.frame m ρ, Cert.Norm.RmsChain.quiet,
  fun m ρ _ => Cert.SguFwd.Gen.frame m ρ, fun m ρ _ => Cert.SguFwdIdeal.Gen.frame m ρ,
  Cert.Sgu.SguFwd.quiet,
  fun m ρ _ => Cert.LossGrad.Gen.frame m ρ, fun m ρ _ => Cert.LossGradIdeal.Gen.frame m ρ, Cert.Norm.LossGrad.quiet,
  fun m ρ _ => Cert.AdamGain.Gen.frame m ρ, fun m ρ _ => Cert.AdamGainIdeal.Gen.frame m ρ, Cert.Adam.AdamGain.quiet,
  fun m ρ _ => Cert.AdamGmlpBias.Gen.frame m ρ, fun m ρ _ => Cert.AdamGmlpBiasIdeal.Gen.frame m ρ, Cert.Adam.AdamGmlpBias.quiet,
  fun m ρ _ => Cert.AdamGmlpNorm.Gen.frame m ρ, fun m ρ _ => Cert.AdamGmlpNormIdeal.Gen.frame m ρ, Cert.Adam.AdamGmlpNorm.quiet,
  fun m ρ _ => Cert.AdamMix.Gen.frame m ρ, fun m ρ _ => Cert.AdamMixIdeal.Gen.frame m ρ, Cert.Adam.AdamMix.quiet,
  fun m ρ _ => Cert.AdamMixBias.Gen.frame m ρ, fun m ρ _ => Cert.AdamMixBiasIdeal.Gen.frame m ρ, Cert.Adam.AdamMixBias.quiet,
  fun m ρ _ => Cert.AdamAttnBias.Gen.frame m ρ, fun m ρ _ => Cert.AdamAttnBiasIdeal.Gen.frame m ρ, Cert.Adam.AdamAttnBias.quiet,
  fun m ρ _ => Cert.AdamSinks.Gen.frame m ρ, fun m ρ _ => Cert.AdamSinksIdeal.Gen.frame m ρ, Cert.Adam.AdamSinks.quiet,
  named, algebraic, trivial, Cert.Prod.FfnUp.algebraic, trivial,
  Cert.Prod.FfnDown.algebraic, trivial, Cert.Prod.FfnDownDx.algebraic, trivial, Cert.Prod.FfnGuDx.algebraic, trivial, Cert.Prod.FfnGuDw.algebraic,
  trivial, Cert.Prod.FfnDownDw.algebraic, trivial, Cert.Prod.GmlpIn.algebraic, trivial, Cert.Prod.GmlpOut.algebraic, trivial,
  Cert.Prod.GmlpOutDw.algebraic, trivial, Cert.Prod.GmlpOutDx.algebraic, trivial, Cert.Prod.GmlpInDw.algebraic, trivial, Cert.Prod.GmlpInDx.algebraic,
  trivial, Cert.Prod.AttnQkv.algebraic, trivial, Cert.Prod.AttnO.algebraic, trivial, Cert.Prod.AttnODw.algebraic, trivial, Cert.Prod.AttnODx.algebraic,
  trivial, Cert.Prod.AttnQkvDw.algebraic, trivial, Cert.Prod.AttnQkvDx.algebraic,
  trivial, Cert.Norm.RmsFwd.algebraic, trivial, Cert.Norm.RmsRes.algebraic, trivial, Cert.Norm.RmsResNorm.algebraic, trivial,
  Cert.Norm.RmsBwd.algebraic, trivial, Cert.Norm.RmsChain.algebraic, Cert.Sgu.SguFwd.named, Cert.Sgu.SguFwd.algebraic,
  trivial, Cert.Norm.LossGrad.algebraic,
  trivial, Cert.Adam.AdamGain.algebraic,
  trivial, Cert.Adam.AdamGmlpBias.algebraic,
  trivial, Cert.Adam.AdamGmlpNorm.algebraic,
  trivial, Cert.Adam.AdamMix.algebraic,
  trivial, Cert.Adam.AdamMixBias.algebraic,
  trivial, Cert.Adam.AdamAttnBias.algebraic,
  trivial, Cert.Adam.AdamSinks.algebraic⟩

end Cert.Proof

end
